-- ==== Defs.lean ====
def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_finite_swiglu [hPre_finite_swiglu : Cert.Pre_finite_swiglu.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).1 = (fun _ => 1#1)
    ∧ (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).2.1 = (fun _ => 1#1)
    ∧ (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).2.2 = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_finite_swiglu [hPre_finite_swiglu : Cert.Pre_finite_swiglu.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_finite_swiglu.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).1 = (fun _ => 1#1)
    ∧ (Cert.Pre_finite_swiglu.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).2.1 = (fun _ => 1#1)
    ∧ (Cert.Pre_finite_swiglu.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).2.2 = (fun _ => 1#1)

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxIdeal_finite_gate_up_dx [hPre_finite_gate_up_dx : Cert.Pre_finite_gate_up_dx.Facts] (m : (ℓ : Loc Cert.GateUpDxIdeal.nD Cert.GateUpDxIdeal.τ Cert.GateUpDxIdeal.sig) → Buf (Elt Ideal) ℓ) : Prop :=
  ∀ c : Dev Cert.GateUpDxIdeal.nD,
    (Cert.Pre_finite_gate_up_dx.fn (F := Ideal) (m ((c.tc : Thread Cert.GateUpDxIdeal.nD Cert.GateUpDxIdeal.τ).loc Cert.GateUpDxIdeal.main_arg0)) (m ((c.tc : Thread Cert.GateUpDxIdeal.nD Cert.GateUpDxIdeal.τ).loc Cert.GateUpDxIdeal.main_arg1)) (m ((c.tc : Thread Cert.GateUpDxIdeal.nD Cert.GateUpDxIdeal.τ).loc Cert.GateUpDxIdeal.main_arg2)) (m ((c.tc : Thread Cert.GateUpDxIdeal.nD Cert.GateUpDxIdeal.τ).loc Cert.GateUpDxIdeal.main_arg3)) (m ((c.tc : Thread Cert.GateUpDxIdeal.nD Cert.GateUpDxIdeal.τ).loc Cert.GateUpDxIdeal.main_arg4))).1 = (fun _ => 1#1)
    ∧ (Cert.Pre_finite_gate_up_dx.fn (F := Ideal) (m ((c.tc : Thread Cert.GateUpDxIdeal.nD Cert.GateUpDxIdeal.τ).loc Cert.GateUpDxIdeal.main_arg0)) (m ((c.tc : Thread Cert.GateUpDxIdeal.nD Cert.GateUpDxIdeal.τ).loc Cert.GateUpDxIdeal.main_arg1)) (m ((c.tc : Thread Cert.GateUpDxIdeal.nD Cert.GateUpDxIdeal.τ).loc Cert.GateUpDxIdeal.main_arg2)) (m ((c.tc : Thread Cert.GateUpDxIdeal.nD Cert.GateUpDxIdeal.τ).loc Cert.GateUpDxIdeal.main_arg3)) (m ((c.tc : Thread Cert.GateUpDxIdeal.nD Cert.GateUpDxIdeal.τ).loc Cert.GateUpDxIdeal.main_arg4))).2.1 = (fun _ => 1#1)
    ∧ (Cert.Pre_finite_gate_up_dx.fn (F := Ideal) (m ((c.tc : Thread Cert.GateUpDxIdeal.nD Cert.GateUpDxIdeal.τ).loc Cert.GateUpDxIdeal.main_arg0)) (m ((c.tc : Thread Cert.GateUpDxIdeal.nD Cert.GateUpDxIdeal.τ).loc Cert.GateUpDxIdeal.main_arg1)) (m ((c.tc : Thread Cert.GateUpDxIdeal.nD Cert.GateUpDxIdeal.τ).loc Cert.GateUpDxIdeal.main_arg2)) (m ((c.tc : Thread Cert.GateUpDxIdeal.nD Cert.GateUpDxIdeal.τ).loc Cert.GateUpDxIdeal.main_arg3)) (m ((c.tc : Thread Cert.GateUpDxIdeal.nD Cert.GateUpDxIdeal.τ).loc Cert.GateUpDxIdeal.main_arg4))).2.2.1 = (fun _ => 1#1)
    ∧ (Cert.Pre_finite_gate_up_dx.fn (F := Ideal) (m ((c.tc : Thread Cert.GateUpDxIdeal.nD Cert.GateUpDxIdeal.τ).loc Cert.GateUpDxIdeal.main_arg0)) (m ((c.tc : Thread Cert.GateUpDxIdeal.nD Cert.GateUpDxIdeal.τ).loc Cert.GateUpDxIdeal.main_arg1)) (m ((c.tc : Thread Cert.GateUpDxIdeal.nD Cert.GateUpDxIdeal.τ).loc Cert.GateUpDxIdeal.main_arg2)) (m ((c.tc : Thread Cert.GateUpDxIdeal.nD Cert.GateUpDxIdeal.τ).loc Cert.GateUpDxIdeal.main_arg3)) (m ((c.tc : Thread Cert.GateUpDxIdeal.nD Cert.GateUpDxIdeal.τ).loc Cert.GateUpDxIdeal.main_arg4))).2.2.2 = (fun _ => 1#1)

def Pre_GateUpDxRefIdeal (m : (ℓ : Loc Cert.GateUpDxRefIdeal.nD Cert.GateUpDxRefIdeal.τ Cert.GateUpDxRefIdeal.sig) → Buf (Elt Ideal) ℓ) : Prop :=
  True

def Pre_GateUpDxRefIdeal_finite_gate_up_dx [hPre_finite_gate_up_dx : Cert.Pre_finite_gate_up_dx.Facts] (m : (ℓ : Loc Cert.GateUpDxRefIdeal.nD Cert.GateUpDxRefIdeal.τ Cert.GateUpDxRefIdeal.sig) → Buf (Elt Ideal) ℓ) : Prop :=
  ∀ c : Dev Cert.GateUpDxRefIdeal.nD,
    (Cert.Pre_finite_gate_up_dx.fn (F := Ideal) (m ((c.tc : Thread Cert.GateUpDxRefIdeal.nD Cert.GateUpDxRefIdeal.τ).loc Cert.GateUpDxRefIdeal.main_arg0)) (m ((c.tc : Thread Cert.GateUpDxRefIdeal.nD Cert.GateUpDxRefIdeal.τ).loc Cert.GateUpDxRefIdeal.main_arg1)) (m ((c.tc : Thread Cert.GateUpDxRefIdeal.nD Cert.GateUpDxRefIdeal.τ).loc Cert.GateUpDxRefIdeal.main_arg2)) (m ((c.tc : Thread Cert.GateUpDxRefIdeal.nD Cert.GateUpDxRefIdeal.τ).loc Cert.GateUpDxRefIdeal.main_arg3)) (m ((c.tc : Thread Cert.GateUpDxRefIdeal.nD Cert.GateUpDxRefIdeal.τ).loc Cert.GateUpDxRefIdeal.main_arg4))).1 = (fun _ => 1#1)
    ∧ (Cert.Pre_finite_gate_up_dx.fn (F := Ideal) (m ((c.tc : Thread Cert.GateUpDxRefIdeal.nD Cert.GateUpDxRefIdeal.τ).loc Cert.GateUpDxRefIdeal.main_arg0)) (m ((c.tc : Thread Cert.GateUpDxRefIdeal.nD Cert.GateUpDxRefIdeal.τ).loc Cert.GateUpDxRefIdeal.main_arg1)) (m ((c.tc : Thread Cert.GateUpDxRefIdeal.nD Cert.GateUpDxRefIdeal.τ).loc Cert.GateUpDxRefIdeal.main_arg2)) (m ((c.tc : Thread Cert.GateUpDxRefIdeal.nD Cert.GateUpDxRefIdeal.τ).loc Cert.GateUpDxRefIdeal.main_arg3)) (m ((c.tc : Thread Cert.GateUpDxRefIdeal.nD Cert.GateUpDxRefIdeal.τ).loc Cert.GateUpDxRefIdeal.main_arg4))).2.1 = (fun _ => 1#1)
    ∧ (Cert.Pre_finite_gate_up_dx.fn (F := Ideal) (m ((c.tc : Thread Cert.GateUpDxRefIdeal.nD Cert.GateUpDxRefIdeal.τ).loc Cert.GateUpDxRefIdeal.main_arg0)) (m ((c.tc : Thread Cert.GateUpDxRefIdeal.nD Cert.GateUpDxRefIdeal.τ).loc Cert.GateUpDxRefIdeal.main_arg1)) (m ((c.tc : Thread Cert.GateUpDxRefIdeal.nD Cert.GateUpDxRefIdeal.τ).loc Cert.GateUpDxRefIdeal.main_arg2)) (m ((c.tc : Thread Cert.GateUpDxRefIdeal.nD Cert.GateUpDxRefIdeal.τ).loc Cert.GateUpDxRefIdeal.main_arg3)) (m ((c.tc : Thread Cert.GateUpDxRefIdeal.nD Cert.GateUpDxRefIdeal.τ).loc Cert.GateUpDxRefIdeal.main_arg4))).2.2.1 = (fun _ => 1#1)
    ∧ (Cert.Pre_finite_gate_up_dx.fn (F := Ideal) (m ((c.tc : Thread Cert.GateUpDxRefIdeal.nD Cert.GateUpDxRefIdeal.τ).loc Cert.GateUpDxRefIdeal.main_arg0)) (m ((c.tc : Thread Cert.GateUpDxRefIdeal.nD Cert.GateUpDxRefIdeal.τ).loc Cert.GateUpDxRefIdeal.main_arg1)) (m ((c.tc : Thread Cert.GateUpDxRefIdeal.nD Cert.GateUpDxRefIdeal.τ).loc Cert.GateUpDxRefIdeal.main_arg2)) (m ((c.tc : Thread Cert.GateUpDxRefIdeal.nD Cert.GateUpDxRefIdeal.τ).loc Cert.GateUpDxRefIdeal.main_arg3)) (m ((c.tc : Thread Cert.GateUpDxRefIdeal.nD Cert.GateUpDxRefIdeal.τ).loc Cert.GateUpDxRefIdeal.main_arg4))).2.2.2 = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite_in_proj_dx [hPre_finite_in_proj_dx : Cert.Pre_finite_in_proj_dx.Facts] (m : (ℓ : Loc Cert.InDxIdeal.nD Cert.InDxIdeal.τ Cert.InDxIdeal.sig) → Buf (Elt Ideal) ℓ) : Prop :=
  ∀ c : Dev Cert.InDxIdeal.nD,
    (Cert.Pre_finite_in_proj_dx.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).1 = (fun _ => 1#1)
    ∧ (Cert.Pre_finite_in_proj_dx.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.1 = (fun _ => 1#1)
    ∧ (Cert.Pre_finite_in_proj_dx.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.1 = (fun _ => 1#1)
    ∧ (Cert.Pre_finite_in_proj_dx.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.2 = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_finite_in_proj_dx [hPre_finite_in_proj_dx : Cert.Pre_finite_in_proj_dx.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_finite_in_proj_dx.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).1 = (fun _ => 1#1)
    ∧ (Cert.Pre_finite_in_proj_dx.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.1 = (fun _ => 1#1)
    ∧ (Cert.Pre_finite_in_proj_dx.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.1 = (fun _ => 1#1)
    ∧ (Cert.Pre_finite_in_proj_dx.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.2 = (fun _ => 1#1)

def Pre_InDxFirst (m : (ℓ : Loc Cert.InDxFirst.nD Cert.InDxFirst.τ Cert.InDxFirst.sig) → Buf (Elt Bits) ℓ) : Prop :=
  True

def Pre_InDxFirstIdeal (m : (ℓ : Loc Cert.InDxFirstIdeal.nD Cert.InDxFirstIdeal.τ Cert.InDxFirstIdeal.sig) → Buf (Elt Ideal) ℓ) : Prop :=
  True

def Pre_InDxFirstIdeal_finite_in_proj_dx_first [hPre_finite_in_proj_dx_first : Cert.Pre_finite_in_proj_dx_first.Facts] (m : (ℓ : Loc Cert.InDxFirstIdeal.nD Cert.InDxFirstIdeal.τ Cert.InDxFirstIdeal.sig) → Buf (Elt Ideal) ℓ) : Prop :=
  ∀ c : Dev Cert.InDxFirstIdeal.nD,
    (Cert.Pre_finite_in_proj_dx_first.fn (F := Ideal) (m ((c.tc : Thread Cert.InDxFirstIdeal.nD Cert.InDxFirstIdeal.τ).loc Cert.InDxFirstIdeal.main_arg0)) (m ((c.tc : Thread Cert.InDxFirstIdeal.nD Cert.InDxFirstIdeal.τ).loc Cert.InDxFirstIdeal.main_arg1)) (m ((c.tc : Thread Cert.InDxFirstIdeal.nD Cert.InDxFirstIdeal.τ).loc Cert.InDxFirstIdeal.main_arg2)) (m ((c.tc : Thread Cert.InDxFirstIdeal.nD Cert.InDxFirstIdeal.τ).loc Cert.InDxFirstIdeal.main_arg3)) (m ((c.tc : Thread Cert.InDxFirstIdeal.nD Cert.InDxFirstIdeal.τ).loc Cert.InDxFirstIdeal.main_arg4))).1 = (fun _ => 1#1)
    ∧ (Cert.Pre_finite_in_proj_dx_first.fn (F := Ideal) (m ((c.tc : Thread Cert.InDxFirstIdeal.nD Cert.InDxFirstIdeal.τ).loc Cert.InDxFirstIdeal.main_arg0)) (m ((c.tc : Thread Cert.InDxFirstIdeal.nD Cert.InDxFirstIdeal.τ).loc Cert.InDxFirstIdeal.main_arg1)) (m ((c.tc : Thread Cert.InDxFirstIdeal.nD Cert.InDxFirstIdeal.τ).loc Cert.InDxFirstIdeal.main_arg2)) (m ((c.tc : Thread Cert.InDxFirstIdeal.nD Cert.InDxFirstIdeal.τ).loc Cert.InDxFirstIdeal.main_arg3)) (m ((c.tc : Thread Cert.InDxFirstIdeal.nD Cert.InDxFirstIdeal.τ).loc Cert.InDxFirstIdeal.main_arg4))).2.1 = (fun _ => 1#1)
    ∧ (Cert.Pre_finite_in_proj_dx_first.fn (F := Ideal) (m ((c.tc : Thread Cert.InDxFirstIdeal.nD Cert.InDxFirstIdeal.τ).loc Cert.InDxFirstIdeal.main_arg0)) (m ((c.tc : Thread Cert.InDxFirstIdeal.nD Cert.InDxFirstIdeal.τ).loc Cert.InDxFirstIdeal.main_arg1)) (m ((c.tc : Thread Cert.InDxFirstIdeal.nD Cert.InDxFirstIdeal.τ).loc Cert.InDxFirstIdeal.main_arg2)) (m ((c.tc : Thread Cert.InDxFirstIdeal.nD Cert.InDxFirstIdeal.τ).loc Cert.InDxFirstIdeal.main_arg3)) (m ((c.tc : Thread Cert.InDxFirstIdeal.nD Cert.InDxFirstIdeal.τ).loc Cert.InDxFirstIdeal.main_arg4))).2.2.1 = (fun _ => 1#1)
    ∧ (Cert.Pre_finite_in_proj_dx_first.fn (F := Ideal) (m ((c.tc : Thread Cert.InDxFirstIdeal.nD Cert.InDxFirstIdeal.τ).loc Cert.InDxFirstIdeal.main_arg0)) (m ((c.tc : Thread Cert.InDxFirstIdeal.nD Cert.InDxFirstIdeal.τ).loc Cert.InDxFirstIdeal.main_arg1)) (m ((c.tc : Thread Cert.InDxFirstIdeal.nD Cert.InDxFirstIdeal.τ).loc Cert.InDxFirstIdeal.main_arg2)) (m ((c.tc : Thread Cert.InDxFirstIdeal.nD Cert.InDxFirstIdeal.τ).loc Cert.InDxFirstIdeal.main_arg3)) (m ((c.tc : Thread Cert.InDxFirstIdeal.nD Cert.InDxFirstIdeal.τ).loc Cert.InDxFirstIdeal.main_arg4))).2.2.2 = (fun _ => 1#1)

def Pre_InDxFirstRefIdeal (m : (ℓ : Loc Cert.InDxFirstRefIdeal.nD Cert.InDxFirstRefIdeal.τ Cert.InDxFirstRefIdeal.sig) → Buf (Elt Ideal) ℓ) : Prop :=
  True

def Pre_InDxFirstRefIdeal_finite_in_proj_dx_first [hPre_finite_in_proj_dx_first : Cert.Pre_finite_in_proj_dx_first.Facts] (m : (ℓ : Loc Cert.InDxFirstRefIdeal.nD Cert.InDxFirstRefIdeal.τ Cert.InDxFirstRefIdeal.sig) → Buf (Elt Ideal) ℓ) : Prop :=
  ∀ c : Dev Cert.InDxFirstRefIdeal.nD,
    (Cert.Pre_finite_in_proj_dx_first.fn (F := Ideal) (m ((c.tc : Thread Cert.InDxFirstRefIdeal.nD Cert.InDxFirstRefIdeal.τ).loc Cert.InDxFirstRefIdeal.main_arg0)) (m ((c.tc : Thread Cert.InDxFirstRefIdeal.nD Cert.InDxFirstRefIdeal.τ).loc Cert.InDxFirstRefIdeal.main_arg1)) (m ((c.tc : Thread Cert.InDxFirstRefIdeal.nD Cert.InDxFirstRefIdeal.τ).loc Cert.InDxFirstRefIdeal.main_arg2)) (m ((c.tc : Thread Cert.InDxFirstRefIdeal.nD Cert.InDxFirstRefIdeal.τ).loc Cert.InDxFirstRefIdeal.main_arg3)) (m ((c.tc : Thread Cert.InDxFirstRefIdeal.nD Cert.InDxFirstRefIdeal.τ).loc Cert.InDxFirstRefIdeal.main_arg4))).1 = (fun _ => 1#1)
    ∧ (Cert.Pre_finite_in_proj_dx_first.fn (F := Ideal) (m ((c.tc : Thread Cert.InDxFirstRefIdeal.nD Cert.InDxFirstRefIdeal.τ).loc Cert.InDxFirstRefIdeal.main_arg0)) (m ((c.tc : Thread Cert.InDxFirstRefIdeal.nD Cert.InDxFirstRefIdeal.τ).loc Cert.InDxFirstRefIdeal.main_arg1)) (m ((c.tc : Thread Cert.InDxFirstRefIdeal.nD Cert.InDxFirstRefIdeal.τ).loc Cert.InDxFirstRefIdeal.main_arg2)) (m ((c.tc : Thread Cert.InDxFirstRefIdeal.nD Cert.InDxFirstRefIdeal.τ).loc Cert.InDxFirstRefIdeal.main_arg3)) (m ((c.tc : Thread Cert.InDxFirstRefIdeal.nD Cert.InDxFirstRefIdeal.τ).loc Cert.InDxFirstRefIdeal.main_arg4))).2.1 = (fun _ => 1#1)
    ∧ (Cert.Pre_finite_in_proj_dx_first.fn (F := Ideal) (m ((c.tc : Thread Cert.InDxFirstRefIdeal.nD Cert.InDxFirstRefIdeal.τ).loc Cert.InDxFirstRefIdeal.main_arg0)) (m ((c.tc : Thread Cert.InDxFirstRefIdeal.nD Cert.InDxFirstRefIdeal.τ).loc Cert.InDxFirstRefIdeal.main_arg1)) (m ((c.tc : Thread Cert.InDxFirstRefIdeal.nD Cert.InDxFirstRefIdeal.τ).loc Cert.InDxFirstRefIdeal.main_arg2)) (m ((c.tc : Thread Cert.InDxFirstRefIdeal.nD Cert.InDxFirstRefIdeal.τ).loc Cert.InDxFirstRefIdeal.main_arg3)) (m ((c.tc : Thread Cert.InDxFirstRefIdeal.nD Cert.InDxFirstRefIdeal.τ).loc Cert.InDxFirstRefIdeal.main_arg4))).2.2.1 = (fun _ => 1#1)
    ∧ (Cert.Pre_finite_in_proj_dx_first.fn (F := Ideal) (m ((c.tc : Thread Cert.InDxFirstRefIdeal.nD Cert.InDxFirstRefIdeal.τ).loc Cert.InDxFirstRefIdeal.main_arg0)) (m ((c.tc : Thread Cert.InDxFirstRefIdeal.nD Cert.InDxFirstRefIdeal.τ).loc Cert.InDxFirstRefIdeal.main_arg1)) (m ((c.tc : Thread Cert.InDxFirstRefIdeal.nD Cert.InDxFirstRefIdeal.τ).loc Cert.InDxFirstRefIdeal.main_arg2)) (m ((c.tc : Thread Cert.InDxFirstRefIdeal.nD Cert.InDxFirstRefIdeal.τ).loc Cert.InDxFirstRefIdeal.main_arg3)) (m ((c.tc : Thread Cert.InDxFirstRefIdeal.nD Cert.InDxFirstRefIdeal.τ).loc Cert.InDxFirstRefIdeal.main_arg4))).2.2.2 = (fun _ => 1#1)

def Pre_InDxRest (m : (ℓ : Loc Cert.InDxRest.nD Cert.InDxRest.τ Cert.InDxRest.sig) → Buf (Elt Bits) ℓ) : Prop :=
  True

def Pre_InDxRestIdeal (m : (ℓ : Loc Cert.InDxRestIdeal.nD Cert.InDxRestIdeal.τ Cert.InDxRestIdeal.sig) → Buf (Elt Ideal) ℓ) : Prop :=
  True

def Pre_InDxRestIdeal_finite_in_proj_dx_rest [hPre_finite_in_proj_dx_rest : Cert.Pre_finite_in_proj_dx_rest.Facts] (m : (ℓ : Loc Cert.InDxRestIdeal.nD Cert.InDxRestIdeal.τ Cert.InDxRestIdeal.sig) → Buf (Elt Ideal) ℓ) : Prop :=
  ∀ c : Dev Cert.InDxRestIdeal.nD,
    (Cert.Pre_finite_in_proj_dx_rest.fn (F := Ideal) (m ((c.tc : Thread Cert.InDxRestIdeal.nD Cert.InDxRestIdeal.τ).loc Cert.InDxRestIdeal.main_arg0)) (m ((c.tc : Thread Cert.InDxRestIdeal.nD Cert.InDxRestIdeal.τ).loc Cert.InDxRestIdeal.main_arg1)) (m ((c.tc : Thread Cert.InDxRestIdeal.nD Cert.InDxRestIdeal.τ).loc Cert.InDxRestIdeal.main_arg2)) (m ((c.tc : Thread Cert.InDxRestIdeal.nD Cert.InDxRestIdeal.τ).loc Cert.InDxRestIdeal.main_arg3)) (m ((c.tc : Thread Cert.InDxRestIdeal.nD Cert.InDxRestIdeal.τ).loc Cert.InDxRestIdeal.main_arg4)) (m ((c.tc : Thread Cert.InDxRestIdeal.nD Cert.InDxRestIdeal.τ).loc Cert.InDxRestIdeal.main_arg5)) (m ((c.tc : Thread Cert.InDxRestIdeal.nD Cert.InDxRestIdeal.τ).loc Cert.InDxRestIdeal.main_arg6)) (m ((c.tc : Thread Cert.InDxRestIdeal.nD Cert.InDxRestIdeal.τ).loc Cert.InDxRestIdeal.main_arg7))).1 = (fun _ => 1#1)
    ∧ (Cert.Pre_finite_in_proj_dx_rest.fn (F := Ideal) (m ((c.tc : Thread Cert.InDxRestIdeal.nD Cert.InDxRestIdeal.τ).loc Cert.InDxRestIdeal.main_arg0)) (m ((c.tc : Thread Cert.InDxRestIdeal.nD Cert.InDxRestIdeal.τ).loc Cert.InDxRestIdeal.main_arg1)) (m ((c.tc : Thread Cert.InDxRestIdeal.nD Cert.InDxRestIdeal.τ).loc Cert.InDxRestIdeal.main_arg2)) (m ((c.tc : Thread Cert.InDxRestIdeal.nD Cert.InDxRestIdeal.τ).loc Cert.InDxRestIdeal.main_arg3)) (m ((c.tc : Thread Cert.InDxRestIdeal.nD Cert.InDxRestIdeal.τ).loc Cert.InDxRestIdeal.main_arg4)) (m ((c.tc : Thread Cert.InDxRestIdeal.nD Cert.InDxRestIdeal.τ).loc Cert.InDxRestIdeal.main_arg5)) (m ((c.tc : Thread Cert.InDxRestIdeal.nD Cert.InDxRestIdeal.τ).loc Cert.InDxRestIdeal.main_arg6)) (m ((c.tc : Thread Cert.InDxRestIdeal.nD Cert.InDxRestIdeal.τ).loc Cert.InDxRestIdeal.main_arg7))).2.1 = (fun _ => 1#1)
    ∧ (Cert.Pre_finite_in_proj_dx_rest.fn (F := Ideal) (m ((c.tc : Thread Cert.InDxRestIdeal.nD Cert.InDxRestIdeal.τ).loc Cert.InDxRestIdeal.main_arg0)) (m ((c.tc : Thread Cert.InDxRestIdeal.nD Cert.InDxRestIdeal.τ).loc Cert.InDxRestIdeal.main_arg1)) (m ((c.tc : Thread Cert.InDxRestIdeal.nD Cert.InDxRestIdeal.τ).loc Cert.InDxRestIdeal.main_arg2)) (m ((c.tc : Thread Cert.InDxRestIdeal.nD Cert.InDxRestIdeal.τ).loc Cert.InDxRestIdeal.main_arg3)) (m ((c.tc : Thread Cert.InDxRestIdeal.nD Cert.InDxRestIdeal.τ).loc Cert.InDxRestIdeal.main_arg4)) (m ((c.tc : Thread Cert.InDxRestIdeal.nD Cert.InDxRestIdeal.τ).loc Cert.InDxRestIdeal.main_arg5)) (m ((c.tc : Thread Cert.InDxRestIdeal.nD Cert.InDxRestIdeal.τ).loc Cert.InDxRestIdeal.main_arg6)) (m ((c.tc : Thread Cert.InDxRestIdeal.nD Cert.InDxRestIdeal.τ).loc Cert.InDxRestIdeal.main_arg7))).2.2.1 = (fun _ => 1#1)
    ∧ (Cert.Pre_finite_in_proj_dx_rest.fn (F := Ideal) (m ((c.tc : Thread Cert.InDxRestIdeal.nD Cert.InDxRestIdeal.τ).loc Cert.InDxRestIdeal.main_arg0)) (m ((c.tc : Thread Cert.InDxRestIdeal.nD Cert.InDxRestIdeal.τ).loc Cert.InDxRestIdeal.main_arg1)) (m ((c.tc : Thread Cert.InDxRestIdeal.nD Cert.InDxRestIdeal.τ).loc Cert.InDxRestIdeal.main_arg2)) (m ((c.tc : Thread Cert.InDxRestIdeal.nD Cert.InDxRestIdeal.τ).loc Cert.InDxRestIdeal.main_arg3)) (m ((c.tc : Thread Cert.InDxRestIdeal.nD Cert.InDxRestIdeal.τ).loc Cert.InDxRestIdeal.main_arg4)) (m ((c.tc : Thread Cert.InDxRestIdeal.nD Cert.InDxRestIdeal.τ).loc Cert.InDxRestIdeal.main_arg5)) (m ((c.tc : Thread Cert.InDxRestIdeal.nD Cert.InDxRestIdeal.τ).loc Cert.InDxRestIdeal.main_arg6)) (m ((c.tc : Thread Cert.InDxRestIdeal.nD Cert.InDxRestIdeal.τ).loc Cert.InDxRestIdeal.main_arg7))).2.2.2 = (fun _ => 1#1)

def Pre_InDxRestRefIdeal (m : (ℓ : Loc Cert.InDxRestRefIdeal.nD Cert.InDxRestRefIdeal.τ Cert.InDxRestRefIdeal.sig) → Buf (Elt Ideal) ℓ) : Prop :=
  True

def Pre_InDxRestRefIdeal_finite_in_proj_dx_rest [hPre_finite_in_proj_dx_rest : Cert.Pre_finite_in_proj_dx_rest.Facts] (m : (ℓ : Loc Cert.InDxRestRefIdeal.nD Cert.InDxRestRefIdeal.τ Cert.InDxRestRefIdeal.sig) → Buf (Elt Ideal) ℓ) : Prop :=
  ∀ c : Dev Cert.InDxRestRefIdeal.nD,
    (Cert.Pre_finite_in_proj_dx_rest.fn (F := Ideal) (m ((c.tc : Thread Cert.InDxRestRefIdeal.nD Cert.InDxRestRefIdeal.τ).loc Cert.InDxRestRefIdeal.main_arg0)) (m ((c.tc : Thread Cert.InDxRestRefIdeal.nD Cert.InDxRestRefIdeal.τ).loc Cert.InDxRestRefIdeal.main_arg1)) (m ((c.tc : Thread Cert.InDxRestRefIdeal.nD Cert.InDxRestRefIdeal.τ).loc Cert.InDxRestRefIdeal.main_arg2)) (m ((c.tc : Thread Cert.InDxRestRefIdeal.nD Cert.InDxRestRefIdeal.τ).loc Cert.InDxRestRefIdeal.main_arg3)) (m ((c.tc : Thread Cert.InDxRestRefIdeal.nD Cert.InDxRestRefIdeal.τ).loc Cert.InDxRestRefIdeal.main_arg4)) (m ((c.tc : Thread Cert.InDxRestRefIdeal.nD Cert.InDxRestRefIdeal.τ).loc Cert.InDxRestRefIdeal.main_arg5)) (m ((c.tc : Thread Cert.InDxRestRefIdeal.nD Cert.InDxRestRefIdeal.τ).loc Cert.InDxRestRefIdeal.main_arg6)) (m ((c.tc : Thread Cert.InDxRestRefIdeal.nD Cert.InDxRestRefIdeal.τ).loc Cert.InDxRestRefIdeal.main_arg7))).1 = (fun _ => 1#1)
    ∧ (Cert.Pre_finite_in_proj_dx_rest.fn (F := Ideal) (m ((c.tc : Thread Cert.InDxRestRefIdeal.nD Cert.InDxRestRefIdeal.τ).loc Cert.InDxRestRefIdeal.main_arg0)) (m ((c.tc : Thread Cert.InDxRestRefIdeal.nD Cert.InDxRestRefIdeal.τ).loc Cert.InDxRestRefIdeal.main_arg1)) (m ((c.tc : Thread Cert.InDxRestRefIdeal.nD Cert.InDxRestRefIdeal.τ).loc Cert.InDxRestRefIdeal.main_arg2)) (m ((c.tc : Thread Cert.InDxRestRefIdeal.nD Cert.InDxRestRefIdeal.τ).loc Cert.InDxRestRefIdeal.main_arg3)) (m ((c.tc : Thread Cert.InDxRestRefIdeal.nD Cert.InDxRestRefIdeal.τ).loc Cert.InDxRestRefIdeal.main_arg4)) (m ((c.tc : Thread Cert.InDxRestRefIdeal.nD Cert.InDxRestRefIdeal.τ).loc Cert.InDxRestRefIdeal.main_arg5)) (m ((c.tc : Thread Cert.InDxRestRefIdeal.nD Cert.InDxRestRefIdeal.τ).loc Cert.InDxRestRefIdeal.main_arg6)) (m ((c.tc : Thread Cert.InDxRestRefIdeal.nD Cert.InDxRestRefIdeal.τ).loc Cert.InDxRestRefIdeal.main_arg7))).2.1 = (fun _ => 1#1)
    ∧ (Cert.Pre_finite_in_proj_dx_rest.fn (F := Ideal) (m ((c.tc : Thread Cert.InDxRestRefIdeal.nD Cert.InDxRestRefIdeal.τ).loc Cert.InDxRestRefIdeal.main_arg0)) (m ((c.tc : Thread Cert.InDxRestRefIdeal.nD Cert.InDxRestRefIdeal.τ).loc Cert.InDxRestRefIdeal.main_arg1)) (m ((c.tc : Thread Cert.InDxRestRefIdeal.nD Cert.InDxRestRefIdeal.τ).loc Cert.InDxRestRefIdeal.main_arg2)) (m ((c.tc : Thread Cert.InDxRestRefIdeal.nD Cert.InDxRestRefIdeal.τ).loc Cert.InDxRestRefIdeal.main_arg3)) (m ((c.tc : Thread Cert.InDxRestRefIdeal.nD Cert.InDxRestRefIdeal.τ).loc Cert.InDxRestRefIdeal.main_arg4)) (m ((c.tc : Thread Cert.InDxRestRefIdeal.nD Cert.InDxRestRefIdeal.τ).loc Cert.InDxRestRefIdeal.main_arg5)) (m ((c.tc : Thread Cert.InDxRestRefIdeal.nD Cert.InDxRestRefIdeal.τ).loc Cert.InDxRestRefIdeal.main_arg6)) (m ((c.tc : Thread Cert.InDxRestRefIdeal.nD Cert.InDxRestRefIdeal.τ).loc Cert.InDxRestRefIdeal.main_arg7))).2.2.1 = (fun _ => 1#1)
    ∧ (Cert.Pre_finite_in_proj_dx_rest.fn (F := Ideal) (m ((c.tc : Thread Cert.InDxRestRefIdeal.nD Cert.InDxRestRefIdeal.τ).loc Cert.InDxRestRefIdeal.main_arg0)) (m ((c.tc : Thread Cert.InDxRestRefIdeal.nD Cert.InDxRestRefIdeal.τ).loc Cert.InDxRestRefIdeal.main_arg1)) (m ((c.tc : Thread Cert.InDxRestRefIdeal.nD Cert.InDxRestRefIdeal.τ).loc Cert.InDxRestRefIdeal.main_arg2)) (m ((c.tc : Thread Cert.InDxRestRefIdeal.nD Cert.InDxRestRefIdeal.τ).loc Cert.InDxRestRefIdeal.main_arg3)) (m ((c.tc : Thread Cert.InDxRestRefIdeal.nD Cert.InDxRestRefIdeal.τ).loc Cert.InDxRestRefIdeal.main_arg4)) (m ((c.tc : Thread Cert.InDxRestRefIdeal.nD Cert.InDxRestRefIdeal.τ).loc Cert.InDxRestRefIdeal.main_arg5)) (m ((c.tc : Thread Cert.InDxRestRefIdeal.nD Cert.InDxRestRefIdeal.τ).loc Cert.InDxRestRefIdeal.main_arg6)) (m ((c.tc : Thread Cert.InDxRestRefIdeal.nD Cert.InDxRestRefIdeal.τ).loc Cert.InDxRestRefIdeal.main_arg7))).2.2.2 = (fun _ => 1#1)

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwRefIdeal (m : (ℓ : Loc Cert.GateUpDwRefIdeal.nD Cert.GateUpDwRefIdeal.τ Cert.GateUpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_InFwdFirst (m : (ℓ : Loc Cert.InFwdFirst.nD Cert.InFwdFirst.τ Cert.InFwdFirst.sig) → Buf (Elt Bits) ℓ) : Prop :=
  True

def Pre_InFwdFirstIdeal (m : (ℓ : Loc Cert.InFwdFirstIdeal.nD Cert.InFwdFirstIdeal.τ Cert.InFwdFirstIdeal.sig) → Buf (Elt Ideal) ℓ) : Prop :=
  True

def Pre_InFwdFirstRefIdeal (m : (ℓ : Loc Cert.InFwdFirstRefIdeal.nD Cert.InFwdFirstRefIdeal.τ Cert.InFwdFirstRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamPw (m : (ℓ : Loc Cert.AdamPw.nD Cert.AdamPw.τ Cert.AdamPw.sig) → Buf (Elt Bits) ℓ) : Prop :=
  True

def Pre_AdamPwIdeal (m : (ℓ : Loc Cert.AdamPwIdeal.nD Cert.AdamPwIdeal.τ Cert.AdamPwIdeal.sig) → Buf (Elt Ideal) ℓ) : Prop :=
  True

def Pre_AdamPwRefIdeal (m : (ℓ : Loc Cert.AdamPwRefIdeal.nD Cert.AdamPwRefIdeal.τ Cert.AdamPwRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmallA (m : (ℓ : Loc Cert.AdamSmallA.nD Cert.AdamSmallA.τ Cert.AdamSmallA.sig) → Buf (Elt Bits) ℓ) : Prop :=
  True

def Pre_AdamSmallAIdeal (m : (ℓ : Loc Cert.AdamSmallAIdeal.nD Cert.AdamSmallAIdeal.τ Cert.AdamSmallAIdeal.sig) → Buf (Elt Ideal) ℓ) : Prop :=
  True

def Pre_AdamSmallARefIdeal (m : (ℓ : Loc Cert.AdamSmallARefIdeal.nD Cert.AdamSmallARefIdeal.τ Cert.AdamSmallARefIdeal.sig) → Buf (Elt Ideal) ℓ) : Prop :=
  True

def Pre_AdamSmallB (m : (ℓ : Loc Cert.AdamSmallB.nD Cert.AdamSmallB.τ Cert.AdamSmallB.sig) → Buf (Elt Bits) ℓ) : Prop :=
  True

def Pre_AdamSmallBIdeal (m : (ℓ : Loc Cert.AdamSmallBIdeal.nD Cert.AdamSmallBIdeal.τ Cert.AdamSmallBIdeal.sig) → Buf (Elt Ideal) ℓ) : Prop :=
  True

def Pre_AdamSmallBRefIdeal (m : (ℓ : Loc Cert.AdamSmallBRefIdeal.nD Cert.AdamSmallBRefIdeal.τ Cert.AdamSmallBRefIdeal.sig) → Buf (Elt Ideal) ℓ) : Prop :=
  True

def Pre_AdamSmallC (m : (ℓ : Loc Cert.AdamSmallC.nD Cert.AdamSmallC.τ Cert.AdamSmallC.sig) → Buf (Elt Bits) ℓ) : Prop :=
  True

def Pre_AdamSmallCIdeal (m : (ℓ : Loc Cert.AdamSmallCIdeal.nD Cert.AdamSmallCIdeal.τ Cert.AdamSmallCIdeal.sig) → Buf (Elt Ideal) ℓ) : Prop :=
  True

def Pre_AdamSmallCRefIdeal (m : (ℓ : Loc Cert.AdamSmallCRefIdeal.nD Cert.AdamSmallCRefIdeal.τ Cert.AdamSmallCRefIdeal.sig) → Buf (Elt Ideal) ℓ) : Prop :=
  True

def Pre_AdamSmallD (m : (ℓ : Loc Cert.AdamSmallD.nD Cert.AdamSmallD.τ Cert.AdamSmallD.sig) → Buf (Elt Bits) ℓ) : Prop :=
  True

def Pre_AdamSmallDIdeal (m : (ℓ : Loc Cert.AdamSmallDIdeal.nD Cert.AdamSmallDIdeal.τ Cert.AdamSmallDIdeal.sig) → Buf (Elt Ideal) ℓ) : Prop :=
  True

def Pre_AdamSmallDRefIdeal (m : (ℓ : Loc Cert.AdamSmallDRefIdeal.nD Cert.AdamSmallDRefIdeal.τ Cert.AdamSmallDRefIdeal.sig) → Buf (Elt Ideal) ℓ) : Prop :=
  True

def Pre_AdamSmallE (m : (ℓ : Loc Cert.AdamSmallE.nD Cert.AdamSmallE.τ Cert.AdamSmallE.sig) → Buf (Elt Bits) ℓ) : Prop :=
  True

def Pre_AdamSmallEIdeal (m : (ℓ : Loc Cert.AdamSmallEIdeal.nD Cert.AdamSmallEIdeal.τ Cert.AdamSmallEIdeal.sig) → Buf (Elt Ideal) ℓ) : Prop :=
  True

def Pre_AdamSmallERefIdeal (m : (ℓ : Loc Cert.AdamSmallERefIdeal.nD Cert.AdamSmallERefIdeal.τ Cert.AdamSmallERefIdeal.sig) → Buf (Elt Ideal) ℓ) : Prop :=
  True

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdRefIdeal (m : (ℓ : Loc Cert.MixerFwdRefIdeal.nD Cert.MixerFwdRefIdeal.τ Cert.MixerFwdRefIdeal.sig) → Buf (Elt Ideal) ℓ) : Prop :=
  True

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdIdeal_pre_finite_swiglu [hSwigluBwdIdeal : Cert.SwigluBwdIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_finite_swiglu m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_SwigluBwdRefIdeal_pre_finite_swiglu [hSwigluBwdRefIdeal : Cert.SwigluBwdRefIdeal.Facts] [hPre_finite_swiglu : Cert.Pre_finite_swiglu.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_finite_swiglu m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1)
      ∧ r.2.mem ((c.tc : Thread Cert.GateUpDx.nD Cert.GateUpDx.τ).loc Cert.GateUpDx.main_arg2) = m ((c.tc : Thread Cert.GateUpDx.nD Cert.GateUpDx.τ).loc Cert.GateUpDx.main_arg2)
      ∧ r.2.mem ((c.tc : Thread Cert.GateUpDx.nD Cert.GateUpDx.τ).loc Cert.GateUpDx.main_arg3) = m ((c.tc : Thread Cert.GateUpDx.nD Cert.GateUpDx.τ).loc Cert.GateUpDx.main_arg3)
      ∧ r.2.mem ((c.tc : Thread Cert.GateUpDx.nD Cert.GateUpDx.τ).loc Cert.GateUpDx.main_arg4) = m ((c.tc : Thread Cert.GateUpDx.nD Cert.GateUpDx.τ).loc Cert.GateUpDx.main_arg4))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
      ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
      ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3)
      ∧ r.2.mem ((c.tc : Thread Cert.GateUpDxIdeal.nD Cert.GateUpDxIdeal.τ).loc Cert.GateUpDxIdeal.main_arg4) = m ((c.tc : Thread Cert.GateUpDxIdeal.nD Cert.GateUpDxIdeal.τ).loc Cert.GateUpDxIdeal.main_arg4))
      ∧ r.2.sem = fun _ => 0)

def quiescent_GateUpDxIdeal_pre_finite_gate_up_dx [hGateUpDxIdeal : Cert.GateUpDxIdeal.Facts] [hPre_finite_gate_up_dx : Cert.Pre_finite_gate_up_dx.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal_finite_gate_up_dx m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
      ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
      ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3)
      ∧ r.2.mem ((c.tc : Thread Cert.GateUpDxIdeal.nD Cert.GateUpDxIdeal.τ).loc Cert.GateUpDxIdeal.main_arg4) = m ((c.tc : Thread Cert.GateUpDxIdeal.nD Cert.GateUpDxIdeal.τ).loc Cert.GateUpDxIdeal.main_arg4))
      ∧ r.2.sem = fun _ => 0)

def quiescent_GateUpDxRefIdeal [hGateUpDxRefIdeal : Cert.GateUpDxRefIdeal.Facts] : Prop :=
  ∀ (m : (ℓ : Loc Cert.GateUpDxRefIdeal.nD Cert.GateUpDxRefIdeal.τ Cert.GateUpDxRefIdeal.sig) → Buf (Elt Ideal) ℓ) (g : Dev Cert.GateUpDxRefIdeal.nD → PrngReg), Pre_GateUpDxRefIdeal m →
    θ_run (Cert.GateUpDxRefIdeal.defs (F := Ideal)) (onTc (τ := Cert.GateUpDxRefIdeal.τ) (Cert.GateUpDxRefIdeal.main (F := Ideal))) ⟨m, fun _ => 0, g⟩ (fun r => (∀ c : Dev Cert.GateUpDxRefIdeal.nD,
      r.2.mem ((c.tc : Thread Cert.GateUpDxRefIdeal.nD Cert.GateUpDxRefIdeal.τ).loc Cert.GateUpDxRefIdeal.main_arg0) = m ((c.tc : Thread Cert.GateUpDxRefIdeal.nD Cert.GateUpDxRefIdeal.τ).loc Cert.GateUpDxRefIdeal.main_arg0)
      ∧ r.2.mem ((c.tc : Thread Cert.GateUpDxRefIdeal.nD Cert.GateUpDxRefIdeal.τ).loc Cert.GateUpDxRefIdeal.main_arg1) = m ((c.tc : Thread Cert.GateUpDxRefIdeal.nD Cert.GateUpDxRefIdeal.τ).loc Cert.GateUpDxRefIdeal.main_arg1)
      ∧ r.2.mem ((c.tc : Thread Cert.GateUpDxRefIdeal.nD Cert.GateUpDxRefIdeal.τ).loc Cert.GateUpDxRefIdeal.main_arg2) = m ((c.tc : Thread Cert.GateUpDxRefIdeal.nD Cert.GateUpDxRefIdeal.τ).loc Cert.GateUpDxRefIdeal.main_arg2)
      ∧ r.2.mem ((c.tc : Thread Cert.GateUpDxRefIdeal.nD Cert.GateUpDxRefIdeal.τ).loc Cert.GateUpDxRefIdeal.main_arg3) = m ((c.tc : Thread Cert.GateUpDxRefIdeal.nD Cert.GateUpDxRefIdeal.τ).loc Cert.GateUpDxRefIdeal.main_arg3)
      ∧ r.2.mem ((c.tc : Thread Cert.GateUpDxRefIdeal.nD Cert.GateUpDxRefIdeal.τ).loc Cert.GateUpDxRefIdeal.main_arg4) = m ((c.tc : Thread Cert.GateUpDxRefIdeal.nD Cert.GateUpDxRefIdeal.τ).loc Cert.GateUpDxRefIdeal.main_arg4))
      ∧ r.2.sem = fun _ => 0)

def quiescent_GateUpDxRefIdeal_pre_finite_gate_up_dx [hGateUpDxRefIdeal : Cert.GateUpDxRefIdeal.Facts] [hPre_finite_gate_up_dx : Cert.Pre_finite_gate_up_dx.Facts] : Prop :=
  ∀ (m : (ℓ : Loc Cert.GateUpDxRefIdeal.nD Cert.GateUpDxRefIdeal.τ Cert.GateUpDxRefIdeal.sig) → Buf (Elt Ideal) ℓ) (g : Dev Cert.GateUpDxRefIdeal.nD → PrngReg), Pre_GateUpDxRefIdeal_finite_gate_up_dx m →
    θ_run (Cert.GateUpDxRefIdeal.defs (F := Ideal)) (onTc (τ := Cert.GateUpDxRefIdeal.τ) (Cert.GateUpDxRefIdeal.main (F := Ideal))) ⟨m, fun _ => 0, g⟩ (fun r => (∀ c : Dev Cert.GateUpDxRefIdeal.nD,
      r.2.mem ((c.tc : Thread Cert.GateUpDxRefIdeal.nD Cert.GateUpDxRefIdeal.τ).loc Cert.GateUpDxRefIdeal.main_arg0) = m ((c.tc : Thread Cert.GateUpDxRefIdeal.nD Cert.GateUpDxRefIdeal.τ).loc Cert.GateUpDxRefIdeal.main_arg0)
      ∧ r.2.mem ((c.tc : Thread Cert.GateUpDxRefIdeal.nD Cert.GateUpDxRefIdeal.τ).loc Cert.GateUpDxRefIdeal.main_arg1) = m ((c.tc : Thread Cert.GateUpDxRefIdeal.nD Cert.GateUpDxRefIdeal.τ).loc Cert.GateUpDxRefIdeal.main_arg1)
      ∧ r.2.mem ((c.tc : Thread Cert.GateUpDxRefIdeal.nD Cert.GateUpDxRefIdeal.τ).loc Cert.GateUpDxRefIdeal.main_arg2) = m ((c.tc : Thread Cert.GateUpDxRefIdeal.nD Cert.GateUpDxRefIdeal.τ).loc Cert.GateUpDxRefIdeal.main_arg2)
      ∧ r.2.mem ((c.tc : Thread Cert.GateUpDxRefIdeal.nD Cert.GateUpDxRefIdeal.τ).loc Cert.GateUpDxRefIdeal.main_arg3) = m ((c.tc : Thread Cert.GateUpDxRefIdeal.nD Cert.GateUpDxRefIdeal.τ).loc Cert.GateUpDxRefIdeal.main_arg3)
      ∧ r.2.mem ((c.tc : Thread Cert.GateUpDxRefIdeal.nD Cert.GateUpDxRefIdeal.τ).loc Cert.GateUpDxRefIdeal.main_arg4) = m ((c.tc : Thread Cert.GateUpDxRefIdeal.nD Cert.GateUpDxRefIdeal.τ).loc Cert.GateUpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxIdeal_pre_finite_in_proj_dx [hInDxIdeal : Cert.InDxIdeal.Facts] [hPre_finite_in_proj_dx : Cert.Pre_finite_in_proj_dx.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite_in_proj_dx m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxRefIdeal_pre_finite_in_proj_dx [hInDxRefIdeal : Cert.InDxRefIdeal.Facts] [hPre_finite_in_proj_dx : Cert.Pre_finite_in_proj_dx.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_finite_in_proj_dx m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxFirst [hInDxFirst : Cert.InDxFirst.Facts] : Prop :=
  ∀ (m : (ℓ : Loc Cert.InDxFirst.nD Cert.InDxFirst.τ Cert.InDxFirst.sig) → Buf (Elt Bits) ℓ) (g : Dev Cert.InDxFirst.nD → PrngReg), Pre_InDxFirst m →
    θ_run (Cert.InDxFirst.defs (F := Bits)) (onTc (τ := Cert.InDxFirst.τ) (Cert.InDxFirst.main (F := Bits))) ⟨m, fun _ => 0, g⟩ (fun r => (∀ c : Dev Cert.InDxFirst.nD,
      r.2.mem ((c.tc : Thread Cert.InDxFirst.nD Cert.InDxFirst.τ).loc Cert.InDxFirst.main_arg0) = m ((c.tc : Thread Cert.InDxFirst.nD Cert.InDxFirst.τ).loc Cert.InDxFirst.main_arg0)
      ∧ r.2.mem ((c.tc : Thread Cert.InDxFirst.nD Cert.InDxFirst.τ).loc Cert.InDxFirst.main_arg1) = m ((c.tc : Thread Cert.InDxFirst.nD Cert.InDxFirst.τ).loc Cert.InDxFirst.main_arg1)
      ∧ r.2.mem ((c.tc : Thread Cert.InDxFirst.nD Cert.InDxFirst.τ).loc Cert.InDxFirst.main_arg2) = m ((c.tc : Thread Cert.InDxFirst.nD Cert.InDxFirst.τ).loc Cert.InDxFirst.main_arg2)
      ∧ r.2.mem ((c.tc : Thread Cert.InDxFirst.nD Cert.InDxFirst.τ).loc Cert.InDxFirst.main_arg3) = m ((c.tc : Thread Cert.InDxFirst.nD Cert.InDxFirst.τ).loc Cert.InDxFirst.main_arg3)
      ∧ r.2.mem ((c.tc : Thread Cert.InDxFirst.nD Cert.InDxFirst.τ).loc Cert.InDxFirst.main_arg4) = m ((c.tc : Thread Cert.InDxFirst.nD Cert.InDxFirst.τ).loc Cert.InDxFirst.main_arg4))
      ∧ r.2.sem = fun _ => 0)

def quiescent_InDxFirstIdeal [hInDxFirstIdeal : Cert.InDxFirstIdeal.Facts] : Prop :=
  ∀ (m : (ℓ : Loc Cert.InDxFirstIdeal.nD Cert.InDxFirstIdeal.τ Cert.InDxFirstIdeal.sig) → Buf (Elt Ideal) ℓ) (g : Dev Cert.InDxFirstIdeal.nD → PrngReg), Pre_InDxFirstIdeal m →
    θ_run (Cert.InDxFirstIdeal.defs (F := Ideal)) (onTc (τ := Cert.InDxFirstIdeal.τ) (Cert.InDxFirstIdeal.main (F := Ideal))) ⟨m, fun _ => 0, g⟩ (fun r => (∀ c : Dev Cert.InDxFirstIdeal.nD,
      r.2.mem ((c.tc : Thread Cert.InDxFirstIdeal.nD Cert.InDxFirstIdeal.τ).loc Cert.InDxFirstIdeal.main_arg0) = m ((c.tc : Thread Cert.InDxFirstIdeal.nD Cert.InDxFirstIdeal.τ).loc Cert.InDxFirstIdeal.main_arg0)
      ∧ r.2.mem ((c.tc : Thread Cert.InDxFirstIdeal.nD Cert.InDxFirstIdeal.τ).loc Cert.InDxFirstIdeal.main_arg1) = m ((c.tc : Thread Cert.InDxFirstIdeal.nD Cert.InDxFirstIdeal.τ).loc Cert.InDxFirstIdeal.main_arg1)
      ∧ r.2.mem ((c.tc : Thread Cert.InDxFirstIdeal.nD Cert.InDxFirstIdeal.τ).loc Cert.InDxFirstIdeal.main_arg2) = m ((c.tc : Thread Cert.InDxFirstIdeal.nD Cert.InDxFirstIdeal.τ).loc Cert.InDxFirstIdeal.main_arg2)
      ∧ r.2.mem ((c.tc : Thread Cert.InDxFirstIdeal.nD Cert.InDxFirstIdeal.τ).loc Cert.InDxFirstIdeal.main_arg3) = m ((c.tc : Thread Cert.InDxFirstIdeal.nD Cert.InDxFirstIdeal.τ).loc Cert.InDxFirstIdeal.main_arg3)
      ∧ r.2.mem ((c.tc : Thread Cert.InDxFirstIdeal.nD Cert.InDxFirstIdeal.τ).loc Cert.InDxFirstIdeal.main_arg4) = m ((c.tc : Thread Cert.InDxFirstIdeal.nD Cert.InDxFirstIdeal.τ).loc Cert.InDxFirstIdeal.main_arg4))
      ∧ r.2.sem = fun _ => 0)

def quiescent_InDxFirstIdeal_pre_finite_in_proj_dx_first [hInDxFirstIdeal : Cert.InDxFirstIdeal.Facts] [hPre_finite_in_proj_dx_first : Cert.Pre_finite_in_proj_dx_first.Facts] : Prop :=
  ∀ (m : (ℓ : Loc Cert.InDxFirstIdeal.nD Cert.InDxFirstIdeal.τ Cert.InDxFirstIdeal.sig) → Buf (Elt Ideal) ℓ) (g : Dev Cert.InDxFirstIdeal.nD → PrngReg), Pre_InDxFirstIdeal_finite_in_proj_dx_first m →
    θ_run (Cert.InDxFirstIdeal.defs (F := Ideal)) (onTc (τ := Cert.InDxFirstIdeal.τ) (Cert.InDxFirstIdeal.main (F := Ideal))) ⟨m, fun _ => 0, g⟩ (fun r => (∀ c : Dev Cert.InDxFirstIdeal.nD,
      r.2.mem ((c.tc : Thread Cert.InDxFirstIdeal.nD Cert.InDxFirstIdeal.τ).loc Cert.InDxFirstIdeal.main_arg0) = m ((c.tc : Thread Cert.InDxFirstIdeal.nD Cert.InDxFirstIdeal.τ).loc Cert.InDxFirstIdeal.main_arg0)
      ∧ r.2.mem ((c.tc : Thread Cert.InDxFirstIdeal.nD Cert.InDxFirstIdeal.τ).loc Cert.InDxFirstIdeal.main_arg1) = m ((c.tc : Thread Cert.InDxFirstIdeal.nD Cert.InDxFirstIdeal.τ).loc Cert.InDxFirstIdeal.main_arg1)
      ∧ r.2.mem ((c.tc : Thread Cert.InDxFirstIdeal.nD Cert.InDxFirstIdeal.τ).loc Cert.InDxFirstIdeal.main_arg2) = m ((c.tc : Thread Cert.InDxFirstIdeal.nD Cert.InDxFirstIdeal.τ).loc Cert.InDxFirstIdeal.main_arg2)
      ∧ r.2.mem ((c.tc : Thread Cert.InDxFirstIdeal.nD Cert.InDxFirstIdeal.τ).loc Cert.InDxFirstIdeal.main_arg3) = m ((c.tc : Thread Cert.InDxFirstIdeal.nD Cert.InDxFirstIdeal.τ).loc Cert.InDxFirstIdeal.main_arg3)
      ∧ r.2.mem ((c.tc : Thread Cert.InDxFirstIdeal.nD Cert.InDxFirstIdeal.τ).loc Cert.InDxFirstIdeal.main_arg4) = m ((c.tc : Thread Cert.InDxFirstIdeal.nD Cert.InDxFirstIdeal.τ).loc Cert.InDxFirstIdeal.main_arg4))
      ∧ r.2.sem = fun _ => 0)

def quiescent_InDxFirstRefIdeal [hInDxFirstRefIdeal : Cert.InDxFirstRefIdeal.Facts] : Prop :=
  ∀ (m : (ℓ : Loc Cert.InDxFirstRefIdeal.nD Cert.InDxFirstRefIdeal.τ Cert.InDxFirstRefIdeal.sig) → Buf (Elt Ideal) ℓ) (g : Dev Cert.InDxFirstRefIdeal.nD → PrngReg), Pre_InDxFirstRefIdeal m →
    θ_run (Cert.InDxFirstRefIdeal.defs (F := Ideal)) (onTc (τ := Cert.InDxFirstRefIdeal.τ) (Cert.InDxFirstRefIdeal.main (F := Ideal))) ⟨m, fun _ => 0, g⟩ (fun r => (∀ c : Dev Cert.InDxFirstRefIdeal.nD,
      r.2.mem ((c.tc : Thread Cert.InDxFirstRefIdeal.nD Cert.InDxFirstRefIdeal.τ).loc Cert.InDxFirstRefIdeal.main_arg0) = m ((c.tc : Thread Cert.InDxFirstRefIdeal.nD Cert.InDxFirstRefIdeal.τ).loc Cert.InDxFirstRefIdeal.main_arg0)
      ∧ r.2.mem ((c.tc : Thread Cert.InDxFirstRefIdeal.nD Cert.InDxFirstRefIdeal.τ).loc Cert.InDxFirstRefIdeal.main_arg1) = m ((c.tc : Thread Cert.InDxFirstRefIdeal.nD Cert.InDxFirstRefIdeal.τ).loc Cert.InDxFirstRefIdeal.main_arg1)
      ∧ r.2.mem ((c.tc : Thread Cert.InDxFirstRefIdeal.nD Cert.InDxFirstRefIdeal.τ).loc Cert.InDxFirstRefIdeal.main_arg2) = m ((c.tc : Thread Cert.InDxFirstRefIdeal.nD Cert.InDxFirstRefIdeal.τ).loc Cert.InDxFirstRefIdeal.main_arg2)
      ∧ r.2.mem ((c.tc : Thread Cert.InDxFirstRefIdeal.nD Cert.InDxFirstRefIdeal.τ).loc Cert.InDxFirstRefIdeal.main_arg3) = m ((c.tc : Thread Cert.InDxFirstRefIdeal.nD Cert.InDxFirstRefIdeal.τ).loc Cert.InDxFirstRefIdeal.main_arg3)
      ∧ r.2.mem ((c.tc : Thread Cert.InDxFirstRefIdeal.nD Cert.InDxFirstRefIdeal.τ).loc Cert.InDxFirstRefIdeal.main_arg4) = m ((c.tc : Thread Cert.InDxFirstRefIdeal.nD Cert.InDxFirstRefIdeal.τ).loc Cert.InDxFirstRefIdeal.main_arg4))
      ∧ r.2.sem = fun _ => 0)

def quiescent_InDxFirstRefIdeal_pre_finite_in_proj_dx_first [hInDxFirstRefIdeal : Cert.InDxFirstRefIdeal.Facts] [hPre_finite_in_proj_dx_first : Cert.Pre_finite_in_proj_dx_first.Facts] : Prop :=
  ∀ (m : (ℓ : Loc Cert.InDxFirstRefIdeal.nD Cert.InDxFirstRefIdeal.τ Cert.InDxFirstRefIdeal.sig) → Buf (Elt Ideal) ℓ) (g : Dev Cert.InDxFirstRefIdeal.nD → PrngReg), Pre_InDxFirstRefIdeal_finite_in_proj_dx_first m →
    θ_run (Cert.InDxFirstRefIdeal.defs (F := Ideal)) (onTc (τ := Cert.InDxFirstRefIdeal.τ) (Cert.InDxFirstRefIdeal.main (F := Ideal))) ⟨m, fun _ => 0, g⟩ (fun r => (∀ c : Dev Cert.InDxFirstRefIdeal.nD,
      r.2.mem ((c.tc : Thread Cert.InDxFirstRefIdeal.nD Cert.InDxFirstRefIdeal.τ).loc Cert.InDxFirstRefIdeal.main_arg0) = m ((c.tc : Thread Cert.InDxFirstRefIdeal.nD Cert.InDxFirstRefIdeal.τ).loc Cert.InDxFirstRefIdeal.main_arg0)
      ∧ r.2.mem ((c.tc : Thread Cert.InDxFirstRefIdeal.nD Cert.InDxFirstRefIdeal.τ).loc Cert.InDxFirstRefIdeal.main_arg1) = m ((c.tc : Thread Cert.InDxFirstRefIdeal.nD Cert.InDxFirstRefIdeal.τ).loc Cert.InDxFirstRefIdeal.main_arg1)
      ∧ r.2.mem ((c.tc : Thread Cert.InDxFirstRefIdeal.nD Cert.InDxFirstRefIdeal.τ).loc Cert.InDxFirstRefIdeal.main_arg2) = m ((c.tc : Thread Cert.InDxFirstRefIdeal.nD Cert.InDxFirstRefIdeal.τ).loc Cert.InDxFirstRefIdeal.main_arg2)
      ∧ r.2.mem ((c.tc : Thread Cert.InDxFirstRefIdeal.nD Cert.InDxFirstRefIdeal.τ).loc Cert.InDxFirstRefIdeal.main_arg3) = m ((c.tc : Thread Cert.InDxFirstRefIdeal.nD Cert.InDxFirstRefIdeal.τ).loc Cert.InDxFirstRefIdeal.main_arg3)
      ∧ r.2.mem ((c.tc : Thread Cert.InDxFirstRefIdeal.nD Cert.InDxFirstRefIdeal.τ).loc Cert.InDxFirstRefIdeal.main_arg4) = m ((c.tc : Thread Cert.InDxFirstRefIdeal.nD Cert.InDxFirstRefIdeal.τ).loc Cert.InDxFirstRefIdeal.main_arg4))
      ∧ r.2.sem = fun _ => 0)

def quiescent_InDxRest [hInDxRest : Cert.InDxRest.Facts] : Prop :=
  ∀ (m : (ℓ : Loc Cert.InDxRest.nD Cert.InDxRest.τ Cert.InDxRest.sig) → Buf (Elt Bits) ℓ) (g : Dev Cert.InDxRest.nD → PrngReg), Pre_InDxRest m →
    θ_run (Cert.InDxRest.defs (F := Bits)) (onTc (τ := Cert.InDxRest.τ) (Cert.InDxRest.main (F := Bits))) ⟨m, fun _ => 0, g⟩ (fun r => (∀ c : Dev Cert.InDxRest.nD,
      r.2.mem ((c.tc : Thread Cert.InDxRest.nD Cert.InDxRest.τ).loc Cert.InDxRest.main_arg0) = m ((c.tc : Thread Cert.InDxRest.nD Cert.InDxRest.τ).loc Cert.InDxRest.main_arg0)
      ∧ r.2.mem ((c.tc : Thread Cert.InDxRest.nD Cert.InDxRest.τ).loc Cert.InDxRest.main_arg1) = m ((c.tc : Thread Cert.InDxRest.nD Cert.InDxRest.τ).loc Cert.InDxRest.main_arg1)
      ∧ r.2.mem ((c.tc : Thread Cert.InDxRest.nD Cert.InDxRest.τ).loc Cert.InDxRest.main_arg2) = m ((c.tc : Thread Cert.InDxRest.nD Cert.InDxRest.τ).loc Cert.InDxRest.main_arg2)
      ∧ r.2.mem ((c.tc : Thread Cert.InDxRest.nD Cert.InDxRest.τ).loc Cert.InDxRest.main_arg3) = m ((c.tc : Thread Cert.InDxRest.nD Cert.InDxRest.τ).loc Cert.InDxRest.main_arg3)
      ∧ r.2.mem ((c.tc : Thread Cert.InDxRest.nD Cert.InDxRest.τ).loc Cert.InDxRest.main_arg4) = m ((c.tc : Thread Cert.InDxRest.nD Cert.InDxRest.τ).loc Cert.InDxRest.main_arg4)
      ∧ r.2.mem ((c.tc : Thread Cert.InDxRest.nD Cert.InDxRest.τ).loc Cert.InDxRest.main_arg5) = m ((c.tc : Thread Cert.InDxRest.nD Cert.InDxRest.τ).loc Cert.InDxRest.main_arg5)
      ∧ r.2.mem ((c.tc : Thread Cert.InDxRest.nD Cert.InDxRest.τ).loc Cert.InDxRest.main_arg6) = m ((c.tc : Thread Cert.InDxRest.nD Cert.InDxRest.τ).loc Cert.InDxRest.main_arg6)
      ∧ r.2.mem ((c.tc : Thread Cert.InDxRest.nD Cert.InDxRest.τ).loc Cert.InDxRest.main_arg7) = m ((c.tc : Thread Cert.InDxRest.nD Cert.InDxRest.τ).loc Cert.InDxRest.main_arg7))
      ∧ r.2.sem = fun _ => 0)

def quiescent_InDxRestIdeal [hInDxRestIdeal : Cert.InDxRestIdeal.Facts] : Prop :=
  ∀ (m : (ℓ : Loc Cert.InDxRestIdeal.nD Cert.InDxRestIdeal.τ Cert.InDxRestIdeal.sig) → Buf (Elt Ideal) ℓ) (g : Dev Cert.InDxRestIdeal.nD → PrngReg), Pre_InDxRestIdeal m →
    θ_run (Cert.InDxRestIdeal.defs (F := Ideal)) (onTc (τ := Cert.InDxRestIdeal.τ) (Cert.InDxRestIdeal.main (F := Ideal))) ⟨m, fun _ => 0, g⟩ (fun r => (∀ c : Dev Cert.InDxRestIdeal.nD,
      r.2.mem ((c.tc : Thread Cert.InDxRestIdeal.nD Cert.InDxRestIdeal.τ).loc Cert.InDxRestIdeal.main_arg0) = m ((c.tc : Thread Cert.InDxRestIdeal.nD Cert.InDxRestIdeal.τ).loc Cert.InDxRestIdeal.main_arg0)
      ∧ r.2.mem ((c.tc : Thread Cert.InDxRestIdeal.nD Cert.InDxRestIdeal.τ).loc Cert.InDxRestIdeal.main_arg1) = m ((c.tc : Thread Cert.InDxRestIdeal.nD Cert.InDxRestIdeal.τ).loc Cert.InDxRestIdeal.main_arg1)
      ∧ r.2.mem ((c.tc : Thread Cert.InDxRestIdeal.nD Cert.InDxRestIdeal.τ).loc Cert.InDxRestIdeal.main_arg2) = m ((c.tc : Thread Cert.InDxRestIdeal.nD Cert.InDxRestIdeal.τ).loc Cert.InDxRestIdeal.main_arg2)
      ∧ r.2.mem ((c.tc : Thread Cert.InDxRestIdeal.nD Cert.InDxRestIdeal.τ).loc Cert.InDxRestIdeal.main_arg3) = m ((c.tc : Thread Cert.InDxRestIdeal.nD Cert.InDxRestIdeal.τ).loc Cert.InDxRestIdeal.main_arg3)
      ∧ r.2.mem ((c.tc : Thread Cert.InDxRestIdeal.nD Cert.InDxRestIdeal.τ).loc Cert.InDxRestIdeal.main_arg4) = m ((c.tc : Thread Cert.InDxRestIdeal.nD Cert.InDxRestIdeal.τ).loc Cert.InDxRestIdeal.main_arg4)
      ∧ r.2.mem ((c.tc : Thread Cert.InDxRestIdeal.nD Cert.InDxRestIdeal.τ).loc Cert.InDxRestIdeal.main_arg5) = m ((c.tc : Thread Cert.InDxRestIdeal.nD Cert.InDxRestIdeal.τ).loc Cert.InDxRestIdeal.main_arg5)
      ∧ r.2.mem ((c.tc : Thread Cert.InDxRestIdeal.nD Cert.InDxRestIdeal.τ).loc Cert.InDxRestIdeal.main_arg6) = m ((c.tc : Thread Cert.InDxRestIdeal.nD Cert.InDxRestIdeal.τ).loc Cert.InDxRestIdeal.main_arg6)
      ∧ r.2.mem ((c.tc : Thread Cert.InDxRestIdeal.nD Cert.InDxRestIdeal.τ).loc Cert.InDxRestIdeal.main_arg7) = m ((c.tc : Thread Cert.InDxRestIdeal.nD Cert.InDxRestIdeal.τ).loc Cert.InDxRestIdeal.main_arg7))
      ∧ r.2.sem = fun _ => 0)

def quiescent_InDxRestIdeal_pre_finite_in_proj_dx_rest [hInDxRestIdeal : Cert.InDxRestIdeal.Facts] [hPre_finite_in_proj_dx_rest : Cert.Pre_finite_in_proj_dx_rest.Facts] : Prop :=
  ∀ (m : (ℓ : Loc Cert.InDxRestIdeal.nD Cert.InDxRestIdeal.τ Cert.InDxRestIdeal.sig) → Buf (Elt Ideal) ℓ) (g : Dev Cert.InDxRestIdeal.nD → PrngReg), Pre_InDxRestIdeal_finite_in_proj_dx_rest m →
    θ_run (Cert.InDxRestIdeal.defs (F := Ideal)) (onTc (τ := Cert.InDxRestIdeal.τ) (Cert.InDxRestIdeal.main (F := Ideal))) ⟨m, fun _ => 0, g⟩ (fun r => (∀ c : Dev Cert.InDxRestIdeal.nD,
      r.2.mem ((c.tc : Thread Cert.InDxRestIdeal.nD Cert.InDxRestIdeal.τ).loc Cert.InDxRestIdeal.main_arg0) = m ((c.tc : Thread Cert.InDxRestIdeal.nD Cert.InDxRestIdeal.τ).loc Cert.InDxRestIdeal.main_arg0)
      ∧ r.2.mem ((c.tc : Thread Cert.InDxRestIdeal.nD Cert.InDxRestIdeal.τ).loc Cert.InDxRestIdeal.main_arg1) = m ((c.tc : Thread Cert.InDxRestIdeal.nD Cert.InDxRestIdeal.τ).loc Cert.InDxRestIdeal.main_arg1)
      ∧ r.2.mem ((c.tc : Thread Cert.InDxRestIdeal.nD Cert.InDxRestIdeal.τ).loc Cert.InDxRestIdeal.main_arg2) = m ((c.tc : Thread Cert.InDxRestIdeal.nD Cert.InDxRestIdeal.τ).loc Cert.InDxRestIdeal.main_arg2)
      ∧ r.2.mem ((c.tc : Thread Cert.InDxRestIdeal.nD Cert.InDxRestIdeal.τ).loc Cert.InDxRestIdeal.main_arg3) = m ((c.tc : Thread Cert.InDxRestIdeal.nD Cert.InDxRestIdeal.τ).loc Cert.InDxRestIdeal.main_arg3)
      ∧ r.2.mem ((c.tc : Thread Cert.InDxRestIdeal.nD Cert.InDxRestIdeal.τ).loc Cert.InDxRestIdeal.main_arg4) = m ((c.tc : Thread Cert.InDxRestIdeal.nD Cert.InDxRestIdeal.τ).loc Cert.InDxRestIdeal.main_arg4)
      ∧ r.2.mem ((c.tc : Thread Cert.InDxRestIdeal.nD Cert.InDxRestIdeal.τ).loc Cert.InDxRestIdeal.main_arg5) = m ((c.tc : Thread Cert.InDxRestIdeal.nD Cert.InDxRestIdeal.τ).loc Cert.InDxRestIdeal.main_arg5)
      ∧ r.2.mem ((c.tc : Thread Cert.InDxRestIdeal.nD Cert.InDxRestIdeal.τ).loc Cert.InDxRestIdeal.main_arg6) = m ((c.tc : Thread Cert.InDxRestIdeal.nD Cert.InDxRestIdeal.τ).loc Cert.InDxRestIdeal.main_arg6)
      ∧ r.2.mem ((c.tc : Thread Cert.InDxRestIdeal.nD Cert.InDxRestIdeal.τ).loc Cert.InDxRestIdeal.main_arg7) = m ((c.tc : Thread Cert.InDxRestIdeal.nD Cert.InDxRestIdeal.τ).loc Cert.InDxRestIdeal.main_arg7))
      ∧ r.2.sem = fun _ => 0)

def quiescent_InDxRestRefIdeal [hInDxRestRefIdeal : Cert.InDxRestRefIdeal.Facts] : Prop :=
  ∀ (m : (ℓ : Loc Cert.InDxRestRefIdeal.nD Cert.InDxRestRefIdeal.τ Cert.InDxRestRefIdeal.sig) → Buf (Elt Ideal) ℓ) (g : Dev Cert.InDxRestRefIdeal.nD → PrngReg), Pre_InDxRestRefIdeal m →
    θ_run (Cert.InDxRestRefIdeal.defs (F := Ideal)) (onTc (τ := Cert.InDxRestRefIdeal.τ) (Cert.InDxRestRefIdeal.main (F := Ideal))) ⟨m, fun _ => 0, g⟩ (fun r => (∀ c : Dev Cert.InDxRestRefIdeal.nD,
      r.2.mem ((c.tc : Thread Cert.InDxRestRefIdeal.nD Cert.InDxRestRefIdeal.τ).loc Cert.InDxRestRefIdeal.main_arg0) = m ((c.tc : Thread Cert.InDxRestRefIdeal.nD Cert.InDxRestRefIdeal.τ).loc Cert.InDxRestRefIdeal.main_arg0)
      ∧ r.2.mem ((c.tc : Thread Cert.InDxRestRefIdeal.nD Cert.InDxRestRefIdeal.τ).loc Cert.InDxRestRefIdeal.main_arg1) = m ((c.tc : Thread Cert.InDxRestRefIdeal.nD Cert.InDxRestRefIdeal.τ).loc Cert.InDxRestRefIdeal.main_arg1)
      ∧ r.2.mem ((c.tc : Thread Cert.InDxRestRefIdeal.nD Cert.InDxRestRefIdeal.τ).loc Cert.InDxRestRefIdeal.main_arg2) = m ((c.tc : Thread Cert.InDxRestRefIdeal.nD Cert.InDxRestRefIdeal.τ).loc Cert.InDxRestRefIdeal.main_arg2)
      ∧ r.2.mem ((c.tc : Thread Cert.InDxRestRefIdeal.nD Cert.InDxRestRefIdeal.τ).loc Cert.InDxRestRefIdeal.main_arg3) = m ((c.tc : Thread Cert.InDxRestRefIdeal.nD Cert.InDxRestRefIdeal.τ).loc Cert.InDxRestRefIdeal.main_arg3)
      ∧ r.2.mem ((c.tc : Thread Cert.InDxRestRefIdeal.nD Cert.InDxRestRefIdeal.τ).loc Cert.InDxRestRefIdeal.main_arg4) = m ((c.tc : Thread Cert.InDxRestRefIdeal.nD Cert.InDxRestRefIdeal.τ).loc Cert.InDxRestRefIdeal.main_arg4)
      ∧ r.2.mem ((c.tc : Thread Cert.InDxRestRefIdeal.nD Cert.InDxRestRefIdeal.τ).loc Cert.InDxRestRefIdeal.main_arg5) = m ((c.tc : Thread Cert.InDxRestRefIdeal.nD Cert.InDxRestRefIdeal.τ).loc Cert.InDxRestRefIdeal.main_arg5)
      ∧ r.2.mem ((c.tc : Thread Cert.InDxRestRefIdeal.nD Cert.InDxRestRefIdeal.τ).loc Cert.InDxRestRefIdeal.main_arg6) = m ((c.tc : Thread Cert.InDxRestRefIdeal.nD Cert.InDxRestRefIdeal.τ).loc Cert.InDxRestRefIdeal.main_arg6)
      ∧ r.2.mem ((c.tc : Thread Cert.InDxRestRefIdeal.nD Cert.InDxRestRefIdeal.τ).loc Cert.InDxRestRefIdeal.main_arg7) = m ((c.tc : Thread Cert.InDxRestRefIdeal.nD Cert.InDxRestRefIdeal.τ).loc Cert.InDxRestRefIdeal.main_arg7))
      ∧ r.2.sem = fun _ => 0)

def quiescent_InDxRestRefIdeal_pre_finite_in_proj_dx_rest [hInDxRestRefIdeal : Cert.InDxRestRefIdeal.Facts] [hPre_finite_in_proj_dx_rest : Cert.Pre_finite_in_proj_dx_rest.Facts] : Prop :=
  ∀ (m : (ℓ : Loc Cert.InDxRestRefIdeal.nD Cert.InDxRestRefIdeal.τ Cert.InDxRestRefIdeal.sig) → Buf (Elt Ideal) ℓ) (g : Dev Cert.InDxRestRefIdeal.nD → PrngReg), Pre_InDxRestRefIdeal_finite_in_proj_dx_rest m →
    θ_run (Cert.InDxRestRefIdeal.defs (F := Ideal)) (onTc (τ := Cert.InDxRestRefIdeal.τ) (Cert.InDxRestRefIdeal.main (F := Ideal))) ⟨m, fun _ => 0, g⟩ (fun r => (∀ c : Dev Cert.InDxRestRefIdeal.nD,
      r.2.mem ((c.tc : Thread Cert.InDxRestRefIdeal.nD Cert.InDxRestRefIdeal.τ).loc Cert.InDxRestRefIdeal.main_arg0) = m ((c.tc : Thread Cert.InDxRestRefIdeal.nD Cert.InDxRestRefIdeal.τ).loc Cert.InDxRestRefIdeal.main_arg0)
      ∧ r.2.mem ((c.tc : Thread Cert.InDxRestRefIdeal.nD Cert.InDxRestRefIdeal.τ).loc Cert.InDxRestRefIdeal.main_arg1) = m ((c.tc : Thread Cert.InDxRestRefIdeal.nD Cert.InDxRestRefIdeal.τ).loc Cert.InDxRestRefIdeal.main_arg1)
      ∧ r.2.mem ((c.tc : Thread Cert.InDxRestRefIdeal.nD Cert.InDxRestRefIdeal.τ).loc Cert.InDxRestRefIdeal.main_arg2) = m ((c.tc : Thread Cert.InDxRestRefIdeal.nD Cert.InDxRestRefIdeal.τ).loc Cert.InDxRestRefIdeal.main_arg2)
      ∧ r.2.mem ((c.tc : Thread Cert.InDxRestRefIdeal.nD Cert.InDxRestRefIdeal.τ).loc Cert.InDxRestRefIdeal.main_arg3) = m ((c.tc : Thread Cert.InDxRestRefIdeal.nD Cert.InDxRestRefIdeal.τ).loc Cert.InDxRestRefIdeal.main_arg3)
      ∧ r.2.mem ((c.tc : Thread Cert.InDxRestRefIdeal.nD Cert.InDxRestRefIdeal.τ).loc Cert.InDxRestRefIdeal.main_arg4) = m ((c.tc : Thread Cert.InDxRestRefIdeal.nD Cert.InDxRestRefIdeal.τ).loc Cert.InDxRestRefIdeal.main_arg4)
      ∧ r.2.mem ((c.tc : Thread Cert.InDxRestRefIdeal.nD Cert.InDxRestRefIdeal.τ).loc Cert.InDxRestRefIdeal.main_arg5) = m ((c.tc : Thread Cert.InDxRestRefIdeal.nD Cert.InDxRestRefIdeal.τ).loc Cert.InDxRestRefIdeal.main_arg5)
      ∧ r.2.mem ((c.tc : Thread Cert.InDxRestRefIdeal.nD Cert.InDxRestRefIdeal.τ).loc Cert.InDxRestRefIdeal.main_arg6) = m ((c.tc : Thread Cert.InDxRestRefIdeal.nD Cert.InDxRestRefIdeal.τ).loc Cert.InDxRestRefIdeal.main_arg6)
      ∧ r.2.mem ((c.tc : Thread Cert.InDxRestRefIdeal.nD Cert.InDxRestRefIdeal.τ).loc Cert.InDxRestRefIdeal.main_arg7) = m ((c.tc : Thread Cert.InDxRestRefIdeal.nD Cert.InDxRestRefIdeal.τ).loc Cert.InDxRestRefIdeal.main_arg7))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1)
      ∧ r.2.mem ((c.tc : Thread Cert.GateUpDw.nD Cert.GateUpDw.τ).loc Cert.GateUpDw.main_arg2) = m ((c.tc : Thread Cert.GateUpDw.nD Cert.GateUpDw.τ).loc Cert.GateUpDw.main_arg2))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1)
      ∧ r.2.mem ((c.tc : Thread Cert.GateUpDwIdeal.nD Cert.GateUpDwIdeal.τ).loc Cert.GateUpDwIdeal.main_arg2) = m ((c.tc : Thread Cert.GateUpDwIdeal.nD Cert.GateUpDwIdeal.τ).loc Cert.GateUpDwIdeal.main_arg2))
      ∧ r.2.sem = fun _ => 0)

def quiescent_GateUpDwRefIdeal [hGateUpDwRefIdeal : Cert.GateUpDwRefIdeal.Facts] : Prop :=
  ∀ (m : (ℓ : Loc Cert.GateUpDwRefIdeal.nD Cert.GateUpDwRefIdeal.τ Cert.GateUpDwRefIdeal.sig) → Buf (Elt Ideal) ℓ) (g : Dev Cert.GateUpDwRefIdeal.nD → PrngReg), Pre_GateUpDwRefIdeal m →
    θ_run (Cert.GateUpDwRefIdeal.defs (F := Ideal)) (onTc (τ := Cert.GateUpDwRefIdeal.τ) (Cert.GateUpDwRefIdeal.main (F := Ideal))) ⟨m, fun _ => 0, g⟩ (fun r => (∀ c : Dev Cert.GateUpDwRefIdeal.nD,
      r.2.mem ((c.tc : Thread Cert.GateUpDwRefIdeal.nD Cert.GateUpDwRefIdeal.τ).loc Cert.GateUpDwRefIdeal.main_arg0) = m ((c.tc : Thread Cert.GateUpDwRefIdeal.nD Cert.GateUpDwRefIdeal.τ).loc Cert.GateUpDwRefIdeal.main_arg0)
      ∧ r.2.mem ((c.tc : Thread Cert.GateUpDwRefIdeal.nD Cert.GateUpDwRefIdeal.τ).loc Cert.GateUpDwRefIdeal.main_arg1) = m ((c.tc : Thread Cert.GateUpDwRefIdeal.nD Cert.GateUpDwRefIdeal.τ).loc Cert.GateUpDwRefIdeal.main_arg1)
      ∧ r.2.mem ((c.tc : Thread Cert.GateUpDwRefIdeal.nD Cert.GateUpDwRefIdeal.τ).loc Cert.GateUpDwRefIdeal.main_arg2) = m ((c.tc : Thread Cert.GateUpDwRefIdeal.nD Cert.GateUpDwRefIdeal.τ).loc Cert.GateUpDwRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_InFwdFirst [hInFwdFirst : Cert.InFwdFirst.Facts] : Prop :=
  ∀ (m : (ℓ : Loc Cert.InFwdFirst.nD Cert.InFwdFirst.τ Cert.InFwdFirst.sig) → Buf (Elt Bits) ℓ) (g : Dev Cert.InFwdFirst.nD → PrngReg), Pre_InFwdFirst m →
    θ_run (Cert.InFwdFirst.defs (F := Bits)) (onTc (τ := Cert.InFwdFirst.τ) (Cert.InFwdFirst.main (F := Bits))) ⟨m, fun _ => 0, g⟩ (fun r => (∀ c : Dev Cert.InFwdFirst.nD,
      r.2.mem ((c.tc : Thread Cert.InFwdFirst.nD Cert.InFwdFirst.τ).loc Cert.InFwdFirst.main_arg0) = m ((c.tc : Thread Cert.InFwdFirst.nD Cert.InFwdFirst.τ).loc Cert.InFwdFirst.main_arg0)
      ∧ r.2.mem ((c.tc : Thread Cert.InFwdFirst.nD Cert.InFwdFirst.τ).loc Cert.InFwdFirst.main_arg1) = m ((c.tc : Thread Cert.InFwdFirst.nD Cert.InFwdFirst.τ).loc Cert.InFwdFirst.main_arg1)
      ∧ r.2.mem ((c.tc : Thread Cert.InFwdFirst.nD Cert.InFwdFirst.τ).loc Cert.InFwdFirst.main_arg2) = m ((c.tc : Thread Cert.InFwdFirst.nD Cert.InFwdFirst.τ).loc Cert.InFwdFirst.main_arg2))
      ∧ r.2.sem = fun _ => 0)

def quiescent_InFwdFirstIdeal [hInFwdFirstIdeal : Cert.InFwdFirstIdeal.Facts] : Prop :=
  ∀ (m : (ℓ : Loc Cert.InFwdFirstIdeal.nD Cert.InFwdFirstIdeal.τ Cert.InFwdFirstIdeal.sig) → Buf (Elt Ideal) ℓ) (g : Dev Cert.InFwdFirstIdeal.nD → PrngReg), Pre_InFwdFirstIdeal m →
    θ_run (Cert.InFwdFirstIdeal.defs (F := Ideal)) (onTc (τ := Cert.InFwdFirstIdeal.τ) (Cert.InFwdFirstIdeal.main (F := Ideal))) ⟨m, fun _ => 0, g⟩ (fun r => (∀ c : Dev Cert.InFwdFirstIdeal.nD,
      r.2.mem ((c.tc : Thread Cert.InFwdFirstIdeal.nD Cert.InFwdFirstIdeal.τ).loc Cert.InFwdFirstIdeal.main_arg0) = m ((c.tc : Thread Cert.InFwdFirstIdeal.nD Cert.InFwdFirstIdeal.τ).loc Cert.InFwdFirstIdeal.main_arg0)
      ∧ r.2.mem ((c.tc : Thread Cert.InFwdFirstIdeal.nD Cert.InFwdFirstIdeal.τ).loc Cert.InFwdFirstIdeal.main_arg1) = m ((c.tc : Thread Cert.InFwdFirstIdeal.nD Cert.InFwdFirstIdeal.τ).loc Cert.InFwdFirstIdeal.main_arg1)
      ∧ r.2.mem ((c.tc : Thread Cert.InFwdFirstIdeal.nD Cert.InFwdFirstIdeal.τ).loc Cert.InFwdFirstIdeal.main_arg2) = m ((c.tc : Thread Cert.InFwdFirstIdeal.nD Cert.InFwdFirstIdeal.τ).loc Cert.InFwdFirstIdeal.main_arg2))
      ∧ r.2.sem = fun _ => 0)

def quiescent_InFwdFirstRefIdeal [hInFwdFirstRefIdeal : Cert.InFwdFirstRefIdeal.Facts] : Prop :=
  ∀ (m : (ℓ : Loc Cert.InFwdFirstRefIdeal.nD Cert.InFwdFirstRefIdeal.τ Cert.InFwdFirstRefIdeal.sig) → Buf (Elt Ideal) ℓ) (g : Dev Cert.InFwdFirstRefIdeal.nD → PrngReg), Pre_InFwdFirstRefIdeal m →
    θ_run (Cert.InFwdFirstRefIdeal.defs (F := Ideal)) (onTc (τ := Cert.InFwdFirstRefIdeal.τ) (Cert.InFwdFirstRefIdeal.main (F := Ideal))) ⟨m, fun _ => 0, g⟩ (fun r => (∀ c : Dev Cert.InFwdFirstRefIdeal.nD,
      r.2.mem ((c.tc : Thread Cert.InFwdFirstRefIdeal.nD Cert.InFwdFirstRefIdeal.τ).loc Cert.InFwdFirstRefIdeal.main_arg0) = m ((c.tc : Thread Cert.InFwdFirstRefIdeal.nD Cert.InFwdFirstRefIdeal.τ).loc Cert.InFwdFirstRefIdeal.main_arg0)
      ∧ r.2.mem ((c.tc : Thread Cert.InFwdFirstRefIdeal.nD Cert.InFwdFirstRefIdeal.τ).loc Cert.InFwdFirstRefIdeal.main_arg1) = m ((c.tc : Thread Cert.InFwdFirstRefIdeal.nD Cert.InFwdFirstRefIdeal.τ).loc Cert.InFwdFirstRefIdeal.main_arg1)
      ∧ r.2.mem ((c.tc : Thread Cert.InFwdFirstRefIdeal.nD Cert.InFwdFirstRefIdeal.τ).loc Cert.InFwdFirstRefIdeal.main_arg2) = m ((c.tc : Thread Cert.InFwdFirstRefIdeal.nD Cert.InFwdFirstRefIdeal.τ).loc Cert.InFwdFirstRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamPw [hAdamPw : Cert.AdamPw.Facts] : Prop :=
  ∀ (m : (ℓ : Loc Cert.AdamPw.nD Cert.AdamPw.τ Cert.AdamPw.sig) → Buf (Elt Bits) ℓ) (g : Dev Cert.AdamPw.nD → PrngReg), Pre_AdamPw m →
    θ_run (Cert.AdamPw.defs (F := Bits)) (onTc (τ := Cert.AdamPw.τ) (Cert.AdamPw.main (F := Bits))) ⟨m, fun _ => 0, g⟩ (fun r => (∀ c : Dev Cert.AdamPw.nD,
      r.2.mem ((c.tc : Thread Cert.AdamPw.nD Cert.AdamPw.τ).loc Cert.AdamPw.main_arg0) = m ((c.tc : Thread Cert.AdamPw.nD Cert.AdamPw.τ).loc Cert.AdamPw.main_arg0)
      ∧ r.2.mem ((c.tc : Thread Cert.AdamPw.nD Cert.AdamPw.τ).loc Cert.AdamPw.main_arg1) = m ((c.tc : Thread Cert.AdamPw.nD Cert.AdamPw.τ).loc Cert.AdamPw.main_arg1)
      ∧ r.2.mem ((c.tc : Thread Cert.AdamPw.nD Cert.AdamPw.τ).loc Cert.AdamPw.main_arg2) = m ((c.tc : Thread Cert.AdamPw.nD Cert.AdamPw.τ).loc Cert.AdamPw.main_arg2)
      ∧ r.2.mem ((c.tc : Thread Cert.AdamPw.nD Cert.AdamPw.τ).loc Cert.AdamPw.main_arg3) = m ((c.tc : Thread Cert.AdamPw.nD Cert.AdamPw.τ).loc Cert.AdamPw.main_arg3))
      ∧ r.2.sem = fun _ => 0)

def quiescent_AdamPwIdeal [hAdamPwIdeal : Cert.AdamPwIdeal.Facts] : Prop :=
  ∀ (m : (ℓ : Loc Cert.AdamPwIdeal.nD Cert.AdamPwIdeal.τ Cert.AdamPwIdeal.sig) → Buf (Elt Ideal) ℓ) (g : Dev Cert.AdamPwIdeal.nD → PrngReg), Pre_AdamPwIdeal m →
    θ_run (Cert.AdamPwIdeal.defs (F := Ideal)) (onTc (τ := Cert.AdamPwIdeal.τ) (Cert.AdamPwIdeal.main (F := Ideal))) ⟨m, fun _ => 0, g⟩ (fun r => (∀ c : Dev Cert.AdamPwIdeal.nD,
      r.2.mem ((c.tc : Thread Cert.AdamPwIdeal.nD Cert.AdamPwIdeal.τ).loc Cert.AdamPwIdeal.main_arg0) = m ((c.tc : Thread Cert.AdamPwIdeal.nD Cert.AdamPwIdeal.τ).loc Cert.AdamPwIdeal.main_arg0)
      ∧ r.2.mem ((c.tc : Thread Cert.AdamPwIdeal.nD Cert.AdamPwIdeal.τ).loc Cert.AdamPwIdeal.main_arg1) = m ((c.tc : Thread Cert.AdamPwIdeal.nD Cert.AdamPwIdeal.τ).loc Cert.AdamPwIdeal.main_arg1)
      ∧ r.2.mem ((c.tc : Thread Cert.AdamPwIdeal.nD Cert.AdamPwIdeal.τ).loc Cert.AdamPwIdeal.main_arg2) = m ((c.tc : Thread Cert.AdamPwIdeal.nD Cert.AdamPwIdeal.τ).loc Cert.AdamPwIdeal.main_arg2)
      ∧ r.2.mem ((c.tc : Thread Cert.AdamPwIdeal.nD Cert.AdamPwIdeal.τ).loc Cert.AdamPwIdeal.main_arg3) = m ((c.tc : Thread Cert.AdamPwIdeal.nD Cert.AdamPwIdeal.τ).loc Cert.AdamPwIdeal.main_arg3))
      ∧ r.2.sem = fun _ => 0)

def quiescent_AdamPwRefIdeal [hAdamPwRefIdeal : Cert.AdamPwRefIdeal.Facts] : Prop :=
  ∀ (m : (ℓ : Loc Cert.AdamPwRefIdeal.nD Cert.AdamPwRefIdeal.τ Cert.AdamPwRefIdeal.sig) → Buf (Elt Ideal) ℓ) (g : Dev Cert.AdamPwRefIdeal.nD → PrngReg), Pre_AdamPwRefIdeal m →
    θ_run (Cert.AdamPwRefIdeal.defs (F := Ideal)) (onTc (τ := Cert.AdamPwRefIdeal.τ) (Cert.AdamPwRefIdeal.main (F := Ideal))) ⟨m, fun _ => 0, g⟩ (fun r => (∀ c : Dev Cert.AdamPwRefIdeal.nD,
      r.2.mem ((c.tc : Thread Cert.AdamPwRefIdeal.nD Cert.AdamPwRefIdeal.τ).loc Cert.AdamPwRefIdeal.main_arg0) = m ((c.tc : Thread Cert.AdamPwRefIdeal.nD Cert.AdamPwRefIdeal.τ).loc Cert.AdamPwRefIdeal.main_arg0)
      ∧ r.2.mem ((c.tc : Thread Cert.AdamPwRefIdeal.nD Cert.AdamPwRefIdeal.τ).loc Cert.AdamPwRefIdeal.main_arg1) = m ((c.tc : Thread Cert.AdamPwRefIdeal.nD Cert.AdamPwRefIdeal.τ).loc Cert.AdamPwRefIdeal.main_arg1)
      ∧ r.2.mem ((c.tc : Thread Cert.AdamPwRefIdeal.nD Cert.AdamPwRefIdeal.τ).loc Cert.AdamPwRefIdeal.main_arg2) = m ((c.tc : Thread Cert.AdamPwRefIdeal.nD Cert.AdamPwRefIdeal.τ).loc Cert.AdamPwRefIdeal.main_arg2)
      ∧ r.2.mem ((c.tc : Thread Cert.AdamPwRefIdeal.nD Cert.AdamPwRefIdeal.τ).loc Cert.AdamPwRefIdeal.main_arg3) = m ((c.tc : Thread Cert.AdamPwRefIdeal.nD Cert.AdamPwRefIdeal.τ).loc Cert.AdamPwRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmallA [hAdamSmallA : Cert.AdamSmallA.Facts] : Prop :=
  ∀ (m : (ℓ : Loc Cert.AdamSmallA.nD Cert.AdamSmallA.τ Cert.AdamSmallA.sig) → Buf (Elt Bits) ℓ) (g : Dev Cert.AdamSmallA.nD → PrngReg), Pre_AdamSmallA m →
    θ_run (Cert.AdamSmallA.defs (F := Bits)) (onTc (τ := Cert.AdamSmallA.τ) (Cert.AdamSmallA.main (F := Bits))) ⟨m, fun _ => 0, g⟩ (fun r => (∀ c : Dev Cert.AdamSmallA.nD,
      r.2.mem ((c.tc : Thread Cert.AdamSmallA.nD Cert.AdamSmallA.τ).loc Cert.AdamSmallA.main_arg0) = m ((c.tc : Thread Cert.AdamSmallA.nD Cert.AdamSmallA.τ).loc Cert.AdamSmallA.main_arg0)
      ∧ r.2.mem ((c.tc : Thread Cert.AdamSmallA.nD Cert.AdamSmallA.τ).loc Cert.AdamSmallA.main_arg1) = m ((c.tc : Thread Cert.AdamSmallA.nD Cert.AdamSmallA.τ).loc Cert.AdamSmallA.main_arg1)
      ∧ r.2.mem ((c.tc : Thread Cert.AdamSmallA.nD Cert.AdamSmallA.τ).loc Cert.AdamSmallA.main_arg2) = m ((c.tc : Thread Cert.AdamSmallA.nD Cert.AdamSmallA.τ).loc Cert.AdamSmallA.main_arg2)
      ∧ r.2.mem ((c.tc : Thread Cert.AdamSmallA.nD Cert.AdamSmallA.τ).loc Cert.AdamSmallA.main_arg3) = m ((c.tc : Thread Cert.AdamSmallA.nD Cert.AdamSmallA.τ).loc Cert.AdamSmallA.main_arg3)
      ∧ r.2.mem ((c.tc : Thread Cert.AdamSmallA.nD Cert.AdamSmallA.τ).loc Cert.AdamSmallA.main_arg4) = m ((c.tc : Thread Cert.AdamSmallA.nD Cert.AdamSmallA.τ).loc Cert.AdamSmallA.main_arg4)
      ∧ r.2.mem ((c.tc : Thread Cert.AdamSmallA.nD Cert.AdamSmallA.τ).loc Cert.AdamSmallA.main_arg5) = m ((c.tc : Thread Cert.AdamSmallA.nD Cert.AdamSmallA.τ).loc Cert.AdamSmallA.main_arg5)
      ∧ r.2.mem ((c.tc : Thread Cert.AdamSmallA.nD Cert.AdamSmallA.τ).loc Cert.AdamSmallA.main_arg6) = m ((c.tc : Thread Cert.AdamSmallA.nD Cert.AdamSmallA.τ).loc Cert.AdamSmallA.main_arg6)
      ∧ r.2.mem ((c.tc : Thread Cert.AdamSmallA.nD Cert.AdamSmallA.τ).loc Cert.AdamSmallA.main_arg7) = m ((c.tc : Thread Cert.AdamSmallA.nD Cert.AdamSmallA.τ).loc Cert.AdamSmallA.main_arg7)
      ∧ r.2.mem ((c.tc : Thread Cert.AdamSmallA.nD Cert.AdamSmallA.τ).loc Cert.AdamSmallA.main_arg8) = m ((c.tc : Thread Cert.AdamSmallA.nD Cert.AdamSmallA.τ).loc Cert.AdamSmallA.main_arg8)
      ∧ r.2.mem ((c.tc : Thread Cert.AdamSmallA.nD Cert.AdamSmallA.τ).loc Cert.AdamSmallA.main_arg9) = m ((c.tc : Thread Cert.AdamSmallA.nD Cert.AdamSmallA.τ).loc Cert.AdamSmallA.main_arg9)
      ∧ r.2.mem ((c.tc : Thread Cert.AdamSmallA.nD Cert.AdamSmallA.τ).loc Cert.AdamSmallA.main_arg10) = m ((c.tc : Thread Cert.AdamSmallA.nD Cert.AdamSmallA.τ).loc Cert.AdamSmallA.main_arg10)
      ∧ r.2.mem ((c.tc : Thread Cert.AdamSmallA.nD Cert.AdamSmallA.τ).loc Cert.AdamSmallA.main_arg11) = m ((c.tc : Thread Cert.AdamSmallA.nD Cert.AdamSmallA.τ).loc Cert.AdamSmallA.main_arg11))
      ∧ r.2.sem = fun _ => 0)

def quiescent_AdamSmallAIdeal [hAdamSmallAIdeal : Cert.AdamSmallAIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg), Pre_AdamSmallAIdeal m →
    θ_run (Cert.AdamSmallAIdeal.defs (F := Ideal)) (onTc (τ := Cert.AdamSmallAIdeal.τ) (Cert.AdamSmallAIdeal.main (F := Ideal))) ⟨m, fun _ => 0, g⟩ (fun r => (∀ c : Dev Cert.AdamSmallAIdeal.nD,
      r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
      ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
      ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
      ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
      ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
      ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
      ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
      ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
      ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
      ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
      ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
      ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11))
      ∧ r.2.sem = fun _ => 0)

def quiescent_AdamSmallARefIdeal [hAdamSmallARefIdeal : Cert.AdamSmallARefIdeal.Facts] : Prop :=
  ∀ (m : (ℓ : Loc Cert.AdamSmallARefIdeal.nD Cert.AdamSmallARefIdeal.τ Cert.AdamSmallARefIdeal.sig) → Buf (Elt Ideal) ℓ) (g : Dev Cert.AdamSmallARefIdeal.nD → PrngReg), Pre_AdamSmallARefIdeal m →
    θ_run (Cert.AdamSmallARefIdeal.defs (F := Ideal)) (onTc (τ := Cert.AdamSmallARefIdeal.τ) (Cert.AdamSmallARefIdeal.main (F := Ideal))) ⟨m, fun _ => 0, g⟩ (fun r => (∀ c : Dev Cert.AdamSmallARefIdeal.nD,
      r.2.mem ((c.tc : Thread Cert.AdamSmallARefIdeal.nD Cert.AdamSmallARefIdeal.τ).loc Cert.AdamSmallARefIdeal.main_arg0) = m ((c.tc : Thread Cert.AdamSmallARefIdeal.nD Cert.AdamSmallARefIdeal.τ).loc Cert.AdamSmallARefIdeal.main_arg0)
      ∧ r.2.mem ((c.tc : Thread Cert.AdamSmallARefIdeal.nD Cert.AdamSmallARefIdeal.τ).loc Cert.AdamSmallARefIdeal.main_arg1) = m ((c.tc : Thread Cert.AdamSmallARefIdeal.nD Cert.AdamSmallARefIdeal.τ).loc Cert.AdamSmallARefIdeal.main_arg1)
      ∧ r.2.mem ((c.tc : Thread Cert.AdamSmallARefIdeal.nD Cert.AdamSmallARefIdeal.τ).loc Cert.AdamSmallARefIdeal.main_arg2) = m ((c.tc : Thread Cert.AdamSmallARefIdeal.nD Cert.AdamSmallARefIdeal.τ).loc Cert.AdamSmallARefIdeal.main_arg2)
      ∧ r.2.mem ((c.tc : Thread Cert.AdamSmallARefIdeal.nD Cert.AdamSmallARefIdeal.τ).loc Cert.AdamSmallARefIdeal.main_arg3) = m ((c.tc : Thread Cert.AdamSmallARefIdeal.nD Cert.AdamSmallARefIdeal.τ).loc Cert.AdamSmallARefIdeal.main_arg3)
      ∧ r.2.mem ((c.tc : Thread Cert.AdamSmallARefIdeal.nD Cert.AdamSmallARefIdeal.τ).loc Cert.AdamSmallARefIdeal.main_arg4) = m ((c.tc : Thread Cert.AdamSmallARefIdeal.nD Cert.AdamSmallARefIdeal.τ).loc Cert.AdamSmallARefIdeal.main_arg4)
      ∧ r.2.mem ((c.tc : Thread Cert.AdamSmallARefIdeal.nD Cert.AdamSmallARefIdeal.τ).loc Cert.AdamSmallARefIdeal.main_arg5) = m ((c.tc : Thread Cert.AdamSmallARefIdeal.nD Cert.AdamSmallARefIdeal.τ).loc Cert.AdamSmallARefIdeal.main_arg5)
      ∧ r.2.mem ((c.tc : Thread Cert.AdamSmallARefIdeal.nD Cert.AdamSmallARefIdeal.τ).loc Cert.AdamSmallARefIdeal.main_arg6) = m ((c.tc : Thread Cert.AdamSmallARefIdeal.nD Cert.AdamSmallARefIdeal.τ).loc Cert.AdamSmallARefIdeal.main_arg6)
      ∧ r.2.mem ((c.tc : Thread Cert.AdamSmallARefIdeal.nD Cert.AdamSmallARefIdeal.τ).loc Cert.AdamSmallARefIdeal.main_arg7) = m ((c.tc : Thread Cert.AdamSmallARefIdeal.nD Cert.AdamSmallARefIdeal.τ).loc Cert.AdamSmallARefIdeal.main_arg7)
      ∧ r.2.mem ((c.tc : Thread Cert.AdamSmallARefIdeal.nD Cert.AdamSmallARefIdeal.τ).loc Cert.AdamSmallARefIdeal.main_arg8) = m ((c.tc : Thread Cert.AdamSmallARefIdeal.nD Cert.AdamSmallARefIdeal.τ).loc Cert.AdamSmallARefIdeal.main_arg8)
      ∧ r.2.mem ((c.tc : Thread Cert.AdamSmallARefIdeal.nD Cert.AdamSmallARefIdeal.τ).loc Cert.AdamSmallARefIdeal.main_arg9) = m ((c.tc : Thread Cert.AdamSmallARefIdeal.nD Cert.AdamSmallARefIdeal.τ).loc Cert.AdamSmallARefIdeal.main_arg9)
      ∧ r.2.mem ((c.tc : Thread Cert.AdamSmallARefIdeal.nD Cert.AdamSmallARefIdeal.τ).loc Cert.AdamSmallARefIdeal.main_arg10) = m ((c.tc : Thread Cert.AdamSmallARefIdeal.nD Cert.AdamSmallARefIdeal.τ).loc Cert.AdamSmallARefIdeal.main_arg10)
      ∧ r.2.mem ((c.tc : Thread Cert.AdamSmallARefIdeal.nD Cert.AdamSmallARefIdeal.τ).loc Cert.AdamSmallARefIdeal.main_arg11) = m ((c.tc : Thread Cert.AdamSmallARefIdeal.nD Cert.AdamSmallARefIdeal.τ).loc Cert.AdamSmallARefIdeal.main_arg11))
      ∧ r.2.sem = fun _ => 0)

def quiescent_AdamSmallB [hAdamSmallB : Cert.AdamSmallB.Facts] : Prop :=
  ∀ (m : (ℓ : Loc Cert.AdamSmallB.nD Cert.AdamSmallB.τ Cert.AdamSmallB.sig) → Buf (Elt Bits) ℓ) (g : Dev Cert.AdamSmallB.nD → PrngReg), Pre_AdamSmallB m →
    θ_run (Cert.AdamSmallB.defs (F := Bits)) (onTc (τ := Cert.AdamSmallB.τ) (Cert.AdamSmallB.main (F := Bits))) ⟨m, fun _ => 0, g⟩ (fun r => (∀ c : Dev Cert.AdamSmallB.nD,
      r.2.mem ((c.tc : Thread Cert.AdamSmallB.nD Cert.AdamSmallB.τ).loc Cert.AdamSmallB.main_arg0) = m ((c.tc : Thread Cert.AdamSmallB.nD Cert.AdamSmallB.τ).loc Cert.AdamSmallB.main_arg0)
      ∧ r.2.mem ((c.tc : Thread Cert.AdamSmallB.nD Cert.AdamSmallB.τ).loc Cert.AdamSmallB.main_arg1) = m ((c.tc : Thread Cert.AdamSmallB.nD Cert.AdamSmallB.τ).loc Cert.AdamSmallB.main_arg1)
      ∧ r.2.mem ((c.tc : Thread Cert.AdamSmallB.nD Cert.AdamSmallB.τ).loc Cert.AdamSmallB.main_arg2) = m ((c.tc : Thread Cert.AdamSmallB.nD Cert.AdamSmallB.τ).loc Cert.AdamSmallB.main_arg2)
      ∧ r.2.mem ((c.tc : Thread Cert.AdamSmallB.nD Cert.AdamSmallB.τ).loc Cert.AdamSmallB.main_arg3) = m ((c.tc : Thread Cert.AdamSmallB.nD Cert.AdamSmallB.τ).loc Cert.AdamSmallB.main_arg3)
      ∧ r.2.mem ((c.tc : Thread Cert.AdamSmallB.nD Cert.AdamSmallB.τ).loc Cert.AdamSmallB.main_arg4) = m ((c.tc : Thread Cert.AdamSmallB.nD Cert.AdamSmallB.τ).loc Cert.AdamSmallB.main_arg4)
      ∧ r.2.mem ((c.tc : Thread Cert.AdamSmallB.nD Cert.AdamSmallB.τ).loc Cert.AdamSmallB.main_arg5) = m ((c.tc : Thread Cert.AdamSmallB.nD Cert.AdamSmallB.τ).loc Cert.AdamSmallB.main_arg5)
      ∧ r.2.mem ((c.tc : Thread Cert.AdamSmallB.nD Cert.AdamSmallB.τ).loc Cert.AdamSmallB.main_arg6) = m ((c.tc : Thread Cert.AdamSmallB.nD Cert.AdamSmallB.τ).loc Cert.AdamSmallB.main_arg6)
      ∧ r.2.mem ((c.tc : Thread Cert.AdamSmallB.nD Cert.AdamSmallB.τ).loc Cert.AdamSmallB.main_arg7) = m ((c.tc : Thread Cert.AdamSmallB.nD Cert.AdamSmallB.τ).loc Cert.AdamSmallB.main_arg7)
      ∧ r.2.mem ((c.tc : Thread Cert.AdamSmallB.nD Cert.AdamSmallB.τ).loc Cert.AdamSmallB.main_arg8) = m ((c.tc : Thread Cert.AdamSmallB.nD Cert.AdamSmallB.τ).loc Cert.AdamSmallB.main_arg8)
      ∧ r.2.mem ((c.tc : Thread Cert.AdamSmallB.nD Cert.AdamSmallB.τ).loc Cert.AdamSmallB.main_arg9) = m ((c.tc : Thread Cert.AdamSmallB.nD Cert.AdamSmallB.τ).loc Cert.AdamSmallB.main_arg9)
      ∧ r.2.mem ((c.tc : Thread Cert.AdamSmallB.nD Cert.AdamSmallB.τ).loc Cert.AdamSmallB.main_arg10) = m ((c.tc : Thread Cert.AdamSmallB.nD Cert.AdamSmallB.τ).loc Cert.AdamSmallB.main_arg10)
      ∧ r.2.mem ((c.tc : Thread Cert.AdamSmallB.nD Cert.AdamSmallB.τ).loc Cert.AdamSmallB.main_arg11) = m ((c.tc : Thread Cert.AdamSmallB.nD Cert.AdamSmallB.τ).loc Cert.AdamSmallB.main_arg11))
      ∧ r.2.sem = fun _ => 0)

def quiescent_AdamSmallBIdeal [hAdamSmallBIdeal : Cert.AdamSmallBIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg), Pre_AdamSmallBIdeal m →
    θ_run (Cert.AdamSmallBIdeal.defs (F := Ideal)) (onTc (τ := Cert.AdamSmallBIdeal.τ) (Cert.AdamSmallBIdeal.main (F := Ideal))) ⟨m, fun _ => 0, g⟩ (fun r => (∀ c : Dev Cert.AdamSmallBIdeal.nD,
      r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
      ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
      ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
      ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
      ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
      ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
      ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
      ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
      ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
      ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
      ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
      ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11))
      ∧ r.2.sem = fun _ => 0)

def quiescent_AdamSmallBRefIdeal [hAdamSmallBRefIdeal : Cert.AdamSmallBRefIdeal.Facts] : Prop :=
  ∀ (m : (ℓ : Loc Cert.AdamSmallBRefIdeal.nD Cert.AdamSmallBRefIdeal.τ Cert.AdamSmallBRefIdeal.sig) → Buf (Elt Ideal) ℓ) (g : Dev Cert.AdamSmallBRefIdeal.nD → PrngReg), Pre_AdamSmallBRefIdeal m →
    θ_run (Cert.AdamSmallBRefIdeal.defs (F := Ideal)) (onTc (τ := Cert.AdamSmallBRefIdeal.τ) (Cert.AdamSmallBRefIdeal.main (F := Ideal))) ⟨m, fun _ => 0, g⟩ (fun r => (∀ c : Dev Cert.AdamSmallBRefIdeal.nD,
      r.2.mem ((c.tc : Thread Cert.AdamSmallBRefIdeal.nD Cert.AdamSmallBRefIdeal.τ).loc Cert.AdamSmallBRefIdeal.main_arg0) = m ((c.tc : Thread Cert.AdamSmallBRefIdeal.nD Cert.AdamSmallBRefIdeal.τ).loc Cert.AdamSmallBRefIdeal.main_arg0)
      ∧ r.2.mem ((c.tc : Thread Cert.AdamSmallBRefIdeal.nD Cert.AdamSmallBRefIdeal.τ).loc Cert.AdamSmallBRefIdeal.main_arg1) = m ((c.tc : Thread Cert.AdamSmallBRefIdeal.nD Cert.AdamSmallBRefIdeal.τ).loc Cert.AdamSmallBRefIdeal.main_arg1)
      ∧ r.2.mem ((c.tc : Thread Cert.AdamSmallBRefIdeal.nD Cert.AdamSmallBRefIdeal.τ).loc Cert.AdamSmallBRefIdeal.main_arg2) = m ((c.tc : Thread Cert.AdamSmallBRefIdeal.nD Cert.AdamSmallBRefIdeal.τ).loc Cert.AdamSmallBRefIdeal.main_arg2)
      ∧ r.2.mem ((c.tc : Thread Cert.AdamSmallBRefIdeal.nD Cert.AdamSmallBRefIdeal.τ).loc Cert.AdamSmallBRefIdeal.main_arg3) = m ((c.tc : Thread Cert.AdamSmallBRefIdeal.nD Cert.AdamSmallBRefIdeal.τ).loc Cert.AdamSmallBRefIdeal.main_arg3)
      ∧ r.2.mem ((c.tc : Thread Cert.AdamSmallBRefIdeal.nD Cert.AdamSmallBRefIdeal.τ).loc Cert.AdamSmallBRefIdeal.main_arg4) = m ((c.tc : Thread Cert.AdamSmallBRefIdeal.nD Cert.AdamSmallBRefIdeal.τ).loc Cert.AdamSmallBRefIdeal.main_arg4)
      ∧ r.2.mem ((c.tc : Thread Cert.AdamSmallBRefIdeal.nD Cert.AdamSmallBRefIdeal.τ).loc Cert.AdamSmallBRefIdeal.main_arg5) = m ((c.tc : Thread Cert.AdamSmallBRefIdeal.nD Cert.AdamSmallBRefIdeal.τ).loc Cert.AdamSmallBRefIdeal.main_arg5)
      ∧ r.2.mem ((c.tc : Thread Cert.AdamSmallBRefIdeal.nD Cert.AdamSmallBRefIdeal.τ).loc Cert.AdamSmallBRefIdeal.main_arg6) = m ((c.tc : Thread Cert.AdamSmallBRefIdeal.nD Cert.AdamSmallBRefIdeal.τ).loc Cert.AdamSmallBRefIdeal.main_arg6)
      ∧ r.2.mem ((c.tc : Thread Cert.AdamSmallBRefIdeal.nD Cert.AdamSmallBRefIdeal.τ).loc Cert.AdamSmallBRefIdeal.main_arg7) = m ((c.tc : Thread Cert.AdamSmallBRefIdeal.nD Cert.AdamSmallBRefIdeal.τ).loc Cert.AdamSmallBRefIdeal.main_arg7)
      ∧ r.2.mem ((c.tc : Thread Cert.AdamSmallBRefIdeal.nD Cert.AdamSmallBRefIdeal.τ).loc Cert.AdamSmallBRefIdeal.main_arg8) = m ((c.tc : Thread Cert.AdamSmallBRefIdeal.nD Cert.AdamSmallBRefIdeal.τ).loc Cert.AdamSmallBRefIdeal.main_arg8)
      ∧ r.2.mem ((c.tc : Thread Cert.AdamSmallBRefIdeal.nD Cert.AdamSmallBRefIdeal.τ).loc Cert.AdamSmallBRefIdeal.main_arg9) = m ((c.tc : Thread Cert.AdamSmallBRefIdeal.nD Cert.AdamSmallBRefIdeal.τ).loc Cert.AdamSmallBRefIdeal.main_arg9)
      ∧ r.2.mem ((c.tc : Thread Cert.AdamSmallBRefIdeal.nD Cert.AdamSmallBRefIdeal.τ).loc Cert.AdamSmallBRefIdeal.main_arg10) = m ((c.tc : Thread Cert.AdamSmallBRefIdeal.nD Cert.AdamSmallBRefIdeal.τ).loc Cert.AdamSmallBRefIdeal.main_arg10)
      ∧ r.2.mem ((c.tc : Thread Cert.AdamSmallBRefIdeal.nD Cert.AdamSmallBRefIdeal.τ).loc Cert.AdamSmallBRefIdeal.main_arg11) = m ((c.tc : Thread Cert.AdamSmallBRefIdeal.nD Cert.AdamSmallBRefIdeal.τ).loc Cert.AdamSmallBRefIdeal.main_arg11))
      ∧ r.2.sem = fun _ => 0)

def quiescent_AdamSmallC [hAdamSmallC : Cert.AdamSmallC.Facts] : Prop :=
  ∀ (m : (ℓ : Loc Cert.AdamSmallC.nD Cert.AdamSmallC.τ Cert.AdamSmallC.sig) → Buf (Elt Bits) ℓ) (g : Dev Cert.AdamSmallC.nD → PrngReg), Pre_AdamSmallC m →
    θ_run (Cert.AdamSmallC.defs (F := Bits)) (onTc (τ := Cert.AdamSmallC.τ) (Cert.AdamSmallC.main (F := Bits))) ⟨m, fun _ => 0, g⟩ (fun r => (∀ c : Dev Cert.AdamSmallC.nD,
      r.2.mem ((c.tc : Thread Cert.AdamSmallC.nD Cert.AdamSmallC.τ).loc Cert.AdamSmallC.main_arg0) = m ((c.tc : Thread Cert.AdamSmallC.nD Cert.AdamSmallC.τ).loc Cert.AdamSmallC.main_arg0)
      ∧ r.2.mem ((c.tc : Thread Cert.AdamSmallC.nD Cert.AdamSmallC.τ).loc Cert.AdamSmallC.main_arg1) = m ((c.tc : Thread Cert.AdamSmallC.nD Cert.AdamSmallC.τ).loc Cert.AdamSmallC.main_arg1)
      ∧ r.2.mem ((c.tc : Thread Cert.AdamSmallC.nD Cert.AdamSmallC.τ).loc Cert.AdamSmallC.main_arg2) = m ((c.tc : Thread Cert.AdamSmallC.nD Cert.AdamSmallC.τ).loc Cert.AdamSmallC.main_arg2)
      ∧ r.2.mem ((c.tc : Thread Cert.AdamSmallC.nD Cert.AdamSmallC.τ).loc Cert.AdamSmallC.main_arg3) = m ((c.tc : Thread Cert.AdamSmallC.nD Cert.AdamSmallC.τ).loc Cert.AdamSmallC.main_arg3)
      ∧ r.2.mem ((c.tc : Thread Cert.AdamSmallC.nD Cert.AdamSmallC.τ).loc Cert.AdamSmallC.main_arg4) = m ((c.tc : Thread Cert.AdamSmallC.nD Cert.AdamSmallC.τ).loc Cert.AdamSmallC.main_arg4)
      ∧ r.2.mem ((c.tc : Thread Cert.AdamSmallC.nD Cert.AdamSmallC.τ).loc Cert.AdamSmallC.main_arg5) = m ((c.tc : Thread Cert.AdamSmallC.nD Cert.AdamSmallC.τ).loc Cert.AdamSmallC.main_arg5)
      ∧ r.2.mem ((c.tc : Thread Cert.AdamSmallC.nD Cert.AdamSmallC.τ).loc Cert.AdamSmallC.main_arg6) = m ((c.tc : Thread Cert.AdamSmallC.nD Cert.AdamSmallC.τ).loc Cert.AdamSmallC.main_arg6)
      ∧ r.2.mem ((c.tc : Thread Cert.AdamSmallC.nD Cert.AdamSmallC.τ).loc Cert.AdamSmallC.main_arg7) = m ((c.tc : Thread Cert.AdamSmallC.nD Cert.AdamSmallC.τ).loc Cert.AdamSmallC.main_arg7)
      ∧ r.2.mem ((c.tc : Thread Cert.AdamSmallC.nD Cert.AdamSmallC.τ).loc Cert.AdamSmallC.main_arg8) = m ((c.tc : Thread Cert.AdamSmallC.nD Cert.AdamSmallC.τ).loc Cert.AdamSmallC.main_arg8)
      ∧ r.2.mem ((c.tc : Thread Cert.AdamSmallC.nD Cert.AdamSmallC.τ).loc Cert.AdamSmallC.main_arg9) = m ((c.tc : Thread Cert.AdamSmallC.nD Cert.AdamSmallC.τ).loc Cert.AdamSmallC.main_arg9)
      ∧ r.2.mem ((c.tc : Thread Cert.AdamSmallC.nD Cert.AdamSmallC.τ).loc Cert.AdamSmallC.main_arg10) = m ((c.tc : Thread Cert.AdamSmallC.nD Cert.AdamSmallC.τ).loc Cert.AdamSmallC.main_arg10)
      ∧ r.2.mem ((c.tc : Thread Cert.AdamSmallC.nD Cert.AdamSmallC.τ).loc Cert.AdamSmallC.main_arg11) = m ((c.tc : Thread Cert.AdamSmallC.nD Cert.AdamSmallC.τ).loc Cert.AdamSmallC.main_arg11))
      ∧ r.2.sem = fun _ => 0)

def quiescent_AdamSmallCIdeal [hAdamSmallCIdeal : Cert.AdamSmallCIdeal.Facts] : Prop :=
  ∀ (m : (ℓ : Loc Cert.AdamSmallCIdeal.nD Cert.AdamSmallCIdeal.τ Cert.AdamSmallCIdeal.sig) → Buf (Elt Ideal) ℓ) (g : Dev Cert.AdamSmallCIdeal.nD → PrngReg), Pre_AdamSmallCIdeal m →
    θ_run (Cert.AdamSmallCIdeal.defs (F := Ideal)) (onTc (τ := Cert.AdamSmallCIdeal.τ) (Cert.AdamSmallCIdeal.main (F := Ideal))) ⟨m, fun _ => 0, g⟩ (fun r => (∀ c : Dev Cert.AdamSmallCIdeal.nD,
      r.2.mem ((c.tc : Thread Cert.AdamSmallCIdeal.nD Cert.AdamSmallCIdeal.τ).loc Cert.AdamSmallCIdeal.main_arg0) = m ((c.tc : Thread Cert.AdamSmallCIdeal.nD Cert.AdamSmallCIdeal.τ).loc Cert.AdamSmallCIdeal.main_arg0)
      ∧ r.2.mem ((c.tc : Thread Cert.AdamSmallCIdeal.nD Cert.AdamSmallCIdeal.τ).loc Cert.AdamSmallCIdeal.main_arg1) = m ((c.tc : Thread Cert.AdamSmallCIdeal.nD Cert.AdamSmallCIdeal.τ).loc Cert.AdamSmallCIdeal.main_arg1)
      ∧ r.2.mem ((c.tc : Thread Cert.AdamSmallCIdeal.nD Cert.AdamSmallCIdeal.τ).loc Cert.AdamSmallCIdeal.main_arg2) = m ((c.tc : Thread Cert.AdamSmallCIdeal.nD Cert.AdamSmallCIdeal.τ).loc Cert.AdamSmallCIdeal.main_arg2)
      ∧ r.2.mem ((c.tc : Thread Cert.AdamSmallCIdeal.nD Cert.AdamSmallCIdeal.τ).loc Cert.AdamSmallCIdeal.main_arg3) = m ((c.tc : Thread Cert.AdamSmallCIdeal.nD Cert.AdamSmallCIdeal.τ).loc Cert.AdamSmallCIdeal.main_arg3)
      ∧ r.2.mem ((c.tc : Thread Cert.AdamSmallCIdeal.nD Cert.AdamSmallCIdeal.τ).loc Cert.AdamSmallCIdeal.main_arg4) = m ((c.tc : Thread Cert.AdamSmallCIdeal.nD Cert.AdamSmallCIdeal.τ).loc Cert.AdamSmallCIdeal.main_arg4)
      ∧ r.2.mem ((c.tc : Thread Cert.AdamSmallCIdeal.nD Cert.AdamSmallCIdeal.τ).loc Cert.AdamSmallCIdeal.main_arg5) = m ((c.tc : Thread Cert.AdamSmallCIdeal.nD Cert.AdamSmallCIdeal.τ).loc Cert.AdamSmallCIdeal.main_arg5)
      ∧ r.2.mem ((c.tc : Thread Cert.AdamSmallCIdeal.nD Cert.AdamSmallCIdeal.τ).loc Cert.AdamSmallCIdeal.main_arg6) = m ((c.tc : Thread Cert.AdamSmallCIdeal.nD Cert.AdamSmallCIdeal.τ).loc Cert.AdamSmallCIdeal.main_arg6)
      ∧ r.2.mem ((c.tc : Thread Cert.AdamSmallCIdeal.nD Cert.AdamSmallCIdeal.τ).loc Cert.AdamSmallCIdeal.main_arg7) = m ((c.tc : Thread Cert.AdamSmallCIdeal.nD Cert.AdamSmallCIdeal.τ).loc Cert.AdamSmallCIdeal.main_arg7)
      ∧ r.2.mem ((c.tc : Thread Cert.AdamSmallCIdeal.nD Cert.AdamSmallCIdeal.τ).loc Cert.AdamSmallCIdeal.main_arg8) = m ((c.tc : Thread Cert.AdamSmallCIdeal.nD Cert.AdamSmallCIdeal.τ).loc Cert.AdamSmallCIdeal.main_arg8)
      ∧ r.2.mem ((c.tc : Thread Cert.AdamSmallCIdeal.nD Cert.AdamSmallCIdeal.τ).loc Cert.AdamSmallCIdeal.main_arg9) = m ((c.tc : Thread Cert.AdamSmallCIdeal.nD Cert.AdamSmallCIdeal.τ).loc Cert.AdamSmallCIdeal.main_arg9)
      ∧ r.2.mem ((c.tc : Thread Cert.AdamSmallCIdeal.nD Cert.AdamSmallCIdeal.τ).loc Cert.AdamSmallCIdeal.main_arg10) = m ((c.tc : Thread Cert.AdamSmallCIdeal.nD Cert.AdamSmallCIdeal.τ).loc Cert.AdamSmallCIdeal.main_arg10)
      ∧ r.2.mem ((c.tc : Thread Cert.AdamSmallCIdeal.nD Cert.AdamSmallCIdeal.τ).loc Cert.AdamSmallCIdeal.main_arg11) = m ((c.tc : Thread Cert.AdamSmallCIdeal.nD Cert.AdamSmallCIdeal.τ).loc Cert.AdamSmallCIdeal.main_arg11))
      ∧ r.2.sem = fun _ => 0)

def quiescent_AdamSmallCRefIdeal [hAdamSmallCRefIdeal : Cert.AdamSmallCRefIdeal.Facts] : Prop :=
  ∀ (m : (ℓ : Loc Cert.AdamSmallCRefIdeal.nD Cert.AdamSmallCRefIdeal.τ Cert.AdamSmallCRefIdeal.sig) → Buf (Elt Ideal) ℓ) (g : Dev Cert.AdamSmallCRefIdeal.nD → PrngReg), Pre_AdamSmallCRefIdeal m →
    θ_run (Cert.AdamSmallCRefIdeal.defs (F := Ideal)) (onTc (τ := Cert.AdamSmallCRefIdeal.τ) (Cert.AdamSmallCRefIdeal.main (F := Ideal))) ⟨m, fun _ => 0, g⟩ (fun r => (∀ c : Dev Cert.AdamSmallCRefIdeal.nD,
      r.2.mem ((c.tc : Thread Cert.AdamSmallCRefIdeal.nD Cert.AdamSmallCRefIdeal.τ).loc Cert.AdamSmallCRefIdeal.main_arg0) = m ((c.tc : Thread Cert.AdamSmallCRefIdeal.nD Cert.AdamSmallCRefIdeal.τ).loc Cert.AdamSmallCRefIdeal.main_arg0)
      ∧ r.2.mem ((c.tc : Thread Cert.AdamSmallCRefIdeal.nD Cert.AdamSmallCRefIdeal.τ).loc Cert.AdamSmallCRefIdeal.main_arg1) = m ((c.tc : Thread Cert.AdamSmallCRefIdeal.nD Cert.AdamSmallCRefIdeal.τ).loc Cert.AdamSmallCRefIdeal.main_arg1)
      ∧ r.2.mem ((c.tc : Thread Cert.AdamSmallCRefIdeal.nD Cert.AdamSmallCRefIdeal.τ).loc Cert.AdamSmallCRefIdeal.main_arg2) = m ((c.tc : Thread Cert.AdamSmallCRefIdeal.nD Cert.AdamSmallCRefIdeal.τ).loc Cert.AdamSmallCRefIdeal.main_arg2)
      ∧ r.2.mem ((c.tc : Thread Cert.AdamSmallCRefIdeal.nD Cert.AdamSmallCRefIdeal.τ).loc Cert.AdamSmallCRefIdeal.main_arg3) = m ((c.tc : Thread Cert.AdamSmallCRefIdeal.nD Cert.AdamSmallCRefIdeal.τ).loc Cert.AdamSmallCRefIdeal.main_arg3)
      ∧ r.2.mem ((c.tc : Thread Cert.AdamSmallCRefIdeal.nD Cert.AdamSmallCRefIdeal.τ).loc Cert.AdamSmallCRefIdeal.main_arg4) = m ((c.tc : Thread Cert.AdamSmallCRefIdeal.nD Cert.AdamSmallCRefIdeal.τ).loc Cert.AdamSmallCRefIdeal.main_arg4)
      ∧ r.2.mem ((c.tc : Thread Cert.AdamSmallCRefIdeal.nD Cert.AdamSmallCRefIdeal.τ).loc Cert.AdamSmallCRefIdeal.main_arg5) = m ((c.tc : Thread Cert.AdamSmallCRefIdeal.nD Cert.AdamSmallCRefIdeal.τ).loc Cert.AdamSmallCRefIdeal.main_arg5)
      ∧ r.2.mem ((c.tc : Thread Cert.AdamSmallCRefIdeal.nD Cert.AdamSmallCRefIdeal.τ).loc Cert.AdamSmallCRefIdeal.main_arg6) = m ((c.tc : Thread Cert.AdamSmallCRefIdeal.nD Cert.AdamSmallCRefIdeal.τ).loc Cert.AdamSmallCRefIdeal.main_arg6)
      ∧ r.2.mem ((c.tc : Thread Cert.AdamSmallCRefIdeal.nD Cert.AdamSmallCRefIdeal.τ).loc Cert.AdamSmallCRefIdeal.main_arg7) = m ((c.tc : Thread Cert.AdamSmallCRefIdeal.nD Cert.AdamSmallCRefIdeal.τ).loc Cert.AdamSmallCRefIdeal.main_arg7)
      ∧ r.2.mem ((c.tc : Thread Cert.AdamSmallCRefIdeal.nD Cert.AdamSmallCRefIdeal.τ).loc Cert.AdamSmallCRefIdeal.main_arg8) = m ((c.tc : Thread Cert.AdamSmallCRefIdeal.nD Cert.AdamSmallCRefIdeal.τ).loc Cert.AdamSmallCRefIdeal.main_arg8)
      ∧ r.2.mem ((c.tc : Thread Cert.AdamSmallCRefIdeal.nD Cert.AdamSmallCRefIdeal.τ).loc Cert.AdamSmallCRefIdeal.main_arg9) = m ((c.tc : Thread Cert.AdamSmallCRefIdeal.nD Cert.AdamSmallCRefIdeal.τ).loc Cert.AdamSmallCRefIdeal.main_arg9)
      ∧ r.2.mem ((c.tc : Thread Cert.AdamSmallCRefIdeal.nD Cert.AdamSmallCRefIdeal.τ).loc Cert.AdamSmallCRefIdeal.main_arg10) = m ((c.tc : Thread Cert.AdamSmallCRefIdeal.nD Cert.AdamSmallCRefIdeal.τ).loc Cert.AdamSmallCRefIdeal.main_arg10)
      ∧ r.2.mem ((c.tc : Thread Cert.AdamSmallCRefIdeal.nD Cert.AdamSmallCRefIdeal.τ).loc Cert.AdamSmallCRefIdeal.main_arg11) = m ((c.tc : Thread Cert.AdamSmallCRefIdeal.nD Cert.AdamSmallCRefIdeal.τ).loc Cert.AdamSmallCRefIdeal.main_arg11))
      ∧ r.2.sem = fun _ => 0)

def quiescent_AdamSmallD [hAdamSmallD : Cert.AdamSmallD.Facts] : Prop :=
  ∀ (m : (ℓ : Loc Cert.AdamSmallD.nD Cert.AdamSmallD.τ Cert.AdamSmallD.sig) → Buf (Elt Bits) ℓ) (g : Dev Cert.AdamSmallD.nD → PrngReg), Pre_AdamSmallD m →
    θ_run (Cert.AdamSmallD.defs (F := Bits)) (onTc (τ := Cert.AdamSmallD.τ) (Cert.AdamSmallD.main (F := Bits))) ⟨m, fun _ => 0, g⟩ (fun r => (∀ c : Dev Cert.AdamSmallD.nD,
      r.2.mem ((c.tc : Thread Cert.AdamSmallD.nD Cert.AdamSmallD.τ).loc Cert.AdamSmallD.main_arg0) = m ((c.tc : Thread Cert.AdamSmallD.nD Cert.AdamSmallD.τ).loc Cert.AdamSmallD.main_arg0)
      ∧ r.2.mem ((c.tc : Thread Cert.AdamSmallD.nD Cert.AdamSmallD.τ).loc Cert.AdamSmallD.main_arg1) = m ((c.tc : Thread Cert.AdamSmallD.nD Cert.AdamSmallD.τ).loc Cert.AdamSmallD.main_arg1)
      ∧ r.2.mem ((c.tc : Thread Cert.AdamSmallD.nD Cert.AdamSmallD.τ).loc Cert.AdamSmallD.main_arg2) = m ((c.tc : Thread Cert.AdamSmallD.nD Cert.AdamSmallD.τ).loc Cert.AdamSmallD.main_arg2)
      ∧ r.2.mem ((c.tc : Thread Cert.AdamSmallD.nD Cert.AdamSmallD.τ).loc Cert.AdamSmallD.main_arg3) = m ((c.tc : Thread Cert.AdamSmallD.nD Cert.AdamSmallD.τ).loc Cert.AdamSmallD.main_arg3)
      ∧ r.2.mem ((c.tc : Thread Cert.AdamSmallD.nD Cert.AdamSmallD.τ).loc Cert.AdamSmallD.main_arg4) = m ((c.tc : Thread Cert.AdamSmallD.nD Cert.AdamSmallD.τ).loc Cert.AdamSmallD.main_arg4)
      ∧ r.2.mem ((c.tc : Thread Cert.AdamSmallD.nD Cert.AdamSmallD.τ).loc Cert.AdamSmallD.main_arg5) = m ((c.tc : Thread Cert.AdamSmallD.nD Cert.AdamSmallD.τ).loc Cert.AdamSmallD.main_arg5)
      ∧ r.2.mem ((c.tc : Thread Cert.AdamSmallD.nD Cert.AdamSmallD.τ).loc Cert.AdamSmallD.main_arg6) = m ((c.tc : Thread Cert.AdamSmallD.nD Cert.AdamSmallD.τ).loc Cert.AdamSmallD.main_arg6)
      ∧ r.2.mem ((c.tc : Thread Cert.AdamSmallD.nD Cert.AdamSmallD.τ).loc Cert.AdamSmallD.main_arg7) = m ((c.tc : Thread Cert.AdamSmallD.nD Cert.AdamSmallD.τ).loc Cert.AdamSmallD.main_arg7)
      ∧ r.2.mem ((c.tc : Thread Cert.AdamSmallD.nD Cert.AdamSmallD.τ).loc Cert.AdamSmallD.main_arg8) = m ((c.tc : Thread Cert.AdamSmallD.nD Cert.AdamSmallD.τ).loc Cert.AdamSmallD.main_arg8)
      ∧ r.2.mem ((c.tc : Thread Cert.AdamSmallD.nD Cert.AdamSmallD.τ).loc Cert.AdamSmallD.main_arg9) = m ((c.tc : Thread Cert.AdamSmallD.nD Cert.AdamSmallD.τ).loc Cert.AdamSmallD.main_arg9)
      ∧ r.2.mem ((c.tc : Thread Cert.AdamSmallD.nD Cert.AdamSmallD.τ).loc Cert.AdamSmallD.main_arg10) = m ((c.tc : Thread Cert.AdamSmallD.nD Cert.AdamSmallD.τ).loc Cert.AdamSmallD.main_arg10)
      ∧ r.2.mem ((c.tc : Thread Cert.AdamSmallD.nD Cert.AdamSmallD.τ).loc Cert.AdamSmallD.main_arg11) = m ((c.tc : Thread Cert.AdamSmallD.nD Cert.AdamSmallD.τ).loc Cert.AdamSmallD.main_arg11))
      ∧ r.2.sem = fun _ => 0)

def quiescent_AdamSmallDIdeal [hAdamSmallDIdeal : Cert.AdamSmallDIdeal.Facts] : Prop :=
  ∀ (m : (ℓ : Loc Cert.AdamSmallDIdeal.nD Cert.AdamSmallDIdeal.τ Cert.AdamSmallDIdeal.sig) → Buf (Elt Ideal) ℓ) (g : Dev Cert.AdamSmallDIdeal.nD → PrngReg), Pre_AdamSmallDIdeal m →
    θ_run (Cert.AdamSmallDIdeal.defs (F := Ideal)) (onTc (τ := Cert.AdamSmallDIdeal.τ) (Cert.AdamSmallDIdeal.main (F := Ideal))) ⟨m, fun _ => 0, g⟩ (fun r => (∀ c : Dev Cert.AdamSmallDIdeal.nD,
      r.2.mem ((c.tc : Thread Cert.AdamSmallDIdeal.nD Cert.AdamSmallDIdeal.τ).loc Cert.AdamSmallDIdeal.main_arg0) = m ((c.tc : Thread Cert.AdamSmallDIdeal.nD Cert.AdamSmallDIdeal.τ).loc Cert.AdamSmallDIdeal.main_arg0)
      ∧ r.2.mem ((c.tc : Thread Cert.AdamSmallDIdeal.nD Cert.AdamSmallDIdeal.τ).loc Cert.AdamSmallDIdeal.main_arg1) = m ((c.tc : Thread Cert.AdamSmallDIdeal.nD Cert.AdamSmallDIdeal.τ).loc Cert.AdamSmallDIdeal.main_arg1)
      ∧ r.2.mem ((c.tc : Thread Cert.AdamSmallDIdeal.nD Cert.AdamSmallDIdeal.τ).loc Cert.AdamSmallDIdeal.main_arg2) = m ((c.tc : Thread Cert.AdamSmallDIdeal.nD Cert.AdamSmallDIdeal.τ).loc Cert.AdamSmallDIdeal.main_arg2)
      ∧ r.2.mem ((c.tc : Thread Cert.AdamSmallDIdeal.nD Cert.AdamSmallDIdeal.τ).loc Cert.AdamSmallDIdeal.main_arg3) = m ((c.tc : Thread Cert.AdamSmallDIdeal.nD Cert.AdamSmallDIdeal.τ).loc Cert.AdamSmallDIdeal.main_arg3)
      ∧ r.2.mem ((c.tc : Thread Cert.AdamSmallDIdeal.nD Cert.AdamSmallDIdeal.τ).loc Cert.AdamSmallDIdeal.main_arg4) = m ((c.tc : Thread Cert.AdamSmallDIdeal.nD Cert.AdamSmallDIdeal.τ).loc Cert.AdamSmallDIdeal.main_arg4)
      ∧ r.2.mem ((c.tc : Thread Cert.AdamSmallDIdeal.nD Cert.AdamSmallDIdeal.τ).loc Cert.AdamSmallDIdeal.main_arg5) = m ((c.tc : Thread Cert.AdamSmallDIdeal.nD Cert.AdamSmallDIdeal.τ).loc Cert.AdamSmallDIdeal.main_arg5)
      ∧ r.2.mem ((c.tc : Thread Cert.AdamSmallDIdeal.nD Cert.AdamSmallDIdeal.τ).loc Cert.AdamSmallDIdeal.main_arg6) = m ((c.tc : Thread Cert.AdamSmallDIdeal.nD Cert.AdamSmallDIdeal.τ).loc Cert.AdamSmallDIdeal.main_arg6)
      ∧ r.2.mem ((c.tc : Thread Cert.AdamSmallDIdeal.nD Cert.AdamSmallDIdeal.τ).loc Cert.AdamSmallDIdeal.main_arg7) = m ((c.tc : Thread Cert.AdamSmallDIdeal.nD Cert.AdamSmallDIdeal.τ).loc Cert.AdamSmallDIdeal.main_arg7)
      ∧ r.2.mem ((c.tc : Thread Cert.AdamSmallDIdeal.nD Cert.AdamSmallDIdeal.τ).loc Cert.AdamSmallDIdeal.main_arg8) = m ((c.tc : Thread Cert.AdamSmallDIdeal.nD Cert.AdamSmallDIdeal.τ).loc Cert.AdamSmallDIdeal.main_arg8)
      ∧ r.2.mem ((c.tc : Thread Cert.AdamSmallDIdeal.nD Cert.AdamSmallDIdeal.τ).loc Cert.AdamSmallDIdeal.main_arg9) = m ((c.tc : Thread Cert.AdamSmallDIdeal.nD Cert.AdamSmallDIdeal.τ).loc Cert.AdamSmallDIdeal.main_arg9)
      ∧ r.2.mem ((c.tc : Thread Cert.AdamSmallDIdeal.nD Cert.AdamSmallDIdeal.τ).loc Cert.AdamSmallDIdeal.main_arg10) = m ((c.tc : Thread Cert.AdamSmallDIdeal.nD Cert.AdamSmallDIdeal.τ).loc Cert.AdamSmallDIdeal.main_arg10)
      ∧ r.2.mem ((c.tc : Thread Cert.AdamSmallDIdeal.nD Cert.AdamSmallDIdeal.τ).loc Cert.AdamSmallDIdeal.main_arg11) = m ((c.tc : Thread Cert.AdamSmallDIdeal.nD Cert.AdamSmallDIdeal.τ).loc Cert.AdamSmallDIdeal.main_arg11))
      ∧ r.2.sem = fun _ => 0)

def quiescent_AdamSmallDRefIdeal [hAdamSmallDRefIdeal : Cert.AdamSmallDRefIdeal.Facts] : Prop :=
  ∀ (m : (ℓ : Loc Cert.AdamSmallDRefIdeal.nD Cert.AdamSmallDRefIdeal.τ Cert.AdamSmallDRefIdeal.sig) → Buf (Elt Ideal) ℓ) (g : Dev Cert.AdamSmallDRefIdeal.nD → PrngReg), Pre_AdamSmallDRefIdeal m →
    θ_run (Cert.AdamSmallDRefIdeal.defs (F := Ideal)) (onTc (τ := Cert.AdamSmallDRefIdeal.τ) (Cert.AdamSmallDRefIdeal.main (F := Ideal))) ⟨m, fun _ => 0, g⟩ (fun r => (∀ c : Dev Cert.AdamSmallDRefIdeal.nD,
      r.2.mem ((c.tc : Thread Cert.AdamSmallDRefIdeal.nD Cert.AdamSmallDRefIdeal.τ).loc Cert.AdamSmallDRefIdeal.main_arg0) = m ((c.tc : Thread Cert.AdamSmallDRefIdeal.nD Cert.AdamSmallDRefIdeal.τ).loc Cert.AdamSmallDRefIdeal.main_arg0)
      ∧ r.2.mem ((c.tc : Thread Cert.AdamSmallDRefIdeal.nD Cert.AdamSmallDRefIdeal.τ).loc Cert.AdamSmallDRefIdeal.main_arg1) = m ((c.tc : Thread Cert.AdamSmallDRefIdeal.nD Cert.AdamSmallDRefIdeal.τ).loc Cert.AdamSmallDRefIdeal.main_arg1)
      ∧ r.2.mem ((c.tc : Thread Cert.AdamSmallDRefIdeal.nD Cert.AdamSmallDRefIdeal.τ).loc Cert.AdamSmallDRefIdeal.main_arg2) = m ((c.tc : Thread Cert.AdamSmallDRefIdeal.nD Cert.AdamSmallDRefIdeal.τ).loc Cert.AdamSmallDRefIdeal.main_arg2)
      ∧ r.2.mem ((c.tc : Thread Cert.AdamSmallDRefIdeal.nD Cert.AdamSmallDRefIdeal.τ).loc Cert.AdamSmallDRefIdeal.main_arg3) = m ((c.tc : Thread Cert.AdamSmallDRefIdeal.nD Cert.AdamSmallDRefIdeal.τ).loc Cert.AdamSmallDRefIdeal.main_arg3)
      ∧ r.2.mem ((c.tc : Thread Cert.AdamSmallDRefIdeal.nD Cert.AdamSmallDRefIdeal.τ).loc Cert.AdamSmallDRefIdeal.main_arg4) = m ((c.tc : Thread Cert.AdamSmallDRefIdeal.nD Cert.AdamSmallDRefIdeal.τ).loc Cert.AdamSmallDRefIdeal.main_arg4)
      ∧ r.2.mem ((c.tc : Thread Cert.AdamSmallDRefIdeal.nD Cert.AdamSmallDRefIdeal.τ).loc Cert.AdamSmallDRefIdeal.main_arg5) = m ((c.tc : Thread Cert.AdamSmallDRefIdeal.nD Cert.AdamSmallDRefIdeal.τ).loc Cert.AdamSmallDRefIdeal.main_arg5)
      ∧ r.2.mem ((c.tc : Thread Cert.AdamSmallDRefIdeal.nD Cert.AdamSmallDRefIdeal.τ).loc Cert.AdamSmallDRefIdeal.main_arg6) = m ((c.tc : Thread Cert.AdamSmallDRefIdeal.nD Cert.AdamSmallDRefIdeal.τ).loc Cert.AdamSmallDRefIdeal.main_arg6)
      ∧ r.2.mem ((c.tc : Thread Cert.AdamSmallDRefIdeal.nD Cert.AdamSmallDRefIdeal.τ).loc Cert.AdamSmallDRefIdeal.main_arg7) = m ((c.tc : Thread Cert.AdamSmallDRefIdeal.nD Cert.AdamSmallDRefIdeal.τ).loc Cert.AdamSmallDRefIdeal.main_arg7)
      ∧ r.2.mem ((c.tc : Thread Cert.AdamSmallDRefIdeal.nD Cert.AdamSmallDRefIdeal.τ).loc Cert.AdamSmallDRefIdeal.main_arg8) = m ((c.tc : Thread Cert.AdamSmallDRefIdeal.nD Cert.AdamSmallDRefIdeal.τ).loc Cert.AdamSmallDRefIdeal.main_arg8)
      ∧ r.2.mem ((c.tc : Thread Cert.AdamSmallDRefIdeal.nD Cert.AdamSmallDRefIdeal.τ).loc Cert.AdamSmallDRefIdeal.main_arg9) = m ((c.tc : Thread Cert.AdamSmallDRefIdeal.nD Cert.AdamSmallDRefIdeal.τ).loc Cert.AdamSmallDRefIdeal.main_arg9)
      ∧ r.2.mem ((c.tc : Thread Cert.AdamSmallDRefIdeal.nD Cert.AdamSmallDRefIdeal.τ).loc Cert.AdamSmallDRefIdeal.main_arg10) = m ((c.tc : Thread Cert.AdamSmallDRefIdeal.nD Cert.AdamSmallDRefIdeal.τ).loc Cert.AdamSmallDRefIdeal.main_arg10)
      ∧ r.2.mem ((c.tc : Thread Cert.AdamSmallDRefIdeal.nD Cert.AdamSmallDRefIdeal.τ).loc Cert.AdamSmallDRefIdeal.main_arg11) = m ((c.tc : Thread Cert.AdamSmallDRefIdeal.nD Cert.AdamSmallDRefIdeal.τ).loc Cert.AdamSmallDRefIdeal.main_arg11))
      ∧ r.2.sem = fun _ => 0)

def quiescent_AdamSmallE [hAdamSmallE : Cert.AdamSmallE.Facts] : Prop :=
  ∀ (m : (ℓ : Loc Cert.AdamSmallE.nD Cert.AdamSmallE.τ Cert.AdamSmallE.sig) → Buf (Elt Bits) ℓ) (g : Dev Cert.AdamSmallE.nD → PrngReg), Pre_AdamSmallE m →
    θ_run (Cert.AdamSmallE.defs (F := Bits)) (onTc (τ := Cert.AdamSmallE.τ) (Cert.AdamSmallE.main (F := Bits))) ⟨m, fun _ => 0, g⟩ (fun r => (∀ c : Dev Cert.AdamSmallE.nD,
      r.2.mem ((c.tc : Thread Cert.AdamSmallE.nD Cert.AdamSmallE.τ).loc Cert.AdamSmallE.main_arg0) = m ((c.tc : Thread Cert.AdamSmallE.nD Cert.AdamSmallE.τ).loc Cert.AdamSmallE.main_arg0)
      ∧ r.2.mem ((c.tc : Thread Cert.AdamSmallE.nD Cert.AdamSmallE.τ).loc Cert.AdamSmallE.main_arg1) = m ((c.tc : Thread Cert.AdamSmallE.nD Cert.AdamSmallE.τ).loc Cert.AdamSmallE.main_arg1)
      ∧ r.2.mem ((c.tc : Thread Cert.AdamSmallE.nD Cert.AdamSmallE.τ).loc Cert.AdamSmallE.main_arg2) = m ((c.tc : Thread Cert.AdamSmallE.nD Cert.AdamSmallE.τ).loc Cert.AdamSmallE.main_arg2)
      ∧ r.2.mem ((c.tc : Thread Cert.AdamSmallE.nD Cert.AdamSmallE.τ).loc Cert.AdamSmallE.main_arg3) = m ((c.tc : Thread Cert.AdamSmallE.nD Cert.AdamSmallE.τ).loc Cert.AdamSmallE.main_arg3))
      ∧ r.2.sem = fun _ => 0)

def quiescent_AdamSmallEIdeal [hAdamSmallEIdeal : Cert.AdamSmallEIdeal.Facts] : Prop :=
  ∀ (m : (ℓ : Loc Cert.AdamSmallEIdeal.nD Cert.AdamSmallEIdeal.τ Cert.AdamSmallEIdeal.sig) → Buf (Elt Ideal) ℓ) (g : Dev Cert.AdamSmallEIdeal.nD → PrngReg), Pre_AdamSmallEIdeal m →
    θ_run (Cert.AdamSmallEIdeal.defs (F := Ideal)) (onTc (τ := Cert.AdamSmallEIdeal.τ) (Cert.AdamSmallEIdeal.main (F := Ideal))) ⟨m, fun _ => 0, g⟩ (fun r => (∀ c : Dev Cert.AdamSmallEIdeal.nD,
      r.2.mem ((c.tc : Thread Cert.AdamSmallEIdeal.nD Cert.AdamSmallEIdeal.τ).loc Cert.AdamSmallEIdeal.main_arg0) = m ((c.tc : Thread Cert.AdamSmallEIdeal.nD Cert.AdamSmallEIdeal.τ).loc Cert.AdamSmallEIdeal.main_arg0)
      ∧ r.2.mem ((c.tc : Thread Cert.AdamSmallEIdeal.nD Cert.AdamSmallEIdeal.τ).loc Cert.AdamSmallEIdeal.main_arg1) = m ((c.tc : Thread Cert.AdamSmallEIdeal.nD Cert.AdamSmallEIdeal.τ).loc Cert.AdamSmallEIdeal.main_arg1)
      ∧ r.2.mem ((c.tc : Thread Cert.AdamSmallEIdeal.nD Cert.AdamSmallEIdeal.τ).loc Cert.AdamSmallEIdeal.main_arg2) = m ((c.tc : Thread Cert.AdamSmallEIdeal.nD Cert.AdamSmallEIdeal.τ).loc Cert.AdamSmallEIdeal.main_arg2)
      ∧ r.2.mem ((c.tc : Thread Cert.AdamSmallEIdeal.nD Cert.AdamSmallEIdeal.τ).loc Cert.AdamSmallEIdeal.main_arg3) = m ((c.tc : Thread Cert.AdamSmallEIdeal.nD Cert.AdamSmallEIdeal.τ).loc Cert.AdamSmallEIdeal.main_arg3))
      ∧ r.2.sem = fun _ => 0)

def quiescent_AdamSmallERefIdeal [hAdamSmallERefIdeal : Cert.AdamSmallERefIdeal.Facts] : Prop :=
  ∀ (m : (ℓ : Loc Cert.AdamSmallERefIdeal.nD Cert.AdamSmallERefIdeal.τ Cert.AdamSmallERefIdeal.sig) → Buf (Elt Ideal) ℓ) (g : Dev Cert.AdamSmallERefIdeal.nD → PrngReg), Pre_AdamSmallERefIdeal m →
    θ_run (Cert.AdamSmallERefIdeal.defs (F := Ideal)) (onTc (τ := Cert.AdamSmallERefIdeal.τ) (Cert.AdamSmallERefIdeal.main (F := Ideal))) ⟨m, fun _ => 0, g⟩ (fun r => (∀ c : Dev Cert.AdamSmallERefIdeal.nD,
      r.2.mem ((c.tc : Thread Cert.AdamSmallERefIdeal.nD Cert.AdamSmallERefIdeal.τ).loc Cert.AdamSmallERefIdeal.main_arg0) = m ((c.tc : Thread Cert.AdamSmallERefIdeal.nD Cert.AdamSmallERefIdeal.τ).loc Cert.AdamSmallERefIdeal.main_arg0)
      ∧ r.2.mem ((c.tc : Thread Cert.AdamSmallERefIdeal.nD Cert.AdamSmallERefIdeal.τ).loc Cert.AdamSmallERefIdeal.main_arg1) = m ((c.tc : Thread Cert.AdamSmallERefIdeal.nD Cert.AdamSmallERefIdeal.τ).loc Cert.AdamSmallERefIdeal.main_arg1)
      ∧ r.2.mem ((c.tc : Thread Cert.AdamSmallERefIdeal.nD Cert.AdamSmallERefIdeal.τ).loc Cert.AdamSmallERefIdeal.main_arg2) = m ((c.tc : Thread Cert.AdamSmallERefIdeal.nD Cert.AdamSmallERefIdeal.τ).loc Cert.AdamSmallERefIdeal.main_arg2)
      ∧ r.2.mem ((c.tc : Thread Cert.AdamSmallERefIdeal.nD Cert.AdamSmallERefIdeal.τ).loc Cert.AdamSmallERefIdeal.main_arg3) = m ((c.tc : Thread Cert.AdamSmallERefIdeal.nD Cert.AdamSmallERefIdeal.τ).loc Cert.AdamSmallERefIdeal.main_arg3))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5)
      ∧ r.2.mem ((c.tc : Thread Cert.MixerFwd.nD Cert.MixerFwd.τ).loc Cert.MixerFwd.main_arg6) = m ((c.tc : Thread Cert.MixerFwd.nD Cert.MixerFwd.τ).loc Cert.MixerFwd.main_arg6)
      ∧ r.2.mem ((c.tc : Thread Cert.MixerFwd.nD Cert.MixerFwd.τ).loc Cert.MixerFwd.main_arg7) = m ((c.tc : Thread Cert.MixerFwd.nD Cert.MixerFwd.τ).loc Cert.MixerFwd.main_arg7)
      ∧ r.2.mem ((c.tc : Thread Cert.MixerFwd.nD Cert.MixerFwd.τ).loc Cert.MixerFwd.main_arg8) = m ((c.tc : Thread Cert.MixerFwd.nD Cert.MixerFwd.τ).loc Cert.MixerFwd.main_arg8)
      ∧ r.2.mem ((c.tc : Thread Cert.MixerFwd.nD Cert.MixerFwd.τ).loc Cert.MixerFwd.main_arg9) = m ((c.tc : Thread Cert.MixerFwd.nD Cert.MixerFwd.τ).loc Cert.MixerFwd.main_arg9)
      ∧ r.2.mem ((c.tc : Thread Cert.MixerFwd.nD Cert.MixerFwd.τ).loc Cert.MixerFwd.main_arg10) = m ((c.tc : Thread Cert.MixerFwd.nD Cert.MixerFwd.τ).loc Cert.MixerFwd.main_arg10)
      ∧ r.2.mem ((c.tc : Thread Cert.MixerFwd.nD Cert.MixerFwd.τ).loc Cert.MixerFwd.main_arg11) = m ((c.tc : Thread Cert.MixerFwd.nD Cert.MixerFwd.τ).loc Cert.MixerFwd.main_arg11))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)
      ∧ r.2.mem ((c.tc : Thread Cert.MixerFwdIdeal.nD Cert.MixerFwdIdeal.τ).loc Cert.MixerFwdIdeal.main_arg7) = m ((c.tc : Thread Cert.MixerFwdIdeal.nD Cert.MixerFwdIdeal.τ).loc Cert.MixerFwdIdeal.main_arg7)
      ∧ r.2.mem ((c.tc : Thread Cert.MixerFwdIdeal.nD Cert.MixerFwdIdeal.τ).loc Cert.MixerFwdIdeal.main_arg8) = m ((c.tc : Thread Cert.MixerFwdIdeal.nD Cert.MixerFwdIdeal.τ).loc Cert.MixerFwdIdeal.main_arg8)
      ∧ r.2.mem ((c.tc : Thread Cert.MixerFwdIdeal.nD Cert.MixerFwdIdeal.τ).loc Cert.MixerFwdIdeal.main_arg9) = m ((c.tc : Thread Cert.MixerFwdIdeal.nD Cert.MixerFwdIdeal.τ).loc Cert.MixerFwdIdeal.main_arg9)
      ∧ r.2.mem ((c.tc : Thread Cert.MixerFwdIdeal.nD Cert.MixerFwdIdeal.τ).loc Cert.MixerFwdIdeal.main_arg10) = m ((c.tc : Thread Cert.MixerFwdIdeal.nD Cert.MixerFwdIdeal.τ).loc Cert.MixerFwdIdeal.main_arg10)
      ∧ r.2.mem ((c.tc : Thread Cert.MixerFwdIdeal.nD Cert.MixerFwdIdeal.τ).loc Cert.MixerFwdIdeal.main_arg11) = m ((c.tc : Thread Cert.MixerFwdIdeal.nD Cert.MixerFwdIdeal.τ).loc Cert.MixerFwdIdeal.main_arg11))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5)
      ∧ r.2.mem ((c.tc : Thread Cert.MixerFwdRefIdeal.nD Cert.MixerFwdRefIdeal.τ).loc Cert.MixerFwdRefIdeal.main_arg6) = m ((c.tc : Thread Cert.MixerFwdRefIdeal.nD Cert.MixerFwdRefIdeal.τ).loc Cert.MixerFwdRefIdeal.main_arg6)
      ∧ r.2.mem ((c.tc : Thread Cert.MixerFwdRefIdeal.nD Cert.MixerFwdRefIdeal.τ).loc Cert.MixerFwdRefIdeal.main_arg7) = m ((c.tc : Thread Cert.MixerFwdRefIdeal.nD Cert.MixerFwdRefIdeal.τ).loc Cert.MixerFwdRefIdeal.main_arg7)
      ∧ r.2.mem ((c.tc : Thread Cert.MixerFwdRefIdeal.nD Cert.MixerFwdRefIdeal.τ).loc Cert.MixerFwdRefIdeal.main_arg8) = m ((c.tc : Thread Cert.MixerFwdRefIdeal.nD Cert.MixerFwdRefIdeal.τ).loc Cert.MixerFwdRefIdeal.main_arg8)
      ∧ r.2.mem ((c.tc : Thread Cert.MixerFwdRefIdeal.nD Cert.MixerFwdRefIdeal.τ).loc Cert.MixerFwdRefIdeal.main_arg9) = m ((c.tc : Thread Cert.MixerFwdRefIdeal.nD Cert.MixerFwdRefIdeal.τ).loc Cert.MixerFwdRefIdeal.main_arg9)
      ∧ r.2.mem ((c.tc : Thread Cert.MixerFwdRefIdeal.nD Cert.MixerFwdRefIdeal.τ).loc Cert.MixerFwdRefIdeal.main_arg10) = m ((c.tc : Thread Cert.MixerFwdRefIdeal.nD Cert.MixerFwdRefIdeal.τ).loc Cert.MixerFwdRefIdeal.main_arg10)
      ∧ r.2.mem ((c.tc : Thread Cert.MixerFwdRefIdeal.nD Cert.MixerFwdRefIdeal.τ).loc Cert.MixerFwdRefIdeal.main_arg11) = m ((c.tc : Thread Cert.MixerFwdRefIdeal.nD Cert.MixerFwdRefIdeal.τ).loc Cert.MixerFwdRefIdeal.main_arg11))
      ∧ r.2.sem = fun _ => 0)

def preserves_SwigluBwd_SwigluBwdIdeal : Prop :=
  True

def algebraic_SwigluBwdIdeal_SwigluBwdRefIdeal_pre_finite_swiglu [hSwigluBwdIdeal : Cert.SwigluBwdIdeal.Facts] [hSwigluBwdRefIdeal : Cert.SwigluBwdRefIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_finite_swiglu m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v18) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2))

def preserves_GateUpDx_GateUpDxIdeal : Prop :=
  True

def algebraic_GateUpDxIdeal_GateUpDxRefIdeal_pre_finite_gate_up_dx [hGateUpDxIdeal : Cert.GateUpDxIdeal.Facts] [hGateUpDxRefIdeal : Cert.GateUpDxRefIdeal.Facts] [hPre_finite_gate_up_dx : Cert.Pre_finite_gate_up_dx.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxRefIdeal.nD Cert.GateUpDxRefIdeal.τ Cert.GateUpDxRefIdeal.sig) → Buf (Elt Ideal) ℓ) (g' : Dev Cert.GateUpDxRefIdeal.nD → PrngReg), Pre_GateUpDxIdeal_finite_gate_up_dx m →
    (∀ c : Dev Cert.GateUpDxIdeal.nD,
      m' ((c.tc : Thread Cert.GateUpDxRefIdeal.nD Cert.GateUpDxRefIdeal.τ).loc Cert.GateUpDxRefIdeal.main_arg0) = m ((c.tc : Thread Cert.GateUpDxIdeal.nD Cert.GateUpDxIdeal.τ).loc Cert.GateUpDxIdeal.main_arg0)
      ∧ m' ((c.tc : Thread Cert.GateUpDxRefIdeal.nD Cert.GateUpDxRefIdeal.τ).loc Cert.GateUpDxRefIdeal.main_arg1) = m ((c.tc : Thread Cert.GateUpDxIdeal.nD Cert.GateUpDxIdeal.τ).loc Cert.GateUpDxIdeal.main_arg1)
      ∧ m' ((c.tc : Thread Cert.GateUpDxRefIdeal.nD Cert.GateUpDxRefIdeal.τ).loc Cert.GateUpDxRefIdeal.main_arg2) = m ((c.tc : Thread Cert.GateUpDxIdeal.nD Cert.GateUpDxIdeal.τ).loc Cert.GateUpDxIdeal.main_arg2)
      ∧ m' ((c.tc : Thread Cert.GateUpDxRefIdeal.nD Cert.GateUpDxRefIdeal.τ).loc Cert.GateUpDxRefIdeal.main_arg3) = m ((c.tc : Thread Cert.GateUpDxIdeal.nD Cert.GateUpDxIdeal.τ).loc Cert.GateUpDxIdeal.main_arg3)
      ∧ m' ((c.tc : Thread Cert.GateUpDxRefIdeal.nD Cert.GateUpDxRefIdeal.τ).loc Cert.GateUpDxRefIdeal.main_arg4) = m ((c.tc : Thread Cert.GateUpDxIdeal.nD Cert.GateUpDxIdeal.τ).loc Cert.GateUpDxIdeal.main_arg4)) →
    ∃ (v0 : (c : Dev Cert.GateUpDxIdeal.nD) → Buf (Elt Ideal) ((c.tc : Thread Cert.GateUpDxIdeal.nD Cert.GateUpDxIdeal.τ).loc Cert.GateUpDxIdeal.main_v1_0)) (v1 : (c : Dev Cert.GateUpDxIdeal.nD) → Buf (Elt Ideal) ((c.tc : Thread Cert.GateUpDxIdeal.nD Cert.GateUpDxIdeal.τ).loc Cert.GateUpDxIdeal.main_v1_1)) (v2 : (c : Dev Cert.GateUpDxIdeal.nD) → Buf (Elt Ideal) ((c.tc : Thread Cert.GateUpDxIdeal.nD Cert.GateUpDxIdeal.τ).loc Cert.GateUpDxIdeal.main_v1_2)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v1_0) = v0 c
          ∧ r.2.mem ((c.tc : Thread Cert.GateUpDxIdeal.nD Cert.GateUpDxIdeal.τ).loc Cert.GateUpDxIdeal.main_v1_1) = v1 c
          ∧ r.2.mem ((c.tc : Thread Cert.GateUpDxIdeal.nD Cert.GateUpDxIdeal.τ).loc Cert.GateUpDxIdeal.main_v1_2) = v2 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
          ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
          ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3)
          ∧ r.2.mem ((c.tc : Thread Cert.GateUpDxIdeal.nD Cert.GateUpDxIdeal.τ).loc Cert.GateUpDxIdeal.main_arg4) = m ((c.tc : Thread Cert.GateUpDxIdeal.nD Cert.GateUpDxIdeal.τ).loc Cert.GateUpDxIdeal.main_arg4))
      ∧ θ_run (Cert.GateUpDxRefIdeal.defs (F := Ideal)) (onTc (τ := Cert.GateUpDxRefIdeal.τ) (Cert.GateUpDxRefIdeal.main (F := Ideal))) ⟨m', fun _ => 0, g'⟩ (fun r => ∀ c : Dev Cert.GateUpDxRefIdeal.nD,
          r.2.mem ((c.tc : Thread Cert.GateUpDxRefIdeal.nD Cert.GateUpDxRefIdeal.τ).loc Cert.GateUpDxRefIdeal.main_v49) = v0 c
          ∧ r.2.mem ((c.tc : Thread Cert.GateUpDxRefIdeal.nD Cert.GateUpDxRefIdeal.τ).loc Cert.GateUpDxRefIdeal.main_v50) = v1 c
          ∧ r.2.mem ((c.tc : Thread Cert.GateUpDxRefIdeal.nD Cert.GateUpDxRefIdeal.τ).loc Cert.GateUpDxRefIdeal.main_v51) = v2 c
          ∧ r.2.mem ((c.tc : Thread Cert.GateUpDxRefIdeal.nD Cert.GateUpDxRefIdeal.τ).loc Cert.GateUpDxRefIdeal.main_arg0) = m' ((c.tc : Thread Cert.GateUpDxRefIdeal.nD Cert.GateUpDxRefIdeal.τ).loc Cert.GateUpDxRefIdeal.main_arg0)
          ∧ r.2.mem ((c.tc : Thread Cert.GateUpDxRefIdeal.nD Cert.GateUpDxRefIdeal.τ).loc Cert.GateUpDxRefIdeal.main_arg1) = m' ((c.tc : Thread Cert.GateUpDxRefIdeal.nD Cert.GateUpDxRefIdeal.τ).loc Cert.GateUpDxRefIdeal.main_arg1)
          ∧ r.2.mem ((c.tc : Thread Cert.GateUpDxRefIdeal.nD Cert.GateUpDxRefIdeal.τ).loc Cert.GateUpDxRefIdeal.main_arg2) = m' ((c.tc : Thread Cert.GateUpDxRefIdeal.nD Cert.GateUpDxRefIdeal.τ).loc Cert.GateUpDxRefIdeal.main_arg2)
          ∧ r.2.mem ((c.tc : Thread Cert.GateUpDxRefIdeal.nD Cert.GateUpDxRefIdeal.τ).loc Cert.GateUpDxRefIdeal.main_arg3) = m' ((c.tc : Thread Cert.GateUpDxRefIdeal.nD Cert.GateUpDxRefIdeal.τ).loc Cert.GateUpDxRefIdeal.main_arg3)
          ∧ r.2.mem ((c.tc : Thread Cert.GateUpDxRefIdeal.nD Cert.GateUpDxRefIdeal.τ).loc Cert.GateUpDxRefIdeal.main_arg4) = m' ((c.tc : Thread Cert.GateUpDxRefIdeal.nD Cert.GateUpDxRefIdeal.τ).loc Cert.GateUpDxRefIdeal.main_arg4))

def preserves_InDx_InDxIdeal : Prop :=
  True

def algebraic_InDxIdeal_InDxRefIdeal_pre_finite_in_proj_dx [hInDxIdeal : Cert.InDxIdeal.Facts] [hInDxRefIdeal : Cert.InDxRefIdeal.Facts] [hPre_finite_in_proj_dx : Cert.Pre_finite_in_proj_dx.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_finite_in_proj_dx m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v1_0)) (v1 : (c : Dev Cert.InDxIdeal.nD) → Buf (Elt Ideal) ((c.tc : Thread Cert.InDxIdeal.nD Cert.InDxIdeal.τ).loc Cert.InDxIdeal.main_v1_1)) (v2 : (c : Dev Cert.InDxIdeal.nD) → Buf (Elt Ideal) ((c.tc : Thread Cert.InDxIdeal.nD Cert.InDxIdeal.τ).loc Cert.InDxIdeal.main_v1_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1_0) = v0 c
          ∧ r.2.mem ((c.tc : Thread Cert.InDxIdeal.nD Cert.InDxIdeal.τ).loc Cert.InDxIdeal.main_v1_1) = v1 c
          ∧ r.2.mem ((c.tc : Thread Cert.InDxIdeal.nD Cert.InDxIdeal.τ).loc Cert.InDxIdeal.main_v1_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v41) = v0 c
          ∧ r.2.mem ((c.tc : Thread Cert.InDxRefIdeal.nD Cert.InDxRefIdeal.τ).loc Cert.InDxRefIdeal.main_v42) = v1 c
          ∧ r.2.mem ((c.tc : Thread Cert.InDxRefIdeal.nD Cert.InDxRefIdeal.τ).loc Cert.InDxRefIdeal.main_v43) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_InDxFirst_InDxFirstIdeal : Prop :=
  True

def algebraic_InDxFirstIdeal_InDxFirstRefIdeal_pre_finite_in_proj_dx_first [hInDxFirstIdeal : Cert.InDxFirstIdeal.Facts] [hInDxFirstRefIdeal : Cert.InDxFirstRefIdeal.Facts] [hPre_finite_in_proj_dx_first : Cert.Pre_finite_in_proj_dx_first.Facts] : Prop :=
  ∀ (m : (ℓ : Loc Cert.InDxFirstIdeal.nD Cert.InDxFirstIdeal.τ Cert.InDxFirstIdeal.sig) → Buf (Elt Ideal) ℓ) (g : Dev Cert.InDxFirstIdeal.nD → PrngReg)
    (m' : (ℓ : Loc Cert.InDxFirstRefIdeal.nD Cert.InDxFirstRefIdeal.τ Cert.InDxFirstRefIdeal.sig) → Buf (Elt Ideal) ℓ) (g' : Dev Cert.InDxFirstRefIdeal.nD → PrngReg), Pre_InDxFirstIdeal_finite_in_proj_dx_first m →
    (∀ c : Dev Cert.InDxFirstIdeal.nD,
      m' ((c.tc : Thread Cert.InDxFirstRefIdeal.nD Cert.InDxFirstRefIdeal.τ).loc Cert.InDxFirstRefIdeal.main_arg0) = m ((c.tc : Thread Cert.InDxFirstIdeal.nD Cert.InDxFirstIdeal.τ).loc Cert.InDxFirstIdeal.main_arg0)
      ∧ m' ((c.tc : Thread Cert.InDxFirstRefIdeal.nD Cert.InDxFirstRefIdeal.τ).loc Cert.InDxFirstRefIdeal.main_arg1) = m ((c.tc : Thread Cert.InDxFirstIdeal.nD Cert.InDxFirstIdeal.τ).loc Cert.InDxFirstIdeal.main_arg1)
      ∧ m' ((c.tc : Thread Cert.InDxFirstRefIdeal.nD Cert.InDxFirstRefIdeal.τ).loc Cert.InDxFirstRefIdeal.main_arg2) = m ((c.tc : Thread Cert.InDxFirstIdeal.nD Cert.InDxFirstIdeal.τ).loc Cert.InDxFirstIdeal.main_arg2)
      ∧ m' ((c.tc : Thread Cert.InDxFirstRefIdeal.nD Cert.InDxFirstRefIdeal.τ).loc Cert.InDxFirstRefIdeal.main_arg3) = m ((c.tc : Thread Cert.InDxFirstIdeal.nD Cert.InDxFirstIdeal.τ).loc Cert.InDxFirstIdeal.main_arg3)
      ∧ m' ((c.tc : Thread Cert.InDxFirstRefIdeal.nD Cert.InDxFirstRefIdeal.τ).loc Cert.InDxFirstRefIdeal.main_arg4) = m ((c.tc : Thread Cert.InDxFirstIdeal.nD Cert.InDxFirstIdeal.τ).loc Cert.InDxFirstIdeal.main_arg4)) →
    ∃ (v0 : (c : Dev Cert.InDxFirstIdeal.nD) → Buf (Elt Ideal) ((c.tc : Thread Cert.InDxFirstIdeal.nD Cert.InDxFirstIdeal.τ).loc Cert.InDxFirstIdeal.main_v2)) (v1 : (c : Dev Cert.InDxFirstIdeal.nD) → Buf (Elt Ideal) ((c.tc : Thread Cert.InDxFirstIdeal.nD Cert.InDxFirstIdeal.τ).loc Cert.InDxFirstIdeal.main_v3)) (v2 : (c : Dev Cert.InDxFirstIdeal.nD) → Buf (Elt Ideal) ((c.tc : Thread Cert.InDxFirstIdeal.nD Cert.InDxFirstIdeal.τ).loc Cert.InDxFirstIdeal.main_v1_2)),
      θ_run (Cert.InDxFirstIdeal.defs (F := Ideal)) (onTc (τ := Cert.InDxFirstIdeal.τ) (Cert.InDxFirstIdeal.main (F := Ideal))) ⟨m, fun _ => 0, g⟩ (fun r => ∀ c : Dev Cert.InDxFirstIdeal.nD,
          r.2.mem ((c.tc : Thread Cert.InDxFirstIdeal.nD Cert.InDxFirstIdeal.τ).loc Cert.InDxFirstIdeal.main_v2) = v0 c
          ∧ r.2.mem ((c.tc : Thread Cert.InDxFirstIdeal.nD Cert.InDxFirstIdeal.τ).loc Cert.InDxFirstIdeal.main_v3) = v1 c
          ∧ r.2.mem ((c.tc : Thread Cert.InDxFirstIdeal.nD Cert.InDxFirstIdeal.τ).loc Cert.InDxFirstIdeal.main_v1_2) = v2 c
          ∧ r.2.mem ((c.tc : Thread Cert.InDxFirstIdeal.nD Cert.InDxFirstIdeal.τ).loc Cert.InDxFirstIdeal.main_arg0) = m ((c.tc : Thread Cert.InDxFirstIdeal.nD Cert.InDxFirstIdeal.τ).loc Cert.InDxFirstIdeal.main_arg0)
          ∧ r.2.mem ((c.tc : Thread Cert.InDxFirstIdeal.nD Cert.InDxFirstIdeal.τ).loc Cert.InDxFirstIdeal.main_arg1) = m ((c.tc : Thread Cert.InDxFirstIdeal.nD Cert.InDxFirstIdeal.τ).loc Cert.InDxFirstIdeal.main_arg1)
          ∧ r.2.mem ((c.tc : Thread Cert.InDxFirstIdeal.nD Cert.InDxFirstIdeal.τ).loc Cert.InDxFirstIdeal.main_arg2) = m ((c.tc : Thread Cert.InDxFirstIdeal.nD Cert.InDxFirstIdeal.τ).loc Cert.InDxFirstIdeal.main_arg2)
          ∧ r.2.mem ((c.tc : Thread Cert.InDxFirstIdeal.nD Cert.InDxFirstIdeal.τ).loc Cert.InDxFirstIdeal.main_arg3) = m ((c.tc : Thread Cert.InDxFirstIdeal.nD Cert.InDxFirstIdeal.τ).loc Cert.InDxFirstIdeal.main_arg3)
          ∧ r.2.mem ((c.tc : Thread Cert.InDxFirstIdeal.nD Cert.InDxFirstIdeal.τ).loc Cert.InDxFirstIdeal.main_arg4) = m ((c.tc : Thread Cert.InDxFirstIdeal.nD Cert.InDxFirstIdeal.τ).loc Cert.InDxFirstIdeal.main_arg4))
      ∧ θ_run (Cert.InDxFirstRefIdeal.defs (F := Ideal)) (onTc (τ := Cert.InDxFirstRefIdeal.τ) (Cert.InDxFirstRefIdeal.main (F := Ideal))) ⟨m', fun _ => 0, g'⟩ (fun r => ∀ c : Dev Cert.InDxFirstRefIdeal.nD,
          r.2.mem ((c.tc : Thread Cert.InDxFirstRefIdeal.nD Cert.InDxFirstRefIdeal.τ).loc Cert.InDxFirstRefIdeal.main_v44) = v0 c
          ∧ r.2.mem ((c.tc : Thread Cert.InDxFirstRefIdeal.nD Cert.InDxFirstRefIdeal.τ).loc Cert.InDxFirstRefIdeal.main_v45) = v1 c
          ∧ r.2.mem ((c.tc : Thread Cert.InDxFirstRefIdeal.nD Cert.InDxFirstRefIdeal.τ).loc Cert.InDxFirstRefIdeal.main_v46) = v2 c
          ∧ r.2.mem ((c.tc : Thread Cert.InDxFirstRefIdeal.nD Cert.InDxFirstRefIdeal.τ).loc Cert.InDxFirstRefIdeal.main_arg0) = m' ((c.tc : Thread Cert.InDxFirstRefIdeal.nD Cert.InDxFirstRefIdeal.τ).loc Cert.InDxFirstRefIdeal.main_arg0)
          ∧ r.2.mem ((c.tc : Thread Cert.InDxFirstRefIdeal.nD Cert.InDxFirstRefIdeal.τ).loc Cert.InDxFirstRefIdeal.main_arg1) = m' ((c.tc : Thread Cert.InDxFirstRefIdeal.nD Cert.InDxFirstRefIdeal.τ).loc Cert.InDxFirstRefIdeal.main_arg1)
          ∧ r.2.mem ((c.tc : Thread Cert.InDxFirstRefIdeal.nD Cert.InDxFirstRefIdeal.τ).loc Cert.InDxFirstRefIdeal.main_arg2) = m' ((c.tc : Thread Cert.InDxFirstRefIdeal.nD Cert.InDxFirstRefIdeal.τ).loc Cert.InDxFirstRefIdeal.main_arg2)
          ∧ r.2.mem ((c.tc : Thread Cert.InDxFirstRefIdeal.nD Cert.InDxFirstRefIdeal.τ).loc Cert.InDxFirstRefIdeal.main_arg3) = m' ((c.tc : Thread Cert.InDxFirstRefIdeal.nD Cert.InDxFirstRefIdeal.τ).loc Cert.InDxFirstRefIdeal.main_arg3)
          ∧ r.2.mem ((c.tc : Thread Cert.InDxFirstRefIdeal.nD Cert.InDxFirstRefIdeal.τ).loc Cert.InDxFirstRefIdeal.main_arg4) = m' ((c.tc : Thread Cert.InDxFirstRefIdeal.nD Cert.InDxFirstRefIdeal.τ).loc Cert.InDxFirstRefIdeal.main_arg4))

def preserves_InDxRest_InDxRestIdeal : Prop :=
  True

def algebraic_InDxRestIdeal_InDxRestRefIdeal_pre_finite_in_proj_dx_rest [hInDxRestIdeal : Cert.InDxRestIdeal.Facts] [hInDxRestRefIdeal : Cert.InDxRestRefIdeal.Facts] [hPre_finite_in_proj_dx_rest : Cert.Pre_finite_in_proj_dx_rest.Facts] : Prop :=
  ∀ (m : (ℓ : Loc Cert.InDxRestIdeal.nD Cert.InDxRestIdeal.τ Cert.InDxRestIdeal.sig) → Buf (Elt Ideal) ℓ) (g : Dev Cert.InDxRestIdeal.nD → PrngReg)
    (m' : (ℓ : Loc Cert.InDxRestRefIdeal.nD Cert.InDxRestRefIdeal.τ Cert.InDxRestRefIdeal.sig) → Buf (Elt Ideal) ℓ) (g' : Dev Cert.InDxRestRefIdeal.nD → PrngReg), Pre_InDxRestIdeal_finite_in_proj_dx_rest m →
    (∀ c : Dev Cert.InDxRestIdeal.nD,
      m' ((c.tc : Thread Cert.InDxRestRefIdeal.nD Cert.InDxRestRefIdeal.τ).loc Cert.InDxRestRefIdeal.main_arg0) = m ((c.tc : Thread Cert.InDxRestIdeal.nD Cert.InDxRestIdeal.τ).loc Cert.InDxRestIdeal.main_arg0)
      ∧ m' ((c.tc : Thread Cert.InDxRestRefIdeal.nD Cert.InDxRestRefIdeal.τ).loc Cert.InDxRestRefIdeal.main_arg1) = m ((c.tc : Thread Cert.InDxRestIdeal.nD Cert.InDxRestIdeal.τ).loc Cert.InDxRestIdeal.main_arg1)
      ∧ m' ((c.tc : Thread Cert.InDxRestRefIdeal.nD Cert.InDxRestRefIdeal.τ).loc Cert.InDxRestRefIdeal.main_arg2) = m ((c.tc : Thread Cert.InDxRestIdeal.nD Cert.InDxRestIdeal.τ).loc Cert.InDxRestIdeal.main_arg2)
      ∧ m' ((c.tc : Thread Cert.InDxRestRefIdeal.nD Cert.InDxRestRefIdeal.τ).loc Cert.InDxRestRefIdeal.main_arg3) = m ((c.tc : Thread Cert.InDxRestIdeal.nD Cert.InDxRestIdeal.τ).loc Cert.InDxRestIdeal.main_arg3)
      ∧ m' ((c.tc : Thread Cert.InDxRestRefIdeal.nD Cert.InDxRestRefIdeal.τ).loc Cert.InDxRestRefIdeal.main_arg4) = m ((c.tc : Thread Cert.InDxRestIdeal.nD Cert.InDxRestIdeal.τ).loc Cert.InDxRestIdeal.main_arg4)
      ∧ m' ((c.tc : Thread Cert.InDxRestRefIdeal.nD Cert.InDxRestRefIdeal.τ).loc Cert.InDxRestRefIdeal.main_arg5) = m ((c.tc : Thread Cert.InDxRestIdeal.nD Cert.InDxRestIdeal.τ).loc Cert.InDxRestIdeal.main_arg5)
      ∧ m' ((c.tc : Thread Cert.InDxRestRefIdeal.nD Cert.InDxRestRefIdeal.τ).loc Cert.InDxRestRefIdeal.main_arg6) = m ((c.tc : Thread Cert.InDxRestIdeal.nD Cert.InDxRestIdeal.τ).loc Cert.InDxRestIdeal.main_arg6)
      ∧ m' ((c.tc : Thread Cert.InDxRestRefIdeal.nD Cert.InDxRestRefIdeal.τ).loc Cert.InDxRestRefIdeal.main_arg7) = m ((c.tc : Thread Cert.InDxRestIdeal.nD Cert.InDxRestIdeal.τ).loc Cert.InDxRestIdeal.main_arg7)) →
    ∃ (v0 : (c : Dev Cert.InDxRestIdeal.nD) → Buf (Elt Ideal) ((c.tc : Thread Cert.InDxRestIdeal.nD Cert.InDxRestIdeal.τ).loc Cert.InDxRestIdeal.main_v1_0)) (v1 : (c : Dev Cert.InDxRestIdeal.nD) → Buf (Elt Ideal) ((c.tc : Thread Cert.InDxRestIdeal.nD Cert.InDxRestIdeal.τ).loc Cert.InDxRestIdeal.main_v1_1)) (v2 : (c : Dev Cert.InDxRestIdeal.nD) → Buf (Elt Ideal) ((c.tc : Thread Cert.InDxRestIdeal.nD Cert.InDxRestIdeal.τ).loc Cert.InDxRestIdeal.main_v1_2)),
      θ_run (Cert.InDxRestIdeal.defs (F := Ideal)) (onTc (τ := Cert.InDxRestIdeal.τ) (Cert.InDxRestIdeal.main (F := Ideal))) ⟨m, fun _ => 0, g⟩ (fun r => ∀ c : Dev Cert.InDxRestIdeal.nD,
          r.2.mem ((c.tc : Thread Cert.InDxRestIdeal.nD Cert.InDxRestIdeal.τ).loc Cert.InDxRestIdeal.main_v1_0) = v0 c
          ∧ r.2.mem ((c.tc : Thread Cert.InDxRestIdeal.nD Cert.InDxRestIdeal.τ).loc Cert.InDxRestIdeal.main_v1_1) = v1 c
          ∧ r.2.mem ((c.tc : Thread Cert.InDxRestIdeal.nD Cert.InDxRestIdeal.τ).loc Cert.InDxRestIdeal.main_v1_2) = v2 c
          ∧ r.2.mem ((c.tc : Thread Cert.InDxRestIdeal.nD Cert.InDxRestIdeal.τ).loc Cert.InDxRestIdeal.main_arg0) = m ((c.tc : Thread Cert.InDxRestIdeal.nD Cert.InDxRestIdeal.τ).loc Cert.InDxRestIdeal.main_arg0)
          ∧ r.2.mem ((c.tc : Thread Cert.InDxRestIdeal.nD Cert.InDxRestIdeal.τ).loc Cert.InDxRestIdeal.main_arg1) = m ((c.tc : Thread Cert.InDxRestIdeal.nD Cert.InDxRestIdeal.τ).loc Cert.InDxRestIdeal.main_arg1)
          ∧ r.2.mem ((c.tc : Thread Cert.InDxRestIdeal.nD Cert.InDxRestIdeal.τ).loc Cert.InDxRestIdeal.main_arg2) = m ((c.tc : Thread Cert.InDxRestIdeal.nD Cert.InDxRestIdeal.τ).loc Cert.InDxRestIdeal.main_arg2)
          ∧ r.2.mem ((c.tc : Thread Cert.InDxRestIdeal.nD Cert.InDxRestIdeal.τ).loc Cert.InDxRestIdeal.main_arg3) = m ((c.tc : Thread Cert.InDxRestIdeal.nD Cert.InDxRestIdeal.τ).loc Cert.InDxRestIdeal.main_arg3)
          ∧ r.2.mem ((c.tc : Thread Cert.InDxRestIdeal.nD Cert.InDxRestIdeal.τ).loc Cert.InDxRestIdeal.main_arg4) = m ((c.tc : Thread Cert.InDxRestIdeal.nD Cert.InDxRestIdeal.τ).loc Cert.InDxRestIdeal.main_arg4)
          ∧ r.2.mem ((c.tc : Thread Cert.InDxRestIdeal.nD Cert.InDxRestIdeal.τ).loc Cert.InDxRestIdeal.main_arg5) = m ((c.tc : Thread Cert.InDxRestIdeal.nD Cert.InDxRestIdeal.τ).loc Cert.InDxRestIdeal.main_arg5)
          ∧ r.2.mem ((c.tc : Thread Cert.InDxRestIdeal.nD Cert.InDxRestIdeal.τ).loc Cert.InDxRestIdeal.main_arg6) = m ((c.tc : Thread Cert.InDxRestIdeal.nD Cert.InDxRestIdeal.τ).loc Cert.InDxRestIdeal.main_arg6)
          ∧ r.2.mem ((c.tc : Thread Cert.InDxRestIdeal.nD Cert.InDxRestIdeal.τ).loc Cert.InDxRestIdeal.main_arg7) = m ((c.tc : Thread Cert.InDxRestIdeal.nD Cert.InDxRestIdeal.τ).loc Cert.InDxRestIdeal.main_arg7))
      ∧ θ_run (Cert.InDxRestRefIdeal.defs (F := Ideal)) (onTc (τ := Cert.InDxRestRefIdeal.τ) (Cert.InDxRestRefIdeal.main (F := Ideal))) ⟨m', fun _ => 0, g'⟩ (fun r => ∀ c : Dev Cert.InDxRestRefIdeal.nD,
          r.2.mem ((c.tc : Thread Cert.InDxRestRefIdeal.nD Cert.InDxRestRefIdeal.τ).loc Cert.InDxRestRefIdeal.main_v48) = v0 c
          ∧ r.2.mem ((c.tc : Thread Cert.InDxRestRefIdeal.nD Cert.InDxRestRefIdeal.τ).loc Cert.InDxRestRefIdeal.main_v50) = v1 c
          ∧ r.2.mem ((c.tc : Thread Cert.InDxRestRefIdeal.nD Cert.InDxRestRefIdeal.τ).loc Cert.InDxRestRefIdeal.main_v51) = v2 c
          ∧ r.2.mem ((c.tc : Thread Cert.InDxRestRefIdeal.nD Cert.InDxRestRefIdeal.τ).loc Cert.InDxRestRefIdeal.main_arg0) = m' ((c.tc : Thread Cert.InDxRestRefIdeal.nD Cert.InDxRestRefIdeal.τ).loc Cert.InDxRestRefIdeal.main_arg0)
          ∧ r.2.mem ((c.tc : Thread Cert.InDxRestRefIdeal.nD Cert.InDxRestRefIdeal.τ).loc Cert.InDxRestRefIdeal.main_arg1) = m' ((c.tc : Thread Cert.InDxRestRefIdeal.nD Cert.InDxRestRefIdeal.τ).loc Cert.InDxRestRefIdeal.main_arg1)
          ∧ r.2.mem ((c.tc : Thread Cert.InDxRestRefIdeal.nD Cert.InDxRestRefIdeal.τ).loc Cert.InDxRestRefIdeal.main_arg2) = m' ((c.tc : Thread Cert.InDxRestRefIdeal.nD Cert.InDxRestRefIdeal.τ).loc Cert.InDxRestRefIdeal.main_arg2)
          ∧ r.2.mem ((c.tc : Thread Cert.InDxRestRefIdeal.nD Cert.InDxRestRefIdeal.τ).loc Cert.InDxRestRefIdeal.main_arg3) = m' ((c.tc : Thread Cert.InDxRestRefIdeal.nD Cert.InDxRestRefIdeal.τ).loc Cert.InDxRestRefIdeal.main_arg3)
          ∧ r.2.mem ((c.tc : Thread Cert.InDxRestRefIdeal.nD Cert.InDxRestRefIdeal.τ).loc Cert.InDxRestRefIdeal.main_arg4) = m' ((c.tc : Thread Cert.InDxRestRefIdeal.nD Cert.InDxRestRefIdeal.τ).loc Cert.InDxRestRefIdeal.main_arg4)
          ∧ r.2.mem ((c.tc : Thread Cert.InDxRestRefIdeal.nD Cert.InDxRestRefIdeal.τ).loc Cert.InDxRestRefIdeal.main_arg5) = m' ((c.tc : Thread Cert.InDxRestRefIdeal.nD Cert.InDxRestRefIdeal.τ).loc Cert.InDxRestRefIdeal.main_arg5)
          ∧ r.2.mem ((c.tc : Thread Cert.InDxRestRefIdeal.nD Cert.InDxRestRefIdeal.τ).loc Cert.InDxRestRefIdeal.main_arg6) = m' ((c.tc : Thread Cert.InDxRestRefIdeal.nD Cert.InDxRestRefIdeal.τ).loc Cert.InDxRestRefIdeal.main_arg6)
          ∧ r.2.mem ((c.tc : Thread Cert.InDxRestRefIdeal.nD Cert.InDxRestRefIdeal.τ).loc Cert.InDxRestRefIdeal.main_arg7) = m' ((c.tc : Thread Cert.InDxRestRefIdeal.nD Cert.InDxRestRefIdeal.τ).loc Cert.InDxRestRefIdeal.main_arg7))

def preserves_GateUpDw_GateUpDwIdeal : Prop :=
  True

def algebraic_GateUpDwIdeal_GateUpDwRefIdeal [hGateUpDwIdeal : Cert.GateUpDwIdeal.Facts] [hGateUpDwRefIdeal : Cert.GateUpDwRefIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwRefIdeal.nD Cert.GateUpDwRefIdeal.τ Cert.GateUpDwRefIdeal.sig) → Buf (Elt Ideal) ℓ) (g' : Dev Cert.GateUpDwRefIdeal.nD → PrngReg), Pre_GateUpDwIdeal m →
    (∀ c : Dev Cert.GateUpDwIdeal.nD,
      m' ((c.tc : Thread Cert.GateUpDwRefIdeal.nD Cert.GateUpDwRefIdeal.τ).loc Cert.GateUpDwRefIdeal.main_arg0) = m ((c.tc : Thread Cert.GateUpDwIdeal.nD Cert.GateUpDwIdeal.τ).loc Cert.GateUpDwIdeal.main_arg0)
      ∧ m' ((c.tc : Thread Cert.GateUpDwRefIdeal.nD Cert.GateUpDwRefIdeal.τ).loc Cert.GateUpDwRefIdeal.main_arg1) = m ((c.tc : Thread Cert.GateUpDwIdeal.nD Cert.GateUpDwIdeal.τ).loc Cert.GateUpDwIdeal.main_arg1)
      ∧ m' ((c.tc : Thread Cert.GateUpDwRefIdeal.nD Cert.GateUpDwRefIdeal.τ).loc Cert.GateUpDwRefIdeal.main_arg2) = m ((c.tc : Thread Cert.GateUpDwIdeal.nD Cert.GateUpDwIdeal.τ).loc Cert.GateUpDwIdeal.main_arg2)) →
    ∃ (v0 : (c : Dev Cert.GateUpDwIdeal.nD) → Buf (Elt Ideal) ((c.tc : Thread Cert.GateUpDwIdeal.nD Cert.GateUpDwIdeal.τ).loc Cert.GateUpDwIdeal.main_v14)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v14) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1)
          ∧ r.2.mem ((c.tc : Thread Cert.GateUpDwIdeal.nD Cert.GateUpDwIdeal.τ).loc Cert.GateUpDwIdeal.main_arg2) = m ((c.tc : Thread Cert.GateUpDwIdeal.nD Cert.GateUpDwIdeal.τ).loc Cert.GateUpDwIdeal.main_arg2))
      ∧ θ_run (Cert.GateUpDwRefIdeal.defs (F := Ideal)) (onTc (τ := Cert.GateUpDwRefIdeal.τ) (Cert.GateUpDwRefIdeal.main (F := Ideal))) ⟨m', fun _ => 0, g'⟩ (fun r => ∀ c : Dev Cert.GateUpDwRefIdeal.nD,
          r.2.mem ((c.tc : Thread Cert.GateUpDwRefIdeal.nD Cert.GateUpDwRefIdeal.τ).loc Cert.GateUpDwRefIdeal.main_v27) = v0 c
          ∧ r.2.mem ((c.tc : Thread Cert.GateUpDwRefIdeal.nD Cert.GateUpDwRefIdeal.τ).loc Cert.GateUpDwRefIdeal.main_arg0) = m' ((c.tc : Thread Cert.GateUpDwRefIdeal.nD Cert.GateUpDwRefIdeal.τ).loc Cert.GateUpDwRefIdeal.main_arg0)
          ∧ r.2.mem ((c.tc : Thread Cert.GateUpDwRefIdeal.nD Cert.GateUpDwRefIdeal.τ).loc Cert.GateUpDwRefIdeal.main_arg1) = m' ((c.tc : Thread Cert.GateUpDwRefIdeal.nD Cert.GateUpDwRefIdeal.τ).loc Cert.GateUpDwRefIdeal.main_arg1)
          ∧ r.2.mem ((c.tc : Thread Cert.GateUpDwRefIdeal.nD Cert.GateUpDwRefIdeal.τ).loc Cert.GateUpDwRefIdeal.main_arg2) = m' ((c.tc : Thread Cert.GateUpDwRefIdeal.nD Cert.GateUpDwRefIdeal.τ).loc Cert.GateUpDwRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v9)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v9) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v13) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v14)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v14) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v19) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v9)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v9) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v10) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v1_0)) (v1 : (c : Dev Cert.InFwdIdeal.nD) → Buf (Elt Ideal) ((c.tc : Thread Cert.InFwdIdeal.nD Cert.InFwdIdeal.τ).loc Cert.InFwdIdeal.main_v1_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v1_0) = v0 c
          ∧ r.2.mem ((c.tc : Thread Cert.InFwdIdeal.nD Cert.InFwdIdeal.τ).loc Cert.InFwdIdeal.main_v1_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v16) = v0 c
          ∧ r.2.mem ((c.tc : Thread Cert.InFwdRefIdeal.nD Cert.InFwdRefIdeal.τ).loc Cert.InFwdRefIdeal.main_v17) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_InFwdFirst_InFwdFirstIdeal : Prop :=
  True

def algebraic_InFwdFirstIdeal_InFwdFirstRefIdeal [hInFwdFirstIdeal : Cert.InFwdFirstIdeal.Facts] [hInFwdFirstRefIdeal : Cert.InFwdFirstRefIdeal.Facts] : Prop :=
  ∀ (m : (ℓ : Loc Cert.InFwdFirstIdeal.nD Cert.InFwdFirstIdeal.τ Cert.InFwdFirstIdeal.sig) → Buf (Elt Ideal) ℓ) (g : Dev Cert.InFwdFirstIdeal.nD → PrngReg)
    (m' : (ℓ : Loc Cert.InFwdFirstRefIdeal.nD Cert.InFwdFirstRefIdeal.τ Cert.InFwdFirstRefIdeal.sig) → Buf (Elt Ideal) ℓ) (g' : Dev Cert.InFwdFirstRefIdeal.nD → PrngReg), Pre_InFwdFirstIdeal m →
    (∀ c : Dev Cert.InFwdFirstIdeal.nD,
      m' ((c.tc : Thread Cert.InFwdFirstRefIdeal.nD Cert.InFwdFirstRefIdeal.τ).loc Cert.InFwdFirstRefIdeal.main_arg0) = m ((c.tc : Thread Cert.InFwdFirstIdeal.nD Cert.InFwdFirstIdeal.τ).loc Cert.InFwdFirstIdeal.main_arg0)
      ∧ m' ((c.tc : Thread Cert.InFwdFirstRefIdeal.nD Cert.InFwdFirstRefIdeal.τ).loc Cert.InFwdFirstRefIdeal.main_arg1) = m ((c.tc : Thread Cert.InFwdFirstIdeal.nD Cert.InFwdFirstIdeal.τ).loc Cert.InFwdFirstIdeal.main_arg1)
      ∧ m' ((c.tc : Thread Cert.InFwdFirstRefIdeal.nD Cert.InFwdFirstRefIdeal.τ).loc Cert.InFwdFirstRefIdeal.main_arg2) = m ((c.tc : Thread Cert.InFwdFirstIdeal.nD Cert.InFwdFirstIdeal.τ).loc Cert.InFwdFirstIdeal.main_arg2)) →
    ∃ (v0 : (c : Dev Cert.InFwdFirstIdeal.nD) → Buf (Elt Ideal) ((c.tc : Thread Cert.InFwdFirstIdeal.nD Cert.InFwdFirstIdeal.τ).loc Cert.InFwdFirstIdeal.main_v14)),
      θ_run (Cert.InFwdFirstIdeal.defs (F := Ideal)) (onTc (τ := Cert.InFwdFirstIdeal.τ) (Cert.InFwdFirstIdeal.main (F := Ideal))) ⟨m, fun _ => 0, g⟩ (fun r => ∀ c : Dev Cert.InFwdFirstIdeal.nD,
          r.2.mem ((c.tc : Thread Cert.InFwdFirstIdeal.nD Cert.InFwdFirstIdeal.τ).loc Cert.InFwdFirstIdeal.main_v14) = v0 c
          ∧ r.2.mem ((c.tc : Thread Cert.InFwdFirstIdeal.nD Cert.InFwdFirstIdeal.τ).loc Cert.InFwdFirstIdeal.main_arg0) = m ((c.tc : Thread Cert.InFwdFirstIdeal.nD Cert.InFwdFirstIdeal.τ).loc Cert.InFwdFirstIdeal.main_arg0)
          ∧ r.2.mem ((c.tc : Thread Cert.InFwdFirstIdeal.nD Cert.InFwdFirstIdeal.τ).loc Cert.InFwdFirstIdeal.main_arg1) = m ((c.tc : Thread Cert.InFwdFirstIdeal.nD Cert.InFwdFirstIdeal.τ).loc Cert.InFwdFirstIdeal.main_arg1)
          ∧ r.2.mem ((c.tc : Thread Cert.InFwdFirstIdeal.nD Cert.InFwdFirstIdeal.τ).loc Cert.InFwdFirstIdeal.main_arg2) = m ((c.tc : Thread Cert.InFwdFirstIdeal.nD Cert.InFwdFirstIdeal.τ).loc Cert.InFwdFirstIdeal.main_arg2))
      ∧ θ_run (Cert.InFwdFirstRefIdeal.defs (F := Ideal)) (onTc (τ := Cert.InFwdFirstRefIdeal.τ) (Cert.InFwdFirstRefIdeal.main (F := Ideal))) ⟨m', fun _ => 0, g'⟩ (fun r => ∀ c : Dev Cert.InFwdFirstRefIdeal.nD,
          r.2.mem ((c.tc : Thread Cert.InFwdFirstRefIdeal.nD Cert.InFwdFirstRefIdeal.τ).loc Cert.InFwdFirstRefIdeal.main_v16) = v0 c
          ∧ r.2.mem ((c.tc : Thread Cert.InFwdFirstRefIdeal.nD Cert.InFwdFirstRefIdeal.τ).loc Cert.InFwdFirstRefIdeal.main_arg0) = m' ((c.tc : Thread Cert.InFwdFirstRefIdeal.nD Cert.InFwdFirstRefIdeal.τ).loc Cert.InFwdFirstRefIdeal.main_arg0)
          ∧ r.2.mem ((c.tc : Thread Cert.InFwdFirstRefIdeal.nD Cert.InFwdFirstRefIdeal.τ).loc Cert.InFwdFirstRefIdeal.main_arg1) = m' ((c.tc : Thread Cert.InFwdFirstRefIdeal.nD Cert.InFwdFirstRefIdeal.τ).loc Cert.InFwdFirstRefIdeal.main_arg1)
          ∧ r.2.mem ((c.tc : Thread Cert.InFwdFirstRefIdeal.nD Cert.InFwdFirstRefIdeal.τ).loc Cert.InFwdFirstRefIdeal.main_arg2) = m' ((c.tc : Thread Cert.InFwdFirstRefIdeal.nD Cert.InFwdFirstRefIdeal.τ).loc Cert.InFwdFirstRefIdeal.main_arg2))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamPw_AdamPwIdeal : Prop :=
  True

def algebraic_AdamPwIdeal_AdamPwRefIdeal [hAdamPwIdeal : Cert.AdamPwIdeal.Facts] [hAdamPwRefIdeal : Cert.AdamPwRefIdeal.Facts] : Prop :=
  ∀ (m : (ℓ : Loc Cert.AdamPwIdeal.nD Cert.AdamPwIdeal.τ Cert.AdamPwIdeal.sig) → Buf (Elt Ideal) ℓ) (g : Dev Cert.AdamPwIdeal.nD → PrngReg)
    (m' : (ℓ : Loc Cert.AdamPwRefIdeal.nD Cert.AdamPwRefIdeal.τ Cert.AdamPwRefIdeal.sig) → Buf (Elt Ideal) ℓ) (g' : Dev Cert.AdamPwRefIdeal.nD → PrngReg), Pre_AdamPwIdeal m →
    (∀ c : Dev Cert.AdamPwIdeal.nD,
      m' ((c.tc : Thread Cert.AdamPwRefIdeal.nD Cert.AdamPwRefIdeal.τ).loc Cert.AdamPwRefIdeal.main_arg0) = m ((c.tc : Thread Cert.AdamPwIdeal.nD Cert.AdamPwIdeal.τ).loc Cert.AdamPwIdeal.main_arg0)
      ∧ m' ((c.tc : Thread Cert.AdamPwRefIdeal.nD Cert.AdamPwRefIdeal.τ).loc Cert.AdamPwRefIdeal.main_arg1) = m ((c.tc : Thread Cert.AdamPwIdeal.nD Cert.AdamPwIdeal.τ).loc Cert.AdamPwIdeal.main_arg1)
      ∧ m' ((c.tc : Thread Cert.AdamPwRefIdeal.nD Cert.AdamPwRefIdeal.τ).loc Cert.AdamPwRefIdeal.main_arg2) = m ((c.tc : Thread Cert.AdamPwIdeal.nD Cert.AdamPwIdeal.τ).loc Cert.AdamPwIdeal.main_arg2)
      ∧ m' ((c.tc : Thread Cert.AdamPwRefIdeal.nD Cert.AdamPwRefIdeal.τ).loc Cert.AdamPwRefIdeal.main_arg3) = m ((c.tc : Thread Cert.AdamPwIdeal.nD Cert.AdamPwIdeal.τ).loc Cert.AdamPwIdeal.main_arg3)) →
    ∃ (v0 : (c : Dev Cert.AdamPwIdeal.nD) → Buf (Elt Ideal) ((c.tc : Thread Cert.AdamPwIdeal.nD Cert.AdamPwIdeal.τ).loc Cert.AdamPwIdeal.main_v0_0)) (v1 : (c : Dev Cert.AdamPwIdeal.nD) → Buf (Elt Ideal) ((c.tc : Thread Cert.AdamPwIdeal.nD Cert.AdamPwIdeal.τ).loc Cert.AdamPwIdeal.main_v0_1)) (v2 : (c : Dev Cert.AdamPwIdeal.nD) → Buf (Elt Ideal) ((c.tc : Thread Cert.AdamPwIdeal.nD Cert.AdamPwIdeal.τ).loc Cert.AdamPwIdeal.main_v0_2)),
      θ_run (Cert.AdamPwIdeal.defs (F := Ideal)) (onTc (τ := Cert.AdamPwIdeal.τ) (Cert.AdamPwIdeal.main (F := Ideal))) ⟨m, fun _ => 0, g⟩ (fun r => ∀ c : Dev Cert.AdamPwIdeal.nD,
          r.2.mem ((c.tc : Thread Cert.AdamPwIdeal.nD Cert.AdamPwIdeal.τ).loc Cert.AdamPwIdeal.main_v0_0) = v0 c
          ∧ r.2.mem ((c.tc : Thread Cert.AdamPwIdeal.nD Cert.AdamPwIdeal.τ).loc Cert.AdamPwIdeal.main_v0_1) = v1 c
          ∧ r.2.mem ((c.tc : Thread Cert.AdamPwIdeal.nD Cert.AdamPwIdeal.τ).loc Cert.AdamPwIdeal.main_v0_2) = v2 c
          ∧ r.2.mem ((c.tc : Thread Cert.AdamPwIdeal.nD Cert.AdamPwIdeal.τ).loc Cert.AdamPwIdeal.main_arg0) = m ((c.tc : Thread Cert.AdamPwIdeal.nD Cert.AdamPwIdeal.τ).loc Cert.AdamPwIdeal.main_arg0)
          ∧ r.2.mem ((c.tc : Thread Cert.AdamPwIdeal.nD Cert.AdamPwIdeal.τ).loc Cert.AdamPwIdeal.main_arg1) = m ((c.tc : Thread Cert.AdamPwIdeal.nD Cert.AdamPwIdeal.τ).loc Cert.AdamPwIdeal.main_arg1)
          ∧ r.2.mem ((c.tc : Thread Cert.AdamPwIdeal.nD Cert.AdamPwIdeal.τ).loc Cert.AdamPwIdeal.main_arg2) = m ((c.tc : Thread Cert.AdamPwIdeal.nD Cert.AdamPwIdeal.τ).loc Cert.AdamPwIdeal.main_arg2)
          ∧ r.2.mem ((c.tc : Thread Cert.AdamPwIdeal.nD Cert.AdamPwIdeal.τ).loc Cert.AdamPwIdeal.main_arg3) = m ((c.tc : Thread Cert.AdamPwIdeal.nD Cert.AdamPwIdeal.τ).loc Cert.AdamPwIdeal.main_arg3))
      ∧ θ_run (Cert.AdamPwRefIdeal.defs (F := Ideal)) (onTc (τ := Cert.AdamPwRefIdeal.τ) (Cert.AdamPwRefIdeal.main (F := Ideal))) ⟨m', fun _ => 0, g'⟩ (fun r => ∀ c : Dev Cert.AdamPwRefIdeal.nD,
          r.2.mem ((c.tc : Thread Cert.AdamPwRefIdeal.nD Cert.AdamPwRefIdeal.τ).loc Cert.AdamPwRefIdeal.main_v23) = v0 c
          ∧ r.2.mem ((c.tc : Thread Cert.AdamPwRefIdeal.nD Cert.AdamPwRefIdeal.τ).loc Cert.AdamPwRefIdeal.main_v4) = v1 c
          ∧ r.2.mem ((c.tc : Thread Cert.AdamPwRefIdeal.nD Cert.AdamPwRefIdeal.τ).loc Cert.AdamPwRefIdeal.main_v10) = v2 c
          ∧ r.2.mem ((c.tc : Thread Cert.AdamPwRefIdeal.nD Cert.AdamPwRefIdeal.τ).loc Cert.AdamPwRefIdeal.main_arg0) = m' ((c.tc : Thread Cert.AdamPwRefIdeal.nD Cert.AdamPwRefIdeal.τ).loc Cert.AdamPwRefIdeal.main_arg0)
          ∧ r.2.mem ((c.tc : Thread Cert.AdamPwRefIdeal.nD Cert.AdamPwRefIdeal.τ).loc Cert.AdamPwRefIdeal.main_arg1) = m' ((c.tc : Thread Cert.AdamPwRefIdeal.nD Cert.AdamPwRefIdeal.τ).loc Cert.AdamPwRefIdeal.main_arg1)
          ∧ r.2.mem ((c.tc : Thread Cert.AdamPwRefIdeal.nD Cert.AdamPwRefIdeal.τ).loc Cert.AdamPwRefIdeal.main_arg2) = m' ((c.tc : Thread Cert.AdamPwRefIdeal.nD Cert.AdamPwRefIdeal.τ).loc Cert.AdamPwRefIdeal.main_arg2)
          ∧ r.2.mem ((c.tc : Thread Cert.AdamPwRefIdeal.nD Cert.AdamPwRefIdeal.τ).loc Cert.AdamPwRefIdeal.main_arg3) = m' ((c.tc : Thread Cert.AdamPwRefIdeal.nD Cert.AdamPwRefIdeal.τ).loc Cert.AdamPwRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGateUp_AdamGateUpIdeal : Prop :=
  True

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)) →
    ∃ (v0 : (c : Dev Cert.AdamGateUpIdeal.nD) → Buf (Elt Ideal) ((c.tc : Thread Cert.AdamGateUpIdeal.nD Cert.AdamGateUpIdeal.τ).loc Cert.AdamGateUpIdeal.main_v0_0)) (v1 : (c : Dev Cert.AdamGateUpIdeal.nD) → Buf (Elt Ideal) ((c.tc : Thread Cert.AdamGateUpIdeal.nD Cert.AdamGateUpIdeal.τ).loc Cert.AdamGateUpIdeal.main_v0_1)) (v2 : (c : Dev Cert.AdamGateUpIdeal.nD) → Buf (Elt Ideal) ((c.tc : Thread Cert.AdamGateUpIdeal.nD Cert.AdamGateUpIdeal.τ).loc Cert.AdamGateUpIdeal.main_v0_2)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v0_0) = v0 c
          ∧ r.2.mem ((c.tc : Thread Cert.AdamGateUpIdeal.nD Cert.AdamGateUpIdeal.τ).loc Cert.AdamGateUpIdeal.main_v0_1) = v1 c
          ∧ r.2.mem ((c.tc : Thread Cert.AdamGateUpIdeal.nD Cert.AdamGateUpIdeal.τ).loc Cert.AdamGateUpIdeal.main_v0_2) = v2 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v23) = v0 c
          ∧ r.2.mem ((c.tc : Thread Cert.AdamGateUpRefIdeal.nD Cert.AdamGateUpRefIdeal.τ).loc Cert.AdamGateUpRefIdeal.main_v4) = v1 c
          ∧ r.2.mem ((c.tc : Thread Cert.AdamGateUpRefIdeal.nD Cert.AdamGateUpRefIdeal.τ).loc Cert.AdamGateUpRefIdeal.main_v10) = v2 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmallA_AdamSmallAIdeal : Prop :=
  True

def algebraic_AdamSmallAIdeal_AdamSmallARefIdeal [hAdamSmallAIdeal : Cert.AdamSmallAIdeal.Facts] [hAdamSmallARefIdeal : Cert.AdamSmallARefIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg)
    (m' : (ℓ : Loc Cert.AdamSmallARefIdeal.nD Cert.AdamSmallARefIdeal.τ Cert.AdamSmallARefIdeal.sig) → Buf (Elt Ideal) ℓ) (g' : Dev Cert.AdamSmallARefIdeal.nD → PrngReg), Pre_AdamSmallAIdeal m →
    (∀ c : Dev Cert.AdamSmallAIdeal.nD,
      m' ((c.tc : Thread Cert.AdamSmallARefIdeal.nD Cert.AdamSmallARefIdeal.τ).loc Cert.AdamSmallARefIdeal.main_arg0) = m ((c.tc : Thread Cert.AdamSmallAIdeal.nD Cert.AdamSmallAIdeal.τ).loc Cert.AdamSmallAIdeal.main_arg0)
      ∧ m' ((c.tc : Thread Cert.AdamSmallARefIdeal.nD Cert.AdamSmallARefIdeal.τ).loc Cert.AdamSmallARefIdeal.main_arg1) = m ((c.tc : Thread Cert.AdamSmallAIdeal.nD Cert.AdamSmallAIdeal.τ).loc Cert.AdamSmallAIdeal.main_arg1)
      ∧ m' ((c.tc : Thread Cert.AdamSmallARefIdeal.nD Cert.AdamSmallARefIdeal.τ).loc Cert.AdamSmallARefIdeal.main_arg2) = m ((c.tc : Thread Cert.AdamSmallAIdeal.nD Cert.AdamSmallAIdeal.τ).loc Cert.AdamSmallAIdeal.main_arg2)
      ∧ m' ((c.tc : Thread Cert.AdamSmallARefIdeal.nD Cert.AdamSmallARefIdeal.τ).loc Cert.AdamSmallARefIdeal.main_arg3) = m ((c.tc : Thread Cert.AdamSmallAIdeal.nD Cert.AdamSmallAIdeal.τ).loc Cert.AdamSmallAIdeal.main_arg3)
      ∧ m' ((c.tc : Thread Cert.AdamSmallARefIdeal.nD Cert.AdamSmallARefIdeal.τ).loc Cert.AdamSmallARefIdeal.main_arg4) = m ((c.tc : Thread Cert.AdamSmallAIdeal.nD Cert.AdamSmallAIdeal.τ).loc Cert.AdamSmallAIdeal.main_arg4)
      ∧ m' ((c.tc : Thread Cert.AdamSmallARefIdeal.nD Cert.AdamSmallARefIdeal.τ).loc Cert.AdamSmallARefIdeal.main_arg5) = m ((c.tc : Thread Cert.AdamSmallAIdeal.nD Cert.AdamSmallAIdeal.τ).loc Cert.AdamSmallAIdeal.main_arg5)
      ∧ m' ((c.tc : Thread Cert.AdamSmallARefIdeal.nD Cert.AdamSmallARefIdeal.τ).loc Cert.AdamSmallARefIdeal.main_arg6) = m ((c.tc : Thread Cert.AdamSmallAIdeal.nD Cert.AdamSmallAIdeal.τ).loc Cert.AdamSmallAIdeal.main_arg6)
      ∧ m' ((c.tc : Thread Cert.AdamSmallARefIdeal.nD Cert.AdamSmallARefIdeal.τ).loc Cert.AdamSmallARefIdeal.main_arg7) = m ((c.tc : Thread Cert.AdamSmallAIdeal.nD Cert.AdamSmallAIdeal.τ).loc Cert.AdamSmallAIdeal.main_arg7)
      ∧ m' ((c.tc : Thread Cert.AdamSmallARefIdeal.nD Cert.AdamSmallARefIdeal.τ).loc Cert.AdamSmallARefIdeal.main_arg8) = m ((c.tc : Thread Cert.AdamSmallAIdeal.nD Cert.AdamSmallAIdeal.τ).loc Cert.AdamSmallAIdeal.main_arg8)
      ∧ m' ((c.tc : Thread Cert.AdamSmallARefIdeal.nD Cert.AdamSmallARefIdeal.τ).loc Cert.AdamSmallARefIdeal.main_arg9) = m ((c.tc : Thread Cert.AdamSmallAIdeal.nD Cert.AdamSmallAIdeal.τ).loc Cert.AdamSmallAIdeal.main_arg9)
      ∧ m' ((c.tc : Thread Cert.AdamSmallARefIdeal.nD Cert.AdamSmallARefIdeal.τ).loc Cert.AdamSmallARefIdeal.main_arg10) = m ((c.tc : Thread Cert.AdamSmallAIdeal.nD Cert.AdamSmallAIdeal.τ).loc Cert.AdamSmallAIdeal.main_arg10)
      ∧ m' ((c.tc : Thread Cert.AdamSmallARefIdeal.nD Cert.AdamSmallARefIdeal.τ).loc Cert.AdamSmallARefIdeal.main_arg11) = m ((c.tc : Thread Cert.AdamSmallAIdeal.nD Cert.AdamSmallAIdeal.τ).loc Cert.AdamSmallAIdeal.main_arg11)) →
    ∃ (v0 : (c : Dev Cert.AdamSmallAIdeal.nD) → Buf (Elt Ideal) ((c.tc : Thread Cert.AdamSmallAIdeal.nD Cert.AdamSmallAIdeal.τ).loc Cert.AdamSmallAIdeal.main_v4_0)) (v1 : (c : Dev Cert.AdamSmallAIdeal.nD) → Buf (Elt Ideal) ((c.tc : Thread Cert.AdamSmallAIdeal.nD Cert.AdamSmallAIdeal.τ).loc Cert.AdamSmallAIdeal.main_v4_1)) (v2 : (c : Dev Cert.AdamSmallAIdeal.nD) → Buf (Elt Ideal) ((c.tc : Thread Cert.AdamSmallAIdeal.nD Cert.AdamSmallAIdeal.τ).loc Cert.AdamSmallAIdeal.main_v4_2)) (v3 : (c : Dev Cert.AdamSmallAIdeal.nD) → Buf (Elt Ideal) ((c.tc : Thread Cert.AdamSmallAIdeal.nD Cert.AdamSmallAIdeal.τ).loc Cert.AdamSmallAIdeal.main_v4_3)) (v4 : (c : Dev Cert.AdamSmallAIdeal.nD) → Buf (Elt Ideal) ((c.tc : Thread Cert.AdamSmallAIdeal.nD Cert.AdamSmallAIdeal.τ).loc Cert.AdamSmallAIdeal.main_v4_4)) (v5 : (c : Dev Cert.AdamSmallAIdeal.nD) → Buf (Elt Ideal) ((c.tc : Thread Cert.AdamSmallAIdeal.nD Cert.AdamSmallAIdeal.τ).loc Cert.AdamSmallAIdeal.main_v4_5)) (v6 : (c : Dev Cert.AdamSmallAIdeal.nD) → Buf (Elt Ideal) ((c.tc : Thread Cert.AdamSmallAIdeal.nD Cert.AdamSmallAIdeal.τ).loc Cert.AdamSmallAIdeal.main_v4_6)) (v7 : (c : Dev Cert.AdamSmallAIdeal.nD) → Buf (Elt Ideal) ((c.tc : Thread Cert.AdamSmallAIdeal.nD Cert.AdamSmallAIdeal.τ).loc Cert.AdamSmallAIdeal.main_v4_7)) (v8 : (c : Dev Cert.AdamSmallAIdeal.nD) → Buf (Elt Ideal) ((c.tc : Thread Cert.AdamSmallAIdeal.nD Cert.AdamSmallAIdeal.τ).loc Cert.AdamSmallAIdeal.main_v4_8)),
      θ_run (Cert.AdamSmallAIdeal.defs (F := Ideal)) (onTc (τ := Cert.AdamSmallAIdeal.τ) (Cert.AdamSmallAIdeal.main (F := Ideal))) ⟨m, fun _ => 0, g⟩ (fun r => ∀ c : Dev Cert.AdamSmallAIdeal.nD,
          r.2.mem ((c.tc : Thread Cert.AdamSmallAIdeal.nD Cert.AdamSmallAIdeal.τ).loc Cert.AdamSmallAIdeal.main_v4_0) = v0 c
          ∧ r.2.mem ((c.tc : Thread Cert.AdamSmallAIdeal.nD Cert.AdamSmallAIdeal.τ).loc Cert.AdamSmallAIdeal.main_v4_1) = v1 c
          ∧ r.2.mem ((c.tc : Thread Cert.AdamSmallAIdeal.nD Cert.AdamSmallAIdeal.τ).loc Cert.AdamSmallAIdeal.main_v4_2) = v2 c
          ∧ r.2.mem ((c.tc : Thread Cert.AdamSmallAIdeal.nD Cert.AdamSmallAIdeal.τ).loc Cert.AdamSmallAIdeal.main_v4_3) = v3 c
          ∧ r.2.mem ((c.tc : Thread Cert.AdamSmallAIdeal.nD Cert.AdamSmallAIdeal.τ).loc Cert.AdamSmallAIdeal.main_v4_4) = v4 c
          ∧ r.2.mem ((c.tc : Thread Cert.AdamSmallAIdeal.nD Cert.AdamSmallAIdeal.τ).loc Cert.AdamSmallAIdeal.main_v4_5) = v5 c
          ∧ r.2.mem ((c.tc : Thread Cert.AdamSmallAIdeal.nD Cert.AdamSmallAIdeal.τ).loc Cert.AdamSmallAIdeal.main_v4_6) = v6 c
          ∧ r.2.mem ((c.tc : Thread Cert.AdamSmallAIdeal.nD Cert.AdamSmallAIdeal.τ).loc Cert.AdamSmallAIdeal.main_v4_7) = v7 c
          ∧ r.2.mem ((c.tc : Thread Cert.AdamSmallAIdeal.nD Cert.AdamSmallAIdeal.τ).loc Cert.AdamSmallAIdeal.main_v4_8) = v8 c
          ∧ r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
          ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
          ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
          ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
          ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
          ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
          ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
          ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
          ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
          ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
          ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
          ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11))
      ∧ θ_run (Cert.AdamSmallARefIdeal.defs (F := Ideal)) (onTc (τ := Cert.AdamSmallARefIdeal.τ) (Cert.AdamSmallARefIdeal.main (F := Ideal))) ⟨m', fun _ => 0, g'⟩ (fun r => ∀ c : Dev Cert.AdamSmallARefIdeal.nD,
          r.2.mem ((c.tc : Thread Cert.AdamSmallARefIdeal.nD Cert.AdamSmallARefIdeal.τ).loc Cert.AdamSmallARefIdeal.main_v23) = v0 c
          ∧ r.2.mem ((c.tc : Thread Cert.AdamSmallARefIdeal.nD Cert.AdamSmallARefIdeal.τ).loc Cert.AdamSmallARefIdeal.main_v72) = v1 c
          ∧ r.2.mem ((c.tc : Thread Cert.AdamSmallARefIdeal.nD Cert.AdamSmallARefIdeal.τ).loc Cert.AdamSmallARefIdeal.main_v71) = v2 c
          ∧ r.2.mem ((c.tc : Thread Cert.AdamSmallARefIdeal.nD Cert.AdamSmallARefIdeal.τ).loc Cert.AdamSmallARefIdeal.main_v4) = v3 c
          ∧ r.2.mem ((c.tc : Thread Cert.AdamSmallARefIdeal.nD Cert.AdamSmallARefIdeal.τ).loc Cert.AdamSmallARefIdeal.main_v73) = v4 c
          ∧ r.2.mem ((c.tc : Thread Cert.AdamSmallARefIdeal.nD Cert.AdamSmallARefIdeal.τ).loc Cert.AdamSmallARefIdeal.main_v52) = v5 c
          ∧ r.2.mem ((c.tc : Thread Cert.AdamSmallARefIdeal.nD Cert.AdamSmallARefIdeal.τ).loc Cert.AdamSmallARefIdeal.main_v10) = v6 c
          ∧ r.2.mem ((c.tc : Thread Cert.AdamSmallARefIdeal.nD Cert.AdamSmallARefIdeal.τ).loc Cert.AdamSmallARefIdeal.main_v74) = v7 c
          ∧ r.2.mem ((c.tc : Thread Cert.AdamSmallARefIdeal.nD Cert.AdamSmallARefIdeal.τ).loc Cert.AdamSmallARefIdeal.main_v58) = v8 c
          ∧ r.2.mem ((c.tc : Thread Cert.AdamSmallARefIdeal.nD Cert.AdamSmallARefIdeal.τ).loc Cert.AdamSmallARefIdeal.main_arg0) = m' ((c.tc : Thread Cert.AdamSmallARefIdeal.nD Cert.AdamSmallARefIdeal.τ).loc Cert.AdamSmallARefIdeal.main_arg0)
          ∧ r.2.mem ((c.tc : Thread Cert.AdamSmallARefIdeal.nD Cert.AdamSmallARefIdeal.τ).loc Cert.AdamSmallARefIdeal.main_arg1) = m' ((c.tc : Thread Cert.AdamSmallARefIdeal.nD Cert.AdamSmallARefIdeal.τ).loc Cert.AdamSmallARefIdeal.main_arg1)
          ∧ r.2.mem ((c.tc : Thread Cert.AdamSmallARefIdeal.nD Cert.AdamSmallARefIdeal.τ).loc Cert.AdamSmallARefIdeal.main_arg2) = m' ((c.tc : Thread Cert.AdamSmallARefIdeal.nD Cert.AdamSmallARefIdeal.τ).loc Cert.AdamSmallARefIdeal.main_arg2)
          ∧ r.2.mem ((c.tc : Thread Cert.AdamSmallARefIdeal.nD Cert.AdamSmallARefIdeal.τ).loc Cert.AdamSmallARefIdeal.main_arg3) = m' ((c.tc : Thread Cert.AdamSmallARefIdeal.nD Cert.AdamSmallARefIdeal.τ).loc Cert.AdamSmallARefIdeal.main_arg3)
          ∧ r.2.mem ((c.tc : Thread Cert.AdamSmallARefIdeal.nD Cert.AdamSmallARefIdeal.τ).loc Cert.AdamSmallARefIdeal.main_arg4) = m' ((c.tc : Thread Cert.AdamSmallARefIdeal.nD Cert.AdamSmallARefIdeal.τ).loc Cert.AdamSmallARefIdeal.main_arg4)
          ∧ r.2.mem ((c.tc : Thread Cert.AdamSmallARefIdeal.nD Cert.AdamSmallARefIdeal.τ).loc Cert.AdamSmallARefIdeal.main_arg5) = m' ((c.tc : Thread Cert.AdamSmallARefIdeal.nD Cert.AdamSmallARefIdeal.τ).loc Cert.AdamSmallARefIdeal.main_arg5)
          ∧ r.2.mem ((c.tc : Thread Cert.AdamSmallARefIdeal.nD Cert.AdamSmallARefIdeal.τ).loc Cert.AdamSmallARefIdeal.main_arg6) = m' ((c.tc : Thread Cert.AdamSmallARefIdeal.nD Cert.AdamSmallARefIdeal.τ).loc Cert.AdamSmallARefIdeal.main_arg6)
          ∧ r.2.mem ((c.tc : Thread Cert.AdamSmallARefIdeal.nD Cert.AdamSmallARefIdeal.τ).loc Cert.AdamSmallARefIdeal.main_arg7) = m' ((c.tc : Thread Cert.AdamSmallARefIdeal.nD Cert.AdamSmallARefIdeal.τ).loc Cert.AdamSmallARefIdeal.main_arg7)
          ∧ r.2.mem ((c.tc : Thread Cert.AdamSmallARefIdeal.nD Cert.AdamSmallARefIdeal.τ).loc Cert.AdamSmallARefIdeal.main_arg8) = m' ((c.tc : Thread Cert.AdamSmallARefIdeal.nD Cert.AdamSmallARefIdeal.τ).loc Cert.AdamSmallARefIdeal.main_arg8)
          ∧ r.2.mem ((c.tc : Thread Cert.AdamSmallARefIdeal.nD Cert.AdamSmallARefIdeal.τ).loc Cert.AdamSmallARefIdeal.main_arg9) = m' ((c.tc : Thread Cert.AdamSmallARefIdeal.nD Cert.AdamSmallARefIdeal.τ).loc Cert.AdamSmallARefIdeal.main_arg9)
          ∧ r.2.mem ((c.tc : Thread Cert.AdamSmallARefIdeal.nD Cert.AdamSmallARefIdeal.τ).loc Cert.AdamSmallARefIdeal.main_arg10) = m' ((c.tc : Thread Cert.AdamSmallARefIdeal.nD Cert.AdamSmallARefIdeal.τ).loc Cert.AdamSmallARefIdeal.main_arg10)
          ∧ r.2.mem ((c.tc : Thread Cert.AdamSmallARefIdeal.nD Cert.AdamSmallARefIdeal.τ).loc Cert.AdamSmallARefIdeal.main_arg11) = m' ((c.tc : Thread Cert.AdamSmallARefIdeal.nD Cert.AdamSmallARefIdeal.τ).loc Cert.AdamSmallARefIdeal.main_arg11))

def preserves_AdamSmallB_AdamSmallBIdeal : Prop :=
  True

def algebraic_AdamSmallBIdeal_AdamSmallBRefIdeal [hAdamSmallBIdeal : Cert.AdamSmallBIdeal.Facts] [hAdamSmallBRefIdeal : Cert.AdamSmallBRefIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg)
    (m' : (ℓ : Loc Cert.AdamSmallBRefIdeal.nD Cert.AdamSmallBRefIdeal.τ Cert.AdamSmallBRefIdeal.sig) → Buf (Elt Ideal) ℓ) (g' : Dev Cert.AdamSmallBRefIdeal.nD → PrngReg), Pre_AdamSmallBIdeal m →
    (∀ c : Dev Cert.AdamSmallBIdeal.nD,
      m' ((c.tc : Thread Cert.AdamSmallBRefIdeal.nD Cert.AdamSmallBRefIdeal.τ).loc Cert.AdamSmallBRefIdeal.main_arg0) = m ((c.tc : Thread Cert.AdamSmallBIdeal.nD Cert.AdamSmallBIdeal.τ).loc Cert.AdamSmallBIdeal.main_arg0)
      ∧ m' ((c.tc : Thread Cert.AdamSmallBRefIdeal.nD Cert.AdamSmallBRefIdeal.τ).loc Cert.AdamSmallBRefIdeal.main_arg1) = m ((c.tc : Thread Cert.AdamSmallBIdeal.nD Cert.AdamSmallBIdeal.τ).loc Cert.AdamSmallBIdeal.main_arg1)
      ∧ m' ((c.tc : Thread Cert.AdamSmallBRefIdeal.nD Cert.AdamSmallBRefIdeal.τ).loc Cert.AdamSmallBRefIdeal.main_arg2) = m ((c.tc : Thread Cert.AdamSmallBIdeal.nD Cert.AdamSmallBIdeal.τ).loc Cert.AdamSmallBIdeal.main_arg2)
      ∧ m' ((c.tc : Thread Cert.AdamSmallBRefIdeal.nD Cert.AdamSmallBRefIdeal.τ).loc Cert.AdamSmallBRefIdeal.main_arg3) = m ((c.tc : Thread Cert.AdamSmallBIdeal.nD Cert.AdamSmallBIdeal.τ).loc Cert.AdamSmallBIdeal.main_arg3)
      ∧ m' ((c.tc : Thread Cert.AdamSmallBRefIdeal.nD Cert.AdamSmallBRefIdeal.τ).loc Cert.AdamSmallBRefIdeal.main_arg4) = m ((c.tc : Thread Cert.AdamSmallBIdeal.nD Cert.AdamSmallBIdeal.τ).loc Cert.AdamSmallBIdeal.main_arg4)
      ∧ m' ((c.tc : Thread Cert.AdamSmallBRefIdeal.nD Cert.AdamSmallBRefIdeal.τ).loc Cert.AdamSmallBRefIdeal.main_arg5) = m ((c.tc : Thread Cert.AdamSmallBIdeal.nD Cert.AdamSmallBIdeal.τ).loc Cert.AdamSmallBIdeal.main_arg5)
      ∧ m' ((c.tc : Thread Cert.AdamSmallBRefIdeal.nD Cert.AdamSmallBRefIdeal.τ).loc Cert.AdamSmallBRefIdeal.main_arg6) = m ((c.tc : Thread Cert.AdamSmallBIdeal.nD Cert.AdamSmallBIdeal.τ).loc Cert.AdamSmallBIdeal.main_arg6)
      ∧ m' ((c.tc : Thread Cert.AdamSmallBRefIdeal.nD Cert.AdamSmallBRefIdeal.τ).loc Cert.AdamSmallBRefIdeal.main_arg7) = m ((c.tc : Thread Cert.AdamSmallBIdeal.nD Cert.AdamSmallBIdeal.τ).loc Cert.AdamSmallBIdeal.main_arg7)
      ∧ m' ((c.tc : Thread Cert.AdamSmallBRefIdeal.nD Cert.AdamSmallBRefIdeal.τ).loc Cert.AdamSmallBRefIdeal.main_arg8) = m ((c.tc : Thread Cert.AdamSmallBIdeal.nD Cert.AdamSmallBIdeal.τ).loc Cert.AdamSmallBIdeal.main_arg8)
      ∧ m' ((c.tc : Thread Cert.AdamSmallBRefIdeal.nD Cert.AdamSmallBRefIdeal.τ).loc Cert.AdamSmallBRefIdeal.main_arg9) = m ((c.tc : Thread Cert.AdamSmallBIdeal.nD Cert.AdamSmallBIdeal.τ).loc Cert.AdamSmallBIdeal.main_arg9)
      ∧ m' ((c.tc : Thread Cert.AdamSmallBRefIdeal.nD Cert.AdamSmallBRefIdeal.τ).loc Cert.AdamSmallBRefIdeal.main_arg10) = m ((c.tc : Thread Cert.AdamSmallBIdeal.nD Cert.AdamSmallBIdeal.τ).loc Cert.AdamSmallBIdeal.main_arg10)
      ∧ m' ((c.tc : Thread Cert.AdamSmallBRefIdeal.nD Cert.AdamSmallBRefIdeal.τ).loc Cert.AdamSmallBRefIdeal.main_arg11) = m ((c.tc : Thread Cert.AdamSmallBIdeal.nD Cert.AdamSmallBIdeal.τ).loc Cert.AdamSmallBIdeal.main_arg11)) →
    ∃ (v0 : (c : Dev Cert.AdamSmallBIdeal.nD) → Buf (Elt Ideal) ((c.tc : Thread Cert.AdamSmallBIdeal.nD Cert.AdamSmallBIdeal.τ).loc Cert.AdamSmallBIdeal.main_v0_0)) (v1 : (c : Dev Cert.AdamSmallBIdeal.nD) → Buf (Elt Ideal) ((c.tc : Thread Cert.AdamSmallBIdeal.nD Cert.AdamSmallBIdeal.τ).loc Cert.AdamSmallBIdeal.main_v0_1)) (v2 : (c : Dev Cert.AdamSmallBIdeal.nD) → Buf (Elt Ideal) ((c.tc : Thread Cert.AdamSmallBIdeal.nD Cert.AdamSmallBIdeal.τ).loc Cert.AdamSmallBIdeal.main_v0_2)) (v3 : (c : Dev Cert.AdamSmallBIdeal.nD) → Buf (Elt Ideal) ((c.tc : Thread Cert.AdamSmallBIdeal.nD Cert.AdamSmallBIdeal.τ).loc Cert.AdamSmallBIdeal.main_v0_3)) (v4 : (c : Dev Cert.AdamSmallBIdeal.nD) → Buf (Elt Ideal) ((c.tc : Thread Cert.AdamSmallBIdeal.nD Cert.AdamSmallBIdeal.τ).loc Cert.AdamSmallBIdeal.main_v0_4)) (v5 : (c : Dev Cert.AdamSmallBIdeal.nD) → Buf (Elt Ideal) ((c.tc : Thread Cert.AdamSmallBIdeal.nD Cert.AdamSmallBIdeal.τ).loc Cert.AdamSmallBIdeal.main_v0_5)) (v6 : (c : Dev Cert.AdamSmallBIdeal.nD) → Buf (Elt Ideal) ((c.tc : Thread Cert.AdamSmallBIdeal.nD Cert.AdamSmallBIdeal.τ).loc Cert.AdamSmallBIdeal.main_v0_6)) (v7 : (c : Dev Cert.AdamSmallBIdeal.nD) → Buf (Elt Ideal) ((c.tc : Thread Cert.AdamSmallBIdeal.nD Cert.AdamSmallBIdeal.τ).loc Cert.AdamSmallBIdeal.main_v0_7)) (v8 : (c : Dev Cert.AdamSmallBIdeal.nD) → Buf (Elt Ideal) ((c.tc : Thread Cert.AdamSmallBIdeal.nD Cert.AdamSmallBIdeal.τ).loc Cert.AdamSmallBIdeal.main_v0_8)),
      θ_run (Cert.AdamSmallBIdeal.defs (F := Ideal)) (onTc (τ := Cert.AdamSmallBIdeal.τ) (Cert.AdamSmallBIdeal.main (F := Ideal))) ⟨m, fun _ => 0, g⟩ (fun r => ∀ c : Dev Cert.AdamSmallBIdeal.nD,
          r.2.mem ((c.tc : Thread Cert.AdamSmallBIdeal.nD Cert.AdamSmallBIdeal.τ).loc Cert.AdamSmallBIdeal.main_v0_0) = v0 c
          ∧ r.2.mem ((c.tc : Thread Cert.AdamSmallBIdeal.nD Cert.AdamSmallBIdeal.τ).loc Cert.AdamSmallBIdeal.main_v0_1) = v1 c
          ∧ r.2.mem ((c.tc : Thread Cert.AdamSmallBIdeal.nD Cert.AdamSmallBIdeal.τ).loc Cert.AdamSmallBIdeal.main_v0_2) = v2 c
          ∧ r.2.mem ((c.tc : Thread Cert.AdamSmallBIdeal.nD Cert.AdamSmallBIdeal.τ).loc Cert.AdamSmallBIdeal.main_v0_3) = v3 c
          ∧ r.2.mem ((c.tc : Thread Cert.AdamSmallBIdeal.nD Cert.AdamSmallBIdeal.τ).loc Cert.AdamSmallBIdeal.main_v0_4) = v4 c
          ∧ r.2.mem ((c.tc : Thread Cert.AdamSmallBIdeal.nD Cert.AdamSmallBIdeal.τ).loc Cert.AdamSmallBIdeal.main_v0_5) = v5 c
          ∧ r.2.mem ((c.tc : Thread Cert.AdamSmallBIdeal.nD Cert.AdamSmallBIdeal.τ).loc Cert.AdamSmallBIdeal.main_v0_6) = v6 c
          ∧ r.2.mem ((c.tc : Thread Cert.AdamSmallBIdeal.nD Cert.AdamSmallBIdeal.τ).loc Cert.AdamSmallBIdeal.main_v0_7) = v7 c
          ∧ r.2.mem ((c.tc : Thread Cert.AdamSmallBIdeal.nD Cert.AdamSmallBIdeal.τ).loc Cert.AdamSmallBIdeal.main_v0_8) = v8 c
          ∧ r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
          ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
          ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
          ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
          ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
          ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
          ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
          ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
          ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
          ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
          ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
          ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11))
      ∧ θ_run (Cert.AdamSmallBRefIdeal.defs (F := Ideal)) (onTc (τ := Cert.AdamSmallBRefIdeal.τ) (Cert.AdamSmallBRefIdeal.main (F := Ideal))) ⟨m', fun _ => 0, g'⟩ (fun r => ∀ c : Dev Cert.AdamSmallBRefIdeal.nD,
          r.2.mem ((c.tc : Thread Cert.AdamSmallBRefIdeal.nD Cert.AdamSmallBRefIdeal.τ).loc Cert.AdamSmallBRefIdeal.main_v23) = v0 c
          ∧ r.2.mem ((c.tc : Thread Cert.AdamSmallBRefIdeal.nD Cert.AdamSmallBRefIdeal.τ).loc Cert.AdamSmallBRefIdeal.main_v47) = v1 c
          ∧ r.2.mem ((c.tc : Thread Cert.AdamSmallBRefIdeal.nD Cert.AdamSmallBRefIdeal.τ).loc Cert.AdamSmallBRefIdeal.main_v71) = v2 c
          ∧ r.2.mem ((c.tc : Thread Cert.AdamSmallBRefIdeal.nD Cert.AdamSmallBRefIdeal.τ).loc Cert.AdamSmallBRefIdeal.main_v4) = v3 c
          ∧ r.2.mem ((c.tc : Thread Cert.AdamSmallBRefIdeal.nD Cert.AdamSmallBRefIdeal.τ).loc Cert.AdamSmallBRefIdeal.main_v28) = v4 c
          ∧ r.2.mem ((c.tc : Thread Cert.AdamSmallBRefIdeal.nD Cert.AdamSmallBRefIdeal.τ).loc Cert.AdamSmallBRefIdeal.main_v52) = v5 c
          ∧ r.2.mem ((c.tc : Thread Cert.AdamSmallBRefIdeal.nD Cert.AdamSmallBRefIdeal.τ).loc Cert.AdamSmallBRefIdeal.main_v10) = v6 c
          ∧ r.2.mem ((c.tc : Thread Cert.AdamSmallBRefIdeal.nD Cert.AdamSmallBRefIdeal.τ).loc Cert.AdamSmallBRefIdeal.main_v34) = v7 c
          ∧ r.2.mem ((c.tc : Thread Cert.AdamSmallBRefIdeal.nD Cert.AdamSmallBRefIdeal.τ).loc Cert.AdamSmallBRefIdeal.main_v58) = v8 c
          ∧ r.2.mem ((c.tc : Thread Cert.AdamSmallBRefIdeal.nD Cert.AdamSmallBRefIdeal.τ).loc Cert.AdamSmallBRefIdeal.main_arg0) = m' ((c.tc : Thread Cert.AdamSmallBRefIdeal.nD Cert.AdamSmallBRefIdeal.τ).loc Cert.AdamSmallBRefIdeal.main_arg0)
          ∧ r.2.mem ((c.tc : Thread Cert.AdamSmallBRefIdeal.nD Cert.AdamSmallBRefIdeal.τ).loc Cert.AdamSmallBRefIdeal.main_arg1) = m' ((c.tc : Thread Cert.AdamSmallBRefIdeal.nD Cert.AdamSmallBRefIdeal.τ).loc Cert.AdamSmallBRefIdeal.main_arg1)
          ∧ r.2.mem ((c.tc : Thread Cert.AdamSmallBRefIdeal.nD Cert.AdamSmallBRefIdeal.τ).loc Cert.AdamSmallBRefIdeal.main_arg2) = m' ((c.tc : Thread Cert.AdamSmallBRefIdeal.nD Cert.AdamSmallBRefIdeal.τ).loc Cert.AdamSmallBRefIdeal.main_arg2)
          ∧ r.2.mem ((c.tc : Thread Cert.AdamSmallBRefIdeal.nD Cert.AdamSmallBRefIdeal.τ).loc Cert.AdamSmallBRefIdeal.main_arg3) = m' ((c.tc : Thread Cert.AdamSmallBRefIdeal.nD Cert.AdamSmallBRefIdeal.τ).loc Cert.AdamSmallBRefIdeal.main_arg3)
          ∧ r.2.mem ((c.tc : Thread Cert.AdamSmallBRefIdeal.nD Cert.AdamSmallBRefIdeal.τ).loc Cert.AdamSmallBRefIdeal.main_arg4) = m' ((c.tc : Thread Cert.AdamSmallBRefIdeal.nD Cert.AdamSmallBRefIdeal.τ).loc Cert.AdamSmallBRefIdeal.main_arg4)
          ∧ r.2.mem ((c.tc : Thread Cert.AdamSmallBRefIdeal.nD Cert.AdamSmallBRefIdeal.τ).loc Cert.AdamSmallBRefIdeal.main_arg5) = m' ((c.tc : Thread Cert.AdamSmallBRefIdeal.nD Cert.AdamSmallBRefIdeal.τ).loc Cert.AdamSmallBRefIdeal.main_arg5)
          ∧ r.2.mem ((c.tc : Thread Cert.AdamSmallBRefIdeal.nD Cert.AdamSmallBRefIdeal.τ).loc Cert.AdamSmallBRefIdeal.main_arg6) = m' ((c.tc : Thread Cert.AdamSmallBRefIdeal.nD Cert.AdamSmallBRefIdeal.τ).loc Cert.AdamSmallBRefIdeal.main_arg6)
          ∧ r.2.mem ((c.tc : Thread Cert.AdamSmallBRefIdeal.nD Cert.AdamSmallBRefIdeal.τ).loc Cert.AdamSmallBRefIdeal.main_arg7) = m' ((c.tc : Thread Cert.AdamSmallBRefIdeal.nD Cert.AdamSmallBRefIdeal.τ).loc Cert.AdamSmallBRefIdeal.main_arg7)
          ∧ r.2.mem ((c.tc : Thread Cert.AdamSmallBRefIdeal.nD Cert.AdamSmallBRefIdeal.τ).loc Cert.AdamSmallBRefIdeal.main_arg8) = m' ((c.tc : Thread Cert.AdamSmallBRefIdeal.nD Cert.AdamSmallBRefIdeal.τ).loc Cert.AdamSmallBRefIdeal.main_arg8)
          ∧ r.2.mem ((c.tc : Thread Cert.AdamSmallBRefIdeal.nD Cert.AdamSmallBRefIdeal.τ).loc Cert.AdamSmallBRefIdeal.main_arg9) = m' ((c.tc : Thread Cert.AdamSmallBRefIdeal.nD Cert.AdamSmallBRefIdeal.τ).loc Cert.AdamSmallBRefIdeal.main_arg9)
          ∧ r.2.mem ((c.tc : Thread Cert.AdamSmallBRefIdeal.nD Cert.AdamSmallBRefIdeal.τ).loc Cert.AdamSmallBRefIdeal.main_arg10) = m' ((c.tc : Thread Cert.AdamSmallBRefIdeal.nD Cert.AdamSmallBRefIdeal.τ).loc Cert.AdamSmallBRefIdeal.main_arg10)
          ∧ r.2.mem ((c.tc : Thread Cert.AdamSmallBRefIdeal.nD Cert.AdamSmallBRefIdeal.τ).loc Cert.AdamSmallBRefIdeal.main_arg11) = m' ((c.tc : Thread Cert.AdamSmallBRefIdeal.nD Cert.AdamSmallBRefIdeal.τ).loc Cert.AdamSmallBRefIdeal.main_arg11))

def preserves_AdamSmallC_AdamSmallCIdeal : Prop :=
  True

def algebraic_AdamSmallCIdeal_AdamSmallCRefIdeal [hAdamSmallCIdeal : Cert.AdamSmallCIdeal.Facts] [hAdamSmallCRefIdeal : Cert.AdamSmallCRefIdeal.Facts] : Prop :=
  ∀ (m : (ℓ : Loc Cert.AdamSmallCIdeal.nD Cert.AdamSmallCIdeal.τ Cert.AdamSmallCIdeal.sig) → Buf (Elt Ideal) ℓ) (g : Dev Cert.AdamSmallCIdeal.nD → PrngReg)
    (m' : (ℓ : Loc Cert.AdamSmallCRefIdeal.nD Cert.AdamSmallCRefIdeal.τ Cert.AdamSmallCRefIdeal.sig) → Buf (Elt Ideal) ℓ) (g' : Dev Cert.AdamSmallCRefIdeal.nD → PrngReg), Pre_AdamSmallCIdeal m →
    (∀ c : Dev Cert.AdamSmallCIdeal.nD,
      m' ((c.tc : Thread Cert.AdamSmallCRefIdeal.nD Cert.AdamSmallCRefIdeal.τ).loc Cert.AdamSmallCRefIdeal.main_arg0) = m ((c.tc : Thread Cert.AdamSmallCIdeal.nD Cert.AdamSmallCIdeal.τ).loc Cert.AdamSmallCIdeal.main_arg0)
      ∧ m' ((c.tc : Thread Cert.AdamSmallCRefIdeal.nD Cert.AdamSmallCRefIdeal.τ).loc Cert.AdamSmallCRefIdeal.main_arg1) = m ((c.tc : Thread Cert.AdamSmallCIdeal.nD Cert.AdamSmallCIdeal.τ).loc Cert.AdamSmallCIdeal.main_arg1)
      ∧ m' ((c.tc : Thread Cert.AdamSmallCRefIdeal.nD Cert.AdamSmallCRefIdeal.τ).loc Cert.AdamSmallCRefIdeal.main_arg2) = m ((c.tc : Thread Cert.AdamSmallCIdeal.nD Cert.AdamSmallCIdeal.τ).loc Cert.AdamSmallCIdeal.main_arg2)
      ∧ m' ((c.tc : Thread Cert.AdamSmallCRefIdeal.nD Cert.AdamSmallCRefIdeal.τ).loc Cert.AdamSmallCRefIdeal.main_arg3) = m ((c.tc : Thread Cert.AdamSmallCIdeal.nD Cert.AdamSmallCIdeal.τ).loc Cert.AdamSmallCIdeal.main_arg3)
      ∧ m' ((c.tc : Thread Cert.AdamSmallCRefIdeal.nD Cert.AdamSmallCRefIdeal.τ).loc Cert.AdamSmallCRefIdeal.main_arg4) = m ((c.tc : Thread Cert.AdamSmallCIdeal.nD Cert.AdamSmallCIdeal.τ).loc Cert.AdamSmallCIdeal.main_arg4)
      ∧ m' ((c.tc : Thread Cert.AdamSmallCRefIdeal.nD Cert.AdamSmallCRefIdeal.τ).loc Cert.AdamSmallCRefIdeal.main_arg5) = m ((c.tc : Thread Cert.AdamSmallCIdeal.nD Cert.AdamSmallCIdeal.τ).loc Cert.AdamSmallCIdeal.main_arg5)
      ∧ m' ((c.tc : Thread Cert.AdamSmallCRefIdeal.nD Cert.AdamSmallCRefIdeal.τ).loc Cert.AdamSmallCRefIdeal.main_arg6) = m ((c.tc : Thread Cert.AdamSmallCIdeal.nD Cert.AdamSmallCIdeal.τ).loc Cert.AdamSmallCIdeal.main_arg6)
      ∧ m' ((c.tc : Thread Cert.AdamSmallCRefIdeal.nD Cert.AdamSmallCRefIdeal.τ).loc Cert.AdamSmallCRefIdeal.main_arg7) = m ((c.tc : Thread Cert.AdamSmallCIdeal.nD Cert.AdamSmallCIdeal.τ).loc Cert.AdamSmallCIdeal.main_arg7)
      ∧ m' ((c.tc : Thread Cert.AdamSmallCRefIdeal.nD Cert.AdamSmallCRefIdeal.τ).loc Cert.AdamSmallCRefIdeal.main_arg8) = m ((c.tc : Thread Cert.AdamSmallCIdeal.nD Cert.AdamSmallCIdeal.τ).loc Cert.AdamSmallCIdeal.main_arg8)
      ∧ m' ((c.tc : Thread Cert.AdamSmallCRefIdeal.nD Cert.AdamSmallCRefIdeal.τ).loc Cert.AdamSmallCRefIdeal.main_arg9) = m ((c.tc : Thread Cert.AdamSmallCIdeal.nD Cert.AdamSmallCIdeal.τ).loc Cert.AdamSmallCIdeal.main_arg9)
      ∧ m' ((c.tc : Thread Cert.AdamSmallCRefIdeal.nD Cert.AdamSmallCRefIdeal.τ).loc Cert.AdamSmallCRefIdeal.main_arg10) = m ((c.tc : Thread Cert.AdamSmallCIdeal.nD Cert.AdamSmallCIdeal.τ).loc Cert.AdamSmallCIdeal.main_arg10)
      ∧ m' ((c.tc : Thread Cert.AdamSmallCRefIdeal.nD Cert.AdamSmallCRefIdeal.τ).loc Cert.AdamSmallCRefIdeal.main_arg11) = m ((c.tc : Thread Cert.AdamSmallCIdeal.nD Cert.AdamSmallCIdeal.τ).loc Cert.AdamSmallCIdeal.main_arg11)) →
    ∃ (v0 : (c : Dev Cert.AdamSmallCIdeal.nD) → Buf (Elt Ideal) ((c.tc : Thread Cert.AdamSmallCIdeal.nD Cert.AdamSmallCIdeal.τ).loc Cert.AdamSmallCIdeal.main_v8_0)) (v1 : (c : Dev Cert.AdamSmallCIdeal.nD) → Buf (Elt Ideal) ((c.tc : Thread Cert.AdamSmallCIdeal.nD Cert.AdamSmallCIdeal.τ).loc Cert.AdamSmallCIdeal.main_v8_1)) (v2 : (c : Dev Cert.AdamSmallCIdeal.nD) → Buf (Elt Ideal) ((c.tc : Thread Cert.AdamSmallCIdeal.nD Cert.AdamSmallCIdeal.τ).loc Cert.AdamSmallCIdeal.main_v8_2)) (v3 : (c : Dev Cert.AdamSmallCIdeal.nD) → Buf (Elt Ideal) ((c.tc : Thread Cert.AdamSmallCIdeal.nD Cert.AdamSmallCIdeal.τ).loc Cert.AdamSmallCIdeal.main_v8_3)) (v4 : (c : Dev Cert.AdamSmallCIdeal.nD) → Buf (Elt Ideal) ((c.tc : Thread Cert.AdamSmallCIdeal.nD Cert.AdamSmallCIdeal.τ).loc Cert.AdamSmallCIdeal.main_v8_4)) (v5 : (c : Dev Cert.AdamSmallCIdeal.nD) → Buf (Elt Ideal) ((c.tc : Thread Cert.AdamSmallCIdeal.nD Cert.AdamSmallCIdeal.τ).loc Cert.AdamSmallCIdeal.main_v8_5)) (v6 : (c : Dev Cert.AdamSmallCIdeal.nD) → Buf (Elt Ideal) ((c.tc : Thread Cert.AdamSmallCIdeal.nD Cert.AdamSmallCIdeal.τ).loc Cert.AdamSmallCIdeal.main_v8_6)) (v7 : (c : Dev Cert.AdamSmallCIdeal.nD) → Buf (Elt Ideal) ((c.tc : Thread Cert.AdamSmallCIdeal.nD Cert.AdamSmallCIdeal.τ).loc Cert.AdamSmallCIdeal.main_v8_7)) (v8 : (c : Dev Cert.AdamSmallCIdeal.nD) → Buf (Elt Ideal) ((c.tc : Thread Cert.AdamSmallCIdeal.nD Cert.AdamSmallCIdeal.τ).loc Cert.AdamSmallCIdeal.main_v8_8)),
      θ_run (Cert.AdamSmallCIdeal.defs (F := Ideal)) (onTc (τ := Cert.AdamSmallCIdeal.τ) (Cert.AdamSmallCIdeal.main (F := Ideal))) ⟨m, fun _ => 0, g⟩ (fun r => ∀ c : Dev Cert.AdamSmallCIdeal.nD,
          r.2.mem ((c.tc : Thread Cert.AdamSmallCIdeal.nD Cert.AdamSmallCIdeal.τ).loc Cert.AdamSmallCIdeal.main_v8_0) = v0 c
          ∧ r.2.mem ((c.tc : Thread Cert.AdamSmallCIdeal.nD Cert.AdamSmallCIdeal.τ).loc Cert.AdamSmallCIdeal.main_v8_1) = v1 c
          ∧ r.2.mem ((c.tc : Thread Cert.AdamSmallCIdeal.nD Cert.AdamSmallCIdeal.τ).loc Cert.AdamSmallCIdeal.main_v8_2) = v2 c
          ∧ r.2.mem ((c.tc : Thread Cert.AdamSmallCIdeal.nD Cert.AdamSmallCIdeal.τ).loc Cert.AdamSmallCIdeal.main_v8_3) = v3 c
          ∧ r.2.mem ((c.tc : Thread Cert.AdamSmallCIdeal.nD Cert.AdamSmallCIdeal.τ).loc Cert.AdamSmallCIdeal.main_v8_4) = v4 c
          ∧ r.2.mem ((c.tc : Thread Cert.AdamSmallCIdeal.nD Cert.AdamSmallCIdeal.τ).loc Cert.AdamSmallCIdeal.main_v8_5) = v5 c
          ∧ r.2.mem ((c.tc : Thread Cert.AdamSmallCIdeal.nD Cert.AdamSmallCIdeal.τ).loc Cert.AdamSmallCIdeal.main_v8_6) = v6 c
          ∧ r.2.mem ((c.tc : Thread Cert.AdamSmallCIdeal.nD Cert.AdamSmallCIdeal.τ).loc Cert.AdamSmallCIdeal.main_v8_7) = v7 c
          ∧ r.2.mem ((c.tc : Thread Cert.AdamSmallCIdeal.nD Cert.AdamSmallCIdeal.τ).loc Cert.AdamSmallCIdeal.main_v8_8) = v8 c
          ∧ r.2.mem ((c.tc : Thread Cert.AdamSmallCIdeal.nD Cert.AdamSmallCIdeal.τ).loc Cert.AdamSmallCIdeal.main_arg0) = m ((c.tc : Thread Cert.AdamSmallCIdeal.nD Cert.AdamSmallCIdeal.τ).loc Cert.AdamSmallCIdeal.main_arg0)
          ∧ r.2.mem ((c.tc : Thread Cert.AdamSmallCIdeal.nD Cert.AdamSmallCIdeal.τ).loc Cert.AdamSmallCIdeal.main_arg1) = m ((c.tc : Thread Cert.AdamSmallCIdeal.nD Cert.AdamSmallCIdeal.τ).loc Cert.AdamSmallCIdeal.main_arg1)
          ∧ r.2.mem ((c.tc : Thread Cert.AdamSmallCIdeal.nD Cert.AdamSmallCIdeal.τ).loc Cert.AdamSmallCIdeal.main_arg2) = m ((c.tc : Thread Cert.AdamSmallCIdeal.nD Cert.AdamSmallCIdeal.τ).loc Cert.AdamSmallCIdeal.main_arg2)
          ∧ r.2.mem ((c.tc : Thread Cert.AdamSmallCIdeal.nD Cert.AdamSmallCIdeal.τ).loc Cert.AdamSmallCIdeal.main_arg3) = m ((c.tc : Thread Cert.AdamSmallCIdeal.nD Cert.AdamSmallCIdeal.τ).loc Cert.AdamSmallCIdeal.main_arg3)
          ∧ r.2.mem ((c.tc : Thread Cert.AdamSmallCIdeal.nD Cert.AdamSmallCIdeal.τ).loc Cert.AdamSmallCIdeal.main_arg4) = m ((c.tc : Thread Cert.AdamSmallCIdeal.nD Cert.AdamSmallCIdeal.τ).loc Cert.AdamSmallCIdeal.main_arg4)
          ∧ r.2.mem ((c.tc : Thread Cert.AdamSmallCIdeal.nD Cert.AdamSmallCIdeal.τ).loc Cert.AdamSmallCIdeal.main_arg5) = m ((c.tc : Thread Cert.AdamSmallCIdeal.nD Cert.AdamSmallCIdeal.τ).loc Cert.AdamSmallCIdeal.main_arg5)
          ∧ r.2.mem ((c.tc : Thread Cert.AdamSmallCIdeal.nD Cert.AdamSmallCIdeal.τ).loc Cert.AdamSmallCIdeal.main_arg6) = m ((c.tc : Thread Cert.AdamSmallCIdeal.nD Cert.AdamSmallCIdeal.τ).loc Cert.AdamSmallCIdeal.main_arg6)
          ∧ r.2.mem ((c.tc : Thread Cert.AdamSmallCIdeal.nD Cert.AdamSmallCIdeal.τ).loc Cert.AdamSmallCIdeal.main_arg7) = m ((c.tc : Thread Cert.AdamSmallCIdeal.nD Cert.AdamSmallCIdeal.τ).loc Cert.AdamSmallCIdeal.main_arg7)
          ∧ r.2.mem ((c.tc : Thread Cert.AdamSmallCIdeal.nD Cert.AdamSmallCIdeal.τ).loc Cert.AdamSmallCIdeal.main_arg8) = m ((c.tc : Thread Cert.AdamSmallCIdeal.nD Cert.AdamSmallCIdeal.τ).loc Cert.AdamSmallCIdeal.main_arg8)
          ∧ r.2.mem ((c.tc : Thread Cert.AdamSmallCIdeal.nD Cert.AdamSmallCIdeal.τ).loc Cert.AdamSmallCIdeal.main_arg9) = m ((c.tc : Thread Cert.AdamSmallCIdeal.nD Cert.AdamSmallCIdeal.τ).loc Cert.AdamSmallCIdeal.main_arg9)
          ∧ r.2.mem ((c.tc : Thread Cert.AdamSmallCIdeal.nD Cert.AdamSmallCIdeal.τ).loc Cert.AdamSmallCIdeal.main_arg10) = m ((c.tc : Thread Cert.AdamSmallCIdeal.nD Cert.AdamSmallCIdeal.τ).loc Cert.AdamSmallCIdeal.main_arg10)
          ∧ r.2.mem ((c.tc : Thread Cert.AdamSmallCIdeal.nD Cert.AdamSmallCIdeal.τ).loc Cert.AdamSmallCIdeal.main_arg11) = m ((c.tc : Thread Cert.AdamSmallCIdeal.nD Cert.AdamSmallCIdeal.τ).loc Cert.AdamSmallCIdeal.main_arg11))
      ∧ θ_run (Cert.AdamSmallCRefIdeal.defs (F := Ideal)) (onTc (τ := Cert.AdamSmallCRefIdeal.τ) (Cert.AdamSmallCRefIdeal.main (F := Ideal))) ⟨m', fun _ => 0, g'⟩ (fun r => ∀ c : Dev Cert.AdamSmallCRefIdeal.nD,
          r.2.mem ((c.tc : Thread Cert.AdamSmallCRefIdeal.nD Cert.AdamSmallCRefIdeal.τ).loc Cert.AdamSmallCRefIdeal.main_v23) = v0 c
          ∧ r.2.mem ((c.tc : Thread Cert.AdamSmallCRefIdeal.nD Cert.AdamSmallCRefIdeal.τ).loc Cert.AdamSmallCRefIdeal.main_v72) = v1 c
          ∧ r.2.mem ((c.tc : Thread Cert.AdamSmallCRefIdeal.nD Cert.AdamSmallCRefIdeal.τ).loc Cert.AdamSmallCRefIdeal.main_v73) = v2 c
          ∧ r.2.mem ((c.tc : Thread Cert.AdamSmallCRefIdeal.nD Cert.AdamSmallCRefIdeal.τ).loc Cert.AdamSmallCRefIdeal.main_v4) = v3 c
          ∧ r.2.mem ((c.tc : Thread Cert.AdamSmallCRefIdeal.nD Cert.AdamSmallCRefIdeal.τ).loc Cert.AdamSmallCRefIdeal.main_v74) = v4 c
          ∧ r.2.mem ((c.tc : Thread Cert.AdamSmallCRefIdeal.nD Cert.AdamSmallCRefIdeal.τ).loc Cert.AdamSmallCRefIdeal.main_v75) = v5 c
          ∧ r.2.mem ((c.tc : Thread Cert.AdamSmallCRefIdeal.nD Cert.AdamSmallCRefIdeal.τ).loc Cert.AdamSmallCRefIdeal.main_v10) = v6 c
          ∧ r.2.mem ((c.tc : Thread Cert.AdamSmallCRefIdeal.nD Cert.AdamSmallCRefIdeal.τ).loc Cert.AdamSmallCRefIdeal.main_v76) = v7 c
          ∧ r.2.mem ((c.tc : Thread Cert.AdamSmallCRefIdeal.nD Cert.AdamSmallCRefIdeal.τ).loc Cert.AdamSmallCRefIdeal.main_v77) = v8 c
          ∧ r.2.mem ((c.tc : Thread Cert.AdamSmallCRefIdeal.nD Cert.AdamSmallCRefIdeal.τ).loc Cert.AdamSmallCRefIdeal.main_arg0) = m' ((c.tc : Thread Cert.AdamSmallCRefIdeal.nD Cert.AdamSmallCRefIdeal.τ).loc Cert.AdamSmallCRefIdeal.main_arg0)
          ∧ r.2.mem ((c.tc : Thread Cert.AdamSmallCRefIdeal.nD Cert.AdamSmallCRefIdeal.τ).loc Cert.AdamSmallCRefIdeal.main_arg1) = m' ((c.tc : Thread Cert.AdamSmallCRefIdeal.nD Cert.AdamSmallCRefIdeal.τ).loc Cert.AdamSmallCRefIdeal.main_arg1)
          ∧ r.2.mem ((c.tc : Thread Cert.AdamSmallCRefIdeal.nD Cert.AdamSmallCRefIdeal.τ).loc Cert.AdamSmallCRefIdeal.main_arg2) = m' ((c.tc : Thread Cert.AdamSmallCRefIdeal.nD Cert.AdamSmallCRefIdeal.τ).loc Cert.AdamSmallCRefIdeal.main_arg2)
          ∧ r.2.mem ((c.tc : Thread Cert.AdamSmallCRefIdeal.nD Cert.AdamSmallCRefIdeal.τ).loc Cert.AdamSmallCRefIdeal.main_arg3) = m' ((c.tc : Thread Cert.AdamSmallCRefIdeal.nD Cert.AdamSmallCRefIdeal.τ).loc Cert.AdamSmallCRefIdeal.main_arg3)
          ∧ r.2.mem ((c.tc : Thread Cert.AdamSmallCRefIdeal.nD Cert.AdamSmallCRefIdeal.τ).loc Cert.AdamSmallCRefIdeal.main_arg4) = m' ((c.tc : Thread Cert.AdamSmallCRefIdeal.nD Cert.AdamSmallCRefIdeal.τ).loc Cert.AdamSmallCRefIdeal.main_arg4)
          ∧ r.2.mem ((c.tc : Thread Cert.AdamSmallCRefIdeal.nD Cert.AdamSmallCRefIdeal.τ).loc Cert.AdamSmallCRefIdeal.main_arg5) = m' ((c.tc : Thread Cert.AdamSmallCRefIdeal.nD Cert.AdamSmallCRefIdeal.τ).loc Cert.AdamSmallCRefIdeal.main_arg5)
          ∧ r.2.mem ((c.tc : Thread Cert.AdamSmallCRefIdeal.nD Cert.AdamSmallCRefIdeal.τ).loc Cert.AdamSmallCRefIdeal.main_arg6) = m' ((c.tc : Thread Cert.AdamSmallCRefIdeal.nD Cert.AdamSmallCRefIdeal.τ).loc Cert.AdamSmallCRefIdeal.main_arg6)
          ∧ r.2.mem ((c.tc : Thread Cert.AdamSmallCRefIdeal.nD Cert.AdamSmallCRefIdeal.τ).loc Cert.AdamSmallCRefIdeal.main_arg7) = m' ((c.tc : Thread Cert.AdamSmallCRefIdeal.nD Cert.AdamSmallCRefIdeal.τ).loc Cert.AdamSmallCRefIdeal.main_arg7)
          ∧ r.2.mem ((c.tc : Thread Cert.AdamSmallCRefIdeal.nD Cert.AdamSmallCRefIdeal.τ).loc Cert.AdamSmallCRefIdeal.main_arg8) = m' ((c.tc : Thread Cert.AdamSmallCRefIdeal.nD Cert.AdamSmallCRefIdeal.τ).loc Cert.AdamSmallCRefIdeal.main_arg8)
          ∧ r.2.mem ((c.tc : Thread Cert.AdamSmallCRefIdeal.nD Cert.AdamSmallCRefIdeal.τ).loc Cert.AdamSmallCRefIdeal.main_arg9) = m' ((c.tc : Thread Cert.AdamSmallCRefIdeal.nD Cert.AdamSmallCRefIdeal.τ).loc Cert.AdamSmallCRefIdeal.main_arg9)
          ∧ r.2.mem ((c.tc : Thread Cert.AdamSmallCRefIdeal.nD Cert.AdamSmallCRefIdeal.τ).loc Cert.AdamSmallCRefIdeal.main_arg10) = m' ((c.tc : Thread Cert.AdamSmallCRefIdeal.nD Cert.AdamSmallCRefIdeal.τ).loc Cert.AdamSmallCRefIdeal.main_arg10)
          ∧ r.2.mem ((c.tc : Thread Cert.AdamSmallCRefIdeal.nD Cert.AdamSmallCRefIdeal.τ).loc Cert.AdamSmallCRefIdeal.main_arg11) = m' ((c.tc : Thread Cert.AdamSmallCRefIdeal.nD Cert.AdamSmallCRefIdeal.τ).loc Cert.AdamSmallCRefIdeal.main_arg11))

def preserves_AdamSmallD_AdamSmallDIdeal : Prop :=
  True

def algebraic_AdamSmallDIdeal_AdamSmallDRefIdeal [hAdamSmallDIdeal : Cert.AdamSmallDIdeal.Facts] [hAdamSmallDRefIdeal : Cert.AdamSmallDRefIdeal.Facts] : Prop :=
  ∀ (m : (ℓ : Loc Cert.AdamSmallDIdeal.nD Cert.AdamSmallDIdeal.τ Cert.AdamSmallDIdeal.sig) → Buf (Elt Ideal) ℓ) (g : Dev Cert.AdamSmallDIdeal.nD → PrngReg)
    (m' : (ℓ : Loc Cert.AdamSmallDRefIdeal.nD Cert.AdamSmallDRefIdeal.τ Cert.AdamSmallDRefIdeal.sig) → Buf (Elt Ideal) ℓ) (g' : Dev Cert.AdamSmallDRefIdeal.nD → PrngReg), Pre_AdamSmallDIdeal m →
    (∀ c : Dev Cert.AdamSmallDIdeal.nD,
      m' ((c.tc : Thread Cert.AdamSmallDRefIdeal.nD Cert.AdamSmallDRefIdeal.τ).loc Cert.AdamSmallDRefIdeal.main_arg0) = m ((c.tc : Thread Cert.AdamSmallDIdeal.nD Cert.AdamSmallDIdeal.τ).loc Cert.AdamSmallDIdeal.main_arg0)
      ∧ m' ((c.tc : Thread Cert.AdamSmallDRefIdeal.nD Cert.AdamSmallDRefIdeal.τ).loc Cert.AdamSmallDRefIdeal.main_arg1) = m ((c.tc : Thread Cert.AdamSmallDIdeal.nD Cert.AdamSmallDIdeal.τ).loc Cert.AdamSmallDIdeal.main_arg1)
      ∧ m' ((c.tc : Thread Cert.AdamSmallDRefIdeal.nD Cert.AdamSmallDRefIdeal.τ).loc Cert.AdamSmallDRefIdeal.main_arg2) = m ((c.tc : Thread Cert.AdamSmallDIdeal.nD Cert.AdamSmallDIdeal.τ).loc Cert.AdamSmallDIdeal.main_arg2)
      ∧ m' ((c.tc : Thread Cert.AdamSmallDRefIdeal.nD Cert.AdamSmallDRefIdeal.τ).loc Cert.AdamSmallDRefIdeal.main_arg3) = m ((c.tc : Thread Cert.AdamSmallDIdeal.nD Cert.AdamSmallDIdeal.τ).loc Cert.AdamSmallDIdeal.main_arg3)
      ∧ m' ((c.tc : Thread Cert.AdamSmallDRefIdeal.nD Cert.AdamSmallDRefIdeal.τ).loc Cert.AdamSmallDRefIdeal.main_arg4) = m ((c.tc : Thread Cert.AdamSmallDIdeal.nD Cert.AdamSmallDIdeal.τ).loc Cert.AdamSmallDIdeal.main_arg4)
      ∧ m' ((c.tc : Thread Cert.AdamSmallDRefIdeal.nD Cert.AdamSmallDRefIdeal.τ).loc Cert.AdamSmallDRefIdeal.main_arg5) = m ((c.tc : Thread Cert.AdamSmallDIdeal.nD Cert.AdamSmallDIdeal.τ).loc Cert.AdamSmallDIdeal.main_arg5)
      ∧ m' ((c.tc : Thread Cert.AdamSmallDRefIdeal.nD Cert.AdamSmallDRefIdeal.τ).loc Cert.AdamSmallDRefIdeal.main_arg6) = m ((c.tc : Thread Cert.AdamSmallDIdeal.nD Cert.AdamSmallDIdeal.τ).loc Cert.AdamSmallDIdeal.main_arg6)
      ∧ m' ((c.tc : Thread Cert.AdamSmallDRefIdeal.nD Cert.AdamSmallDRefIdeal.τ).loc Cert.AdamSmallDRefIdeal.main_arg7) = m ((c.tc : Thread Cert.AdamSmallDIdeal.nD Cert.AdamSmallDIdeal.τ).loc Cert.AdamSmallDIdeal.main_arg7)
      ∧ m' ((c.tc : Thread Cert.AdamSmallDRefIdeal.nD Cert.AdamSmallDRefIdeal.τ).loc Cert.AdamSmallDRefIdeal.main_arg8) = m ((c.tc : Thread Cert.AdamSmallDIdeal.nD Cert.AdamSmallDIdeal.τ).loc Cert.AdamSmallDIdeal.main_arg8)
      ∧ m' ((c.tc : Thread Cert.AdamSmallDRefIdeal.nD Cert.AdamSmallDRefIdeal.τ).loc Cert.AdamSmallDRefIdeal.main_arg9) = m ((c.tc : Thread Cert.AdamSmallDIdeal.nD Cert.AdamSmallDIdeal.τ).loc Cert.AdamSmallDIdeal.main_arg9)
      ∧ m' ((c.tc : Thread Cert.AdamSmallDRefIdeal.nD Cert.AdamSmallDRefIdeal.τ).loc Cert.AdamSmallDRefIdeal.main_arg10) = m ((c.tc : Thread Cert.AdamSmallDIdeal.nD Cert.AdamSmallDIdeal.τ).loc Cert.AdamSmallDIdeal.main_arg10)
      ∧ m' ((c.tc : Thread Cert.AdamSmallDRefIdeal.nD Cert.AdamSmallDRefIdeal.τ).loc Cert.AdamSmallDRefIdeal.main_arg11) = m ((c.tc : Thread Cert.AdamSmallDIdeal.nD Cert.AdamSmallDIdeal.τ).loc Cert.AdamSmallDIdeal.main_arg11)) →
    ∃ (v0 : (c : Dev Cert.AdamSmallDIdeal.nD) → Buf (Elt Ideal) ((c.tc : Thread Cert.AdamSmallDIdeal.nD Cert.AdamSmallDIdeal.τ).loc Cert.AdamSmallDIdeal.main_v4_0)) (v1 : (c : Dev Cert.AdamSmallDIdeal.nD) → Buf (Elt Ideal) ((c.tc : Thread Cert.AdamSmallDIdeal.nD Cert.AdamSmallDIdeal.τ).loc Cert.AdamSmallDIdeal.main_v4_1)) (v2 : (c : Dev Cert.AdamSmallDIdeal.nD) → Buf (Elt Ideal) ((c.tc : Thread Cert.AdamSmallDIdeal.nD Cert.AdamSmallDIdeal.τ).loc Cert.AdamSmallDIdeal.main_v4_2)) (v3 : (c : Dev Cert.AdamSmallDIdeal.nD) → Buf (Elt Ideal) ((c.tc : Thread Cert.AdamSmallDIdeal.nD Cert.AdamSmallDIdeal.τ).loc Cert.AdamSmallDIdeal.main_v4_3)) (v4 : (c : Dev Cert.AdamSmallDIdeal.nD) → Buf (Elt Ideal) ((c.tc : Thread Cert.AdamSmallDIdeal.nD Cert.AdamSmallDIdeal.τ).loc Cert.AdamSmallDIdeal.main_v4_4)) (v5 : (c : Dev Cert.AdamSmallDIdeal.nD) → Buf (Elt Ideal) ((c.tc : Thread Cert.AdamSmallDIdeal.nD Cert.AdamSmallDIdeal.τ).loc Cert.AdamSmallDIdeal.main_v4_5)) (v6 : (c : Dev Cert.AdamSmallDIdeal.nD) → Buf (Elt Ideal) ((c.tc : Thread Cert.AdamSmallDIdeal.nD Cert.AdamSmallDIdeal.τ).loc Cert.AdamSmallDIdeal.main_v4_6)) (v7 : (c : Dev Cert.AdamSmallDIdeal.nD) → Buf (Elt Ideal) ((c.tc : Thread Cert.AdamSmallDIdeal.nD Cert.AdamSmallDIdeal.τ).loc Cert.AdamSmallDIdeal.main_v4_7)) (v8 : (c : Dev Cert.AdamSmallDIdeal.nD) → Buf (Elt Ideal) ((c.tc : Thread Cert.AdamSmallDIdeal.nD Cert.AdamSmallDIdeal.τ).loc Cert.AdamSmallDIdeal.main_v4_8)),
      θ_run (Cert.AdamSmallDIdeal.defs (F := Ideal)) (onTc (τ := Cert.AdamSmallDIdeal.τ) (Cert.AdamSmallDIdeal.main (F := Ideal))) ⟨m, fun _ => 0, g⟩ (fun r => ∀ c : Dev Cert.AdamSmallDIdeal.nD,
          r.2.mem ((c.tc : Thread Cert.AdamSmallDIdeal.nD Cert.AdamSmallDIdeal.τ).loc Cert.AdamSmallDIdeal.main_v4_0) = v0 c
          ∧ r.2.mem ((c.tc : Thread Cert.AdamSmallDIdeal.nD Cert.AdamSmallDIdeal.τ).loc Cert.AdamSmallDIdeal.main_v4_1) = v1 c
          ∧ r.2.mem ((c.tc : Thread Cert.AdamSmallDIdeal.nD Cert.AdamSmallDIdeal.τ).loc Cert.AdamSmallDIdeal.main_v4_2) = v2 c
          ∧ r.2.mem ((c.tc : Thread Cert.AdamSmallDIdeal.nD Cert.AdamSmallDIdeal.τ).loc Cert.AdamSmallDIdeal.main_v4_3) = v3 c
          ∧ r.2.mem ((c.tc : Thread Cert.AdamSmallDIdeal.nD Cert.AdamSmallDIdeal.τ).loc Cert.AdamSmallDIdeal.main_v4_4) = v4 c
          ∧ r.2.mem ((c.tc : Thread Cert.AdamSmallDIdeal.nD Cert.AdamSmallDIdeal.τ).loc Cert.AdamSmallDIdeal.main_v4_5) = v5 c
          ∧ r.2.mem ((c.tc : Thread Cert.AdamSmallDIdeal.nD Cert.AdamSmallDIdeal.τ).loc Cert.AdamSmallDIdeal.main_v4_6) = v6 c
          ∧ r.2.mem ((c.tc : Thread Cert.AdamSmallDIdeal.nD Cert.AdamSmallDIdeal.τ).loc Cert.AdamSmallDIdeal.main_v4_7) = v7 c
          ∧ r.2.mem ((c.tc : Thread Cert.AdamSmallDIdeal.nD Cert.AdamSmallDIdeal.τ).loc Cert.AdamSmallDIdeal.main_v4_8) = v8 c
          ∧ r.2.mem ((c.tc : Thread Cert.AdamSmallDIdeal.nD Cert.AdamSmallDIdeal.τ).loc Cert.AdamSmallDIdeal.main_arg0) = m ((c.tc : Thread Cert.AdamSmallDIdeal.nD Cert.AdamSmallDIdeal.τ).loc Cert.AdamSmallDIdeal.main_arg0)
          ∧ r.2.mem ((c.tc : Thread Cert.AdamSmallDIdeal.nD Cert.AdamSmallDIdeal.τ).loc Cert.AdamSmallDIdeal.main_arg1) = m ((c.tc : Thread Cert.AdamSmallDIdeal.nD Cert.AdamSmallDIdeal.τ).loc Cert.AdamSmallDIdeal.main_arg1)
          ∧ r.2.mem ((c.tc : Thread Cert.AdamSmallDIdeal.nD Cert.AdamSmallDIdeal.τ).loc Cert.AdamSmallDIdeal.main_arg2) = m ((c.tc : Thread Cert.AdamSmallDIdeal.nD Cert.AdamSmallDIdeal.τ).loc Cert.AdamSmallDIdeal.main_arg2)
          ∧ r.2.mem ((c.tc : Thread Cert.AdamSmallDIdeal.nD Cert.AdamSmallDIdeal.τ).loc Cert.AdamSmallDIdeal.main_arg3) = m ((c.tc : Thread Cert.AdamSmallDIdeal.nD Cert.AdamSmallDIdeal.τ).loc Cert.AdamSmallDIdeal.main_arg3)
          ∧ r.2.mem ((c.tc : Thread Cert.AdamSmallDIdeal.nD Cert.AdamSmallDIdeal.τ).loc Cert.AdamSmallDIdeal.main_arg4) = m ((c.tc : Thread Cert.AdamSmallDIdeal.nD Cert.AdamSmallDIdeal.τ).loc Cert.AdamSmallDIdeal.main_arg4)
          ∧ r.2.mem ((c.tc : Thread Cert.AdamSmallDIdeal.nD Cert.AdamSmallDIdeal.τ).loc Cert.AdamSmallDIdeal.main_arg5) = m ((c.tc : Thread Cert.AdamSmallDIdeal.nD Cert.AdamSmallDIdeal.τ).loc Cert.AdamSmallDIdeal.main_arg5)
          ∧ r.2.mem ((c.tc : Thread Cert.AdamSmallDIdeal.nD Cert.AdamSmallDIdeal.τ).loc Cert.AdamSmallDIdeal.main_arg6) = m ((c.tc : Thread Cert.AdamSmallDIdeal.nD Cert.AdamSmallDIdeal.τ).loc Cert.AdamSmallDIdeal.main_arg6)
          ∧ r.2.mem ((c.tc : Thread Cert.AdamSmallDIdeal.nD Cert.AdamSmallDIdeal.τ).loc Cert.AdamSmallDIdeal.main_arg7) = m ((c.tc : Thread Cert.AdamSmallDIdeal.nD Cert.AdamSmallDIdeal.τ).loc Cert.AdamSmallDIdeal.main_arg7)
          ∧ r.2.mem ((c.tc : Thread Cert.AdamSmallDIdeal.nD Cert.AdamSmallDIdeal.τ).loc Cert.AdamSmallDIdeal.main_arg8) = m ((c.tc : Thread Cert.AdamSmallDIdeal.nD Cert.AdamSmallDIdeal.τ).loc Cert.AdamSmallDIdeal.main_arg8)
          ∧ r.2.mem ((c.tc : Thread Cert.AdamSmallDIdeal.nD Cert.AdamSmallDIdeal.τ).loc Cert.AdamSmallDIdeal.main_arg9) = m ((c.tc : Thread Cert.AdamSmallDIdeal.nD Cert.AdamSmallDIdeal.τ).loc Cert.AdamSmallDIdeal.main_arg9)
          ∧ r.2.mem ((c.tc : Thread Cert.AdamSmallDIdeal.nD Cert.AdamSmallDIdeal.τ).loc Cert.AdamSmallDIdeal.main_arg10) = m ((c.tc : Thread Cert.AdamSmallDIdeal.nD Cert.AdamSmallDIdeal.τ).loc Cert.AdamSmallDIdeal.main_arg10)
          ∧ r.2.mem ((c.tc : Thread Cert.AdamSmallDIdeal.nD Cert.AdamSmallDIdeal.τ).loc Cert.AdamSmallDIdeal.main_arg11) = m ((c.tc : Thread Cert.AdamSmallDIdeal.nD Cert.AdamSmallDIdeal.τ).loc Cert.AdamSmallDIdeal.main_arg11))
      ∧ θ_run (Cert.AdamSmallDRefIdeal.defs (F := Ideal)) (onTc (τ := Cert.AdamSmallDRefIdeal.τ) (Cert.AdamSmallDRefIdeal.main (F := Ideal))) ⟨m', fun _ => 0, g'⟩ (fun r => ∀ c : Dev Cert.AdamSmallDRefIdeal.nD,
          r.2.mem ((c.tc : Thread Cert.AdamSmallDRefIdeal.nD Cert.AdamSmallDRefIdeal.τ).loc Cert.AdamSmallDRefIdeal.main_v72) = v0 c
          ∧ r.2.mem ((c.tc : Thread Cert.AdamSmallDRefIdeal.nD Cert.AdamSmallDRefIdeal.τ).loc Cert.AdamSmallDRefIdeal.main_v47) = v1 c
          ∧ r.2.mem ((c.tc : Thread Cert.AdamSmallDRefIdeal.nD Cert.AdamSmallDRefIdeal.τ).loc Cert.AdamSmallDRefIdeal.main_v71) = v2 c
          ∧ r.2.mem ((c.tc : Thread Cert.AdamSmallDRefIdeal.nD Cert.AdamSmallDRefIdeal.τ).loc Cert.AdamSmallDRefIdeal.main_v73) = v3 c
          ∧ r.2.mem ((c.tc : Thread Cert.AdamSmallDRefIdeal.nD Cert.AdamSmallDRefIdeal.τ).loc Cert.AdamSmallDRefIdeal.main_v28) = v4 c
          ∧ r.2.mem ((c.tc : Thread Cert.AdamSmallDRefIdeal.nD Cert.AdamSmallDRefIdeal.τ).loc Cert.AdamSmallDRefIdeal.main_v52) = v5 c
          ∧ r.2.mem ((c.tc : Thread Cert.AdamSmallDRefIdeal.nD Cert.AdamSmallDRefIdeal.τ).loc Cert.AdamSmallDRefIdeal.main_v74) = v6 c
          ∧ r.2.mem ((c.tc : Thread Cert.AdamSmallDRefIdeal.nD Cert.AdamSmallDRefIdeal.τ).loc Cert.AdamSmallDRefIdeal.main_v34) = v7 c
          ∧ r.2.mem ((c.tc : Thread Cert.AdamSmallDRefIdeal.nD Cert.AdamSmallDRefIdeal.τ).loc Cert.AdamSmallDRefIdeal.main_v58) = v8 c
          ∧ r.2.mem ((c.tc : Thread Cert.AdamSmallDRefIdeal.nD Cert.AdamSmallDRefIdeal.τ).loc Cert.AdamSmallDRefIdeal.main_arg0) = m' ((c.tc : Thread Cert.AdamSmallDRefIdeal.nD Cert.AdamSmallDRefIdeal.τ).loc Cert.AdamSmallDRefIdeal.main_arg0)
          ∧ r.2.mem ((c.tc : Thread Cert.AdamSmallDRefIdeal.nD Cert.AdamSmallDRefIdeal.τ).loc Cert.AdamSmallDRefIdeal.main_arg1) = m' ((c.tc : Thread Cert.AdamSmallDRefIdeal.nD Cert.AdamSmallDRefIdeal.τ).loc Cert.AdamSmallDRefIdeal.main_arg1)
          ∧ r.2.mem ((c.tc : Thread Cert.AdamSmallDRefIdeal.nD Cert.AdamSmallDRefIdeal.τ).loc Cert.AdamSmallDRefIdeal.main_arg2) = m' ((c.tc : Thread Cert.AdamSmallDRefIdeal.nD Cert.AdamSmallDRefIdeal.τ).loc Cert.AdamSmallDRefIdeal.main_arg2)
          ∧ r.2.mem ((c.tc : Thread Cert.AdamSmallDRefIdeal.nD Cert.AdamSmallDRefIdeal.τ).loc Cert.AdamSmallDRefIdeal.main_arg3) = m' ((c.tc : Thread Cert.AdamSmallDRefIdeal.nD Cert.AdamSmallDRefIdeal.τ).loc Cert.AdamSmallDRefIdeal.main_arg3)
          ∧ r.2.mem ((c.tc : Thread Cert.AdamSmallDRefIdeal.nD Cert.AdamSmallDRefIdeal.τ).loc Cert.AdamSmallDRefIdeal.main_arg4) = m' ((c.tc : Thread Cert.AdamSmallDRefIdeal.nD Cert.AdamSmallDRefIdeal.τ).loc Cert.AdamSmallDRefIdeal.main_arg4)
          ∧ r.2.mem ((c.tc : Thread Cert.AdamSmallDRefIdeal.nD Cert.AdamSmallDRefIdeal.τ).loc Cert.AdamSmallDRefIdeal.main_arg5) = m' ((c.tc : Thread Cert.AdamSmallDRefIdeal.nD Cert.AdamSmallDRefIdeal.τ).loc Cert.AdamSmallDRefIdeal.main_arg5)
          ∧ r.2.mem ((c.tc : Thread Cert.AdamSmallDRefIdeal.nD Cert.AdamSmallDRefIdeal.τ).loc Cert.AdamSmallDRefIdeal.main_arg6) = m' ((c.tc : Thread Cert.AdamSmallDRefIdeal.nD Cert.AdamSmallDRefIdeal.τ).loc Cert.AdamSmallDRefIdeal.main_arg6)
          ∧ r.2.mem ((c.tc : Thread Cert.AdamSmallDRefIdeal.nD Cert.AdamSmallDRefIdeal.τ).loc Cert.AdamSmallDRefIdeal.main_arg7) = m' ((c.tc : Thread Cert.AdamSmallDRefIdeal.nD Cert.AdamSmallDRefIdeal.τ).loc Cert.AdamSmallDRefIdeal.main_arg7)
          ∧ r.2.mem ((c.tc : Thread Cert.AdamSmallDRefIdeal.nD Cert.AdamSmallDRefIdeal.τ).loc Cert.AdamSmallDRefIdeal.main_arg8) = m' ((c.tc : Thread Cert.AdamSmallDRefIdeal.nD Cert.AdamSmallDRefIdeal.τ).loc Cert.AdamSmallDRefIdeal.main_arg8)
          ∧ r.2.mem ((c.tc : Thread Cert.AdamSmallDRefIdeal.nD Cert.AdamSmallDRefIdeal.τ).loc Cert.AdamSmallDRefIdeal.main_arg9) = m' ((c.tc : Thread Cert.AdamSmallDRefIdeal.nD Cert.AdamSmallDRefIdeal.τ).loc Cert.AdamSmallDRefIdeal.main_arg9)
          ∧ r.2.mem ((c.tc : Thread Cert.AdamSmallDRefIdeal.nD Cert.AdamSmallDRefIdeal.τ).loc Cert.AdamSmallDRefIdeal.main_arg10) = m' ((c.tc : Thread Cert.AdamSmallDRefIdeal.nD Cert.AdamSmallDRefIdeal.τ).loc Cert.AdamSmallDRefIdeal.main_arg10)
          ∧ r.2.mem ((c.tc : Thread Cert.AdamSmallDRefIdeal.nD Cert.AdamSmallDRefIdeal.τ).loc Cert.AdamSmallDRefIdeal.main_arg11) = m' ((c.tc : Thread Cert.AdamSmallDRefIdeal.nD Cert.AdamSmallDRefIdeal.τ).loc Cert.AdamSmallDRefIdeal.main_arg11))

def preserves_AdamSmallE_AdamSmallEIdeal : Prop :=
  True

def algebraic_AdamSmallEIdeal_AdamSmallERefIdeal [hAdamSmallEIdeal : Cert.AdamSmallEIdeal.Facts] [hAdamSmallERefIdeal : Cert.AdamSmallERefIdeal.Facts] : Prop :=
  ∀ (m : (ℓ : Loc Cert.AdamSmallEIdeal.nD Cert.AdamSmallEIdeal.τ Cert.AdamSmallEIdeal.sig) → Buf (Elt Ideal) ℓ) (g : Dev Cert.AdamSmallEIdeal.nD → PrngReg)
    (m' : (ℓ : Loc Cert.AdamSmallERefIdeal.nD Cert.AdamSmallERefIdeal.τ Cert.AdamSmallERefIdeal.sig) → Buf (Elt Ideal) ℓ) (g' : Dev Cert.AdamSmallERefIdeal.nD → PrngReg), Pre_AdamSmallEIdeal m →
    (∀ c : Dev Cert.AdamSmallEIdeal.nD,
      m' ((c.tc : Thread Cert.AdamSmallERefIdeal.nD Cert.AdamSmallERefIdeal.τ).loc Cert.AdamSmallERefIdeal.main_arg0) = m ((c.tc : Thread Cert.AdamSmallEIdeal.nD Cert.AdamSmallEIdeal.τ).loc Cert.AdamSmallEIdeal.main_arg0)
      ∧ m' ((c.tc : Thread Cert.AdamSmallERefIdeal.nD Cert.AdamSmallERefIdeal.τ).loc Cert.AdamSmallERefIdeal.main_arg1) = m ((c.tc : Thread Cert.AdamSmallEIdeal.nD Cert.AdamSmallEIdeal.τ).loc Cert.AdamSmallEIdeal.main_arg1)
      ∧ m' ((c.tc : Thread Cert.AdamSmallERefIdeal.nD Cert.AdamSmallERefIdeal.τ).loc Cert.AdamSmallERefIdeal.main_arg2) = m ((c.tc : Thread Cert.AdamSmallEIdeal.nD Cert.AdamSmallEIdeal.τ).loc Cert.AdamSmallEIdeal.main_arg2)
      ∧ m' ((c.tc : Thread Cert.AdamSmallERefIdeal.nD Cert.AdamSmallERefIdeal.τ).loc Cert.AdamSmallERefIdeal.main_arg3) = m ((c.tc : Thread Cert.AdamSmallEIdeal.nD Cert.AdamSmallEIdeal.τ).loc Cert.AdamSmallEIdeal.main_arg3)) →
    ∃ (v0 : (c : Dev Cert.AdamSmallEIdeal.nD) → Buf (Elt Ideal) ((c.tc : Thread Cert.AdamSmallEIdeal.nD Cert.AdamSmallEIdeal.τ).loc Cert.AdamSmallEIdeal.main_v4_0)) (v1 : (c : Dev Cert.AdamSmallEIdeal.nD) → Buf (Elt Ideal) ((c.tc : Thread Cert.AdamSmallEIdeal.nD Cert.AdamSmallEIdeal.τ).loc Cert.AdamSmallEIdeal.main_v4_1)) (v2 : (c : Dev Cert.AdamSmallEIdeal.nD) → Buf (Elt Ideal) ((c.tc : Thread Cert.AdamSmallEIdeal.nD Cert.AdamSmallEIdeal.τ).loc Cert.AdamSmallEIdeal.main_v4_2)),
      θ_run (Cert.AdamSmallEIdeal.defs (F := Ideal)) (onTc (τ := Cert.AdamSmallEIdeal.τ) (Cert.AdamSmallEIdeal.main (F := Ideal))) ⟨m, fun _ => 0, g⟩ (fun r => ∀ c : Dev Cert.AdamSmallEIdeal.nD,
          r.2.mem ((c.tc : Thread Cert.AdamSmallEIdeal.nD Cert.AdamSmallEIdeal.τ).loc Cert.AdamSmallEIdeal.main_v4_0) = v0 c
          ∧ r.2.mem ((c.tc : Thread Cert.AdamSmallEIdeal.nD Cert.AdamSmallEIdeal.τ).loc Cert.AdamSmallEIdeal.main_v4_1) = v1 c
          ∧ r.2.mem ((c.tc : Thread Cert.AdamSmallEIdeal.nD Cert.AdamSmallEIdeal.τ).loc Cert.AdamSmallEIdeal.main_v4_2) = v2 c
          ∧ r.2.mem ((c.tc : Thread Cert.AdamSmallEIdeal.nD Cert.AdamSmallEIdeal.τ).loc Cert.AdamSmallEIdeal.main_arg0) = m ((c.tc : Thread Cert.AdamSmallEIdeal.nD Cert.AdamSmallEIdeal.τ).loc Cert.AdamSmallEIdeal.main_arg0)
          ∧ r.2.mem ((c.tc : Thread Cert.AdamSmallEIdeal.nD Cert.AdamSmallEIdeal.τ).loc Cert.AdamSmallEIdeal.main_arg1) = m ((c.tc : Thread Cert.AdamSmallEIdeal.nD Cert.AdamSmallEIdeal.τ).loc Cert.AdamSmallEIdeal.main_arg1)
          ∧ r.2.mem ((c.tc : Thread Cert.AdamSmallEIdeal.nD Cert.AdamSmallEIdeal.τ).loc Cert.AdamSmallEIdeal.main_arg2) = m ((c.tc : Thread Cert.AdamSmallEIdeal.nD Cert.AdamSmallEIdeal.τ).loc Cert.AdamSmallEIdeal.main_arg2)
          ∧ r.2.mem ((c.tc : Thread Cert.AdamSmallEIdeal.nD Cert.AdamSmallEIdeal.τ).loc Cert.AdamSmallEIdeal.main_arg3) = m ((c.tc : Thread Cert.AdamSmallEIdeal.nD Cert.AdamSmallEIdeal.τ).loc Cert.AdamSmallEIdeal.main_arg3))
      ∧ θ_run (Cert.AdamSmallERefIdeal.defs (F := Ideal)) (onTc (τ := Cert.AdamSmallERefIdeal.τ) (Cert.AdamSmallERefIdeal.main (F := Ideal))) ⟨m', fun _ => 0, g'⟩ (fun r => ∀ c : Dev Cert.AdamSmallERefIdeal.nD,
          r.2.mem ((c.tc : Thread Cert.AdamSmallERefIdeal.nD Cert.AdamSmallERefIdeal.τ).loc Cert.AdamSmallERefIdeal.main_v24) = v0 c
          ∧ r.2.mem ((c.tc : Thread Cert.AdamSmallERefIdeal.nD Cert.AdamSmallERefIdeal.τ).loc Cert.AdamSmallERefIdeal.main_v25) = v1 c
          ∧ r.2.mem ((c.tc : Thread Cert.AdamSmallERefIdeal.nD Cert.AdamSmallERefIdeal.τ).loc Cert.AdamSmallERefIdeal.main_v26) = v2 c
          ∧ r.2.mem ((c.tc : Thread Cert.AdamSmallERefIdeal.nD Cert.AdamSmallERefIdeal.τ).loc Cert.AdamSmallERefIdeal.main_arg0) = m' ((c.tc : Thread Cert.AdamSmallERefIdeal.nD Cert.AdamSmallERefIdeal.τ).loc Cert.AdamSmallERefIdeal.main_arg0)
          ∧ r.2.mem ((c.tc : Thread Cert.AdamSmallERefIdeal.nD Cert.AdamSmallERefIdeal.τ).loc Cert.AdamSmallERefIdeal.main_arg1) = m' ((c.tc : Thread Cert.AdamSmallERefIdeal.nD Cert.AdamSmallERefIdeal.τ).loc Cert.AdamSmallERefIdeal.main_arg1)
          ∧ r.2.mem ((c.tc : Thread Cert.AdamSmallERefIdeal.nD Cert.AdamSmallERefIdeal.τ).loc Cert.AdamSmallERefIdeal.main_arg2) = m' ((c.tc : Thread Cert.AdamSmallERefIdeal.nD Cert.AdamSmallERefIdeal.τ).loc Cert.AdamSmallERefIdeal.main_arg2)
          ∧ r.2.mem ((c.tc : Thread Cert.AdamSmallERefIdeal.nD Cert.AdamSmallERefIdeal.τ).loc Cert.AdamSmallERefIdeal.main_arg3) = m' ((c.tc : Thread Cert.AdamSmallERefIdeal.nD Cert.AdamSmallERefIdeal.τ).loc Cert.AdamSmallERefIdeal.main_arg3))

def preserves_MixerFwd_MixerFwdIdeal : Prop :=
  True

def algebraic_MixerFwdIdeal_MixerFwdRefIdeal [hMixerFwdIdeal : Cert.MixerFwdIdeal.Facts] [hMixerFwdRefIdeal : Cert.MixerFwdRefIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)
      ∧ m' ((c.tc : Thread Cert.MixerFwdRefIdeal.nD Cert.MixerFwdRefIdeal.τ).loc Cert.MixerFwdRefIdeal.main_arg4) = m ((c.tc : Thread Cert.MixerFwdIdeal.nD Cert.MixerFwdIdeal.τ).loc Cert.MixerFwdIdeal.main_arg4)
      ∧ m' ((c.tc : Thread Cert.MixerFwdRefIdeal.nD Cert.MixerFwdRefIdeal.τ).loc Cert.MixerFwdRefIdeal.main_arg5) = m ((c.tc : Thread Cert.MixerFwdIdeal.nD Cert.MixerFwdIdeal.τ).loc Cert.MixerFwdIdeal.main_arg5)
      ∧ m' ((c.tc : Thread Cert.MixerFwdRefIdeal.nD Cert.MixerFwdRefIdeal.τ).loc Cert.MixerFwdRefIdeal.main_arg6) = m ((c.tc : Thread Cert.MixerFwdIdeal.nD Cert.MixerFwdIdeal.τ).loc Cert.MixerFwdIdeal.main_arg6)
      ∧ m' ((c.tc : Thread Cert.MixerFwdRefIdeal.nD Cert.MixerFwdRefIdeal.τ).loc Cert.MixerFwdRefIdeal.main_arg7) = m ((c.tc : Thread Cert.MixerFwdIdeal.nD Cert.MixerFwdIdeal.τ).loc Cert.MixerFwdIdeal.main_arg7)
      ∧ m' ((c.tc : Thread Cert.MixerFwdRefIdeal.nD Cert.MixerFwdRefIdeal.τ).loc Cert.MixerFwdRefIdeal.main_arg8) = m ((c.tc : Thread Cert.MixerFwdIdeal.nD Cert.MixerFwdIdeal.τ).loc Cert.MixerFwdIdeal.main_arg8)
      ∧ m' ((c.tc : Thread Cert.MixerFwdRefIdeal.nD Cert.MixerFwdRefIdeal.τ).loc Cert.MixerFwdRefIdeal.main_arg9) = m ((c.tc : Thread Cert.MixerFwdIdeal.nD Cert.MixerFwdIdeal.τ).loc Cert.MixerFwdIdeal.main_arg9)
      ∧ m' ((c.tc : Thread Cert.MixerFwdRefIdeal.nD Cert.MixerFwdRefIdeal.τ).loc Cert.MixerFwdRefIdeal.main_arg10) = m ((c.tc : Thread Cert.MixerFwdIdeal.nD Cert.MixerFwdIdeal.τ).loc Cert.MixerFwdIdeal.main_arg10)
      ∧ m' ((c.tc : Thread Cert.MixerFwdRefIdeal.nD Cert.MixerFwdRefIdeal.τ).loc Cert.MixerFwdRefIdeal.main_arg11) = m ((c.tc : Thread Cert.MixerFwdIdeal.nD Cert.MixerFwdIdeal.τ).loc Cert.MixerFwdIdeal.main_arg11)) →
    ∃ (v0 : (c : Dev Cert.MixerFwdIdeal.nD) → Buf (Elt Ideal) ((c.tc : Thread Cert.MixerFwdIdeal.nD Cert.MixerFwdIdeal.τ).loc Cert.MixerFwdIdeal.main_v0_1)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v0_1) = v0 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
          ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
          ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)
          ∧ r.2.mem ((c.tc : Thread Cert.MixerFwdIdeal.nD Cert.MixerFwdIdeal.τ).loc Cert.MixerFwdIdeal.main_arg7) = m ((c.tc : Thread Cert.MixerFwdIdeal.nD Cert.MixerFwdIdeal.τ).loc Cert.MixerFwdIdeal.main_arg7)
          ∧ r.2.mem ((c.tc : Thread Cert.MixerFwdIdeal.nD Cert.MixerFwdIdeal.τ).loc Cert.MixerFwdIdeal.main_arg8) = m ((c.tc : Thread Cert.MixerFwdIdeal.nD Cert.MixerFwdIdeal.τ).loc Cert.MixerFwdIdeal.main_arg8)
          ∧ r.2.mem ((c.tc : Thread Cert.MixerFwdIdeal.nD Cert.MixerFwdIdeal.τ).loc Cert.MixerFwdIdeal.main_arg9) = m ((c.tc : Thread Cert.MixerFwdIdeal.nD Cert.MixerFwdIdeal.τ).loc Cert.MixerFwdIdeal.main_arg9)
          ∧ r.2.mem ((c.tc : Thread Cert.MixerFwdIdeal.nD Cert.MixerFwdIdeal.τ).loc Cert.MixerFwdIdeal.main_arg10) = m ((c.tc : Thread Cert.MixerFwdIdeal.nD Cert.MixerFwdIdeal.τ).loc Cert.MixerFwdIdeal.main_arg10)
          ∧ r.2.mem ((c.tc : Thread Cert.MixerFwdIdeal.nD Cert.MixerFwdIdeal.τ).loc Cert.MixerFwdIdeal.main_arg11) = m ((c.tc : Thread Cert.MixerFwdIdeal.nD Cert.MixerFwdIdeal.τ).loc Cert.MixerFwdIdeal.main_arg11))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v238) = v0 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3)
          ∧ r.2.mem ((c.tc : Thread Cert.MixerFwdRefIdeal.nD Cert.MixerFwdRefIdeal.τ).loc Cert.MixerFwdRefIdeal.main_arg4) = m' ((c.tc : Thread Cert.MixerFwdRefIdeal.nD Cert.MixerFwdRefIdeal.τ).loc Cert.MixerFwdRefIdeal.main_arg4)
          ∧ r.2.mem ((c.tc : Thread Cert.MixerFwdRefIdeal.nD Cert.MixerFwdRefIdeal.τ).loc Cert.MixerFwdRefIdeal.main_arg5) = m' ((c.tc : Thread Cert.MixerFwdRefIdeal.nD Cert.MixerFwdRefIdeal.τ).loc Cert.MixerFwdRefIdeal.main_arg5)
          ∧ r.2.mem ((c.tc : Thread Cert.MixerFwdRefIdeal.nD Cert.MixerFwdRefIdeal.τ).loc Cert.MixerFwdRefIdeal.main_arg6) = m' ((c.tc : Thread Cert.MixerFwdRefIdeal.nD Cert.MixerFwdRefIdeal.τ).loc Cert.MixerFwdRefIdeal.main_arg6)
          ∧ r.2.mem ((c.tc : Thread Cert.MixerFwdRefIdeal.nD Cert.MixerFwdRefIdeal.τ).loc Cert.MixerFwdRefIdeal.main_arg7) = m' ((c.tc : Thread Cert.MixerFwdRefIdeal.nD Cert.MixerFwdRefIdeal.τ).loc Cert.MixerFwdRefIdeal.main_arg7)
          ∧ r.2.mem ((c.tc : Thread Cert.MixerFwdRefIdeal.nD Cert.MixerFwdRefIdeal.τ).loc Cert.MixerFwdRefIdeal.main_arg8) = m' ((c.tc : Thread Cert.MixerFwdRefIdeal.nD Cert.MixerFwdRefIdeal.τ).loc Cert.MixerFwdRefIdeal.main_arg8)
          ∧ r.2.mem ((c.tc : Thread Cert.MixerFwdRefIdeal.nD Cert.MixerFwdRefIdeal.τ).loc Cert.MixerFwdRefIdeal.main_arg9) = m' ((c.tc : Thread Cert.MixerFwdRefIdeal.nD Cert.MixerFwdRefIdeal.τ).loc Cert.MixerFwdRefIdeal.main_arg9)
          ∧ r.2.mem ((c.tc : Thread Cert.MixerFwdRefIdeal.nD Cert.MixerFwdRefIdeal.τ).loc Cert.MixerFwdRefIdeal.main_arg10) = m' ((c.tc : Thread Cert.MixerFwdRefIdeal.nD Cert.MixerFwdRefIdeal.τ).loc Cert.MixerFwdRefIdeal.main_arg10)
          ∧ r.2.mem ((c.tc : Thread Cert.MixerFwdRefIdeal.nD Cert.MixerFwdRefIdeal.τ).loc Cert.MixerFwdRefIdeal.main_arg11) = m' ((c.tc : Thread Cert.MixerFwdRefIdeal.nD Cert.MixerFwdRefIdeal.τ).loc Cert.MixerFwdRefIdeal.main_arg11))

def Claim : Prop :=
  ∃ (hSwigluBwd : Cert.SwigluBwd.Facts) (hSwigluBwdIdeal : Cert.SwigluBwdIdeal.Facts) (hSwigluBwdRefIdeal : Cert.SwigluBwdRefIdeal.Facts) (hGateUpDx : Cert.GateUpDx.Facts) (hGateUpDxIdeal : Cert.GateUpDxIdeal.Facts) (hGateUpDxRefIdeal : Cert.GateUpDxRefIdeal.Facts) (hInDx : Cert.InDx.Facts) (hInDxIdeal : Cert.InDxIdeal.Facts) (hInDxRefIdeal : Cert.InDxRefIdeal.Facts) (hInDxFirst : Cert.InDxFirst.Facts) (hInDxFirstIdeal : Cert.InDxFirstIdeal.Facts) (hInDxFirstRefIdeal : Cert.InDxFirstRefIdeal.Facts) (hInDxRest : Cert.InDxRest.Facts) (hInDxRestIdeal : Cert.InDxRestIdeal.Facts) (hInDxRestRefIdeal : Cert.InDxRestRefIdeal.Facts) (hGateUpDw : Cert.GateUpDw.Facts) (hGateUpDwIdeal : Cert.GateUpDwIdeal.Facts) (hGateUpDwRefIdeal : Cert.GateUpDwRefIdeal.Facts) (hDownDw : Cert.DownDw.Facts) (hDownDwIdeal : Cert.DownDwIdeal.Facts) (hDownDwRefIdeal : Cert.DownDwRefIdeal.Facts) (hInDw : Cert.InDw.Facts) (hInDwIdeal : Cert.InDwIdeal.Facts) (hInDwRefIdeal : Cert.InDwRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hDownFwd : Cert.DownFwd.Facts) (hDownFwdIdeal : Cert.DownFwdIdeal.Facts) (hDownFwdRefIdeal : Cert.DownFwdRefIdeal.Facts) (hOutFwd : Cert.OutFwd.Facts) (hOutFwdIdeal : Cert.OutFwdIdeal.Facts) (hOutFwdRefIdeal : Cert.OutFwdRefIdeal.Facts) (hInFwd : Cert.InFwd.Facts) (hInFwdIdeal : Cert.InFwdIdeal.Facts) (hInFwdRefIdeal : Cert.InFwdRefIdeal.Facts) (hNormFwd : Cert.NormFwd.Facts) (hNormFwdIdeal : Cert.NormFwdIdeal.Facts) (hNormFwdRefIdeal : Cert.NormFwdRefIdeal.Facts) (hInFwdFirst : Cert.InFwdFirst.Facts) (hInFwdFirstIdeal : Cert.InFwdFirstIdeal.Facts) (hInFwdFirstRefIdeal : Cert.InFwdFirstRefIdeal.Facts) (hLossHead : Cert.LossHead.Facts) (hLossHeadIdeal : Cert.LossHeadIdeal.Facts) (hLossHeadRefIdeal : Cert.LossHeadRefIdeal.Facts) (hAdamIn : Cert.AdamIn.Facts) (hAdamInIdeal : Cert.AdamInIdeal.Facts) (hAdamInRefIdeal : Cert.AdamInRefIdeal.Facts) (hAdamPw : Cert.AdamPw.Facts) (hAdamPwIdeal : Cert.AdamPwIdeal.Facts) (hAdamPwRefIdeal : Cert.AdamPwRefIdeal.Facts) (hAdamOut : Cert.AdamOut.Facts) (hAdamOutIdeal : Cert.AdamOutIdeal.Facts) (hAdamOutRefIdeal : Cert.AdamOutRefIdeal.Facts) (hAdamGateUp : Cert.AdamGateUp.Facts) (hAdamGateUpIdeal : Cert.AdamGateUpIdeal.Facts) (hAdamGateUpRefIdeal : Cert.AdamGateUpRefIdeal.Facts) (hAdamDown : Cert.AdamDown.Facts) (hAdamDownIdeal : Cert.AdamDownIdeal.Facts) (hAdamDownRefIdeal : Cert.AdamDownRefIdeal.Facts) (hAdamSmallA : Cert.AdamSmallA.Facts) (hAdamSmallAIdeal : Cert.AdamSmallAIdeal.Facts) (hAdamSmallARefIdeal : Cert.AdamSmallARefIdeal.Facts) (hAdamSmallB : Cert.AdamSmallB.Facts) (hAdamSmallBIdeal : Cert.AdamSmallBIdeal.Facts) (hAdamSmallBRefIdeal : Cert.AdamSmallBRefIdeal.Facts) (hAdamSmallC : Cert.AdamSmallC.Facts) (hAdamSmallCIdeal : Cert.AdamSmallCIdeal.Facts) (hAdamSmallCRefIdeal : Cert.AdamSmallCRefIdeal.Facts) (hAdamSmallD : Cert.AdamSmallD.Facts) (hAdamSmallDIdeal : Cert.AdamSmallDIdeal.Facts) (hAdamSmallDRefIdeal : Cert.AdamSmallDRefIdeal.Facts) (hAdamSmallE : Cert.AdamSmallE.Facts) (hAdamSmallEIdeal : Cert.AdamSmallEIdeal.Facts) (hAdamSmallERefIdeal : Cert.AdamSmallERefIdeal.Facts) (hMixerFwd : Cert.MixerFwd.Facts) (hMixerFwdIdeal : Cert.MixerFwdIdeal.Facts) (hMixerFwdRefIdeal : Cert.MixerFwdRefIdeal.Facts) (hPre_finite_swiglu : Cert.Pre_finite_swiglu.Facts) (hPre_finite_gate_up_dx : Cert.Pre_finite_gate_up_dx.Facts) (hPre_finite_in_proj_dx : Cert.Pre_finite_in_proj_dx.Facts) (hPre_finite_in_proj_dx_first : Cert.Pre_finite_in_proj_dx_first.Facts) (hPre_finite_in_proj_dx_rest : Cert.Pre_finite_in_proj_dx_rest.Facts) (hPre_finite_loss : Cert.Pre_finite_loss.Facts),
    quiescent_SwigluBwd (hSwigluBwd := hSwigluBwd)
    ∧ quiescent_SwigluBwdIdeal (hSwigluBwdIdeal := hSwigluBwdIdeal)
    ∧ quiescent_SwigluBwdIdeal_pre_finite_swiglu (hSwigluBwdIdeal := hSwigluBwdIdeal) (hPre_finite_swiglu := hPre_finite_swiglu)
    ∧ quiescent_SwigluBwdRefIdeal (hSwigluBwdRefIdeal := hSwigluBwdRefIdeal)
    ∧ quiescent_SwigluBwdRefIdeal_pre_finite_swiglu (hSwigluBwdRefIdeal := hSwigluBwdRefIdeal) (hPre_finite_swiglu := hPre_finite_swiglu)
    ∧ quiescent_GateUpDx (hGateUpDx := hGateUpDx)
    ∧ quiescent_GateUpDxIdeal (hGateUpDxIdeal := hGateUpDxIdeal)
    ∧ quiescent_GateUpDxIdeal_pre_finite_gate_up_dx (hGateUpDxIdeal := hGateUpDxIdeal) (hPre_finite_gate_up_dx := hPre_finite_gate_up_dx)
    ∧ quiescent_GateUpDxRefIdeal (hGateUpDxRefIdeal := hGateUpDxRefIdeal)
    ∧ quiescent_GateUpDxRefIdeal_pre_finite_gate_up_dx (hGateUpDxRefIdeal := hGateUpDxRefIdeal) (hPre_finite_gate_up_dx := hPre_finite_gate_up_dx)
    ∧ quiescent_InDx (hInDx := hInDx)
    ∧ quiescent_InDxIdeal (hInDxIdeal := hInDxIdeal)
    ∧ quiescent_InDxIdeal_pre_finite_in_proj_dx (hInDxIdeal := hInDxIdeal) (hPre_finite_in_proj_dx := hPre_finite_in_proj_dx)
    ∧ quiescent_InDxRefIdeal (hInDxRefIdeal := hInDxRefIdeal)
    ∧ quiescent_InDxRefIdeal_pre_finite_in_proj_dx (hInDxRefIdeal := hInDxRefIdeal) (hPre_finite_in_proj_dx := hPre_finite_in_proj_dx)
    ∧ quiescent_InDxFirst (hInDxFirst := hInDxFirst)
    ∧ quiescent_InDxFirstIdeal (hInDxFirstIdeal := hInDxFirstIdeal)
    ∧ quiescent_InDxFirstIdeal_pre_finite_in_proj_dx_first (hInDxFirstIdeal := hInDxFirstIdeal) (hPre_finite_in_proj_dx_first := hPre_finite_in_proj_dx_first)
    ∧ quiescent_InDxFirstRefIdeal (hInDxFirstRefIdeal := hInDxFirstRefIdeal)
    ∧ quiescent_InDxFirstRefIdeal_pre_finite_in_proj_dx_first (hInDxFirstRefIdeal := hInDxFirstRefIdeal) (hPre_finite_in_proj_dx_first := hPre_finite_in_proj_dx_first)
    ∧ quiescent_InDxRest (hInDxRest := hInDxRest)
    ∧ quiescent_InDxRestIdeal (hInDxRestIdeal := hInDxRestIdeal)
    ∧ quiescent_InDxRestIdeal_pre_finite_in_proj_dx_rest (hInDxRestIdeal := hInDxRestIdeal) (hPre_finite_in_proj_dx_rest := hPre_finite_in_proj_dx_rest)
    ∧ quiescent_InDxRestRefIdeal (hInDxRestRefIdeal := hInDxRestRefIdeal)
    ∧ quiescent_InDxRestRefIdeal_pre_finite_in_proj_dx_rest (hInDxRestRefIdeal := hInDxRestRefIdeal) (hPre_finite_in_proj_dx_rest := hPre_finite_in_proj_dx_rest)
    ∧ quiescent_GateUpDw (hGateUpDw := hGateUpDw)
    ∧ quiescent_GateUpDwIdeal (hGateUpDwIdeal := hGateUpDwIdeal)
    ∧ quiescent_GateUpDwRefIdeal (hGateUpDwRefIdeal := hGateUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_InFwdFirst (hInFwdFirst := hInFwdFirst)
    ∧ quiescent_InFwdFirstIdeal (hInFwdFirstIdeal := hInFwdFirstIdeal)
    ∧ quiescent_InFwdFirstRefIdeal (hInFwdFirstRefIdeal := hInFwdFirstRefIdeal)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamPw (hAdamPw := hAdamPw)
    ∧ quiescent_AdamPwIdeal (hAdamPwIdeal := hAdamPwIdeal)
    ∧ quiescent_AdamPwRefIdeal (hAdamPwRefIdeal := hAdamPwRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGateUp (hAdamGateUp := hAdamGateUp)
    ∧ quiescent_AdamGateUpIdeal (hAdamGateUpIdeal := hAdamGateUpIdeal)
    ∧ quiescent_AdamGateUpRefIdeal (hAdamGateUpRefIdeal := hAdamGateUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmallA (hAdamSmallA := hAdamSmallA)
    ∧ quiescent_AdamSmallAIdeal (hAdamSmallAIdeal := hAdamSmallAIdeal)
    ∧ quiescent_AdamSmallARefIdeal (hAdamSmallARefIdeal := hAdamSmallARefIdeal)
    ∧ quiescent_AdamSmallB (hAdamSmallB := hAdamSmallB)
    ∧ quiescent_AdamSmallBIdeal (hAdamSmallBIdeal := hAdamSmallBIdeal)
    ∧ quiescent_AdamSmallBRefIdeal (hAdamSmallBRefIdeal := hAdamSmallBRefIdeal)
    ∧ quiescent_AdamSmallC (hAdamSmallC := hAdamSmallC)
    ∧ quiescent_AdamSmallCIdeal (hAdamSmallCIdeal := hAdamSmallCIdeal)
    ∧ quiescent_AdamSmallCRefIdeal (hAdamSmallCRefIdeal := hAdamSmallCRefIdeal)
    ∧ quiescent_AdamSmallD (hAdamSmallD := hAdamSmallD)
    ∧ quiescent_AdamSmallDIdeal (hAdamSmallDIdeal := hAdamSmallDIdeal)
    ∧ quiescent_AdamSmallDRefIdeal (hAdamSmallDRefIdeal := hAdamSmallDRefIdeal)
    ∧ quiescent_AdamSmallE (hAdamSmallE := hAdamSmallE)
    ∧ quiescent_AdamSmallEIdeal (hAdamSmallEIdeal := hAdamSmallEIdeal)
    ∧ quiescent_AdamSmallERefIdeal (hAdamSmallERefIdeal := hAdamSmallERefIdeal)
    ∧ quiescent_MixerFwd (hMixerFwd := hMixerFwd)
    ∧ quiescent_MixerFwdIdeal (hMixerFwdIdeal := hMixerFwdIdeal)
    ∧ quiescent_MixerFwdRefIdeal (hMixerFwdRefIdeal := hMixerFwdRefIdeal)
    ∧ preserves_SwigluBwd_SwigluBwdIdeal
    ∧ algebraic_SwigluBwdIdeal_SwigluBwdRefIdeal_pre_finite_swiglu (hSwigluBwdIdeal := hSwigluBwdIdeal) (hSwigluBwdRefIdeal := hSwigluBwdRefIdeal) (hPre_finite_swiglu := hPre_finite_swiglu)
    ∧ preserves_GateUpDx_GateUpDxIdeal
    ∧ algebraic_GateUpDxIdeal_GateUpDxRefIdeal_pre_finite_gate_up_dx (hGateUpDxIdeal := hGateUpDxIdeal) (hGateUpDxRefIdeal := hGateUpDxRefIdeal) (hPre_finite_gate_up_dx := hPre_finite_gate_up_dx)
    ∧ preserves_InDx_InDxIdeal
    ∧ algebraic_InDxIdeal_InDxRefIdeal_pre_finite_in_proj_dx (hInDxIdeal := hInDxIdeal) (hInDxRefIdeal := hInDxRefIdeal) (hPre_finite_in_proj_dx := hPre_finite_in_proj_dx)
    ∧ preserves_InDxFirst_InDxFirstIdeal
    ∧ algebraic_InDxFirstIdeal_InDxFirstRefIdeal_pre_finite_in_proj_dx_first (hInDxFirstIdeal := hInDxFirstIdeal) (hInDxFirstRefIdeal := hInDxFirstRefIdeal) (hPre_finite_in_proj_dx_first := hPre_finite_in_proj_dx_first)
    ∧ preserves_InDxRest_InDxRestIdeal
    ∧ algebraic_InDxRestIdeal_InDxRestRefIdeal_pre_finite_in_proj_dx_rest (hInDxRestIdeal := hInDxRestIdeal) (hInDxRestRefIdeal := hInDxRestRefIdeal) (hPre_finite_in_proj_dx_rest := hPre_finite_in_proj_dx_rest)
    ∧ preserves_GateUpDw_GateUpDwIdeal
    ∧ algebraic_GateUpDwIdeal_GateUpDwRefIdeal (hGateUpDwIdeal := hGateUpDwIdeal) (hGateUpDwRefIdeal := hGateUpDwRefIdeal)
    ∧ preserves_DownDw_DownDwIdeal
    ∧ algebraic_DownDwIdeal_DownDwRefIdeal (hDownDwIdeal := hDownDwIdeal) (hDownDwRefIdeal := hDownDwRefIdeal)
    ∧ preserves_InDw_InDwIdeal
    ∧ algebraic_InDwIdeal_InDwRefIdeal (hInDwIdeal := hInDwIdeal) (hInDwRefIdeal := hInDwRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_DownFwd_DownFwdIdeal
    ∧ algebraic_DownFwdIdeal_DownFwdRefIdeal (hDownFwdIdeal := hDownFwdIdeal) (hDownFwdRefIdeal := hDownFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_InFwd_InFwdIdeal
    ∧ algebraic_InFwdIdeal_InFwdRefIdeal (hInFwdIdeal := hInFwdIdeal) (hInFwdRefIdeal := hInFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_InFwdFirst_InFwdFirstIdeal
    ∧ algebraic_InFwdFirstIdeal_InFwdFirstRefIdeal (hInFwdFirstIdeal := hInFwdFirstIdeal) (hInFwdFirstRefIdeal := hInFwdFirstRefIdeal)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_AdamIn_AdamInIdeal
    ∧ algebraic_AdamInIdeal_AdamInRefIdeal (hAdamInIdeal := hAdamInIdeal) (hAdamInRefIdeal := hAdamInRefIdeal)
    ∧ preserves_AdamPw_AdamPwIdeal
    ∧ algebraic_AdamPwIdeal_AdamPwRefIdeal (hAdamPwIdeal := hAdamPwIdeal) (hAdamPwRefIdeal := hAdamPwRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmallA_AdamSmallAIdeal
    ∧ algebraic_AdamSmallAIdeal_AdamSmallARefIdeal (hAdamSmallAIdeal := hAdamSmallAIdeal) (hAdamSmallARefIdeal := hAdamSmallARefIdeal)
    ∧ preserves_AdamSmallB_AdamSmallBIdeal
    ∧ algebraic_AdamSmallBIdeal_AdamSmallBRefIdeal (hAdamSmallBIdeal := hAdamSmallBIdeal) (hAdamSmallBRefIdeal := hAdamSmallBRefIdeal)
    ∧ preserves_AdamSmallC_AdamSmallCIdeal
    ∧ algebraic_AdamSmallCIdeal_AdamSmallCRefIdeal (hAdamSmallCIdeal := hAdamSmallCIdeal) (hAdamSmallCRefIdeal := hAdamSmallCRefIdeal)
    ∧ preserves_AdamSmallD_AdamSmallDIdeal
    ∧ algebraic_AdamSmallDIdeal_AdamSmallDRefIdeal (hAdamSmallDIdeal := hAdamSmallDIdeal) (hAdamSmallDRefIdeal := hAdamSmallDRefIdeal)
    ∧ preserves_AdamSmallE_AdamSmallEIdeal
    ∧ algebraic_AdamSmallEIdeal_AdamSmallERefIdeal (hAdamSmallEIdeal := hAdamSmallEIdeal) (hAdamSmallERefIdeal := hAdamSmallERefIdeal)
    ∧ preserves_MixerFwd_MixerFwdIdeal
    ∧ algebraic_MixerFwdIdeal_MixerFwdRefIdeal (hMixerFwdIdeal := hMixerFwdIdeal) (hMixerFwdRefIdeal := hMixerFwdRefIdeal)
-- ==== Pre_finite_gate_up_dx.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S_ : Shape := ⟨0, ![]⟩

class Facts : Prop where
  bcast_S_S2x4096x2816 : S_.BroadcastsInDim S2x4096x2816 (![] : Fin 0 → Fin S2x4096x2816.rank)
  bcast_S_S5632x1024 : S_.BroadcastsInDim S5632x1024 (![] : Fin 0 → Fin S5632x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S2x4096x2816 .bf16) (main_arg1 : FVec F S5632x1024 .bf16) (main_arg2 : FVec F S4096x1024 .f32) (main_arg3 : FVec F S1024 .f32) (main_arg4 : FVec F S4096x1024 .f32) : IVec S2x4096x2816 1 × IVec S5632x1024 1 × IVec S4096x1024 1 × IVec S1024 1 :=
  let main_v0 : FVec F S2x4096x2816 .bf16 := Host.absf main_arg0
  let main_cst : FVec F S_ .bf16 := constant S_ .bf16 0x7F80#16
  let main_v1 : FVec F S2x4096x2816 .bf16 := broadcastInDim S2x4096x2816 ![] bcast_S_S2x4096x2816 main_cst
  let main_v2 : IVec S2x4096x2816 1 := cmpf .olt main_v0 main_v1
  let main_v3 : FVec F S5632x1024 .bf16 := Host.absf main_arg1
  let main_cst_0 : FVec F S_ .bf16 := constant S_ .bf16 0x7F80#16
  let main_v4 : FVec F S5632x1024 .bf16 := broadcastInDim S5632x1024 ![] bcast_S_S5632x1024 main_cst_0
  let main_v5 : IVec S5632x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_in_proj_dx.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S_ : Shape := ⟨0, ![]⟩

class Facts : Prop where
  bcast_S_S4096x1792 : S_.BroadcastsInDim S4096x1792 (![] : Fin 0 → Fin S4096x1792.rank)
  bcast_S_S1792x1024 : S_.BroadcastsInDim S1792x1024 (![] : Fin 0 → Fin S1792x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1792 .bf16) (main_arg1 : FVec F S1792x1024 .bf16) (main_arg2 : FVec F S4096x1024 .f32) (main_arg3 : FVec F S1024 .f32) (main_arg4 : FVec F S4096x1024 .f32) : IVec S4096x1792 1 × IVec S1792x1024 1 × IVec S4096x1024 1 × IVec S1024 1 :=
  let main_v0 : FVec F S4096x1792 .bf16 := Host.absf main_arg0
  let main_cst : FVec F S_ .bf16 := constant S_ .bf16 0x7F80#16
  let main_v1 : FVec F S4096x1792 .bf16 := broadcastInDim S4096x1792 ![] bcast_S_S4096x1792 main_cst
  let main_v2 : IVec S4096x1792 1 := cmpf .olt main_v0 main_v1
  let main_v3 : FVec F S1792x1024 .bf16 := Host.absf main_arg1
  let main_cst_0 : FVec F S_ .bf16 := constant S_ .bf16 0x7F80#16
  let main_v4 : FVec F S1792x1024 .bf16 := broadcastInDim S1792x1024 ![] bcast_S_S1792x1024 main_cst_0
  let main_v5 : IVec S1792x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_in_proj_dx_first.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S_ : Shape := ⟨0, ![]⟩

class Facts : Prop where
  bcast_S_S4096x1792 : S_.BroadcastsInDim S4096x1792 (![] : Fin 0 → Fin S4096x1792.rank)
  bcast_S_S1792x1024 : S_.BroadcastsInDim S1792x1024 (![] : Fin 0 → Fin S1792x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1792 .bf16) (main_arg1 : FVec F S1792x1024 .bf16) (main_arg2 : FVec F S4096x1024 .f32) (main_arg3 : FVec F S1024 .f32) (main_arg4 : FVec F S4096x1024 .f32) : IVec S4096x1792 1 × IVec S1792x1024 1 × IVec S4096x1024 1 × IVec S1024 1 :=
  let main_v0 : FVec F S4096x1792 .bf16 := Host.absf main_arg0
  let main_cst : FVec F S_ .bf16 := constant S_ .bf16 0x7F80#16
  let main_v1 : FVec F S4096x1792 .bf16 := broadcastInDim S4096x1792 ![] bcast_S_S4096x1792 main_cst
  let main_v2 : IVec S4096x1792 1 := cmpf .olt main_v0 main_v1
  let main_v3 : FVec F S1792x1024 .bf16 := Host.absf main_arg1
  let main_cst_0 : FVec F S_ .bf16 := constant S_ .bf16 0x7F80#16
  let main_v4 : FVec F S1792x1024 .bf16 := broadcastInDim S1792x1024 ![] bcast_S_S1792x1024 main_cst_0
  let main_v5 : IVec S1792x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_in_proj_dx_rest.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩

class Facts : Prop where
  bcast_S_S4096x1792 : S_.BroadcastsInDim S4096x1792 (![] : Fin 0 → Fin S4096x1792.rank)
  bcast_S_S1792x1024 : S_.BroadcastsInDim S1792x1024 (![] : Fin 0 → Fin S1792x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1792 .bf16) (main_arg1 : FVec F S1792x1024 .bf16) (main_arg2 : FVec F S4096x1024 .f32) (main_arg3 : FVec F S1024 .f32) (main_arg4 : FVec F S4096x1024 .f32) (main_arg5 : FVec F S4096x1024 .f32) (main_arg6 : FVec F S4096x1024 .bf16) (main_arg7 : FVec F S1x1024 .f32) : IVec S4096x1792 1 × IVec S1792x1024 1 × IVec S4096x1024 1 × IVec S1024 1 :=
  let main_v0 : FVec F S4096x1792 .bf16 := Host.absf main_arg0
  let main_cst : FVec F S_ .bf16 := constant S_ .bf16 0x7F80#16
  let main_v1 : FVec F S4096x1792 .bf16 := broadcastInDim S4096x1792 ![] bcast_S_S4096x1792 main_cst
  let main_v2 : IVec S4096x1792 1 := cmpf .olt main_v0 main_v1
  let main_v3 : FVec F S1792x1024 .bf16 := Host.absf main_arg1
  let main_cst_0 : FVec F S_ .bf16 := constant S_ .bf16 0x7F80#16
  let main_v4 : FVec F S1792x1024 .bf16 := broadcastInDim S1792x1024 ![] bcast_S_S1792x1024 main_cst_0
  let main_v5 : IVec S1792x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_swiglu.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S2x4096x2816 : S_.BroadcastsInDim S2x4096x2816 (![] : Fin 0 → Fin S2x4096x2816.rank)

variable [Facts]

def fn {F : FTy → Type} [FloatOps F] (main_arg0 : FVec F S4096x1024 .bf16) (main_arg1 : FVec F S2816x1024 .bf16) (main_arg2 : FVec F S2x4096x2816 .bf16) : IVec S4096x1024 1 × IVec S2816x1024 1 × IVec S2x4096x2816 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S2x4096x2816 .bf16 := Host.absf main_arg2
  let main_cst_1 : FVec F S_ .bf16 := constant S_ .bf16 0x7F80#16
  let main_v7 : FVec F S2x4096x2816 .bf16 := broadcastInDim S2x4096x2816 ![] bcast_S_S2x4096x2816 main_cst_1
  let main_v8 : IVec S2x4096x2816 1 := cmpf .olt main_v6 main_v7
  (main_v2, main_v5, main_v8)
-- ==== SwigluBwd.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluBwdRefIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S2816x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S1x4096x2816, .f32⟩
  | .hbm, ⟨34, _⟩ => ⟨S1x4096x2816, .f32⟩
  | .hbm, ⟨35, _⟩ => ⟨S2x4096x2816, .f32⟩
  | .hbm, ⟨36, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== GateUpDx.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S1x1024 : Shape := ⟨2, ![1, 1024]⟩
abbrev S2x256x2816 : Shape := ⟨3, ![2, 256, 2816]⟩
abbrev S256x1024 : Shape := ⟨2, ![256, 1024]⟩
abbrev S1x256x2816 : Shape := ⟨3, ![1, 256, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateUpDxRefIdeal.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S5632x1024, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S1x4096x2816, .bf16⟩
  | .hbm, ⟨31, _⟩ => ⟨S4096x2816, .bf16⟩
  | .hbm, ⟨32, _⟩ => ⟨S4096x2816, .f32⟩
  | .hbm, ⟨33, _⟩ => ⟨S1x4096x2816, .bf16⟩
  | .hbm, ⟨34, _⟩ => ⟨S4096x2816, .bf16⟩
  | .hbm, ⟨35, _⟩ => ⟨S4096x2816, .f32⟩
  | .hbm, ⟨36, _⟩ => ⟨S4096x5632, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .bf16⟩
  | .hbm, ⟨65, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== InDx.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1792, .bf16⟩
  | .hbm, ⟨1, _⟩ => ⟨S1792x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxRefIdeal.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S1024x1792 : Shape := ⟨2, ![1024, 1792]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S1792x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1792x1024, .f32⟩
  | .hbm, ⟨6, _⟩ => ⟨S1024x1792, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1792, .f32⟩
  | .hbm, ⟨28, _⟩ => ⟨S4096x1792, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== InDxFirst.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x1792, .bf16⟩
  | .hbm, ⟨1, _⟩ => ⟨S1792x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S2048x1024, .f32⟩
  | .hbm, ⟨10, _⟩ => ⟨S2048x1024, .bf16⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxFirstRefIdeal.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S2048x1792 : Shape := ⟨2, ![2048, 1792]⟩
abbrev S2048x1024 : Shape := ⟨2, ![2048, 1024]⟩
abbrev S1024x1792 : Shape := ⟨2, ![1024, 1792]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S1792x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S2048x1792, .bf16⟩
  | .hbm, ⟨6, _⟩ => ⟨S2048x1024, .f32⟩
  | .hbm, ⟨7, _⟩ => ⟨S2048x1024, .f32⟩
  | .hbm, ⟨8, _⟩ => ⟨S1792x1024, .f32⟩
  | .hbm, ⟨9, _⟩ => ⟨S1024x1792, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1792, .f32⟩
  | .hbm, ⟨31, _⟩ => ⟨S2048x1792, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S1x1024, .f32⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== InDxRest.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1792, .bf16⟩
  | .hbm, ⟨1, _⟩ => ⟨S1792x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InDxRestRefIdeal.lean ====
abbrev S4096x1792 : Shape := ⟨2, ![4096, 1792]⟩
abbrev S1792x1024 : Shape := ⟨2, ![1792, 1024]⟩
abbrev S4096x1024 : Shape := ⟨2, ![4096, 1024]⟩
abbrev S1024 : Shape := ⟨1, ![1024]⟩
abbrev S1x1024 : Shape := ⟨2, ![1, 1024]⟩
abbrev S2048x1792 : Shape := ⟨2, ![2048, 1792]⟩
abbrev S2048x1024 : Shape := ⟨2, ![2048, 1024]⟩
abbrev S1024x1792 : Shape := ⟨2, ![1024, 1792]⟩
abbrev S_ : Shape := ⟨0, ![]⟩
abbrev S2048 : Shape := ⟨1, ![2048]⟩
abbrev S2048x1 : Shape := ⟨2, ![2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S1792x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S2048x1792, .bf16⟩
  | .hbm, ⟨9, _⟩ => ⟨S2048x1024, .f32⟩
  | .hbm, ⟨10, _⟩ => ⟨S2048x1024, .f32⟩
  | .hbm, ⟨11, _⟩ => ⟨S1792x1024, .f32⟩
  | .hbm, ⟨12, _⟩ => ⟨S1024x1792, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1792, .f32⟩
  | .hbm, ⟨34, _⟩ => ⟨S2048x1792, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .bf16⟩
  | .hbm, ⟨63, _⟩ => ⟨S1x1024, .f32⟩
  | .hbm, ⟨64, _⟩ => ⟨S2048x1024, .f32⟩
  | .hbm, ⟨65, _⟩ => ⟨S4096x1024, .f32⟩
  | .hbm, ⟨66, _⟩ => ⟨S2048x1024, .bf16⟩
  | .hbm, ⟨67, _⟩ => ⟨S4096x1024, .bf16⟩
  | .hbm, ⟨68, _⟩ => ⟨S1x1024, .f32⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== GateUpDw.lean ====
abbrev S2x4096x2816 : Shape := ⟨3, ![2, 4096, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 21
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateUpDwRefIdeal.lean ====
abbrev S2x4096x2816 : Shape := ⟨3, ![2, 4096, 2816]⟩
abbrev S4096x1024 : Shape := ⟨2, ![4096, 1024]⟩
abbrev S1024 : Shape := ⟨1, ![1024]⟩
abbrev S_ : Shape := ⟨0, ![]⟩
abbrev S1024x5632 : Shape := ⟨2, ![1024, 5632]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S1x4096x2816, .bf16⟩
  | .hbm, ⟨25, _⟩ => ⟨S4096x2816, .bf16⟩
  | .hbm, ⟨26, _⟩ => ⟨S4096x2816, .f32⟩
  | .hbm, ⟨27, _⟩ => ⟨S1x4096x2816, .bf16⟩
  | .hbm, ⟨28, _⟩ => ⟨S4096x2816, .bf16⟩
  | .hbm, ⟨29, _⟩ => ⟨S4096x2816, .f32⟩
  | .hbm, ⟨30, _⟩ => ⟨S4096x5632, .f32⟩
  | .hbm, ⟨31, _⟩ => ⟨S5632x1024, .f32⟩
  | .hbm, ⟨32, _⟩ => ⟨S1024x5632, .f32⟩
  | .hbm, ⟨33, _⟩ => ⟨S5632x1024, .f32⟩
  | .hbm, ⟨34, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== DownDw.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 20
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S1x4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S1x4096x2816, .bf16⟩
  | .hbm, ⟨15, _⟩ => ⟨S4096x2816, .bf16⟩
  | .hbm, ⟨16, _⟩ => ⟨S4096x2816, .f32⟩
  | .hbm, ⟨17, _⟩ => ⟨S4096x2816, .f32⟩
  | .hbm, ⟨18, _⟩ => ⟨S4096x2816, .bf16⟩
  | .hbm, ⟨19, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2x4096x2816 : Shape := ⟨3, ![2, 4096, 2816]⟩
abbrev S4096x1024 : Shape := ⟨2, ![4096, 1024]⟩
abbrev S_ : Shape := ⟨0, ![]⟩
abbrev S2816x1024 : Shape := ⟨2, ![2816, 1024]⟩
abbrev S1x4096x2816 : Shape := ⟨3, ![1, 4096, 2816]⟩
abbrev S4096x2816 : Shape := ⟨2, ![4096, 2816]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S1x4096x2816, .bf16⟩
  | .hbm, ⟨5, _⟩ => ⟨S4096x2816, .bf16⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S1x4096x2816, .bf16⟩
  | .hbm, ⟨17, _⟩ => ⟨S4096x2816, .bf16⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== InDw.lean ====
abbrev S4096x1792 : Shape := ⟨2, ![4096, 1792]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1792x1024 : Shape := ⟨2, ![1792, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1792x1024, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1792 : Shape := ⟨2, ![4096, 1792]⟩
abbrev S4096x1024 : Shape := ⟨2, ![4096, 1024]⟩
abbrev S1024 : Shape := ⟨1, ![1024]⟩
abbrev S_ : Shape := ⟨0, ![]⟩
abbrev S1024x1792 : Shape := ⟨2, ![1024, 1792]⟩
abbrev S4096 : Shape := ⟨1, ![4096]⟩
abbrev S4096x1 : Shape := ⟨2, ![4096, 1]⟩
abbrev S1x1024 : Shape := ⟨2, ![1, 1024]⟩
abbrev S1792x1024 : Shape := ⟨2, ![1792, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024x1792, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1792, .f32⟩
  | .hbm, ⟨22, _⟩ => ⟨S4096x1792, .f32⟩
  | .hbm, ⟨23, _⟩ => ⟨S1792x1024, .f32⟩
  | .hbm, ⟨24, _⟩ => ⟨S1024x1792, .f32⟩
  | .hbm, ⟨25, _⟩ => ⟨S1792x1024, .f32⟩
  | .hbm, ⟨26, _⟩ => ⟨S1792x1024, .bf16⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownFwd.lean ====
abbrev S2x4096x2816 : Shape := ⟨3, ![2, 4096, 2816]⟩
abbrev S2816x1024 : Shape := ⟨2, ![2816, 1024]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩
abbrev S512x2816 : Shape := ⟨2, ![512, 2816]⟩
abbrev S512x1024 : Shape := ⟨2, ![512, 1024]⟩

abbrev nBuf : Space → Nat
  | .hbm => 21
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .bf16⟩
  | .hbm, ⟨2, _⟩ => ⟨S4096x1024, .f32⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S1x4096x2816, .bf16⟩
  | .hbm, ⟨16, _⟩ => ⟨S4096x2816, .bf16⟩
  | .hbm, ⟨17, _⟩ => ⟨S4096x2816, .f32⟩
  | .hbm, ⟨18, _⟩ => ⟨S4096x2816, .f32⟩
  | .hbm, ⟨19, _⟩ => ⟨S4096x2816, .bf16⟩
  | .hbm, ⟨20, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownFwdRefIdeal.lean ====
abbrev S2x4096x2816 : Shape := ⟨3, ![2, 4096, 2816]⟩
abbrev S2816x1024 : Shape := ⟨2, ![2816, 1024]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .bf16⟩
  | .hbm, ⟨2, _⟩ => ⟨S4096x1024, .f32⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S1x4096x2816, .bf16⟩
  | .hbm, ⟨16, _⟩ => ⟨S4096x2816, .bf16⟩
  | .hbm, ⟨17, _⟩ => ⟨S4096x2816, .f32⟩
  | .hbm, ⟨18, _⟩ => ⟨S4096x2816, .f32⟩
  | .hbm, ⟨19, _⟩ => ⟨S2816x1024, .f32⟩
  | .hbm, ⟨20, _⟩ => ⟨S4096x1024, .f32⟩
  | .hbm, ⟨21, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutFwdRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InFwd.lean ====
abbrev S4096x1024 : Shape := ⟨2, ![4096, 1024]⟩
abbrev S1024 : Shape := ⟨1, ![1024]⟩
abbrev S1792x1024 : Shape := ⟨2, ![1792, 1024]⟩
abbrev S1x1024 : Shape := ⟨2, ![1, 1024]⟩
abbrev S4096x1792 : Shape := ⟨2, ![4096, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1792x1024, .bf16⟩
  | .hbm, ⟨3, _⟩ => ⟨S1x1024, .f32⟩
  | .hbm, ⟨4, _⟩ => ⟨S4096x1792, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1792, .bf16⟩
  | .local _ .vmem, ⟨5, _⟩ => ⟨S512x1792, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S4096x1024 : Shape := ⟨2, ![4096, 1024]⟩
abbrev S1024 : Shape := ⟨1, ![1024]⟩
abbrev S1792x1024 : Shape := ⟨2, ![1792, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1792 : Shape := ⟨2, ![1024, 1792]⟩
abbrev S4096x1792 : Shape := ⟨2, ![4096, 1792]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1792x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1792x1024, .f32⟩
  | .hbm, ⟨20, _⟩ => ⟨S1024x1792, .f32⟩
  | .hbm, ⟨21, _⟩ => ⟨S4096x1792, .f32⟩
  | .hbm, ⟨22, _⟩ => ⟨S4096x1792, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== NormFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InFwdFirst.lean ====
abbrev S4096x1024 : Shape := ⟨2, ![4096, 1024]⟩
abbrev S1024 : Shape := ⟨1, ![1024]⟩
abbrev S1792x1024 : Shape := ⟨2, ![1792, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1792 : Shape := ⟨2, ![4096, 1792]⟩
abbrev S512x1024 : Shape := ⟨2, ![512, 1024]⟩
abbrev S512x1792 : Shape := ⟨2, ![512, 1792]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1792x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1792, .bf16⟩
  | .local _ .vmem, ⟨0, _⟩ => ⟨S512x1024, .bf16⟩
  | .local _ .vmem, ⟨1, _⟩ => ⟨S512x1024, .bf16⟩
  | .local _ .vmem, ⟨2, _⟩ => ⟨S1792x1024, .bf16⟩
  | .local _ .vmem, ⟨3, _⟩ => ⟨S512x1792, .bf16⟩
  | .local _ .vmem, ⟨4, _⟩ => ⟨S512x1792, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFwdFirstRefIdeal.lean ====
abbrev S4096x1024 : Shape := ⟨2, ![4096, 1024]⟩
abbrev S1024 : Shape := ⟨1, ![1024]⟩
abbrev S1792x1024 : Shape := ⟨2, ![1792, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1792 : Shape := ⟨2, ![1024, 1792]⟩
abbrev S4096x1792 : Shape := ⟨2, ![4096, 1792]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1792x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1792x1024, .f32⟩
  | .hbm, ⟨20, _⟩ => ⟨S1024x1792, .f32⟩
  | .hbm, ⟨21, _⟩ => ⟨S4096x1792, .f32⟩
  | .hbm, ⟨22, _⟩ => ⟨S4096x1792, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdamIn.lean ====
abbrev S2x1024x448 : Shape := ⟨3, ![2, 1024, 448]⟩
abbrev S1x512x448 : Shape := ⟨3, ![1, 512, 448]⟩
abbrev S512x448 : Shape := ⟨2, ![512, 448]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x448, .f32⟩
  | .hbm, ⟨1, _⟩ => ⟨S2x1024x448, .f32⟩
  | .hbm, ⟨2, _⟩ => ⟨S2x1024x448, .f32⟩
  | .hbm, ⟨3, _⟩ => ⟨S2x1024x448, .f32⟩
  | .hbm, ⟨4, _⟩ => ⟨S2x1024x448, .f32⟩
  | .hbm, ⟨5, _⟩ => ⟨S2x1024x448, .f32⟩
  | .hbm, ⟨6, _⟩ => ⟨S2x1024x448, .f32⟩
  | .local _ .vmem, ⟨0, _⟩ => ⟨S1x512x448, .f32⟩
  | .local _ .vmem, ⟨1, _⟩ => ⟨S1x512x448, .f32⟩
  | .local _ .vmem, ⟨2, _⟩ => ⟨S1x512x448, .f32⟩
  | .local _ .vmem, ⟨3, _⟩ => ⟨S1x512x448, .f32⟩
  | .local _ .vmem, ⟨4, _⟩ => ⟨S1x512x448, .f32⟩
  | .local _ .vmem, ⟨5, _⟩ => ⟨S1x512x448, .f32⟩
  | .local _ .vmem, ⟨6, _⟩ => ⟨S1x512x448, .f32⟩
  | .local _ .vmem, ⟨7, _⟩ => ⟨S1x512x448, .f32⟩
  | .local _ .vmem, ⟨8, _⟩ => ⟨S1x512x448, .f32⟩
  | .local _ .vmem, ⟨9, _⟩ => ⟨S1x512x448, .f32⟩
  | .local _ .vmem, ⟨10, _⟩ => ⟨S1x512x448, .f32⟩
  | .local _ .vmem, ⟨11, _⟩ => ⟨S1x512x448, .f32⟩
  | .local _ .vmem, ⟨12, _⟩ => ⟨S1x512x448, .f32⟩
  | .local _ .vmem, ⟨13, _⟩ => ⟨S1x512x448, .f32⟩
  | _, _ => ⟨S2x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInRefIdeal.lean ====
abbrev S2x1024x448 : Shape := ⟨3, ![2, 1024, 448]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x448, .f32⟩
  | .hbm, ⟨1, _⟩ => ⟨S2x1024x448, .f32⟩
  | .hbm, ⟨2, _⟩ => ⟨S2x1024x448, .f32⟩
  | .hbm, ⟨3, _⟩ => ⟨S2x1024x448, .f32⟩
  | .hbm, ⟨4, _⟩ => ⟨S_, .f32⟩
  | .hbm, ⟨5, _⟩ => ⟨S2x1024x448, .f32⟩
  | .hbm, ⟨6, _⟩ => ⟨S2x1024x448, .f32⟩
  | .hbm, ⟨7, _⟩ => ⟨S_, .f32⟩
  | .hbm, ⟨8, _⟩ => ⟨S2x1024x448, .f32⟩
  | .hbm, ⟨9, _⟩ => ⟨S2x1024x448, .f32⟩
  | .hbm, ⟨10, _⟩ => ⟨S2x1024x448, .f32⟩
  | .hbm, ⟨11, _⟩ => ⟨S_, .f32⟩
  | .hbm, ⟨12, _⟩ => ⟨S2x1024x448, .f32⟩
  | .hbm, ⟨13, _⟩ => ⟨S2x1024x448, .f32⟩
  | .hbm, ⟨14, _⟩ => ⟨S2x1024x448, .f32⟩
  | .hbm, ⟨15, _⟩ => ⟨S_, .f32⟩
  | .hbm, ⟨16, _⟩ => ⟨S2x1024x448, .f32⟩
  | .hbm, ⟨17, _⟩ => ⟨S2x1024x448, .f32⟩
  | .hbm, ⟨18, _⟩ => ⟨S2x1024x448, .f32⟩
  | .hbm, ⟨19, _⟩ => ⟨S_, .f32⟩
  | .hbm, ⟨20, _⟩ => ⟨S2x1024x448, .f32⟩
  | .hbm, ⟨21, _⟩ => ⟨S2x1024x448, .f32⟩
  | .hbm, ⟨22, _⟩ => ⟨S_, .f32⟩
  | .hbm, ⟨23, _⟩ => ⟨S2x1024x448, .f32⟩
  | .hbm, ⟨24, _⟩ => ⟨S2x1024x448, .f32⟩
  | .hbm, ⟨25, _⟩ => ⟨S2x1024x448, .f32⟩
  | .hbm, ⟨26, _⟩ => ⟨S_, .f32⟩
  | .hbm, ⟨27, _⟩ => ⟨S2x1024x448, .f32⟩
  | .hbm, ⟨28, _⟩ => ⟨S2x1024x448, .f32⟩
  | .hbm, ⟨29, _⟩ => ⟨S2x1024x448, .f32⟩
  | .hbm, ⟨30, _⟩ => ⟨S_, .f32⟩
  | .hbm, ⟨31, _⟩ => ⟨S2x1024x448, .f32⟩
  | .hbm, ⟨32, _⟩ => ⟨S2x1024x448, .f32⟩
  | .hbm, ⟨33, _⟩ => ⟨S2x1024x448, .f32⟩
  | .hbm, ⟨34, _⟩ => ⟨S_, .f32⟩
  | .hbm, ⟨35, _⟩ => ⟨S2x1024x448, .f32⟩
  | .hbm, ⟨36, _⟩ => ⟨S2x1024x448, .f32⟩
  | _, _ => ⟨S2x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPw.lean ====
abbrev S2x96x384 : Shape := ⟨3, ![2, 96, 384]⟩
abbrev S1x96x384 : Shape := ⟨3, ![1, 96, 384]⟩
abbrev S96x384 : Shape := ⟨2, ![96, 384]⟩

abbrev nBuf : Space → Nat
  | .hbm => 7
  | .vmem => 14
  | .smem => 0
  | _ => 0

abbrev bufTy : (tb : Table) → Fin (tcTables nBuf tb) → BufTy
  | .hbm, ⟨0, _⟩ => ⟨S2x96x384, .f32⟩
  | .hbm, ⟨1, _⟩ => ⟨S2x96x384, .f32⟩
  | .hbm, ⟨2, _⟩ => ⟨S2x96x384, .f32⟩
  | .hbm, ⟨3, _⟩ => ⟨S2x96x384, .f32⟩
  | .hbm, ⟨4, _⟩ => ⟨S2x96x384, .f32⟩
  | .hbm, ⟨5, _⟩ => ⟨S2x96x384, .f32⟩
  | .hbm, ⟨6, _⟩ => ⟨S2x96x384, .f32⟩
  | .local _ .vmem, ⟨0, _⟩ => ⟨S1x96x384, .f32⟩
  | .local _ .vmem, ⟨1, _⟩ => ⟨S1x96x384, .f32⟩
  | .local _ .vmem, ⟨2, _⟩ => ⟨S1x96x384, .f32⟩
  | .local _ .vmem, ⟨3, _⟩ => ⟨S1x96x384, .f32⟩
  | .local _ .vmem, ⟨4, _⟩ => ⟨S1x96x384, .f32⟩
  | .local _ .vmem, ⟨5, _⟩ => ⟨S1x96x384, .f32⟩
  | .local _ .vmem, ⟨6, _⟩ => ⟨S1x96x384, .f32⟩
  | .local _ .vmem, ⟨7, _⟩ => ⟨S1x96x384, .f32⟩
  | .local _ .vmem, ⟨8, _⟩ => ⟨S1x96x384, .f32⟩
  | .local _ .vmem, ⟨9, _⟩ => ⟨S1x96x384, .f32⟩
  | .local _ .vmem, ⟨10, _⟩ => ⟨S1x96x384, .f32⟩
  | .local _ .vmem, ⟨11, _⟩ => ⟨S1x96x384, .f32⟩
  | .local _ .vmem, ⟨12, _⟩ => ⟨S1x96x384, .f32⟩
  | .local _ .vmem, ⟨13, _⟩ => ⟨S1x96x384, .f32⟩
  | _, _ => ⟨S2x96x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamPwRefIdeal.lean ====
abbrev S2x96x384 : Shape := ⟨3, ![2, 96, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x96x384, .f32⟩
  | .hbm, ⟨1, _⟩ => ⟨S2x96x384, .f32⟩
  | .hbm, ⟨2, _⟩ => ⟨S2x96x384, .f32⟩
  | .hbm, ⟨3, _⟩ => ⟨S2x96x384, .f32⟩
  | .hbm, ⟨4, _⟩ => ⟨S_, .f32⟩
  | .hbm, ⟨5, _⟩ => ⟨S2x96x384, .f32⟩
  | .hbm, ⟨6, _⟩ => ⟨S2x96x384, .f32⟩
  | .hbm, ⟨7, _⟩ => ⟨S_, .f32⟩
  | .hbm, ⟨8, _⟩ => ⟨S2x96x384, .f32⟩
  | .hbm, ⟨9, _⟩ => ⟨S2x96x384, .f32⟩
  | .hbm, ⟨10, _⟩ => ⟨S2x96x384, .f32⟩
  | .hbm, ⟨11, _⟩ => ⟨S_, .f32⟩
  | .hbm, ⟨12, _⟩ => ⟨S2x96x384, .f32⟩
  | .hbm, ⟨13, _⟩ => ⟨S2x96x384, .f32⟩
  | .hbm, ⟨14, _⟩ => ⟨S2x96x384, .f32⟩
  | .hbm, ⟨15, _⟩ => ⟨S_, .f32⟩
  | .hbm, ⟨16, _⟩ => ⟨S2x96x384, .f32⟩
  | .hbm, ⟨17, _⟩ => ⟨S2x96x384, .f32⟩
  | .hbm, ⟨18, _⟩ => ⟨S2x96x384, .f32⟩
  | .hbm, ⟨19, _⟩ => ⟨S_, .f32⟩
  | .hbm, ⟨20, _⟩ => ⟨S2x96x384, .f32⟩
  | .hbm, ⟨21, _⟩ => ⟨S2x96x384, .f32⟩
  | .hbm, ⟨22, _⟩ => ⟨S_, .f32⟩
  | .hbm, ⟨23, _⟩ => ⟨S2x96x384, .f32⟩
  | .hbm, ⟨24, _⟩ => ⟨S2x96x384, .f32⟩
  | .hbm, ⟨25, _⟩ => ⟨S2x96x384, .f32⟩
  | .hbm, ⟨26, _⟩ => ⟨S_, .f32⟩
  | .hbm, ⟨27, _⟩ => ⟨S2x96x384, .f32⟩
  | .hbm, ⟨28, _⟩ => ⟨S2x96x384, .f32⟩
  | .hbm, ⟨29, _⟩ => ⟨S2x96x384, .f32⟩
  | .hbm, ⟨30, _⟩ => ⟨S_, .f32⟩
  | .hbm, ⟨31, _⟩ => ⟨S2x96x384, .f32⟩
  | .hbm, ⟨32, _⟩ => ⟨S2x96x384, .f32⟩
  | .hbm, ⟨33, _⟩ => ⟨S2x96x384, .f32⟩
  | .hbm, ⟨34, _⟩ => ⟨S_, .f32⟩
  | .hbm, ⟨35, _⟩ => ⟨S2x96x384, .f32⟩
  | .hbm, ⟨36, _⟩ => ⟨S2x96x384, .f32⟩
  | _, _ => ⟨S2x96x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateUp.lean ====
abbrev S2x1024x1408 : Shape := ⟨3, ![2, 1024, 1408]⟩
abbrev S1x512x1408 : Shape := ⟨3, ![1, 512, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamGateUpRefIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamDownRefIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmallA.lean ====
abbrev S2x1024 : Shape := ⟨2, ![2, 1024]⟩
abbrev S2x31x96 : Shape := ⟨3, ![2, 31, 96]⟩
abbrev S2x384 : Shape := ⟨2, ![2, 384]⟩
abbrev S62x96 : Shape := ⟨2, ![62, 96]⟩

abbrev nBuf : Space → Nat
  | .hbm => 25
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x31x96, .f32⟩
  | .hbm, ⟨2, _⟩ => ⟨S2x384, .f32⟩
  | .hbm, ⟨3, _⟩ => ⟨S2x1024, .f32⟩
  | .hbm, ⟨4, _⟩ => ⟨S2x31x96, .f32⟩
  | .hbm, ⟨5, _⟩ => ⟨S2x384, .f32⟩
  | .hbm, ⟨6, _⟩ => ⟨S2x1024, .f32⟩
  | .hbm, ⟨7, _⟩ => ⟨S2x31x96, .f32⟩
  | .hbm, ⟨8, _⟩ => ⟨S2x384, .f32⟩
  | .hbm, ⟨9, _⟩ => ⟨S2x1024, .f32⟩
  | .hbm, ⟨10, _⟩ => ⟨S2x31x96, .f32⟩
  | .hbm, ⟨11, _⟩ => ⟨S2x384, .f32⟩
  | .hbm, ⟨12, _⟩ => ⟨S62x96, .f32⟩
  | .hbm, ⟨13, _⟩ => ⟨S62x96, .f32⟩
  | .hbm, ⟨14, _⟩ => ⟨S62x96, .f32⟩
  | .hbm, ⟨15, _⟩ => ⟨S62x96, .f32⟩
  | .hbm, ⟨16, _⟩ => ⟨S2x1024, .f32⟩
  | .hbm, ⟨17, _⟩ => ⟨S62x96, .f32⟩
  | .hbm, ⟨18, _⟩ => ⟨S2x384, .f32⟩
  | .hbm, ⟨19, _⟩ => ⟨S2x1024, .f32⟩
  | .hbm, ⟨20, _⟩ => ⟨S62x96, .f32⟩
  | .hbm, ⟨21, _⟩ => ⟨S2x384, .f32⟩
  | .hbm, ⟨22, _⟩ => ⟨S2x1024, .f32⟩
  | .hbm, ⟨23, _⟩ => ⟨S62x96, .f32⟩
  | .hbm, ⟨24, _⟩ => ⟨S2x384, .f32⟩
  | .local _ .vmem, ⟨0, _⟩ => ⟨S2x1024, .f32⟩
  | .local _ .vmem, ⟨1, _⟩ => ⟨S62x96, .f32⟩
  | .local _ .vmem, ⟨2, _⟩ => ⟨S2x384, .f32⟩
  | .local _ .vmem, ⟨3, _⟩ => ⟨S2x1024, .f32⟩
  | .local _ .vmem, ⟨4, _⟩ => ⟨S62x96, .f32⟩
  | .local _ .vmem, ⟨5, _⟩ => ⟨S2x384, .f32⟩
  | .local _ .vmem, ⟨6, _⟩ => ⟨S2x1024, .f32⟩
  | .local _ .vmem, ⟨7, _⟩ => ⟨S62x96, .f32⟩
  | .local _ .vmem, ⟨8, _⟩ => ⟨S2x384, .f32⟩
  | .local _ .vmem, ⟨9, _⟩ => ⟨S2x1024, .f32⟩
  | .local _ .vmem, ⟨10, _⟩ => ⟨S62x96, .f32⟩
  | .local _ .vmem, ⟨11, _⟩ => ⟨S2x384, .f32⟩
  | .local _ .vmem, ⟨12, _⟩ => ⟨S2x1024, .f32⟩
  | .local _ .vmem, ⟨13, _⟩ => ⟨S62x96, .f32⟩
  | .local _ .vmem, ⟨14, _⟩ => ⟨S2x384, .f32⟩
  | .local _ .vmem, ⟨15, _⟩ => ⟨S2x1024, .f32⟩
  | .local _ .vmem, ⟨16, _⟩ => ⟨S62x96, .f32⟩
  | .local _ .vmem, ⟨17, _⟩ => ⟨S2x384, .f32⟩
  | .local _ .vmem, ⟨18, _⟩ => ⟨S2x1024, .f32⟩
  | .local _ .vmem, ⟨19, _⟩ => ⟨S62x96, .f32⟩
  | .local _ .vmem, ⟨20, _⟩ => ⟨S2x384, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev main_v4_7 : Ref sig .tc := ⟨.hbm, 23, rfl⟩
abbrev main_v4_8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S62x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S62x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S62x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S62x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S62x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S62x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S62x96 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallARefIdeal.lean ====
abbrev S2x1024 : Shape := ⟨2, ![2, 1024]⟩
abbrev S2x31x96 : Shape := ⟨3, ![2, 31, 96]⟩
abbrev S2x384 : Shape := ⟨2, ![2, 384]⟩
abbrev S_ : Shape := ⟨0, ![]⟩
abbrev S62x96 : Shape := ⟨2, ![62, 96]⟩

abbrev nBuf : Space → Nat
  | .hbm => 114
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x31x96, .f32⟩
  | .hbm, ⟨2, _⟩ => ⟨S2x384, .f32⟩
  | .hbm, ⟨3, _⟩ => ⟨S2x1024, .f32⟩
  | .hbm, ⟨4, _⟩ => ⟨S2x31x96, .f32⟩
  | .hbm, ⟨5, _⟩ => ⟨S2x384, .f32⟩
  | .hbm, ⟨6, _⟩ => ⟨S2x1024, .f32⟩
  | .hbm, ⟨7, _⟩ => ⟨S2x31x96, .f32⟩
  | .hbm, ⟨8, _⟩ => ⟨S2x384, .f32⟩
  | .hbm, ⟨9, _⟩ => ⟨S2x1024, .f32⟩
  | .hbm, ⟨10, _⟩ => ⟨S2x31x96, .f32⟩
  | .hbm, ⟨11, _⟩ => ⟨S2x384, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x31x96, .f32⟩
  | .hbm, ⟨47, _⟩ => ⟨S2x31x96, .f32⟩
  | .hbm, ⟨48, _⟩ => ⟨S_, .f32⟩
  | .hbm, ⟨49, _⟩ => ⟨S2x31x96, .f32⟩
  | .hbm, ⟨50, _⟩ => ⟨S2x31x96, .f32⟩
  | .hbm, ⟨51, _⟩ => ⟨S2x31x96, .f32⟩
  | .hbm, ⟨52, _⟩ => ⟨S_, .f32⟩
  | .hbm, ⟨53, _⟩ => ⟨S2x31x96, .f32⟩
  | .hbm, ⟨54, _⟩ => ⟨S2x31x96, .f32⟩
  | .hbm, ⟨55, _⟩ => ⟨S2x31x96, .f32⟩
  | .hbm, ⟨56, _⟩ => ⟨S_, .f32⟩
  | .hbm, ⟨57, _⟩ => ⟨S2x31x96, .f32⟩
  | .hbm, ⟨58, _⟩ => ⟨S2x31x96, .f32⟩
  | .hbm, ⟨59, _⟩ => ⟨S2x31x96, .f32⟩
  | .hbm, ⟨60, _⟩ => ⟨S_, .f32⟩
  | .hbm, ⟨61, _⟩ => ⟨S2x31x96, .f32⟩
  | .hbm, ⟨62, _⟩ => ⟨S2x31x96, .f32⟩
  | .hbm, ⟨63, _⟩ => ⟨S_, .f32⟩
  | .hbm, ⟨64, _⟩ => ⟨S2x31x96, .f32⟩
  | .hbm, ⟨65, _⟩ => ⟨S2x31x96, .f32⟩
  | .hbm, ⟨66, _⟩ => ⟨S2x31x96, .f32⟩
  | .hbm, ⟨67, _⟩ => ⟨S_, .f32⟩
  | .hbm, ⟨68, _⟩ => ⟨S2x31x96, .f32⟩
  | .hbm, ⟨69, _⟩ => ⟨S2x31x96, .f32⟩
  | .hbm, ⟨70, _⟩ => ⟨S2x31x96, .f32⟩
  | .hbm, ⟨71, _⟩ => ⟨S_, .f32⟩
  | .hbm, ⟨72, _⟩ => ⟨S2x31x96, .f32⟩
  | .hbm, ⟨73, _⟩ => ⟨S2x31x96, .f32⟩
  | .hbm, ⟨74, _⟩ => ⟨S2x31x96, .f32⟩
  | .hbm, ⟨75, _⟩ => ⟨S_, .f32⟩
  | .hbm, ⟨76, _⟩ => ⟨S2x31x96, .f32⟩
  | .hbm, ⟨77, _⟩ => ⟨S2x31x96, .f32⟩
  | .hbm, ⟨78, _⟩ => ⟨S_, .f32⟩
  | .hbm, ⟨79, _⟩ => ⟨S2x384, .f32⟩
  | .hbm, ⟨80, _⟩ => ⟨S2x384, .f32⟩
  | .hbm, ⟨81, _⟩ => ⟨S_, .f32⟩
  | .hbm, ⟨82, _⟩ => ⟨S2x384, .f32⟩
  | .hbm, ⟨83, _⟩ => ⟨S2x384, .f32⟩
  | .hbm, ⟨84, _⟩ => ⟨S2x384, .f32⟩
  | .hbm, ⟨85, _⟩ => ⟨S_, .f32⟩
  | .hbm, ⟨86, _⟩ => ⟨S2x384, .f32⟩
  | .hbm, ⟨87, _⟩ => ⟨S2x384, .f32⟩
  | .hbm, ⟨88, _⟩ => ⟨S2x384, .f32⟩
  | .hbm, ⟨89, _⟩ => ⟨S_, .f32⟩
  | .hbm, ⟨90, _⟩ => ⟨S2x384, .f32⟩
  | .hbm, ⟨91, _⟩ => ⟨S2x384, .f32⟩
  | .hbm, ⟨92, _⟩ => ⟨S2x384, .f32⟩
  | .hbm, ⟨93, _⟩ => ⟨S_, .f32⟩
  | .hbm, ⟨94, _⟩ => ⟨S2x384, .f32⟩
  | .hbm, ⟨95, _⟩ => ⟨S2x384, .f32⟩
  | .hbm, ⟨96, _⟩ => ⟨S_, .f32⟩
  | .hbm, ⟨97, _⟩ => ⟨S2x384, .f32⟩
  | .hbm, ⟨98, _⟩ => ⟨S2x384, .f32⟩
  | .hbm, ⟨99, _⟩ => ⟨S2x384, .f32⟩
  | .hbm, ⟨100, _⟩ => ⟨S_, .f32⟩
  | .hbm, ⟨101, _⟩ => ⟨S2x384, .f32⟩
  | .hbm, ⟨102, _⟩ => ⟨S2x384, .f32⟩
  | .hbm, ⟨103, _⟩ => ⟨S2x384, .f32⟩
  | .hbm, ⟨104, _⟩ => ⟨S_, .f32⟩
  | .hbm, ⟨105, _⟩ => ⟨S2x384, .f32⟩
  | .hbm, ⟨106, _⟩ => ⟨S2x384, .f32⟩
  | .hbm, ⟨107, _⟩ => ⟨S2x384, .f32⟩
  | .hbm, ⟨108, _⟩ => ⟨S_, .f32⟩
  | .hbm, ⟨109, _⟩ => ⟨S2x384, .f32⟩
  | .hbm, ⟨110, _⟩ => ⟨S2x384, .f32⟩
  | .hbm, ⟨111, _⟩ => ⟨S62x96, .f32⟩
  | .hbm, ⟨112, _⟩ => ⟨S62x96, .f32⟩
  | .hbm, ⟨113, _⟩ => ⟨S62x96, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩

abbrev nD : Nat := 1
abbrev τ : Topo := Topo.v7x

variable {F : FTy → Type} [FloatOps F]
-- ==== AdamSmallB.lean ====
abbrev S2x384 : Shape := ⟨2, ![2, 384]⟩

abbrev nBuf : Space → Nat
  | .hbm => 21
  | .vmem => 21
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .hbm, ⟨7, _⟩ => ⟨S2x384, .f32⟩
  | .hbm, ⟨8, _⟩ => ⟨S2x384, .f32⟩
  | .hbm, ⟨9, _⟩ => ⟨S2x384, .f32⟩
  | .hbm, ⟨10, _⟩ => ⟨S2x384, .f32⟩
  | .hbm, ⟨11, _⟩ => ⟨S2x384, .f32⟩
  | .hbm, ⟨12, _⟩ => ⟨S2x384, .f32⟩
  | .hbm, ⟨13, _⟩ => ⟨S2x384, .f32⟩
  | .hbm, ⟨14, _⟩ => ⟨S2x384, .f32⟩
  | .hbm, ⟨15, _⟩ => ⟨S2x384, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S2x384, .f32⟩
  | .hbm, ⟨20, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | .local _ .vmem, ⟨7, _⟩ => ⟨S2x384, .f32⟩
  | .local _ .vmem, ⟨8, _⟩ => ⟨S2x384, .f32⟩
  | .local _ .vmem, ⟨9, _⟩ => ⟨S2x384, .f32⟩
  | .local _ .vmem, ⟨10, _⟩ => ⟨S2x384, .f32⟩
  | .local _ .vmem, ⟨11, _⟩ => ⟨S2x384, .f32⟩
  | .local _ .vmem, ⟨12, _⟩ => ⟨S2x384, .f32⟩
  | .local _ .vmem, ⟨13, _⟩ => ⟨S2x384, .f32⟩
  | .local _ .vmem, ⟨14, _⟩ => ⟨S2x384, .f32⟩
  | .local _ .vmem, ⟨15, _⟩ => ⟨S2x384, .f32⟩
  | .local _ .vmem, ⟨16, _⟩ => ⟨S2x384, .f32⟩
  | .local _ .vmem, ⟨17, _⟩ => ⟨S2x384, .f32⟩
  | .local _ .vmem, ⟨18, _⟩ => ⟨S2x384, .f32⟩
  | .local _ .vmem, ⟨19, _⟩ => ⟨S2x384, .f32⟩
  | .local _ .vmem, ⟨20, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallBRefIdeal.lean ====
abbrev S2x384 : Shape := ⟨2, ![2, 384]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .hbm, ⟨7, _⟩ => ⟨S2x384, .f32⟩
  | .hbm, ⟨8, _⟩ => ⟨S2x384, .f32⟩
  | .hbm, ⟨9, _⟩ => ⟨S2x384, .f32⟩
  | .hbm, ⟨10, _⟩ => ⟨S2x384, .f32⟩
  | .hbm, ⟨11, _⟩ => ⟨S2x384, .f32⟩
  | .hbm, ⟨12, _⟩ => ⟨S_, .f32⟩
  | .hbm, ⟨13, _⟩ => ⟨S2x384, .f32⟩
  | .hbm, ⟨14, _⟩ => ⟨S2x384, .f32⟩
  | .hbm, ⟨15, _⟩ => ⟨S_, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S_, .f32⟩
  | .hbm, ⟨20, _⟩ => ⟨S2x384, .f32⟩
  | .hbm, ⟨21, _⟩ => ⟨S2x384, .f32⟩
  | .hbm, ⟨22, _⟩ => ⟨S2x384, .f32⟩
  | .hbm, ⟨23, _⟩ => ⟨S_, .f32⟩
  | .hbm, ⟨24, _⟩ => ⟨S2x384, .f32⟩
  | .hbm, ⟨25, _⟩ => ⟨S2x384, .f32⟩
  | .hbm, ⟨26, _⟩ => ⟨S2x384, .f32⟩
  | .hbm, ⟨27, _⟩ => ⟨S_, .f32⟩
  | .hbm, ⟨28, _⟩ => ⟨S2x384, .f32⟩
  | .hbm, ⟨29, _⟩ => ⟨S2x384, .f32⟩
  | .hbm, ⟨30, _⟩ => ⟨S_, .f32⟩
  | .hbm, ⟨31, _⟩ => ⟨S2x384, .f32⟩
  | .hbm, ⟨32, _⟩ => ⟨S2x384, .f32⟩
  | .hbm, ⟨33, _⟩ => ⟨S2x384, .f32⟩
  | .hbm, ⟨34, _⟩ => ⟨S_, .f32⟩
  | .hbm, ⟨35, _⟩ => ⟨S2x384, .f32⟩
  | .hbm, ⟨36, _⟩ => ⟨S2x384, .f32⟩
  | .hbm, ⟨37, _⟩ => ⟨S2x384, .f32⟩
  | .hbm, ⟨38, _⟩ => ⟨S_, .f32⟩
  | .hbm, ⟨39, _⟩ => ⟨S2x384, .f32⟩
  | .hbm, ⟨40, _⟩ => ⟨S2x384, .f32⟩
  | .hbm, ⟨41, _⟩ => ⟨S2x384, .f32⟩
  | .hbm, ⟨42, _⟩ => ⟨S_, .f32⟩
  | .hbm, ⟨43, _⟩ => ⟨S2x384, .f32⟩
  | .hbm, ⟨44, _⟩ => ⟨S2x384, .f32⟩
  | .hbm, ⟨45, _⟩ => ⟨S_, .f32⟩
  | .hbm, ⟨46, _⟩ => ⟨S2x384, .f32⟩
  | .hbm, ⟨47, _⟩ => ⟨S2x384, .f32⟩
  | .hbm, ⟨48, _⟩ => ⟨S_, .f32⟩
  | .hbm, ⟨49, _⟩ => ⟨S2x384, .f32⟩
  | .hbm, ⟨50, _⟩ => ⟨S2x384, .f32⟩
  | .hbm, ⟨51, _⟩ => ⟨S2x384, .f32⟩
  | .hbm, ⟨52, _⟩ => ⟨S_, .f32⟩
  | .hbm, ⟨53, _⟩ => ⟨S2x384, .f32⟩
  | .hbm, ⟨54, _⟩ => ⟨S2x384, .f32⟩
  | .hbm, ⟨55, _⟩ => ⟨S2x384, .f32⟩
  | .hbm, ⟨56, _⟩ => ⟨S_, .f32⟩
  | .hbm, ⟨57, _⟩ => ⟨S2x384, .f32⟩
  | .hbm, ⟨58, _⟩ => ⟨S2x384, .f32⟩
  | .hbm, ⟨59, _⟩ => ⟨S2x384, .f32⟩
  | .hbm, ⟨60, _⟩ => ⟨S_, .f32⟩
  | .hbm, ⟨61, _⟩ => ⟨S2x384, .f32⟩
  | .hbm, ⟨62, _⟩ => ⟨S2x384, .f32⟩
  | .hbm, ⟨63, _⟩ => ⟨S_, .f32⟩
  | .hbm, ⟨64, _⟩ => ⟨S2x384, .f32⟩
  | .hbm, ⟨65, _⟩ => ⟨S2x384, .f32⟩
  | .hbm, ⟨66, _⟩ => ⟨S2x384, .f32⟩
  | .hbm, ⟨67, _⟩ => ⟨S_, .f32⟩
  | .hbm, ⟨68, _⟩ => ⟨S2x384, .f32⟩
  | .hbm, ⟨69, _⟩ => ⟨S2x384, .f32⟩
  | .hbm, ⟨70, _⟩ => ⟨S2x384, .f32⟩
  | .hbm, ⟨71, _⟩ => ⟨S_, .f32⟩
  | .hbm, ⟨72, _⟩ => ⟨S2x384, .f32⟩
  | .hbm, ⟨73, _⟩ => ⟨S2x384, .f32⟩
  | .hbm, ⟨74, _⟩ => ⟨S2x384, .f32⟩
  | .hbm, ⟨75, _⟩ => ⟨S_, .f32⟩
  | .hbm, ⟨76, _⟩ => ⟨S2x384, .f32⟩
  | .hbm, ⟨77, _⟩ => ⟨S2x384, .f32⟩
  | .hbm, ⟨78, _⟩ => ⟨S_, .f32⟩
  | .hbm, ⟨79, _⟩ => ⟨S2x384, .f32⟩
  | .hbm, ⟨80, _⟩ => ⟨S2x384, .f32⟩
  | .hbm, ⟨81, _⟩ => ⟨S_, .f32⟩
  | .hbm, ⟨82, _⟩ => ⟨S2x384, .f32⟩
  | .hbm, ⟨83, _⟩ => ⟨S2x384, .f32⟩
  | .hbm, ⟨84, _⟩ => ⟨S2x384, .f32⟩
  | .hbm, ⟨85, _⟩ => ⟨S_, .f32⟩
  | .hbm, ⟨86, _⟩ => ⟨S2x384, .f32⟩
  | .hbm, ⟨87, _⟩ => ⟨S2x384, .f32⟩
  | .hbm, ⟨88, _⟩ => ⟨S2x384, .f32⟩
  | .hbm, ⟨89, _⟩ => ⟨S_, .f32⟩
  | .hbm, ⟨90, _⟩ => ⟨S2x384, .f32⟩
  | .hbm, ⟨91, _⟩ => ⟨S2x384, .f32⟩
  | .hbm, ⟨92, _⟩ => ⟨S2x384, .f32⟩
  | .hbm, ⟨93, _⟩ => ⟨S_, .f32⟩
  | .hbm, ⟨94, _⟩ => ⟨S2x384, .f32⟩
  | .hbm, ⟨95, _⟩ => ⟨S2x384, .f32⟩
  | .hbm, ⟨96, _⟩ => ⟨S_, .f32⟩
  | .hbm, ⟨97, _⟩ => ⟨S2x384, .f32⟩
  | .hbm, ⟨98, _⟩ => ⟨S2x384, .f32⟩
  | .hbm, ⟨99, _⟩ => ⟨S2x384, .f32⟩
  | .hbm, ⟨100, _⟩ => ⟨S_, .f32⟩
  | .hbm, ⟨101, _⟩ => ⟨S2x384, .f32⟩
  | .hbm, ⟨102, _⟩ => ⟨S2x384, .f32⟩
  | .hbm, ⟨103, _⟩ => ⟨S2x384, .f32⟩
  | .hbm, ⟨104, _⟩ => ⟨S_, .f32⟩
  | .hbm, ⟨105, _⟩ => ⟨S2x384, .f32⟩
  | .hbm, ⟨106, _⟩ => ⟨S2x384, .f32⟩
  | .hbm, ⟨107, _⟩ => ⟨S2x384, .f32⟩
  | .hbm, ⟨108, _⟩ => ⟨S_, .f32⟩
  | .hbm, ⟨109, _⟩ => ⟨S2x384, .f32⟩
  | .hbm, ⟨110, _⟩ => ⟨S2x384, .f32⟩
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamSmallC.lean ====
abbrev S2x384 : Shape := ⟨2, ![2, 384]⟩
abbrev S2x4x128x128 : Shape := ⟨4, ![2, 4, 128, 128]⟩
abbrev S2x4x128 : Shape := ⟨3, ![2, 4, 128]⟩
abbrev S1024x128 : Shape := ⟨2, ![1024, 128]⟩
abbrev S8x128 : Shape := ⟨2, ![8, 128]⟩

abbrev nBuf : Space → Nat
  | .hbm => 29
  | .vmem => 21
  | .smem => 0
  | _ => 0

abbrev bufTy : (tb : Table) → Fin (tcTables nBuf tb) → BufTy
  | .hbm, ⟨0, _⟩ => ⟨S2x384, .f32⟩
  | .hbm, ⟨1, _⟩ => ⟨S2x4x128x128, .f32⟩
  | .hbm, ⟨2, _⟩ => ⟨S2x4x128, .f32⟩
  | .hbm, ⟨3, _⟩ => ⟨S2x384, .f32⟩
  | .hbm, ⟨4, _⟩ => ⟨S2x4x128x128, .f32⟩
  | .hbm, ⟨5, _⟩ => ⟨S2x4x128, .f32⟩
  | .hbm, ⟨6, _⟩ => ⟨S2x384, .f32⟩
  | .hbm, ⟨7, _⟩ => ⟨S2x4x128x128, .f32⟩
  | .hbm, ⟨8, _⟩ => ⟨S2x4x128, .f32⟩
  | .hbm, ⟨9, _⟩ => ⟨S2x384, .f32⟩
  | .hbm, ⟨10, _⟩ => ⟨S2x4x128x128, .f32⟩
  | .hbm, ⟨11, _⟩ => ⟨S2x4x128, .f32⟩
  | .hbm, ⟨12, _⟩ => ⟨S1024x128, .f32⟩
  | .hbm, ⟨13, _⟩ => ⟨S8x128, .f32⟩
  | .hbm, ⟨14, _⟩ => ⟨S1024x128, .f32⟩
  | .hbm, ⟨15, _⟩ => ⟨S8x128, .f32⟩
  | .hbm, ⟨16, _⟩ => ⟨S1024x128, .f32⟩
  | .hbm, ⟨17, _⟩ => ⟨S8x128, .f32⟩
  | .hbm, ⟨18, _⟩ => ⟨S1024x128, .f32⟩
  | .hbm, ⟨19, _⟩ => ⟨S8x128, .f32⟩
  | .hbm, ⟨20, _⟩ => ⟨S2x384, .f32⟩
  | .hbm, ⟨21, _⟩ => ⟨S1024x128, .f32⟩
  | .hbm, ⟨22, _⟩ => ⟨S8x128, .f32⟩
  | .hbm, ⟨23, _⟩ => ⟨S2x384, .f32⟩
  | .hbm, ⟨24, _⟩ => ⟨S1024x128, .f32⟩
  | .hbm, ⟨25, _⟩ => ⟨S8x128, .f32⟩
  | .hbm, ⟨26, _⟩ => ⟨S2x384, .f32⟩
  | .hbm, ⟨27, _⟩ => ⟨S1024x128, .f32⟩
  | .hbm, ⟨28, _⟩ => ⟨S8x128, .f32⟩
  | .local _ .vmem, ⟨0, _⟩ => ⟨S2x384, .f32⟩
  | .local _ .vmem, ⟨1, _⟩ => ⟨S1024x128, .f32⟩
  | .local _ .vmem, ⟨2, _⟩ => ⟨S8x128, .f32⟩
  | .local _ .vmem, ⟨3, _⟩ => ⟨S2x384, .f32⟩
  | .local _ .vmem, ⟨4, _⟩ => ⟨S1024x128, .f32⟩
  | .local _ .vmem, ⟨5, _⟩ => ⟨S8x128, .f32⟩
  | .local _ .vmem, ⟨6, _⟩ => ⟨S2x384, .f32⟩
  | .local _ .vmem, ⟨7, _⟩ => ⟨S1024x128, .f32⟩
  | .local _ .vmem, ⟨8, _⟩ => ⟨S8x128, .f32⟩
  | .local _ .vmem, ⟨9, _⟩ => ⟨S2x384, .f32⟩
  | .local _ .vmem, ⟨10, _⟩ => ⟨S1024x128, .f32⟩
  | .local _ .vmem, ⟨11, _⟩ => ⟨S8x128, .f32⟩
  | .local _ .vmem, ⟨12, _⟩ => ⟨S2x384, .f32⟩
  | .local _ .vmem, ⟨13, _⟩ => ⟨S1024x128, .f32⟩
  | .local _ .vmem, ⟨14, _⟩ => ⟨S8x128, .f32⟩
  | .local _ .vmem, ⟨15, _⟩ => ⟨S2x384, .f32⟩
  | .local _ .vmem, ⟨16, _⟩ => ⟨S1024x128, .f32⟩
  | .local _ .vmem, ⟨17, _⟩ => ⟨S8x128, .f32⟩
  | .local _ .vmem, ⟨18, _⟩ => ⟨S2x384, .f32⟩
  | .local _ .vmem, ⟨19, _⟩ => ⟨S1024x128, .f32⟩
  | .local _ .vmem, ⟨20, _⟩ => ⟨S8x128, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallCRefIdeal.lean ====
abbrev S2x384 : Shape := ⟨2, ![2, 384]⟩
abbrev S2x4x128x128 : Shape := ⟨4, ![2, 4, 128, 128]⟩
abbrev S2x4x128 : Shape := ⟨3, ![2, 4, 128]⟩
abbrev S_ : Shape := ⟨0, ![]⟩
abbrev S1024x128 : Shape := ⟨2, ![1024, 128]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S2x384, .f32⟩
  | .hbm, ⟨1, _⟩ => ⟨S2x4x128x128, .f32⟩
  | .hbm, ⟨2, _⟩ => ⟨S2x4x128, .f32⟩
  | .hbm, ⟨3, _⟩ => ⟨S2x384, .f32⟩
  | .hbm, ⟨4, _⟩ => ⟨S2x4x128x128, .f32⟩
  | .hbm, ⟨5, _⟩ => ⟨S2x4x128, .f32⟩
  | .hbm, ⟨6, _⟩ => ⟨S2x384, .f32⟩
  | .hbm, ⟨7, _⟩ => ⟨S2x4x128x128, .f32⟩
  | .hbm, ⟨8, _⟩ => ⟨S2x4x128, .f32⟩
  | .hbm, ⟨9, _⟩ => ⟨S2x384, .f32⟩
  | .hbm, ⟨10, _⟩ => ⟨S2x4x128x128, .f32⟩
  | .hbm, ⟨11, _⟩ => ⟨S2x4x128, .f32⟩
  | .hbm, ⟨12, _⟩ => ⟨S_, .f32⟩
  | .hbm, ⟨13, _⟩ => ⟨S2x384, .f32⟩
  | .hbm, ⟨14, _⟩ => ⟨S2x384, .f32⟩
  | .hbm, ⟨15, _⟩ => ⟨S_, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S_, .f32⟩
  | .hbm, ⟨20, _⟩ => ⟨S2x384, .f32⟩
  | .hbm, ⟨21, _⟩ => ⟨S2x384, .f32⟩
  | .hbm, ⟨22, _⟩ => ⟨S2x384, .f32⟩
  | .hbm, ⟨23, _⟩ => ⟨S_, .f32⟩
  | .hbm, ⟨24, _⟩ => ⟨S2x384, .f32⟩
  | .hbm, ⟨25, _⟩ => ⟨S2x384, .f32⟩
  | .hbm, ⟨26, _⟩ => ⟨S2x384, .f32⟩
  | .hbm, ⟨27, _⟩ => ⟨S_, .f32⟩
  | .hbm, ⟨28, _⟩ => ⟨S2x384, .f32⟩
  | .hbm, ⟨29, _⟩ => ⟨S2x384, .f32⟩
  | .hbm, ⟨30, _⟩ => ⟨S_, .f32⟩
  | .hbm, ⟨31, _⟩ => ⟨S2x384, .f32⟩
  | .hbm, ⟨32, _⟩ => ⟨S2x384, .f32⟩
  | .hbm, ⟨33, _⟩ => ⟨S2x384, .f32⟩
  | .hbm, ⟨34, _⟩ => ⟨S_, .f32⟩
  | .hbm, ⟨35, _⟩ => ⟨S2x384, .f32⟩
  | .hbm, ⟨36, _⟩ => ⟨S2x384, .f32⟩
  | .hbm, ⟨37, _⟩ => ⟨S2x384, .f32⟩
  | .hbm, ⟨38, _⟩ => ⟨S_, .f32⟩
  | .hbm, ⟨39, _⟩ => ⟨S2x384, .f32⟩
  | .hbm, ⟨40, _⟩ => ⟨S2x384, .f32⟩
  | .hbm, ⟨41, _⟩ => ⟨S2x384, .f32⟩
  | .hbm, ⟨42, _⟩ => ⟨S_, .f32⟩
  | .hbm, ⟨43, _⟩ => ⟨S2x384, .f32⟩
  | .hbm, ⟨44, _⟩ => ⟨S2x384, .f32⟩
  | .hbm, ⟨45, _⟩ => ⟨S_, .f32⟩
  | .hbm, ⟨46, _⟩ => ⟨S2x4x128x128, .f32⟩
  | .hbm, ⟨47, _⟩ => ⟨S2x4x128x128, .f32⟩
  | .hbm, ⟨48, _⟩ => ⟨S_, .f32⟩
  | .hbm, ⟨49, _⟩ => ⟨S2x4x128x128, .f32⟩
  | .hbm, ⟨50, _⟩ => ⟨S2x4x128x128, .f32⟩
  | .hbm, ⟨51, _⟩ => ⟨S2x4x128x128, .f32⟩
  | .hbm, ⟨52, _⟩ => ⟨S_, .f32⟩
  | .hbm, ⟨53, _⟩ => ⟨S2x4x128x128, .f32⟩
  | .hbm, ⟨54, _⟩ => ⟨S2x4x128x128, .f32⟩
  | .hbm, ⟨55, _⟩ => ⟨S2x4x128x128, .f32⟩
  | .hbm, ⟨56, _⟩ => ⟨S_, .f32⟩
  | .hbm, ⟨57, _⟩ => ⟨S2x4x128x128, .f32⟩
  | .hbm, ⟨58, _⟩ => ⟨S2x4x128x128, .f32⟩
  | .hbm, ⟨59, _⟩ => ⟨S2x4x128x128, .f32⟩
  | .hbm, ⟨60, _⟩ => ⟨S_, .f32⟩
  | .hbm, ⟨61, _⟩ => ⟨S2x4x128x128, .f32⟩
  | .hbm, ⟨62, _⟩ => ⟨S2x4x128x128, .f32⟩
  | .hbm, ⟨63, _⟩ => ⟨S_, .f32⟩
  | .hbm, ⟨64, _⟩ => ⟨S2x4x128x128, .f32⟩
  | .hbm, ⟨65, _⟩ => ⟨S2x4x128x128, .f32⟩
  | .hbm, ⟨66, _⟩ => ⟨S2x4x128x128, .f32⟩
  | .hbm, ⟨67, _⟩ => ⟨S_, .f32⟩
  | .hbm, ⟨68, _⟩ => ⟨S2x4x128x128, .f32⟩
  | .hbm, ⟨69, _⟩ => ⟨S2x4x128x128, .f32⟩
  | .hbm, ⟨70, _⟩ => ⟨S2x4x128x128, .f32⟩
  | .hbm, ⟨71, _⟩ => ⟨S_, .f32⟩
  | .hbm, ⟨72, _⟩ => ⟨S2x4x128x128, .f32⟩
  | .hbm, ⟨73, _⟩ => ⟨S2x4x128x128, .f32⟩
  | .hbm, ⟨74, _⟩ => ⟨S2x4x128x128, .f32⟩
  | .hbm, ⟨75, _⟩ => ⟨S_, .f32⟩
  | .hbm, ⟨76, _⟩ => ⟨S2x4x128x128, .f32⟩
  | .hbm, ⟨77, _⟩ => ⟨S2x4x128x128, .f32⟩
  | .hbm, ⟨78, _⟩ => ⟨S_, .f32⟩
  | .hbm, ⟨79, _⟩ => ⟨S2x4x128, .f32⟩
  | .hbm, ⟨80, _⟩ => ⟨S2x4x128, .f32⟩
  | .hbm, ⟨81, _⟩ => ⟨S_, .f32⟩
  | .hbm, ⟨82, _⟩ => ⟨S2x4x128, .f32⟩
  | .hbm, ⟨83, _⟩ => ⟨S2x4x128, .f32⟩
  | .hbm, ⟨84, _⟩ => ⟨S2x4x128, .f32⟩
  | .hbm, ⟨85, _⟩ => ⟨S_, .f32⟩
  | .hbm, ⟨86, _⟩ => ⟨S2x4x128, .f32⟩
  | .hbm, ⟨87, _⟩ => ⟨S2x4x128, .f32⟩
  | .hbm, ⟨88, _⟩ => ⟨S2x4x128, .f32⟩
  | .hbm, ⟨89, _⟩ => ⟨S_, .f32⟩
  | .hbm, ⟨90, _⟩ => ⟨S2x4x128, .f32⟩
  | .hbm, ⟨91, _⟩ => ⟨S2x4x128, .f32⟩
  | .hbm, ⟨92, _⟩ => ⟨S2x4x128, .f32⟩
  | .hbm, ⟨93, _⟩ => ⟨S_, .f32⟩
  | .hbm, ⟨94, _⟩ => ⟨S2x4x128, .f32⟩
  | .hbm, ⟨95, _⟩ => ⟨S2x4x128, .f32⟩
  | .hbm, ⟨96, _⟩ => ⟨S_, .f32⟩
  | .hbm, ⟨97, _⟩ => ⟨S2x4x128, .f32⟩
  | .hbm, ⟨98, _⟩ => ⟨S2x4x128, .f32⟩
  | .hbm, ⟨99, _⟩ => ⟨S2x4x128, .f32⟩
  | .hbm, ⟨100, _⟩ => ⟨S_, .f32⟩
  | .hbm, ⟨101, _⟩ => ⟨S2x4x128, .f32⟩
  | .hbm, ⟨102, _⟩ => ⟨S2x4x128, .f32⟩
  | .hbm, ⟨103, _⟩ => ⟨S2x4x128, .f32⟩
  | .hbm, ⟨104, _⟩ => ⟨S_, .f32⟩
  | .hbm, ⟨105, _⟩ => ⟨S2x4x128, .f32⟩
  | .hbm, ⟨106, _⟩ => ⟨S2x4x128, .f32⟩
  | .hbm, ⟨107, _⟩ => ⟨S2x4x128, .f32⟩
  | .hbm, ⟨108, _⟩ => ⟨S_, .f32⟩
  | .hbm, ⟨109, _⟩ => ⟨S2x4x128, .f32⟩
  | .hbm, ⟨110, _⟩ => ⟨S2x4x128, .f32⟩
  | .hbm, ⟨111, _⟩ => ⟨S1024x128, .f32⟩
  | .hbm, ⟨112, _⟩ => ⟨S8x128, .f32⟩
  | .hbm, ⟨113, _⟩ => ⟨S1024x128, .f32⟩
  | .hbm, ⟨114, _⟩ => ⟨S8x128, .f32⟩
  | .hbm, ⟨115, _⟩ => ⟨S1024x128, .f32⟩
  | .hbm, ⟨116, _⟩ => ⟨S8x128, .f32⟩
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩

abbrev nD : Nat := 1
abbrev τ : Topo := Topo.v7x

variable {F : FTy → Type} [FloatOps F]
-- ==== AdamSmallD.lean ====
abbrev S2x4x64x64 : Shape := ⟨4, ![2, 4, 64, 64]⟩
abbrev S2x256 : Shape := ⟨2, ![2, 256]⟩
abbrev S2x1024 : Shape := ⟨2, ![2, 1024]⟩
abbrev S512x64 : Shape := ⟨2, ![512, 64]⟩

abbrev nBuf : Space → Nat
  | .hbm => 25
  | .vmem => 21
  | .smem => 0
  | _ => 0

abbrev bufTy : (tb : Table) → Fin (tcTables nBuf tb) → BufTy
  | .hbm, ⟨0, _⟩ => ⟨S2x4x64x64, .f32⟩
  | .hbm, ⟨1, _⟩ => ⟨S2x256, .f32⟩
  | .hbm, ⟨2, _⟩ => ⟨S2x1024, .f32⟩
  | .hbm, ⟨3, _⟩ => ⟨S2x4x64x64, .f32⟩
  | .hbm, ⟨4, _⟩ => ⟨S2x256, .f32⟩
  | .hbm, ⟨5, _⟩ => ⟨S2x1024, .f32⟩
  | .hbm, ⟨6, _⟩ => ⟨S2x4x64x64, .f32⟩
  | .hbm, ⟨7, _⟩ => ⟨S2x256, .f32⟩
  | .hbm, ⟨8, _⟩ => ⟨S2x1024, .f32⟩
  | .hbm, ⟨9, _⟩ => ⟨S2x4x64x64, .f32⟩
  | .hbm, ⟨10, _⟩ => ⟨S2x256, .f32⟩
  | .hbm, ⟨11, _⟩ => ⟨S2x1024, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S512x64, .f32⟩
  | .hbm, ⟨16, _⟩ => ⟨S512x64, .f32⟩
  | .hbm, ⟨17, _⟩ => ⟨S2x256, .f32⟩
  | .hbm, ⟨18, _⟩ => ⟨S2x1024, .f32⟩
  | .hbm, ⟨19, _⟩ => ⟨S512x64, .f32⟩
  | .hbm, ⟨20, _⟩ => ⟨S2x256, .f32⟩
  | .hbm, ⟨21, _⟩ => ⟨S2x1024, .f32⟩
  | .hbm, ⟨22, _⟩ => ⟨S512x64, .f32⟩
  | .hbm, ⟨23, _⟩ => ⟨S2x256, .f32⟩
  | .hbm, ⟨24, _⟩ => ⟨S2x1024, .f32⟩
  | .local _ .vmem, ⟨0, _⟩ => ⟨S512x64, .f32⟩
  | .local _ .vmem, ⟨1, _⟩ => ⟨S2x256, .f32⟩
  | .local _ .vmem, ⟨2, _⟩ => ⟨S2x1024, .f32⟩
  | .local _ .vmem, ⟨3, _⟩ => ⟨S512x64, .f32⟩
  | .local _ .vmem, ⟨4, _⟩ => ⟨S2x256, .f32⟩
  | .local _ .vmem, ⟨5, _⟩ => ⟨S2x1024, .f32⟩
  | .local _ .vmem, ⟨6, _⟩ => ⟨S512x64, .f32⟩
  | .local _ .vmem, ⟨7, _⟩ => ⟨S2x256, .f32⟩
  | .local _ .vmem, ⟨8, _⟩ => ⟨S2x1024, .f32⟩
  | .local _ .vmem, ⟨9, _⟩ => ⟨S512x64, .f32⟩
  | .local _ .vmem, ⟨10, _⟩ => ⟨S2x256, .f32⟩
  | .local _ .vmem, ⟨11, _⟩ => ⟨S2x1024, .f32⟩
  | .local _ .vmem, ⟨12, _⟩ => ⟨S512x64, .f32⟩
  | .local _ .vmem, ⟨13, _⟩ => ⟨S2x256, .f32⟩
  | .local _ .vmem, ⟨14, _⟩ => ⟨S2x1024, .f32⟩
  | .local _ .vmem, ⟨15, _⟩ => ⟨S512x64, .f32⟩
  | .local _ .vmem, ⟨16, _⟩ => ⟨S2x256, .f32⟩
  | .local _ .vmem, ⟨17, _⟩ => ⟨S2x1024, .f32⟩
  | .local _ .vmem, ⟨18, _⟩ => ⟨S512x64, .f32⟩
  | .local _ .vmem, ⟨19, _⟩ => ⟨S2x256, .f32⟩
  | .local _ .vmem, ⟨20, _⟩ => ⟨S2x1024, .f32⟩
  | _, _ => ⟨S2x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev main_v4_7 : Ref sig .tc := ⟨.hbm, 23, rfl⟩
abbrev main_v4_8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallDRefIdeal.lean ====
abbrev S2x4x64x64 : Shape := ⟨4, ![2, 4, 64, 64]⟩
abbrev S2x256 : Shape := ⟨2, ![2, 256]⟩
abbrev S2x1024 : Shape := ⟨2, ![2, 1024]⟩
abbrev S_ : Shape := ⟨0, ![]⟩
abbrev S512x64 : Shape := ⟨2, ![512, 64]⟩

abbrev nBuf : Space → Nat
  | .hbm => 114
  | .vmem => 0
  | .smem => 0
  | _ => 0

abbrev bufTy : (tb : Table) → Fin (tcTables nBuf tb) → BufTy
  | .hbm, ⟨0, _⟩ => ⟨S2x4x64x64, .f32⟩
  | .hbm, ⟨1, _⟩ => ⟨S2x256, .f32⟩
  | .hbm, ⟨2, _⟩ => ⟨S2x1024, .f32⟩
  | .hbm, ⟨3, _⟩ => ⟨S2x4x64x64, .f32⟩
  | .hbm, ⟨4, _⟩ => ⟨S2x256, .f32⟩
  | .hbm, ⟨5, _⟩ => ⟨S2x1024, .f32⟩
  | .hbm, ⟨6, _⟩ => ⟨S2x4x64x64, .f32⟩
  | .hbm, ⟨7, _⟩ => ⟨S2x256, .f32⟩
  | .hbm, ⟨8, _⟩ => ⟨S2x1024, .f32⟩
  | .hbm, ⟨9, _⟩ => ⟨S2x4x64x64, .f32⟩
  | .hbm, ⟨10, _⟩ => ⟨S2x256, .f32⟩
  | .hbm, ⟨11, _⟩ => ⟨S2x1024, .f32⟩
  | .hbm, ⟨12, _⟩ => ⟨S_, .f32⟩
  | .hbm, ⟨13, _⟩ => ⟨S2x4x64x64, .f32⟩
  | .hbm, ⟨14, _⟩ => ⟨S2x4x64x64, .f32⟩
  | .hbm, ⟨15, _⟩ => ⟨S_, .f32⟩
  | .hbm, ⟨16, _⟩ => ⟨S2x4x64x64, .f32⟩
  | .hbm, ⟨17, _⟩ => ⟨S2x4x64x64, .f32⟩
  | .hbm, ⟨18, _⟩ => ⟨S2x4x64x64, .f32⟩
  | .hbm, ⟨19, _⟩ => ⟨S_, .f32⟩
  | .hbm, ⟨20, _⟩ => ⟨S2x4x64x64, .f32⟩
  | .hbm, ⟨21, _⟩ => ⟨S2x4x64x64, .f32⟩
  | .hbm, ⟨22, _⟩ => ⟨S2x4x64x64, .f32⟩
  | .hbm, ⟨23, _⟩ => ⟨S_, .f32⟩
  | .hbm, ⟨24, _⟩ => ⟨S2x4x64x64, .f32⟩
  | .hbm, ⟨25, _⟩ => ⟨S2x4x64x64, .f32⟩
  | .hbm, ⟨26, _⟩ => ⟨S2x4x64x64, .f32⟩
  | .hbm, ⟨27, _⟩ => ⟨S_, .f32⟩
  | .hbm, ⟨28, _⟩ => ⟨S2x4x64x64, .f32⟩
  | .hbm, ⟨29, _⟩ => ⟨S2x4x64x64, .f32⟩
  | .hbm, ⟨30, _⟩ => ⟨S_, .f32⟩
  | .hbm, ⟨31, _⟩ => ⟨S2x4x64x64, .f32⟩
  | .hbm, ⟨32, _⟩ => ⟨S2x4x64x64, .f32⟩
  | .hbm, ⟨33, _⟩ => ⟨S2x4x64x64, .f32⟩
  | .hbm, ⟨34, _⟩ => ⟨S_, .f32⟩
  | .hbm, ⟨35, _⟩ => ⟨S2x4x64x64, .f32⟩
  | .hbm, ⟨36, _⟩ => ⟨S2x4x64x64, .f32⟩
  | .hbm, ⟨37, _⟩ => ⟨S2x4x64x64, .f32⟩
  | .hbm, ⟨38, _⟩ => ⟨S_, .f32⟩
  | .hbm, ⟨39, _⟩ => ⟨S2x4x64x64, .f32⟩
  | .hbm, ⟨40, _⟩ => ⟨S2x4x64x64, .f32⟩
  | .hbm, ⟨41, _⟩ => ⟨S2x4x64x64, .f32⟩
  | .hbm, ⟨42, _⟩ => ⟨S_, .f32⟩
  | .hbm, ⟨43, _⟩ => ⟨S2x4x64x64, .f32⟩
  | .hbm, ⟨44, _⟩ => ⟨S2x4x64x64, .f32⟩
  | .hbm, ⟨45, _⟩ => ⟨S_, .f32⟩
  | .hbm, ⟨46, _⟩ => ⟨S2x256, .f32⟩
  | .hbm, ⟨47, _⟩ => ⟨S2x256, .f32⟩
  | .hbm, ⟨48, _⟩ => ⟨S_, .f32⟩
  | .hbm, ⟨49, _⟩ => ⟨S2x256, .f32⟩
  | .hbm, ⟨50, _⟩ => ⟨S2x256, .f32⟩
  | .hbm, ⟨51, _⟩ => ⟨S2x256, .f32⟩
  | .hbm, ⟨52, _⟩ => ⟨S_, .f32⟩
  | .hbm, ⟨53, _⟩ => ⟨S2x256, .f32⟩
  | .hbm, ⟨54, _⟩ => ⟨S2x256, .f32⟩
  | .hbm, ⟨55, _⟩ => ⟨S2x256, .f32⟩
  | .hbm, ⟨56, _⟩ => ⟨S_, .f32⟩
  | .hbm, ⟨57, _⟩ => ⟨S2x256, .f32⟩
  | .hbm, ⟨58, _⟩ => ⟨S2x256, .f32⟩
  | .hbm, ⟨59, _⟩ => ⟨S2x256, .f32⟩
  | .hbm, ⟨60, _⟩ => ⟨S_, .f32⟩
  | .hbm, ⟨61, _⟩ => ⟨S2x256, .f32⟩
  | .hbm, ⟨62, _⟩ => ⟨S2x256, .f32⟩
  | .hbm, ⟨63, _⟩ => ⟨S_, .f32⟩
  | .hbm, ⟨64, _⟩ => ⟨S2x256, .f32⟩
  | .hbm, ⟨65, _⟩ => ⟨S2x256, .f32⟩
  | .hbm, ⟨66, _⟩ => ⟨S2x256, .f32⟩
  | .hbm, ⟨67, _⟩ => ⟨S_, .f32⟩
  | .hbm, ⟨68, _⟩ => ⟨S2x256, .f32⟩
  | .hbm, ⟨69, _⟩ => ⟨S2x256, .f32⟩
  | .hbm, ⟨70, _⟩ => ⟨S2x256, .f32⟩
  | .hbm, ⟨71, _⟩ => ⟨S_, .f32⟩
  | .hbm, ⟨72, _⟩ => ⟨S2x256, .f32⟩
  | .hbm, ⟨73, _⟩ => ⟨S2x256, .f32⟩
  | .hbm, ⟨74, _⟩ => ⟨S2x256, .f32⟩
  | .hbm, ⟨75, _⟩ => ⟨S_, .f32⟩
  | .hbm, ⟨76, _⟩ => ⟨S2x256, .f32⟩
  | .hbm, ⟨77, _⟩ => ⟨S2x256, .f32⟩
  | .hbm, ⟨78, _⟩ => ⟨S_, .f32⟩
  | .hbm, ⟨79, _⟩ => ⟨S2x1024, .f32⟩
  | .hbm, ⟨80, _⟩ => ⟨S2x1024, .f32⟩
  | .hbm, ⟨81, _⟩ => ⟨S_, .f32⟩
  | .hbm, ⟨82, _⟩ => ⟨S2x1024, .f32⟩
  | .hbm, ⟨83, _⟩ => ⟨S2x1024, .f32⟩
  | .hbm, ⟨84, _⟩ => ⟨S2x1024, .f32⟩
  | .hbm, ⟨85, _⟩ => ⟨S_, .f32⟩
  | .hbm, ⟨86, _⟩ => ⟨S2x1024, .f32⟩
  | .hbm, ⟨87, _⟩ => ⟨S2x1024, .f32⟩
  | .hbm, ⟨88, _⟩ => ⟨S2x1024, .f32⟩
  | .hbm, ⟨89, _⟩ => ⟨S_, .f32⟩
  | .hbm, ⟨90, _⟩ => ⟨S2x1024, .f32⟩
  | .hbm, ⟨91, _⟩ => ⟨S2x1024, .f32⟩
  | .hbm, ⟨92, _⟩ => ⟨S2x1024, .f32⟩
  | .hbm, ⟨93, _⟩ => ⟨S_, .f32⟩
  | .hbm, ⟨94, _⟩ => ⟨S2x1024, .f32⟩
  | .hbm, ⟨95, _⟩ => ⟨S2x1024, .f32⟩
  | .hbm, ⟨96, _⟩ => ⟨S_, .f32⟩
  | .hbm, ⟨97, _⟩ => ⟨S2x1024, .f32⟩
  | .hbm, ⟨98, _⟩ => ⟨S2x1024, .f32⟩
  | .hbm, ⟨99, _⟩ => ⟨S2x1024, .f32⟩
  | .hbm, ⟨100, _⟩ => ⟨S_, .f32⟩
  | .hbm, ⟨101, _⟩ => ⟨S2x1024, .f32⟩
  | .hbm, ⟨102, _⟩ => ⟨S2x1024, .f32⟩
  | .hbm, ⟨103, _⟩ => ⟨S2x1024, .f32⟩
  | .hbm, ⟨104, _⟩ => ⟨S_, .f32⟩
  | .hbm, ⟨105, _⟩ => ⟨S2x1024, .f32⟩
  | .hbm, ⟨106, _⟩ => ⟨S2x1024, .f32⟩
  | .hbm, ⟨107, _⟩ => ⟨S2x1024, .f32⟩
  | .hbm, ⟨108, _⟩ => ⟨S_, .f32⟩
  | .hbm, ⟨109, _⟩ => ⟨S2x1024, .f32⟩
  | .hbm, ⟨110, _⟩ => ⟨S2x1024, .f32⟩
  | .hbm, ⟨111, _⟩ => ⟨S512x64, .f32⟩
  | .hbm, ⟨112, _⟩ => ⟨S512x64, .f32⟩
  | .hbm, ⟨113, _⟩ => ⟨S512x64, .f32⟩
  | _, _ => ⟨S2x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩

abbrev nD : Nat := 1
abbrev τ : Topo := Topo.v7x

variable {F : FTy → Type} [FloatOps F]
-- ==== AdamSmallE.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallERefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== MixerFwd.lean ====
abbrev S4096x1792 : Shape := ⟨2, ![4096, 1792]⟩
abbrev S2x32x384 : Shape := ⟨3, ![2, 32, 384]⟩
abbrev S2x1x384 : Shape := ⟨3, ![2, 1, 384]⟩
abbrev S2x384x384 : Shape := ⟨3, ![2, 384, 384]⟩
abbrev S2x512x128 : Shape := ⟨3, ![2, 512, 128]⟩
abbrev S2x128x384 : Shape := ⟨3, ![2, 128, 384]⟩
abbrev S2x256x256 : Shape := ⟨3, ![2, 256, 256]⟩
abbrev S2x1x256 : Shape := ⟨3, ![2, 1, 256]⟩
abbrev S4096x1024 : Shape := ⟨2, ![4096, 1024]⟩
abbrev S4096x384 : Shape := ⟨2, ![4096, 384]⟩
abbrev S512x1792 : Shape := ⟨2, ![512, 1792]⟩
abbrev S32x1792 : Shape := ⟨2, ![32, 1792]⟩
abbrev S1x32x384 : Shape := ⟨3, ![1, 32, 384]⟩
abbrev S1x1x384 : Shape := ⟨3, ![1, 1, 384]⟩
abbrev S1x384x384 : Shape := ⟨3, ![1, 384, 384]⟩
abbrev S1x512x128 : Shape := ⟨3, ![1, 512, 128]⟩
abbrev S1x128x384 : Shape := ⟨3, ![1, 128, 384]⟩
abbrev S1x256x256 : Shape := ⟨3, ![1, 256, 256]⟩
abbrev S1x1x256 : Shape := ⟨3, ![1, 1, 256]⟩
abbrev S512x1024 : Shape := ⟨2, ![512, 1024]⟩
abbrev S512x384 : Shape := ⟨2, ![512, 384]⟩
abbrev S8x544x384 : Shape := ⟨3, ![8, 544, 384]⟩
abbrev S544x256 : Shape := ⟨2, ![544, 256]⟩
abbrev S32x384 : Shape := ⟨2, ![32, 384]⟩
abbrev S1x512x384 : Shape := ⟨3, ![1, 512, 384]⟩
abbrev S1x536x384 : Shape := ⟨3, ![1, 536, 384]⟩
abbrev S536x384 : Shape := ⟨2, ![536, 384]⟩
abbrev S1x384 : Shape := ⟨2, ![1, 384]⟩
abbrev S512 : Shape := ⟨1, ![512]⟩
abbrev S512x1 : Shape := ⟨2, ![512, 1]⟩
abbrev S384x384 : Shape := ⟨2, ![384, 384]⟩
abbrev S512x768 : Shape := ⟨2, ![512, 768]⟩
abbrev S512x128 : Shape := ⟨2, ![512, 128]⟩
abbrev S128x384 : Shape := ⟨2, ![128, 384]⟩
abbrev S32x256 : Shape := ⟨2, ![32, 256]⟩
abbrev S512x256 : Shape := ⟨2, ![512, 256]⟩
abbrev S536x256 : Shape := ⟨2, ![536, 256]⟩
abbrev S528x256 : Shape := ⟨2, ![528, 256]⟩
abbrev S520x256 : Shape := ⟨2, ![520, 256]⟩
abbrev S256x256 : Shape := ⟨2, ![256, 256]⟩
abbrev S1x256 : Shape := ⟨2, ![1, 256]⟩

abbrev nBuf : Space → Nat
  | .hbm => 14
  | .vmem => 24
  | .smem => 0
  | _ => 0

abbrev bufTy : (tb : Table) → Fin (tcTables nBuf tb) → BufTy
  | .hbm, ⟨0, _⟩ => ⟨S4096x1792, .bf16⟩
  | .hbm, ⟨1, _⟩ => ⟨S2x32x384, .f32⟩
  | .hbm, ⟨2, _⟩ => ⟨S2x1x384, .f32⟩
  | .hbm, ⟨3, _⟩ => ⟨S2x1x384, .f32⟩
  | .hbm, ⟨4, _⟩ => ⟨S2x1x384, .f32⟩
  | .hbm, ⟨5, _⟩ => ⟨S2x384x384, .bf16⟩
  | .hbm, ⟨6, _⟩ => ⟨S2x1x384, .f32⟩
  | .hbm, ⟨7, _⟩ => ⟨S2x1x384, .f32⟩
  | .hbm, ⟨8, _⟩ => ⟨S2x512x128, .bf16⟩
  | .hbm, ⟨9, _⟩ => ⟨S2x128x384, .f32⟩
  | .hbm, ⟨10, _⟩ => ⟨S2x256x256, .bf16⟩
  | .hbm, ⟨11, _⟩ => ⟨S2x1x256, .f32⟩
  | .hbm, ⟨12, _⟩ => ⟨S4096x1024, .bf16⟩
  | .hbm, ⟨13, _⟩ => ⟨S4096x384, .f32⟩
  | .local _ .vmem, ⟨0, _⟩ => ⟨S512x1792, .bf16⟩
  | .local _ .vmem, ⟨1, _⟩ => ⟨S512x1792, .bf16⟩
  | .local _ .vmem, ⟨2, _⟩ => ⟨S32x1792, .bf16⟩
  | .local _ .vmem, ⟨3, _⟩ => ⟨S32x1792, .bf16⟩
  | .local _ .vmem, ⟨4, _⟩ => ⟨S1x32x384, .f32⟩
  | .local _ .vmem, ⟨5, _⟩ => ⟨S1x1x384, .f32⟩
  | .local _ .vmem, ⟨6, _⟩ => ⟨S1x1x384, .f32⟩
  | .local _ .vmem, ⟨7, _⟩ => ⟨S1x1x384, .f32⟩
  | .local _ .vmem, ⟨8, _⟩ => ⟨S1x384x384, .bf16⟩
  | .local _ .vmem, ⟨9, _⟩ => ⟨S1x1x384, .f32⟩
  | .local _ .vmem, ⟨10, _⟩ => ⟨S1x1x384, .f32⟩
  | .local _ .vmem, ⟨11, _⟩ => ⟨S1x512x128, .bf16⟩
  | .local _ .vmem, ⟨12, _⟩ => ⟨S1x128x384, .f32⟩
  | .local _ .vmem, ⟨13, _⟩ => ⟨S1x256x256, .bf16⟩
  | .local _ .vmem, ⟨14, _⟩ => ⟨S1x1x256, .f32⟩
  | .local _ .vmem, ⟨15, _⟩ => ⟨S512x1024, .bf16⟩
  | .local _ .vmem, ⟨16, _⟩ => ⟨S512x1024, .bf16⟩
  | .local _ .vmem, ⟨17, _⟩ => ⟨S512x384, .f32⟩
  | .local _ .vmem, ⟨18, _⟩ => ⟨S512x384, .f32⟩
  | .local _ .vmem, ⟨19, _⟩ => ⟨S8x544x384, .f32⟩
  | .local _ .vmem, ⟨20, _⟩ => ⟨S544x256, .f32⟩
  | .local _ .vmem, ⟨21, _⟩ => ⟨S544x256, .f32⟩
  | .local _ .vmem, ⟨22, _⟩ => ⟨S544x256, .f32⟩
  | .local _ .vmem, ⟨23, _⟩ => ⟨S544x256, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x32x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixerFwdRefIdeal.lean ====
abbrev S4096x1792 : Shape := ⟨2, ![4096, 1792]⟩
abbrev S2x32x384 : Shape := ⟨3, ![2, 32, 384]⟩
abbrev S2x1x384 : Shape := ⟨3, ![2, 1, 384]⟩
abbrev S2x384x384 : Shape := ⟨3, ![2, 384, 384]⟩
abbrev S2x512x128 : Shape := ⟨3, ![2, 512, 128]⟩
abbrev S2x128x384 : Shape := ⟨3, ![2, 128, 384]⟩
abbrev S2x256x256 : Shape := ⟨3, ![2, 256, 256]⟩
abbrev S2x1x256 : Shape := ⟨3, ![2, 1, 256]⟩
abbrev S4096x768 : Shape := ⟨2, ![4096, 768]⟩
abbrev S2x2048x768 : Shape := ⟨3, ![2, 2048, 768]⟩
abbrev S1x31x384 : Shape := ⟨3, ![1, 31, 384]⟩
abbrev S31x384 : Shape := ⟨2, ![31, 384]⟩
abbrev S1x1x384 : Shape := ⟨3, ![1, 1, 384]⟩
abbrev S384 : Shape := ⟨1, ![384]⟩
abbrev S2x2048x384 : Shape := ⟨3, ![2, 2048, 384]⟩
abbrev S_ : Shape := ⟨0, ![]⟩
abbrev S2x2078x384 : Shape := ⟨3, ![2, 2078, 384]⟩
abbrev S1x384 : Shape := ⟨2, ![1, 384]⟩
abbrev S4096x384 : Shape := ⟨2, ![4096, 384]⟩

abbrev nBuf : Space → Nat
  | .hbm => 256
  | .vmem => 0
  | .smem => 0
  | _ => 0

abbrev hbmTy0_0 (i : Nat) : BufTy := match i % 128 with
  | 0 => ⟨S4096x1792, .bf16⟩
  | 1 => ⟨S2x32x384, .f32⟩
  | 2 => ⟨S2x1x384, .f32⟩
  | 3 => ⟨S2x1x384, .f32⟩
  | 4 => ⟨S2x1x384, .f32⟩
  | 5 => ⟨S2x384x384, .bf16⟩
  | 6 => ⟨S2x1x384, .f32⟩
  | 7 => ⟨S2x1x384, .f32⟩
  | 8 => ⟨S2x512x128, .bf16⟩
  | 9 => ⟨S2x128x384, .f32⟩
  | 10 => ⟨S2x256x256, .bf16⟩
  | 11 => ⟨S2x1x256, .f32⟩
  | 12 => ⟨S4096x768, .bf16⟩
  | 13 => ⟨S4096x768, .f32⟩
  | 14 => ⟨S2x2048x768, .f32⟩
  | 15 => ⟨S1x31x384, .f32⟩
  | 16 => ⟨S31x384, .f32⟩
  | 17 => ⟨S1x1x384, .f32⟩
  | 18 => ⟨S384, .f32⟩
  | 19 => ⟨S2x2048x384, .f32⟩
  | 20 => ⟨S2x2048x384, .f32⟩
  | 21 => ⟨S2x2048x384, .f32⟩
  | 22 => ⟨S2x2048x384, .f32⟩
  | 23 => ⟨S_, .f32⟩
  | 24 => ⟨S2x2048x384, .f32⟩
  | 25 => ⟨S2x2048x384, .f32⟩
  | 26 => ⟨S_, .f32⟩
  | 27 => ⟨S2x2048x384, .f32⟩
  | 28 => ⟨S2x2048x384, .f32⟩
  | 29 => ⟨S2x2048x384, .f32⟩
  | 30 => ⟨S_, .i32⟩
  | 31 => ⟨S_, .f32⟩
  | 32 => ⟨S2x2078x384, .f32⟩
  | 33 => ⟨S1x384, .f32⟩
  | 34 => ⟨S384, .f32⟩
  | 35 => ⟨S2x2048x384, .f32⟩
  | 36 => ⟨S1x1x384, .f32⟩
  | 37 => ⟨S2x2048x384, .f32⟩
  | 38 => ⟨S2x2048x384, .f32⟩
  | 39 => ⟨S_, .f32⟩
  | 40 => ⟨S2x2048x384, .f32⟩
  | 41 => ⟨S2x2048x384, .f32⟩
  | 42 => ⟨S1x384, .f32⟩
  | 43 => ⟨S384, .f32⟩
  | 44 => ⟨S2x2048x384, .f32⟩
  | 45 => ⟨S1x1x384, .f32⟩
  | 46 => ⟨S2x2048x384, .f32⟩
  | 47 => ⟨S2x2048x384, .f32⟩
  | 48 => ⟨S2x2048x384, .f32⟩
  | 49 => ⟨S1x384, .f32⟩
  | 50 => ⟨S384, .f32⟩
  | 51 => ⟨S2x2048x384, .f32⟩
  | 52 => ⟨S1x1x384, .f32⟩
  | 53 => ⟨S2x2048x384, .f32⟩
  | 54 => ⟨S2x2048x384, .f32⟩
  | 55 => ⟨S2x2048x384, .f32⟩
  | 56 => ⟨S1x384, .f32⟩
  | 57 => ⟨S384, .f32⟩
  | 58 => ⟨S2x2048x384, .f32⟩
  | 59 => ⟨S1x1x384, .f32⟩
  | 60 => ⟨S2x2048x384, .f32⟩
  | 61 => ⟨S2x2048x384, .f32⟩
  | 62 => ⟨S2x2048x384, .f32⟩
  | 63 => ⟨S1x384, .f32⟩
  | 64 => ⟨S384, .f32⟩
  | 65 => ⟨S2x2048x384, .f32⟩
  | 66 => ⟨S1x1x384, .f32⟩
  | 67 => ⟨S2x2048x384, .f32⟩
  | 68 => ⟨S2x2048x384, .f32⟩
  | 69 => ⟨S2x2048x384, .f32⟩
  | 70 => ⟨S1x384, .f32⟩
  | 71 => ⟨S384, .f32⟩
  | 72 => ⟨S2x2048x384, .f32⟩
  | 73 => ⟨S1x1x384, .f32⟩
  | 74 => ⟨S2x2048x384, .f32⟩
  | 75 => ⟨S2x2048x384, .f32⟩
  | 76 => ⟨S2x2048x384, .f32⟩
  | 77 => ⟨S1x384, .f32⟩
  | 78 => ⟨S384, .f32⟩
  | 79 => ⟨S2x2048x384, .f32⟩
  | 80 => ⟨S1x1x384, .f32⟩
  | 81 => ⟨S2x2048x384, .f32⟩
  | 82 => ⟨S2x2048x384, .f32⟩
  | 83 => ⟨S2x2048x384, .f32⟩
  | 84 => ⟨S1x384, .f32⟩
  | 85 => ⟨S384, .f32⟩
  | 86 => ⟨S2x2048x384, .f32⟩
  | 87 => ⟨S1x1x384, .f32⟩
  | 88 => ⟨S2x2048x384, .f32⟩
  | 89 => ⟨S2x2048x384, .f32⟩
  | 90 => ⟨S2x2048x384, .f32⟩
  | 91 => ⟨S1x384, .f32⟩
  | 92 => ⟨S384, .f32⟩
  | 93 => ⟨S2x2048x384, .f32⟩
  | 94 => ⟨S1x1x384, .f32⟩
  | 95 => ⟨S2x2048x384, .f32⟩
  | 96 => ⟨S2x2048x384, .f32⟩
  | 97 => ⟨S2x2048x384, .f32⟩
  | 98 => ⟨S1x384, .f32⟩
  | 99 => ⟨S384, .f32⟩
  | 100 => ⟨S2x2048x384, .f32⟩
  | 101 => ⟨S1x1x384, .f32⟩
  | 102 => ⟨S2x2048x384, .f32⟩
  | 103 => ⟨S2x2048x384, .f32⟩
  | 104 => ⟨S2x2048x384, .f32⟩
  | 105 => ⟨S1x384, .f32⟩
  | 106 => ⟨S384, .f32⟩
  | 107 => ⟨S2x2048x384, .f32⟩
  | 108 => ⟨S1x1x384, .f32⟩
  | 109 => ⟨S2x2048x384, .f32⟩
  | 110 => ⟨S2x2048x384, .f32⟩
  | 111 => ⟨S2x2048x384, .f32⟩
  | 112 => ⟨S1x384, .f32⟩
  | 113 => ⟨S384, .f32⟩
  | 114 => ⟨S2x2048x384, .f32⟩
  | 115 => ⟨S1x1x384, .f32⟩
  | 116 => ⟨S2x2048x384, .f32⟩
  | 117 => ⟨S2x2048x384, .f32⟩
  | 118 => ⟨S2x2048x384, .f32⟩
  | 119 => ⟨S1x384, .f32⟩
  | 120 => ⟨S384, .f32⟩
  | 121 => ⟨S2x2048x384, .f32⟩
  | 122 => ⟨S1x1x384, .f32⟩
  | 123 => ⟨S2x2048x384, .f32⟩
  | 124 => ⟨S2x2048x384, .f32⟩
  | 125 => ⟨S2x2048x384, .f32⟩
  | 126 => ⟨S1x384, .f32⟩
  | 127 => ⟨S384, .f32⟩
  | _ => ⟨S4096x1792, .bf16⟩

abbrev hbmTy0_1 (i : Nat) : BufTy := match i % 128 with
  | 0 => ⟨S2x2048x384, .f32⟩
  | 1 => ⟨S1x1x384, .f32⟩
  | 2 => ⟨S2x2048x384, .f32⟩
  | 3 => ⟨S2x2048x384, .f32⟩
  | 4 => ⟨S2x2048x384, .f32⟩
  | 5 => ⟨S1x384, .f32⟩
  | 6 => ⟨S384, .f32⟩
  | 7 => ⟨S2x2048x384, .f32⟩
  | 8 => ⟨S1x1x384, .f32⟩
  | 9 => ⟨S2x2048x384, .f32⟩
  | 10 => ⟨S2x2048x384, .f32⟩
  | 11 => ⟨S2x2048x384, .f32⟩
  | 12 => ⟨S1x384, .f32⟩
  | 13 => ⟨S384, .f32⟩
  | 14 => ⟨S2x2048x384, .f32⟩
  | 15 => ⟨S1x1x384, .f32⟩
  | 16 => ⟨S2x2048x384, .f32⟩
  | 17 => ⟨S2x2048x384, .f32⟩
  | 18 => ⟨S2x2048x384, .f32⟩
  | 19 => ⟨S1x384, .f32⟩
  | 20 => ⟨S384, .f32⟩
  | 21 => ⟨S2x2048x384, .f32⟩
  | 22 => ⟨S1x1x384, .f32⟩
  | 23 => ⟨S2x2048x384, .f32⟩
  | 24 => ⟨S2x2048x384, .f32⟩
  | 25 => ⟨S2x2048x384, .f32⟩
  | 26 => ⟨S1x384, .f32⟩
  | 27 => ⟨S384, .f32⟩
  | 28 => ⟨S2x2048x384, .f32⟩
  | 29 => ⟨S1x1x384, .f32⟩
  | 30 => ⟨S2x2048x384, .f32⟩
  | 31 => ⟨S2x2048x384, .f32⟩
  | 32 => ⟨S2x2048x384, .f32⟩
  | 33 => ⟨S1x384, .f32⟩
  | 34 => ⟨S384, .f32⟩
  | 35 => ⟨S2x2048x384, .f32⟩
  | 36 => ⟨S1x1x384, .f32⟩
  | 37 => ⟨S2x2048x384, .f32⟩
  | 38 => ⟨S2x2048x384, .f32⟩
  | 39 => ⟨S2x2048x384, .f32⟩
  | 40 => ⟨S1x384, .f32⟩
  | 41 => ⟨S384, .f32⟩
  | 42 => ⟨S2x2048x384, .f32⟩
  | 43 => ⟨S1x1x384, .f32⟩
  | 44 => ⟨S2x2048x384, .f32⟩
  | 45 => ⟨S2x2048x384, .f32⟩
  | 46 => ⟨S2x2048x384, .f32⟩
  | 47 => ⟨S1x384, .f32⟩
  | 48 => ⟨S384, .f32⟩
  | 49 => ⟨S2x2048x384, .f32⟩
  | 50 => ⟨S1x1x384, .f32⟩
  | 51 => ⟨S2x2048x384, .f32⟩
  | 52 => ⟨S2x2048x384, .f32⟩
  | 53 => ⟨S2x2048x384, .f32⟩
  | 54 => ⟨S1x384, .f32⟩
  | 55 => ⟨S384, .f32⟩
  | 56 => ⟨S2x2048x384, .f32⟩
  | 57 => ⟨S1x1x384, .f32⟩
  | 58 => ⟨S2x2048x384, .f32⟩
  | 59 => ⟨S2x2048x384, .f32⟩
  | 60 => ⟨S2x2048x384, .f32⟩
  | 61 => ⟨S1x384, .f32⟩
  | 62 => ⟨S384, .f32⟩
  | 63 => ⟨S2x2048x384, .f32⟩
  | 64 => ⟨S1x1x384, .f32⟩
  | 65 => ⟨S2x2048x384, .f32⟩
  | 66 => ⟨S2x2048x384, .f32⟩
  | 67 => ⟨S2x2048x384, .f32⟩
  | 68 => ⟨S1x384, .f32⟩
  | 69 => ⟨S384, .f32⟩
  | 70 => ⟨S2x2048x384, .f32⟩
  | 71 => ⟨S1x1x384, .f32⟩
  | 72 => ⟨S2x2048x384, .f32⟩
  | 73 => ⟨S2x2048x384, .f32⟩
  | 74 => ⟨S2x2048x384, .f32⟩
  | 75 => ⟨S1x384, .f32⟩
  | 76 => ⟨S384, .f32⟩
  | 77 => ⟨S2x2048x384, .f32⟩
  | 78 => ⟨S1x1x384, .f32⟩
  | 79 => ⟨S2x2048x384, .f32⟩
  | 80 => ⟨S2x2048x384, .f32⟩
  | 81 => ⟨S2x2048x384, .f32⟩
  | 82 => ⟨S1x384, .f32⟩
  | 83 => ⟨S384, .f32⟩
  | 84 => ⟨S2x2048x384, .f32⟩
  | 85 => ⟨S1x1x384, .f32⟩
  | 86 => ⟨S2x2048x384, .f32⟩
  | 87 => ⟨S2x2048x384, .f32⟩
  | 88 => ⟨S2x2048x384, .f32⟩
  | 89 => ⟨S1x384, .f32⟩
  | 90 => ⟨S384, .f32⟩
  | 91 => ⟨S2x2048x384, .f32⟩
  | 92 => ⟨S1x1x384, .f32⟩
  | 93 => ⟨S2x2048x384, .f32⟩
  | 94 => ⟨S2x2048x384, .f32⟩
  | 95 => ⟨S2x2048x384, .f32⟩
  | 96 => ⟨S1x384, .f32⟩
  | 97 => ⟨S384, .f32⟩
  | 98 => ⟨S2x2048x384, .f32⟩
  | 99 => ⟨S1x1x384, .f32⟩
  | 100 => ⟨S2x2048x384, .f32⟩
  | 101 => ⟨S2x2048x384, .f32⟩
  | 102 => ⟨S2x2048x384, .f32⟩
  | 103 => ⟨S1x384, .f32⟩
  | 104 => ⟨S384, .f32⟩
  | 105 => ⟨S2x2048x384, .f32⟩
  | 106 => ⟨S1x1x384, .f32⟩
  | 107 => ⟨S2x2048x384, .f32⟩
  | 108 => ⟨S2x2048x384, .f32⟩
  | 109 => ⟨S2x2048x384, .f32⟩
  | 110 => ⟨S1x384, .f32⟩
  | 111 => ⟨S384, .f32⟩
  | 112 => ⟨S2x2048x384, .f32⟩
  | 113 => ⟨S1x1x384, .f32⟩
  | 114 => ⟨S2x2048x384, .f32⟩
  | 115 => ⟨S2x2048x384, .f32⟩
  | 116 => ⟨S2x2048x384, .f32⟩
  | 117 => ⟨S1x384, .f32⟩
  | 118 => ⟨S384, .f32⟩
  | 119 => ⟨S2x2048x384, .f32⟩
  | 120 => ⟨S1x1x384, .f32⟩
  | 121 => ⟨S2x2048x384, .f32⟩
  | 122 => ⟨S2x2048x384, .f32⟩
  | 123 => ⟨S2x2048x384, .f32⟩
  | 124 => ⟨S1x1x384, .f32⟩
  | 125 => ⟨S2x2048x384, .f32⟩
  | 126 => ⟨S2x2048x384, .f32⟩
  | 127 => ⟨S4096x384, .f32⟩
  | _ => ⟨S4096x1792, .bf16⟩

abbrev hbmTy (i : Nat) : BufTy := match i / 128 with
  | 0 => hbmTy0_0 i
  | 1 => hbmTy0_1 i
  | _ => ⟨S4096x1792, .bf16⟩

abbrev bufTy : (tb : Table) → Fin (tcTables nBuf tb) → BufTy
  | .hbm, ⟨i, _⟩ => hbmTy i
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩

abbrev nD : Nat := 1
abbrev τ : Topo := Topo.v7x

variable {F : FTy → Type} [FloatOps F]
-- ==== Proof.Scalar.lean ====
module

public import Idealize.ShloMosaic.PureOps
public import Idealize.ShloMosaic.PureOps.Ideal.Laws
public import Idealize.ShloMosaic.Lib.IdealHost

/-! Facts about single extended reals: which are real, sums of real products, the logistic function written
    with the hyperbolic tangent, and the derivative of `x · σ(x)`. -/

@[expose] public section

noncomputable section

namespace Cert.Scalar

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

/-- A finite sum of real numbers is the real number that sums them. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The bf16 pattern of infinity. -/
theorem inf_bf16 : Ideal.ofBits .bf16 0x7F80#16 = ⊤ := by simp [Ideal.ofBits, Ideal.ieee]

/-- The f32 pattern of infinity. -/
theorem inf_f32 : Ideal.ofBits .f32 0x7F800000#32 = ⊤ := by simp [Ideal.ofBits, Ideal.ieee]

/-- The f32 pattern of one half. -/
theorem half_f32 : Ideal.ofBits .f32 0x3F000000#32 = ((1 / 2 : ℝ) : EReal) := by
  simp [Ideal.ofBits, Ideal.ieee, -EReal.coe_mul]; norm_num

/-- A number whose absolute value is below infinity is real. -/
theorem isReal_of_abs_lt {x : EReal} (h : Ideal.cmp .olt (max x (-x)) ⊤ = 1#1) : IsReal x := by
  induction x with
  | bot => simp [Ideal.cmp] at h
  | coe r => exact ⟨r, rfl⟩
  | top => simp [Ideal.cmp] at h

/-- `½ tanh(½ x) + ½` is the logistic function. -/
theorem tanh_half (x : ℝ) : 1 / 2 * Real.tanh (1 / 2 * x) + 1 / 2 = (1 + Real.exp (-x))⁻¹ := by
  have hp := Real.exp_pos (1 / 2 * x)
  have h1 : Real.exp (-x) = Real.exp (-(1 / 2 * x)) * Real.exp (-(1 / 2 * x)) := by rw [← Real.exp_add]; ring_nf
  have h2 : Real.exp (-(1 / 2 * x)) = (Real.exp (1 / 2 * x))⁻¹ := Real.exp_neg _
  rw [Real.tanh_eq_sinh_div_cosh, Real.sinh_eq, Real.cosh_eq, h1, h2]
  field_simp
  ring

/-- The kernel's sigmoid of a real number, as a real number. -/
theorem sigmoid_kernel (x : ℝ) :
    ((1 / 2 : ℝ) : EReal) * Ideal.tanh (((1 / 2 : ℝ) : EReal) * (x : EReal)) + ((1 / 2 : ℝ) : EReal)
      = (((1 + Real.exp (-x))⁻¹ : ℝ) : EReal) := by
  rw [← EReal.coe_mul, Ideal.tanh_coe, ← EReal.coe_mul, ← EReal.coe_add, tanh_half]

/-- The host's logistic function of a real number, as a real number. -/
theorem sigmoid_host (x : ℝ) :
    Ideal.div 1 (1 + Ideal.exp (-(x : EReal))) = (((1 + Real.exp (-x))⁻¹ : ℝ) : EReal) := Ideal.logistic_coe x

/-- The two ways to write the gate's gradient agree on real numbers. -/
theorem gate_grad (d u x s : ℝ) :
    (d : EReal) * u * s * (1 + (x : EReal) * (1 - (s : EReal)))
      = (d * u) * s + x * ((d : EReal) * u) * (s * (1 - (s : EReal))) := by
  rw [show (1 : EReal) = ((1 : ℝ) : EReal) from rfl]
  simp only [← EReal.coe_mul, ← EReal.coe_sub, ← EReal.coe_add]
  congr 1
  ring

/-- One half, the constant of the kernel's sigmoid. -/
abbrev half : EReal := Ideal.ofBits .f32 0x3F000000#32

/-- The kernel's sigmoid: one half of the hyperbolic tangent of the half, plus one half. -/
def sigm (x : EReal) : EReal := half * Ideal.tanh (half * x) + half

/-- The kernel's sigmoid of a real number is the logistic function. -/
theorem sigm_coe (x : ℝ) : sigm (x : EReal) = (((1 + Real.exp (-x))⁻¹ : ℝ) : EReal) := by
  unfold sigm half
  rw [half_f32, sigmoid_kernel]

end Cert.Scalar

end
-- ==== Proof.SwigluBwdBlock.lean ====
module

public import proofs.«01_k».proof.Proof.Gen.SwigluBwdIdeal.Value
public import Idealize.ShloMosaic.Lib.Pointwise
public import Idealize.ShloMosaic.Lib.Pipeline.ValueKit
public import proofs.«01_k».proof.Proof.Scalar

/-! What one block of the gated unit's gradient kernel computes, and what its result array holds. -/

@[expose] public section

noncomputable section

namespace Cert.SwigluBwdIdeal.Block

open Idealize.ShloMosaic Idealize.ShloMosaic.TcCoe Cert.SwigluBwdIdeal Cert.SwigluBwdIdeal.Gen Cert.Scalar

/-- The gate's gradient from the gradient `d` of the activation, the other factor `u` and the gate `x`. -/
def gateGrad (d u x : EReal) : EReal := d * u * sigm x * (1 + x * (1 - sigm x))

/-- The other factor's gradient. -/
def upGrad (d x : EReal) : EReal := d * x * sigm x

/-- The gate's and the other factor's gradient in the two layers of one array, from the cotangent `X` of the
    product with `W` and the two factors in the layers of `Z`, `R` rows by `L` columns. -/
def grads {R L : Nat} (X : (⟨2, ![R, 1024]⟩ : Shape).Idx → EReal) (W : (⟨2, ![L, 1024]⟩ : Shape).Idx → EReal)
    (Z : (⟨3, ![2, R, L]⟩ : Shape).Idx → EReal) (s : Fin 2) (r : Fin R) (l : Fin L) : EReal :=
  if s.val = 0 then gateGrad (∑ k : Fin 1024, X (ix2 r k) * W (ix2 l k)) (Z (ix3 1 r l)) (Z (ix3 0 r l))
  else upGrad (∑ k : Fin 1024, X (ix2 r k) * W (ix2 l k)) (Z (ix3 0 r l))

/-- The first store's values. -/
theorem pay4_apply (v0 : Vec Ideal S512x1024 .bf16) (v1 : Vec Ideal S1408x1024 .bf16) (v3 v6 : Vec Ideal S1x512x1408 .bf16)
    (a : Fin 1) (r : Fin 512) (l : Fin 1408) :
    k0_pay4 (F := Ideal) v0 v1 v3 v6 (ix3 a r l)
      = gateGrad (∑ k : Fin 1024, v0 (ix2 r k) * v1 (ix2 l k)) (v6 (ix3 0 r l)) (v3 (ix3 0 r l)) := by
  pointwise [k0_pay4, k0_pay3, k0_pay2, k0_pay1, dot_S512x1024_S1408x1024_S512x1408_1_1_0_0_n_n]
  rfl

/-- The second store's values. -/
theorem pay5_apply (v0 : Vec Ideal S512x1024 .bf16) (v1 : Vec Ideal S1408x1024 .bf16) (v3 : Vec Ideal S1x512x1408 .bf16)
    (a : Fin 1) (r : Fin 512) (l : Fin 1408) :
    k0_pay5 (F := Ideal) v0 v1 v3 (ix3 a r l)
      = upGrad (∑ k : Fin 1024, v0 (ix2 r k) * v1 (ix2 l k)) (v3 (ix3 0 r l)) := by
  pointwise [k0_pay5, k0_pay3, k0_pay2, k0_pay1, dot_S512x1024_S1408x1024_S512x1408_1_1_0_0_n_n]
  rfl

/-- One block of the result from the blocks of the operands. -/
theorem out_apply (x0 : Vec Ideal S512x1024 .bf16) (x1 : Vec Ideal S1408x1024 .bf16) (x2 : Vec Ideal S2x512x1408 .bf16)
    (y : S2x512x1408.Idx) : out0_3 (F := Ideal) x0 x1 x2 y = grads (R := 512) (L := 1408) x0 x1 x2 (y 0) (y 1) (y 2) := by
  unfold out0_3
  rw [View.ld_unit_lit _ _ (by decide), View.ld_unit_lit _ _ (by decide)]
  refine View.canon_apply_of_pieces (Val := Elt Ideal) (e := .bf16)
    (fun y => grads (R := 512) (L := 1408) x0 x1 x2 (y 0) (y 1) (y 2)) _ (fun p hp j => ?_) y (cover0_3 _ _ y)
  simp only [List.mem_cons, List.mem_nil_iff, or_false] at hp
  rcases hp with rfl | rfl
  · rw [eq_ix3 j]
    refine (pay5_apply _ _ _ _ _ _).trans ?_
    pointwise [View.ld]
    have e0 : r0_3.emb j 0 = (1 : Fin 2) := Fin.ext (by show 1 + 1 * (j 0).val = 1; have h : (j 0).val < 1 := (j 0).isLt; omega)
    have e1 : r0_3.emb j 1 = (j 1 : Fin 512) := Fin.ext (by show 0 + 1 * (j 1).val = _; omega)
    have e2 : r0_3.emb j 2 = (j 2 : Fin 1408) := Fin.ext (by show 0 + 1 * (j 2).val = _; omega)
    rw [e0, e1, e2]
    rfl
  · rw [eq_ix3 j]
    refine (pay4_apply _ _ _ _ _ _ _).trans ?_
    pointwise [View.ld]
    have e0 : r0_2.emb j 0 = (0 : Fin 2) := Fin.ext (by show 0 + 1 * (j 0).val = 0; have h : (j 0).val < 1 := (j 0).isLt; omega)
    have e1 : r0_2.emb j 1 = (j 1 : Fin 512) := Fin.ext (by show 0 + 1 * (j 1).val = _; omega)
    have e2 : r0_2.emb j 2 = (j 2 : Fin 1408) := Fin.ext (by show 0 + 1 * (j 2).val = _; omega)
    rw [e0, e1, e2]
    rfl

variable (m : (ℓ : Loc nD τ sig) → Buf (Elt Ideal) ℓ)

/-- What the result array is shown to hold. -/
def G (c : Dev nD) : Buf (Elt Ideal) ((c : Thread nD τ).loc main_v0) := fun i =>
  grads (R := 4096) (L := 2816) (m ((c : Thread nD τ).loc main_arg0)) (m ((c : Thread nD τ).loc main_arg1))
    (m ((c : Thread nD τ).loc main_arg2)) (i 0) (i 1) (i 2)

/-- Each window's block index at each grid point. -/
theorem idx : ∀ t : Fin cfg0.N, win0_0.index t = ![t.val % 8, 0] ∧ win0_1.index t = ![t.val / 8, 0]
    ∧ win0_2.index t = ![0, t.val % 8, t.val / 8] ∧ win0_3.index t = ![0, t.val % 8, t.val / 8] :=
  (by decide +kernel : ∀ t : Fin grid0.N, _)

/-- The result array after the run. -/
theorem final (c : Dev nD) : (dats m 0 c).arrAt 3 cfg0.N = G m c := by
  refine (dats m 0 c).arrAt_eq_of_covers 3 _ (by decide +kernel) fun t hf y => ?_
  blk_simp
  rw [after0_3]
  refine (out_apply _ _ _ _).trans ?_
  unfold G grads
  have e0 : ((win0_3.blk t).view.emb y 0).val = (y 0).val := by blk_simp [idx t]
  have hx (k : Fin 1024) : iblk m c 0 t (ix2 (y 1) k) = m (c.tc.loc main_arg0) (ix2 ((win0_3.blk t).view.emb y 1) k) := by
    blk_ext! [iblk, V, idx t]
  have hw (k : Fin 1024) : iblk m c 1 t (ix2 (y 2) k) = m (c.tc.loc main_arg1) (ix2 ((win0_3.blk t).view.emb y 2) k) := by
    blk_ext! [iblk, V, idx t]
  have hz (s : Fin 2) : iblk m c 2 t (ix3 s (y 1) (y 2))
      = m (c.tc.loc main_arg2) (ix3 s ((win0_3.blk t).view.emb y 1) ((win0_3.blk t).view.emb y 2)) := by
    blk_ext! [iblk, V, idx t]
  rw [e0]
  simp only [hx, hw, hz]

end Cert.SwigluBwdIdeal.Block
end
-- ==== Proof.SwigluBwdEq.lean ====
module

public import proofs.«01_k».proof.Proof.SwigluBwdBlock
public import proofs.«01_k».proof.Proof.Gen.SwigluBwdRefIdeal.Read
public import proofs.«01_k».proof.Proof.Gen.SwigluBwdRefIdeal.Run

/-! The reference's gradient of the gated unit, element by element. -/

@[expose] public section

noncomputable section

namespace Cert.SwigluBwdRefIdeal.Value

open Idealize.ShloMosaic Idealize.ShloMosaic.TcCoe Idealize.SL.Sem Cert.SwigluBwdRefIdeal Cert.SwigluBwdRefIdeal.Gen Cert.SwigluBwdRefIdeal.Read Cert.Scalar

/-- The reference's gradient at one index, on finite operands. -/
theorem ref_apply (x0 : Vec Ideal S4096x1024 .bf16) (x1 : Vec Ideal S2816x1024 .bf16) (x2 : Vec Ideal S2x4096x2816 .bf16)
    (h0 : ∀ i, IsReal (x0 i)) (h1 : ∀ i, IsReal (x1 i)) (h2 : ∀ i, IsReal (x2 i)) (s : Fin 2) (r : Fin 4096) (l : Fin 2816) :
    val_main_v18 (F := Ideal) x0 x1 x2 (ix3 s r l)
      = Cert.SwigluBwdIdeal.Block.grads (R := 4096) (L := 2816) x0 x1 x2 s r l := by
  pointwise [val_main_v18, val_main_v17, val_main_v16, val_main_v15, val_main_v14, val_main_call1_v2, val_main_call1_v1, val_main_call1_v0, val_main_v13, val_main_v12,
    val_main_v11, val_main_v10, val_main_v8, val_main_v6_0, val_main_v6_1, val_main_v6_2, val_main_call0_v7, val_main_call0_v6, val_main_call0_cst_1, val_main_call0_v4,
    val_main_call0_cst_0, val_main_call0_v3, val_main_call0_v2, val_main_call0_cst, val_main_call0_v1, val_main_call0_v0, val_main_v5, val_main_v4, val_main_v3, val_main_v2, val_main_v1, val_main_v0,
    dot_S4096x1024_S2816x1024_S4096x2816_1_1_0_0_n_n]
  unfold Cert.SwigluBwdIdeal.Block.grads Cert.SwigluBwdIdeal.Block.gateGrad Cert.SwigluBwdIdeal.Block.upGrad
  obtain ⟨d, hd⟩ : IsReal (∑ k : Fin 1024, x0 (ix2 r k) * x1 (ix2 l k)) :=
    IsReal.sum _ _ fun k => (h0 _).mul (h1 _)
  obtain ⟨u, hu⟩ := h2 (ix3 1 r l)
  obtain ⟨x, hx⟩ := h2 (ix3 0 r l)
  simp only [hd, hu, hx, sigm_coe, sigmoid_host]
  by_cases hs : s.val = 0
  · rw [if_pos hs, dif_pos (by omega)]
    exact (gate_grad d u x _).symm
  · rw [if_neg hs, dif_neg (by omega)]
    ac_rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = val_main_v18 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.SwigluBwdRefIdeal.Value
end
-- ==== Proof.SwigluBwdClaim.lean ====
module

public import proofs.«01_k».proof.Defs
public import proofs.«01_k».proof.Proof.SwigluBwdEq
public import proofs.«01_k».proof.Proof.Gen.SwigluBwdRefIdeal.Run
public import proofs.«01_k».proof.Proof.Gen.Pre_finite_swiglu
public import Idealize.ShloMosaic.Lib.Claim

/-! The gated unit's gradient kernel and the reference agree on finite arguments. -/

@[expose] public section

noncomputable section

namespace Cert.Proof.SwigluBwd

open Idealize.ShloMosaic Idealize.ShloMosaic.TcCoe Idealize.SL.Sem Cert.Scalar

/-- The precondition says that every element of the three arguments is a real number. -/
theorem reals (m : (ℓ : Loc Cert.SwigluBwdIdeal.nD Cert.SwigluBwdIdeal.τ Cert.SwigluBwdIdeal.sig) → Buf (Elt Ideal) ℓ)
    (h : Cert.Pre_SwigluBwdIdeal_finite_swiglu m) (c : Dev Cert.SwigluBwdIdeal.nD) :
    (∀ i, IsReal (m ((c : Thread Cert.SwigluBwdIdeal.nD Cert.SwigluBwdIdeal.τ).loc Cert.SwigluBwdIdeal.main_arg0) i))
    ∧ (∀ i, IsReal (m ((c : Thread Cert.SwigluBwdIdeal.nD Cert.SwigluBwdIdeal.τ).loc Cert.SwigluBwdIdeal.main_arg1) i))
    ∧ (∀ i, IsReal (m ((c : Thread Cert.SwigluBwdIdeal.nD Cert.SwigluBwdIdeal.τ).loc Cert.SwigluBwdIdeal.main_arg2) i)) := by
  obtain ⟨h0, h1, h2⟩ := h c
  refine ⟨fun i => ?_, fun i => ?_, fun i => ?_⟩
  · have := congrFun h0 i
    exact isReal_of_abs_lt (inf_bf16 ▸ this)
  · have := congrFun h1 i
    exact isReal_of_abs_lt (inf_bf16 ▸ this)
  · have := congrFun h2 i
    exact isReal_of_abs_lt (inf_bf16 ▸ this)

/-- On finite arguments the kernel's array of gradients is the reference's. -/
theorem algebraic : Cert.algebraic_SwigluBwdIdeal_SwigluBwdRefIdeal_pre_finite_swiglu := by
  pair_intro
  · run_from Cert.SwigluBwdIdeal.Value.run_blocks m g
  · run_from Cert.SwigluBwdRefIdeal.Value.run_val m' g'
    rw [Cert.SwigluBwdIdeal.Block.final m c]
    obtain ⟨h0, h1, h2⟩ := reals m hpre c
    funext i
    rw [eq_ix3 i]
    exact Cert.SwigluBwdRefIdeal.Value.ref_apply _ _ _ h0 h1 h2 _ _ _

/-- The reference runs and leaves its arguments unchanged. -/
theorem frame_ref : Cert.quiescent_SwigluBwdRefIdeal := fun m ρ _ =>
  (θ_run Cert.SwigluBwdRefIdeal.defs _ _).mono (fun r h => ⟨fun c => (h c).2, sem_eq_zero_of_no_sems (by decide) r.2⟩)
    (Cert.SwigluBwdRefIdeal.Value.run (F := Ideal) m ρ)

end Cert.Proof.SwigluBwd
end
-- ==== Proof.Norm.lean ====
module

public import Idealize.ShloMosaic.PureOps
public import Idealize.ShloMosaic.PureOps.Ideal.Laws
public import Idealize.ShloMosaic.Lib.IdealHost
public import proofs.«01_k».proof.Proof.Scalar

/-! The root-mean-square norm of one row of 1024 numbers, and its derivative. -/

@[expose] public section

noncomputable section

namespace Cert.Norm

open Idealize.ShloMosaic Cert.Scalar

/-- The row length, as the f32 constant both programs divide by. -/
abbrev len : EReal := Ideal.ofBits .f32 0x44800000#32

/-- The small number both programs add to the mean square. -/
abbrev eps : EReal := Ideal.ofBits .f32 0x358637BD#32

/-- One over the root of a row's mean square. -/
def inv (x : Fin 1024 → EReal) : EReal := Ideal.rsqrt (Ideal.div (∑ k : Fin 1024, x k * x k) len + eps)

/-- The normalised row, scaled by `g`. -/
def normed (x g : Fin 1024 → EReal) (l : Fin 1024) : EReal := x l * inv x * g l

/-- Minus one half, the constant of the reciprocal root's derivative. -/
abbrev mhalf : EReal := Ideal.ofBits .f32 0xBF000000#32

/-- The row's gradient as the kernel computes it: from the gradient `h` of the normalised and scaled row, the gain
    `g`, the row `x`, and the gradient `d` that comes from elsewhere. -/
def dxKernel (h g x : Fin 1024 → EReal) (d : EReal) (l : Fin 1024) : EReal :=
  d + inv x * (h l * g l - x l * inv x * Ideal.div (∑ k : Fin 1024, h k * g k * (x k * inv x)) len)

/-- The gradient of the mean square, the factor with which both factors of `x * x` enter the row's gradient. -/
def meanGrad (h g x : Fin 1024 → EReal) : EReal :=
  Ideal.div ((∑ k : Fin 1024, x k * (h k * g k))
    * (mhalf * Ideal.div (inv x) (Ideal.div (∑ k : Fin 1024, x k * x k) len + eps))) len

/-- The row's gradient as the pullback of the norm computes it. -/
def dxRef (h g x : Fin 1024 → EReal) (d : EReal) (l : Fin 1024) : EReal :=
  d + h l * g l * inv x + x l * meanGrad h g x + meanGrad h g x * x l

theorem len_coe : len = ((1024 : ℝ) : EReal) := by
  simp [len, Ideal.ofBits, Ideal.ieee, -EReal.coe_mul]; norm_num

theorem mhalf_coe : mhalf = ((-(1 / 2) : ℝ) : EReal) := by
  simp [mhalf, Ideal.ofBits, Ideal.ieee, -EReal.coe_mul]; norm_num

/-- The small number is real and positive. -/
theorem eps_coe : ∃ e : ℝ, 0 < e ∧ eps = (e : EReal) := by
  refine ⟨_, ?_, by simp [eps, Ideal.ofBits, Ideal.ieee, -EReal.coe_mul]; rfl⟩
  norm_num

/-- One over the root of a real row's mean square is a real number whose square is the inverse of the mean square. -/
theorem inv_coe (x : Fin 1024 → ℝ) : ∃ v r : ℝ, v ≠ 0 ∧ 1 / v = r * r ∧ inv (fun k => (x k : EReal)) = (r : EReal)
    ∧ Ideal.div (∑ k : Fin 1024, (x k : EReal) * (x k : EReal)) len + eps = (v : EReal) := by
  obtain ⟨e, he, hE⟩ := eps_coe
  have hs : 0 ≤ ∑ k : Fin 1024, x k * x k := Finset.sum_nonneg fun k _ => mul_self_nonneg _
  have hV : Ideal.div (∑ k : Fin 1024, (x k : EReal) * (x k : EReal)) len + eps
      = (((∑ k : Fin 1024, x k * x k) * (1 / 1024) + e : ℝ) : EReal) := by
    simp only [← EReal.coe_mul, ← coe_sum]
    rw [len_coe, hE, Ideal.div_coe (by norm_num), ← EReal.coe_mul, ← EReal.coe_add]
  have hv : 0 < (∑ k : Fin 1024, x k * x k) * (1 / 1024) + e := by positivity
  refine ⟨_, (Real.sqrt ((∑ k : Fin 1024, x k * x k) * (1 / 1024) + e))⁻¹, hv.ne', ?_, ?_, hV⟩
  · rw [← mul_inv, Real.mul_self_sqrt hv.le, one_div]
  · unfold inv
    rw [hV, Ideal.rsqrt_coe, if_neg hv.le.not_gt, if_neg hv.ne']

/-- On real rows the two gradients agree, whatever `d` is. -/
theorem dx_eq (h g x : Fin 1024 → EReal) (d : EReal) (l : Fin 1024) (hh : ∀ k, IsReal (h k)) (hg : ∀ k, IsReal (g k))
    (hx : ∀ k, IsReal (x k)) : dxKernel h g x d l = dxRef h g x d l := by
  choose h' hh' using hh
  choose g' hg' using hg
  choose x' hx' using hx
  obtain rfl : h = fun k => (h' k : EReal) := funext hh'
  obtain rfl : g = fun k => (g' k : EReal) := funext hg'
  obtain rfl : x = fun k => (x' k : EReal) := funext hx'
  obtain ⟨v, r, hv, hr, hi, hd⟩ := inv_coe x'
  unfold dxKernel dxRef meanGrad
  rw [hi, hd, len_coe, mhalf_coe]
  simp only [Ideal.div_coe hv, Ideal.div_coe (show (1024 : ℝ) ≠ 0 by norm_num), ← EReal.coe_mul, ← coe_sum,
    ← EReal.coe_sub, add_assoc, ← EReal.coe_add]
  rw [hr]
  congr 2
  have hT : ∑ k : Fin 1024, h' k * g' k * (x' k * r) = (∑ k : Fin 1024, x' k * (h' k * g' k)) * r := by
    rw [Finset.sum_mul]
    exact Finset.sum_congr rfl fun k _ => by ring
  rw [hT]
  ring

end Cert.Norm
end
-- ==== Proof.GateUpDxBlock.lean ====
module

public import proofs.«01_k».proof.Proof.Gen.GateUpDxIdeal.Value
public import Idealize.ShloMosaic.Lib.Pointwise
public import Idealize.ShloMosaic.Lib.Pipeline.ValueKit
public import Idealize.ShloMosaic.Lib.Pipeline.ReadBack
public import proofs.«01_k».proof.Proof.Norm

/-! What one block of the kernel for the gradient of the second norm's rows computes, and what its result arrays hold. -/

@[expose] public section

noncomputable section

namespace Cert.GateUpDxIdeal.Block

open Idealize.ShloMosaic Idealize.ShloMosaic.TcCoe Cert.GateUpDxIdeal Cert.GateUpDxIdeal.Gen Cert.GateUpDxIdeal.Value Cert.Norm

/-- The gradient of the normalised rows: the gate's and the other factor's gradients, each times its half of the
    weight's rows. -/
def dh {R : Nat} (a : (⟨3, ![2, R, 2816]⟩ : Shape).Idx → EReal) (w : (⟨2, ![5632, 1024]⟩ : Shape).Idx → EReal)
    (r : Fin R) (l : Fin 1024) : EReal :=
  (∑ k : Fin 2816, a (ix3 0 r k) * w (ix2 ⟨k.val, by omega⟩ l)) + ∑ k : Fin 2816, a (ix3 1 r k) * w (ix2 ⟨2816 + k.val, by omega⟩ l)

/-- The gradient of the normalised rows' input `x`, with the gradient `d` from elsewhere added. -/
def dx {R : Nat} (a : (⟨3, ![2, R, 2816]⟩ : Shape).Idx → EReal) (w : (⟨2, ![5632, 1024]⟩ : Shape).Idx → EReal)
    (x : (⟨2, ![R, 1024]⟩ : Shape).Idx → EReal) (g : Fin 1024 → EReal) (d : (⟨2, ![R, 1024]⟩ : Shape).Idx → EReal)
    (r : Fin R) (l : Fin 1024) : EReal :=
  dxKernel (fun k => dh a w r k) g (fun k => x (ix2 r k)) (d (ix2 r l)) l

/-- The gradient of the gain: over all rows, the gradient of the normalised row times the row before its scaling. -/
def dg {R : Nat} (a : (⟨3, ![2, R, 2816]⟩ : Shape).Idx → EReal) (w : (⟨2, ![5632, 1024]⟩ : Shape).Idx → EReal)
    (x : (⟨2, ![R, 1024]⟩ : Shape).Idx → EReal) (l : Fin 1024) : EReal :=
  ∑ r : Fin R, dh a w r l * (x (ix2 r l) * inv (fun k => x (ix2 r k)))

/-- The first layer of the gradients, as loaded. -/
theorem ld_a0 (x0 : Vec Ideal S2x256x2816 .bf16) (r : Fin 256) (k : Fin 2816) :
    View.ld x0 (Rect.unit ![0, 0, 0] ![1, 256, 2816] inb_S2x256x2816_S1x256x2816_0_0_0) (ix3 0 r k) = x0 (ix3 0 r k) :=
  congrArg x0 (funext fun a => Fin.ext (match a with
    | ⟨0, _⟩ => rfl
    | ⟨1, _⟩ => by show 0 + 1 * r.val = r.val; omega
    | ⟨2, _⟩ => by show 0 + 1 * k.val = k.val; omega))

/-- The second layer of the gradients, as loaded. -/
theorem ld_a1 (x0 : Vec Ideal S2x256x2816 .bf16) (r : Fin 256) (k : Fin 2816) :
    View.ld x0 (Rect.unit ![1, 0, 0] ![1, 256, 2816] inb_S2x256x2816_S1x256x2816_1_0_0) (ix3 0 r k) = x0 (ix3 1 r k) :=
  congrArg x0 (funext fun a => Fin.ext (match a with
    | ⟨0, _⟩ => rfl
    | ⟨1, _⟩ => by show 0 + 1 * r.val = r.val; omega
    | ⟨2, _⟩ => by show 0 + 1 * k.val = k.val; omega))

/-- The first half of the weight's rows, as loaded. -/
theorem ld_w0 (x1 : Vec Ideal S5632x1024 .bf16) (k : Fin 2816) (l : Fin 1024) :
    View.ld x1 (Rect.unit ![0, 0] ![2816, 1024] inb_S5632x1024_S2816x1024_0_0) (ix2 k l) = x1 (ix2 ⟨k.val, by omega⟩ l) :=
  congrArg x1 (funext fun a => Fin.ext (match a with
    | ⟨0, _⟩ => by show 0 + 1 * k.val = k.val; omega
    | ⟨1, _⟩ => by show 0 + 1 * l.val = l.val; omega))

/-- The second half of the weight's rows, as loaded. -/
theorem ld_w1 (x1 : Vec Ideal S5632x1024 .bf16) (k : Fin 2816) (l : Fin 1024) :
    View.ld x1 (Rect.unit ![2816, 0] ![2816, 1024] inb_S5632x1024_S2816x1024_2816_0) (ix2 k l) = x1 (ix2 ⟨2816 + k.val, by omega⟩ l) :=
  congrArg x1 (funext fun a => Fin.ext (match a with
    | ⟨0, _⟩ => by show 2816 + 1 * k.val = 2816 + k.val; omega
    | ⟨1, _⟩ => by show 0 + 1 * l.val = l.val; omega))

/-- One block's gradient of the normalised rows. -/
theorem pay4_apply (x0 : Vec Ideal S2x256x2816 .bf16) (x1 : Vec Ideal S5632x1024 .bf16) (r : Fin 256) (l : Fin 1024) :
    k0_pay4 (F := Ideal) (View.ld x0 (Rect.unit ![0, 0, 0] ![1, 256, 2816] inb_S2x256x2816_S1x256x2816_0_0_0)) (View.ld x1 (Rect.unit ![0, 0] ![2816, 1024] inb_S5632x1024_S2816x1024_0_0)) (View.ld x0 (Rect.unit ![1, 0, 0] ![1, 256, 2816] inb_S2x256x2816_S1x256x2816_1_0_0)) (View.ld x1 (Rect.unit ![2816, 0] ![2816, 1024] inb_S5632x1024_S2816x1024_2816_0)) (ix2 r l)
      = dh (R := 256) x0 x1 r l := by
  unfold dh
  simp only [← ld_a0, ← ld_a1, ← ld_w0, ← ld_w1]
  pointwise [k0_pay4, dot_S256x2816_S2816x1024_S256x1024_1_0_0_1_n_n]

/-- One block's gradient of the rows, entry by entry. -/
theorem pay7_ix (x0 : Vec Ideal S2x256x2816 .bf16) (x1 : Vec Ideal S5632x1024 .bf16) (x2 : Vec Ideal S256x1024 .f32) (x3 : Vec Ideal S1x1024 .f32)
    (x4 : Vec Ideal S256x1024 .f32) (r : Fin 256) (l : Fin 1024) :
    k0_pay7 (F := Ideal) (View.ld x0 (Rect.unit ![0, 0, 0] ![1, 256, 2816] inb_S2x256x2816_S1x256x2816_0_0_0)) (View.ld x1 (Rect.unit ![0, 0] ![2816, 1024] inb_S5632x1024_S2816x1024_0_0)) (View.ld x0 (Rect.unit ![1, 0, 0] ![1, 256, 2816] inb_S2x256x2816_S1x256x2816_1_0_0)) (View.ld x1 (Rect.unit ![2816, 0] ![2816, 1024] inb_S5632x1024_S2816x1024_2816_0)) x2 x3 x4 (ix2 r l) = dx (R := 256) x0 x1 x2 (fun k => x3 (ix2 0 k)) x4 r l := by
  unfold dx
  simp only [← pay4_apply]
  unfold k0_pay7
  generalize k0_pay4 (F := Ideal) (View.ld x0 (Rect.unit ![0, 0, 0] ![1, 256, 2816] inb_S2x256x2816_S1x256x2816_0_0_0)) (View.ld x1 (Rect.unit ![0, 0] ![2816, 1024] inb_S5632x1024_S2816x1024_0_0)) (View.ld x0 (Rect.unit ![1, 0, 0] ![1, 256, 2816] inb_S2x256x2816_S1x256x2816_1_0_0)) (View.ld x1 (Rect.unit ![2816, 0] ![2816, 1024] inb_S5632x1024_S2816x1024_2816_0)) = h
  pointwise [k0_pay6, k0_pay5]
  rfl

/-- One block's gradient of the rows. -/
theorem pay7_apply (x0 : Vec Ideal S2x256x2816 .bf16) (x1 : Vec Ideal S5632x1024 .bf16) (x2 : Vec Ideal S256x1024 .f32) (x3 : Vec Ideal S1x1024 .f32)
    (x4 : Vec Ideal S256x1024 .f32) (j : S256x1024.Idx) :
    k0_pay7 (F := Ideal) (View.ld x0 (Rect.unit ![0, 0, 0] ![1, 256, 2816] inb_S2x256x2816_S1x256x2816_0_0_0)) (View.ld x1 (Rect.unit ![0, 0] ![2816, 1024] inb_S5632x1024_S2816x1024_0_0)) (View.ld x0 (Rect.unit ![1, 0, 0] ![1, 256, 2816] inb_S2x256x2816_S1x256x2816_1_0_0)) (View.ld x1 (Rect.unit ![2816, 0] ![2816, 1024] inb_S5632x1024_S2816x1024_2816_0)) x2 x3 x4 j = dx (R := 256) x0 x1 x2 (fun k => x3 (ix2 0 k)) x4 (j 0) (j 1) := by
  rw [eq_ix2 j]
  exact pay7_ix x0 x1 x2 x3 x4 (j 0) (j 1)

/-- The same values in the second result's format. -/
theorem pay1_apply (v : FVec Ideal S256x1024 .f32) (j : S256x1024.Idx) : k0_pay1 (F := Ideal) v j = v j := by
  rw [eq_ix2 j]
  pointwise [k0_pay1]

/-- One step of the accumulation of the gain's gradient, entry by entry. -/
theorem pay3_ix (x0 : Vec Ideal S2x256x2816 .bf16) (x1 : Vec Ideal S5632x1024 .bf16) (x2 : Vec Ideal S256x1024 .f32) (o : Vec Ideal S1x1024 .f32)
    (r : Fin 1) (l : Fin 1024) :
    k0_pay3 (F := Ideal) (k0_pay4 (View.ld x0 (Rect.unit ![0, 0, 0] ![1, 256, 2816] inb_S2x256x2816_S1x256x2816_0_0_0)) (View.ld x1 (Rect.unit ![0, 0] ![2816, 1024] inb_S5632x1024_S2816x1024_0_0)) (View.ld x0 (Rect.unit ![1, 0, 0] ![1, 256, 2816] inb_S2x256x2816_S1x256x2816_1_0_0)) (View.ld x1 (Rect.unit ![2816, 0] ![2816, 1024] inb_S5632x1024_S2816x1024_2816_0))) (k0_pay6 x2) o (ix2 r l) = (o (ix2 r l) : EReal) + dg (R := 256) x0 x1 x2 l := by
  unfold dg
  simp only [← pay4_apply]
  generalize k0_pay4 (F := Ideal) (View.ld x0 (Rect.unit ![0, 0, 0] ![1, 256, 2816] inb_S2x256x2816_S1x256x2816_0_0_0)) (View.ld x1 (Rect.unit ![0, 0] ![2816, 1024] inb_S5632x1024_S2816x1024_0_0)) (View.ld x0 (Rect.unit ![1, 0, 0] ![1, 256, 2816] inb_S2x256x2816_S1x256x2816_1_0_0)) (View.ld x1 (Rect.unit ![2816, 0] ![2816, 1024] inb_S5632x1024_S2816x1024_2816_0)) = h
  pointwise [k0_pay3, k0_pay6, k0_pay5]
  rfl

/-- One step of the accumulation of the gain's gradient. -/
theorem pay3_apply (x0 : Vec Ideal S2x256x2816 .bf16) (x1 : Vec Ideal S5632x1024 .bf16) (x2 : Vec Ideal S256x1024 .f32) (o : Vec Ideal S1x1024 .f32)
    (j : S1x1024.Idx) :
    k0_pay3 (F := Ideal) (k0_pay4 (View.ld x0 (Rect.unit ![0, 0, 0] ![1, 256, 2816] inb_S2x256x2816_S1x256x2816_0_0_0)) (View.ld x1 (Rect.unit ![0, 0] ![2816, 1024] inb_S5632x1024_S2816x1024_0_0)) (View.ld x0 (Rect.unit ![1, 0, 0] ![1, 256, 2816] inb_S2x256x2816_S1x256x2816_1_0_0)) (View.ld x1 (Rect.unit ![2816, 0] ![2816, 1024] inb_S5632x1024_S2816x1024_2816_0))) (k0_pay6 x2) o j = (o j : EReal) + dg (R := 256) x0 x1 x2 (j 1) := by
  rw [eq_ix2 j]
  exact pay3_ix x0 x1 x2 o (j 0) (j 1)

/-- The accumulator starts at zero. -/
theorem pay2_apply (j : S1x1024.Idx) : k0_pay2 (F := Ideal) j = 0 := by
  rw [eq_ix2 j]
  pointwise [k0_pay2]

variable (m : (ℓ : Loc nD τ sig) → Buf (Elt Ideal) ℓ)

/-- One element of the rows' gradient over the whole arrays. -/
def gx (c : Dev nD) (r : Fin 4096) (l : Fin 1024) : EReal :=
  dx (R := 4096) (m ((c : Thread nD τ).loc main_arg0)) (m ((c : Thread nD τ).loc main_arg1)) (m ((c : Thread nD τ).loc main_arg2))
    (fun k => m ((c : Thread nD τ).loc main_arg3) (ix1 k)) (m ((c : Thread nD τ).loc main_arg4)) r l

/-- What the first result array is shown to hold. -/
def G5 (c : Dev nD) : Buf (Elt Ideal) ((c : Thread nD τ).loc main_v1_0) := fun i => gx m c (i 0) (i 1)

/-- What the second result array is shown to hold. -/
def G6 (c : Dev nD) : Buf (Elt Ideal) ((c : Thread nD τ).loc main_v1_1) := fun i => gx m c (i 0) (i 1)

/-- What the third result array is shown to hold. -/
def G7 (c : Dev nD) : Buf (Elt Ideal) ((c : Thread nD τ).loc main_v1_2) := fun i =>
  dg (R := 4096) (m ((c : Thread nD τ).loc main_arg0)) (m ((c : Thread nD τ).loc main_arg1)) (m ((c : Thread nD τ).loc main_arg2)) (i 1)

/-- Each window's block index at each grid point. -/
theorem idx : ∀ t : Fin cfg0.N, win0_0.index t = ![0, t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The first window's block at a point, read off the array. -/
theorem blkA (c : Dev nD) (t : Fin cfg0.N) (r : Fin 256) (q : Fin 4096) (hq : q.val = t.val * 256 + r.val) (s : Fin 2) (k : Fin 2816) :
    iblk m c 0 t (ix3 s r k) = m ((c : Thread nD τ).loc main_arg0) (ix3 s q k) := by
  have i0 := idx t
  rw [← V_main_arg0 m c]
  blk_ext! [iblk, i0, hq]

/-- The weight's block at a point. -/
theorem blkW (c : Dev nD) (t : Fin cfg0.N) (k : Fin 5632) (l : Fin 1024) :
    iblk m c 1 t (ix2 k l) = m ((c : Thread nD τ).loc main_arg1) (ix2 k l) := by
  have i0 := idx t
  rw [← V_main_arg1 m c]
  blk_ext! [iblk, i0]

/-- The rows' block at a point. -/
theorem blkX (c : Dev nD) (t : Fin cfg0.N) (r : Fin 256) (q : Fin 4096) (hq : q.val = t.val * 256 + r.val) (k : Fin 1024) :
    iblk m c 2 t (ix2 r k) = m ((c : Thread nD τ).loc main_arg2) (ix2 q k) := by
  have i0 := idx t
  rw [← V_main_arg2 m c]
  blk_ext! [iblk, i0, hq]

/-- The gain the host lays out as a row. -/
theorem gain (c : Dev nD) (k : Fin 1024) : V m c main_v0 (ix2 0 k) = m ((c : Thread nD τ).loc main_arg3) (ix1 k) := by
  entry_read
  pointwise []

/-- The gain's block at a point. -/
theorem blkG (c : Dev nD) (t : Fin cfg0.N) (k : Fin 1024) :
    iblk m c 3 t (ix2 0 k) = m ((c : Thread nD τ).loc main_arg3) (ix1 k) := by
  have i0 := idx t
  rw [← gain m c k]
  blk_ext! [iblk, i0]

/-- The added gradient's block at a point. -/
theorem blkD (c : Dev nD) (t : Fin cfg0.N) (r : Fin 256) (q : Fin 4096) (hq : q.val = t.val * 256 + r.val) (k : Fin 1024) :
    iblk m c 4 t (ix2 r k) = m ((c : Thread nD τ).loc main_arg4) (ix2 q k) := by
  have i0 := idx t
  rw [← V_main_arg4 m c]
  blk_ext! [iblk, i0, hq]

/-- The product's block at a point. -/
theorem blkH (c : Dev nD) (t : Fin cfg0.N) (r : Fin 256) (q : Fin 4096) (hq : q.val = t.val * 256 + r.val) (l : Fin 1024) :
    dh (R := 256) (iblk m c 0 t) (iblk m c 1 t) r l
      = dh (R := 4096) (m ((c : Thread nD τ).loc main_arg0)) (m ((c : Thread nD τ).loc main_arg1)) q l := by
  unfold dh
  simp only [blkA m c t r q hq, blkW m c t]

/-- The rows' gradient at a point, placed in the whole array. -/
theorem blkDx (c : Dev nD) (t : Fin cfg0.N) (r : Fin 256) (q : Fin 4096) (hq : q.val = t.val * 256 + r.val) (l : Fin 1024) :
    dx (R := 256) (iblk m c 0 t) (iblk m c 1 t) (iblk m c 2 t) (fun k => iblk m c 3 t (ix2 0 k)) (iblk m c 4 t) r l
      = gx m c q l := by
  unfold gx dx
  simp only [blkH m c t r q hq, blkX m c t r q hq, blkG m c t, blkD m c t r q hq]

/-- What a point leaves in the first result's buffer. -/
theorem out5 (c : Dev nD) (t : Fin cfg0.N) (j : S256x1024.Idx) :
    (outsAt0 m c t.val t.isLt).1 j
      = dx (R := 256) (iblk m c 0 t) (iblk m c 1 t) (iblk m c 2 t) (fun k => iblk m c 3 t (ix2 0 k)) (iblk m c 4 t) (j 0) (j 1) := by
  by_cases h : t.val % 16 = 0
  · rw [outsAt0_A m c t h]
    generalize iblk m c 0 t = x0
    generalize iblk m c 1 t = x1
    generalize iblk m c 2 t = x2
    generalize iblk m c 3 t = x3
    generalize iblk m c 4 t = x4
    frame_out
    exact pay7_apply _ _ _ _ _ _
  · rw [outsAt0_B m c t h]
    generalize iblk m c 0 t = x0
    generalize iblk m c 1 t = x1
    generalize iblk m c 2 t = x2
    generalize iblk m c 3 t = x3
    generalize iblk m c 4 t = x4
    frame_out
    exact pay7_apply _ _ _ _ _ _

/-- What a point leaves in the second result's buffer. -/
theorem out6 (c : Dev nD) (t : Fin cfg0.N) (j : S256x1024.Idx) :
    (outsAt0 m c t.val t.isLt).2.1 j
      = dx (R := 256) (iblk m c 0 t) (iblk m c 1 t) (iblk m c 2 t) (fun k => iblk m c 3 t (ix2 0 k)) (iblk m c 4 t) (j 0) (j 1) := by
  by_cases h : t.val % 16 = 0
  · rw [outsAt0_A m c t h]
    generalize iblk m c 0 t = x0
    generalize iblk m c 1 t = x1
    generalize iblk m c 2 t = x2
    generalize iblk m c 3 t = x3
    generalize iblk m c 4 t = x4
    frame_out
    exact (pay1_apply _ _).trans (pay7_apply _ _ _ _ _ _)
  · rw [outsAt0_B m c t h]
    generalize iblk m c 0 t = x0
    generalize iblk m c 1 t = x1
    generalize iblk m c 2 t = x2
    generalize iblk m c 3 t = x3
    generalize iblk m c 4 t = x4
    frame_out
    exact (pay1_apply _ _).trans (pay7_apply _ _ _ _ _ _)

/-- What the accumulator of the gain's gradient holds when it is written back. -/
theorem acc_eq (c : Dev nD) (t : Fin cfg0.N) (hf : (cfg0.win 7).flush t = true) (j : S1x1024.Idx) :
    (outsAt0 m c t.val t.isLt).2.2 j = ∑ s : Fin 16,
      dg (R := 256) (iblk m c 0 ⟨16 * (t.val / 16) + s.val, Pipeline.run_point_lt_of_flush t ((flush0_7 t).mp hf) s⟩)
        (iblk m c 1 ⟨16 * (t.val / 16) + s.val, Pipeline.run_point_lt_of_flush t ((flush0_7 t).mp hf) s⟩)
        (iblk m c 2 ⟨16 * (t.val / 16) + s.val, Pipeline.run_point_lt_of_flush t ((flush0_7 t).mp hf) s⟩) (j 1) := by
  rw [Pipeline.eq_sum_fin_of_reset_step_apply_of_flush (fun n h => (outsAt0 m c n h).2.2) 16 (fun _ => (0 : EReal))
    (fun p (j : S1x1024.Idx) => dg (R := 256) (iblk m c 0 p) (iblk m c 1 p) (iblk m c 2 p) (j 1))
    (fun t h j => by rw [outsAt0_A m c t h]; frame_out; exact (pay3_apply _ _ _ _ _).trans (congrArg (· + _) (pay2_apply j)))
    (fun t h j => by rw [outsAt0_B m c t h]; frame_out; exact pay3_apply _ _ _ _ _) t ((flush0_7 t).mp hf) j, zero_add]

/-- The first result array after the run. -/
theorem final5 (c : Dev nD) : (dats m 0 c).arrAt 5 cfg0.N = G5 m c := by
  refine (dats m 0 c).arrAt_eq_of_covers 5 _ (by decide +kernel) fun t hf y => ?_
  blk_simp
  rw [after0_5]
  refine (out5 m c t y).trans ((blkDx m c t (y 0) ((win0_5.blk t).view.emb y 0) (by blk_simp [idx t]) (y 1)).trans ?_)
  have e1 : ((win0_5.blk t).view.emb y 1 : Fin 1024) = y 1 := Fin.ext (by blk_simp [idx t])
  unfold G5
  rw [e1]

/-- The second result array after the run. -/
theorem final6 (c : Dev nD) : (dats m 0 c).arrAt 6 cfg0.N = G6 m c := by
  refine (dats m 0 c).arrAt_eq_of_covers 6 _ (by decide +kernel) fun t hf y => ?_
  blk_simp
  rw [after0_6]
  refine (out6 m c t y).trans ((blkDx m c t (y 0) ((win0_6.blk t).view.emb y 0) (by blk_simp [idx t]) (y 1)).trans ?_)
  have e1 : ((win0_6.blk t).view.emb y 1 : Fin 1024) = y 1 := Fin.ext (by blk_simp [idx t])
  unfold G6
  rw [e1]

/-- The third result array after the run. -/
theorem final7 (c : Dev nD) : (dats m 0 c).arrAt 7 cfg0.N = G7 m c := by
  refine (dats m 0 c).arrAt_eq_of_covers 7 _ (by decide +kernel) fun t hf y => ?_
  blk_simp
  rw [after0_7]
  refine (acc_eq m c t hf y).trans ?_
  have e1 : ((win0_7.blk t).view.emb y 1 : Fin 1024) = y 1 := Fin.ext (by blk_simp [idx t])
  unfold G7
  rw [e1]
  unfold dg
  have ht : t.val / 16 = 0 := Nat.div_eq_of_lt t.isLt
  refine Fin.sum_mul_add_congr fun s k hl => ?_
  have hq : s.val * 256 + k.val = (16 * (t.val / 16) + s.val) * 256 + k.val := by
    rw [ht]
    omega
  exact congrArg₂ (fun a b : EReal => a * b) (blkH m c ⟨_, Pipeline.run_point_lt_of_flush t ((flush0_7 t).mp hf) s⟩ k ⟨_, hl⟩ hq (y 1))
    (congrArg₂ (fun a b : EReal => a * b) (blkX m c ⟨_, Pipeline.run_point_lt_of_flush t ((flush0_7 t).mp hf) s⟩ k ⟨_, hl⟩ hq (y 1))
      (congrArg inv (funext fun i => blkX m c ⟨_, Pipeline.run_point_lt_of_flush t ((flush0_7 t).mp hf) s⟩ k ⟨_, hl⟩ hq i)))

end Cert.GateUpDxIdeal.Block
end
-- ==== Proof.GateUpDxEq.lean ====
module

public import proofs.«01_k».proof.Proof.GateUpDxBlock
public import proofs.«01_k».proof.Proof.Gen.GateUpDxRefIdeal.Read
public import proofs.«01_k».proof.Proof.Gen.GateUpDxRefIdeal.Run

/-! The reference's result for the gradient of the second norm, element by element. -/

@[expose] public section

noncomputable section

namespace Cert.GateUpDxRefIdeal.Value

open Cert.Norm Idealize.ShloMosaic Idealize.ShloMosaic.TcCoe Idealize.SL.Sem Cert.GateUpDxRefIdeal Cert.GateUpDxRefIdeal.Gen Cert.GateUpDxRefIdeal.Read

/-- The reference's gradient of the normalised rows: its one sum over both halves of the weight's rows, split in two. -/
theorem dh_apply (x0 : Vec Ideal S2x4096x2816 .bf16) (x1 : Vec Ideal S5632x1024 .bf16) (r : Fin 4096) (l : Fin 1024) :
    val_main_v28 (F := Ideal) x0 x1 (ix2 r l) = Cert.GateUpDxIdeal.Block.dh (R := 4096) x0 x1 r l := by
  unfold Cert.GateUpDxIdeal.Block.dh
  have e0 (k : Fin 2816) : val_main_v27 (F := Ideal) x0 (ix2 r (Fin.castAdd 2816 k)) = x0 (ix3 0 r k) := by
    pointwise [val_main_v27, val_main_v23, val_main_v22, val_main_v21]
    exact dif_pos k.isLt
  have e1 (k : Fin 2816) : val_main_v27 (F := Ideal) x0 (ix2 r (Fin.natAdd 2816 k)) = x0 (ix3 1 r k) := by
    pointwise [val_main_v27, val_main_v26, val_main_v25, val_main_v24]
    refine (dif_neg (show ¬ (2816 + k.val) < 2816 by omega)).trans (congrArg (fun q : Fin 2816 => x0 (ix3 1 r q)) (Fin.ext ?_))
    show 2816 + k.val - 2816 = k.val
    omega
  unfold val_main_v28
  generalize val_main_v27 (F := Ideal) x0 = y at e0 e1
  pointwise [val_main_v1, val_main_v0, dot_S4096x5632_S1024x5632_S4096x1024_1_1_0_0_n_n]
  refine (Fin.sum_univ_add (a := 2816) (b := 2816) (fun k : Fin 5632 => (y (ix2 r k) * x1 (ix2 k l) : EReal))).trans ?_
  exact congrArg₂ (fun a b : EReal => a + b)
    (Finset.sum_congr rfl fun k _ => congrArg (fun a : EReal => a * x1 (ix2 _ l)) (e0 k))
    (Finset.sum_congr rfl fun k _ => congrArg (fun a : EReal => a * x1 (ix2 _ l)) (e1 k))

/-- The reference's gradient of the rows. -/
theorem ref_dx (x0 : Vec Ideal S2x4096x2816 .bf16) (x1 : Vec Ideal S5632x1024 .bf16) (x2 : Vec Ideal S4096x1024 .f32)
    (x3 : Vec Ideal S1024 .f32) (x4 : Vec Ideal S4096x1024 .f32) (r : Fin 4096) (l : Fin 1024) :
    val_main_v49 (F := Ideal) x0 x1 x2 x3 x4 (ix2 r l)
      = dxRef (fun k => Cert.GateUpDxIdeal.Block.dh (R := 4096) x0 x1 r k) (fun k => x3 (ix1 k)) (fun k => x2 (ix2 r k)) (x4 (ix2 r l)) l := by
  simp only [← dh_apply]
  unfold val_main_v49 val_main_v48 val_main_v47 val_main_v46 val_main_v45 val_main_v44 val_main_v43 val_main_v42 val_main_v41 val_main_v40 val_main_v39 val_main_v38 val_main_v37 val_main_v36 val_main_v35 val_main_v33 val_main_v32
  generalize val_main_v28 (F := Ideal) x0 x1 = h
  pointwise [val_main_cst, val_main_cst_0, val_main_cst_1, val_main_cst_2, val_main_cst_3, val_main_cst_4, val_main_cst_5, val_main_cst_6, val_main_cst_7, val_main_v15, val_main_v14, val_main_v13, val_main_v12, val_main_v11, val_main_v10, val_main_v9, val_main_v8, val_main_v7, val_main_v6, val_main_v5, val_main_v4, val_main_v3, val_main_v2]
  simp only [Finset.univ_unique, Finset.sum_singleton]
  rfl

/-- The reference's gradient of the gain. -/
theorem ref_dg (x0 : Vec Ideal S2x4096x2816 .bf16) (x1 : Vec Ideal S5632x1024 .bf16) (x2 : Vec Ideal S4096x1024 .f32)
    (r : Fin 1) (l : Fin 1024) :
    val_main_v51 (F := Ideal) x0 x1 x2 (ix2 r l) = Cert.GateUpDxIdeal.Block.dg (R := 4096) x0 x1 x2 l := by
  unfold Cert.GateUpDxIdeal.Block.dg
  simp only [← dh_apply]
  unfold val_main_v51 val_main_v34 val_main_v31 val_main_v30 val_main_v29
  generalize val_main_v28 (F := Ideal) x0 x1 = h
  pointwise [val_main_cst, val_main_cst_0, val_main_cst_1, val_main_cst_2, val_main_cst_3, val_main_cst_4, val_main_cst_5, val_main_cst_6, val_main_cst_7, val_main_v15, val_main_v14, val_main_v13, val_main_v12, val_main_v11, val_main_v10, val_main_v9, val_main_v8, val_main_v7, val_main_v6, val_main_v5, val_main_v4, val_main_v3, val_main_v2]
  simp only [Finset.univ_unique, Finset.sum_singleton]
  exact Finset.sum_congr rfl fun k _ => mul_comm (G := EReal) _ _

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49)
          = val_main_v49 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v50)
          = val_main_v50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v51)
          = val_main_v51 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.GateUpDxRefIdeal.Value
end
-- ==== Proof.GateUpDxClaim.lean ====
module

public import proofs.«01_k».proof.Defs
public import proofs.«01_k».proof.Proof.GateUpDxEq
public import proofs.«01_k».proof.Proof.Gen.Pre_finite_gate_up_dx
public import proofs.«01_k».proof.Proof.Scalar
public import Idealize.ShloMosaic.Lib.Claim

/-! The kernel for the gradient of the second norm and the reference agree on finite arguments. -/

@[expose] public section

noncomputable section

namespace Cert.Proof.GateUpDx

open Idealize.ShloMosaic Idealize.ShloMosaic.TcCoe Idealize.SL.Sem Cert.Scalar

/-- The precondition says that every element of the first four arguments is a real number. -/
theorem reals (m : (ℓ : Loc Cert.GateUpDxIdeal.nD Cert.GateUpDxIdeal.τ Cert.GateUpDxIdeal.sig) → Buf (Elt Ideal) ℓ)
    (h : Cert.Pre_GateUpDxIdeal_finite_gate_up_dx m) (c : Dev Cert.GateUpDxIdeal.nD) :
    (∀ i, IsReal (m ((c : Thread Cert.GateUpDxIdeal.nD Cert.GateUpDxIdeal.τ).loc Cert.GateUpDxIdeal.main_arg0) i))
    ∧ (∀ i, IsReal (m ((c : Thread Cert.GateUpDxIdeal.nD Cert.GateUpDxIdeal.τ).loc Cert.GateUpDxIdeal.main_arg1) i))
    ∧ (∀ i, IsReal (m ((c : Thread Cert.GateUpDxIdeal.nD Cert.GateUpDxIdeal.τ).loc Cert.GateUpDxIdeal.main_arg2) i))
    ∧ (∀ i, IsReal (m ((c : Thread Cert.GateUpDxIdeal.nD Cert.GateUpDxIdeal.τ).loc Cert.GateUpDxIdeal.main_arg3) i)) := by
  obtain ⟨h0, h1, h2, h3⟩ := h c
  refine ⟨fun i => ?_, fun i => ?_, fun i => ?_, fun i => ?_⟩
  · have := congrFun h0 i
    exact isReal_of_abs_lt (inf_bf16 ▸ this)
  · have := congrFun h1 i
    exact isReal_of_abs_lt (inf_bf16 ▸ this)
  · have := congrFun h2 i
    exact isReal_of_abs_lt (inf_f32 ▸ this)
  · have := congrFun h3 i
    exact isReal_of_abs_lt (inf_f32 ▸ this)

/-- On real arrays every element of the product is real. -/
theorem dh_real (a : (⟨3, ![2, 4096, 2816]⟩ : Shape).Idx → EReal) (w : (⟨2, ![5632, 1024]⟩ : Shape).Idx → EReal) (ha : ∀ i, IsReal (a i))
    (hw : ∀ i, IsReal (w i)) (r : Fin 4096) (l : Fin 1024) : IsReal (Cert.GateUpDxIdeal.Block.dh a w r l) :=
  (IsReal.sum _ _ fun k => (ha _).mul (hw _)).add (IsReal.sum _ _ fun k => (ha _).mul (hw _))

/-- What the kernel leaves in its result is what the reference leaves in its own, on finite arguments. -/
theorem algebraic : Cert.algebraic_GateUpDxIdeal_GateUpDxRefIdeal_pre_finite_gate_up_dx := by
  pair_intro
  · run_from Cert.GateUpDxIdeal.Value.run_blocks m g
  · run_from Cert.GateUpDxRefIdeal.Value.run_val m' g'
    · rw [Cert.GateUpDxIdeal.Block.final5 m c]
      obtain ⟨h0, h1, h2, h3⟩ := reals m hpre c
      funext i
      rw [eq_ix2 i]
      exact (Cert.GateUpDxRefIdeal.Value.ref_dx _ _ _ _ _ _ _).trans (Cert.Norm.dx_eq _ _ _ _ _ (fun k => dh_real _ _ h0 h1 _ k) (fun k => h3 _) (fun k => h2 _)).symm
    · rw [Cert.GateUpDxIdeal.Block.final6 m c]
      obtain ⟨h0, h1, h2, h3⟩ := reals m hpre c
      funext i
      rw [eq_ix2 i]
      exact (Cert.GateUpDxRefIdeal.Value.ref_dx _ _ _ _ _ _ _).trans (Cert.Norm.dx_eq _ _ _ _ _ (fun k => dh_real _ _ h0 h1 _ k) (fun k => h3 _) (fun k => h2 _)).symm
    · rw [Cert.GateUpDxIdeal.Block.final7 m c]
      funext i
      rw [eq_ix2 i]
      exact Cert.GateUpDxRefIdeal.Value.ref_dg _ _ _ _ _

/-- The reference runs and leaves its arguments unchanged. -/
theorem frame_ref : Cert.quiescent_GateUpDxRefIdeal := fun m ρ _ =>
  (θ_run Cert.GateUpDxRefIdeal.defs _ _).mono (fun r h => ⟨fun c => (h c).2.2.2, sem_eq_zero_of_no_sems (by decide) r.2⟩)
    (Cert.GateUpDxRefIdeal.Value.run (F := Ideal) m ρ)

end Cert.Proof.GateUpDx
end
-- ==== Proof.InDxBlock.lean ====
module

public import proofs.«01_k».proof.Proof.Gen.InDxIdeal.Value
public import Idealize.ShloMosaic.Lib.Pointwise
public import Idealize.ShloMosaic.Lib.Pipeline.ValueKit
public import Idealize.ShloMosaic.Lib.Pipeline.ReadBack
public import proofs.«01_k».proof.Proof.Norm

/-! What one block of the kernel for the gradient of the first norm's rows computes, and what its result arrays hold. -/

@[expose] public section

noncomputable section

namespace Cert.InDxIdeal.Block

open Idealize.ShloMosaic Idealize.ShloMosaic.TcCoe Cert.InDxIdeal Cert.InDxIdeal.Gen Cert.InDxIdeal.Value Cert.Norm

/-- The gradient of the normalised rows: the product's gradient times the weight's rows. -/
def dh {R : Nat} (a : (⟨2, ![R, 1792]⟩ : Shape).Idx → EReal) (w : (⟨2, ![1792, 1024]⟩ : Shape).Idx → EReal)
    (r : Fin R) (l : Fin 1024) : EReal :=
  ∑ k : Fin 1792, a (ix2 r k) * w (ix2 k l)

/-- The gradient of the normalised rows' input `x`, with the gradient `d` from elsewhere added. -/
def dx {R : Nat} (a : (⟨2, ![R, 1792]⟩ : Shape).Idx → EReal) (w : (⟨2, ![1792, 1024]⟩ : Shape).Idx → EReal)
    (x : (⟨2, ![R, 1024]⟩ : Shape).Idx → EReal) (g : Fin 1024 → EReal) (d : (⟨2, ![R, 1024]⟩ : Shape).Idx → EReal)
    (r : Fin R) (l : Fin 1024) : EReal :=
  dxKernel (fun k => dh a w r k) g (fun k => x (ix2 r k)) (d (ix2 r l)) l

/-- The gradient of the gain: over all rows, the gradient of the normalised row times the row before its scaling. -/
def dg {R : Nat} (a : (⟨2, ![R, 1792]⟩ : Shape).Idx → EReal) (w : (⟨2, ![1792, 1024]⟩ : Shape).Idx → EReal)
    (x : (⟨2, ![R, 1024]⟩ : Shape).Idx → EReal) (l : Fin 1024) : EReal :=
  ∑ r : Fin R, dh a w r l * (x (ix2 r l) * inv (fun k => x (ix2 r k)))

/-- One block's gradient of the normalised rows. -/
theorem pay3_apply (x0 : Vec Ideal S512x1792 .bf16) (x1 : Vec Ideal S1792x1024 .bf16) (r : Fin 512) (l : Fin 1024) :
    k0_pay3 (F := Ideal) x0 x1 (ix2 r l) = dh (R := 512) x0 x1 r l := by
  unfold dh
  pointwise [k0_pay3, dot_S512x1792_S1792x1024_S512x1024_1_0_0_1_n_n]

/-- One block's gradient of the rows, entry by entry. -/
theorem pay6_ix (x0 : Vec Ideal S512x1792 .bf16) (x1 : Vec Ideal S1792x1024 .bf16) (x2 : Vec Ideal S512x1024 .f32) (x3 : Vec Ideal S1x1024 .f32)
    (x4 : Vec Ideal S512x1024 .f32) (r : Fin 512) (l : Fin 1024) :
    k0_pay6 (F := Ideal) x0 x1 x2 x3 x4 (ix2 r l) = dx (R := 512) x0 x1 x2 (fun k => x3 (ix2 0 k)) x4 r l := by
  unfold dx
  simp only [← pay3_apply]
  unfold k0_pay6
  generalize k0_pay3 (F := Ideal) x0 x1 = h
  pointwise [k0_pay5, k0_pay4]
  rfl

/-- One block's gradient of the rows. -/
theorem pay6_apply (x0 : Vec Ideal S512x1792 .bf16) (x1 : Vec Ideal S1792x1024 .bf16) (x2 : Vec Ideal S512x1024 .f32) (x3 : Vec Ideal S1x1024 .f32)
    (x4 : Vec Ideal S512x1024 .f32) (j : S512x1024.Idx) :
    k0_pay6 (F := Ideal) x0 x1 x2 x3 x4 j = dx (R := 512) x0 x1 x2 (fun k => x3 (ix2 0 k)) x4 (j 0) (j 1) := by
  rw [eq_ix2 j]
  exact pay6_ix x0 x1 x2 x3 x4 (j 0) (j 1)

/-- The same values in the second result's format. -/
theorem pay7_apply (x0 : Vec Ideal S512x1792 .bf16) (x1 : Vec Ideal S1792x1024 .bf16) (x2 : Vec Ideal S512x1024 .f32) (x3 : Vec Ideal S1x1024 .f32)
    (x4 : Vec Ideal S512x1024 .f32) (j : S512x1024.Idx) :
    k0_pay7 (F := Ideal) x0 x1 x2 x3 x4 j = k0_pay6 (F := Ideal) x0 x1 x2 x3 x4 j := by
  rw [eq_ix2 j]
  pointwise [k0_pay7]

/-- One step of the accumulation of the gain's gradient, entry by entry. -/
theorem pay2_ix (x0 : Vec Ideal S512x1792 .bf16) (x1 : Vec Ideal S1792x1024 .bf16) (x2 : Vec Ideal S512x1024 .f32) (o : Vec Ideal S1x1024 .f32)
    (r : Fin 1) (l : Fin 1024) :
    k0_pay2 (F := Ideal) (k0_pay3 x0 x1) (k0_pay5 x2) o (ix2 r l) = (o (ix2 r l) : EReal) + dg (R := 512) x0 x1 x2 l := by
  unfold dg
  simp only [← pay3_apply]
  generalize k0_pay3 (F := Ideal) x0 x1 = h
  pointwise [k0_pay2, k0_pay5, k0_pay4]
  rfl

/-- One step of the accumulation of the gain's gradient. -/
theorem pay2_apply (x0 : Vec Ideal S512x1792 .bf16) (x1 : Vec Ideal S1792x1024 .bf16) (x2 : Vec Ideal S512x1024 .f32) (o : Vec Ideal S1x1024 .f32)
    (j : S1x1024.Idx) :
    k0_pay2 (F := Ideal) (k0_pay3 x0 x1) (k0_pay5 x2) o j = (o j : EReal) + dg (R := 512) x0 x1 x2 (j 1) := by
  rw [eq_ix2 j]
  exact pay2_ix x0 x1 x2 o (j 0) (j 1)

/-- The accumulator starts at zero. -/
theorem pay1_apply (j : S1x1024.Idx) : k0_pay1 (F := Ideal) j = 0 := by
  rw [eq_ix2 j]
  pointwise [k0_pay1]

variable (m : (ℓ : Loc nD τ sig) → Buf (Elt Ideal) ℓ)

/-- One element of the rows' gradient over the whole arrays. -/
def gx (c : Dev nD) (r : Fin 4096) (l : Fin 1024) : EReal :=
  dx (R := 4096) (m ((c : Thread nD τ).loc main_arg0)) (m ((c : Thread nD τ).loc main_arg1)) (m ((c : Thread nD τ).loc main_arg2))
    (fun k => m ((c : Thread nD τ).loc main_arg3) (ix1 k)) (m ((c : Thread nD τ).loc main_arg4)) r l

/-- What the first result array is shown to hold. -/
def G5 (c : Dev nD) : Buf (Elt Ideal) ((c : Thread nD τ).loc main_v1_0) := fun i => gx m c (i 0) (i 1)

/-- What the second result array is shown to hold. -/
def G6 (c : Dev nD) : Buf (Elt Ideal) ((c : Thread nD τ).loc main_v1_1) := fun i => gx m c (i 0) (i 1)

/-- What the third result array is shown to hold. -/
def G7 (c : Dev nD) : Buf (Elt Ideal) ((c : Thread nD τ).loc main_v1_2) := fun i =>
  dg (R := 4096) (m ((c : Thread nD τ).loc main_arg0)) (m ((c : Thread nD τ).loc main_arg1)) (m ((c : Thread nD τ).loc main_arg2)) (i 1)

/-- Each window's block index at each grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The first window's block at a point, read off the array. -/
theorem blkA (c : Dev nD) (t : Fin cfg0.N) (r : Fin 512) (q : Fin 4096) (hq : q.val = t.val * 512 + r.val) (k : Fin 1792) :
    iblk m c 0 t (ix2 r k) = m ((c : Thread nD τ).loc main_arg0) (ix2 q k) := by
  have i0 := idx t
  rw [← V_main_arg0 m c]
  blk_ext! [iblk, i0, hq]

/-- The weight's block at a point. -/
theorem blkW (c : Dev nD) (t : Fin cfg0.N) (k : Fin 1792) (l : Fin 1024) :
    iblk m c 1 t (ix2 k l) = m ((c : Thread nD τ).loc main_arg1) (ix2 k l) := by
  have i0 := idx t
  rw [← V_main_arg1 m c]
  blk_ext! [iblk, i0]

/-- The rows' block at a point. -/
theorem blkX (c : Dev nD) (t : Fin cfg0.N) (r : Fin 512) (q : Fin 4096) (hq : q.val = t.val * 512 + r.val) (k : Fin 1024) :
    iblk m c 2 t (ix2 r k) = m ((c : Thread nD τ).loc main_arg2) (ix2 q k) := by
  have i0 := idx t
  rw [← V_main_arg2 m c]
  blk_ext! [iblk, i0, hq]

/-- The gain the host lays out as a row. -/
theorem gain (c : Dev nD) (k : Fin 1024) : V m c main_v0 (ix2 0 k) = m ((c : Thread nD τ).loc main_arg3) (ix1 k) := by
  entry_read
  pointwise []

/-- The gain's block at a point. -/
theorem blkG (c : Dev nD) (t : Fin cfg0.N) (k : Fin 1024) :
    iblk m c 3 t (ix2 0 k) = m ((c : Thread nD τ).loc main_arg3) (ix1 k) := by
  have i0 := idx t
  rw [← gain m c k]
  blk_ext! [iblk, i0]

/-- The added gradient's block at a point. -/
theorem blkD (c : Dev nD) (t : Fin cfg0.N) (r : Fin 512) (q : Fin 4096) (hq : q.val = t.val * 512 + r.val) (k : Fin 1024) :
    iblk m c 4 t (ix2 r k) = m ((c : Thread nD τ).loc main_arg4) (ix2 q k) := by
  have i0 := idx t
  rw [← V_main_arg4 m c]
  blk_ext! [iblk, i0, hq]

/-- The product's block at a point. -/
theorem blkH (c : Dev nD) (t : Fin cfg0.N) (r : Fin 512) (q : Fin 4096) (hq : q.val = t.val * 512 + r.val) (l : Fin 1024) :
    dh (R := 512) (iblk m c 0 t) (iblk m c 1 t) r l
      = dh (R := 4096) (m ((c : Thread nD τ).loc main_arg0)) (m ((c : Thread nD τ).loc main_arg1)) q l := by
  unfold dh
  simp only [blkA m c t r q hq, blkW m c t]

/-- The rows' gradient at a point, placed in the whole array. -/
theorem blkDx (c : Dev nD) (t : Fin cfg0.N) (r : Fin 512) (q : Fin 4096) (hq : q.val = t.val * 512 + r.val) (l : Fin 1024) :
    dx (R := 512) (iblk m c 0 t) (iblk m c 1 t) (iblk m c 2 t) (fun k => iblk m c 3 t (ix2 0 k)) (iblk m c 4 t) r l
      = gx m c q l := by
  unfold gx dx
  simp only [blkH m c t r q hq, blkX m c t r q hq, blkG m c t, blkD m c t r q hq]

/-- What a point leaves in the first result's buffer. -/
theorem out5 (c : Dev nD) (t : Fin cfg0.N) (j : S512x1024.Idx) :
    (outsAt0 m c t.val t.isLt).1 j
      = dx (R := 512) (iblk m c 0 t) (iblk m c 1 t) (iblk m c 2 t) (fun k => iblk m c 3 t (ix2 0 k)) (iblk m c 4 t) (j 0) (j 1) := by
  by_cases h : t.val % 8 = 0
  · rw [outsAt0_A m c t h]
    generalize iblk m c 0 t = x0
    generalize iblk m c 1 t = x1
    generalize iblk m c 2 t = x2
    generalize iblk m c 3 t = x3
    generalize iblk m c 4 t = x4
    frame_out
    exact pay6_apply _ _ _ _ _ _
  · rw [outsAt0_B m c t h]
    generalize iblk m c 0 t = x0
    generalize iblk m c 1 t = x1
    generalize iblk m c 2 t = x2
    generalize iblk m c 3 t = x3
    generalize iblk m c 4 t = x4
    frame_out
    exact pay6_apply _ _ _ _ _ _

/-- What a point leaves in the second result's buffer. -/
theorem out6 (c : Dev nD) (t : Fin cfg0.N) (j : S512x1024.Idx) :
    (outsAt0 m c t.val t.isLt).2.1 j
      = dx (R := 512) (iblk m c 0 t) (iblk m c 1 t) (iblk m c 2 t) (fun k => iblk m c 3 t (ix2 0 k)) (iblk m c 4 t) (j 0) (j 1) := by
  by_cases h : t.val % 8 = 0
  · rw [outsAt0_A m c t h]
    generalize iblk m c 0 t = x0
    generalize iblk m c 1 t = x1
    generalize iblk m c 2 t = x2
    generalize iblk m c 3 t = x3
    generalize iblk m c 4 t = x4
    frame_out
    exact (pay7_apply _ _ _ _ _ _).trans (pay6_apply _ _ _ _ _ _)
  · rw [outsAt0_B m c t h]
    generalize iblk m c 0 t = x0
    generalize iblk m c 1 t = x1
    generalize iblk m c 2 t = x2
    generalize iblk m c 3 t = x3
    generalize iblk m c 4 t = x4
    frame_out
    exact (pay7_apply _ _ _ _ _ _).trans (pay6_apply _ _ _ _ _ _)

/-- What the accumulator of the gain's gradient holds when it is written back. -/
theorem acc_eq (c : Dev nD) (t : Fin cfg0.N) (hf : (cfg0.win 7).flush t = true) (j : S1x1024.Idx) :
    (outsAt0 m c t.val t.isLt).2.2 j = ∑ s : Fin 8,
      dg (R := 512) (iblk m c 0 ⟨8 * (t.val / 8) + s.val, Pipeline.run_point_lt_of_flush t ((flush0_7 t).mp hf) s⟩)
        (iblk m c 1 ⟨8 * (t.val / 8) + s.val, Pipeline.run_point_lt_of_flush t ((flush0_7 t).mp hf) s⟩)
        (iblk m c 2 ⟨8 * (t.val / 8) + s.val, Pipeline.run_point_lt_of_flush t ((flush0_7 t).mp hf) s⟩) (j 1) := by
  rw [Pipeline.eq_sum_fin_of_reset_step_apply_of_flush (fun n h => (outsAt0 m c n h).2.2) 8 (fun _ => (0 : EReal))
    (fun p (j : S1x1024.Idx) => dg (R := 512) (iblk m c 0 p) (iblk m c 1 p) (iblk m c 2 p) (j 1))
    (fun t h j => by rw [outsAt0_A m c t h]; frame_out; exact (pay2_apply _ _ _ _ _).trans (congrArg (· + _) (pay1_apply j)))
    (fun t h j => by rw [outsAt0_B m c t h]; frame_out; exact pay2_apply _ _ _ _ _) t ((flush0_7 t).mp hf) j, zero_add]

/-- The first result array after the run. -/
theorem final5 (c : Dev nD) : (dats m 0 c).arrAt 5 cfg0.N = G5 m c := by
  refine (dats m 0 c).arrAt_eq_of_covers 5 _ (by decide +kernel) fun t hf y => ?_
  blk_simp
  rw [after0_5]
  refine (out5 m c t y).trans ((blkDx m c t (y 0) ((win0_5.blk t).view.emb y 0) (by blk_simp [idx t]) (y 1)).trans ?_)
  have e1 : ((win0_5.blk t).view.emb y 1 : Fin 1024) = y 1 := Fin.ext (by blk_simp [idx t])
  unfold G5
  rw [e1]

/-- The second result array after the run. -/
theorem final6 (c : Dev nD) : (dats m 0 c).arrAt 6 cfg0.N = G6 m c := by
  refine (dats m 0 c).arrAt_eq_of_covers 6 _ (by decide +kernel) fun t hf y => ?_
  blk_simp
  rw [after0_6]
  refine (out6 m c t y).trans ((blkDx m c t (y 0) ((win0_6.blk t).view.emb y 0) (by blk_simp [idx t]) (y 1)).trans ?_)
  have e1 : ((win0_6.blk t).view.emb y 1 : Fin 1024) = y 1 := Fin.ext (by blk_simp [idx t])
  unfold G6
  rw [e1]

/-- The third result array after the run. -/
theorem final7 (c : Dev nD) : (dats m 0 c).arrAt 7 cfg0.N = G7 m c := by
  refine (dats m 0 c).arrAt_eq_of_covers 7 _ (by decide +kernel) fun t hf y => ?_
  blk_simp
  rw [after0_7]
  refine (acc_eq m c t hf y).trans ?_
  have e1 : ((win0_7.blk t).view.emb y 1 : Fin 1024) = y 1 := Fin.ext (by blk_simp [idx t])
  unfold G7
  rw [e1]
  unfold dg
  have ht : t.val / 8 = 0 := Nat.div_eq_of_lt t.isLt
  refine Fin.sum_mul_add_congr fun s k hl => ?_
  have hq : s.val * 512 + k.val = (8 * (t.val / 8) + s.val) * 512 + k.val := by
    rw [ht]
    omega
  exact congrArg₂ (fun a b : EReal => a * b) (blkH m c ⟨_, Pipeline.run_point_lt_of_flush t ((flush0_7 t).mp hf) s⟩ k ⟨_, hl⟩ hq (y 1))
    (congrArg₂ (fun a b : EReal => a * b) (blkX m c ⟨_, Pipeline.run_point_lt_of_flush t ((flush0_7 t).mp hf) s⟩ k ⟨_, hl⟩ hq (y 1))
      (congrArg inv (funext fun i => blkX m c ⟨_, Pipeline.run_point_lt_of_flush t ((flush0_7 t).mp hf) s⟩ k ⟨_, hl⟩ hq i)))

end Cert.InDxIdeal.Block
end
-- ==== Proof.InDxEq.lean ====
module

public import proofs.«01_k».proof.Proof.InDxBlock
public import proofs.«01_k».proof.Proof.Gen.InDxRefIdeal.Read
public import proofs.«01_k».proof.Proof.Gen.InDxRefIdeal.Run

/-! The reference's result for the gradient of the first norm, element by element. -/

@[expose] public section

noncomputable section

namespace Cert.InDxRefIdeal.Value

open Cert.Norm Idealize.ShloMosaic Idealize.ShloMosaic.TcCoe Idealize.SL.Sem Cert.InDxRefIdeal Cert.InDxRefIdeal.Gen Cert.InDxRefIdeal.Read

/-- The reference's gradient of the normalised rows. -/
theorem dh_apply (x0 : Vec Ideal S4096x1792 .bf16) (x1 : Vec Ideal S1792x1024 .bf16) (r : Fin 4096) (l : Fin 1024) :
    val_main_v20 (F := Ideal) x0 x1 (ix2 r l) = Cert.InDxIdeal.Block.dh (R := 4096) x0 x1 r l := by
  unfold Cert.InDxIdeal.Block.dh
  pointwise [val_main_v20, val_main_v19, val_main_v1, val_main_v0, dot_S4096x1792_S1024x1792_S4096x1024_1_1_0_0_n_n]

/-- The reference's gradient of the rows. -/
theorem ref_dx (x0 : Vec Ideal S4096x1792 .bf16) (x1 : Vec Ideal S1792x1024 .bf16) (x2 : Vec Ideal S4096x1024 .f32)
    (x3 : Vec Ideal S1024 .f32) (x4 : Vec Ideal S4096x1024 .f32) (r : Fin 4096) (l : Fin 1024) :
    val_main_v41 (F := Ideal) x0 x1 x2 x3 x4 (ix2 r l)
      = dxRef (fun k => Cert.InDxIdeal.Block.dh (R := 4096) x0 x1 r k) (fun k => x3 (ix1 k)) (fun k => x2 (ix2 r k)) (x4 (ix2 r l)) l := by
  simp only [← dh_apply]
  unfold val_main_v41 val_main_v40 val_main_v39 val_main_v38 val_main_v37 val_main_v36 val_main_v35 val_main_v34 val_main_v33 val_main_v32 val_main_v31 val_main_v30 val_main_v29 val_main_v28 val_main_v27 val_main_v25 val_main_v24
  generalize val_main_v20 (F := Ideal) x0 x1 = h
  pointwise [val_main_cst, val_main_cst_0, val_main_cst_1, val_main_cst_2, val_main_cst_3, val_main_cst_4, val_main_cst_5, val_main_cst_6, val_main_cst_7, val_main_v15, val_main_v14, val_main_v13, val_main_v12, val_main_v11, val_main_v10, val_main_v9, val_main_v8, val_main_v7, val_main_v6, val_main_v5, val_main_v4, val_main_v3, val_main_v2]
  simp only [Finset.univ_unique, Finset.sum_singleton]
  rfl

/-- The reference's gradient of the gain. -/
theorem ref_dg (x0 : Vec Ideal S4096x1792 .bf16) (x1 : Vec Ideal S1792x1024 .bf16) (x2 : Vec Ideal S4096x1024 .f32)
    (r : Fin 1) (l : Fin 1024) :
    val_main_v43 (F := Ideal) x0 x1 x2 (ix2 r l) = Cert.InDxIdeal.Block.dg (R := 4096) x0 x1 x2 l := by
  unfold Cert.InDxIdeal.Block.dg
  simp only [← dh_apply]
  unfold val_main_v43 val_main_v26 val_main_v23 val_main_v22 val_main_v21
  generalize val_main_v20 (F := Ideal) x0 x1 = h
  pointwise [val_main_cst, val_main_cst_0, val_main_cst_1, val_main_cst_2, val_main_cst_3, val_main_cst_4, val_main_cst_5, val_main_cst_6, val_main_cst_7, val_main_v15, val_main_v14, val_main_v13, val_main_v12, val_main_v11, val_main_v10, val_main_v9, val_main_v8, val_main_v7, val_main_v6, val_main_v5, val_main_v4, val_main_v3, val_main_v2]
  simp only [Finset.univ_unique, Finset.sum_singleton]
  exact Finset.sum_congr rfl fun k _ => mul_comm (G := EReal) _ _

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41)
          = val_main_v41 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v42)
          = val_main_v42 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43)
          = val_main_v43 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.InDxRefIdeal.Value
end
-- ==== Proof.InDxClaim.lean ====
module

public import proofs.«01_k».proof.Defs
public import proofs.«01_k».proof.Proof.InDxEq
public import proofs.«01_k».proof.Proof.Gen.Pre_finite_in_proj_dx
public import proofs.«01_k».proof.Proof.Scalar
public import Idealize.ShloMosaic.Lib.Claim

/-! The kernel for the gradient of the first norm and the reference agree on finite arguments. -/

@[expose] public section

noncomputable section

namespace Cert.Proof.InDx

open Idealize.ShloMosaic Idealize.ShloMosaic.TcCoe Idealize.SL.Sem Cert.Scalar

/-- The precondition says that every element of the first four arguments is a real number. -/
theorem reals (m : (ℓ : Loc Cert.InDxIdeal.nD Cert.InDxIdeal.τ Cert.InDxIdeal.sig) → Buf (Elt Ideal) ℓ)
    (h : Cert.Pre_InDxIdeal_finite_in_proj_dx m) (c : Dev Cert.InDxIdeal.nD) :
    (∀ i, IsReal (m ((c : Thread Cert.InDxIdeal.nD Cert.InDxIdeal.τ).loc Cert.InDxIdeal.main_arg0) i))
    ∧ (∀ i, IsReal (m ((c : Thread Cert.InDxIdeal.nD Cert.InDxIdeal.τ).loc Cert.InDxIdeal.main_arg1) i))
    ∧ (∀ i, IsReal (m ((c : Thread Cert.InDxIdeal.nD Cert.InDxIdeal.τ).loc Cert.InDxIdeal.main_arg2) i))
    ∧ (∀ i, IsReal (m ((c : Thread Cert.InDxIdeal.nD Cert.InDxIdeal.τ).loc Cert.InDxIdeal.main_arg3) i)) := by
  obtain ⟨h0, h1, h2, h3⟩ := h c
  refine ⟨fun i => ?_, fun i => ?_, fun i => ?_, fun i => ?_⟩
  · have := congrFun h0 i
    exact isReal_of_abs_lt (inf_bf16 ▸ this)
  · have := congrFun h1 i
    exact isReal_of_abs_lt (inf_bf16 ▸ this)
  · have := congrFun h2 i
    exact isReal_of_abs_lt (inf_f32 ▸ this)
  · have := congrFun h3 i
    exact isReal_of_abs_lt (inf_f32 ▸ this)

/-- On real arrays every element of the product is real. -/
theorem dh_real (a : (⟨2, ![4096, 1792]⟩ : Shape).Idx → EReal) (w : (⟨2, ![1792, 1024]⟩ : Shape).Idx → EReal) (ha : ∀ i, IsReal (a i))
    (hw : ∀ i, IsReal (w i)) (r : Fin 4096) (l : Fin 1024) : IsReal (Cert.InDxIdeal.Block.dh a w r l) :=
  IsReal.sum _ _ fun k => (ha _).mul (hw _)

/-- What the kernel leaves in its result is what the reference leaves in its own, on finite arguments. -/
theorem algebraic : Cert.algebraic_InDxIdeal_InDxRefIdeal_pre_finite_in_proj_dx := by
  pair_intro
  · run_from Cert.InDxIdeal.Value.run_blocks m g
  · run_from Cert.InDxRefIdeal.Value.run_val m' g'
    · rw [Cert.InDxIdeal.Block.final5 m c]
      obtain ⟨h0, h1, h2, h3⟩ := reals m hpre c
      funext i
      rw [eq_ix2 i]
      exact (Cert.InDxRefIdeal.Value.ref_dx _ _ _ _ _ _ _).trans (Cert.Norm.dx_eq _ _ _ _ _ (fun k => dh_real _ _ h0 h1 _ k) (fun k => h3 _) (fun k => h2 _)).symm
    · rw [Cert.InDxIdeal.Block.final6 m c]
      obtain ⟨h0, h1, h2, h3⟩ := reals m hpre c
      funext i
      rw [eq_ix2 i]
      exact (Cert.InDxRefIdeal.Value.ref_dx _ _ _ _ _ _ _).trans (Cert.Norm.dx_eq _ _ _ _ _ (fun k => dh_real _ _ h0 h1 _ k) (fun k => h3 _) (fun k => h2 _)).symm
    · rw [Cert.InDxIdeal.Block.final7 m c]
      funext i
      rw [eq_ix2 i]
      exact Cert.InDxRefIdeal.Value.ref_dg _ _ _ _ _

/-- The reference runs and leaves its arguments unchanged. -/
theorem frame_ref : Cert.quiescent_InDxRefIdeal := fun m ρ _ =>
  (θ_run Cert.InDxRefIdeal.defs _ _).mono (fun r h => ⟨fun c => (h c).2.2.2, sem_eq_zero_of_no_sems (by decide) r.2⟩)
    (Cert.InDxRefIdeal.Value.run (F := Ideal) m ρ)

end Cert.Proof.InDx
end
-- ==== Proof.InDxFirstBlock.lean ====
module

public import proofs.«01_k».proof.Proof.Gen.InDxFirstIdeal.Run
public import Idealize.ShloMosaic.Lib.Pointwise
public import Idealize.ShloMosaic.Lib.Pipeline.ValueKit
public import Idealize.ShloMosaic.Lib.Pipeline.ReadBack
public import proofs.«01_k».proof.Proof.InDxBlock

/-! What one block of the kernel for the gradient of the first norm over the first half of the rows writes, and what its
    result arrays hold. -/

@[expose] public section

noncomputable section

namespace Cert.InDxFirstIdeal.Block

open Idealize.ShloMosaic Idealize.ShloMosaic.TcCoe Cert.InDxFirstIdeal Cert.InDxFirstIdeal.Gen Cert.InDxFirstIdeal.Value Cert.Norm
open Cert.InDxIdeal.Block (dh dx dg)

/-- The half of an array's rows that the call reads. -/
def half {N : Nat} (a : (⟨2, ![4096, N]⟩ : Shape).Idx → EReal) : (⟨2, ![2048, N]⟩ : Shape).Idx → EReal :=
  fun i => a (ix2 ⟨(i 0).val, lt_of_lt_of_le ((i 0).isLt) (by norm_num)⟩ (i 1))

/-- One block's gradient of the normalised rows. -/
theorem pay3_apply (x0 : Vec Ideal S512x1792 .bf16) (x1 : Vec Ideal S1792x1024 .bf16) (r : Fin 512) (l : Fin 1024) :
    k0_pay3 (F := Ideal) x0 x1 (ix2 r l) = dh (R := 512) x0 x1 r l := by
  unfold dh
  pointwise [k0_pay3, dot_S512x1792_S1792x1024_S512x1024_1_0_0_1_n_n]

/-- One step of the accumulation of the gain's gradient, entry by entry. -/
theorem pay2_ix (x0 : Vec Ideal S512x1792 .bf16) (x1 : Vec Ideal S1792x1024 .bf16) (x2 : Vec Ideal S512x1024 .f32) (o : Vec Ideal S1x1024 .f32)
    (r : Fin 1) (l : Fin 1024) :
    k0_pay2 (F := Ideal) (k0_pay3 x0 x1) (k0_pay5 x2) o (ix2 r l) = (o (ix2 r l) : EReal) + dg (R := 512) x0 x1 x2 l := by
  unfold dg
  simp only [← pay3_apply]
  generalize k0_pay3 (F := Ideal) x0 x1 = h
  pointwise [k0_pay2, k0_pay5, k0_pay4]
  rfl

/-- One step of the accumulation of the gain's gradient. -/
theorem pay2_apply (x0 : Vec Ideal S512x1792 .bf16) (x1 : Vec Ideal S1792x1024 .bf16) (x2 : Vec Ideal S512x1024 .f32) (o : Vec Ideal S1x1024 .f32)
    (j : S1x1024.Idx) :
    k0_pay2 (F := Ideal) (k0_pay3 x0 x1) (k0_pay5 x2) o j = (o j : EReal) + dg (R := 512) x0 x1 x2 (j 1) := by
  rw [eq_ix2 j]
  exact pay2_ix x0 x1 x2 o (j 0) (j 1)

/-- The accumulator starts at zero. -/
theorem pay1_apply (j : S1x1024.Idx) : k0_pay1 (F := Ideal) j = 0 := by
  rw [eq_ix2 j]
  pointwise [k0_pay1]

/-- One block's gradient of the rows, entry by entry. -/
theorem pay6_ix (x0 : Vec Ideal S512x1792 .bf16) (x1 : Vec Ideal S1792x1024 .bf16) (x2 : Vec Ideal S512x1024 .f32) (x3 : Vec Ideal S1x1024 .f32)
    (x4 : Vec Ideal S512x1024 .f32) (r : Fin 512) (l : Fin 1024) :
    k0_pay6 (F := Ideal) x0 x1 x2 x3 x4 (ix2 r l) = dx (R := 512) x0 x1 x2 (fun k => x3 (ix2 0 k)) x4 r l := by
  unfold dx
  simp only [← pay3_apply]
  unfold k0_pay6
  generalize k0_pay3 (F := Ideal) x0 x1 = h
  pointwise [k0_pay5, k0_pay4]
  rfl

/-- One block's gradient of the rows. -/
theorem pay6_apply (x0 : Vec Ideal S512x1792 .bf16) (x1 : Vec Ideal S1792x1024 .bf16) (x2 : Vec Ideal S512x1024 .f32) (x3 : Vec Ideal S1x1024 .f32)
    (x4 : Vec Ideal S512x1024 .f32) (j : S512x1024.Idx) :
    k0_pay6 (F := Ideal) x0 x1 x2 x3 x4 j = dx (R := 512) x0 x1 x2 (fun k => x3 (ix2 0 k)) x4 (j 0) (j 1) := by
  rw [eq_ix2 j]
  exact pay6_ix x0 x1 x2 x3 x4 (j 0) (j 1)

/-- The same values in the second result's format. -/
theorem pay7_apply (x0 : Vec Ideal S512x1792 .bf16) (x1 : Vec Ideal S1792x1024 .bf16) (x2 : Vec Ideal S512x1024 .f32) (x3 : Vec Ideal S1x1024 .f32)
    (x4 : Vec Ideal S512x1024 .f32) (j : S512x1024.Idx) :
    k0_pay7 (F := Ideal) x0 x1 x2 x3 x4 j = k0_pay6 (F := Ideal) x0 x1 x2 x3 x4 j := by
  rw [eq_ix2 j]
  pointwise [k0_pay7]

variable (m : (ℓ : Loc nD τ sig) → Buf (Elt Ideal) ℓ)

/-- One element of the rows' gradient over the whole arrays. -/
def gx (c : Dev nD) (r : Fin 4096) (l : Fin 1024) : EReal :=
  dx (R := 4096) (m ((c : Thread nD τ).loc main_arg0)) (m ((c : Thread nD τ).loc main_arg1)) (m ((c : Thread nD τ).loc main_arg2))
    (fun k => m ((c : Thread nD τ).loc main_arg3) (ix1 k)) (m ((c : Thread nD τ).loc main_arg4)) r l

/-- What the third result array is shown to hold. -/
def G7 (c : Dev nD) : Buf (Elt Ideal) ((c : Thread nD τ).loc main_v1_2) := fun i =>
  dg (R := 2048) (half (m ((c : Thread nD τ).loc main_arg0))) (m ((c : Thread nD τ).loc main_arg1)) (half (m ((c : Thread nD τ).loc main_arg2))) (i 1)

/-- Each window's block index at each grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The first window's block at a point, read off the array. -/
theorem blkA (c : Dev nD) (t : Fin cfg0.N) (r : Fin 512) (q : Fin 4096) (hq : q.val = t.val * 512 + r.val) (k : Fin 1792) :
    iblk m c 0 t (ix2 r k) = m ((c : Thread nD τ).loc main_arg0) (ix2 q k) := by
  have i0 := idx t
  rw [← V_main_arg0 m c]
  blk_ext! [iblk, i0, hq]

/-- The weight's block at a point. -/
theorem blkW (c : Dev nD) (t : Fin cfg0.N) (k : Fin 1792) (l : Fin 1024) :
    iblk m c 1 t (ix2 k l) = m ((c : Thread nD τ).loc main_arg1) (ix2 k l) := by
  have i0 := idx t
  rw [← V_main_arg1 m c]
  blk_ext! [iblk, i0]

/-- The rows' block at a point. -/
theorem blkX (c : Dev nD) (t : Fin cfg0.N) (r : Fin 512) (q : Fin 4096) (hq : q.val = t.val * 512 + r.val) (k : Fin 1024) :
    iblk m c 2 t (ix2 r k) = m ((c : Thread nD τ).loc main_arg2) (ix2 q k) := by
  have i0 := idx t
  rw [← V_main_arg2 m c]
  blk_ext! [iblk, i0, hq]

/-- The gain the host lays out as a row. -/
theorem gain (c : Dev nD) (k : Fin 1024) : V m c main_v0 (ix2 0 k) = m ((c : Thread nD τ).loc main_arg3) (ix1 k) := by
  have h : V m c main_v0 = broadcastInDim S1x1024 ![1] bcast_S1024_S1x1024_1 (m ((c : Thread nD τ).loc main_arg3)) := by
    show StableHlo.after [hostOps0].flatten (fun b => m (c, b)) (Proc.devRef .tc main_v0) = _
    simp only [hostOps0, List.flatten_cons, List.flatten_nil, List.append_nil]
    after_results
  rw [h]
  pointwise []

/-- The gain's block at a point. -/
theorem blkG (c : Dev nD) (t : Fin cfg0.N) (k : Fin 1024) :
    iblk m c 3 t (ix2 0 k) = m ((c : Thread nD τ).loc main_arg3) (ix1 k) := by
  have i0 := idx t
  rw [← gain m c k]
  blk_ext! [iblk, i0]

/-- The added gradient's block at a point. -/
theorem blkD (c : Dev nD) (t : Fin cfg0.N) (r : Fin 512) (q : Fin 4096) (hq : q.val = t.val * 512 + r.val) (k : Fin 1024) :
    iblk m c 4 t (ix2 r k) = m ((c : Thread nD τ).loc main_arg4) (ix2 q k) := by
  have i0 := idx t
  rw [← V_main_arg4 m c]
  blk_ext! [iblk, i0, hq]

/-- The product's block at a point. -/
theorem blkH (c : Dev nD) (t : Fin cfg0.N) (r : Fin 512) (q : Fin 4096) (hq : q.val = t.val * 512 + r.val) (l : Fin 1024) :
    dh (R := 512) (iblk m c 0 t) (iblk m c 1 t) r l
      = dh (R := 4096) (m ((c : Thread nD τ).loc main_arg0)) (m ((c : Thread nD τ).loc main_arg1)) q l := by
  unfold dh
  simp only [blkA m c t r q hq, blkW m c t]

/-- The rows' gradient at a point, placed in the whole array. -/
theorem blkDx (c : Dev nD) (t : Fin cfg0.N) (r : Fin 512) (q : Fin 4096) (hq : q.val = t.val * 512 + r.val) (l : Fin 1024) :
    dx (R := 512) (iblk m c 0 t) (iblk m c 1 t) (iblk m c 2 t) (fun k => iblk m c 3 t (ix2 0 k)) (iblk m c 4 t) r l
      = gx m c q l := by
  unfold gx dx
  simp only [blkH m c t r q hq, blkX m c t r q hq, blkG m c t, blkD m c t r q hq]

/-- What a point leaves in the first result's buffer. -/
theorem out5 (c : Dev nD) (t : Fin cfg0.N) (j : S512x1024.Idx) :
    (outsAt0 m c t.val t.isLt).1 j
      = dx (R := 512) (iblk m c 0 t) (iblk m c 1 t) (iblk m c 2 t) (fun k => iblk m c 3 t (ix2 0 k)) (iblk m c 4 t) (j 0) (j 1) := by
  by_cases h : t.val % 4 = 0
  · rw [outsAt0_A m c t h]
    generalize iblk m c 0 t = x0
    generalize iblk m c 1 t = x1
    generalize iblk m c 2 t = x2
    generalize iblk m c 3 t = x3
    generalize iblk m c 4 t = x4
    frame_out
    exact pay6_apply _ _ _ _ _ _
  · rw [outsAt0_B m c t h]
    generalize iblk m c 0 t = x0
    generalize iblk m c 1 t = x1
    generalize iblk m c 2 t = x2
    generalize iblk m c 3 t = x3
    generalize iblk m c 4 t = x4
    frame_out
    exact pay6_apply _ _ _ _ _ _

/-- What a point leaves in the second result's buffer. -/
theorem out6 (c : Dev nD) (t : Fin cfg0.N) (j : S512x1024.Idx) :
    (outsAt0 m c t.val t.isLt).2.1 j
      = dx (R := 512) (iblk m c 0 t) (iblk m c 1 t) (iblk m c 2 t) (fun k => iblk m c 3 t (ix2 0 k)) (iblk m c 4 t) (j 0) (j 1) := by
  by_cases h : t.val % 4 = 0
  · rw [outsAt0_A m c t h]
    generalize iblk m c 0 t = x0
    generalize iblk m c 1 t = x1
    generalize iblk m c 2 t = x2
    generalize iblk m c 3 t = x3
    generalize iblk m c 4 t = x4
    frame_out
    exact (pay7_apply _ _ _ _ _ _).trans (pay6_apply _ _ _ _ _ _)
  · rw [outsAt0_B m c t h]
    generalize iblk m c 0 t = x0
    generalize iblk m c 1 t = x1
    generalize iblk m c 2 t = x2
    generalize iblk m c 3 t = x3
    generalize iblk m c 4 t = x4
    frame_out
    exact (pay7_apply _ _ _ _ _ _).trans (pay6_apply _ _ _ _ _ _)

/-- What the accumulator of the gain's gradient holds when it is written back. -/
theorem acc_eq (c : Dev nD) (t : Fin cfg0.N) (hf : (cfg0.win 7).flush t = true) (j : S1x1024.Idx) :
    (outsAt0 m c t.val t.isLt).2.2 j = ∑ s : Fin 4,
      dg (R := 512) (iblk m c 0 ⟨4 * (t.val / 4) + s.val, Pipeline.run_point_lt_of_flush t ((flush0_7 t).mp hf) s⟩)
        (iblk m c 1 ⟨4 * (t.val / 4) + s.val, Pipeline.run_point_lt_of_flush t ((flush0_7 t).mp hf) s⟩)
        (iblk m c 2 ⟨4 * (t.val / 4) + s.val, Pipeline.run_point_lt_of_flush t ((flush0_7 t).mp hf) s⟩) (j 1) := by
  rw [Pipeline.eq_sum_fin_of_reset_step_apply_of_flush (fun n h => (outsAt0 m c n h).2.2) 4 (fun _ => (0 : EReal))
    (fun p (j : S1x1024.Idx) => dg (R := 512) (iblk m c 0 p) (iblk m c 1 p) (iblk m c 2 p) (j 1))
    (fun t h j => by rw [outsAt0_A m c t h]; frame_out; exact (pay2_apply _ _ _ _ _).trans (congrArg (· + _) (pay1_apply j)))
    (fun t h j => by rw [outsAt0_B m c t h]; frame_out; exact pay2_apply _ _ _ _ _) t ((flush0_7 t).mp hf) j, zero_add]

/-- The first result array after the run: the call writes the first half of its rows. -/
theorem final5 (c : Dev nD) : (dats m 0 c).arrAt 5 cfg0.N
    = fun i => if (i 0 : ℕ) / 512 < 4 then gx m c (i 0) (i 1) else V m c main_v1_0 i := by
  refine (dats m 0 c).arrAt_eq_of_coversWhere 5 (fun i => gx m c (i 0) (i 1)) (fun β => β (0 : Fin _) < 4) (by decide +kernel)
    (fun t hf y => ?_) (fun j => Iff.rfl)
  blk_simp
  rw [after0_5]
  refine (out5 m c t y).trans ((blkDx m c t (y 0) ((win0_5.blk t).view.emb y 0) (by blk_simp [idx t]) (y 1)).trans ?_)
  have e1 : ((win0_5.blk t).view.emb y 1 : Fin 1024) = y 1 := Fin.ext (by blk_simp [idx t])
  rw [e1]

/-- The second result array after the run: the call writes the first half of its rows. -/
theorem final6 (c : Dev nD) : (dats m 0 c).arrAt 6 cfg0.N
    = fun i => if (i 0 : ℕ) / 512 < 4 then gx m c (i 0) (i 1) else V m c main_v1_1 i := by
  refine (dats m 0 c).arrAt_eq_of_coversWhere 6 (fun i => gx m c (i 0) (i 1)) (fun β => β (0 : Fin _) < 4) (by decide +kernel)
    (fun t hf y => ?_) (fun j => Iff.rfl)
  blk_simp
  rw [after0_6]
  refine (out6 m c t y).trans ((blkDx m c t (y 0) ((win0_6.blk t).view.emb y 0) (by blk_simp [idx t]) (y 1)).trans ?_)
  have e1 : ((win0_6.blk t).view.emb y 1 : Fin 1024) = y 1 := Fin.ext (by blk_simp [idx t])
  rw [e1]

/-- The third result array after the run. -/
theorem final7 (c : Dev nD) : (dats m 0 c).arrAt 7 cfg0.N = G7 m c := by
  refine (dats m 0 c).arrAt_eq_of_covers 7 _ (by decide +kernel) fun t hf y => ?_
  blk_simp
  rw [after0_7]
  refine (acc_eq m c t hf y).trans ?_
  have e1 : ((win0_7.blk t).view.emb y 1 : Fin 1024) = y 1 := Fin.ext (by blk_simp [idx t])
  unfold G7
  rw [e1]
  unfold dg
  have ht : t.val / 4 = 0 := Nat.div_eq_of_lt t.isLt
  refine Fin.sum_mul_add_congr fun s k hl => ?_
  have hq : s.val * 512 + k.val = (4 * (t.val / 4) + s.val) * 512 + k.val := by
    rw [ht]
    omega
  exact congrArg₂ (fun a b : EReal => a * b) (blkH m c ⟨_, Pipeline.run_point_lt_of_flush t ((flush0_7 t).mp hf) s⟩ k ⟨s.val * 512 + k.val, by omega⟩ hq (y 1))
    (congrArg₂ (fun a b : EReal => a * b) (blkX m c ⟨_, Pipeline.run_point_lt_of_flush t ((flush0_7 t).mp hf) s⟩ k ⟨s.val * 512 + k.val, by omega⟩ hq (y 1))
      (congrArg inv (funext fun i => blkX m c ⟨_, Pipeline.run_point_lt_of_flush t ((flush0_7 t).mp hf) s⟩ k ⟨s.val * 512 + k.val, by omega⟩ hq i)))

end Cert.InDxFirstIdeal.Block
end
-- ==== Proof.InDxFirstEq.lean ====
module

public import proofs.«01_k».proof.Proof.InDxFirstBlock
public import proofs.«01_k».proof.Proof.Gen.InDxFirstRefIdeal.Read
public import proofs.«01_k».proof.Proof.Gen.InDxFirstRefIdeal.Run

/-! The reference's results for the gradient of the first norm over the first half of the rows, element by element. -/

@[expose] public section

noncomputable section

namespace Cert.InDxFirstRefIdeal.Value

open Cert.Norm Idealize.ShloMosaic Idealize.ShloMosaic.TcCoe Idealize.SL.Sem Cert.InDxFirstRefIdeal Cert.InDxFirstRefIdeal.Gen Cert.InDxFirstRefIdeal.Read
open Cert.InDxIdeal.Block (dh dx dg)
open Cert.InDxFirstIdeal.Block (half)

/-- The reference's gradient of the normalised rows. -/
theorem dh_apply (x0 : Vec Ideal S4096x1792 .bf16) (x1 : Vec Ideal S1792x1024 .bf16) (r : Fin 2048) (l : Fin 1024) :
    val_main_v23 (F := Ideal) x0 x1 (ix2 r l) = dh (R := 2048) (half x0) x1 r l := by
  unfold dh
  pointwise [val_main_v23, val_main_v22, val_main_v4, val_main_v3, val_main_v0, dot_S2048x1792_S1024x1792_S2048x1024_1_1_0_0_n_n]
  rfl

/-- The reference's gradient of the rows. -/
theorem ref_dx (x0 : Vec Ideal S4096x1792 .bf16) (x1 : Vec Ideal S1792x1024 .bf16) (x2 : Vec Ideal S4096x1024 .f32)
    (x3 : Vec Ideal S1024 .f32) (x4 : Vec Ideal S4096x1024 .f32) (r : Fin 2048) (l : Fin 1024) :
    val_main_v44 (F := Ideal) x0 x1 x2 x3 x4 (ix2 r l)
      = dxRef (fun k => dh (R := 2048) (half x0) x1 r k) (fun k => x3 (ix1 k)) (fun k => half x2 (ix2 r k)) (half x4 (ix2 r l)) l := by
  simp only [← dh_apply]
  unfold val_main_v44 val_main_v43 val_main_v42 val_main_v41 val_main_v40 val_main_v39 val_main_v38 val_main_v37 val_main_v36 val_main_v35 val_main_v34 val_main_v33 val_main_v32 val_main_v31 val_main_v30 val_main_v28 val_main_v27
  generalize val_main_v23 (F := Ideal) x0 x1 = h
  pointwise [val_main_cst, val_main_cst_0, val_main_cst_1, val_main_cst_2, val_main_cst_3, val_main_cst_4, val_main_cst_5, val_main_cst_6, val_main_cst_7, val_main_v18, val_main_v17, val_main_v16, val_main_v15, val_main_v14, val_main_v13, val_main_v12, val_main_v11, val_main_v10, val_main_v9, val_main_v8, val_main_v7, val_main_v6, val_main_v5, val_main_v1, val_main_v2]
  simp only [Finset.univ_unique, Finset.sum_singleton]
  rfl

/-- The reference's gradient of the gain. -/
theorem ref_dg (x0 : Vec Ideal S4096x1792 .bf16) (x1 : Vec Ideal S1792x1024 .bf16) (x2 : Vec Ideal S4096x1024 .f32)
    (r : Fin 1) (l : Fin 1024) :
    val_main_v46 (F := Ideal) x0 x1 x2 (ix2 r l) = dg (R := 2048) (half x0) x1 (half x2) l := by
  unfold dg
  simp only [← dh_apply]
  unfold val_main_v46 val_main_v29 val_main_v26 val_main_v25 val_main_v24
  generalize val_main_v23 (F := Ideal) x0 x1 = h
  pointwise [val_main_cst, val_main_cst_0, val_main_cst_1, val_main_cst_2, val_main_cst_3, val_main_cst_4, val_main_cst_5, val_main_cst_6, val_main_cst_7, val_main_v18, val_main_v17, val_main_v16, val_main_v15, val_main_v14, val_main_v13, val_main_v12, val_main_v11, val_main_v10, val_main_v9, val_main_v8, val_main_v7, val_main_v6, val_main_v5, val_main_v1, val_main_v2]
  simp only [Finset.univ_unique, Finset.sum_singleton]
  exact Finset.sum_congr rfl fun k _ => mul_comm (G := EReal) _ _

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
          = val_main_v44 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v45)
          = val_main_v45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v46)
          = val_main_v46 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.InDxFirstRefIdeal.Value
end
-- ==== Proof.InDxFirstClaim.lean ====
module

public import proofs.«01_k».proof.Defs
public import proofs.«01_k».proof.Proof.InDxFirstEq
public import proofs.«01_k».proof.Proof.Gen.Pre_finite_in_proj_dx_first
public import proofs.«01_k».proof.Proof.Scalar
public import Idealize.ShloMosaic.Lib.Claim

/-! The kernel for the gradient of the first norm over the first half of the rows and the reference agree on finite arguments. -/

@[expose] public section

noncomputable section

namespace Cert.Proof.InDxFirst

open Idealize.ShloMosaic Idealize.ShloMosaic.TcCoe Idealize.SL.Sem Cert.Scalar

/-- The precondition says that every element of the first four arguments is a real number. -/
theorem reals (m : (ℓ : Loc Cert.InDxFirstIdeal.nD Cert.InDxFirstIdeal.τ Cert.InDxFirstIdeal.sig) → Buf (Elt Ideal) ℓ)
    (h : Cert.Pre_InDxFirstIdeal_finite_in_proj_dx_first m) (c : Dev Cert.InDxFirstIdeal.nD) :
    (∀ i, IsReal (m ((c : Thread Cert.InDxFirstIdeal.nD Cert.InDxFirstIdeal.τ).loc Cert.InDxFirstIdeal.main_arg0) i))
    ∧ (∀ i, IsReal (m ((c : Thread Cert.InDxFirstIdeal.nD Cert.InDxFirstIdeal.τ).loc Cert.InDxFirstIdeal.main_arg1) i))
    ∧ (∀ i, IsReal (m ((c : Thread Cert.InDxFirstIdeal.nD Cert.InDxFirstIdeal.τ).loc Cert.InDxFirstIdeal.main_arg2) i))
    ∧ (∀ i, IsReal (m ((c : Thread Cert.InDxFirstIdeal.nD Cert.InDxFirstIdeal.τ).loc Cert.InDxFirstIdeal.main_arg3) i)) := by
  obtain ⟨h0, h1, h2, h3⟩ := h c
  refine ⟨fun i => ?_, fun i => ?_, fun i => ?_, fun i => ?_⟩
  · have := congrFun h0 i
    exact isReal_of_abs_lt (inf_bf16 ▸ this)
  · have := congrFun h1 i
    exact isReal_of_abs_lt (inf_bf16 ▸ this)
  · have := congrFun h2 i
    exact isReal_of_abs_lt (inf_f32 ▸ this)
  · have := congrFun h3 i
    exact isReal_of_abs_lt (inf_f32 ▸ this)

/-- On real arrays every element of the product is real. -/
theorem dh_real (a : (⟨2, ![4096, 1792]⟩ : Shape).Idx → EReal) (w : (⟨2, ![1792, 1024]⟩ : Shape).Idx → EReal) (ha : ∀ i, IsReal (a i))
    (hw : ∀ i, IsReal (w i)) (r : Fin 4096) (l : Fin 1024) : IsReal (Cert.InDxIdeal.Block.dh a w r l) :=
  IsReal.sum _ _ fun k => (ha _).mul (hw _)

/-- A row of the first half, in the whole array. -/
theorem row_lt (p : Fin 2048) : p.val / 512 < 4 := by omega

/-- The reference's gradient at a row of its half is the kernel's at the row of the whole array. -/
theorem dx_row (x0 : Vec Ideal Cert.InDxFirstRefIdeal.S4096x1792 .bf16) (x1 : Vec Ideal Cert.InDxFirstRefIdeal.S1792x1024 .bf16)
    (x2 : Vec Ideal Cert.InDxFirstRefIdeal.S4096x1024 .f32) (x3 : Vec Ideal Cert.InDxFirstRefIdeal.S1024 .f32)
    (x4 : Vec Ideal Cert.InDxFirstRefIdeal.S4096x1024 .f32) (h0 : ∀ i, IsReal (x0 i)) (h1 : ∀ i, IsReal (x1 i)) (h2 : ∀ i, IsReal (x2 i))
    (h3 : ∀ i, IsReal (x3 i)) (p : Fin 2048) (l : Fin 1024) :
    Cert.InDxFirstRefIdeal.Read.val_main_v44 (F := Ideal) x0 x1 x2 x3 x4 (ix2 p l)
      = Cert.InDxIdeal.Block.dx (R := 4096) x0 x1 x2 (fun k => x3 (ix1 k)) x4 ⟨p.val, by omega⟩ l :=
  (Cert.InDxFirstRefIdeal.Value.ref_dx _ _ _ _ _ _ _).trans
    (Cert.Norm.dx_eq _ _ _ _ _ (fun k => dh_real _ _ h0 h1 _ k) (fun k => h3 _) (fun k => h2 _)).symm

/-- The half of the kernel's first result array that it writes. -/
theorem first_half (m : (ℓ : Loc Cert.InDxFirstIdeal.nD Cert.InDxFirstIdeal.τ Cert.InDxFirstIdeal.sig) → Buf (Elt Ideal) ℓ)
    (c : Dev Cert.InDxFirstIdeal.nD) (p : Fin 2048) (l : Fin 1024) :
    extractStridedSlice Cert.InDxFirstIdeal.S2048x1024 ![0, 0] (Cert.InDxFirstIdeal.Value.reg_main_v1_0 (F := Ideal) m c)
        Cert.InDxFirstIdeal.Gen.slices_S4096x1024_S2048x1024_0_0 (ix2 p l)
      = Cert.InDxFirstIdeal.Block.gx m c ⟨p.val, by omega⟩ l := by
  have h := Cert.InDxFirstIdeal.Block.final5 m c
  unfold Cert.InDxFirstIdeal.Value.reg_main_v1_0
  rw [h]
  pointwise []
  exact if_pos (row_lt p)

/-- The half of the kernel's second result array that it writes. -/
theorem second_half (m : (ℓ : Loc Cert.InDxFirstIdeal.nD Cert.InDxFirstIdeal.τ Cert.InDxFirstIdeal.sig) → Buf (Elt Ideal) ℓ)
    (c : Dev Cert.InDxFirstIdeal.nD) (p : Fin 2048) (l : Fin 1024) :
    extractStridedSlice Cert.InDxFirstIdeal.S2048x1024 ![0, 0] (Cert.InDxFirstIdeal.Value.reg_main_v1_1 (F := Ideal) m c)
        Cert.InDxFirstIdeal.Gen.slices_S4096x1024_S2048x1024_0_0 (ix2 p l)
      = Cert.InDxFirstIdeal.Block.gx m c ⟨p.val, by omega⟩ l := by
  have h := Cert.InDxFirstIdeal.Block.final6 m c
  unfold Cert.InDxFirstIdeal.Value.reg_main_v1_1
  rw [h]
  pointwise []
  exact if_pos (row_lt p)

/-- What the kernel leaves in its results is what the reference leaves in its own, on finite arguments. -/
theorem algebraic : Cert.algebraic_InDxFirstIdeal_InDxFirstRefIdeal_pre_finite_in_proj_dx_first := by
  pair_intro
  · run_from Cert.InDxFirstIdeal.Value.run m g
  · run_from Cert.InDxFirstRefIdeal.Value.run_val m' g'
    · obtain ⟨h0, h1, h2, h3⟩ := reals m hpre c
      funext i
      rw [eq_ix2 i]
      exact (dx_row _ _ _ _ _ h0 h1 h2 h3 (i 0) (i 1)).trans (first_half m c (i 0) (i 1)).symm
    · obtain ⟨h0, h1, h2, h3⟩ := reals m hpre c
      funext i
      rw [eq_ix2 i]
      exact (dx_row _ _ _ _ _ h0 h1 h2 h3 (i 0) (i 1)).trans (second_half m c (i 0) (i 1)).symm
    · refine Eq.trans ?_ (Cert.InDxFirstIdeal.Block.final7 m c).symm
      funext i
      rw [eq_ix2 i]
      exact Cert.InDxFirstRefIdeal.Value.ref_dg _ _ _ _ _

/-- The reference runs and leaves its arguments unchanged. -/
theorem frame_ref : Cert.quiescent_InDxFirstRefIdeal := fun m ρ _ =>
  (θ_run Cert.InDxFirstRefIdeal.defs _ _).mono (fun r h => ⟨fun c => (h c).2.2.2, sem_eq_zero_of_no_sems (by decide) r.2⟩)
    (Cert.InDxFirstRefIdeal.Value.run (F := Ideal) m ρ)

end Cert.Proof.InDxFirst
end
-- ==== Proof.InDxRestBlock.lean ====
module

public import proofs.«01_k».proof.Proof.Gen.InDxRestIdeal.Value
public import Idealize.ShloMosaic.Lib.Pointwise
public import Idealize.ShloMosaic.Lib.Pipeline.ValueKit
public import Idealize.ShloMosaic.Lib.Pipeline.ReadBack
public import proofs.«01_k».proof.Proof.InDxBlock

/-! What one block of the kernel for the gradient of the first norm's other half of rows computes, and what its result
    arrays hold. -/

@[expose] public section

noncomputable section

namespace Cert.InDxRestIdeal.Block

open Idealize.ShloMosaic Idealize.ShloMosaic.TcCoe Cert.InDxRestIdeal Cert.InDxRestIdeal.Gen Cert.InDxRestIdeal.Value Cert.Norm
open Cert.InDxIdeal.Block (dh dx dg)

/-- The half of an array's rows that the call reads. -/
def half {N : Nat} (a : (⟨2, ![4096, N]⟩ : Shape).Idx → EReal) : (⟨2, ![2048, N]⟩ : Shape).Idx → EReal :=
  fun i => a (ix2 ⟨2048 + (i 0).val, lt_of_lt_of_le (Nat.add_lt_add_left (i 0).isLt 2048) (by norm_num)⟩ (i 1))

/-- One block's gradient of the normalised rows. -/
theorem pay2_apply (x0 : Vec Ideal S512x1792 .bf16) (x1 : Vec Ideal S1792x1024 .bf16) (r : Fin 512) (l : Fin 1024) :
    k0_pay2 (F := Ideal) x0 x1 (ix2 r l) = dh (R := 512) x0 x1 r l := by
  unfold dh
  pointwise [k0_pay2, dot_S512x1792_S1792x1024_S512x1024_1_0_0_1_n_n]

/-- One block's gradient of the rows, entry by entry. -/
theorem pay5_ix (x0 : Vec Ideal S512x1792 .bf16) (x1 : Vec Ideal S1792x1024 .bf16) (x2 : Vec Ideal S512x1024 .f32) (x3 : Vec Ideal S1x1024 .f32)
    (x4 : Vec Ideal S512x1024 .f32) (r : Fin 512) (l : Fin 1024) :
    k0_pay5 (F := Ideal) x0 x1 x2 x3 x4 (ix2 r l) = dx (R := 512) x0 x1 x2 (fun k => x3 (ix2 0 k)) x4 r l := by
  unfold dx
  simp only [← pay2_apply]
  unfold k0_pay5
  generalize k0_pay2 (F := Ideal) x0 x1 = h
  pointwise [k0_pay4, k0_pay3]
  rfl

/-- One block's gradient of the rows. -/
theorem pay5_apply (x0 : Vec Ideal S512x1792 .bf16) (x1 : Vec Ideal S1792x1024 .bf16) (x2 : Vec Ideal S512x1024 .f32) (x3 : Vec Ideal S1x1024 .f32)
    (x4 : Vec Ideal S512x1024 .f32) (j : S512x1024.Idx) :
    k0_pay5 (F := Ideal) x0 x1 x2 x3 x4 j = dx (R := 512) x0 x1 x2 (fun k => x3 (ix2 0 k)) x4 (j 0) (j 1) := by
  rw [eq_ix2 j]
  exact pay5_ix x0 x1 x2 x3 x4 (j 0) (j 1)

/-- The same values in the second result's format. -/
theorem pay6_apply (x0 : Vec Ideal S512x1792 .bf16) (x1 : Vec Ideal S1792x1024 .bf16) (x2 : Vec Ideal S512x1024 .f32) (x3 : Vec Ideal S1x1024 .f32)
    (x4 : Vec Ideal S512x1024 .f32) (j : S512x1024.Idx) :
    k0_pay6 (F := Ideal) x0 x1 x2 x3 x4 j = k0_pay5 (F := Ideal) x0 x1 x2 x3 x4 j := by
  rw [eq_ix2 j]
  pointwise [k0_pay6]

/-- One step of the accumulation of the gain's gradient, entry by entry. -/
theorem pay1_ix (x0 : Vec Ideal S512x1792 .bf16) (x1 : Vec Ideal S1792x1024 .bf16) (x2 : Vec Ideal S512x1024 .f32) (o : Vec Ideal S1x1024 .f32)
    (r : Fin 1) (l : Fin 1024) :
    k0_pay1 (F := Ideal) (k0_pay2 x0 x1) (k0_pay4 x2) o (ix2 r l) = (o (ix2 r l) : EReal) + dg (R := 512) x0 x1 x2 l := by
  unfold dg
  simp only [← pay2_apply]
  generalize k0_pay2 (F := Ideal) x0 x1 = h
  pointwise [k0_pay1, k0_pay4, k0_pay3]
  rfl

/-- One step of the accumulation of the gain's gradient. -/
theorem pay1_apply (x0 : Vec Ideal S512x1792 .bf16) (x1 : Vec Ideal S1792x1024 .bf16) (x2 : Vec Ideal S512x1024 .f32) (o : Vec Ideal S1x1024 .f32)
    (j : S1x1024.Idx) :
    k0_pay1 (F := Ideal) (k0_pay2 x0 x1) (k0_pay4 x2) o j = (o j : EReal) + dg (R := 512) x0 x1 x2 (j 1) := by
  rw [eq_ix2 j]
  exact pay1_ix x0 x1 x2 o (j 0) (j 1)

variable (m : (ℓ : Loc nD τ sig) → Buf (Elt Ideal) ℓ)

/-- One element of the rows' gradient over the whole arrays. -/
def gx (c : Dev nD) (r : Fin 4096) (l : Fin 1024) : EReal :=
  dx (R := 4096) (m ((c : Thread nD τ).loc main_arg0)) (m ((c : Thread nD τ).loc main_arg1)) (m ((c : Thread nD τ).loc main_arg2))
    (fun k => m ((c : Thread nD τ).loc main_arg3) (ix1 k)) (m ((c : Thread nD τ).loc main_arg4)) r l

/-- What the first result array is shown to hold. -/
def G6 (c : Dev nD) : Buf (Elt Ideal) ((c : Thread nD τ).loc main_v1_0) := fun i =>
  if 4 ≤ (i 0 : ℕ) / 512 then gx m c (i 0) (i 1) else m ((c : Thread nD τ).loc main_arg5) i

/-- What the second result array is shown to hold. -/
def G7 (c : Dev nD) : Buf (Elt Ideal) ((c : Thread nD τ).loc main_v1_1) := fun i =>
  if 4 ≤ (i 0 : ℕ) / 512 then gx m c (i 0) (i 1) else m ((c : Thread nD τ).loc main_arg6) i

/-- The earlier half's sum for the gain's gradient. -/
def bef (c : Dev nD) (j : S1x1024.Idx) : EReal := m ((c : Thread nD τ).loc main_arg7) j

/-- What the third result array is shown to hold. -/
def G8 (c : Dev nD) : Buf (Elt Ideal) ((c : Thread nD τ).loc main_v1_2) := fun i =>
  bef m c i + dg (R := 2048) (half (m ((c : Thread nD τ).loc main_arg0))) (m ((c : Thread nD τ).loc main_arg1)) (half (m ((c : Thread nD τ).loc main_arg2))) (i 1)

/-- Each window's block index at each grid point. -/
theorem idx : ∀ t : Fin cfg0.N, win0_0.index t = ![t.val + 4, 0] ∧ win0_1.index t = ![0, 0] ∧ win0_2.index t = ![t.val + 4, 0]
    ∧ win0_3.index t = ![0, 0] ∧ win0_4.index t = ![t.val + 4, 0] ∧ win0_5.index t = ![0, 0] ∧ win0_6.index t = ![t.val + 4, 0]
    ∧ win0_7.index t = ![t.val + 4, 0] ∧ win0_8.index t = ![0, 0] :=
  (by decide +kernel : ∀ t : Fin grid0.N, _)

/-- The first window's block at a point, read off the array. -/
theorem blkA (c : Dev nD) (t : Fin cfg0.N) (r : Fin 512) (q : Fin 4096) (hq : q.val = (t.val + 4) * 512 + r.val) (k : Fin 1792) :
    iblk m c 0 t (ix2 r k) = m ((c : Thread nD τ).loc main_arg0) (ix2 q k) := by
  have i0 := idx t
  rw [← V_main_arg0 m c]
  blk_ext! [iblk, i0, hq]

/-- The weight's block at a point. -/
theorem blkW (c : Dev nD) (t : Fin cfg0.N) (k : Fin 1792) (l : Fin 1024) :
    iblk m c 1 t (ix2 k l) = m ((c : Thread nD τ).loc main_arg1) (ix2 k l) := by
  have i0 := idx t
  rw [← V_main_arg1 m c]
  blk_ext! [iblk, i0]

/-- The rows' block at a point. -/
theorem blkX (c : Dev nD) (t : Fin cfg0.N) (r : Fin 512) (q : Fin 4096) (hq : q.val = (t.val + 4) * 512 + r.val) (k : Fin 1024) :
    iblk m c 2 t (ix2 r k) = m ((c : Thread nD τ).loc main_arg2) (ix2 q k) := by
  have i0 := idx t
  rw [← V_main_arg2 m c]
  blk_ext! [iblk, i0, hq]

/-- The gain the host lays out as a row. -/
theorem gain (c : Dev nD) (k : Fin 1024) : V m c main_v0 (ix2 0 k) = m ((c : Thread nD τ).loc main_arg3) (ix1 k) := by
  entry_read
  pointwise []

/-- The gain's block at a point. -/
theorem blkG (c : Dev nD) (t : Fin cfg0.N) (k : Fin 1024) :
    iblk m c 3 t (ix2 0 k) = m ((c : Thread nD τ).loc main_arg3) (ix1 k) := by
  have i0 := idx t
  rw [← gain m c k]
  blk_ext! [iblk, i0]

/-- The added gradient's block at a point. -/
theorem blkD (c : Dev nD) (t : Fin cfg0.N) (r : Fin 512) (q : Fin 4096) (hq : q.val = (t.val + 4) * 512 + r.val) (k : Fin 1024) :
    iblk m c 4 t (ix2 r k) = m ((c : Thread nD τ).loc main_arg4) (ix2 q k) := by
  have i0 := idx t
  rw [← V_main_arg4 m c]
  blk_ext! [iblk, i0, hq]

/-- The earlier half's sum at a point. -/
theorem blkB (c : Dev nD) (t : Fin cfg0.N) (j : S1x1024.Idx) :
    iblk m c 5 t j = bef m c j := by
  have i0 := idx t
  unfold bef
  rw [← V_main_arg7 m c]
  blk_ext! [iblk, i0]

/-- The first result array starts as a copy of the earlier half's. -/
theorem entry_dx (c : Dev nD) : V m c main_v1_0 = m ((c : Thread nD τ).loc main_arg5) := by
  entry_read
  rfl

/-- The second result array starts as a copy of the earlier half's. -/
theorem entry_dxb (c : Dev nD) : V m c main_v1_1 = m ((c : Thread nD τ).loc main_arg6) := by
  entry_read
  rfl

/-- The product's block at a point. -/
theorem blkH (c : Dev nD) (t : Fin cfg0.N) (r : Fin 512) (q : Fin 4096) (hq : q.val = (t.val + 4) * 512 + r.val) (l : Fin 1024) :
    dh (R := 512) (iblk m c 0 t) (iblk m c 1 t) r l
      = dh (R := 4096) (m ((c : Thread nD τ).loc main_arg0)) (m ((c : Thread nD τ).loc main_arg1)) q l := by
  unfold dh
  simp only [blkA m c t r q hq, blkW m c t]

/-- The rows' gradient at a point, placed in the whole array. -/
theorem blkDx (c : Dev nD) (t : Fin cfg0.N) (r : Fin 512) (q : Fin 4096) (hq : q.val = (t.val + 4) * 512 + r.val) (l : Fin 1024) :
    dx (R := 512) (iblk m c 0 t) (iblk m c 1 t) (iblk m c 2 t) (fun k => iblk m c 3 t (ix2 0 k)) (iblk m c 4 t) r l
      = gx m c q l := by
  unfold gx dx
  simp only [blkH m c t r q hq, blkX m c t r q hq, blkG m c t, blkD m c t r q hq]

/-- What a point leaves in the first result's buffer. -/
theorem out6 (c : Dev nD) (t : Fin cfg0.N) (j : S512x1024.Idx) :
    (outsAt0 m c t.val t.isLt).1 j
      = dx (R := 512) (iblk m c 0 t) (iblk m c 1 t) (iblk m c 2 t) (fun k => iblk m c 3 t (ix2 0 k)) (iblk m c 4 t) (j 0) (j 1) := by
  by_cases h : t.val % 4 = 0
  · rw [outsAt0_A m c t h]
    generalize iblk m c 0 t = x0
    generalize iblk m c 1 t = x1
    generalize iblk m c 2 t = x2
    generalize iblk m c 3 t = x3
    generalize iblk m c 4 t = x4
    generalize iblk m c 5 t = x5
    frame_out
    exact pay5_apply _ _ _ _ _ _
  · rw [outsAt0_B m c t h]
    generalize iblk m c 0 t = x0
    generalize iblk m c 1 t = x1
    generalize iblk m c 2 t = x2
    generalize iblk m c 3 t = x3
    generalize iblk m c 4 t = x4
    generalize iblk m c 5 t = x5
    frame_out
    exact pay5_apply _ _ _ _ _ _

/-- What a point leaves in the second result's buffer. -/
theorem out7 (c : Dev nD) (t : Fin cfg0.N) (j : S512x1024.Idx) :
    (outsAt0 m c t.val t.isLt).2.1 j
      = dx (R := 512) (iblk m c 0 t) (iblk m c 1 t) (iblk m c 2 t) (fun k => iblk m c 3 t (ix2 0 k)) (iblk m c 4 t) (j 0) (j 1) := by
  by_cases h : t.val % 4 = 0
  · rw [outsAt0_A m c t h]
    generalize iblk m c 0 t = x0
    generalize iblk m c 1 t = x1
    generalize iblk m c 2 t = x2
    generalize iblk m c 3 t = x3
    generalize iblk m c 4 t = x4
    generalize iblk m c 5 t = x5
    frame_out
    exact (pay6_apply _ _ _ _ _ _).trans (pay5_apply _ _ _ _ _ _)
  · rw [outsAt0_B m c t h]
    generalize iblk m c 0 t = x0
    generalize iblk m c 1 t = x1
    generalize iblk m c 2 t = x2
    generalize iblk m c 3 t = x3
    generalize iblk m c 4 t = x4
    generalize iblk m c 5 t = x5
    frame_out
    exact (pay6_apply _ _ _ _ _ _).trans (pay5_apply _ _ _ _ _ _)

/-- What the accumulator of the gain's gradient holds when it is written back. -/
theorem acc_eq (c : Dev nD) (t : Fin cfg0.N) (hf : (cfg0.win 8).flush t = true) (j : S1x1024.Idx) :
    (outsAt0 m c t.val t.isLt).2.2 j = bef m c j + ∑ s : Fin 4,
      dg (R := 512) (iblk m c 0 ⟨4 * (t.val / 4) + s.val, Pipeline.run_point_lt_of_flush t ((flush0_8 t).mp hf) s⟩)
        (iblk m c 1 ⟨4 * (t.val / 4) + s.val, Pipeline.run_point_lt_of_flush t ((flush0_8 t).mp hf) s⟩)
        (iblk m c 2 ⟨4 * (t.val / 4) + s.val, Pipeline.run_point_lt_of_flush t ((flush0_8 t).mp hf) s⟩) (j 1) := by
  rw [Pipeline.eq_sum_fin_of_reset_step_apply_of_flush (fun n h => (outsAt0 m c n h).2.2) 4 (bef m c)
    (fun p (j : S1x1024.Idx) => dg (R := 512) (iblk m c 0 p) (iblk m c 1 p) (iblk m c 2 p) (j 1))
    (fun t h j => by rw [outsAt0_A m c t h]; frame_out; exact (pay1_apply _ _ _ _ _).trans (congrArg (· + _) (blkB m c t j)))
    (fun t h j => by rw [outsAt0_B m c t h]; frame_out; exact pay1_apply _ _ _ _ _) t ((flush0_8 t).mp hf) j]

/-- The first result array after the run. -/
theorem final6 (c : Dev nD) : (dats m 0 c).arrAt 6 cfg0.N = G6 m c := by
  have h : (dats m 0 c).arrAt 6 cfg0.N = fun i => if 4 ≤ (i 0 : ℕ) / 512 then gx m c (i 0) (i 1) else V m c main_v1_0 i := by
    refine (dats m 0 c).arrAt_eq_of_coversWhere 6 (fun i => gx m c (i 0) (i 1)) (fun β => 4 ≤ β (0 : Fin _)) (by decide +kernel)
      (fun t hf y => ?_) (fun j => Iff.rfl)
    blk_simp
    rw [after0_6]
    refine (out6 m c t y).trans ((blkDx m c t (y 0) ((win0_6.blk t).view.emb y 0) (by blk_simp [idx t]) (y 1)).trans ?_)
    have e1 : ((win0_6.blk t).view.emb y 1 : Fin 1024) = y 1 := Fin.ext (by blk_simp [idx t])
    rw [e1]
  rw [h, entry_dx m c]
  rfl

/-- The second result array after the run. -/
theorem final7 (c : Dev nD) : (dats m 0 c).arrAt 7 cfg0.N = G7 m c := by
  have h : (dats m 0 c).arrAt 7 cfg0.N = fun i => if 4 ≤ (i 0 : ℕ) / 512 then gx m c (i 0) (i 1) else V m c main_v1_1 i := by
    refine (dats m 0 c).arrAt_eq_of_coversWhere 7 (fun i => gx m c (i 0) (i 1)) (fun β => 4 ≤ β (0 : Fin _)) (by decide +kernel)
      (fun t hf y => ?_) (fun j => Iff.rfl)
    blk_simp
    rw [after0_7]
    refine (out7 m c t y).trans ((blkDx m c t (y 0) ((win0_7.blk t).view.emb y 0) (by blk_simp [idx t]) (y 1)).trans ?_)
    have e1 : ((win0_7.blk t).view.emb y 1 : Fin 1024) = y 1 := Fin.ext (by blk_simp [idx t])
    rw [e1]
  rw [h, entry_dxb m c]
  rfl

/-- The third result array after the run. -/
theorem final8 (c : Dev nD) : (dats m 0 c).arrAt 8 cfg0.N = G8 m c := by
  refine (dats m 0 c).arrAt_eq_of_covers 8 _ (by decide +kernel) fun t hf y => ?_
  blk_simp
  rw [after0_8]
  refine (acc_eq m c t hf y).trans ?_
  have e1 : ((win0_8.blk t).view.emb y 1 : Fin 1024) = y 1 := Fin.ext (by blk_simp [idx t])
  have e2 : (win0_8.blk t).view.emb y = y := by
    rw [eq_ix2 y]
    blk_ext! [idx t]
  unfold G8
  rw [e1, e2]
  refine congrArg (_ + ·) ?_
  unfold dg
  have ht : t.val / 4 = 0 := Nat.div_eq_of_lt t.isLt
  refine Fin.sum_mul_add_congr fun s k hl => ?_
  have hq : 2048 + (s.val * 512 + k.val) = (4 * (t.val / 4) + s.val + 4) * 512 + k.val := by
    rw [ht]
    omega
  exact congrArg₂ (fun a b : EReal => a * b) (blkH m c ⟨_, Pipeline.run_point_lt_of_flush t ((flush0_8 t).mp hf) s⟩ k ⟨2048 + (s.val * 512 + k.val), by omega⟩ hq (y 1))
    (congrArg₂ (fun a b : EReal => a * b) (blkX m c ⟨_, Pipeline.run_point_lt_of_flush t ((flush0_8 t).mp hf) s⟩ k ⟨2048 + (s.val * 512 + k.val), by omega⟩ hq (y 1))
      (congrArg inv (funext fun i => blkX m c ⟨_, Pipeline.run_point_lt_of_flush t ((flush0_8 t).mp hf) s⟩ k ⟨2048 + (s.val * 512 + k.val), by omega⟩ hq i)))

end Cert.InDxRestIdeal.Block
end
-- ==== Proof.InDxRestEq.lean ====
module

public import proofs.«01_k».proof.Proof.InDxRestBlock
public import proofs.«01_k».proof.Proof.Gen.InDxRestRefIdeal.Read
public import proofs.«01_k».proof.Proof.Gen.InDxRestRefIdeal.Run

/-! The reference's results for the gradient of the first norm over the other half of the rows, element by element. -/

@[expose] public section

noncomputable section

namespace Cert.InDxRestRefIdeal.Value

open Cert.Norm Idealize.ShloMosaic Idealize.ShloMosaic.TcCoe Idealize.SL.Sem Cert.InDxRestRefIdeal Cert.InDxRestRefIdeal.Gen Cert.InDxRestRefIdeal.Read
open Cert.InDxIdeal.Block (dh dx dg)
open Cert.InDxRestIdeal.Block (half)

/-- The reference's gradient of the normalised rows. -/
theorem dh_apply (x0 : Vec Ideal S4096x1792 .bf16) (x1 : Vec Ideal S1792x1024 .bf16) (r : Fin 2048) (l : Fin 1024) :
    val_main_v23 (F := Ideal) x0 x1 (ix2 r l) = dh (R := 2048) (half x0) x1 r l := by
  unfold dh
  pointwise [val_main_v23, val_main_v22, val_main_v4, val_main_v3, val_main_v0, dot_S2048x1792_S1024x1792_S2048x1024_1_1_0_0_n_n]
  rfl

/-- The reference's gradient of the rows. -/
theorem ref_dx (x0 : Vec Ideal S4096x1792 .bf16) (x1 : Vec Ideal S1792x1024 .bf16) (x2 : Vec Ideal S4096x1024 .f32)
    (x3 : Vec Ideal S1024 .f32) (x4 : Vec Ideal S4096x1024 .f32) (r : Fin 2048) (l : Fin 1024) :
    val_main_v44 (F := Ideal) x0 x1 x2 x3 x4 (ix2 r l)
      = dxRef (fun k => dh (R := 2048) (half x0) x1 r k) (fun k => x3 (ix1 k)) (fun k => half x2 (ix2 r k)) (half x4 (ix2 r l)) l := by
  simp only [← dh_apply]
  unfold val_main_v44 val_main_v43 val_main_v42 val_main_v41 val_main_v40 val_main_v39 val_main_v38 val_main_v37 val_main_v36 val_main_v35 val_main_v34 val_main_v33 val_main_v32 val_main_v31 val_main_v30 val_main_v28 val_main_v27
  generalize val_main_v23 (F := Ideal) x0 x1 = h
  pointwise [val_main_cst, val_main_cst_0, val_main_cst_1, val_main_cst_2, val_main_cst_3, val_main_cst_4, val_main_cst_5, val_main_cst_6, val_main_cst_7, val_main_v18, val_main_v17, val_main_v16, val_main_v15, val_main_v14, val_main_v13, val_main_v12, val_main_v11, val_main_v10, val_main_v9, val_main_v8, val_main_v7, val_main_v6, val_main_v5, val_main_v1, val_main_v2]
  simp only [Finset.univ_unique, Finset.sum_singleton]
  rfl

/-- The reference's gradient of the gain. -/
theorem ref_dg (x0 : Vec Ideal S4096x1792 .bf16) (x1 : Vec Ideal S1792x1024 .bf16) (x2 : Vec Ideal S4096x1024 .f32)
    (r : Fin 1) (l : Fin 1024) :
    val_main_v46 (F := Ideal) x0 x1 x2 (ix2 r l) = dg (R := 2048) (half x0) x1 (half x2) l := by
  unfold dg
  simp only [← dh_apply]
  unfold val_main_v46 val_main_v29 val_main_v26 val_main_v25 val_main_v24
  generalize val_main_v23 (F := Ideal) x0 x1 = h
  pointwise [val_main_cst, val_main_cst_0, val_main_cst_1, val_main_cst_2, val_main_cst_3, val_main_cst_4, val_main_cst_5, val_main_cst_6, val_main_cst_7, val_main_v18, val_main_v17, val_main_v16, val_main_v15, val_main_v14, val_main_v13, val_main_v12, val_main_v11, val_main_v10, val_main_v9, val_main_v8, val_main_v7, val_main_v6, val_main_v5, val_main_v1, val_main_v2]
  simp only [Finset.univ_unique, Finset.sum_singleton]
  exact Finset.sum_congr rfl fun k _ => mul_comm (G := EReal) _ _

/-- The reference's first result: the earlier half's rows, then this half's. -/
theorem ref_first (x0 : Vec Ideal S4096x1792 .bf16) (x1 : Vec Ideal S1792x1024 .bf16) (x2 : Vec Ideal S4096x1024 .f32)
    (x3 : Vec Ideal S1024 .f32) (x4 : Vec Ideal S4096x1024 .f32) (x5 : Vec Ideal S4096x1024 .f32) (r : Fin 4096) (l : Fin 1024) :
    val_main_v48 (F := Ideal) x0 x1 x2 x3 x4 x5 (ix2 r l)
      = if h : 4 ≤ r.val / 512 then val_main_v44 (F := Ideal) x0 x1 x2 x3 x4 (ix2 ⟨r.val - 2048, by omega⟩ l) else x5 (ix2 r l) := by
  unfold val_main_v48
  generalize val_main_v44 (F := Ideal) x0 x1 x2 x3 x4 = y
  pointwise [val_main_v47]
  by_cases h : (r : ℕ) < 2048
  · rw [dif_pos h, dif_neg (by omega)]
  · rw [dif_neg h, dif_pos (by omega)]

/-- The reference's second result: the earlier half's rows, then this half's. -/
theorem ref_second (x0 : Vec Ideal S4096x1792 .bf16) (x1 : Vec Ideal S1792x1024 .bf16) (x2 : Vec Ideal S4096x1024 .f32)
    (x3 : Vec Ideal S1024 .f32) (x4 : Vec Ideal S4096x1024 .f32) (x6 : Vec Ideal S4096x1024 .bf16) (r : Fin 4096) (l : Fin 1024) :
    val_main_v50 (F := Ideal) x0 x1 x2 x3 x4 x6 (ix2 r l)
      = if h : 4 ≤ r.val / 512 then val_main_v44 (F := Ideal) x0 x1 x2 x3 x4 (ix2 ⟨r.val - 2048, by omega⟩ l) else x6 (ix2 r l) := by
  unfold val_main_v50 val_main_v45
  generalize val_main_v44 (F := Ideal) x0 x1 x2 x3 x4 = y
  pointwise [val_main_v49]
  by_cases h : (r : ℕ) < 2048
  · rw [dif_pos h, dif_neg (by omega)]
  · rw [dif_neg h, dif_pos (by omega)]

/-- The reference's third result: the earlier half's sum and this half's. -/
theorem ref_third (x0 : Vec Ideal S4096x1792 .bf16) (x1 : Vec Ideal S1792x1024 .bf16) (x2 : Vec Ideal S4096x1024 .f32) (x7 : Vec Ideal S1x1024 .f32)
    (r : Fin 1) (l : Fin 1024) :
    val_main_v51 (F := Ideal) x0 x1 x2 x7 (ix2 r l) = (x7 (ix2 r l) : EReal) + dg (R := 2048) (half x0) x1 (half x2) l :=
  congrArg ((x7 (ix2 r l) : EReal) + ·) (ref_dg x0 x1 x2 r l)

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48)
          = val_main_v48 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v50)
          = val_main_v50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v51)
          = val_main_v51 (m ((c.tc : Thread nD τ).loc main_arg0)) (m ((c.tc : Thread nD τ).loc main_arg1)) (m ((c.tc : Thread nD τ).loc main_arg2)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run m ρ

end Cert.InDxRestRefIdeal.Value
end
-- ==== Proof.InDxRestClaim.lean ====
module

public import proofs.«01_k».proof.Defs
public import proofs.«01_k».proof.Proof.InDxRestEq
public import proofs.«01_k».proof.Proof.Gen.Pre_finite_in_proj_dx_rest
public import proofs.«01_k».proof.Proof.Scalar
public import Idealize.ShloMosaic.Lib.Claim

/-! The kernel for the gradient of the first norm over the other half of the rows and the reference agree on finite arguments. -/

@[expose] public section

noncomputable section

namespace Cert.Proof.InDxRest

open Idealize.ShloMosaic Idealize.ShloMosaic.TcCoe Idealize.SL.Sem Cert.Scalar

/-- The precondition says that every element of the first four arguments is a real number. -/
theorem reals (m : (ℓ : Loc Cert.InDxRestIdeal.nD Cert.InDxRestIdeal.τ Cert.InDxRestIdeal.sig) → Buf (Elt Ideal) ℓ)
    (h : Cert.Pre_InDxRestIdeal_finite_in_proj_dx_rest m) (c : Dev Cert.InDxRestIdeal.nD) :
    (∀ i, IsReal (m ((c : Thread Cert.InDxRestIdeal.nD Cert.InDxRestIdeal.τ).loc Cert.InDxRestIdeal.main_arg0) i))
    ∧ (∀ i, IsReal (m ((c : Thread Cert.InDxRestIdeal.nD Cert.InDxRestIdeal.τ).loc Cert.InDxRestIdeal.main_arg1) i))
    ∧ (∀ i, IsReal (m ((c : Thread Cert.InDxRestIdeal.nD Cert.InDxRestIdeal.τ).loc Cert.InDxRestIdeal.main_arg2) i))
    ∧ (∀ i, IsReal (m ((c : Thread Cert.InDxRestIdeal.nD Cert.InDxRestIdeal.τ).loc Cert.InDxRestIdeal.main_arg3) i)) := by
  obtain ⟨h0, h1, h2, h3⟩ := h c
  refine ⟨fun i => ?_, fun i => ?_, fun i => ?_, fun i => ?_⟩
  · have := congrFun h0 i
    exact isReal_of_abs_lt (inf_bf16 ▸ this)
  · have := congrFun h1 i
    exact isReal_of_abs_lt (inf_bf16 ▸ this)
  · have := congrFun h2 i
    exact isReal_of_abs_lt (inf_f32 ▸ this)
  · have := congrFun h3 i
    exact isReal_of_abs_lt (inf_f32 ▸ this)

/-- On real arrays every element of the product is real. -/
theorem dh_real (a : (⟨2, ![4096, 1792]⟩ : Shape).Idx → EReal) (w : (⟨2, ![1792, 1024]⟩ : Shape).Idx → EReal) (ha : ∀ i, IsReal (a i))
    (hw : ∀ i, IsReal (w i)) (r : Fin 4096) (l : Fin 1024) : IsReal (Cert.InDxIdeal.Block.dh a w r l) :=
  IsReal.sum _ _ fun k => (ha _).mul (hw _)

/-- The reference's gradient at a row of its half is the kernel's at the row of the whole array. -/
theorem dx_row (x0 : Vec Ideal Cert.InDxRestRefIdeal.S4096x1792 .bf16) (x1 : Vec Ideal Cert.InDxRestRefIdeal.S1792x1024 .bf16)
    (x2 : Vec Ideal Cert.InDxRestRefIdeal.S4096x1024 .f32) (x3 : Vec Ideal Cert.InDxRestRefIdeal.S1024 .f32)
    (x4 : Vec Ideal Cert.InDxRestRefIdeal.S4096x1024 .f32) (h0 : ∀ i, IsReal (x0 i)) (h1 : ∀ i, IsReal (x1 i)) (h2 : ∀ i, IsReal (x2 i))
    (h3 : ∀ i, IsReal (x3 i)) (p : Fin 2048) (q : Fin 4096) (hq : q.val = 2048 + p.val) (l : Fin 1024) :
    Cert.InDxRestRefIdeal.Read.val_main_v44 (F := Ideal) x0 x1 x2 x3 x4 (ix2 p l)
      = Cert.InDxIdeal.Block.dx (R := 4096) x0 x1 x2 (fun k => x3 (ix1 k)) x4 q l := by
  have hq' : q = ⟨2048 + p.val, by have := p.isLt; omega⟩ := Fin.ext hq
  rw [hq']
  exact (Cert.InDxRestRefIdeal.Value.ref_dx _ _ _ _ _ _ _).trans
    (Cert.Norm.dx_eq _ _ _ _ _ (fun k => dh_real _ _ h0 h1 _ k) (fun k => h3 _) (fun k => h2 _)).symm

/-- The same, at a row of the whole array that lies in the other half. -/
theorem dx_half (x0 : Vec Ideal Cert.InDxRestRefIdeal.S4096x1792 .bf16) (x1 : Vec Ideal Cert.InDxRestRefIdeal.S1792x1024 .bf16)
    (x2 : Vec Ideal Cert.InDxRestRefIdeal.S4096x1024 .f32) (x3 : Vec Ideal Cert.InDxRestRefIdeal.S1024 .f32)
    (x4 : Vec Ideal Cert.InDxRestRefIdeal.S4096x1024 .f32) (h0 : ∀ i, IsReal (x0 i)) (h1 : ∀ i, IsReal (x1 i)) (h2 : ∀ i, IsReal (x2 i))
    (h3 : ∀ i, IsReal (x3 i)) (q : Fin 4096) (h : 4 ≤ q.val / 512) (l : Fin 1024) :
    Cert.InDxRestRefIdeal.Read.val_main_v44 (F := Ideal) x0 x1 x2 x3 x4 (ix2 ⟨q.val - 2048, by have := q.isLt; omega⟩ l)
      = Cert.InDxIdeal.Block.dx (R := 4096) x0 x1 x2 (fun k => x3 (ix1 k)) x4 q l :=
  dx_row x0 x1 x2 x3 x4 h0 h1 h2 h3 _ q (by show q.val = 2048 + (q.val - 2048); omega) l

/-- What the kernel leaves in its results is what the reference leaves in its own, on finite arguments. -/
theorem algebraic : Cert.algebraic_InDxRestIdeal_InDxRestRefIdeal_pre_finite_in_proj_dx_rest := by
  pair_intro
  · run_from Cert.InDxRestIdeal.Value.run_blocks m g
  · run_from Cert.InDxRestRefIdeal.Value.run_val m' g'
    · rw [Cert.InDxRestIdeal.Block.final6 m c]
      obtain ⟨h0, h1, h2, h3⟩ := reals m hpre c
      funext i
      rw [eq_ix2 i]
      refine (Cert.InDxRestRefIdeal.Value.ref_first _ _ _ _ _ _ (i 0) (i 1)).trans ?_
      by_cases h : 4 ≤ (i 0 : ℕ) / 512
      · exact (dif_pos h).trans ((dx_half _ _ _ _ _ h0 h1 h2 h3 (i 0) h (i 1)).trans (if_pos h).symm)
      · exact (dif_neg h).trans (if_neg h).symm
    · rw [Cert.InDxRestIdeal.Block.final7 m c]
      obtain ⟨h0, h1, h2, h3⟩ := reals m hpre c
      funext i
      rw [eq_ix2 i]
      refine (Cert.InDxRestRefIdeal.Value.ref_second _ _ _ _ _ _ (i 0) (i 1)).trans ?_
      by_cases h : 4 ≤ (i 0 : ℕ) / 512
      · exact (dif_pos h).trans ((dx_half _ _ _ _ _ h0 h1 h2 h3 (i 0) h (i 1)).trans (if_pos h).symm)
      · exact (dif_neg h).trans (if_neg h).symm
    · rw [Cert.InDxRestIdeal.Block.final8 m c]
      funext i
      rw [eq_ix2 i]
      exact Cert.InDxRestRefIdeal.Value.ref_third _ _ _ _ _ _

/-- The reference runs and leaves its arguments unchanged. -/
theorem frame_ref : Cert.quiescent_InDxRestRefIdeal := fun m ρ _ =>
  (θ_run Cert.InDxRestRefIdeal.defs _ _).mono (fun r h => ⟨fun c => (h c).2.2.2, sem_eq_zero_of_no_sems (by decide) r.2⟩)
    (Cert.InDxRestRefIdeal.Value.run (F := Ideal) m ρ)

end Cert.Proof.InDxRest
end
-- ==== Proof.GateUpDwBlock.lean ====
module

public import proofs.«01_k».proof.Proof.Gen.GateUpDwIdeal.Value
public import Idealize.ShloMosaic.Lib.Pointwise
public import Idealize.ShloMosaic.Lib.Pipeline.ValueKit
public import Idealize.ShloMosaic.Lib.Pipeline.ReadBack

/-! What the kernel for the gradient of the gated unit's weight accumulates, and what its result array holds. -/

@[expose] public section

noncomputable section

namespace Cert.GateUpDwIdeal.Block

open Idealize.ShloMosaic Idealize.ShloMosaic.TcCoe Cert.GateUpDwIdeal Cert.GateUpDwIdeal.Gen Cert.GateUpDwIdeal.Value

/-- One block's product: the sum over its tokens. -/
def part (a : Vec Ideal S1x2048x1408 .bf16) (b : Vec Ideal S2048x1024 .bf16) (j : S1408x1024.Idx) : EReal :=
  ∑ k : Fin 2048, (a (ix3 0 k (j 0)) : EReal) * b (ix2 k (j 1))

/-- Row `i` of the gate's (first half) or the other factor's gradient, summed over the tokens against `h`. -/
def weightGrad (d : (⟨3, ![2, 4096, 2816]⟩ : Shape).Idx → EReal) (h : (⟨2, ![4096, 1024]⟩ : Shape).Idx → EReal)
    (l : Fin 5632) (k : Fin 1024) : EReal :=
  ∑ r : Fin 4096, d (ix3 ⟨l.val / 2816, by omega⟩ r ⟨l.val % 2816, by omega⟩) * h (ix2 r k)

/-- One step of the accumulation at an index: the block's product is added to what was there. -/
theorem pay2_apply (acc : Vec Ideal S1408x1024 .f32) (a : Vec Ideal S1x2048x1408 .bf16) (b : Vec Ideal S2048x1024 .bf16)
    (j : S1408x1024.Idx) :
    k0_pay2 (F := Ideal) acc a b j = (acc j : EReal) + part a b j := by
  rw [eq_ix2 j]
  pointwise [k0_pay2, dot_S2048x1408_S2048x1024_S1408x1024_0_0_1_1_n_n, part]

/-- The accumulator starts at zero. -/
theorem pay1_apply (j : S1408x1024.Idx) : k0_pay1 (F := Ideal) j = 0 := by
  rw [eq_ix2 j]
  pointwise [k0_pay1]

variable (m : (ℓ : Loc nD τ sig) → Buf (Elt Ideal) ℓ)

/-- The normalised activations the kernel is given. -/
abbrev H (c : Dev nD) : Buf (Elt Ideal) ((c : Thread nD τ).loc main_v13) := V m c main_v13

/-- What the result array is shown to hold. -/
def G (c : Dev nD) : Buf (Elt Ideal) ((c : Thread nD τ).loc main_v14) := fun i =>
  weightGrad (m ((c : Thread nD τ).loc main_arg0)) (H m c) (i 0) (i 1)

/-- Each window's block index at each grid point. -/
theorem idx : ∀ t : Fin cfg0.N, win0_0.index t = ![t.val / 4, t.val % 2, t.val / 2 % 2] ∧ win0_1.index t = ![t.val % 2, 0]
    ∧ win0_2.index t = ![t.val / 2, 0] :=
  (by decide +kernel : ∀ t : Fin grid0.N, _)

/-- What the accumulator holds when a block is written back. -/
theorem acc_eq (c : Dev nD) (t : Fin cfg0.N) (hf : (cfg0.win 2).flush t = true) (j : S1408x1024.Idx) :
    (outsAt0 m c t.val t.isLt).2 j = ∑ s : Fin 2,
      part (iblk m c 0 ⟨2 * (t.val / 2) + s.val, Pipeline.run_point_lt_of_flush t ((flush0_2 t).mp hf) s⟩)
        (iblk m c 1 ⟨2 * (t.val / 2) + s.val, Pipeline.run_point_lt_of_flush t ((flush0_2 t).mp hf) s⟩) j := by
  rw [Pipeline.eq_sum_fin_of_reset_step_apply_of_flush (fun n h => (outsAt0 m c n h).2) 2 (fun _ => (0 : EReal))
    (fun p j => part (iblk m c 0 p) (iblk m c 1 p) j)
    (fun t h j => by rw [outsAt0_A m c t h (by omega)]; frame_out; rw [pay2_apply, pay1_apply])
    (fun t h j => by rw [outsAt0_B m c t h (by omega)]; frame_out; rw [read_unread_whole, pay2_apply]) t ((flush0_2 t).mp hf) j, zero_add]

/-- What is written back is the accumulator. -/
theorem out_eq (c : Dev nD) (t : Fin cfg0.N) (hf : (cfg0.win 2).flush t = true) (j : S1408x1024.Idx) :
    (outsAt0 m c t.val t.isLt).1 j = (outsAt0 m c t.val t.isLt).2 j := by
  have h : t.val % 2 = 1 := (flush0_2 t).mp hf
  rw [outsAt0_B m c t (by omega) h]
  frame_out
  rw [eq_ix2 j]
  pointwise [k0_pay3]

/-- The result array after the run. -/
theorem final (c : Dev nD) : (dats m 0 c).arrAt 2 cfg0.N = G m c := by
  refine (dats m 0 c).arrAt_eq_of_covers 2 _ (by decide +kernel) fun t hf y => ?_
  blk_simp
  rw [after0_2]
  refine (out_eq m c t hf y).trans ((acc_eq m c t hf y).trans ?_)
  unfold part G weightGrad
  refine Fin.sum_mul_add_congr fun s k hl => ?_
  have i0 := idx ⟨_, Pipeline.run_point_lt_of_flush t ((flush0_2 t).mp hf) s⟩
  have i1 := idx t
  congr 1
  · blk_ext! [iblk, V, i0, i1]
  · blk_ext! [iblk, i0, i1]

end Cert.GateUpDwIdeal.Block
end
-- ==== Proof.GateUpDwEq.lean ====
module

public import proofs.«01_k».proof.Proof.GateUpDwBlock
public import proofs.«01_k».proof.Proof.Gen.GateUpDwRefIdeal.Read
public import proofs.«01_k».proof.Proof.Gen.GateUpDwRefIdeal.Run

/-! The reference's gradient of the gated unit's weight, element by element. -/

@[expose] public section

noncomputable section

namespace Cert.GateUpDwRefIdeal.Value

open Idealize.ShloMosaic Idealize.ShloMosaic.TcCoe Idealize.SL.Sem Cert.GateUpDwRefIdeal Cert.GateUpDwRefIdeal.Gen Cert.GateUpDwRefIdeal.Read

/-- The reference's gradient at one index. -/
theorem ref_apply (x0 : Vec Ideal S2x4096x2816 .bf16) (x1 : Vec Ideal S4096x1024 .f32) (x2 : Vec Ideal S1024 .f32)
    (l : Fin 5632) (k : Fin 1024) :
    val_main_v27 (F := Ideal) x0 x1 x2 (ix2 l k)
      = Cert.GateUpDwIdeal.Block.weightGrad x0 (val_main_v13 x1 x2) l k := by
  pointwise [val_main_v27, val_main_v26, val_main_v25, val_main_v24, val_main_v23, val_main_v22, val_main_v21, val_main_v20,
    val_main_v19, val_main_v18, val_main_v17, dot_S4096x5632_S4096x1024_S5632x1024_0_0_1_1_n_n]
  unfold Cert.GateUpDwIdeal.Block.weightGrad
  refine Finset.sum_congr rfl fun r _ => ?_
  congr 1
  by_cases h : l.val < 2816
  · rw [dif_pos h, show (⟨l.val / 2816, by omega⟩ : Fin 2) = 0 from Fin.ext (by show l.val / 2816 = 0; omega),
      show (⟨l.val % 2816, by omega⟩ : Fin 2816) = ⟨l.val, h⟩ from Fin.ext (by show l.val % 2816 = l.val; omega)]
  · rw [dif_neg h, show (⟨l.val / 2816, by omega⟩ : Fin 2) = 1 from Fin.ext (by show l.val / 2816 = 1; omega),
      show (⟨l.val % 2816, by omega⟩ : Fin 2816) = ⟨l.val - 2816, by omega⟩ from
        Fin.ext (by show l.val % 2816 = l.val - 2816; omega)]

/-- The normalised activations the kernel's host code computes are the reference's. -/
theorem H_eq (m : (ℓ : Loc Cert.GateUpDwIdeal.nD Cert.GateUpDwIdeal.τ Cert.GateUpDwIdeal.sig) → Buf (Elt Ideal) ℓ)
    (c : Dev Cert.GateUpDwIdeal.nD) :
    Cert.GateUpDwIdeal.Block.H m c = val_main_v13 (F := Ideal)
      (m ((c : Thread Cert.GateUpDwIdeal.nD Cert.GateUpDwIdeal.τ).loc Cert.GateUpDwIdeal.main_arg1))
      (m ((c : Thread Cert.GateUpDwIdeal.nD Cert.GateUpDwIdeal.τ).loc Cert.GateUpDwIdeal.main_arg2)) := by
  unfold Cert.GateUpDwIdeal.Block.H
  entry_read
  rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
          = val_main_v27 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.GateUpDwRefIdeal.Value
end
-- ==== Proof.GateUpDwClaim.lean ====
module

public import proofs.«01_k».proof.Defs
public import proofs.«01_k».proof.Proof.GateUpDwEq
public import Idealize.ShloMosaic.Lib.Claim

/-! The kernel for the gradient of the gated unit's weight and the reference agree. -/

@[expose] public section

noncomputable section

namespace Cert.Proof.GateUpDw

open Idealize.ShloMosaic Idealize.ShloMosaic.TcCoe Idealize.SL.Sem

/-- What the kernel leaves in its result is what the reference leaves in its own. -/
theorem algebraic : Cert.algebraic_GateUpDwIdeal_GateUpDwRefIdeal := by
  pair_intro
  · run_from Cert.GateUpDwIdeal.Value.run_blocks m g
  · run_from Cert.GateUpDwRefIdeal.Value.run_val m' g'
    rw [Cert.GateUpDwIdeal.Block.final m c]
    funext i
    rw [eq_ix2 i]
    unfold Cert.GateUpDwIdeal.Block.G
    rw [Cert.GateUpDwRefIdeal.Value.H_eq]
    exact Cert.GateUpDwRefIdeal.Value.ref_apply _ _ _ _ _

/-- The reference runs and leaves its arguments unchanged. -/
theorem frame_ref : Cert.quiescent_GateUpDwRefIdeal := fun m ρ _ =>
  (θ_run Cert.GateUpDwRefIdeal.defs _ _).mono (fun r h => ⟨fun c => (h c).2, sem_eq_zero_of_no_sems (by decide) r.2⟩)
    (Cert.GateUpDwRefIdeal.Value.run (F := Ideal) m ρ)

end Cert.Proof.GateUpDw
end
-- ==== Proof.DownDwBlock.lean ====
module

public import proofs.«01_k».proof.Proof.Gen.DownDwIdeal.Value
public import Idealize.ShloMosaic.Lib.Pointwise
public import Idealize.ShloMosaic.Lib.Pipeline.ValueKit
public import Idealize.ShloMosaic.Lib.Pipeline.ReadBack

/-! What the kernel for the gradient of the down projection's weight accumulates, and what its result array holds. -/

@[expose] public section

noncomputable section

namespace Cert.DownDwIdeal.Block

open Idealize.ShloMosaic Idealize.ShloMosaic.TcCoe Cert.DownDwIdeal Cert.DownDwIdeal.Gen Cert.DownDwIdeal.Value

/-- One block's product: the sum over its tokens. -/
def part (a : Vec Ideal S2048x1408 .bf16) (b : Vec Ideal S2048x1024 .bf16) (j : S1408x1024.Idx) : EReal :=
  ∑ k : Fin 2048, (a (ix2 k (j 0)) : EReal) * b (ix2 k (j 1))

/-- The product of the transpose of `a` with `b`: the sum over the tokens. -/
def weightGrad (a : (⟨2, ![4096, 2816]⟩ : Shape).Idx → EReal) (b : (⟨2, ![4096, 1024]⟩ : Shape).Idx → EReal)
    (l : Fin 2816) (k : Fin 1024) : EReal :=
  ∑ r : Fin 4096, a (ix2 r l) * b (ix2 r k)

/-- One step of the accumulation at an index: the block's product is added to what was there. -/
theorem pay2_apply (acc : Vec Ideal S1408x1024 .f32) (a : Vec Ideal S2048x1408 .bf16) (b : Vec Ideal S2048x1024 .bf16)
    (j : S1408x1024.Idx) :
    k0_pay2 (F := Ideal) acc a b j = (acc j : EReal) + part a b j := by
  rw [eq_ix2 j]
  pointwise [k0_pay2, dot_S2048x1408_S2048x1024_S1408x1024_0_0_1_1_n_n, part]

/-- The accumulator starts at zero. -/
theorem pay1_apply (j : S1408x1024.Idx) : k0_pay1 (F := Ideal) j = 0 := by
  rw [eq_ix2 j]
  pointwise [k0_pay1]

variable (m : (ℓ : Loc nD τ sig) → Buf (Elt Ideal) ℓ)

/-- The activation the kernel is given. -/
abbrev H (c : Dev nD) : Buf (Elt Ideal) ((c : Thread nD τ).loc main_v8) := V m c main_v8

/-- What the result array is shown to hold. -/
def G (c : Dev nD) : Buf (Elt Ideal) ((c : Thread nD τ).loc main_v9) := fun i => weightGrad (H m c) (m ((c : Thread nD τ).loc main_arg1)) (i 0) (i 1)

/-- Each window's block index at each grid point. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- What the accumulator holds when a block is written back. -/
theorem acc_eq (c : Dev nD) (t : Fin cfg0.N) (hf : (cfg0.win 2).flush t = true) (j : S1408x1024.Idx) :
    (outsAt0 m c t.val t.isLt).2 j = ∑ s : Fin 2,
      part (iblk m c 0 ⟨2 * (t.val / 2) + s.val, Pipeline.run_point_lt_of_flush t ((flush0_2 t).mp hf) s⟩)
        (iblk m c 1 ⟨2 * (t.val / 2) + s.val, Pipeline.run_point_lt_of_flush t ((flush0_2 t).mp hf) s⟩) j := by
  rw [Pipeline.eq_sum_fin_of_reset_step_apply_of_flush (fun n h => (outsAt0 m c n h).2) 2 (fun _ => (0 : EReal))
    (fun p j => part (iblk m c 0 p) (iblk m c 1 p) j)
    (fun t h j => by rw [outsAt0_A m c t h (by omega)]; frame_out; rw [pay2_apply, pay1_apply])
    (fun t h j => by rw [outsAt0_B m c t h (by omega)]; frame_out; rw [read_unread_whole, pay2_apply]) t ((flush0_2 t).mp hf) j, zero_add]

/-- What is written back is the accumulator. -/
theorem out_eq (c : Dev nD) (t : Fin cfg0.N) (hf : (cfg0.win 2).flush t = true) (j : S1408x1024.Idx) :
    (outsAt0 m c t.val t.isLt).1 j = (outsAt0 m c t.val t.isLt).2 j := by
  have h : t.val % 2 = 1 := (flush0_2 t).mp hf
  rw [outsAt0_B m c t (by omega) h]
  frame_out
  rw [eq_ix2 j]
  pointwise [k0_pay3]

/-- The activation's block at a point, read off the array. -/
theorem blkA (c : Dev nD) (t p : Fin cfg0.N) (hp : p.val / 2 = t.val / 2) (k : Fin 2048) (y : S1408x1024.Idx) (l : Fin 4096)
    (hl : l.val = p.val % 2 * 2048 + k.val) :
    iblk m c 0 p (ix2 k (y 0)) = H m c (ix2 l ((win0_2.blk t).view.emb y 0)) := by
  have i0 := idx p
  have i1 := idx t
  blk_ext! [iblk, i0, i1]

/-- The cotangent's block at a point, read off the array. -/
theorem blkB (c : Dev nD) (t p : Fin cfg0.N) (k : Fin 2048) (y : S1408x1024.Idx) (l : Fin 4096)
    (hl : l.val = p.val % 2 * 2048 + k.val) :
    iblk m c 1 p (ix2 k (y 1)) = m ((c : Thread nD τ).loc main_arg1) (ix2 l ((win0_2.blk t).view.emb y 1)) := by
  have i0 := idx p
  have i1 := idx t
  rw [← V_main_arg1 m c]
  blk_ext! [iblk, i0, i1]

/-- The result array after the run. -/
theorem final (c : Dev nD) : (dats m 0 c).arrAt 2 cfg0.N = G m c := by
  refine (dats m 0 c).arrAt_eq_of_covers 2 _ (by decide +kernel) fun t hf y => ?_
  blk_simp
  rw [after0_2]
  refine (out_eq m c t hf y).trans ((acc_eq m c t hf y).trans ?_)
  unfold part G weightGrad
  refine Fin.sum_mul_add_congr fun s k hl => ?_
  have hs : s.val < 2 := s.isLt
  rw [blkA m c t _ (by show (2 * (t.val / 2) + s.val) / 2 = t.val / 2; omega) k y ⟨s.val * 2048 + k.val, hl⟩
      (by show s.val * 2048 + k.val = (2 * (t.val / 2) + s.val) % 2 * 2048 + k.val; omega),
    blkB m c t _ k y ⟨s.val * 2048 + k.val, hl⟩
      (by show s.val * 2048 + k.val = (2 * (t.val / 2) + s.val) % 2 * 2048 + k.val; omega)]

end Cert.DownDwIdeal.Block
end
-- ==== Proof.DownDwEq.lean ====
module

public import proofs.«01_k».proof.Proof.DownDwBlock
public import proofs.«01_k».proof.Proof.Gen.DownDwRefIdeal.Read
public import proofs.«01_k».proof.Proof.Gen.DownDwRefIdeal.Run

/-! The reference's result for the gradient of the down projection's weight, element by element. -/

@[expose] public section

noncomputable section

namespace Cert.DownDwRefIdeal.Value

open Idealize.ShloMosaic Idealize.ShloMosaic.TcCoe Idealize.SL.Sem Cert.DownDwRefIdeal Cert.DownDwRefIdeal.Gen Cert.DownDwRefIdeal.Read

/-- The reference's gradient at one index. -/
theorem ref_apply (x0 : Vec Ideal S2x4096x2816 .bf16) (x1 : Vec Ideal S4096x1024 .bf16)
    (l : Fin 2816) (k : Fin 1024) :
    val_main_v13 (F := Ideal) x0 x1 (ix2 l k) = Cert.DownDwIdeal.Block.weightGrad (val_main_v8 x0) x1 l k := by
  pointwise [val_main_v13, val_main_v12, val_main_v11, val_main_v10, dot_S4096x1024_S4096x2816_S1024x2816_0_0_1_1_n_n]
  unfold Cert.DownDwIdeal.Block.weightGrad
  exact Finset.sum_congr rfl fun r _ => mul_comm _ _

/-- The activation the kernel's host code computes is the reference's. -/
theorem H_eq (m : (ℓ : Loc Cert.DownDwIdeal.nD Cert.DownDwIdeal.τ Cert.DownDwIdeal.sig) → Buf (Elt Ideal) ℓ)
    (c : Dev Cert.DownDwIdeal.nD) :
    Cert.DownDwIdeal.Block.H m c = val_main_v8 (F := Ideal) (m ((c : Thread Cert.DownDwIdeal.nD Cert.DownDwIdeal.τ).loc Cert.DownDwIdeal.main_arg0)) := by
  unfold Cert.DownDwIdeal.Block.H
  entry_read
  rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = val_main_v13 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.DownDwRefIdeal.Value
end
-- ==== Proof.DownDwClaim.lean ====
module

public import proofs.«01_k».proof.Defs
public import proofs.«01_k».proof.Proof.DownDwEq
public import Idealize.ShloMosaic.Lib.Claim

/-! The kernel for the gradient of the down projection's weight and the reference agree. -/

@[expose] public section

noncomputable section

namespace Cert.Proof.DownDw

open Idealize.ShloMosaic Idealize.ShloMosaic.TcCoe Idealize.SL.Sem

/-- What the kernel leaves in its result is what the reference leaves in its own. -/
theorem algebraic : Cert.algebraic_DownDwIdeal_DownDwRefIdeal := by
  pair_intro
  · run_from Cert.DownDwIdeal.Value.run_blocks m g
  · run_from Cert.DownDwRefIdeal.Value.run_val m' g'
    rw [Cert.DownDwIdeal.Block.final m c]
    funext i
    rw [eq_ix2 i]
    unfold Cert.DownDwIdeal.Block.G
    rw [Cert.DownDwRefIdeal.Value.H_eq]
    exact Cert.DownDwRefIdeal.Value.ref_apply _ _ _ _

/-- The reference runs and leaves its arguments unchanged. -/
theorem frame_ref : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

end Cert.Proof.DownDw
end
-- ==== Proof.InDwBlock.lean ====
module

public import proofs.«01_k».proof.Proof.Gen.InDwIdeal.Value
public import Idealize.ShloMosaic.Lib.Pointwise
public import Idealize.ShloMosaic.Lib.Pipeline.ValueKit
public import Idealize.ShloMosaic.Lib.Pipeline.ReadBack

/-! What the kernel for the gradient of the input projection's weight accumulates, and what its result array holds. -/

@[expose] public section

noncomputable section

namespace Cert.InDwIdeal.Block

open Idealize.ShloMosaic Idealize.ShloMosaic.TcCoe Cert.InDwIdeal Cert.InDwIdeal.Gen Cert.InDwIdeal.Value

/-- One block's product: the sum over its tokens. -/
def part (a : Vec Ideal S2048x896 .bf16) (b : Vec Ideal S2048x1024 .bf16) (j : S896x1024.Idx) : EReal :=
  ∑ k : Fin 2048, (a (ix2 k (j 0)) : EReal) * b (ix2 k (j 1))

/-- The product of the transpose of `a` with `b`: the sum over the tokens. -/
def weightGrad (a : (⟨2, ![4096, 1792]⟩ : Shape).Idx → EReal) (b : (⟨2, ![4096, 1024]⟩ : Shape).Idx → EReal)
    (l : Fin 1792) (k : Fin 1024) : EReal :=
  ∑ r : Fin 4096, a (ix2 r l) * b (ix2 r k)

/-- One step of the accumulation at an index: the block's product is added to what was there. -/
theorem pay2_apply (acc : Vec Ideal S896x1024 .f32) (a : Vec Ideal S2048x896 .bf16) (b : Vec Ideal S2048x1024 .bf16)
    (j : S896x1024.Idx) :
    k0_pay2 (F := Ideal) acc a b j = (acc j : EReal) + part a b j := by
  rw [eq_ix2 j]
  pointwise [k0_pay2, dot_S2048x896_S2048x1024_S896x1024_0_0_1_1_n_n, part]

/-- The accumulator starts at zero. -/
theorem pay1_apply (j : S896x1024.Idx) : k0_pay1 (F := Ideal) j = 0 := by
  rw [eq_ix2 j]
  pointwise [k0_pay1]

variable (m : (ℓ : Loc nD τ sig) → Buf (Elt Ideal) ℓ)

/-- The normalised activations the kernel is given. -/
abbrev H (c : Dev nD) : Buf (Elt Ideal) ((c : Thread nD τ).loc main_v13) := V m c main_v13

/-- What the result array is shown to hold. -/
def G (c : Dev nD) : Buf (Elt Ideal) ((c : Thread nD τ).loc main_v14) := fun i => weightGrad (m ((c : Thread nD τ).loc main_arg0)) (H m c) (i 0) (i 1)

/-- Each window's block index at each grid point. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- What the accumulator holds when a block is written back. -/
theorem acc_eq (c : Dev nD) (t : Fin cfg0.N) (hf : (cfg0.win 2).flush t = true) (j : S896x1024.Idx) :
    (outsAt0 m c t.val t.isLt).2 j = ∑ s : Fin 2,
      part (iblk m c 0 ⟨2 * (t.val / 2) + s.val, Pipeline.run_point_lt_of_flush t ((flush0_2 t).mp hf) s⟩)
        (iblk m c 1 ⟨2 * (t.val / 2) + s.val, Pipeline.run_point_lt_of_flush t ((flush0_2 t).mp hf) s⟩) j := by
  rw [Pipeline.eq_sum_fin_of_reset_step_apply_of_flush (fun n h => (outsAt0 m c n h).2) 2 (fun _ => (0 : EReal))
    (fun p j => part (iblk m c 0 p) (iblk m c 1 p) j)
    (fun t h j => by rw [outsAt0_A m c t h (by omega)]; frame_out; rw [pay2_apply, pay1_apply])
    (fun t h j => by rw [outsAt0_B m c t h (by omega)]; frame_out; rw [read_unread_whole, pay2_apply]) t ((flush0_2 t).mp hf) j, zero_add]

/-- What is written back is the accumulator. -/
theorem out_eq (c : Dev nD) (t : Fin cfg0.N) (hf : (cfg0.win 2).flush t = true) (j : S896x1024.Idx) :
    (outsAt0 m c t.val t.isLt).1 j = (outsAt0 m c t.val t.isLt).2 j := by
  have h : t.val % 2 = 1 := (flush0_2 t).mp hf
  rw [outsAt0_B m c t (by omega) h]
  frame_out
  rw [eq_ix2 j]
  pointwise [k0_pay3]

/-- The result array after the run. -/
theorem final (c : Dev nD) : (dats m 0 c).arrAt 2 cfg0.N = G m c := by
  refine (dats m 0 c).arrAt_eq_of_covers 2 _ (by decide +kernel) fun t hf y => ?_
  blk_simp
  rw [after0_2]
  refine (out_eq m c t hf y).trans ((acc_eq m c t hf y).trans ?_)
  unfold part G weightGrad
  refine Fin.sum_mul_add_congr fun s k hl => ?_
  have i0 := idx ⟨_, Pipeline.run_point_lt_of_flush t ((flush0_2 t).mp hf) s⟩
  have i1 := idx t
  congr 1
  · blk_ext! [iblk, V, i0, i1]
  · blk_ext! [iblk, i0, i1]

end Cert.InDwIdeal.Block
end
-- ==== Proof.InDwEq.lean ====
module

public import proofs.«01_k».proof.Proof.InDwBlock
public import proofs.«01_k».proof.Proof.Gen.InDwRefIdeal.Read
public import proofs.«01_k».proof.Proof.Gen.InDwRefIdeal.Run

/-! The reference's result for the gradient of the input projection's weight, element by element. -/

@[expose] public section

noncomputable section

namespace Cert.InDwRefIdeal.Value

open Idealize.ShloMosaic Idealize.ShloMosaic.TcCoe Idealize.SL.Sem Cert.InDwRefIdeal Cert.InDwRefIdeal.Gen Cert.InDwRefIdeal.Read

/-- The reference's gradient at one index. -/
theorem ref_apply (x0 : Vec Ideal S4096x1792 .bf16) (x1 : Vec Ideal S4096x1024 .f32) (x2 : Vec Ideal S1024 .f32)
    (l : Fin 1792) (k : Fin 1024) :
    val_main_v19 (F := Ideal) x0 x1 x2 (ix2 l k) = Cert.InDwIdeal.Block.weightGrad x0 (val_main_v13 x1 x2) l k := by
  pointwise [val_main_v19, val_main_v18, val_main_v17, val_main_v16, val_main_v15, dot_S4096x1792_S4096x1024_S1792x1024_0_0_1_1_n_n]
  rfl

/-- What the kernel's host code computes is the reference's. -/
theorem H_eq (m : (ℓ : Loc Cert.InDwIdeal.nD Cert.InDwIdeal.τ Cert.InDwIdeal.sig) → Buf (Elt Ideal) ℓ)
    (c : Dev Cert.InDwIdeal.nD) :
    Cert.InDwIdeal.Block.H m c = val_main_v13 (F := Ideal) (m ((c : Thread Cert.InDwIdeal.nD Cert.InDwIdeal.τ).loc Cert.InDwIdeal.main_arg1)) (m ((c : Thread Cert.InDwIdeal.nD Cert.InDwIdeal.τ).loc Cert.InDwIdeal.main_arg2)) := by
  unfold Cert.InDwIdeal.Block.H
  entry_read
  rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = val_main_v19 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.InDwRefIdeal.Value
end
-- ==== Proof.InDwClaim.lean ====
module

public import proofs.«01_k».proof.Defs
public import proofs.«01_k».proof.Proof.InDwEq
public import Idealize.ShloMosaic.Lib.Claim

/-! The kernel for the gradient of the input projection's weight and the reference agree. -/

@[expose] public section

noncomputable section

namespace Cert.Proof.InDw

open Idealize.ShloMosaic Idealize.ShloMosaic.TcCoe Idealize.SL.Sem

/-- What the kernel leaves in its result is what the reference leaves in its own. -/
theorem algebraic : Cert.algebraic_InDwIdeal_InDwRefIdeal := by
  pair_intro
  · run_from Cert.InDwIdeal.Value.run_blocks m g
  · run_from Cert.InDwRefIdeal.Value.run_val m' g'
    rw [Cert.InDwIdeal.Block.final m c]
    funext i
    rw [eq_ix2 i]
    unfold Cert.InDwIdeal.Block.G
    rw [Cert.InDwRefIdeal.Value.H_eq]
    exact Cert.InDwRefIdeal.Value.ref_apply _ _ _ _ _

/-- The reference runs and leaves its arguments unchanged. -/
theorem frame_ref : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

end Cert.Proof.InDw
end
-- ==== Proof.OutDwBlock.lean ====
module

public import proofs.«01_k».proof.Proof.Gen.OutDwIdeal.Value
public import Idealize.ShloMosaic.Lib.Pointwise
public import Idealize.ShloMosaic.Lib.Pipeline.ValueKit
public import Idealize.ShloMosaic.Lib.Pipeline.ReadBack

/-! What the kernel for the gradient of the output projection's weight accumulates, and what its result array holds. -/

@[expose] public section

noncomputable section

namespace Cert.OutDwIdeal.Block

open Idealize.ShloMosaic Idealize.ShloMosaic.TcCoe Cert.OutDwIdeal Cert.OutDwIdeal.Gen Cert.OutDwIdeal.Value

/-- One block's product: the sum over its tokens. -/
def part (a : Vec Ideal S2048x1024 .bf16) (b : Vec Ideal S2048x1024 .bf16) (j : S1024x1024.Idx) : EReal :=
  ∑ k : Fin 2048, (a (ix2 k (j 0)) : EReal) * b (ix2 k (j 1))

/-- The product of the transpose of `a` with `b`: the sum over the tokens. -/
def weightGrad (a : (⟨2, ![4096, 1024]⟩ : Shape).Idx → EReal) (b : (⟨2, ![4096, 1024]⟩ : Shape).Idx → EReal)
    (l : Fin 1024) (k : Fin 1024) : EReal :=
  ∑ r : Fin 4096, a (ix2 r l) * b (ix2 r k)

/-- One step of the accumulation at an index: the block's product is added to what was there. -/
theorem pay2_apply (acc : Vec Ideal S1024x1024 .f32) (a : Vec Ideal S2048x1024 .bf16) (b : Vec Ideal S2048x1024 .bf16)
    (j : S1024x1024.Idx) :
    k0_pay2 (F := Ideal) acc a b j = (acc j : EReal) + part a b j := by
  rw [eq_ix2 j]
  pointwise [k0_pay2, dot_S2048x1024_S2048x1024_S1024x1024_0_0_1_1_n_n, part]

/-- The accumulator starts at zero. -/
theorem pay1_apply (j : S1024x1024.Idx) : k0_pay1 (F := Ideal) j = 0 := by
  rw [eq_ix2 j]
  pointwise [k0_pay1]

variable (m : (ℓ : Loc nD τ sig) → Buf (Elt Ideal) ℓ)

/-- What the result array is shown to hold. -/
def G (c : Dev nD) : Buf (Elt Ideal) ((c : Thread nD τ).loc main_v0) := fun i => weightGrad (m ((c : Thread nD τ).loc main_arg0)) (m ((c : Thread nD τ).loc main_arg1)) (i 0) (i 1)

/-- Each window's block index at each grid point. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- What the accumulator holds when a block is written back. -/
theorem acc_eq (c : Dev nD) (t : Fin cfg0.N) (hf : (cfg0.win 2).flush t = true) (j : S1024x1024.Idx) :
    (outsAt0 m c t.val t.isLt).2 j = ∑ s : Fin 2,
      part (iblk m c 0 ⟨2 * (t.val / 2) + s.val, Pipeline.run_point_lt_of_flush t ((flush0_2 t).mp hf) s⟩)
        (iblk m c 1 ⟨2 * (t.val / 2) + s.val, Pipeline.run_point_lt_of_flush t ((flush0_2 t).mp hf) s⟩) j := by
  rw [Pipeline.eq_sum_fin_of_reset_step_apply_of_flush (fun n h => (outsAt0 m c n h).2) 2 (fun _ => (0 : EReal))
    (fun p j => part (iblk m c 0 p) (iblk m c 1 p) j)
    (fun t h j => by rw [outsAt0_A m c t h (by omega)]; frame_out; rw [pay2_apply, pay1_apply])
    (fun t h j => by rw [outsAt0_B m c t h (by omega)]; frame_out; rw [read_unread_whole, pay2_apply]) t ((flush0_2 t).mp hf) j, zero_add]

/-- What is written back is the accumulator. -/
theorem out_eq (c : Dev nD) (t : Fin cfg0.N) (hf : (cfg0.win 2).flush t = true) (j : S1024x1024.Idx) :
    (outsAt0 m c t.val t.isLt).1 j = (outsAt0 m c t.val t.isLt).2 j := by
  have h : t.val % 2 = 1 := (flush0_2 t).mp hf
  rw [outsAt0_B m c t (by omega) h]
  frame_out
  rw [eq_ix2 j]
  pointwise [k0_pay3]

/-- The result array after the run. -/
theorem final (c : Dev nD) : (dats m 0 c).arrAt 2 cfg0.N = G m c := by
  refine (dats m 0 c).arrAt_eq_of_covers 2 _ (by decide +kernel) fun t hf y => ?_
  blk_simp
  rw [after0_2]
  refine (out_eq m c t hf y).trans ((acc_eq m c t hf y).trans ?_)
  unfold part G weightGrad
  refine Fin.sum_mul_add_congr fun s k hl => ?_
  have i0 := idx ⟨_, Pipeline.run_point_lt_of_flush t ((flush0_2 t).mp hf) s⟩
  have i1 := idx t
  congr 1
  · blk_ext! [iblk, V, i0, i1]
  · blk_ext! [iblk, V, i0, i1]

end Cert.OutDwIdeal.Block
end
-- ==== Proof.OutDwEq.lean ====
module

public import proofs.«01_k».proof.Proof.OutDwBlock
public import proofs.«01_k».proof.Proof.Gen.OutDwRefIdeal.Read
public import proofs.«01_k».proof.Proof.Gen.OutDwRefIdeal.Run

/-! The reference's result for the gradient of the output projection's weight, element by element. -/

@[expose] public section

noncomputable section

namespace Cert.OutDwRefIdeal.Value

open Idealize.ShloMosaic Idealize.ShloMosaic.TcCoe Idealize.SL.Sem Cert.OutDwRefIdeal Cert.OutDwRefIdeal.Gen Cert.OutDwRefIdeal.Read

/-- The reference's gradient at one index. -/
theorem ref_apply (x0 x1 : Vec Ideal S4096x1024 .bf16)
    (l : Fin 1024) (k : Fin 1024) :
    val_main_v6 (F := Ideal) x0 x1 (ix2 l k) = Cert.OutDwIdeal.Block.weightGrad x0 x1 l k := by
  pointwise [val_main_v6, val_main_v5, val_main_v4, val_main_v3, val_main_v1, dot_S4096x1024_S4096x1024_S1024x1024_0_0_1_1_n_n]
  unfold Cert.OutDwIdeal.Block.weightGrad
  exact Finset.sum_congr rfl fun r _ => mul_comm _ _

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
          = val_main_v6 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.OutDwRefIdeal.Value
end
-- ==== Proof.OutDwClaim.lean ====
module

public import proofs.«01_k».proof.Defs
public import proofs.«01_k».proof.Proof.OutDwEq
public import Idealize.ShloMosaic.Lib.Claim

/-! The kernel for the gradient of the output projection's weight and the reference agree. -/

@[expose] public section

noncomputable section

namespace Cert.Proof.OutDw

open Idealize.ShloMosaic Idealize.ShloMosaic.TcCoe Idealize.SL.Sem

/-- What the kernel leaves in its result is what the reference leaves in its own. -/
theorem algebraic : Cert.algebraic_OutDwIdeal_OutDwRefIdeal := by
  pair_intro
  · run_from Cert.OutDwIdeal.Value.run_blocks m g
  · run_from Cert.OutDwRefIdeal.Value.run_val m' g'
    rw [Cert.OutDwIdeal.Block.final m c]
    funext i
    rw [eq_ix2 i]
    unfold Cert.OutDwIdeal.Block.G
    exact Cert.OutDwRefIdeal.Value.ref_apply _ _ _ _

/-- The reference runs and leaves its arguments unchanged. -/
theorem frame_ref : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

end Cert.Proof.OutDw
end
-- ==== Proof.OutDxBlock.lean ====
module

public import proofs.«01_k».proof.Proof.Gen.OutDxIdeal.Value
public import Idealize.ShloMosaic.Lib.Pointwise
public import Idealize.ShloMosaic.Lib.Pipeline.ValueKit
public import Idealize.ShloMosaic.Lib.Pipeline.ReadBack

/-! What one block of the kernel for the gradient of the output projection's operand computes, and what its result array holds. -/

@[expose] public section

noncomputable section

namespace Cert.OutDxIdeal.Block

open Idealize.ShloMosaic Idealize.ShloMosaic.TcCoe Cert.OutDxIdeal Cert.OutDxIdeal.Gen Cert.OutDxIdeal.Value

/-- The product of `a` with the transpose of `w`. -/
def prodT {R : Nat} (a : (⟨2, ![R, 1024]⟩ : Shape).Idx → EReal) (w : (⟨2, ![1024, 1024]⟩ : Shape).Idx → EReal)
    (r : Fin R) (l : Fin 1024) : EReal :=
  ∑ k : Fin 1024, a (ix2 r k) * w (ix2 l k)

/-- One block's values. -/
theorem pay1_apply (a : Vec Ideal S512x1024 .bf16) (w : Vec Ideal S1024x1024 .bf16) (j : S512x1024.Idx) :
    k0_pay1 (F := Ideal) a w j = prodT (R := 512) a w (j 0) (j 1) := by
  rw [eq_ix2 j]
  pointwise [k0_pay1, dot_S512x1024_S1024x1024_S512x1024_1_1_0_0_n_n]
  rfl

variable (m : (ℓ : Loc nD τ sig) → Buf (Elt Ideal) ℓ)

/-- What the result array is shown to hold. -/
def G (c : Dev nD) : Buf (Elt Ideal) ((c : Thread nD τ).loc main_v0) := fun i =>
  prodT (R := 4096) (m ((c : Thread nD τ).loc main_arg0)) (m ((c : Thread nD τ).loc main_arg1)) (i 0) (i 1)

/-- Each window's block index at each grid point. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 cfg0.N = G m c := by
  refine (dats m 0 c).arrAt_eq_of_covers 2 _ (by decide +kernel) fun t hf y => ?_
  blk_simp
  rw [after0_2]
  frame_out
  refine (pay1_apply _ _ _).trans ?_
  unfold prodT G prodT
  refine Finset.sum_congr rfl fun k _ => ?_
  congr 1
  · blk_ext! [iblk, V, idx t]
  · blk_ext! [iblk, V, idx t]

end Cert.OutDxIdeal.Block
end
-- ==== Proof.OutDxEq.lean ====
module

public import proofs.«01_k».proof.Proof.OutDxBlock
public import proofs.«01_k».proof.Proof.Gen.OutDxRefIdeal.Read
public import proofs.«01_k».proof.Proof.Gen.OutDxRefIdeal.Run

/-! The reference's result for the gradient of the output projection's operand, element by element. -/

@[expose] public section

noncomputable section

namespace Cert.OutDxRefIdeal.Value

open Idealize.ShloMosaic Idealize.ShloMosaic.TcCoe Idealize.SL.Sem Cert.OutDxRefIdeal Cert.OutDxRefIdeal.Gen Cert.OutDxRefIdeal.Read

/-- The reference's result at one index. -/
theorem ref_apply (x0 : Vec Ideal S4096x1024 .bf16) (x1 : Vec Ideal S1024x1024 .bf16)
    (r : Fin 4096) (l : Fin 1024) :
    val_main_v5 (F := Ideal) x0 x1 (ix2 r l) = Cert.OutDxIdeal.Block.prodT (R := 4096) x0 x1 r l := by
  pointwise [val_main_v5, val_main_v4, val_main_v3, val_main_v1, dot_S4096x1024_S1024x1024_S4096x1024_1_1_0_0_n_n]
  rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = val_main_v5 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.OutDxRefIdeal.Value
end
-- ==== Proof.OutDxClaim.lean ====
module

public import proofs.«01_k».proof.Defs
public import proofs.«01_k».proof.Proof.OutDxEq
public import Idealize.ShloMosaic.Lib.Claim

/-! The kernel for the gradient of the output projection's operand and the reference agree. -/

@[expose] public section

noncomputable section

namespace Cert.Proof.OutDx

open Idealize.ShloMosaic Idealize.ShloMosaic.TcCoe Idealize.SL.Sem

/-- What the kernel leaves in its result is what the reference leaves in its own. -/
theorem algebraic : Cert.algebraic_OutDxIdeal_OutDxRefIdeal := by
  pair_intro
  · run_from Cert.OutDxIdeal.Value.run_blocks m g
  · run_from Cert.OutDxRefIdeal.Value.run_val m' g'
    rw [Cert.OutDxIdeal.Block.final m c]
    funext i
    rw [eq_ix2 i]
    unfold Cert.OutDxIdeal.Block.G
    exact Cert.OutDxRefIdeal.Value.ref_apply _ _ _ _

/-- The reference runs and leaves its arguments unchanged. -/
theorem frame_ref : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

end Cert.Proof.OutDx
end
-- ==== Proof.DownFwdBlock.lean ====
module

public import proofs.«01_k».proof.Proof.Gen.DownFwdIdeal.Value
public import Idealize.ShloMosaic.Lib.Pointwise
public import Idealize.ShloMosaic.Lib.Pipeline.ValueKit
public import Idealize.ShloMosaic.Lib.Pipeline.ReadBack

/-! What one block of the kernel for the down projection computes, and what its result array holds. -/

@[expose] public section

noncomputable section

namespace Cert.DownFwdIdeal.Block

open Idealize.ShloMosaic Idealize.ShloMosaic.TcCoe Cert.DownFwdIdeal Cert.DownFwdIdeal.Gen Cert.DownFwdIdeal.Value

/-- The product of `a` with `w`, added to `x`. -/
def addProd {R : Nat} (a : (⟨2, ![R, 2816]⟩ : Shape).Idx → EReal) (w : (⟨2, ![2816, 1024]⟩ : Shape).Idx → EReal)
    (x : (⟨2, ![R, 1024]⟩ : Shape).Idx → EReal) (r : Fin R) (l : Fin 1024) : EReal :=
  x (ix2 r l) + ∑ k : Fin 2816, a (ix2 r k) * w (ix2 k l)

/-- One block's values. -/
theorem pay1_apply (a : Vec Ideal S512x2816 .bf16) (w : Vec Ideal S2816x1024 .bf16) (x : Vec Ideal S512x1024 .f32) (j : S512x1024.Idx) :
    k0_pay1 (F := Ideal) a w x j = addProd (R := 512) a w x (j 0) (j 1) := by
  rw [eq_ix2 j]
  pointwise [k0_pay1, dot_S512x2816_S2816x1024_S512x1024_1_0_0_1_n_n]
  unfold addProd
  rw [← eq_ix2 j]
  exact add_comm (G := EReal) _ _

/-- One block of the result from the blocks of the operands. -/
theorem out_apply (a : Vec Ideal S512x2816 .bf16) (w : Vec Ideal S2816x1024 .bf16) (x : Vec Ideal S512x1024 .f32) (j : S512x1024.Idx) :
    out0_3 (F := Ideal) a w x j = addProd (R := 512) a w x (j 0) (j 1) := by
  frame_out
  exact pay1_apply _ _ _ _

variable (m : (ℓ : Loc nD τ sig) → Buf (Elt Ideal) ℓ)

/-- The activation the kernel is given. -/
abbrev H (c : Dev nD) : Buf (Elt Ideal) ((c : Thread nD τ).loc main_v8) := V m c main_v8

/-- What the result array is shown to hold. -/
def G (c : Dev nD) : Buf (Elt Ideal) ((c : Thread nD τ).loc main_v9) := fun i =>
  addProd (R := 4096) (H m c) (m ((c : Thread nD τ).loc main_arg1)) (m ((c : Thread nD τ).loc main_arg2)) (i 0) (i 1)

/-- Each window's block index at each grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The first factor's block at a point, read off the array. -/
theorem blkA (c : Dev nD) (t : Fin cfg0.N) (y : S512x1024.Idx) (k : Fin 2816) :
    iblk m c 0 t (ix2 (y 0) k) = (H m c) (ix2 ((win0_3.blk t).view.emb y 0) k) := by
  have i0 := idx t
  blk_ext! [iblk, i0]

/-- The second factor's block at a point. -/
theorem blkB (c : Dev nD) (t : Fin cfg0.N) (y : S512x1024.Idx) (k : Fin 2816) :
    iblk m c 1 t (ix2 k (y 1)) = m ((c : Thread nD τ).loc main_arg1) (ix2 k ((win0_3.blk t).view.emb y 1)) := by
  have i0 := idx t
  rw [← V_main_arg1 m c]
  blk_ext! [iblk, i0]

/-- The addend's block at a point. -/
theorem blkC (c : Dev nD) (t : Fin cfg0.N) (y : S512x1024.Idx) :
    iblk m c 2 t (ix2 (y 0) (y 1)) = m ((c : Thread nD τ).loc main_arg2) (ix2 ((win0_3.blk t).view.emb y 0) ((win0_3.blk t).view.emb y 1)) := by
  have i0 := idx t
  rw [← V_main_arg2 m c]
  blk_ext! [iblk, i0]

/-- The result array after the run. -/
theorem final (c : Dev nD) : (dats m 0 c).arrAt 3 cfg0.N = G m c := by
  refine (dats m 0 c).arrAt_eq_of_covers 3 _ (by decide +kernel) fun t hf y => ?_
  blk_simp
  rw [after0_3]
  refine (out_apply _ _ _ _).trans ?_
  exact congrArg₂ (fun a b : EReal => a + b) (blkC m c t y)
    (Finset.sum_congr rfl fun k _ => congrArg₂ (fun a b : EReal => a * b) (blkA m c t y k) (blkB m c t y k))

end Cert.DownFwdIdeal.Block
end
-- ==== Proof.DownFwdEq.lean ====
module

public import proofs.«01_k».proof.Proof.DownFwdBlock
public import proofs.«01_k».proof.Proof.Gen.DownFwdRefIdeal.Read
public import proofs.«01_k».proof.Proof.Gen.DownFwdRefIdeal.Run

/-! The reference's result for the down projection, element by element. -/

@[expose] public section

noncomputable section

namespace Cert.DownFwdRefIdeal.Value

open Idealize.ShloMosaic Idealize.ShloMosaic.TcCoe Idealize.SL.Sem Cert.DownFwdRefIdeal Cert.DownFwdRefIdeal.Gen Cert.DownFwdRefIdeal.Read

/-- The reference's result at one index. -/
theorem ref_apply (x0 : Vec Ideal S2x4096x2816 .bf16) (x1 : Vec Ideal S2816x1024 .bf16) (x2 : Vec Ideal S4096x1024 .f32)
    (r : Fin 4096) (l : Fin 1024) :
    val_main_v10 (F := Ideal) x0 x1 x2 (ix2 r l) = Cert.DownFwdIdeal.Block.addProd (R := 4096) (val_main_v7 x0) x1 x2 r l := by
  pointwise [val_main_v10, val_main_v9, val_main_v8, dot_S4096x2816_S2816x1024_S4096x1024_1_0_0_1_n_n]
  rfl

/-- The activation the kernel's host code computes is the reference's. -/
theorem H_eq (m : (ℓ : Loc Cert.DownFwdIdeal.nD Cert.DownFwdIdeal.τ Cert.DownFwdIdeal.sig) → Buf (Elt Ideal) ℓ)
    (c : Dev Cert.DownFwdIdeal.nD) :
    Cert.DownFwdIdeal.Block.H m c = val_main_v7 (F := Ideal) (m ((c : Thread Cert.DownFwdIdeal.nD Cert.DownFwdIdeal.τ).loc Cert.DownFwdIdeal.main_arg0)) := by
  unfold Cert.DownFwdIdeal.Block.H
  entry_read
  rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
          = val_main_v10 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.DownFwdRefIdeal.Value
end
-- ==== Proof.DownFwdClaim.lean ====
module

public import proofs.«01_k».proof.Defs
public import proofs.«01_k».proof.Proof.DownFwdEq
public import Idealize.ShloMosaic.Lib.Claim

/-! The kernel for the down projection and the reference agree. -/

@[expose] public section

noncomputable section

namespace Cert.Proof.DownFwd

open Idealize.ShloMosaic Idealize.ShloMosaic.TcCoe Idealize.SL.Sem

/-- What the kernel leaves in its result is what the reference leaves in its own. -/
theorem algebraic : Cert.algebraic_DownFwdIdeal_DownFwdRefIdeal := by
  pair_intro
  · run_from Cert.DownFwdIdeal.Value.run_blocks m g
  · run_from Cert.DownFwdRefIdeal.Value.run_val m' g'
    rw [Cert.DownFwdIdeal.Block.final m c]
    funext i
    rw [eq_ix2 i]
    unfold Cert.DownFwdIdeal.Block.G
    rw [Cert.DownFwdRefIdeal.Value.H_eq]
    exact Cert.DownFwdRefIdeal.Value.ref_apply _ _ _ _ _

/-- The reference runs and leaves its arguments unchanged. -/
theorem frame_ref : Cert.quiescent_DownFwdRefIdeal := fun m ρ _ =>
  (θ_run Cert.DownFwdRefIdeal.defs _ _).mono (fun r h => ⟨fun c => (h c).2, sem_eq_zero_of_no_sems (by decide) r.2⟩)
    (Cert.DownFwdRefIdeal.Value.run (F := Ideal) m ρ)

end Cert.Proof.DownFwd
end
-- ==== Proof.OutFwdBlock.lean ====
module

public import proofs.«01_k».proof.Proof.Gen.OutFwdIdeal.Value
public import Idealize.ShloMosaic.Lib.Pointwise
public import Idealize.ShloMosaic.Lib.Pipeline.ValueKit
public import Idealize.ShloMosaic.Lib.Pipeline.ReadBack

/-! What one block of the kernel for the output projection computes, and what its result array holds. -/

@[expose] public section

noncomputable section

namespace Cert.OutFwdIdeal.Block

open Idealize.ShloMosaic Idealize.ShloMosaic.TcCoe Cert.OutFwdIdeal Cert.OutFwdIdeal.Gen Cert.OutFwdIdeal.Value

/-- The product of `a` with `w`, added to `x`. -/
def addProd {R : Nat} (a : (⟨2, ![R, 1024]⟩ : Shape).Idx → EReal) (w : (⟨2, ![1024, 1024]⟩ : Shape).Idx → EReal)
    (x : (⟨2, ![R, 1024]⟩ : Shape).Idx → EReal) (r : Fin R) (l : Fin 1024) : EReal :=
  x (ix2 r l) + ∑ k : Fin 1024, a (ix2 r k) * w (ix2 k l)

/-- One block's values. -/
theorem pay1_apply (a : Vec Ideal S512x1024 .bf16) (w : Vec Ideal S1024x1024 .bf16) (x : Vec Ideal S512x1024 .f32) (j : S512x1024.Idx) :
    k0_pay1 (F := Ideal) a w x j = addProd (R := 512) a w x (j 0) (j 1) := by
  rw [eq_ix2 j]
  pointwise [k0_pay1, dot_S512x1024_S1024x1024_S512x1024_1_0_0_1_n_n]
  unfold addProd
  rw [← eq_ix2 j]
  exact add_comm (G := EReal) _ _

/-- One block of the result from the blocks of the operands. -/
theorem out_apply (a : Vec Ideal S512x1024 .bf16) (w : Vec Ideal S1024x1024 .bf16) (x : Vec Ideal S512x1024 .f32) (j : S512x1024.Idx) :
    out0_3 (F := Ideal) a w x j = addProd (R := 512) a w x (j 0) (j 1) := by
  frame_out
  exact pay1_apply _ _ _ _

variable (m : (ℓ : Loc nD τ sig) → Buf (Elt Ideal) ℓ)

/-- What the result array is shown to hold. -/
def G (c : Dev nD) : Buf (Elt Ideal) ((c : Thread nD τ).loc main_v0) := fun i =>
  addProd (R := 4096) (m ((c : Thread nD τ).loc main_arg0)) (m ((c : Thread nD τ).loc main_arg1)) (m ((c : Thread nD τ).loc main_arg2)) (i 0) (i 1)

/-- Each window's block index at each grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The first factor's block at a point, read off the array. -/
theorem blkA (c : Dev nD) (t : Fin cfg0.N) (y : S512x1024.Idx) (k : Fin 1024) :
    iblk m c 0 t (ix2 (y 0) k) = (m ((c : Thread nD τ).loc main_arg0)) (ix2 ((win0_3.blk t).view.emb y 0) k) := by
  have i0 := idx t
  blk_ext! [iblk, V, i0]

/-- The second factor's block at a point. -/
theorem blkB (c : Dev nD) (t : Fin cfg0.N) (y : S512x1024.Idx) (k : Fin 1024) :
    iblk m c 1 t (ix2 k (y 1)) = m ((c : Thread nD τ).loc main_arg1) (ix2 k ((win0_3.blk t).view.emb y 1)) := by
  have i0 := idx t
  rw [← V_main_arg1 m c]
  blk_ext! [iblk, i0]

/-- The addend's block at a point. -/
theorem blkC (c : Dev nD) (t : Fin cfg0.N) (y : S512x1024.Idx) :
    iblk m c 2 t (ix2 (y 0) (y 1)) = m ((c : Thread nD τ).loc main_arg2) (ix2 ((win0_3.blk t).view.emb y 0) ((win0_3.blk t).view.emb y 1)) := by
  have i0 := idx t
  rw [← V_main_arg2 m c]
  blk_ext! [iblk, i0]

/-- The result array after the run. -/
theorem final (c : Dev nD) : (dats m 0 c).arrAt 3 cfg0.N = G m c := by
  refine (dats m 0 c).arrAt_eq_of_covers 3 _ (by decide +kernel) fun t hf y => ?_
  blk_simp
  rw [after0_3]
  refine (out_apply _ _ _ _).trans ?_
  unfold addProd G addProd
  rw [blkC m c t y]
  congr 1
  refine Finset.sum_congr rfl fun k _ => ?_
  rw [blkA m c t y k, blkB m c t y k]

end Cert.OutFwdIdeal.Block
end
-- ==== Proof.OutFwdEq.lean ====
module

public import proofs.«01_k».proof.Proof.OutFwdBlock
public import proofs.«01_k».proof.Proof.Gen.OutFwdRefIdeal.Read
public import proofs.«01_k».proof.Proof.Gen.OutFwdRefIdeal.Run

/-! The reference's result for the output projection, element by element. -/

@[expose] public section

noncomputable section

namespace Cert.OutFwdRefIdeal.Value

open Idealize.ShloMosaic Idealize.ShloMosaic.TcCoe Idealize.SL.Sem Cert.OutFwdRefIdeal Cert.OutFwdRefIdeal.Gen Cert.OutFwdRefIdeal.Read

/-- The reference's result at one index. -/
theorem ref_apply (x0 : Vec Ideal S4096x1024 .bf16) (x1 : Vec Ideal S1024x1024 .bf16) (x2 : Vec Ideal S4096x1024 .f32)
    (r : Fin 4096) (l : Fin 1024) :
    val_main_v3 (F := Ideal) x0 x1 x2 (ix2 r l) = Cert.OutFwdIdeal.Block.addProd (R := 4096) x0 x1 x2 r l := by
  pointwise [val_main_v3, val_main_v2, val_main_v1, val_main_v0, dot_S4096x1024_S1024x1024_S4096x1024_1_0_0_1_n_n]
  rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
          = val_main_v3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.OutFwdRefIdeal.Value
end
-- ==== Proof.OutFwdClaim.lean ====
module

public import proofs.«01_k».proof.Defs
public import proofs.«01_k».proof.Proof.OutFwdEq
public import Idealize.ShloMosaic.Lib.Claim

/-! The kernel for the output projection and the reference agree. -/

@[expose] public section

noncomputable section

namespace Cert.Proof.OutFwd

open Idealize.ShloMosaic Idealize.ShloMosaic.TcCoe Idealize.SL.Sem

/-- What the kernel leaves in its result is what the reference leaves in its own. -/
theorem algebraic : Cert.algebraic_OutFwdIdeal_OutFwdRefIdeal := by
  pair_intro
  · run_from Cert.OutFwdIdeal.Value.run_blocks m g
  · run_from Cert.OutFwdRefIdeal.Value.run_val m' g'
    rw [Cert.OutFwdIdeal.Block.final m c]
    funext i
    rw [eq_ix2 i]
    unfold Cert.OutFwdIdeal.Block.G
    exact Cert.OutFwdRefIdeal.Value.ref_apply _ _ _ _ _

/-- The reference runs and leaves its arguments unchanged. -/
theorem frame_ref : Cert.quiescent_OutFwdRefIdeal := fun m ρ _ =>
  (θ_run Cert.OutFwdRefIdeal.defs _ _).mono (fun r h => ⟨fun c => (h c).2, sem_eq_zero_of_no_sems (by decide) r.2⟩)
    (Cert.OutFwdRefIdeal.Value.run (F := Ideal) m ρ)

end Cert.Proof.OutFwd
end
-- ==== Proof.InFwdBlock.lean ====
module

public import proofs.«01_k».proof.Proof.Gen.InFwdIdeal.Value
public import Idealize.ShloMosaic.Lib.Pointwise
public import Idealize.ShloMosaic.Lib.Pipeline.ValueKit
public import Idealize.ShloMosaic.Lib.Pipeline.ReadBack
public import proofs.«01_k».proof.Proof.Norm

/-! What one block of the kernel for the norm and the in-projection computes, and what its result arrays hold. -/

@[expose] public section

noncomputable section

namespace Cert.InFwdIdeal.Block

open Idealize.ShloMosaic Idealize.ShloMosaic.TcCoe Cert.InFwdIdeal Cert.InFwdIdeal.Gen Cert.InFwdIdeal.Value Cert.Norm

/-- One element of the normalised rows of `x`. -/
def hid {R : Nat} (x : (⟨2, ![R, 1024]⟩ : Shape).Idx → EReal) (g : Fin 1024 → EReal) (r : Fin R) (l : Fin 1024) : EReal :=
  normed (fun k => x (ix2 r k)) g l

/-- One element of the normalised rows of `x` times the transpose of `w`. -/
def prod {R L : Nat} (x : (⟨2, ![R, 1024]⟩ : Shape).Idx → EReal) (g : Fin 1024 → EReal)
    (w : (⟨2, ![L, 1024]⟩ : Shape).Idx → EReal) (r : Fin R) (l : Fin L) : EReal :=
  ∑ k : Fin 1024, hid x g r k * w (ix2 l k)

/-- One block's normalised rows. -/
theorem pay1_apply (x : Vec Ideal S512x1024 .f32) (g : Vec Ideal S1x1024 .f32) (r : Fin 512) (l : Fin 1024) :
    k0_pay1 (F := Ideal) x g (ix2 r l) = hid (R := 512) x (fun k => g (ix2 0 k)) r l := by
  pointwise [k0_pay1]
  rfl

/-- One block's products. -/
theorem pay2_apply (x : Vec Ideal S512x1024 .f32) (g : Vec Ideal S1x1024 .f32) (w : Vec Ideal S1792x1024 .bf16) (r : Fin 512) (l : Fin 1792) :
    k0_pay2 (F := Ideal) x g w (ix2 r l) = prod (R := 512) (L := 1792) x (fun k => g (ix2 0 k)) w r l := by
  unfold prod
  simp only [← pay1_apply]
  pointwise [k0_pay2, dot_S512x1024_S1792x1024_S512x1792_1_1_0_0_n_n]

/-- One block of the first result from the blocks of the operands. -/
theorem out3_apply (x : Vec Ideal S512x1024 .f32) (g : Vec Ideal S1x1024 .f32) (w : Vec Ideal S1792x1024 .bf16) (j : S512x1792.Idx) :
    out0_3 (F := Ideal) x g w j = prod (R := 512) (L := 1792) x (fun k => g (ix2 0 k)) w (j 0) (j 1) := by
  frame_out
  rw [eq_ix2 j]
  exact pay2_apply _ _ _ _ _

/-- One block of the second result from the blocks of the operands. -/
theorem out4_apply (x : Vec Ideal S512x1024 .f32) (g : Vec Ideal S1x1024 .f32) (w : Vec Ideal S1792x1024 .bf16) (j : S512x1024.Idx) :
    out0_4 (F := Ideal) x g w j = hid (R := 512) x (fun k => g (ix2 0 k)) (j 0) (j 1) := by
  frame_out
  rw [eq_ix2 j]
  exact pay1_apply _ _ _ _

variable (m : (ℓ : Loc nD τ sig) → Buf (Elt Ideal) ℓ)

/-- What the first result array is shown to hold. -/
def G3 (c : Dev nD) : Buf (Elt Ideal) ((c : Thread nD τ).loc main_v1_0) := fun i =>
  prod (R := 4096) (L := 1792) (m ((c : Thread nD τ).loc main_arg0)) (fun k => m ((c : Thread nD τ).loc main_arg1) (ix1 k))
    (m ((c : Thread nD τ).loc main_arg2)) (i 0) (i 1)

/-- What the second result array is shown to hold. -/
def G4 (c : Dev nD) : Buf (Elt Ideal) ((c : Thread nD τ).loc main_v1_1) := fun i =>
  hid (R := 4096) (m ((c : Thread nD τ).loc main_arg0)) (fun k => m ((c : Thread nD τ).loc main_arg1) (ix1 k)) (i 0) (i 1)

/-- Each window's block index at each grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The rows' block at a point, read off the array. -/
theorem blkX (c : Dev nD) (t : Fin cfg0.N) (y : S512x1024.Idx) (k : Fin 1024) :
    iblk m c 0 t (ix2 (y 0) k) = m ((c : Thread nD τ).loc main_arg0) (ix2 ((win0_4.blk t).view.emb y 0) k) := by
  have i0 := idx t
  rw [← V_main_arg0 m c]
  blk_ext! [iblk, i0]

/-- The rows' block at a point, placed by the first result's block. -/
theorem blkX' (c : Dev nD) (t : Fin cfg0.N) (y : S512x1792.Idx) (k : Fin 1024) :
    iblk m c 0 t (ix2 (y 0) k) = m ((c : Thread nD τ).loc main_arg0) (ix2 ((win0_3.blk t).view.emb y 0) k) := by
  have i0 := idx t
  rw [← V_main_arg0 m c]
  blk_ext! [iblk, i0]

/-- The weight's block at a point. -/
theorem blkW (c : Dev nD) (t : Fin cfg0.N) (y : S512x1792.Idx) (k : Fin 1024) :
    iblk m c 2 t (ix2 (y 1) k) = m ((c : Thread nD τ).loc main_arg2) (ix2 ((win0_3.blk t).view.emb y 1) k) := by
  have i0 := idx t
  rw [← V_main_arg2 m c]
  blk_ext! [iblk, i0]

/-- The gain the host lays out as a row. -/
theorem gain (c : Dev nD) (k : Fin 1024) : V m c main_v0 (ix2 0 k) = m ((c : Thread nD τ).loc main_arg1) (ix1 k) := by
  entry_read
  pointwise []

/-- The gain's block at a point. -/
theorem blkG (c : Dev nD) (t : Fin cfg0.N) (k : Fin 1024) :
    iblk m c 1 t (ix2 0 k) = m ((c : Thread nD τ).loc main_arg1) (ix1 k) := by
  have i0 := idx t
  rw [← gain m c k]
  blk_ext! [iblk, i0]

/-- The first result array after the run. -/
theorem final3 (c : Dev nD) : (dats m 0 c).arrAt 3 cfg0.N = G3 m c := by
  refine (dats m 0 c).arrAt_eq_of_covers 3 _ (by decide +kernel) fun t hf y => ?_
  blk_simp
  rw [after0_3]
  refine (out3_apply _ _ _ _).trans ?_
  unfold G3 prod hid
  simp only [blkG m c t, blkX' m c t y, blkW m c t y]

/-- The second result array after the run. -/
theorem final4 (c : Dev nD) : (dats m 0 c).arrAt 4 cfg0.N = G4 m c := by
  refine (dats m 0 c).arrAt_eq_of_covers 4 _ (by decide +kernel) fun t hf y => ?_
  blk_simp
  rw [after0_4]
  refine (out4_apply _ _ _ _).trans ?_
  have e1 : ((win0_4.blk t).view.emb y 1 : Fin 1024) = y 1 := Fin.ext (by blk_simp [idx t])
  unfold G4 hid
  simp only [blkG m c t, blkX m c t y]
  rw [e1]

end Cert.InFwdIdeal.Block
end
-- ==== Proof.InFwdEq.lean ====
module

public import proofs.«01_k».proof.Proof.InFwdBlock
public import proofs.«01_k».proof.Proof.Gen.InFwdRefIdeal.Read
public import proofs.«01_k».proof.Proof.Gen.InFwdRefIdeal.Run

/-! The reference's result for the norm and the in-projection, element by element. -/

@[expose] public section

noncomputable section

namespace Cert.InFwdRefIdeal.Value

open Idealize.ShloMosaic Idealize.ShloMosaic.TcCoe Idealize.SL.Sem Cert.InFwdRefIdeal Cert.InFwdRefIdeal.Gen Cert.InFwdRefIdeal.Read

/-- The reference's normalised rows. -/
theorem hid_apply (x0 : Vec Ideal S4096x1024 .f32) (x1 : Vec Ideal S1024 .f32) (r : Fin 4096) (l : Fin 1024) :
    val_main_v12 (F := Ideal) x0 x1 (ix2 r l) = Cert.InFwdIdeal.Block.hid (R := 4096) x0 (fun k => x1 (ix1 k)) r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's second result at one index. -/
theorem ref_hid (x0 : Vec Ideal S4096x1024 .f32) (x1 : Vec Ideal S1024 .f32) (r : Fin 4096) (l : Fin 1024) :
    val_main_v17 (F := Ideal) x0 x1 (ix2 r l) = Cert.InFwdIdeal.Block.hid (R := 4096) x0 (fun k => x1 (ix1 k)) r l :=
  hid_apply x0 x1 r l

/-- The reference's first result at one index. -/
theorem ref_prod (x0 : Vec Ideal S4096x1024 .f32) (x1 : Vec Ideal S1024 .f32) (x2 : Vec Ideal S1792x1024 .bf16) (r : Fin 4096) (l : Fin 1792) :
    val_main_v16 (F := Ideal) x0 x1 x2 (ix2 r l)
      = Cert.InFwdIdeal.Block.prod (R := 4096) (L := 1792) x0 (fun k => x1 (ix1 k)) x2 r l := by
  unfold Cert.InFwdIdeal.Block.prod
  simp only [← hid_apply]
  generalize hy : val_main_v12 (F := Ideal) x0 x1 = y
  unfold val_main_v16 val_main_v15
  rw [hy]
  pointwise [val_main_v14, val_main_v13, dot_S4096x1024_S1024x1792_S4096x1792_1_0_0_1_n_n]

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = val_main_v16 (m ((c.tc : Thread nD τ).loc main_arg0)) (m ((c.tc : Thread nD τ).loc main_arg1)) (m ((c.tc : Thread nD τ).loc main_arg2))
      ∧ r.2.mem ((c.tc : Thread nD τ).loc main_v17)
          = val_main_v17 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.InFwdRefIdeal.Value
end
-- ==== Proof.InFwdClaim.lean ====
module

public import proofs.«01_k».proof.Defs
public import proofs.«01_k».proof.Proof.InFwdEq
public import Idealize.ShloMosaic.Lib.Claim

/-! The kernel for the norm and the in-projection and the reference agree. -/

@[expose] public section

noncomputable section

namespace Cert.Proof.InFwd

open Idealize.ShloMosaic Idealize.ShloMosaic.TcCoe Idealize.SL.Sem

/-- What the kernel leaves in its result is what the reference leaves in its own. -/
theorem algebraic : Cert.algebraic_InFwdIdeal_InFwdRefIdeal := by
  pair_intro
  · run_from Cert.InFwdIdeal.Value.run_blocks m g
  · run_from Cert.InFwdRefIdeal.Value.run_val m' g'
    · rw [Cert.InFwdIdeal.Block.final3 m c]
      funext i
      rw [eq_ix2 i]
      exact Cert.InFwdRefIdeal.Value.ref_prod _ _ _ _ _
    · rw [Cert.InFwdIdeal.Block.final4 m c]
      funext i
      rw [eq_ix2 i]
      exact Cert.InFwdRefIdeal.Value.ref_hid _ _ _ _

/-- The reference runs and leaves its arguments unchanged. -/
theorem frame_ref : Cert.quiescent_InFwdRefIdeal := fun m ρ _ =>
  (θ_run Cert.InFwdRefIdeal.defs _ _).mono (fun r h => ⟨fun c => (h c).2.2, sem_eq_zero_of_no_sems (by decide) r.2⟩)
    (Cert.InFwdRefIdeal.Value.run (F := Ideal) m ρ)

end Cert.Proof.InFwd
end
-- ==== Proof.NormFwdBlock.lean ====
module

public import proofs.«01_k».proof.Proof.Gen.NormFwdIdeal.Value
public import Idealize.ShloMosaic.Lib.Pointwise
public import Idealize.ShloMosaic.Lib.Pipeline.ValueKit
public import Idealize.ShloMosaic.Lib.Pipeline.ReadBack
public import proofs.«01_k».proof.Proof.Norm

/-! What one block of the kernel for the norm computes, and what its result array holds. -/

@[expose] public section

noncomputable section

namespace Cert.NormFwdIdeal.Block

open Idealize.ShloMosaic Idealize.ShloMosaic.TcCoe Cert.NormFwdIdeal Cert.NormFwdIdeal.Gen Cert.NormFwdIdeal.Value Cert.Norm

/-- One element of the normalised rows of `x`. -/
def hid {R : Nat} (x : (⟨2, ![R, 1024]⟩ : Shape).Idx → EReal) (g : Fin 1024 → EReal) (r : Fin R) (l : Fin 1024) : EReal :=
  normed (fun k => x (ix2 r k)) g l

/-- One block's normalised rows. -/
theorem pay1_apply (x : Vec Ideal S512x1024 .f32) (g : Vec Ideal S1x1024 .f32) (r : Fin 512) (l : Fin 1024) :
    k0_pay1 (F := Ideal) x g (ix2 r l) = hid (R := 512) x (fun k => g (ix2 0 k)) r l := by
  pointwise [k0_pay1]
  rfl

/-- One block of the result from the blocks of the operands. -/
theorem out_apply (x : Vec Ideal S512x1024 .f32) (g : Vec Ideal S1x1024 .f32) (j : S512x1024.Idx) :
    out0_2 (F := Ideal) x g j = hid (R := 512) x (fun k => g (ix2 0 k)) (j 0) (j 1) := by
  frame_out
  rw [eq_ix2 j]
  exact pay1_apply _ _ _ _

variable (m : (ℓ : Loc nD τ sig) → Buf (Elt Ideal) ℓ)

/-- What the result array is shown to hold. -/
def G (c : Dev nD) : Buf (Elt Ideal) ((c : Thread nD τ).loc main_v1) := fun i =>
  hid (R := 4096) (m ((c : Thread nD τ).loc main_arg0)) (fun k => m ((c : Thread nD τ).loc main_arg1) (ix1 k)) (i 0) (i 1)

/-- Each window's block index at each grid point. -/
theorem idx : ∀ t : Fin cfg0.N, win0_0.index t = ![t.val, 0] ∧ win0_1.index t = ![0, 0] ∧ win0_2.index t = ![t.val, 0] :=
  (by decide +kernel : ∀ t : Fin grid0.N, _)

/-- The rows' block at a point, read off the array. -/
theorem blkX (c : Dev nD) (t : Fin cfg0.N) (y : S512x1024.Idx) (k : Fin 1024) :
    iblk m c 0 t (ix2 (y 0) k) = m ((c : Thread nD τ).loc main_arg0) (ix2 ((win0_2.blk t).view.emb y 0) k) := by
  have i0 := idx t
  rw [← V_main_arg0 m c]
  blk_ext! [iblk, i0]

/-- The gain the host lays out as a row. -/
theorem gain (c : Dev nD) (k : Fin 1024) : V m c main_v0 (ix2 0 k) = m ((c : Thread nD τ).loc main_arg1) (ix1 k) := by
  entry_read
  pointwise []

/-- The gain's block at a point. -/
theorem blkG (c : Dev nD) (t : Fin cfg0.N) (k : Fin 1024) :
    iblk m c 1 t (ix2 0 k) = m ((c : Thread nD τ).loc main_arg1) (ix1 k) := by
  have i0 := idx t
  rw [← gain m c k]
  blk_ext! [iblk, i0]

/-- The result array after the run. -/
theorem final (c : Dev nD) : (dats m 0 c).arrAt 2 cfg0.N = G m c := by
  refine (dats m 0 c).arrAt_eq_of_covers 2 _ (by decide +kernel) fun t hf y => ?_
  blk_simp
  rw [after0_2]
  refine (out_apply _ _ _).trans ?_
  have e1 : ((win0_2.blk t).view.emb y 1 : Fin 1024) = y 1 := Fin.ext (by blk_simp [idx t])
  unfold G hid
  simp only [blkG m c t, blkX m c t y]
  rw [e1]

end Cert.NormFwdIdeal.Block
end
-- ==== Proof.NormFwdEq.lean ====
module

public import proofs.«01_k».proof.Proof.NormFwdBlock
public import proofs.«01_k».proof.Proof.Gen.NormFwdRefIdeal.Read
public import proofs.«01_k».proof.Proof.Gen.NormFwdRefIdeal.Run

/-! The reference's result for the norm, element by element. -/

@[expose] public section

noncomputable section

namespace Cert.NormFwdRefIdeal.Value

open Idealize.ShloMosaic Idealize.ShloMosaic.TcCoe Idealize.SL.Sem Cert.NormFwdRefIdeal Cert.NormFwdRefIdeal.Gen Cert.NormFwdRefIdeal.Read

/-- The reference's normalised rows. -/
theorem hid_apply (x0 : Vec Ideal S4096x1024 .f32) (x1 : Vec Ideal S1024 .f32) (r : Fin 4096) (l : Fin 1024) :
    val_main_v12 (F := Ideal) x0 x1 (ix2 r l) = Cert.NormFwdIdeal.Block.hid (R := 4096) x0 (fun k => x1 (ix1 k)) r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's result at one index. -/
theorem ref_hid (x0 : Vec Ideal S4096x1024 .f32) (x1 : Vec Ideal S1024 .f32) (r : Fin 4096) (l : Fin 1024) :
    val_main_v13 (F := Ideal) x0 x1 (ix2 r l) = Cert.NormFwdIdeal.Block.hid (R := 4096) x0 (fun k => x1 (ix1 k)) r l :=
  hid_apply x0 x1 r l

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = val_main_v13 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.NormFwdRefIdeal.Value
end
-- ==== Proof.NormFwdClaim.lean ====
module

public import proofs.«01_k».proof.Defs
public import proofs.«01_k».proof.Proof.NormFwdEq
public import Idealize.ShloMosaic.Lib.Claim

/-! The kernel for the norm and the reference agree. -/

@[expose] public section

noncomputable section

namespace Cert.Proof.NormFwd

open Idealize.ShloMosaic Idealize.ShloMosaic.TcCoe Idealize.SL.Sem

/-- What the kernel leaves in its result is what the reference leaves in its own. -/
theorem algebraic : Cert.algebraic_NormFwdIdeal_NormFwdRefIdeal := by
  pair_intro
  · run_from Cert.NormFwdIdeal.Value.run_blocks m g
  · run_from Cert.NormFwdRefIdeal.Value.run_val m' g'
    rw [Cert.NormFwdIdeal.Block.final m c]
    funext i
    rw [eq_ix2 i]
    exact Cert.NormFwdRefIdeal.Value.ref_hid _ _ _ _

/-- The reference runs and leaves its arguments unchanged. -/
theorem frame_ref : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

end Cert.Proof.NormFwd
end
-- ==== Proof.InFwdFirstBlock.lean ====
module

public import proofs.«01_k».proof.Proof.Gen.InFwdFirstIdeal.Value
public import Idealize.ShloMosaic.Lib.Pointwise
public import Idealize.ShloMosaic.Lib.Pipeline.ValueKit
public import Idealize.ShloMosaic.Lib.Pipeline.ReadBack

/-! What one block of the kernel for the in-projection of the normalised activations computes, and what its result array holds. -/

@[expose] public section

noncomputable section

namespace Cert.InFwdFirstIdeal.Block

open Idealize.ShloMosaic Idealize.ShloMosaic.TcCoe Cert.InFwdFirstIdeal Cert.InFwdFirstIdeal.Gen Cert.InFwdFirstIdeal.Value

/-- The product of `a` with the transpose of `w`. -/
def prodT {R : Nat} (a : (⟨2, ![R, 1024]⟩ : Shape).Idx → EReal) (w : (⟨2, ![1792, 1024]⟩ : Shape).Idx → EReal)
    (r : Fin R) (l : Fin 1792) : EReal :=
  ∑ k : Fin 1024, a (ix2 r k) * w (ix2 l k)

/-- One block's values. -/
theorem pay1_apply (a : Vec Ideal S512x1024 .bf16) (w : Vec Ideal S1792x1024 .bf16) (j : S512x1792.Idx) :
    k0_pay1 (F := Ideal) a w j = prodT (R := 512) a w (j 0) (j 1) := by
  rw [eq_ix2 j]
  pointwise [k0_pay1, dot_S512x1024_S1792x1024_S512x1792_1_1_0_0_n_n]
  rfl

variable (m : (ℓ : Loc nD τ sig) → Buf (Elt Ideal) ℓ)

/-- The normalised activations the kernel is given. -/
abbrev H (c : Dev nD) : Buf (Elt Ideal) ((c : Thread nD τ).loc main_v13) := V m c main_v13

/-- What the result array is shown to hold. -/
def G (c : Dev nD) : Buf (Elt Ideal) ((c : Thread nD τ).loc main_v14) := fun i =>
  prodT (R := 4096) (H m c) (m ((c : Thread nD τ).loc main_arg2)) (i 0) (i 1)

/-- Each window's block index at each grid point. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 cfg0.N = G m c := by
  refine (dats m 0 c).arrAt_eq_of_covers 2 _ (by decide +kernel) fun t hf y => ?_
  blk_simp
  rw [after0_2]
  frame_out
  refine (pay1_apply _ _ _).trans ?_
  unfold prodT G prodT
  rw [← V_main_arg2 m c]
  refine Finset.sum_congr rfl fun k _ => ?_
  congr 1
  · blk_ext! [iblk, idx t]
  · blk_ext! [iblk, idx t]

end Cert.InFwdFirstIdeal.Block
end
-- ==== Proof.InFwdFirstEq.lean ====
module

public import proofs.«01_k».proof.Proof.InFwdFirstBlock
public import proofs.«01_k».proof.Proof.Gen.InFwdFirstRefIdeal.Read
public import proofs.«01_k».proof.Proof.Gen.InFwdFirstRefIdeal.Run

/-! The reference's result for the in-projection, element by element. -/

@[expose] public section

noncomputable section

namespace Cert.InFwdFirstRefIdeal.Value

open Idealize.ShloMosaic Idealize.ShloMosaic.TcCoe Idealize.SL.Sem Cert.InFwdFirstRefIdeal Cert.InFwdFirstRefIdeal.Gen Cert.InFwdFirstRefIdeal.Read

/-- The reference's result at one index. -/
theorem ref_prod (x0 : Vec Ideal S4096x1024 .f32) (x1 : Vec Ideal S1024 .f32) (x2 : Vec Ideal S1792x1024 .bf16) (r : Fin 4096) (l : Fin 1792) :
    val_main_v16 (F := Ideal) x0 x1 x2 (ix2 r l)
      = Cert.InFwdFirstIdeal.Block.prodT (R := 4096) (val_main_v12 x0 x1) x2 r l := by
  generalize hy : val_main_v12 (F := Ideal) x0 x1 = y
  unfold val_main_v16 val_main_v15
  rw [hy]
  pointwise [val_main_v14, val_main_v13, dot_S4096x1024_S1024x1792_S4096x1792_1_0_0_1_n_n]
  rfl

/-- What the kernel's host code computes is the reference's. -/
theorem H_eq (m : (ℓ : Loc Cert.InFwdFirstIdeal.nD Cert.InFwdFirstIdeal.τ Cert.InFwdFirstIdeal.sig) → Buf (Elt Ideal) ℓ)
    (c : Dev Cert.InFwdFirstIdeal.nD) :
    Cert.InFwdFirstIdeal.Block.H m c = val_main_v12 (F := Ideal) (m ((c : Thread Cert.InFwdFirstIdeal.nD Cert.InFwdFirstIdeal.τ).loc Cert.InFwdFirstIdeal.main_arg0)) (m ((c : Thread Cert.InFwdFirstIdeal.nD Cert.InFwdFirstIdeal.τ).loc Cert.InFwdFirstIdeal.main_arg1)) := by
  unfold Cert.InFwdFirstIdeal.Block.H
  entry_read
  rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = val_main_v16 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.InFwdFirstRefIdeal.Value
end
-- ==== Proof.InFwdFirstClaim.lean ====
module

public import proofs.«01_k».proof.Defs
public import proofs.«01_k».proof.Proof.InFwdFirstEq
public import Idealize.ShloMosaic.Lib.Claim

/-! The kernel for the in-projection and the reference agree. -/

@[expose] public section

noncomputable section

namespace Cert.Proof.InFwdFirst

open Idealize.ShloMosaic Idealize.ShloMosaic.TcCoe Idealize.SL.Sem

/-- What the kernel leaves in its result is what the reference leaves in its own. -/
theorem algebraic : Cert.algebraic_InFwdFirstIdeal_InFwdFirstRefIdeal := by
  pair_intro
  · run_from Cert.InFwdFirstIdeal.Value.run_blocks m g
  · run_from Cert.InFwdFirstRefIdeal.Value.run_val m' g'
    rw [Cert.InFwdFirstIdeal.Block.final m c]
    funext i
    rw [eq_ix2 i]
    unfold Cert.InFwdFirstIdeal.Block.G
    rw [Cert.InFwdFirstRefIdeal.Value.H_eq]
    exact Cert.InFwdFirstRefIdeal.Value.ref_prod _ _ _ _ _

/-- The reference runs and leaves its arguments unchanged. -/
theorem frame_ref : Cert.quiescent_InFwdFirstRefIdeal := fun m ρ _ =>
  (θ_run Cert.InFwdFirstRefIdeal.defs _ _).mono (fun r h => ⟨fun c => (h c).2, sem_eq_zero_of_no_sems (by decide) r.2⟩)
    (Cert.InFwdFirstRefIdeal.Value.run (F := Ideal) m ρ)

end Cert.Proof.InFwdFirst
end
-- ==== Proof.LossHeadBlock.lean ====
module

public import proofs.«01_k».proof.Proof.Gen.LossHeadIdeal.Value
public import Idealize.ShloMosaic.Lib.Pointwise
public import Idealize.ShloMosaic.Lib.Pipeline.ValueKit
public import Idealize.ShloMosaic.Lib.Pipeline.ReadBack
public import proofs.«01_k».proof.Proof.Norm

/-! What one block of the loss kernel computes, and what its result arrays hold. -/

@[expose] public section

noncomputable section

namespace Cert.LossHeadIdeal.Block

open Idealize.ShloMosaic Idealize.ShloMosaic.TcCoe Cert.LossHeadIdeal Cert.LossHeadIdeal.Gen Cert.LossHeadIdeal.Value Cert.Norm

/-- One over the row length. -/
abbrev scale : EReal := Ideal.ofBits .f32 0x3A800000#32

/-- Half of one over the row length. -/
abbrev halfScale : EReal := Ideal.ofBits .f32 0x3A000000#32

/-- The normalised row minus the target. -/
def err {R : Nat} (x : (⟨2, ![R, 1024]⟩ : Shape).Idx → EReal) (g : Fin 1024 → EReal) (t : (⟨2, ![R, 1024]⟩ : Shape).Idx → EReal)
    (r : Fin R) (l : Fin 1024) : EReal :=
  normed (fun k => x (ix2 r k)) g l - t (ix2 r l)

/-- The loss's gradient with respect to the normalised row. -/
def dy {R : Nat} (x : (⟨2, ![R, 1024]⟩ : Shape).Idx → EReal) (g : Fin 1024 → EReal) (t : (⟨2, ![R, 1024]⟩ : Shape).Idx → EReal)
    (r : Fin R) (l : Fin 1024) : EReal :=
  err x g t r l * scale

/-- The loss's gradient with respect to the rows. -/
def dx {R : Nat} (x : (⟨2, ![R, 1024]⟩ : Shape).Idx → EReal) (g : Fin 1024 → EReal) (t : (⟨2, ![R, 1024]⟩ : Shape).Idx → EReal)
    (r : Fin R) (l : Fin 1024) : EReal :=
  dxKernel (fun k => dy x g t r k) g (fun k => x (ix2 r k)) 0 l

/-- The loss's gradient with respect to the gain. -/
def dg {R : Nat} (x : (⟨2, ![R, 1024]⟩ : Shape).Idx → EReal) (g : Fin 1024 → EReal) (t : (⟨2, ![R, 1024]⟩ : Shape).Idx → EReal)
    (l : Fin 1024) : EReal :=
  ∑ r : Fin R, dy x g t r l * (x (ix2 r l) * inv (fun k => x (ix2 r k)))

/-- The loss. -/
def loss {R : Nat} (x : (⟨2, ![R, 1024]⟩ : Shape).Idx → EReal) (g : Fin 1024 → EReal) (t : (⟨2, ![R, 1024]⟩ : Shape).Idx → EReal) :
    EReal :=
  ∑ r : Fin R, (∑ k : Fin 1024, err x g t r k * err x g t r k) * halfScale

/-- One block's errors. -/
theorem pay6_ix (x : Vec Ideal S512x1024 .f32) (g : Vec Ideal S1x1024 .f32) (t : Vec Ideal S512x1024 .f32) (r : Fin 512) (l : Fin 1024) :
    k0_pay6 (F := Ideal) x g t (ix2 r l) = err (R := 512) x (fun k => g (ix2 0 k)) t r l := by
  pointwise [k0_pay6, k0_pay5, k0_pay4, k0_pay3]
  rfl

/-- One block's gradient of the normalised rows. -/
theorem pay7_ix (x : Vec Ideal S512x1024 .f32) (g : Vec Ideal S1x1024 .f32) (t : Vec Ideal S512x1024 .f32) (r : Fin 512) (l : Fin 1024) :
    k0_pay7 (F := Ideal) x g t (ix2 r l) = dy (R := 512) x (fun k => g (ix2 0 k)) t r l := by
  unfold dy
  simp only [← pay6_ix]
  unfold k0_pay7
  generalize k0_pay6 (F := Ideal) x g t = h
  pointwise []

/-- One block's gradient of the rows, entry by entry. -/
theorem pay8_ix (x : Vec Ideal S512x1024 .f32) (g : Vec Ideal S1x1024 .f32) (t : Vec Ideal S512x1024 .f32) (r : Fin 512) (l : Fin 1024) :
    k0_pay8 (F := Ideal) x g t (ix2 r l) = dx (R := 512) x (fun k => g (ix2 0 k)) t r l := by
  unfold dx dxKernel
  simp only [← pay7_ix]
  unfold k0_pay8
  generalize k0_pay7 (F := Ideal) x g t = h
  rw [zero_add]
  pointwise [k0_pay5, k0_pay4, k0_pay3]
  rfl

/-- One block's gradient of the rows. -/
theorem pay8_apply (x : Vec Ideal S512x1024 .f32) (g : Vec Ideal S1x1024 .f32) (t : Vec Ideal S512x1024 .f32) (j : S512x1024.Idx) :
    k0_pay8 (F := Ideal) x g t j = dx (R := 512) x (fun k => g (ix2 0 k)) t (j 0) (j 1) := by
  rw [eq_ix2 j]
  exact pay8_ix x g t (j 0) (j 1)

/-- The same values in the third result's format. -/
theorem pay9_apply (x : Vec Ideal S512x1024 .f32) (g : Vec Ideal S1x1024 .f32) (t : Vec Ideal S512x1024 .f32) (j : S512x1024.Idx) :
    k0_pay9 (F := Ideal) x g t j = k0_pay8 (F := Ideal) x g t j := by
  rw [eq_ix2 j]
  pointwise [k0_pay9]

/-- One step of the accumulation of the gain's gradient, entry by entry. -/
theorem pay1_ix (x : Vec Ideal S512x1024 .f32) (g : Vec Ideal S1x1024 .f32) (t : Vec Ideal S512x1024 .f32) (o : Vec Ideal S1x1024 .f32) (r : Fin 1) (l : Fin 1024) :
    k0_pay1 (F := Ideal) (k0_pay5 x) (k0_pay7 x g t) o (ix2 r l) = (o (ix2 r l) : EReal) + dg (R := 512) x (fun k => g (ix2 0 k)) t l := by
  unfold dg
  simp only [← pay7_ix]
  generalize k0_pay7 (F := Ideal) x g t = h
  pointwise [k0_pay1, k0_pay5, k0_pay4]
  rfl

/-- One step of the accumulation of the gain's gradient. -/
theorem pay1_apply (x : Vec Ideal S512x1024 .f32) (g : Vec Ideal S1x1024 .f32) (t : Vec Ideal S512x1024 .f32) (o : Vec Ideal S1x1024 .f32) (j : S1x1024.Idx) :
    k0_pay1 (F := Ideal) (k0_pay5 x) (k0_pay7 x g t) o j = (o j : EReal) + dg (R := 512) x (fun k => g (ix2 0 k)) t (j 1) := by
  rw [eq_ix2 j]
  exact pay1_ix x g t o (j 0) (j 1)

/-- One step of the accumulation of the loss, entry by entry. -/
theorem pay2_ix (x : Vec Ideal S512x1024 .f32) (g : Vec Ideal S1x1024 .f32) (t : Vec Ideal S512x1024 .f32) (o : Vec Ideal S1x1 .f32) (r : Fin 1) (l : Fin 1) :
    k0_pay2 (F := Ideal) (k0_pay6 x g t) o (ix2 r l) = (o (ix2 r l) : EReal) + loss (R := 512) x (fun k => g (ix2 0 k)) t := by
  unfold loss
  simp only [← pay6_ix]
  generalize k0_pay6 (F := Ideal) x g t = h
  pointwise [k0_pay2]

/-- One step of the accumulation of the loss. -/
theorem pay2_apply (x : Vec Ideal S512x1024 .f32) (g : Vec Ideal S1x1024 .f32) (t : Vec Ideal S512x1024 .f32) (o : Vec Ideal S1x1 .f32) (j : S1x1.Idx) :
    k0_pay2 (F := Ideal) (k0_pay6 x g t) o j = (o j : EReal) + loss (R := 512) x (fun k => g (ix2 0 k)) t := by
  rw [eq_ix2 j]
  exact pay2_ix x g t o (j 0) (j 1)

/-- The gain's accumulator starts at zero. -/
theorem pay10_apply (j : S1x1024.Idx) : k0_pay10 (F := Ideal) j = 0 := by
  rw [eq_ix2 j]
  pointwise [k0_pay10]

/-- The loss's accumulator starts at zero. -/
theorem pay11_apply (j : S1x1.Idx) : k0_pay11 (F := Ideal) j = 0 := by
  rw [eq_ix2 j]
  pointwise [k0_pay11]

variable (m : (ℓ : Loc nD τ sig) → Buf (Elt Ideal) ℓ)

/-- One element of the rows' gradient over the whole arrays. -/
def gx (c : Dev nD) (r : Fin 4096) (l : Fin 1024) : EReal :=
  dx (R := 4096) (m ((c : Thread nD τ).loc main_arg0)) (fun k => m ((c : Thread nD τ).loc main_arg1) (ix1 k))
    (m ((c : Thread nD τ).loc main_arg2)) r l

/-- What the loss is shown to hold. -/
def G3 (c : Dev nD) : Buf (Elt Ideal) ((c : Thread nD τ).loc main_v1_0) := fun _ =>
  loss (R := 4096) (m ((c : Thread nD τ).loc main_arg0)) (fun k => m ((c : Thread nD τ).loc main_arg1) (ix1 k))
    (m ((c : Thread nD τ).loc main_arg2))

/-- What the rows' gradient is shown to hold. -/
def G4 (c : Dev nD) : Buf (Elt Ideal) ((c : Thread nD τ).loc main_v1_1) := fun i => gx m c (i 0) (i 1)

/-- What the rows' gradient in the shorter format is shown to hold. -/
def G5 (c : Dev nD) : Buf (Elt Ideal) ((c : Thread nD τ).loc main_v1_2) := fun i => gx m c (i 0) (i 1)

/-- What the gain's gradient is shown to hold. -/
def G6 (c : Dev nD) : Buf (Elt Ideal) ((c : Thread nD τ).loc main_v1_3) := fun i =>
  dg (R := 4096) (m ((c : Thread nD τ).loc main_arg0)) (fun k => m ((c : Thread nD τ).loc main_arg1) (ix1 k))
    (m ((c : Thread nD τ).loc main_arg2)) (i 1)

/-- Each window's block index at each grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The rows' block at a point, read off the array. -/
theorem blkX (c : Dev nD) (t : Fin cfg0.N) (r : Fin 512) (q : Fin 4096) (hq : q.val = t.val * 512 + r.val) (k : Fin 1024) :
    iblk m c 0 t (ix2 r k) = m ((c : Thread nD τ).loc main_arg0) (ix2 q k) := by
  have i0 := idx t
  rw [← V_main_arg0 m c]
  blk_ext! [iblk, i0, hq]

/-- The target's block at a point. -/
theorem blkT (c : Dev nD) (t : Fin cfg0.N) (r : Fin 512) (q : Fin 4096) (hq : q.val = t.val * 512 + r.val) (k : Fin 1024) :
    iblk m c 2 t (ix2 r k) = m ((c : Thread nD τ).loc main_arg2) (ix2 q k) := by
  have i0 := idx t
  rw [← V_main_arg2 m c]
  blk_ext! [iblk, i0, hq]

/-- The gain the host lays out as a row. -/
theorem gain (c : Dev nD) (k : Fin 1024) : V m c main_v0 (ix2 0 k) = m ((c : Thread nD τ).loc main_arg1) (ix1 k) := by
  entry_read
  pointwise []

/-- The gain's block at a point. -/
theorem blkG (c : Dev nD) (t : Fin cfg0.N) (k : Fin 1024) :
    iblk m c 1 t (ix2 0 k) = m ((c : Thread nD τ).loc main_arg1) (ix1 k) := by
  have i0 := idx t
  rw [← gain m c k]
  blk_ext! [iblk, i0]

/-- The errors at a point, placed in the whole array. -/
theorem blkE (c : Dev nD) (t : Fin cfg0.N) (r : Fin 512) (q : Fin 4096) (hq : q.val = t.val * 512 + r.val) (l : Fin 1024) :
    err (R := 512) (iblk m c 0 t) (fun k => iblk m c 1 t (ix2 0 k)) (iblk m c 2 t) r l
      = err (R := 4096) (m ((c : Thread nD τ).loc main_arg0)) (fun k => m ((c : Thread nD τ).loc main_arg1) (ix1 k))
        (m ((c : Thread nD τ).loc main_arg2)) q l := by
  unfold err
  simp only [blkX m c t r q hq, blkG m c t, blkT m c t r q hq]

/-- The gradient of the normalised rows at a point, placed in the whole array. -/
theorem blkDy (c : Dev nD) (t : Fin cfg0.N) (r : Fin 512) (q : Fin 4096) (hq : q.val = t.val * 512 + r.val) (l : Fin 1024) :
    dy (R := 512) (iblk m c 0 t) (fun k => iblk m c 1 t (ix2 0 k)) (iblk m c 2 t) r l
      = dy (R := 4096) (m ((c : Thread nD τ).loc main_arg0)) (fun k => m ((c : Thread nD τ).loc main_arg1) (ix1 k))
        (m ((c : Thread nD τ).loc main_arg2)) q l := by
  unfold dy
  rw [blkE m c t r q hq]

/-- The rows' gradient at a point, placed in the whole array. -/
theorem blkDx (c : Dev nD) (t : Fin cfg0.N) (r : Fin 512) (q : Fin 4096) (hq : q.val = t.val * 512 + r.val) (l : Fin 1024) :
    dx (R := 512) (iblk m c 0 t) (fun k => iblk m c 1 t (ix2 0 k)) (iblk m c 2 t) r l = gx m c q l := by
  unfold gx dx
  simp only [blkDy m c t r q hq]
  simp only [blkX m c t r q hq, blkG m c t]

/-- What a point leaves in the buffer of the rows' gradient. -/
theorem out4 (c : Dev nD) (t : Fin cfg0.N) (j : S512x1024.Idx) :
    (outsAt0 m c t.val t.isLt).2.1 j
      = dx (R := 512) (iblk m c 0 t) (fun k => iblk m c 1 t (ix2 0 k)) (iblk m c 2 t) (j 0) (j 1) := by
  by_cases h : t.val % 8 = 0
  · rw [outsAt0_A m c t h]
    generalize iblk m c 0 t = x0
    generalize iblk m c 1 t = x1
    generalize iblk m c 2 t = x2
    frame_out
    exact pay8_apply _ _ _ _
  · rw [outsAt0_B m c t h]
    generalize iblk m c 0 t = x0
    generalize iblk m c 1 t = x1
    generalize iblk m c 2 t = x2
    frame_out
    exact pay8_apply _ _ _ _

/-- What a point leaves in the buffer of the rows' gradient in the shorter format. -/
theorem out5 (c : Dev nD) (t : Fin cfg0.N) (j : S512x1024.Idx) :
    (outsAt0 m c t.val t.isLt).2.2.1 j
      = dx (R := 512) (iblk m c 0 t) (fun k => iblk m c 1 t (ix2 0 k)) (iblk m c 2 t) (j 0) (j 1) := by
  by_cases h : t.val % 8 = 0
  · rw [outsAt0_A m c t h]
    generalize iblk m c 0 t = x0
    generalize iblk m c 1 t = x1
    generalize iblk m c 2 t = x2
    frame_out
    exact (pay9_apply _ _ _ _).trans (pay8_apply _ _ _ _)
  · rw [outsAt0_B m c t h]
    generalize iblk m c 0 t = x0
    generalize iblk m c 1 t = x1
    generalize iblk m c 2 t = x2
    frame_out
    exact (pay9_apply _ _ _ _).trans (pay8_apply _ _ _ _)

/-- What the accumulator of the gain's gradient holds when it is written back. -/
theorem acc6 (c : Dev nD) (t : Fin cfg0.N) (hf : (cfg0.win 6).flush t = true) (j : S1x1024.Idx) :
    (outsAt0 m c t.val t.isLt).2.2.2 j = ∑ s : Fin 8,
      dg (R := 512) (iblk m c 0 ⟨8 * (t.val / 8) + s.val, Pipeline.run_point_lt_of_flush t ((flush0_6 t).mp hf) s⟩)
        (fun k => iblk m c 1 ⟨8 * (t.val / 8) + s.val, Pipeline.run_point_lt_of_flush t ((flush0_6 t).mp hf) s⟩ (ix2 0 k))
        (iblk m c 2 ⟨8 * (t.val / 8) + s.val, Pipeline.run_point_lt_of_flush t ((flush0_6 t).mp hf) s⟩) (j 1) := by
  rw [Pipeline.eq_sum_fin_of_reset_step_apply_of_flush (fun n h => (outsAt0 m c n h).2.2.2) 8 (fun _ => (0 : EReal))
    (fun p (j : S1x1024.Idx) => dg (R := 512) (iblk m c 0 p) (fun k => iblk m c 1 p (ix2 0 k)) (iblk m c 2 p) (j 1))
    (fun t h j => by rw [outsAt0_A m c t h]; frame_out; exact (pay1_apply _ _ _ _ _).trans (congrArg (· + _) (pay10_apply j)))
    (fun t h j => by rw [outsAt0_B m c t h]; frame_out; exact pay1_apply _ _ _ _ _) t ((flush0_6 t).mp hf) j, zero_add]

/-- What the accumulator of the loss holds when it is written back. -/
theorem acc3 (c : Dev nD) (t : Fin cfg0.N) (hf : (cfg0.win 3).flush t = true) (j : S1x1.Idx) :
    (outsAt0 m c t.val t.isLt).1 j = ∑ s : Fin 8,
      loss (R := 512) (iblk m c 0 ⟨8 * (t.val / 8) + s.val, Pipeline.run_point_lt_of_flush t ((flush0_3 t).mp hf) s⟩)
        (fun k => iblk m c 1 ⟨8 * (t.val / 8) + s.val, Pipeline.run_point_lt_of_flush t ((flush0_3 t).mp hf) s⟩ (ix2 0 k))
        (iblk m c 2 ⟨8 * (t.val / 8) + s.val, Pipeline.run_point_lt_of_flush t ((flush0_3 t).mp hf) s⟩) := by
  rw [Pipeline.eq_sum_fin_of_reset_step_apply_of_flush (fun n h => (outsAt0 m c n h).1) 8 (fun _ => (0 : EReal))
    (fun p (j : S1x1.Idx) => loss (R := 512) (iblk m c 0 p) (fun k => iblk m c 1 p (ix2 0 k)) (iblk m c 2 p))
    (fun t h j => by rw [outsAt0_A m c t h]; frame_out; exact (pay2_apply _ _ _ _ _).trans (congrArg (· + _) (pay11_apply j)))
    (fun t h j => by rw [outsAt0_B m c t h]; frame_out; exact pay2_apply _ _ _ _ _) t ((flush0_3 t).mp hf) j, zero_add]

/-- The loss after the run. -/
theorem final3 (c : Dev nD) : (dats m 0 c).arrAt 3 cfg0.N = G3 m c := by
  refine (dats m 0 c).arrAt_eq_of_covers 3 _ (by decide +kernel) fun t hf y => ?_
  blk_simp
  rw [after0_3]
  refine (acc3 m c t hf y).trans ?_
  unfold G3 loss
  have ht : t.val / 8 = 0 := Nat.div_eq_of_lt t.isLt
  refine Fin.sum_mul_add_congr fun s k hl => ?_
  have hq : s.val * 512 + k.val = (8 * (t.val / 8) + s.val) * 512 + k.val := by
    rw [ht]
    omega
  exact congrArg (fun a : EReal => a * halfScale) (Finset.sum_congr rfl fun i _ =>
    congrArg (fun a : EReal => a * a) (blkE m c ⟨_, Pipeline.run_point_lt_of_flush t ((flush0_3 t).mp hf) s⟩ k ⟨_, hl⟩ hq i))

/-- The rows' gradient after the run. -/
theorem final4 (c : Dev nD) : (dats m 0 c).arrAt 4 cfg0.N = G4 m c := by
  refine (dats m 0 c).arrAt_eq_of_covers 4 _ (by decide +kernel) fun t hf y => ?_
  blk_simp
  rw [after0_4]
  refine (out4 m c t y).trans ((blkDx m c t (y 0) ((win0_4.blk t).view.emb y 0) (by blk_simp [idx t]) (y 1)).trans ?_)
  have e1 : ((win0_4.blk t).view.emb y 1 : Fin 1024) = y 1 := Fin.ext (by blk_simp [idx t])
  unfold G4
  rw [e1]

/-- The rows' gradient in the shorter format after the run. -/
theorem final5 (c : Dev nD) : (dats m 0 c).arrAt 5 cfg0.N = G5 m c := by
  refine (dats m 0 c).arrAt_eq_of_covers 5 _ (by decide +kernel) fun t hf y => ?_
  blk_simp
  rw [after0_5]
  refine (out5 m c t y).trans ((blkDx m c t (y 0) ((win0_5.blk t).view.emb y 0) (by blk_simp [idx t]) (y 1)).trans ?_)
  have e1 : ((win0_5.blk t).view.emb y 1 : Fin 1024) = y 1 := Fin.ext (by blk_simp [idx t])
  unfold G5
  rw [e1]

/-- The gain's gradient after the run. -/
theorem final6 (c : Dev nD) : (dats m 0 c).arrAt 6 cfg0.N = G6 m c := by
  refine (dats m 0 c).arrAt_eq_of_covers 6 _ (by decide +kernel) fun t hf y => ?_
  blk_simp
  rw [after0_6]
  refine (acc6 m c t hf y).trans ?_
  have e1 : ((win0_6.blk t).view.emb y 1 : Fin 1024) = y 1 := Fin.ext (by blk_simp [idx t])
  unfold G6
  rw [e1]
  unfold dg
  have ht : t.val / 8 = 0 := Nat.div_eq_of_lt t.isLt
  refine Fin.sum_mul_add_congr fun s k hl => ?_
  have hq : s.val * 512 + k.val = (8 * (t.val / 8) + s.val) * 512 + k.val := by
    rw [ht]
    omega
  exact congrArg₂ (fun a b : EReal => a * b) (blkDy m c ⟨_, Pipeline.run_point_lt_of_flush t ((flush0_6 t).mp hf) s⟩ k ⟨_, hl⟩ hq (y 1))
    (congrArg₂ (fun a b : EReal => a * b) (blkX m c ⟨_, Pipeline.run_point_lt_of_flush t ((flush0_6 t).mp hf) s⟩ k ⟨_, hl⟩ hq (y 1))
      (congrArg inv (funext fun i => blkX m c ⟨_, Pipeline.run_point_lt_of_flush t ((flush0_6 t).mp hf) s⟩ k ⟨_, hl⟩ hq i)))

end Cert.LossHeadIdeal.Block
end
-- ==== Proof.LossHeadEq.lean ====
module

public import proofs.«01_k».proof.Proof.LossHeadBlock
public import proofs.«01_k».proof.Proof.Gen.LossHeadRefIdeal.Read
public import proofs.«01_k».proof.Proof.Gen.LossHeadRefIdeal.Run

/-! The reference's loss and its gradients, element by element. -/

@[expose] public section

noncomputable section

namespace Cert.LossHeadRefIdeal.Value

open Cert.Scalar Cert.Norm Idealize.ShloMosaic Idealize.ShloMosaic.TcCoe Idealize.SL.Sem Cert.LossHeadRefIdeal Cert.LossHeadRefIdeal.Gen Cert.LossHeadRefIdeal.Read
open Cert.LossHeadIdeal.Block (err dy dx dg loss scale halfScale)

/-- One over the row length is the real number. -/
theorem scale_coe : scale = ((1 / 1024 : ℝ) : EReal) := by
  simp [scale, Ideal.ofBits, Ideal.ieee, -EReal.coe_mul]; norm_num

/-- Half of it is the real number. -/
theorem halfScale_coe : halfScale = ((1 / 2048 : ℝ) : EReal) := by
  simp [halfScale, Ideal.ofBits, Ideal.ieee, -EReal.coe_mul]; norm_num

/-- The constant two is the real number. -/
theorem two_coe : Ideal.ofBits .f32 0x40000000#32 = ((2 : ℝ) : EReal) := by
  simp [Ideal.ofBits, Ideal.ieee, -EReal.coe_mul]; norm_num

/-- The factors of the loss's derivative are together the kernel's one. -/
theorem factor (e : EReal) :
    Ideal.div (Ideal.ofBits .f32 0x3F000000#32) len * (Ideal.ofBits .f32 0x40000000#32 * e)
      = e * scale := by
  rw [half_f32, two_coe, len_coe, scale_coe, Ideal.div_coe (by norm_num), ← EReal.coe_mul, ← mul_assoc (G := EReal),
    ← EReal.coe_mul, mul_comm (G := EReal)]
  norm_num

/-- The reference's errors. -/
theorem err_apply (x0 : Vec Ideal S4096x1024 .f32) (x1 : Vec Ideal S1024 .f32) (x2 : Vec Ideal S4096x1024 .f32) (r : Fin 4096) (l : Fin 1024) :
    val_main_v16 (F := Ideal) x0 x1 x2 (ix2 r l) = err (R := 4096) x0 (fun k => x1 (ix1 k)) x2 r l := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

/-- The reference's gradient of the normalised rows. -/
theorem dy_apply (x0 : Vec Ideal S4096x1024 .f32) (x1 : Vec Ideal S1024 .f32) (x2 : Vec Ideal S4096x1024 .f32) (r : Fin 4096) (l : Fin 1024) :
    val_main_v30 (F := Ideal) x0 x1 x2 (ix2 r l) = dy (R := 4096) x0 (fun k => x1 (ix1 k)) x2 r l := by
  unfold dy
  simp only [← err_apply]
  unfold val_main_v30 val_main_v19
  generalize val_main_v16 (F := Ideal) x0 x1 x2 = h
  pointwise [val_main_v18, val_main_v29, val_main_v28, val_main_v27, val_main_v26, val_main_v25, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  exact factor _

/-- The reference's gradient of the rows. -/
theorem ref_dx (x0 : Vec Ideal S4096x1024 .f32) (x1 : Vec Ideal S1024 .f32) (x2 : Vec Ideal S4096x1024 .f32) (r : Fin 4096) (l : Fin 1024) :
    val_main_v50 (F := Ideal) x0 x1 x2 (ix2 r l)
      = dxRef (fun k => dy (R := 4096) x0 (fun k => x1 (ix1 k)) x2 r k) (fun k => x1 (ix1 k)) (fun k => x0 (ix2 r k)) 0 l := by
  simp only [← dy_apply]
  unfold dxRef
  rw [zero_add]
  unfold val_main_v50 val_main_v49 val_main_v48 val_main_v47 val_main_v46 val_main_v45 val_main_v44 val_main_v42 val_main_v41 val_main_v39 val_main_v38 val_main_v37 val_main_v35
  generalize val_main_v30 (F := Ideal) x0 x1 x2 = h
  pointwise [val_main_v43, val_main_v40, val_main_v34, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [Finset.univ_unique, Finset.sum_singleton]
  rfl

/-- The reference's gradient of the gain. -/
theorem ref_dg (x0 : Vec Ideal S4096x1024 .f32) (x1 : Vec Ideal S1024 .f32) (x2 : Vec Ideal S4096x1024 .f32) (r : Fin 1) (l : Fin 1024) :
    val_main_v53 (F := Ideal) x0 x1 x2 (ix2 r l) = dg (R := 4096) x0 (fun k => x1 (ix1 k)) x2 l := by
  unfold dg
  simp only [← dy_apply]
  unfold val_main_v53 val_main_v36 val_main_v33 val_main_v32 val_main_v31
  generalize val_main_v30 (F := Ideal) x0 x1 x2 = h
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [Finset.univ_unique, Finset.sum_singleton]
  exact Finset.sum_congr rfl fun k _ => mul_comm (G := EReal) _ _

/-- The reference's loss. -/
theorem ref_loss (x0 : Vec Ideal S4096x1024 .f32) (x1 : Vec Ideal S1024 .f32) (x2 : Vec Ideal S4096x1024 .f32) (r l : Fin 1) :
    val_main_v51 (F := Ideal) x0 x1 x2 (ix2 r l) = Ideal.ofBits .f32 0x3F000000#32 * ∑ q : Fin 4096,
      Ideal.div (∑ k : Fin 1024, err (R := 4096) x0 (fun k => x1 (ix1 k)) x2 q k * err (R := 4096) x0 (fun k => x1 (ix1 k)) x2 q k) len := by
  simp only [← err_apply]
  unfold val_main_v51 val_main_v24 val_main_v23 val_main_v22 val_main_v20 val_main_v17
  generalize val_main_v16 (F := Ideal) x0 x1 x2 = h
  pointwise [val_main_v21, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

/-- On real errors the two losses agree. -/
theorem loss_eq (e : Fin 4096 → Fin 1024 → EReal) (he : ∀ q k, IsReal (e q k)) :
    Ideal.ofBits .f32 0x3F000000#32 * ∑ q : Fin 4096, Ideal.div (∑ k : Fin 1024, e q k * e q k) len
      = ∑ q : Fin 4096, (∑ k : Fin 1024, e q k * e q k) * halfScale := by
  choose e' he' using he
  obtain rfl : e = fun q k => (e' q k : EReal) := funext fun q => funext (he' q)
  rw [half_f32, len_coe, halfScale_coe]
  simp only [← EReal.coe_mul, ← coe_sum, Ideal.div_coe (show (1024 : ℝ) ≠ 0 by norm_num)]
  congr 1
  rw [Finset.mul_sum]
  exact Finset.sum_congr rfl fun q _ => by ring

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51)
          = val_main_v51 (m ((c.tc : Thread nD τ).loc main_arg0)) (m ((c.tc : Thread nD τ).loc main_arg1)) (m ((c.tc : Thread nD τ).loc main_arg2))
      ∧ r.2.mem ((c.tc : Thread nD τ).loc main_v50)
          = val_main_v50 (m ((c.tc : Thread nD τ).loc main_arg0)) (m ((c.tc : Thread nD τ).loc main_arg1)) (m ((c.tc : Thread nD τ).loc main_arg2))
      ∧ r.2.mem ((c.tc : Thread nD τ).loc main_v52)
          = val_main_v52 (m ((c.tc : Thread nD τ).loc main_arg0)) (m ((c.tc : Thread nD τ).loc main_arg1)) (m ((c.tc : Thread nD τ).loc main_arg2))
      ∧ r.2.mem ((c.tc : Thread nD τ).loc main_v53)
          = val_main_v53 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.LossHeadRefIdeal.Value
end
-- ==== Proof.LossHeadClaim.lean ====
module

public import proofs.«01_k».proof.Defs
public import proofs.«01_k».proof.Proof.LossHeadEq
public import proofs.«01_k».proof.Proof.Gen.Pre_finite_loss
public import Idealize.ShloMosaic.Lib.Claim

/-! The loss kernel and the reference agree. -/

@[expose] public section

noncomputable section

namespace Cert.Proof.LossHead

open Idealize.ShloMosaic Idealize.ShloMosaic.TcCoe Idealize.SL.Sem Cert.Scalar
open Cert.LossHeadIdeal.Block (err dy scale)

/-- The precondition says that every element of the arguments is a real number. -/
theorem reals (m : (ℓ : Loc Cert.LossHeadIdeal.nD Cert.LossHeadIdeal.τ Cert.LossHeadIdeal.sig) → Buf (Elt Ideal) ℓ)
    (h : Cert.Pre_LossHeadIdeal_finite_loss m) (c : Dev Cert.LossHeadIdeal.nD) :
    (∀ i, IsReal (m ((c : Thread Cert.LossHeadIdeal.nD Cert.LossHeadIdeal.τ).loc Cert.LossHeadIdeal.main_arg0) i)) ∧ (∀ i, IsReal (m ((c : Thread Cert.LossHeadIdeal.nD Cert.LossHeadIdeal.τ).loc Cert.LossHeadIdeal.main_arg1) i)) ∧ (∀ i, IsReal (m ((c : Thread Cert.LossHeadIdeal.nD Cert.LossHeadIdeal.τ).loc Cert.LossHeadIdeal.main_arg2) i)) := by
  obtain ⟨h0, h1, h2⟩ := h c
  refine ⟨fun i => ?_, fun i => ?_, fun i => ?_⟩
  · have := congrFun h0 i
    exact isReal_of_abs_lt (inf_f32 ▸ this)
  · have := congrFun h1 i
    exact isReal_of_abs_lt (inf_f32 ▸ this)
  · have := congrFun h2 i
    exact isReal_of_abs_lt (inf_f32 ▸ this)

/-- On real arrays every error is real. -/
theorem err_real (x : (⟨2, ![4096, 1024]⟩ : Shape).Idx → EReal) (g : Fin 1024 → EReal) (t : (⟨2, ![4096, 1024]⟩ : Shape).Idx → EReal)
    (hx : ∀ i, IsReal (x i)) (hg : ∀ i, IsReal (g i)) (ht : ∀ i, IsReal (t i)) (r : Fin 4096) (l : Fin 1024) : IsReal (err x g t r l) := by
  have hi : IsReal (Cert.Norm.inv fun k => x (ix2 r k)) := by
    choose x' hx' using fun k => hx (ix2 r k)
    obtain ⟨v, s, -, -, hs, -⟩ := Cert.Norm.inv_coe x'
    exact ⟨s, (congrArg Cert.Norm.inv (funext hx')).trans hs⟩
  obtain ⟨a, ha⟩ := ((hx (ix2 r l)).mul hi).mul (hg l)
  obtain ⟨b, hb⟩ := ht (ix2 r l)
  refine ⟨a - b, ?_⟩
  unfold err Cert.Norm.normed
  rw [ha, hb, EReal.coe_sub]

/-- On real arrays every element of the normalised rows' gradient is real. -/
theorem dy_real (x : (⟨2, ![4096, 1024]⟩ : Shape).Idx → EReal) (g : Fin 1024 → EReal) (t : (⟨2, ![4096, 1024]⟩ : Shape).Idx → EReal)
    (hx : ∀ i, IsReal (x i)) (hg : ∀ i, IsReal (g i)) (ht : ∀ i, IsReal (t i)) (r : Fin 4096) (l : Fin 1024) : IsReal (dy x g t r l) :=
  (err_real x g t hx hg ht r l).mul ⟨_, Cert.LossHeadRefIdeal.Value.scale_coe⟩

/-- The loss and the gradients that the kernel leaves are the reference's, on finite arguments. -/
theorem algebraic : Cert.algebraic_LossHeadIdeal_LossHeadRefIdeal_pre_finite_loss := by
  pair_intro
  · run_from Cert.LossHeadIdeal.Value.run_blocks m g
  · run_from Cert.LossHeadRefIdeal.Value.run_val m' g'
    · rw [Cert.LossHeadIdeal.Block.final3 m c]
      obtain ⟨h0, h1, h2⟩ := reals m hpre c
      funext i
      rw [eq_ix2 i]
      exact (Cert.LossHeadRefIdeal.Value.ref_loss _ _ _ _ _).trans (Cert.LossHeadRefIdeal.Value.loss_eq _ fun q k => err_real _ _ _ h0 (fun k => h1 _) h2 q k)
    · rw [Cert.LossHeadIdeal.Block.final4 m c]
      obtain ⟨h0, h1, h2⟩ := reals m hpre c
      funext i
      rw [eq_ix2 i]
      exact (Cert.LossHeadRefIdeal.Value.ref_dx _ _ _ _ _).trans (Cert.Norm.dx_eq _ _ _ _ _ (fun k => dy_real _ _ _ h0 (fun k => h1 _) h2 _ k) (fun k => h1 _) (fun k => h0 _)).symm
    · rw [Cert.LossHeadIdeal.Block.final5 m c]
      obtain ⟨h0, h1, h2⟩ := reals m hpre c
      funext i
      rw [eq_ix2 i]
      exact (Cert.LossHeadRefIdeal.Value.ref_dx _ _ _ _ _).trans (Cert.Norm.dx_eq _ _ _ _ _ (fun k => dy_real _ _ _ h0 (fun k => h1 _) h2 _ k) (fun k => h1 _) (fun k => h0 _)).symm
    · rw [Cert.LossHeadIdeal.Block.final6 m c]
      funext i
      rw [eq_ix2 i]
      exact Cert.LossHeadRefIdeal.Value.ref_dg _ _ _ _ _

/-- The reference runs and leaves its arguments unchanged. -/
theorem frame_ref : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

end Cert.Proof.LossHead
end
-- ==== Proof.Adam.lean ====
module

public import Idealize.ShloMosaic.Lib.Pointwise

/-! One step of the optimiser for one weight: the moments it leaves and the change of the weight. -/

@[expose] public section

noncomputable section

namespace Cert.Adam

open Idealize.ShloMosaic

/-- A constant of the program. -/
abbrev k (b : BitVec 32) : Ideal .f32 := Scalar.ofBits .f32 b

/-- The new first moment. -/
def mNew (g m : Ideal .f32) : Ideal .f32 := FloatOps.addf (FloatOps.mulf (k 0x3F666666#32) m) (FloatOps.mulf (k 0x3DCCCCCD#32) g)

/-- The new second moment. -/
def vNew (g v : Ideal .f32) : Ideal .f32 :=
  FloatOps.addf (FloatOps.mulf (k 0x3F7FBE77#32) v) (FloatOps.mulf (k 0x3A83126F#32) (FloatOps.mulf g g))

/-- The change of the weight. -/
def delta (w g m v : Ideal .f32) : Ideal .f32 :=
  FloatOps.mulf (k 0xBA83126F#32)
    (FloatOps.addf
      (FloatOps.divf (FloatOps.divf (mNew g m) (k 0x3F26BD02#32))
        (FloatOps.addf (FloatOps.sqrt (FloatOps.divf (vNew g v) (k 0x3C231ACC#32))) (k 0x322BCC77#32)))
      (FloatOps.mulf (k 0x3C23D70A#32) w))

end Cert.Adam
end
-- ==== Proof.AdamInBlock.lean ====
module

public import proofs.«01_k».proof.Proof.Gen.AdamInIdeal.Value
public import proofs.«01_k».proof.Proof.Adam
public import Idealize.ShloMosaic.Lib.Pointwise
public import Idealize.ShloMosaic.Lib.Pipeline.ValueKit
public import Idealize.ShloMosaic.Lib.Pipeline.ReadBack

/-! What one block of the optimiser's kernel for the input projection's weight computes, and what its result arrays hold. -/

@[expose] public section

noncomputable section

namespace Cert.AdamInIdeal.Block

open Idealize.ShloMosaic Idealize.ShloMosaic.TcCoe Cert.AdamInIdeal Cert.AdamInIdeal.Gen Cert.AdamInIdeal.Value Cert.Adam

/-- One block's new first moments. -/
theorem pay_m (g m : Vec Ideal S1x512x448 .f32) (j : S1x512x448.Idx) :
    k0_pay2 (F := Ideal) (k0_pay5 g m) j = mNew (g j) (m j) := by
  rw [eq_ix3 j]
  pointwise [k0_pay2, k0_pay5, k0_pay4]
  rfl

/-- One block's new second moments. -/
theorem pay_v (g v : Vec Ideal S1x512x448 .f32) (j : S1x512x448.Idx) :
    k0_pay3 (F := Ideal) (k0_pay6 g v) j = vNew (g j) (v j) := by
  rw [eq_ix3 j]
  pointwise [k0_pay3, k0_pay6, k0_pay4]
  rfl

/-- One block's changes of the weights. -/
theorem pay_d (w g m v : Vec Ideal S1x512x448 .f32) (j : S1x512x448.Idx) :
    k0_pay1 (F := Ideal) (k0_pay7 w g m v) j = delta (w j) (g j) (m j) (v j) := by
  rw [eq_ix3 j]
  pointwise [k0_pay1, k0_pay7, k0_pay6, k0_pay5, k0_pay4]
  rfl

variable (m : (ℓ : Loc nD τ sig) → Buf (Elt Ideal) ℓ)

/-- The changes of the weights. -/
def GD (c : Dev nD) : Buf (Elt Ideal) ((c : Thread nD τ).loc main_v0_0) := fun i =>
  delta (m ((c : Thread nD τ).loc main_arg0) i) (m ((c : Thread nD τ).loc main_arg1) i)
    (m ((c : Thread nD τ).loc main_arg2) i) (m ((c : Thread nD τ).loc main_arg3) i)

/-- The new first moments. -/
def GM (c : Dev nD) : Buf (Elt Ideal) ((c : Thread nD τ).loc main_v0_1) := fun i =>
  mNew (m ((c : Thread nD τ).loc main_arg1) i) (m ((c : Thread nD τ).loc main_arg2) i)

/-- The new second moments. -/
def GV (c : Dev nD) : Buf (Elt Ideal) ((c : Thread nD τ).loc main_v0_2) := fun i =>
  vNew (m ((c : Thread nD τ).loc main_arg1) i) (m ((c : Thread nD τ).loc main_arg3) i)

/-- All windows move together over the grid. -/
theorem idx : ∀ t : Fin cfg0.N, win0_0.index t = win0_4.index t ∧ win0_1.index t = win0_4.index t ∧
    win0_2.index t = win0_4.index t ∧ win0_3.index t = win0_4.index t ∧ win0_5.index t = win0_4.index t ∧
    win0_6.index t = win0_4.index t :=
  (by decide +kernel : ∀ t : Fin grid0.N, _)

/-- The changes of the weights after the run. -/
theorem final_d (c : Dev nD) : (dats m 0 c).arrAt 4 cfg0.N = GD m c := by
  refine (dats m 0 c).arrAt_eq_of_covers 4 _ (by decide +kernel) fun t hf y => ?_
  blk_simp
  rw [after0_4]
  frame_out
  refine (pay_d _ _ _ _ _).trans ?_
  unfold GD
  blk_ext! [iblk, V, idx t]

/-- The first moments after the run. -/
theorem final_m (c : Dev nD) : (dats m 0 c).arrAt 5 cfg0.N = GM m c := by
  refine (dats m 0 c).arrAt_eq_of_covers 5 _ (by decide +kernel) fun t hf y => ?_
  blk_simp
  rw [after0_5]
  frame_out
  refine (pay_m _ _ _).trans ?_
  unfold GM
  blk_ext! [iblk, V, idx t]

/-- The second moments after the run. -/
theorem final_v (c : Dev nD) : (dats m 0 c).arrAt 6 cfg0.N = GV m c := by
  refine (dats m 0 c).arrAt_eq_of_covers 6 _ (by decide +kernel) fun t hf y => ?_
  blk_simp
  rw [after0_6]
  frame_out
  refine (pay_v _ _ _).trans ?_
  unfold GV
  blk_ext! [iblk, V, idx t]

end Cert.AdamInIdeal.Block
end
-- ==== Proof.AdamInClaim.lean ====
module

public import proofs.«01_k».proof.Defs
public import proofs.«01_k».proof.Proof.AdamInBlock
public import proofs.«01_k».proof.Proof.Gen.AdamInRefIdeal.Read
public import proofs.«01_k».proof.Proof.Gen.AdamInRefIdeal.Run
public import Idealize.ShloMosaic.Lib.Claim

/-! The optimiser's kernel for the input projection's weight and the reference agree. -/

@[expose] public section

noncomputable section

namespace Cert.Proof.AdamIn

open Idealize.ShloMosaic Idealize.ShloMosaic.TcCoe Idealize.SL.Sem

/-- The moments and the weight's change that the kernel leaves are those that the reference leaves. -/
theorem algebraic : Cert.algebraic_AdamInIdeal_AdamInRefIdeal := by
  pair_intro
  · run_from Cert.AdamInIdeal.Value.run_blocks m g
  · run_from Cert.AdamInRefIdeal.Value.run m' g'
    · rw [Cert.AdamInIdeal.Block.final_d m c]
      rfl
    · rw [Cert.AdamInIdeal.Block.final_m m c]
      rfl
    · rw [Cert.AdamInIdeal.Block.final_v m c]
      rfl

/-- The reference runs and leaves its arguments unchanged. -/
theorem frame_ref : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

end Cert.Proof.AdamIn
end
-- ==== Proof.AdamPwBlock.lean ====
module

public import proofs.«01_k».proof.Proof.Gen.AdamPwIdeal.Value
public import proofs.«01_k».proof.Proof.Adam
public import Idealize.ShloMosaic.Lib.Pointwise
public import Idealize.ShloMosaic.Lib.Pipeline.ValueKit
public import Idealize.ShloMosaic.Lib.Pipeline.ReadBack

/-! What one block of the optimiser's kernel for the pointwise weight of the convolution computes, and what its result arrays hold. -/

@[expose] public section

noncomputable section

namespace Cert.AdamPwIdeal.Block

open Idealize.ShloMosaic Idealize.ShloMosaic.TcCoe Cert.AdamPwIdeal Cert.AdamPwIdeal.Gen Cert.AdamPwIdeal.Value Cert.Adam

/-- One block's new first moments. -/
theorem pay_m (g m : Vec Ideal S1x96x384 .f32) (j : S1x96x384.Idx) :
    k0_pay2 (F := Ideal) (k0_pay5 g m) j = mNew (g j) (m j) := by
  rw [eq_ix3 j]
  pointwise [k0_pay2, k0_pay5, k0_pay4]
  rfl

/-- One block's new second moments. -/
theorem pay_v (g v : Vec Ideal S1x96x384 .f32) (j : S1x96x384.Idx) :
    k0_pay3 (F := Ideal) (k0_pay6 g v) j = vNew (g j) (v j) := by
  rw [eq_ix3 j]
  pointwise [k0_pay3, k0_pay6, k0_pay4]
  rfl

/-- One block's changes of the weights. -/
theorem pay_d (w g m v : Vec Ideal S1x96x384 .f32) (j : S1x96x384.Idx) :
    k0_pay1 (F := Ideal) (k0_pay7 w g m v) j = delta (w j) (g j) (m j) (v j) := by
  rw [eq_ix3 j]
  pointwise [k0_pay1, k0_pay7, k0_pay6, k0_pay5, k0_pay4]
  rfl

variable (m : (ℓ : Loc nD τ sig) → Buf (Elt Ideal) ℓ)

/-- The changes of the weights. -/
def GD (c : Dev nD) : Buf (Elt Ideal) ((c : Thread nD τ).loc main_v0_0) := fun i =>
  delta (m ((c : Thread nD τ).loc main_arg0) i) (m ((c : Thread nD τ).loc main_arg1) i)
    (m ((c : Thread nD τ).loc main_arg2) i) (m ((c : Thread nD τ).loc main_arg3) i)

/-- The new first moments. -/
def GM (c : Dev nD) : Buf (Elt Ideal) ((c : Thread nD τ).loc main_v0_1) := fun i =>
  mNew (m ((c : Thread nD τ).loc main_arg1) i) (m ((c : Thread nD τ).loc main_arg2) i)

/-- The new second moments. -/
def GV (c : Dev nD) : Buf (Elt Ideal) ((c : Thread nD τ).loc main_v0_2) := fun i =>
  vNew (m ((c : Thread nD τ).loc main_arg1) i) (m ((c : Thread nD τ).loc main_arg3) i)

/-- All windows move together over the grid. -/
theorem idx : ∀ t : Fin cfg0.N, win0_0.index t = win0_4.index t ∧ win0_1.index t = win0_4.index t ∧
    win0_2.index t = win0_4.index t ∧ win0_3.index t = win0_4.index t ∧ win0_5.index t = win0_4.index t ∧
    win0_6.index t = win0_4.index t :=
  (by decide +kernel : ∀ t : Fin grid0.N, _)

/-- The changes of the weights after the run. -/
theorem final_d (c : Dev nD) : (dats m 0 c).arrAt 4 cfg0.N = GD m c := by
  refine (dats m 0 c).arrAt_eq_of_covers 4 _ (by decide +kernel) fun t hf y => ?_
  blk_simp
  rw [after0_4]
  frame_out
  refine (pay_d _ _ _ _ _).trans ?_
  unfold GD
  blk_ext! [iblk, V, idx t]

/-- The first moments after the run. -/
theorem final_m (c : Dev nD) : (dats m 0 c).arrAt 5 cfg0.N = GM m c := by
  refine (dats m 0 c).arrAt_eq_of_covers 5 _ (by decide +kernel) fun t hf y => ?_
  blk_simp
  rw [after0_5]
  frame_out
  refine (pay_m _ _ _).trans ?_
  unfold GM
  blk_ext! [iblk, V, idx t]

/-- The second moments after the run. -/
theorem final_v (c : Dev nD) : (dats m 0 c).arrAt 6 cfg0.N = GV m c := by
  refine (dats m 0 c).arrAt_eq_of_covers 6 _ (by decide +kernel) fun t hf y => ?_
  blk_simp
  rw [after0_6]
  frame_out
  refine (pay_v _ _ _).trans ?_
  unfold GV
  blk_ext! [iblk, V, idx t]

end Cert.AdamPwIdeal.Block
end
-- ==== Proof.AdamPwClaim.lean ====
module

public import proofs.«01_k».proof.Defs
public import proofs.«01_k».proof.Proof.AdamPwBlock
public import proofs.«01_k».proof.Proof.Gen.AdamPwRefIdeal.Read
public import proofs.«01_k».proof.Proof.Gen.AdamPwRefIdeal.Run
public import Idealize.ShloMosaic.Lib.Claim

/-! The optimiser's kernel for the pointwise weight of the convolution and the reference agree. -/

@[expose] public section

noncomputable section

namespace Cert.Proof.AdamPw

open Idealize.ShloMosaic Idealize.ShloMosaic.TcCoe Idealize.SL.Sem

/-- The moments and the weight's change that the kernel leaves are those that the reference leaves. -/
theorem algebraic : Cert.algebraic_AdamPwIdeal_AdamPwRefIdeal := by
  pair_intro
  · run_from Cert.AdamPwIdeal.Value.run_blocks m g
  · run_from Cert.AdamPwRefIdeal.Value.run m' g'
    · rw [Cert.AdamPwIdeal.Block.final_d m c]
      rfl
    · rw [Cert.AdamPwIdeal.Block.final_m m c]
      rfl
    · rw [Cert.AdamPwIdeal.Block.final_v m c]
      rfl

/-- The reference runs and leaves its arguments unchanged. -/
theorem frame_ref : Cert.quiescent_AdamPwRefIdeal := fun m ρ _ =>
  (θ_run Cert.AdamPwRefIdeal.defs _ _).mono (fun r h => ⟨fun c => (h c).2.2.2, sem_eq_zero_of_no_sems (by decide) r.2⟩)
    (Cert.AdamPwRefIdeal.Value.run (F := Ideal) m ρ)

end Cert.Proof.AdamPw
end
-- ==== Proof.AdamOutBlock.lean ====
module

public import proofs.«01_k».proof.Proof.Gen.AdamOutIdeal.Value
public import proofs.«01_k».proof.Proof.Adam
public import Idealize.ShloMosaic.Lib.Pointwise
public import Idealize.ShloMosaic.Lib.Pipeline.ValueKit
public import Idealize.ShloMosaic.Lib.Pipeline.ReadBack

/-! What one block of the optimiser's kernel for the output projection's weight computes, and what its result arrays hold. -/

@[expose] public section

noncomputable section

namespace Cert.AdamOutIdeal.Block

open Idealize.ShloMosaic Idealize.ShloMosaic.TcCoe Cert.AdamOutIdeal Cert.AdamOutIdeal.Gen Cert.AdamOutIdeal.Value Cert.Adam

/-- One block's new first moments. -/
theorem pay_m (g m : Vec Ideal S1x256x1024 .f32) (j : S1x256x1024.Idx) :
    k0_pay2 (F := Ideal) (k0_pay5 g m) j = mNew (g j) (m j) := by
  rw [eq_ix3 j]
  pointwise [k0_pay2, k0_pay5, k0_pay4]
  rfl

/-- One block's new second moments. -/
theorem pay_v (g v : Vec Ideal S1x256x1024 .f32) (j : S1x256x1024.Idx) :
    k0_pay3 (F := Ideal) (k0_pay6 g v) j = vNew (g j) (v j) := by
  rw [eq_ix3 j]
  pointwise [k0_pay3, k0_pay6, k0_pay4]
  rfl

/-- One block's changes of the weights. -/
theorem pay_d (w g m v : Vec Ideal S1x256x1024 .f32) (j : S1x256x1024.Idx) :
    k0_pay1 (F := Ideal) (k0_pay7 w g m v) j = delta (w j) (g j) (m j) (v j) := by
  rw [eq_ix3 j]
  pointwise [k0_pay1, k0_pay7, k0_pay6, k0_pay5, k0_pay4]
  rfl

variable (m : (ℓ : Loc nD τ sig) → Buf (Elt Ideal) ℓ)

/-- The changes of the weights. -/
def GD (c : Dev nD) : Buf (Elt Ideal) ((c : Thread nD τ).loc main_v0_0) := fun i =>
  delta (m ((c : Thread nD τ).loc main_arg0) i) (m ((c : Thread nD τ).loc main_arg1) i)
    (m ((c : Thread nD τ).loc main_arg2) i) (m ((c : Thread nD τ).loc main_arg3) i)

/-- The new first moments. -/
def GM (c : Dev nD) : Buf (Elt Ideal) ((c : Thread nD τ).loc main_v0_1) := fun i =>
  mNew (m ((c : Thread nD τ).loc main_arg1) i) (m ((c : Thread nD τ).loc main_arg2) i)

/-- The new second moments. -/
def GV (c : Dev nD) : Buf (Elt Ideal) ((c : Thread nD τ).loc main_v0_2) := fun i =>
  vNew (m ((c : Thread nD τ).loc main_arg1) i) (m ((c : Thread nD τ).loc main_arg3) i)

/-- All windows move together over the grid. -/
theorem idx : ∀ t : Fin cfg0.N, win0_0.index t = win0_4.index t ∧ win0_1.index t = win0_4.index t ∧
    win0_2.index t = win0_4.index t ∧ win0_3.index t = win0_4.index t ∧ win0_5.index t = win0_4.index t ∧
    win0_6.index t = win0_4.index t :=
  (by decide +kernel : ∀ t : Fin grid0.N, _)

/-- The changes of the weights after the run. -/
theorem final_d (c : Dev nD) : (dats m 0 c).arrAt 4 cfg0.N = GD m c := by
  refine (dats m 0 c).arrAt_eq_of_covers 4 _ (by decide +kernel) fun t hf y => ?_
  blk_simp
  rw [after0_4]
  frame_out
  refine (pay_d _ _ _ _ _).trans ?_
  unfold GD
  blk_ext! [iblk, V, idx t]

/-- The first moments after the run. -/
theorem final_m (c : Dev nD) : (dats m 0 c).arrAt 5 cfg0.N = GM m c := by
  refine (dats m 0 c).arrAt_eq_of_covers 5 _ (by decide +kernel) fun t hf y => ?_
  blk_simp
  rw [after0_5]
  frame_out
  refine (pay_m _ _ _).trans ?_
  unfold GM
  blk_ext! [iblk, V, idx t]

/-- The second moments after the run. -/
theorem final_v (c : Dev nD) : (dats m 0 c).arrAt 6 cfg0.N = GV m c := by
  refine (dats m 0 c).arrAt_eq_of_covers 6 _ (by decide +kernel) fun t hf y => ?_
  blk_simp
  rw [after0_6]
  frame_out
  refine (pay_v _ _ _).trans ?_
  unfold GV
  blk_ext! [iblk, V, idx t]

end Cert.AdamOutIdeal.Block
end
-- ==== Proof.AdamOutClaim.lean ====
module

public import proofs.«01_k».proof.Defs
public import proofs.«01_k».proof.Proof.AdamOutBlock
public import proofs.«01_k».proof.Proof.Gen.AdamOutRefIdeal.Read
public import proofs.«01_k».proof.Proof.Gen.AdamOutRefIdeal.Run
public import Idealize.ShloMosaic.Lib.Claim

/-! The optimiser's kernel for the output projection's weight and the reference agree. -/

@[expose] public section

noncomputable section

namespace Cert.Proof.AdamOut

open Idealize.ShloMosaic Idealize.ShloMosaic.TcCoe Idealize.SL.Sem

/-- The moments and the weight's change that the kernel leaves are those that the reference leaves. -/
theorem algebraic : Cert.algebraic_AdamOutIdeal_AdamOutRefIdeal := by
  pair_intro
  · run_from Cert.AdamOutIdeal.Value.run_blocks m g
  · run_from Cert.AdamOutRefIdeal.Value.run m' g'
    · rw [Cert.AdamOutIdeal.Block.final_d m c]
      rfl
    · rw [Cert.AdamOutIdeal.Block.final_m m c]
      rfl
    · rw [Cert.AdamOutIdeal.Block.final_v m c]
      rfl

/-- The reference runs and leaves its arguments unchanged. -/
theorem frame_ref : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

end Cert.Proof.AdamOut
end
-- ==== Proof.AdamGateUpBlock.lean ====
module

public import proofs.«01_k».proof.Proof.Gen.AdamGateUpIdeal.Value
public import proofs.«01_k».proof.Proof.Adam
public import Idealize.ShloMosaic.Lib.Pointwise
public import Idealize.ShloMosaic.Lib.Pipeline.ValueKit
public import Idealize.ShloMosaic.Lib.Pipeline.ReadBack

/-! What one block of the optimiser's kernel for the gate and up weight computes, and what its result arrays hold. -/

@[expose] public section

noncomputable section

namespace Cert.AdamGateUpIdeal.Block

open Idealize.ShloMosaic Idealize.ShloMosaic.TcCoe Cert.AdamGateUpIdeal Cert.AdamGateUpIdeal.Gen Cert.AdamGateUpIdeal.Value Cert.Adam

/-- One block's new first moments. -/
theorem pay_m (g m : Vec Ideal S1x512x1408 .f32) (j : S1x512x1408.Idx) :
    k0_pay2 (F := Ideal) (k0_pay5 g m) j = mNew (g j) (m j) := by
  rw [eq_ix3 j]
  pointwise [k0_pay2, k0_pay5, k0_pay4]
  rfl

/-- One block's new second moments. -/
theorem pay_v (g v : Vec Ideal S1x512x1408 .f32) (j : S1x512x1408.Idx) :
    k0_pay3 (F := Ideal) (k0_pay6 g v) j = vNew (g j) (v j) := by
  rw [eq_ix3 j]
  pointwise [k0_pay3, k0_pay6, k0_pay4]
  rfl

/-- One block's changes of the weights. -/
theorem pay_d (w g m v : Vec Ideal S1x512x1408 .f32) (j : S1x512x1408.Idx) :
    k0_pay1 (F := Ideal) (k0_pay7 w g m v) j = delta (w j) (g j) (m j) (v j) := by
  rw [eq_ix3 j]
  pointwise [k0_pay1, k0_pay7, k0_pay6, k0_pay5, k0_pay4]
  rfl

variable (m : (ℓ : Loc nD τ sig) → Buf (Elt Ideal) ℓ)

/-- The changes of the weights. -/
def GD (c : Dev nD) : Buf (Elt Ideal) ((c : Thread nD τ).loc main_v0_0) := fun i =>
  delta (m ((c : Thread nD τ).loc main_arg0) i) (m ((c : Thread nD τ).loc main_arg1) i)
    (m ((c : Thread nD τ).loc main_arg2) i) (m ((c : Thread nD τ).loc main_arg3) i)

/-- The new first moments. -/
def GM (c : Dev nD) : Buf (Elt Ideal) ((c : Thread nD τ).loc main_v0_1) := fun i =>
  mNew (m ((c : Thread nD τ).loc main_arg1) i) (m ((c : Thread nD τ).loc main_arg2) i)

/-- The new second moments. -/
def GV (c : Dev nD) : Buf (Elt Ideal) ((c : Thread nD τ).loc main_v0_2) := fun i =>
  vNew (m ((c : Thread nD τ).loc main_arg1) i) (m ((c : Thread nD τ).loc main_arg3) i)

/-- All windows move together over the grid. -/
theorem idx : ∀ t : Fin cfg0.N, win0_0.index t = win0_4.index t ∧ win0_1.index t = win0_4.index t ∧
    win0_2.index t = win0_4.index t ∧ win0_3.index t = win0_4.index t ∧ win0_5.index t = win0_4.index t ∧
    win0_6.index t = win0_4.index t :=
  (by decide +kernel : ∀ t : Fin grid0.N, _)

/-- The changes of the weights after the run. -/
theorem final_d (c : Dev nD) : (dats m 0 c).arrAt 4 cfg0.N = GD m c := by
  refine (dats m 0 c).arrAt_eq_of_covers 4 _ (by decide +kernel) fun t hf y => ?_
  blk_simp
  rw [after0_4]
  frame_out
  refine (pay_d _ _ _ _ _).trans ?_
  unfold GD
  blk_ext! [iblk, V, idx t]

/-- The first moments after the run. -/
theorem final_m (c : Dev nD) : (dats m 0 c).arrAt 5 cfg0.N = GM m c := by
  refine (dats m 0 c).arrAt_eq_of_covers 5 _ (by decide +kernel) fun t hf y => ?_
  blk_simp
  rw [after0_5]
  frame_out
  refine (pay_m _ _ _).trans ?_
  unfold GM
  blk_ext! [iblk, V, idx t]

/-- The second moments after the run. -/
theorem final_v (c : Dev nD) : (dats m 0 c).arrAt 6 cfg0.N = GV m c := by
  refine (dats m 0 c).arrAt_eq_of_covers 6 _ (by decide +kernel) fun t hf y => ?_
  blk_simp
  rw [after0_6]
  frame_out
  refine (pay_v _ _ _).trans ?_
  unfold GV
  blk_ext! [iblk, V, idx t]

end Cert.AdamGateUpIdeal.Block
end
-- ==== Proof.AdamGateUpClaim.lean ====
module

public import proofs.«01_k».proof.Defs
public import proofs.«01_k».proof.Proof.AdamGateUpBlock
public import proofs.«01_k».proof.Proof.Gen.AdamGateUpRefIdeal.Read
public import proofs.«01_k».proof.Proof.Gen.AdamGateUpRefIdeal.Run
public import Idealize.ShloMosaic.Lib.Claim

/-! The optimiser's kernel for the gate and up weight and the reference agree. -/

@[expose] public section

noncomputable section

namespace Cert.Proof.AdamGateUp

open Idealize.ShloMosaic Idealize.ShloMosaic.TcCoe Idealize.SL.Sem

/-- The moments and the weight's change that the kernel leaves are those that the reference leaves. -/
theorem algebraic : Cert.algebraic_AdamGateUpIdeal_AdamGateUpRefIdeal := by
  pair_intro
  · run_from Cert.AdamGateUpIdeal.Value.run_blocks m g
  · run_from Cert.AdamGateUpRefIdeal.Value.run m' g'
    · rw [Cert.AdamGateUpIdeal.Block.final_d m c]
      rfl
    · rw [Cert.AdamGateUpIdeal.Block.final_m m c]
      rfl
    · rw [Cert.AdamGateUpIdeal.Block.final_v m c]
      rfl

/-- The reference runs and leaves its arguments unchanged. -/
theorem frame_ref : Cert.quiescent_AdamGateUpRefIdeal := fun m ρ _ =>
  (θ_run Cert.AdamGateUpRefIdeal.defs _ _).mono (fun r h => ⟨fun c => (h c).2.2.2, sem_eq_zero_of_no_sems (by decide) r.2⟩)
    (Cert.AdamGateUpRefIdeal.Value.run (F := Ideal) m ρ)

end Cert.Proof.AdamGateUp
end
-- ==== Proof.AdamDownBlock.lean ====
module

public import proofs.«01_k».proof.Proof.Gen.AdamDownIdeal.Value
public import proofs.«01_k».proof.Proof.Adam
public import Idealize.ShloMosaic.Lib.Pointwise
public import Idealize.ShloMosaic.Lib.Pipeline.ValueKit
public import Idealize.ShloMosaic.Lib.Pipeline.ReadBack

/-! What one block of the optimiser's kernel for the down projection's weight computes, and what its result arrays hold. -/

@[expose] public section

noncomputable section

namespace Cert.AdamDownIdeal.Block

open Idealize.ShloMosaic Idealize.ShloMosaic.TcCoe Cert.AdamDownIdeal Cert.AdamDownIdeal.Gen Cert.AdamDownIdeal.Value Cert.Adam

/-- One block's new first moments. -/
theorem pay_m (g m : Vec Ideal S1x352x1024 .f32) (j : S1x352x1024.Idx) :
    k0_pay2 (F := Ideal) (k0_pay5 g m) j = mNew (g j) (m j) := by
  rw [eq_ix3 j]
  pointwise [k0_pay2, k0_pay5, k0_pay4]
  rfl

/-- One block's new second moments. -/
theorem pay_v (g v : Vec Ideal S1x352x1024 .f32) (j : S1x352x1024.Idx) :
    k0_pay3 (F := Ideal) (k0_pay6 g v) j = vNew (g j) (v j) := by
  rw [eq_ix3 j]
  pointwise [k0_pay3, k0_pay6, k0_pay4]
  rfl

/-- One block's changes of the weights. -/
theorem pay_d (w g m v : Vec Ideal S1x352x1024 .f32) (j : S1x352x1024.Idx) :
    k0_pay1 (F := Ideal) (k0_pay7 w g m v) j = delta (w j) (g j) (m j) (v j) := by
  rw [eq_ix3 j]
  pointwise [k0_pay1, k0_pay7, k0_pay6, k0_pay5, k0_pay4]
  rfl

variable (m : (ℓ : Loc nD τ sig) → Buf (Elt Ideal) ℓ)

/-- The changes of the weights. -/
def GD (c : Dev nD) : Buf (Elt Ideal) ((c : Thread nD τ).loc main_v0_0) := fun i =>
  delta (m ((c : Thread nD τ).loc main_arg0) i) (m ((c : Thread nD τ).loc main_arg1) i)
    (m ((c : Thread nD τ).loc main_arg2) i) (m ((c : Thread nD τ).loc main_arg3) i)

/-- The new first moments. -/
def GM (c : Dev nD) : Buf (Elt Ideal) ((c : Thread nD τ).loc main_v0_1) := fun i =>
  mNew (m ((c : Thread nD τ).loc main_arg1) i) (m ((c : Thread nD τ).loc main_arg2) i)

/-- The new second moments. -/
def GV (c : Dev nD) : Buf (Elt Ideal) ((c : Thread nD τ).loc main_v0_2) := fun i =>
  vNew (m ((c : Thread nD τ).loc main_arg1) i) (m ((c : Thread nD τ).loc main_arg3) i)

/-- All windows move together over the grid. -/
theorem idx : ∀ t : Fin cfg0.N, win0_0.index t = win0_4.index t ∧ win0_1.index t = win0_4.index t ∧
    win0_2.index t = win0_4.index t ∧ win0_3.index t = win0_4.index t ∧ win0_5.index t = win0_4.index t ∧
    win0_6.index t = win0_4.index t :=
  (by decide +kernel : ∀ t : Fin grid0.N, _)

/-- The changes of the weights after the run. -/
theorem final_d (c : Dev nD) : (dats m 0 c).arrAt 4 cfg0.N = GD m c := by
  refine (dats m 0 c).arrAt_eq_of_covers 4 _ (by decide +kernel) fun t hf y => ?_
  blk_simp
  rw [after0_4]
  frame_out
  refine (pay_d _ _ _ _ _).trans ?_
  unfold GD
  blk_ext! [iblk, V, idx t]

/-- The first moments after the run. -/
theorem final_m (c : Dev nD) : (dats m 0 c).arrAt 5 cfg0.N = GM m c := by
  refine (dats m 0 c).arrAt_eq_of_covers 5 _ (by decide +kernel) fun t hf y => ?_
  blk_simp
  rw [after0_5]
  frame_out
  refine (pay_m _ _ _).trans ?_
  unfold GM
  blk_ext! [iblk, V, idx t]

/-- The second moments after the run. -/
theorem final_v (c : Dev nD) : (dats m 0 c).arrAt 6 cfg0.N = GV m c := by
  refine (dats m 0 c).arrAt_eq_of_covers 6 _ (by decide +kernel) fun t hf y => ?_
  blk_simp
  rw [after0_6]
  frame_out
  refine (pay_v _ _ _).trans ?_
  unfold GV
  blk_ext! [iblk, V, idx t]

end Cert.AdamDownIdeal.Block
end
-- ==== Proof.AdamDownClaim.lean ====
module

public import proofs.«01_k».proof.Defs
public import proofs.«01_k».proof.Proof.AdamDownBlock
public import proofs.«01_k».proof.Proof.Gen.AdamDownRefIdeal.Read
public import proofs.«01_k».proof.Proof.Gen.AdamDownRefIdeal.Run
public import Idealize.ShloMosaic.Lib.Claim

/-! The optimiser's kernel for the down projection's weight and the reference agree. -/

@[expose] public section

noncomputable section

namespace Cert.Proof.AdamDown

open Idealize.ShloMosaic Idealize.ShloMosaic.TcCoe Idealize.SL.Sem

/-- The moments and the weight's change that the kernel leaves are those that the reference leaves. -/
theorem algebraic : Cert.algebraic_AdamDownIdeal_AdamDownRefIdeal := by
  pair_intro
  · run_from Cert.AdamDownIdeal.Value.run_blocks m g
  · run_from Cert.AdamDownRefIdeal.Value.run m' g'
    · rw [Cert.AdamDownIdeal.Block.final_d m c]
      rfl
    · rw [Cert.AdamDownIdeal.Block.final_m m c]
      rfl
    · rw [Cert.AdamDownIdeal.Block.final_v m c]
      rfl

/-- The reference runs and leaves its arguments unchanged. -/
theorem frame_ref : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

end Cert.Proof.AdamDown
end
-- ==== Proof.AdamSmallABlock.lean ====
module

public import proofs.«01_k».proof.Proof.Gen.AdamSmallAIdeal.Value
public import proofs.«01_k».proof.Proof.Adam
public import Idealize.ShloMosaic.Lib.Pointwise
public import Idealize.ShloMosaic.Lib.Pipeline.ValueKit
public import Idealize.ShloMosaic.Lib.Pipeline.ReadBack

/-! What the optimiser's kernel for norm1_g, conv_w and conv_b computes, and what its result arrays hold. -/

@[expose] public section

noncomputable section

namespace Cert.AdamSmallAIdeal.Block

open Idealize.ShloMosaic Idealize.ShloMosaic.TcCoe Cert.AdamSmallAIdeal Cert.AdamSmallAIdeal.Gen Cert.AdamSmallAIdeal.Value Cert.Adam

/-- The change of the weight for norm1_g. -/
theorem pay12 (x0 x3 x6 x9 : Vec Ideal S2x1024 .f32) (j : S2x1024.Idx) :
    k0_pay6 (F := Ideal) x0 x3 x6 x9 j = delta (x0 j) (x3 j) (x6 j) (x9 j) := by
  rw [eq_ix2 j]
  pointwise [k0_pay1, k0_pay2, k0_pay3, k0_pay4, k0_pay5, k0_pay6, k0_pay7, k0_pay8, k0_pay9, k0_pay10]
  rfl

/-- The change of the weight for conv_w. -/
theorem pay13 (x1 x4 x7 x10 : Vec Ideal S62x96 .f32) (j : S62x96.Idx) :
    k0_pay10 (F := Ideal) x1 x4 x7 x10 j = delta (x1 j) (x4 j) (x7 j) (x10 j) := by
  rw [eq_ix2 j]
  pointwise [k0_pay1, k0_pay2, k0_pay3, k0_pay4, k0_pay5, k0_pay6, k0_pay7, k0_pay8, k0_pay9, k0_pay10]
  rfl

/-- The change of the weight for conv_b. -/
theorem pay14 (x2 x5 x8 x11 : Vec Ideal S2x384 .f32) (j : S2x384.Idx) :
    k0_pay3 (F := Ideal) x2 x5 x8 x11 j = delta (x2 j) (x5 j) (x8 j) (x11 j) := by
  rw [eq_ix2 j]
  pointwise [k0_pay1, k0_pay2, k0_pay3, k0_pay4, k0_pay5, k0_pay6, k0_pay7, k0_pay8, k0_pay9, k0_pay10]
  rfl

/-- The new first moment for norm1_g. -/
theorem pay15 (x3 x6 : Vec Ideal S2x1024 .f32) (j : S2x1024.Idx) :
    k0_pay4 (F := Ideal) x3 x6 j = mNew (x3 j) (x6 j) := by
  rw [eq_ix2 j]
  pointwise [k0_pay1, k0_pay2, k0_pay3, k0_pay4, k0_pay5, k0_pay6, k0_pay7, k0_pay8, k0_pay9, k0_pay10]
  rfl

/-- The new first moment for conv_w. -/
theorem pay16 (x4 x7 : Vec Ideal S62x96 .f32) (j : S62x96.Idx) :
    k0_pay8 (F := Ideal) x4 x7 j = mNew (x4 j) (x7 j) := by
  rw [eq_ix2 j]
  pointwise [k0_pay1, k0_pay2, k0_pay3, k0_pay4, k0_pay5, k0_pay6, k0_pay7, k0_pay8, k0_pay9, k0_pay10]
  rfl

/-- The new first moment for conv_b. -/
theorem pay17 (x5 x8 : Vec Ideal S2x384 .f32) (j : S2x384.Idx) :
    k0_pay1 (F := Ideal) x5 x8 j = mNew (x5 j) (x8 j) := by
  rw [eq_ix2 j]
  pointwise [k0_pay1, k0_pay2, k0_pay3, k0_pay4, k0_pay5, k0_pay6, k0_pay7, k0_pay8, k0_pay9, k0_pay10]
  rfl

/-- The new second moment for norm1_g. -/
theorem pay18 (x3 x9 : Vec Ideal S2x1024 .f32) (j : S2x1024.Idx) :
    k0_pay5 (F := Ideal) x3 x9 j = vNew (x3 j) (x9 j) := by
  rw [eq_ix2 j]
  pointwise [k0_pay1, k0_pay2, k0_pay3, k0_pay4, k0_pay5, k0_pay6, k0_pay7, k0_pay8, k0_pay9, k0_pay10]
  rfl

/-- The new second moment for conv_w. -/
theorem pay19 (x4 x10 : Vec Ideal S62x96 .f32) (j : S62x96.Idx) :
    k0_pay9 (F := Ideal) x4 x10 j = vNew (x4 j) (x10 j) := by
  rw [eq_ix2 j]
  pointwise [k0_pay1, k0_pay2, k0_pay3, k0_pay4, k0_pay5, k0_pay6, k0_pay7, k0_pay8, k0_pay9, k0_pay10]
  rfl

/-- The new second moment for conv_b. -/
theorem pay20 (x5 x11 : Vec Ideal S2x384 .f32) (j : S2x384.Idx) :
    k0_pay2 (F := Ideal) x5 x11 j = vNew (x5 j) (x11 j) := by
  rw [eq_ix2 j]
  pointwise [k0_pay1, k0_pay2, k0_pay3, k0_pay4, k0_pay5, k0_pay6, k0_pay7, k0_pay8, k0_pay9, k0_pay10]
  rfl

variable (m : (ℓ : Loc nD τ sig) → Buf (Elt Ideal) ℓ)

/-- Every window is the whole of its array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, _)

/-- The host's reshape of argument 1. -/
theorem host1 (c : Dev nD) : V m c main_v0 = shapeCast S62x96 (m ((c : Thread nD τ).loc main_arg1) : FVec Ideal S2x31x96 .f32) shapeCasts_S2x31x96_S62x96 := by
  funext i
  entry_read
  rfl

/-- The host's reshape of argument 4. -/
theorem host4 (c : Dev nD) : V m c main_v1 = shapeCast S62x96 (m ((c : Thread nD τ).loc main_arg4) : FVec Ideal S2x31x96 .f32) shapeCasts_S2x31x96_S62x96 := by
  funext i
  entry_read
  rfl

/-- The host's reshape of argument 7. -/
theorem host7 (c : Dev nD) : V m c main_v2 = shapeCast S62x96 (m ((c : Thread nD τ).loc main_arg7) : FVec Ideal S2x31x96 .f32) shapeCasts_S2x31x96_S62x96 := by
  funext i
  entry_read
  rfl

/-- The host's reshape of argument 10. -/
theorem host10 (c : Dev nD) : V m c main_v3 = shapeCast S62x96 (m ((c : Thread nD τ).loc main_arg10) : FVec Ideal S2x31x96 .f32) shapeCasts_S2x31x96_S62x96 := by
  funext i
  entry_read
  rfl

/-- The change of the weight for norm1_g after the run, from the arrays the kernel reads. -/
theorem read12 (c : Dev nD) : (dats m 0 c).arrAt 12 cfg0.N =
    (fun i => delta (V m c main_arg0 i) (V m c main_arg3 i) (V m c main_arg6 i) (V m c main_arg9 i) : Buf (Elt Ideal) ((c : Thread nD τ).loc main_v4_0)) := by
  refine (dats m 0 c).arrAt_eq_of_covers 12 _ (by decide +kernel) fun t hf y => ?_
  blk_simp
  rw [after0_12]
  frame_out
  refine (pay12 _ _ _ _ _).trans ?_
  blk_ext! [iblk, idx t]

/-- The change of the weight for norm1_g after the run. -/
theorem final12 (c : Dev nD) : (dats m 0 c).arrAt 12 cfg0.N =
    (fun i => delta (m ((c : Thread nD τ).loc main_arg0) i) (m ((c : Thread nD τ).loc main_arg3) i) (m ((c : Thread nD τ).loc main_arg6) i) (m ((c : Thread nD τ).loc main_arg9) i) : Buf (Elt Ideal) ((c : Thread nD τ).loc main_v4_0)) := by
  refine (read12 m c).trans ?_
  simp only [V_main_arg0 m c, V_main_arg3 m c, V_main_arg6 m c, V_main_arg9 m c]

/-- The change of the weight for conv_w after the run, from the arrays the kernel reads. -/
theorem read13 (c : Dev nD) : (dats m 0 c).arrAt 13 cfg0.N =
    (fun i => delta (V m c main_v0 i) (V m c main_v1 i) (V m c main_v2 i) (V m c main_v3 i) : Buf (Elt Ideal) ((c : Thread nD τ).loc main_v4_1)) := by
  refine (dats m 0 c).arrAt_eq_of_covers 13 _ (by decide +kernel) fun t hf y => ?_
  blk_simp
  rw [after0_13]
  frame_out
  refine (pay13 _ _ _ _ _).trans ?_
  blk_ext! [iblk, idx t]

/-- The change of the weight for conv_w after the run. -/
theorem final13 (c : Dev nD) : (dats m 0 c).arrAt 13 cfg0.N =
    (fun i => delta (shapeCast S62x96 (m ((c : Thread nD τ).loc main_arg1) : FVec Ideal S2x31x96 .f32) shapeCasts_S2x31x96_S62x96 i) (shapeCast S62x96 (m ((c : Thread nD τ).loc main_arg4) : FVec Ideal S2x31x96 .f32) shapeCasts_S2x31x96_S62x96 i) (shapeCast S62x96 (m ((c : Thread nD τ).loc main_arg7) : FVec Ideal S2x31x96 .f32) shapeCasts_S2x31x96_S62x96 i) (shapeCast S62x96 (m ((c : Thread nD τ).loc main_arg10) : FVec Ideal S2x31x96 .f32) shapeCasts_S2x31x96_S62x96 i) : Buf (Elt Ideal) ((c : Thread nD τ).loc main_v4_1)) := by
  refine (read13 m c).trans ?_
  simp only [host1 m c, host4 m c, host7 m c, host10 m c]

/-- The change of the weight for conv_b after the run, from the arrays the kernel reads. -/
theorem read14 (c : Dev nD) : (dats m 0 c).arrAt 14 cfg0.N =
    (fun i => delta (V m c main_arg2 i) (V m c main_arg5 i) (V m c main_arg8 i) (V m c main_arg11 i) : Buf (Elt Ideal) ((c : Thread nD τ).loc main_v4_2)) := by
  refine (dats m 0 c).arrAt_eq_of_covers 14 _ (by decide +kernel) fun t hf y => ?_
  blk_simp
  rw [after0_14]
  frame_out
  refine (pay14 _ _ _ _ _).trans ?_
  blk_ext! [iblk, idx t]

/-- The change of the weight for conv_b after the run. -/
theorem final14 (c : Dev nD) : (dats m 0 c).arrAt 14 cfg0.N =
    (fun i => delta (m ((c : Thread nD τ).loc main_arg2) i) (m ((c : Thread nD τ).loc main_arg5) i) (m ((c : Thread nD τ).loc main_arg8) i) (m ((c : Thread nD τ).loc main_arg11) i) : Buf (Elt Ideal) ((c : Thread nD τ).loc main_v4_2)) := by
  refine (read14 m c).trans ?_
  simp only [V_main_arg2 m c, V_main_arg5 m c, V_main_arg8 m c, V_main_arg11 m c]

/-- The new first moment for norm1_g after the run, from the arrays the kernel reads. -/
theorem read15 (c : Dev nD) : (dats m 0 c).arrAt 15 cfg0.N =
    (fun i => mNew (V m c main_arg3 i) (V m c main_arg6 i) : Buf (Elt Ideal) ((c : Thread nD τ).loc main_v4_3)) := by
  refine (dats m 0 c).arrAt_eq_of_covers 15 _ (by decide +kernel) fun t hf y => ?_
  blk_simp
  rw [after0_15]
  frame_out
  refine (pay15 _ _ _).trans ?_
  blk_ext! [iblk, idx t]

/-- The new first moment for norm1_g after the run. -/
theorem final15 (c : Dev nD) : (dats m 0 c).arrAt 15 cfg0.N =
    (fun i => mNew (m ((c : Thread nD τ).loc main_arg3) i) (m ((c : Thread nD τ).loc main_arg6) i) : Buf (Elt Ideal) ((c : Thread nD τ).loc main_v4_3)) := by
  refine (read15 m c).trans ?_
  simp only [V_main_arg3 m c, V_main_arg6 m c]

/-- The new first moment for conv_w after the run, from the arrays the kernel reads. -/
theorem read16 (c : Dev nD) : (dats m 0 c).arrAt 16 cfg0.N =
    (fun i => mNew (V m c main_v1 i) (V m c main_v2 i) : Buf (Elt Ideal) ((c : Thread nD τ).loc main_v4_4)) := by
  refine (dats m 0 c).arrAt_eq_of_covers 16 _ (by decide +kernel) fun t hf y => ?_
  blk_simp
  rw [after0_16]
  frame_out
  refine (pay16 _ _ _).trans ?_
  blk_ext! [iblk, idx t]

/-- The new first moment for conv_w after the run. -/
theorem final16 (c : Dev nD) : (dats m 0 c).arrAt 16 cfg0.N =
    (fun i => mNew (shapeCast S62x96 (m ((c : Thread nD τ).loc main_arg4) : FVec Ideal S2x31x96 .f32) shapeCasts_S2x31x96_S62x96 i) (shapeCast S62x96 (m ((c : Thread nD τ).loc main_arg7) : FVec Ideal S2x31x96 .f32) shapeCasts_S2x31x96_S62x96 i) : Buf (Elt Ideal) ((c : Thread nD τ).loc main_v4_4)) := by
  refine (read16 m c).trans ?_
  simp only [host4 m c, host7 m c]

/-- The new first moment for conv_b after the run, from the arrays the kernel reads. -/
theorem read17 (c : Dev nD) : (dats m 0 c).arrAt 17 cfg0.N =
    (fun i => mNew (V m c main_arg5 i) (V m c main_arg8 i) : Buf (Elt Ideal) ((c : Thread nD τ).loc main_v4_5)) := by
  refine (dats m 0 c).arrAt_eq_of_covers 17 _ (by decide +kernel) fun t hf y => ?_
  blk_simp
  rw [after0_17]
  frame_out
  refine (pay17 _ _ _).trans ?_
  blk_ext! [iblk, idx t]

/-- The new first moment for conv_b after the run. -/
theorem final17 (c : Dev nD) : (dats m 0 c).arrAt 17 cfg0.N =
    (fun i => mNew (m ((c : Thread nD τ).loc main_arg5) i) (m ((c : Thread nD τ).loc main_arg8) i) : Buf (Elt Ideal) ((c : Thread nD τ).loc main_v4_5)) := by
  refine (read17 m c).trans ?_
  simp only [V_main_arg5 m c, V_main_arg8 m c]

/-- The new second moment for norm1_g after the run, from the arrays the kernel reads. -/
theorem read18 (c : Dev nD) : (dats m 0 c).arrAt 18 cfg0.N =
    (fun i => vNew (V m c main_arg3 i) (V m c main_arg9 i) : Buf (Elt Ideal) ((c : Thread nD τ).loc main_v4_6)) := by
  refine (dats m 0 c).arrAt_eq_of_covers 18 _ (by decide +kernel) fun t hf y => ?_
  blk_simp
  rw [after0_18]
  frame_out
  refine (pay18 _ _ _).trans ?_
  blk_ext! [iblk, idx t]

/-- The new second moment for norm1_g after the run. -/
theorem final18 (c : Dev nD) : (dats m 0 c).arrAt 18 cfg0.N =
    (fun i => vNew (m ((c : Thread nD τ).loc main_arg3) i) (m ((c : Thread nD τ).loc main_arg9) i) : Buf (Elt Ideal) ((c : Thread nD τ).loc main_v4_6)) := by
  refine (read18 m c).trans ?_
  simp only [V_main_arg3 m c, V_main_arg9 m c]

/-- The new second moment for conv_w after the run, from the arrays the kernel reads. -/
theorem read19 (c : Dev nD) : (dats m 0 c).arrAt 19 cfg0.N =
    (fun i => vNew (V m c main_v1 i) (V m c main_v3 i) : Buf (Elt Ideal) ((c : Thread nD τ).loc main_v4_7)) := by
  refine (dats m 0 c).arrAt_eq_of_covers 19 _ (by decide +kernel) fun t hf y => ?_
  blk_simp
  rw [after0_19]
  frame_out
  refine (pay19 _ _ _).trans ?_
  blk_ext! [iblk, idx t]

/-- The new second moment for conv_w after the run. -/
theorem final19 (c : Dev nD) : (dats m 0 c).arrAt 19 cfg0.N =
    (fun i => vNew (shapeCast S62x96 (m ((c : Thread nD τ).loc main_arg4) : FVec Ideal S2x31x96 .f32) shapeCasts_S2x31x96_S62x96 i) (shapeCast S62x96 (m ((c : Thread nD τ).loc main_arg10) : FVec Ideal S2x31x96 .f32) shapeCasts_S2x31x96_S62x96 i) : Buf (Elt Ideal) ((c : Thread nD τ).loc main_v4_7)) := by
  refine (read19 m c).trans ?_
  simp only [host4 m c, host10 m c]

/-- The new second moment for conv_b after the run, from the arrays the kernel reads. -/
theorem read20 (c : Dev nD) : (dats m 0 c).arrAt 20 cfg0.N =
    (fun i => vNew (V m c main_arg5 i) (V m c main_arg11 i) : Buf (Elt Ideal) ((c : Thread nD τ).loc main_v4_8)) := by
  refine (dats m 0 c).arrAt_eq_of_covers 20 _ (by decide +kernel) fun t hf y => ?_
  blk_simp
  rw [after0_20]
  frame_out
  refine (pay20 _ _ _).trans ?_
  blk_ext! [iblk, idx t]

/-- The new second moment for conv_b after the run. -/
theorem final20 (c : Dev nD) : (dats m 0 c).arrAt 20 cfg0.N =
    (fun i => vNew (m ((c : Thread nD τ).loc main_arg5) i) (m ((c : Thread nD τ).loc main_arg11) i) : Buf (Elt Ideal) ((c : Thread nD τ).loc main_v4_8)) := by
  refine (read20 m c).trans ?_
  simp only [V_main_arg5 m c, V_main_arg11 m c]

end Cert.AdamSmallAIdeal.Block
end
-- ==== Proof.AdamSmallAClaim.lean ====
module

public import proofs.«01_k».proof.Defs
public import proofs.«01_k».proof.Proof.AdamSmallABlock
public import proofs.«01_k».proof.Proof.Gen.AdamSmallARefIdeal.Read
public import proofs.«01_k».proof.Proof.Gen.AdamSmallARefIdeal.Run
public import Idealize.ShloMosaic.Lib.Claim

/-! The optimiser's kernel for norm1_g, conv_w and conv_b and the reference agree. -/

@[expose] public section

noncomputable section

namespace Cert.Proof.AdamSmallA

open Idealize.ShloMosaic Idealize.ShloMosaic.TcCoe Idealize.SL.Sem

/-- The moments and the changes of the weights that the kernel leaves are those that the reference leaves. -/
theorem algebraic : Cert.algebraic_AdamSmallAIdeal_AdamSmallARefIdeal := by
  pair_intro
  · run_from Cert.AdamSmallAIdeal.Value.run_blocks m g
  · run_from Cert.AdamSmallARefIdeal.Value.run m' g'
    · rw [Cert.AdamSmallAIdeal.Block.final12 m c]
      rfl
    · rw [Cert.AdamSmallAIdeal.Block.final13 m c]
      rfl
    · rw [Cert.AdamSmallAIdeal.Block.final14 m c]
      rfl
    · rw [Cert.AdamSmallAIdeal.Block.final15 m c]
      rfl
    · rw [Cert.AdamSmallAIdeal.Block.final16 m c]
      rfl
    · rw [Cert.AdamSmallAIdeal.Block.final17 m c]
      rfl
    · rw [Cert.AdamSmallAIdeal.Block.final18 m c]
      rfl
    · rw [Cert.AdamSmallAIdeal.Block.final19 m c]
      rfl
    · rw [Cert.AdamSmallAIdeal.Block.final20 m c]
      rfl

/-- The reference runs and leaves its arguments unchanged. -/
theorem frame_ref : Cert.quiescent_AdamSmallARefIdeal := fun m ρ _ =>
  (θ_run Cert.AdamSmallARefIdeal.defs _ _).mono (fun r h => ⟨fun c => (h c).2.2.2.2.2.2.2.2.2, sem_eq_zero_of_no_sems (by decide) r.2⟩)
    (Cert.AdamSmallARefIdeal.Value.run (F := Ideal) m ρ)

end Cert.Proof.AdamSmallA
end
-- ==== Proof.AdamSmallBBlock.lean ====
module

public import proofs.«01_k».proof.Proof.Gen.AdamSmallBIdeal.Value
public import proofs.«01_k».proof.Proof.Adam
public import Idealize.ShloMosaic.Lib.Pointwise
public import Idealize.ShloMosaic.Lib.Pipeline.ValueKit
public import Idealize.ShloMosaic.Lib.Pipeline.ReadBack

/-! What the optimiser's kernel for conv_ln_g, conv_ln_b and sg_ln_g computes, and what its result arrays hold. -/

@[expose] public section

noncomputable section

namespace Cert.AdamSmallBIdeal.Block

open Idealize.ShloMosaic Idealize.ShloMosaic.TcCoe Cert.AdamSmallBIdeal Cert.AdamSmallBIdeal.Gen Cert.AdamSmallBIdeal.Value Cert.Adam

/-- The change of the weight for conv_ln_g. -/
theorem pay12 (x0 x3 x6 x9 : Vec Ideal S2x384 .f32) (j : S2x384.Idx) :
    k0_pay6 (F := Ideal) x0 x3 x6 x9 j = delta (x0 j) (x3 j) (x6 j) (x9 j) := by
  rw [eq_ix2 j]
  pointwise [k0_pay1, k0_pay2, k0_pay3, k0_pay4, k0_pay5, k0_pay6, k0_pay7, k0_pay8, k0_pay9]
  rfl

/-- The change of the weight for conv_ln_b. -/
theorem pay13 (x1 x4 x7 x10 : Vec Ideal S2x384 .f32) (j : S2x384.Idx) :
    k0_pay9 (F := Ideal) x1 x4 x7 x10 j = delta (x1 j) (x4 j) (x7 j) (x10 j) := by
  rw [eq_ix2 j]
  pointwise [k0_pay1, k0_pay2, k0_pay3, k0_pay4, k0_pay5, k0_pay6, k0_pay7, k0_pay8, k0_pay9]
  rfl

/-- The change of the weight for sg_ln_g. -/
theorem pay14 (x2 x5 x8 x11 : Vec Ideal S2x384 .f32) (j : S2x384.Idx) :
    k0_pay3 (F := Ideal) x2 x5 x8 x11 j = delta (x2 j) (x5 j) (x8 j) (x11 j) := by
  rw [eq_ix2 j]
  pointwise [k0_pay1, k0_pay2, k0_pay3, k0_pay4, k0_pay5, k0_pay6, k0_pay7, k0_pay8, k0_pay9]
  rfl

/-- The new first moment for conv_ln_g. -/
theorem pay15 (x3 x6 : Vec Ideal S2x384 .f32) (j : S2x384.Idx) :
    k0_pay4 (F := Ideal) x3 x6 j = mNew (x3 j) (x6 j) := by
  rw [eq_ix2 j]
  pointwise [k0_pay1, k0_pay2, k0_pay3, k0_pay4, k0_pay5, k0_pay6, k0_pay7, k0_pay8, k0_pay9]
  rfl

/-- The new first moment for conv_ln_b. -/
theorem pay16 (x4 x7 : Vec Ideal S2x384 .f32) (j : S2x384.Idx) :
    k0_pay7 (F := Ideal) x4 x7 j = mNew (x4 j) (x7 j) := by
  rw [eq_ix2 j]
  pointwise [k0_pay1, k0_pay2, k0_pay3, k0_pay4, k0_pay5, k0_pay6, k0_pay7, k0_pay8, k0_pay9]
  rfl

/-- The new first moment for sg_ln_g. -/
theorem pay17 (x5 x8 : Vec Ideal S2x384 .f32) (j : S2x384.Idx) :
    k0_pay1 (F := Ideal) x5 x8 j = mNew (x5 j) (x8 j) := by
  rw [eq_ix2 j]
  pointwise [k0_pay1, k0_pay2, k0_pay3, k0_pay4, k0_pay5, k0_pay6, k0_pay7, k0_pay8, k0_pay9]
  rfl

/-- The new second moment for conv_ln_g. -/
theorem pay18 (x3 x9 : Vec Ideal S2x384 .f32) (j : S2x384.Idx) :
    k0_pay5 (F := Ideal) x3 x9 j = vNew (x3 j) (x9 j) := by
  rw [eq_ix2 j]
  pointwise [k0_pay1, k0_pay2, k0_pay3, k0_pay4, k0_pay5, k0_pay6, k0_pay7, k0_pay8, k0_pay9]
  rfl

/-- The new second moment for conv_ln_b. -/
theorem pay19 (x4 x10 : Vec Ideal S2x384 .f32) (j : S2x384.Idx) :
    k0_pay8 (F := Ideal) x4 x10 j = vNew (x4 j) (x10 j) := by
  rw [eq_ix2 j]
  pointwise [k0_pay1, k0_pay2, k0_pay3, k0_pay4, k0_pay5, k0_pay6, k0_pay7, k0_pay8, k0_pay9]
  rfl

/-- The new second moment for sg_ln_g. -/
theorem pay20 (x5 x11 : Vec Ideal S2x384 .f32) (j : S2x384.Idx) :
    k0_pay2 (F := Ideal) x5 x11 j = vNew (x5 j) (x11 j) := by
  rw [eq_ix2 j]
  pointwise [k0_pay1, k0_pay2, k0_pay3, k0_pay4, k0_pay5, k0_pay6, k0_pay7, k0_pay8, k0_pay9]
  rfl

variable (m : (ℓ : Loc nD τ sig) → Buf (Elt Ideal) ℓ)

/-- Every window is the whole of its array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, _)

/-- The change of the weight for conv_ln_g after the run, from the arrays the kernel reads. -/
theorem read12 (c : Dev nD) : (dats m 0 c).arrAt 12 cfg0.N =
    (fun i => delta (V m c main_arg0 i) (V m c main_arg3 i) (V m c main_arg6 i) (V m c main_arg9 i) : Buf (Elt Ideal) ((c : Thread nD τ).loc main_v0_0)) := by
  refine (dats m 0 c).arrAt_eq_of_covers 12 _ (by decide +kernel) fun t hf y => ?_
  blk_simp
  rw [after0_12]
  frame_out
  refine (pay12 _ _ _ _ _).trans ?_
  blk_ext! [iblk, idx t]

/-- The change of the weight for conv_ln_g after the run. -/
theorem final12 (c : Dev nD) : (dats m 0 c).arrAt 12 cfg0.N =
    (fun i => delta (m ((c : Thread nD τ).loc main_arg0) i) (m ((c : Thread nD τ).loc main_arg3) i) (m ((c : Thread nD τ).loc main_arg6) i) (m ((c : Thread nD τ).loc main_arg9) i) : Buf (Elt Ideal) ((c : Thread nD τ).loc main_v0_0)) := by
  refine (read12 m c).trans ?_
  simp only [V_main_arg0 m c, V_main_arg3 m c, V_main_arg6 m c, V_main_arg9 m c]

/-- The change of the weight for conv_ln_b after the run, from the arrays the kernel reads. -/
theorem read13 (c : Dev nD) : (dats m 0 c).arrAt 13 cfg0.N =
    (fun i => delta (V m c main_arg1 i) (V m c main_arg4 i) (V m c main_arg7 i) (V m c main_arg10 i) : Buf (Elt Ideal) ((c : Thread nD τ).loc main_v0_1)) := by
  refine (dats m 0 c).arrAt_eq_of_covers 13 _ (by decide +kernel) fun t hf y => ?_
  blk_simp
  rw [after0_13]
  frame_out
  refine (pay13 _ _ _ _ _).trans ?_
  blk_ext! [iblk, idx t]

/-- The change of the weight for conv_ln_b after the run. -/
theorem final13 (c : Dev nD) : (dats m 0 c).arrAt 13 cfg0.N =
    (fun i => delta (m ((c : Thread nD τ).loc main_arg1) i) (m ((c : Thread nD τ).loc main_arg4) i) (m ((c : Thread nD τ).loc main_arg7) i) (m ((c : Thread nD τ).loc main_arg10) i) : Buf (Elt Ideal) ((c : Thread nD τ).loc main_v0_1)) := by
  refine (read13 m c).trans ?_
  simp only [V_main_arg1 m c, V_main_arg4 m c, V_main_arg7 m c, V_main_arg10 m c]

/-- The change of the weight for sg_ln_g after the run, from the arrays the kernel reads. -/
theorem read14 (c : Dev nD) : (dats m 0 c).arrAt 14 cfg0.N =
    (fun i => delta (V m c main_arg2 i) (V m c main_arg5 i) (V m c main_arg8 i) (V m c main_arg11 i) : Buf (Elt Ideal) ((c : Thread nD τ).loc main_v0_2)) := by
  refine (dats m 0 c).arrAt_eq_of_covers 14 _ (by decide +kernel) fun t hf y => ?_
  blk_simp
  rw [after0_14]
  frame_out
  refine (pay14 _ _ _ _ _).trans ?_
  blk_ext! [iblk, idx t]

/-- The change of the weight for sg_ln_g after the run. -/
theorem final14 (c : Dev nD) : (dats m 0 c).arrAt 14 cfg0.N =
    (fun i => delta (m ((c : Thread nD τ).loc main_arg2) i) (m ((c : Thread nD τ).loc main_arg5) i) (m ((c : Thread nD τ).loc main_arg8) i) (m ((c : Thread nD τ).loc main_arg11) i) : Buf (Elt Ideal) ((c : Thread nD τ).loc main_v0_2)) := by
  refine (read14 m c).trans ?_
  simp only [V_main_arg2 m c, V_main_arg5 m c, V_main_arg8 m c, V_main_arg11 m c]

/-- The new first moment for conv_ln_g after the run, from the arrays the kernel reads. -/
theorem read15 (c : Dev nD) : (dats m 0 c).arrAt 15 cfg0.N =
    (fun i => mNew (V m c main_arg3 i) (V m c main_arg6 i) : Buf (Elt Ideal) ((c : Thread nD τ).loc main_v0_3)) := by
  refine (dats m 0 c).arrAt_eq_of_covers 15 _ (by decide +kernel) fun t hf y => ?_
  blk_simp
  rw [after0_15]
  frame_out
  refine (pay15 _ _ _).trans ?_
  blk_ext! [iblk, idx t]

/-- The new first moment for conv_ln_g after the run. -/
theorem final15 (c : Dev nD) : (dats m 0 c).arrAt 15 cfg0.N =
    (fun i => mNew (m ((c : Thread nD τ).loc main_arg3) i) (m ((c : Thread nD τ).loc main_arg6) i) : Buf (Elt Ideal) ((c : Thread nD τ).loc main_v0_3)) := by
  refine (read15 m c).trans ?_
  simp only [V_main_arg3 m c, V_main_arg6 m c]

/-- The new first moment for conv_ln_b after the run, from the arrays the kernel reads. -/
theorem read16 (c : Dev nD) : (dats m 0 c).arrAt 16 cfg0.N =
    (fun i => mNew (V m c main_arg4 i) (V m c main_arg7 i) : Buf (Elt Ideal) ((c : Thread nD τ).loc main_v0_4)) := by
  refine (dats m 0 c).arrAt_eq_of_covers 16 _ (by decide +kernel) fun t hf y => ?_
  blk_simp
  rw [after0_16]
  frame_out
  refine (pay16 _ _ _).trans ?_
  blk_ext! [iblk, idx t]

/-- The new first moment for conv_ln_b after the run. -/
theorem final16 (c : Dev nD) : (dats m 0 c).arrAt 16 cfg0.N =
    (fun i => mNew (m ((c : Thread nD τ).loc main_arg4) i) (m ((c : Thread nD τ).loc main_arg7) i) : Buf (Elt Ideal) ((c : Thread nD τ).loc main_v0_4)) := by
  refine (read16 m c).trans ?_
  simp only [V_main_arg4 m c, V_main_arg7 m c]

/-- The new first moment for sg_ln_g after the run, from the arrays the kernel reads. -/
theorem read17 (c : Dev nD) : (dats m 0 c).arrAt 17 cfg0.N =
    (fun i => mNew (V m c main_arg5 i) (V m c main_arg8 i) : Buf (Elt Ideal) ((c : Thread nD τ).loc main_v0_5)) := by
  refine (dats m 0 c).arrAt_eq_of_covers 17 _ (by decide +kernel) fun t hf y => ?_
  blk_simp
  rw [after0_17]
  frame_out
  refine (pay17 _ _ _).trans ?_
  blk_ext! [iblk, idx t]

/-- The new first moment for sg_ln_g after the run. -/
theorem final17 (c : Dev nD) : (dats m 0 c).arrAt 17 cfg0.N =
    (fun i => mNew (m ((c : Thread nD τ).loc main_arg5) i) (m ((c : Thread nD τ).loc main_arg8) i) : Buf (Elt Ideal) ((c : Thread nD τ).loc main_v0_5)) := by
  refine (read17 m c).trans ?_
  simp only [V_main_arg5 m c, V_main_arg8 m c]

/-- The new second moment for conv_ln_g after the run, from the arrays the kernel reads. -/
theorem read18 (c : Dev nD) : (dats m 0 c).arrAt 18 cfg0.N =
    (fun i => vNew (V m c main_arg3 i) (V m c main_arg9 i) : Buf (Elt Ideal) ((c : Thread nD τ).loc main_v0_6)) := by
  refine (dats m 0 c).arrAt_eq_of_covers 18 _ (by decide +kernel) fun t hf y => ?_
  blk_simp
  rw [after0_18]
  frame_out
  refine (pay18 _ _ _).trans ?_
  blk_ext! [iblk, idx t]

/-- The new second moment for conv_ln_g after the run. -/
theorem final18 (c : Dev nD) : (dats m 0 c).arrAt 18 cfg0.N =
    (fun i => vNew (m ((c : Thread nD τ).loc main_arg3) i) (m ((c : Thread nD τ).loc main_arg9) i) : Buf (Elt Ideal) ((c : Thread nD τ).loc main_v0_6)) := by
  refine (read18 m c).trans ?_
  simp only [V_main_arg3 m c, V_main_arg9 m c]

/-- The new second moment for conv_ln_b after the run, from the arrays the kernel reads. -/
theorem read19 (c : Dev nD) : (dats m 0 c).arrAt 19 cfg0.N =
    (fun i => vNew (V m c main_arg4 i) (V m c main_arg10 i) : Buf (Elt Ideal) ((c : Thread nD τ).loc main_v0_7)) := by
  refine (dats m 0 c).arrAt_eq_of_covers 19 _ (by decide +kernel) fun t hf y => ?_
  blk_simp
  rw [after0_19]
  frame_out
  refine (pay19 _ _ _).trans ?_
  blk_ext! [iblk, idx t]

/-- The new second moment for conv_ln_b after the run. -/
theorem final19 (c : Dev nD) : (dats m 0 c).arrAt 19 cfg0.N =
    (fun i => vNew (m ((c : Thread nD τ).loc main_arg4) i) (m ((c : Thread nD τ).loc main_arg10) i) : Buf (Elt Ideal) ((c : Thread nD τ).loc main_v0_7)) := by
  refine (read19 m c).trans ?_
  simp only [V_main_arg4 m c, V_main_arg10 m c]

/-- The new second moment for sg_ln_g after the run, from the arrays the kernel reads. -/
theorem read20 (c : Dev nD) : (dats m 0 c).arrAt 20 cfg0.N =
    (fun i => vNew (V m c main_arg5 i) (V m c main_arg11 i) : Buf (Elt Ideal) ((c : Thread nD τ).loc main_v0_8)) := by
  refine (dats m 0 c).arrAt_eq_of_covers 20 _ (by decide +kernel) fun t hf y => ?_
  blk_simp
  rw [after0_20]
  frame_out
  refine (pay20 _ _ _).trans ?_
  blk_ext! [iblk, idx t]

/-- The new second moment for sg_ln_g after the run. -/
theorem final20 (c : Dev nD) : (dats m 0 c).arrAt 20 cfg0.N =
    (fun i => vNew (m ((c : Thread nD τ).loc main_arg5) i) (m ((c : Thread nD τ).loc main_arg11) i) : Buf (Elt Ideal) ((c : Thread nD τ).loc main_v0_8)) := by
  refine (read20 m c).trans ?_
  simp only [V_main_arg5 m c, V_main_arg11 m c]

end Cert.AdamSmallBIdeal.Block
end
-- ==== Proof.AdamSmallBClaim.lean ====
module

public import proofs.«01_k».proof.Defs
public import proofs.«01_k».proof.Proof.AdamSmallBBlock
public import proofs.«01_k».proof.Proof.Gen.AdamSmallBRefIdeal.Read
public import proofs.«01_k».proof.Proof.Gen.AdamSmallBRefIdeal.Run
public import Idealize.ShloMosaic.Lib.Claim

/-! The optimiser's kernel for conv_ln_g, conv_ln_b and sg_ln_g and the reference agree. -/

@[expose] public section

noncomputable section

namespace Cert.Proof.AdamSmallB

open Idealize.ShloMosaic Idealize.ShloMosaic.TcCoe Idealize.SL.Sem

/-- The moments and the changes of the weights that the kernel leaves are those that the reference leaves. -/
theorem algebraic : Cert.algebraic_AdamSmallBIdeal_AdamSmallBRefIdeal := by
  pair_intro
  · run_from Cert.AdamSmallBIdeal.Value.run_blocks m g
  · run_from Cert.AdamSmallBRefIdeal.Value.run m' g'
    · rw [Cert.AdamSmallBIdeal.Block.final12 m c]
      rfl
    · rw [Cert.AdamSmallBIdeal.Block.final13 m c]
      rfl
    · rw [Cert.AdamSmallBIdeal.Block.final14 m c]
      rfl
    · rw [Cert.AdamSmallBIdeal.Block.final15 m c]
      rfl
    · rw [Cert.AdamSmallBIdeal.Block.final16 m c]
      rfl
    · rw [Cert.AdamSmallBIdeal.Block.final17 m c]
      rfl
    · rw [Cert.AdamSmallBIdeal.Block.final18 m c]
      rfl
    · rw [Cert.AdamSmallBIdeal.Block.final19 m c]
      rfl
    · rw [Cert.AdamSmallBIdeal.Block.final20 m c]
      rfl

/-- The reference runs and leaves its arguments unchanged. -/
theorem frame_ref : Cert.quiescent_AdamSmallBRefIdeal := fun m ρ _ =>
  (θ_run Cert.AdamSmallBRefIdeal.defs _ _).mono (fun r h => ⟨fun c => (h c).2.2.2.2.2.2.2.2.2, sem_eq_zero_of_no_sems (by decide) r.2⟩)
    (Cert.AdamSmallBRefIdeal.Value.run (F := Ideal) m ρ)

end Cert.Proof.AdamSmallB
end
-- ==== Proof.AdamSmallCBlock.lean ====
module

public import proofs.«01_k».proof.Proof.Gen.AdamSmallCIdeal.Value
public import proofs.«01_k».proof.Proof.Adam
public import Idealize.ShloMosaic.Lib.Pointwise
public import Idealize.ShloMosaic.Lib.Pipeline.ValueKit
public import Idealize.ShloMosaic.Lib.Pipeline.ReadBack

/-! What the optimiser's kernel for sg_ln_b, w_s and b_s computes, and what its result arrays hold. -/

@[expose] public section

noncomputable section

namespace Cert.AdamSmallCIdeal.Block

open Idealize.ShloMosaic Idealize.ShloMosaic.TcCoe Cert.AdamSmallCIdeal Cert.AdamSmallCIdeal.Gen Cert.AdamSmallCIdeal.Value Cert.Adam

/-- The change of the weight for sg_ln_b. -/
theorem pay12 (x0 x3 x6 x9 : Vec Ideal S2x384 .f32) (j : S2x384.Idx) :
    k0_pay3 (F := Ideal) x0 x3 x6 x9 j = delta (x0 j) (x3 j) (x6 j) (x9 j) := by
  rw [eq_ix2 j]
  pointwise [k0_pay1, k0_pay2, k0_pay3, k0_pay4, k0_pay5, k0_pay6, k0_pay7, k0_pay8, k0_pay9, k0_pay10, k0_pay11]
  rfl

/-- The change of the weight for w_s. -/
theorem pay13 (x1 x4 x7 x10 : Vec Ideal S1024x128 .f32) (j : S1024x128.Idx) :
    k0_pay7 (F := Ideal) x1 x4 x7 x10 j = delta (x1 j) (x4 j) (x7 j) (x10 j) := by
  rw [eq_ix2 j]
  pointwise [k0_pay1, k0_pay2, k0_pay3, k0_pay4, k0_pay5, k0_pay6, k0_pay7, k0_pay8, k0_pay9, k0_pay10, k0_pay11]
  rfl

/-- The change of the weight for b_s. -/
theorem pay14 (x2 x5 x8 x11 : Vec Ideal S8x128 .f32) (j : S8x128.Idx) :
    k0_pay11 (F := Ideal) x2 x5 x8 x11 j = delta (x2 j) (x5 j) (x8 j) (x11 j) := by
  rw [eq_ix2 j]
  pointwise [k0_pay1, k0_pay2, k0_pay3, k0_pay4, k0_pay5, k0_pay6, k0_pay7, k0_pay8, k0_pay9, k0_pay10, k0_pay11]
  rfl

/-- The new first moment for sg_ln_b. -/
theorem pay15 (x3 x6 : Vec Ideal S2x384 .f32) (j : S2x384.Idx) :
    k0_pay1 (F := Ideal) x3 x6 j = mNew (x3 j) (x6 j) := by
  rw [eq_ix2 j]
  pointwise [k0_pay1, k0_pay2, k0_pay3, k0_pay4, k0_pay5, k0_pay6, k0_pay7, k0_pay8, k0_pay9, k0_pay10, k0_pay11]
  rfl

/-- The new first moment for w_s. -/
theorem pay16 (x4 x7 : Vec Ideal S1024x128 .f32) (j : S1024x128.Idx) :
    k0_pay5 (F := Ideal) x4 x7 j = mNew (x4 j) (x7 j) := by
  rw [eq_ix2 j]
  pointwise [k0_pay1, k0_pay2, k0_pay3, k0_pay4, k0_pay5, k0_pay6, k0_pay7, k0_pay8, k0_pay9, k0_pay10, k0_pay11]
  rfl

/-- The new first moment for b_s. -/
theorem pay17 (x5 x8 : Vec Ideal S8x128 .f32) (j : S8x128.Idx) :
    k0_pay9 (F := Ideal) x5 x8 j = mNew (x5 j) (x8 j) := by
  rw [eq_ix2 j]
  pointwise [k0_pay1, k0_pay2, k0_pay3, k0_pay4, k0_pay5, k0_pay6, k0_pay7, k0_pay8, k0_pay9, k0_pay10, k0_pay11]
  rfl

/-- The new second moment for sg_ln_b. -/
theorem pay18 (x3 x9 : Vec Ideal S2x384 .f32) (j : S2x384.Idx) :
    k0_pay2 (F := Ideal) x3 x9 j = vNew (x3 j) (x9 j) := by
  rw [eq_ix2 j]
  pointwise [k0_pay1, k0_pay2, k0_pay3, k0_pay4, k0_pay5, k0_pay6, k0_pay7, k0_pay8, k0_pay9, k0_pay10, k0_pay11]
  rfl

/-- The new second moment for w_s. -/
theorem pay19 (x4 x10 : Vec Ideal S1024x128 .f32) (j : S1024x128.Idx) :
    k0_pay6 (F := Ideal) x4 x10 j = vNew (x4 j) (x10 j) := by
  rw [eq_ix2 j]
  pointwise [k0_pay1, k0_pay2, k0_pay3, k0_pay4, k0_pay5, k0_pay6, k0_pay7, k0_pay8, k0_pay9, k0_pay10, k0_pay11]
  rfl

/-- The new second moment for b_s. -/
theorem pay20 (x5 x11 : Vec Ideal S8x128 .f32) (j : S8x128.Idx) :
    k0_pay10 (F := Ideal) x5 x11 j = vNew (x5 j) (x11 j) := by
  rw [eq_ix2 j]
  pointwise [k0_pay1, k0_pay2, k0_pay3, k0_pay4, k0_pay5, k0_pay6, k0_pay7, k0_pay8, k0_pay9, k0_pay10, k0_pay11]
  rfl

variable (m : (ℓ : Loc nD τ sig) → Buf (Elt Ideal) ℓ)

/-- Every window is the whole of its array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, _)

/-- The host's reshape of argument 1. -/
theorem host1 (c : Dev nD) : V m c main_v0 = shapeCast S1024x128 (m ((c : Thread nD τ).loc main_arg1) : FVec Ideal S2x4x128x128 .f32) shapeCasts_S2x4x128x128_S1024x128 := by
  funext i
  entry_read
  rfl

/-- The host's reshape of argument 2. -/
theorem host2 (c : Dev nD) : V m c main_v1 = shapeCast S8x128 (m ((c : Thread nD τ).loc main_arg2) : FVec Ideal S2x4x128 .f32) shapeCasts_S2x4x128_S8x128 := by
  funext i
  entry_read
  rfl

/-- The host's reshape of argument 4. -/
theorem host4 (c : Dev nD) : V m c main_v2 = shapeCast S1024x128 (m ((c : Thread nD τ).loc main_arg4) : FVec Ideal S2x4x128x128 .f32) shapeCasts_S2x4x128x128_S1024x128 := by
  funext i
  entry_read
  rfl

/-- The host's reshape of argument 5. -/
theorem host5 (c : Dev nD) : V m c main_v3 = shapeCast S8x128 (m ((c : Thread nD τ).loc main_arg5) : FVec Ideal S2x4x128 .f32) shapeCasts_S2x4x128_S8x128 := by
  funext i
  entry_read
  rfl

/-- The host's reshape of argument 7. -/
theorem host7 (c : Dev nD) : V m c main_v4 = shapeCast S1024x128 (m ((c : Thread nD τ).loc main_arg7) : FVec Ideal S2x4x128x128 .f32) shapeCasts_S2x4x128x128_S1024x128 := by
  funext i
  entry_read
  rfl

/-- The host's reshape of argument 8. -/
theorem host8 (c : Dev nD) : V m c main_v5 = shapeCast S8x128 (m ((c : Thread nD τ).loc main_arg8) : FVec Ideal S2x4x128 .f32) shapeCasts_S2x4x128_S8x128 := by
  funext i
  entry_read
  rfl

/-- The host's reshape of argument 10. -/
theorem host10 (c : Dev nD) : V m c main_v6 = shapeCast S1024x128 (m ((c : Thread nD τ).loc main_arg10) : FVec Ideal S2x4x128x128 .f32) shapeCasts_S2x4x128x128_S1024x128 := by
  funext i
  entry_read
  rfl

/-- The host's reshape of argument 11. -/
theorem host11 (c : Dev nD) : V m c main_v7 = shapeCast S8x128 (m ((c : Thread nD τ).loc main_arg11) : FVec Ideal S2x4x128 .f32) shapeCasts_S2x4x128_S8x128 := by
  funext i
  entry_read
  rfl

/-- The change of the weight for sg_ln_b after the run, from the arrays the kernel reads. -/
theorem read12 (c : Dev nD) : (dats m 0 c).arrAt 12 cfg0.N =
    (fun i => delta (V m c main_arg0 i) (V m c main_arg3 i) (V m c main_arg6 i) (V m c main_arg9 i) : Buf (Elt Ideal) ((c : Thread nD τ).loc main_v8_0)) := by
  refine (dats m 0 c).arrAt_eq_of_covers 12 _ (by decide +kernel) fun t hf y => ?_
  blk_simp
  rw [after0_12]
  frame_out
  refine (pay12 _ _ _ _ _).trans ?_
  blk_ext! [iblk, idx t]

/-- The change of the weight for sg_ln_b after the run. -/
theorem final12 (c : Dev nD) : (dats m 0 c).arrAt 12 cfg0.N =
    (fun i => delta (m ((c : Thread nD τ).loc main_arg0) i) (m ((c : Thread nD τ).loc main_arg3) i) (m ((c : Thread nD τ).loc main_arg6) i) (m ((c : Thread nD τ).loc main_arg9) i) : Buf (Elt Ideal) ((c : Thread nD τ).loc main_v8_0)) := by
  refine (read12 m c).trans ?_
  simp only [V_main_arg0 m c, V_main_arg3 m c, V_main_arg6 m c, V_main_arg9 m c]

/-- The change of the weight for w_s after the run, from the arrays the kernel reads. -/
theorem read13 (c : Dev nD) : (dats m 0 c).arrAt 13 cfg0.N =
    (fun i => delta (V m c main_v0 i) (V m c main_v2 i) (V m c main_v4 i) (V m c main_v6 i) : Buf (Elt Ideal) ((c : Thread nD τ).loc main_v8_1)) := by
  refine (dats m 0 c).arrAt_eq_of_covers 13 _ (by decide +kernel) fun t hf y => ?_
  blk_simp
  rw [after0_13]
  frame_out
  refine (pay13 _ _ _ _ _).trans ?_
  blk_ext! [iblk, idx t]

/-- The change of the weight for w_s after the run. -/
theorem final13 (c : Dev nD) : (dats m 0 c).arrAt 13 cfg0.N =
    (fun i => delta (shapeCast S1024x128 (m ((c : Thread nD τ).loc main_arg1) : FVec Ideal S2x4x128x128 .f32) shapeCasts_S2x4x128x128_S1024x128 i) (shapeCast S1024x128 (m ((c : Thread nD τ).loc main_arg4) : FVec Ideal S2x4x128x128 .f32) shapeCasts_S2x4x128x128_S1024x128 i) (shapeCast S1024x128 (m ((c : Thread nD τ).loc main_arg7) : FVec Ideal S2x4x128x128 .f32) shapeCasts_S2x4x128x128_S1024x128 i) (shapeCast S1024x128 (m ((c : Thread nD τ).loc main_arg10) : FVec Ideal S2x4x128x128 .f32) shapeCasts_S2x4x128x128_S1024x128 i) : Buf (Elt Ideal) ((c : Thread nD τ).loc main_v8_1)) := by
  refine (read13 m c).trans ?_
  simp only [host1 m c, host4 m c, host7 m c, host10 m c]

/-- The change of the weight for b_s after the run, from the arrays the kernel reads. -/
theorem read14 (c : Dev nD) : (dats m 0 c).arrAt 14 cfg0.N =
    (fun i => delta (V m c main_v1 i) (V m c main_v3 i) (V m c main_v5 i) (V m c main_v7 i) : Buf (Elt Ideal) ((c : Thread nD τ).loc main_v8_2)) := by
  refine (dats m 0 c).arrAt_eq_of_covers 14 _ (by decide +kernel) fun t hf y => ?_
  blk_simp
  rw [after0_14]
  frame_out
  refine (pay14 _ _ _ _ _).trans ?_
  blk_ext! [iblk, idx t]

/-- The change of the weight for b_s after the run. -/
theorem final14 (c : Dev nD) : (dats m 0 c).arrAt 14 cfg0.N =
    (fun i => delta (shapeCast S8x128 (m ((c : Thread nD τ).loc main_arg2) : FVec Ideal S2x4x128 .f32) shapeCasts_S2x4x128_S8x128 i) (shapeCast S8x128 (m ((c : Thread nD τ).loc main_arg5) : FVec Ideal S2x4x128 .f32) shapeCasts_S2x4x128_S8x128 i) (shapeCast S8x128 (m ((c : Thread nD τ).loc main_arg8) : FVec Ideal S2x4x128 .f32) shapeCasts_S2x4x128_S8x128 i) (shapeCast S8x128 (m ((c : Thread nD τ).loc main_arg11) : FVec Ideal S2x4x128 .f32) shapeCasts_S2x4x128_S8x128 i) : Buf (Elt Ideal) ((c : Thread nD τ).loc main_v8_2)) := by
  refine (read14 m c).trans ?_
  simp only [host2 m c, host5 m c, host8 m c, host11 m c]

/-- The new first moment for sg_ln_b after the run, from the arrays the kernel reads. -/
theorem read15 (c : Dev nD) : (dats m 0 c).arrAt 15 cfg0.N =
    (fun i => mNew (V m c main_arg3 i) (V m c main_arg6 i) : Buf (Elt Ideal) ((c : Thread nD τ).loc main_v8_3)) := by
  refine (dats m 0 c).arrAt_eq_of_covers 15 _ (by decide +kernel) fun t hf y => ?_
  blk_simp
  rw [after0_15]
  frame_out
  refine (pay15 _ _ _).trans ?_
  blk_ext! [iblk, idx t]

/-- The new first moment for sg_ln_b after the run. -/
theorem final15 (c : Dev nD) : (dats m 0 c).arrAt 15 cfg0.N =
    (fun i => mNew (m ((c : Thread nD τ).loc main_arg3) i) (m ((c : Thread nD τ).loc main_arg6) i) : Buf (Elt Ideal) ((c : Thread nD τ).loc main_v8_3)) := by
  refine (read15 m c).trans ?_
  simp only [V_main_arg3 m c, V_main_arg6 m c]

/-- The new first moment for w_s after the run, from the arrays the kernel reads. -/
theorem read16 (c : Dev nD) : (dats m 0 c).arrAt 16 cfg0.N =
    (fun i => mNew (V m c main_v2 i) (V m c main_v4 i) : Buf (Elt Ideal) ((c : Thread nD τ).loc main_v8_4)) := by
  refine (dats m 0 c).arrAt_eq_of_covers 16 _ (by decide +kernel) fun t hf y => ?_
  blk_simp
  rw [after0_16]
  frame_out
  refine (pay16 _ _ _).trans ?_
  blk_ext! [iblk, idx t]

/-- The new first moment for w_s after the run. -/
theorem final16 (c : Dev nD) : (dats m 0 c).arrAt 16 cfg0.N =
    (fun i => mNew (shapeCast S1024x128 (m ((c : Thread nD τ).loc main_arg4) : FVec Ideal S2x4x128x128 .f32) shapeCasts_S2x4x128x128_S1024x128 i) (shapeCast S1024x128 (m ((c : Thread nD τ).loc main_arg7) : FVec Ideal S2x4x128x128 .f32) shapeCasts_S2x4x128x128_S1024x128 i) : Buf (Elt Ideal) ((c : Thread nD τ).loc main_v8_4)) := by
  refine (read16 m c).trans ?_
  simp only [host4 m c, host7 m c]

/-- The new first moment for b_s after the run, from the arrays the kernel reads. -/
theorem read17 (c : Dev nD) : (dats m 0 c).arrAt 17 cfg0.N =
    (fun i => mNew (V m c main_v3 i) (V m c main_v5 i) : Buf (Elt Ideal) ((c : Thread nD τ).loc main_v8_5)) := by
  refine (dats m 0 c).arrAt_eq_of_covers 17 _ (by decide +kernel) fun t hf y => ?_
  blk_simp
  rw [after0_17]
  frame_out
  refine (pay17 _ _ _).trans ?_
  blk_ext! [iblk, idx t]

/-- The new first moment for b_s after the run. -/
theorem final17 (c : Dev nD) : (dats m 0 c).arrAt 17 cfg0.N =
    (fun i => mNew (shapeCast S8x128 (m ((c : Thread nD τ).loc main_arg5) : FVec Ideal S2x4x128 .f32) shapeCasts_S2x4x128_S8x128 i) (shapeCast S8x128 (m ((c : Thread nD τ).loc main_arg8) : FVec Ideal S2x4x128 .f32) shapeCasts_S2x4x128_S8x128 i) : Buf (Elt Ideal) ((c : Thread nD τ).loc main_v8_5)) := by
  refine (read17 m c).trans ?_
  simp only [host5 m c, host8 m c]

/-- The new second moment for sg_ln_b after the run, from the arrays the kernel reads. -/
theorem read18 (c : Dev nD) : (dats m 0 c).arrAt 18 cfg0.N =
    (fun i => vNew (V m c main_arg3 i) (V m c main_arg9 i) : Buf (Elt Ideal) ((c : Thread nD τ).loc main_v8_6)) := by
  refine (dats m 0 c).arrAt_eq_of_covers 18 _ (by decide +kernel) fun t hf y => ?_
  blk_simp
  rw [after0_18]
  frame_out
  refine (pay18 _ _ _).trans ?_
  blk_ext! [iblk, idx t]

/-- The new second moment for sg_ln_b after the run. -/
theorem final18 (c : Dev nD) : (dats m 0 c).arrAt 18 cfg0.N =
    (fun i => vNew (m ((c : Thread nD τ).loc main_arg3) i) (m ((c : Thread nD τ).loc main_arg9) i) : Buf (Elt Ideal) ((c : Thread nD τ).loc main_v8_6)) := by
  refine (read18 m c).trans ?_
  simp only [V_main_arg3 m c, V_main_arg9 m c]

/-- The new second moment for w_s after the run, from the arrays the kernel reads. -/
theorem read19 (c : Dev nD) : (dats m 0 c).arrAt 19 cfg0.N =
    (fun i => vNew (V m c main_v2 i) (V m c main_v6 i) : Buf (Elt Ideal) ((c : Thread nD τ).loc main_v8_7)) := by
  refine (dats m 0 c).arrAt_eq_of_covers 19 _ (by decide +kernel) fun t hf y => ?_
  blk_simp
  rw [after0_19]
  frame_out
  refine (pay19 _ _ _).trans ?_
  blk_ext! [iblk, idx t]

/-- The new second moment for w_s after the run. -/
theorem final19 (c : Dev nD) : (dats m 0 c).arrAt 19 cfg0.N =
    (fun i => vNew (shapeCast S1024x128 (m ((c : Thread nD τ).loc main_arg4) : FVec Ideal S2x4x128x128 .f32) shapeCasts_S2x4x128x128_S1024x128 i) (shapeCast S1024x128 (m ((c : Thread nD τ).loc main_arg10) : FVec Ideal S2x4x128x128 .f32) shapeCasts_S2x4x128x128_S1024x128 i) : Buf (Elt Ideal) ((c : Thread nD τ).loc main_v8_7)) := by
  refine (read19 m c).trans ?_
  simp only [host4 m c, host10 m c]

/-- The new second moment for b_s after the run, from the arrays the kernel reads. -/
theorem read20 (c : Dev nD) : (dats m 0 c).arrAt 20 cfg0.N =
    (fun i => vNew (V m c main_v3 i) (V m c main_v7 i) : Buf (Elt Ideal) ((c : Thread nD τ).loc main_v8_8)) := by
  refine (dats m 0 c).arrAt_eq_of_covers 20 _ (by decide +kernel) fun t hf y => ?_
  blk_simp
  rw [after0_20]
  frame_out
  refine (pay20 _ _ _).trans ?_
  blk_ext! [iblk, idx t]

/-- The new second moment for b_s after the run. -/
theorem final20 (c : Dev nD) : (dats m 0 c).arrAt 20 cfg0.N =
    (fun i => vNew (shapeCast S8x128 (m ((c : Thread nD τ).loc main_arg5) : FVec Ideal S2x4x128 .f32) shapeCasts_S2x4x128_S8x128 i) (shapeCast S8x128 (m ((c : Thread nD τ).loc main_arg11) : FVec Ideal S2x4x128 .f32) shapeCasts_S2x4x128_S8x128 i) : Buf (Elt Ideal) ((c : Thread nD τ).loc main_v8_8)) := by
  refine (read20 m c).trans ?_
  simp only [host5 m c, host11 m c]

end Cert.AdamSmallCIdeal.Block
end
-- ==== Proof.AdamSmallCClaim.lean ====
module

public import proofs.«01_k».proof.Defs
public import proofs.«01_k».proof.Proof.AdamSmallCBlock
public import proofs.«01_k».proof.Proof.Gen.AdamSmallCRefIdeal.Read
public import proofs.«01_k».proof.Proof.Gen.AdamSmallCRefIdeal.Run
public import Idealize.ShloMosaic.Lib.Claim

/-! The optimiser's kernel for sg_ln_b, w_s and b_s and the reference agree. -/

@[expose] public section

noncomputable section

namespace Cert.Proof.AdamSmallC

open Idealize.ShloMosaic Idealize.ShloMosaic.TcCoe Idealize.SL.Sem

/-- The moments and the changes of the weights that the kernel leaves are those that the reference leaves. -/
theorem algebraic : Cert.algebraic_AdamSmallCIdeal_AdamSmallCRefIdeal := by
  pair_intro
  · run_from Cert.AdamSmallCIdeal.Value.run_blocks m g
  · run_from Cert.AdamSmallCRefIdeal.Value.run m' g'
    · rw [Cert.AdamSmallCIdeal.Block.final12 m c]
      rfl
    · rw [Cert.AdamSmallCIdeal.Block.final13 m c]
      rfl
    · rw [Cert.AdamSmallCIdeal.Block.final14 m c]
      rfl
    · rw [Cert.AdamSmallCIdeal.Block.final15 m c]
      rfl
    · rw [Cert.AdamSmallCIdeal.Block.final16 m c]
      rfl
    · rw [Cert.AdamSmallCIdeal.Block.final17 m c]
      rfl
    · rw [Cert.AdamSmallCIdeal.Block.final18 m c]
      rfl
    · rw [Cert.AdamSmallCIdeal.Block.final19 m c]
      rfl
    · rw [Cert.AdamSmallCIdeal.Block.final20 m c]
      rfl

/-- The reference runs and leaves its arguments unchanged. -/
theorem frame_ref : Cert.quiescent_AdamSmallCRefIdeal := fun m ρ _ =>
  (θ_run Cert.AdamSmallCRefIdeal.defs _ _).mono (fun r h => ⟨fun c => (h c).2.2.2.2.2.2.2.2.2, sem_eq_zero_of_no_sems (by decide) r.2⟩)
    (Cert.AdamSmallCRefIdeal.Value.run (F := Ideal) m ρ)

end Cert.Proof.AdamSmallC
end
-- ==== Proof.AdamSmallDBlock.lean ====
module

public import proofs.«01_k».proof.Proof.Gen.AdamSmallDIdeal.Value
public import proofs.«01_k».proof.Proof.Adam
public import Idealize.ShloMosaic.Lib.Pointwise
public import Idealize.ShloMosaic.Lib.Pipeline.ValueKit
public import Idealize.ShloMosaic.Lib.Pipeline.ReadBack

/-! What the optimiser's kernel for w_pool, pool_scale and norm2_g computes, and what its result arrays hold. -/

@[expose] public section

noncomputable section

namespace Cert.AdamSmallDIdeal.Block

open Idealize.ShloMosaic Idealize.ShloMosaic.TcCoe Cert.AdamSmallDIdeal Cert.AdamSmallDIdeal.Gen Cert.AdamSmallDIdeal.Value Cert.Adam

/-- The change of the weight for w_pool. -/
theorem pay12 (x0 x3 x6 x9 : Vec Ideal S512x64 .f32) (j : S512x64.Idx) :
    k0_pay7 (F := Ideal) x0 x3 x6 x9 j = delta (x0 j) (x3 j) (x6 j) (x9 j) := by
  rw [eq_ix2 j]
  pointwise [k0_pay1, k0_pay2, k0_pay3, k0_pay4, k0_pay5, k0_pay6, k0_pay7, k0_pay8, k0_pay9, k0_pay10]
  rfl

/-- The change of the weight for pool_scale. -/
theorem pay13 (x1 x4 x7 x10 : Vec Ideal S2x256 .f32) (j : S2x256.Idx) :
    k0_pay10 (F := Ideal) x1 x4 x7 x10 j = delta (x1 j) (x4 j) (x7 j) (x10 j) := by
  rw [eq_ix2 j]
  pointwise [k0_pay1, k0_pay2, k0_pay3, k0_pay4, k0_pay5, k0_pay6, k0_pay7, k0_pay8, k0_pay9, k0_pay10]
  rfl

/-- The change of the weight for norm2_g. -/
theorem pay14 (x2 x5 x8 x11 : Vec Ideal S2x1024 .f32) (j : S2x1024.Idx) :
    k0_pay3 (F := Ideal) x2 x5 x8 x11 j = delta (x2 j) (x5 j) (x8 j) (x11 j) := by
  rw [eq_ix2 j]
  pointwise [k0_pay1, k0_pay2, k0_pay3, k0_pay4, k0_pay5, k0_pay6, k0_pay7, k0_pay8, k0_pay9, k0_pay10]
  rfl

/-- The new first moment for w_pool. -/
theorem pay15 (x3 x6 : Vec Ideal S512x64 .f32) (j : S512x64.Idx) :
    k0_pay5 (F := Ideal) x3 x6 j = mNew (x3 j) (x6 j) := by
  rw [eq_ix2 j]
  pointwise [k0_pay1, k0_pay2, k0_pay3, k0_pay4, k0_pay5, k0_pay6, k0_pay7, k0_pay8, k0_pay9, k0_pay10]
  rfl

/-- The new first moment for pool_scale. -/
theorem pay16 (x4 x7 : Vec Ideal S2x256 .f32) (j : S2x256.Idx) :
    k0_pay8 (F := Ideal) x4 x7 j = mNew (x4 j) (x7 j) := by
  rw [eq_ix2 j]
  pointwise [k0_pay1, k0_pay2, k0_pay3, k0_pay4, k0_pay5, k0_pay6, k0_pay7, k0_pay8, k0_pay9, k0_pay10]
  rfl

/-- The new first moment for norm2_g. -/
theorem pay17 (x5 x8 : Vec Ideal S2x1024 .f32) (j : S2x1024.Idx) :
    k0_pay1 (F := Ideal) x5 x8 j = mNew (x5 j) (x8 j) := by
  rw [eq_ix2 j]
  pointwise [k0_pay1, k0_pay2, k0_pay3, k0_pay4, k0_pay5, k0_pay6, k0_pay7, k0_pay8, k0_pay9, k0_pay10]
  rfl

/-- The new second moment for w_pool. -/
theorem pay18 (x3 x9 : Vec Ideal S512x64 .f32) (j : S512x64.Idx) :
    k0_pay6 (F := Ideal) x3 x9 j = vNew (x3 j) (x9 j) := by
  rw [eq_ix2 j]
  pointwise [k0_pay1, k0_pay2, k0_pay3, k0_pay4, k0_pay5, k0_pay6, k0_pay7, k0_pay8, k0_pay9, k0_pay10]
  rfl

/-- The new second moment for pool_scale. -/
theorem pay19 (x4 x10 : Vec Ideal S2x256 .f32) (j : S2x256.Idx) :
    k0_pay9 (F := Ideal) x4 x10 j = vNew (x4 j) (x10 j) := by
  rw [eq_ix2 j]
  pointwise [k0_pay1, k0_pay2, k0_pay3, k0_pay4, k0_pay5, k0_pay6, k0_pay7, k0_pay8, k0_pay9, k0_pay10]
  rfl

/-- The new second moment for norm2_g. -/
theorem pay20 (x5 x11 : Vec Ideal S2x1024 .f32) (j : S2x1024.Idx) :
    k0_pay2 (F := Ideal) x5 x11 j = vNew (x5 j) (x11 j) := by
  rw [eq_ix2 j]
  pointwise [k0_pay1, k0_pay2, k0_pay3, k0_pay4, k0_pay5, k0_pay6, k0_pay7, k0_pay8, k0_pay9, k0_pay10]
  rfl

variable (m : (ℓ : Loc nD τ sig) → Buf (Elt Ideal) ℓ)

/-- Every window is the whole of its array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, _)

/-- The host's reshape of argument 0. -/
theorem host0 (c : Dev nD) : V m c main_v0 = shapeCast S512x64 (m ((c : Thread nD τ).loc main_arg0) : FVec Ideal S2x4x64x64 .f32) shapeCasts_S2x4x64x64_S512x64 := by
  funext i
  entry_read
  rfl

/-- The host's reshape of argument 3. -/
theorem host3 (c : Dev nD) : V m c main_v1 = shapeCast S512x64 (m ((c : Thread nD τ).loc main_arg3) : FVec Ideal S2x4x64x64 .f32) shapeCasts_S2x4x64x64_S512x64 := by
  funext i
  entry_read
  rfl

/-- The host's reshape of argument 6. -/
theorem host6 (c : Dev nD) : V m c main_v2 = shapeCast S512x64 (m ((c : Thread nD τ).loc main_arg6) : FVec Ideal S2x4x64x64 .f32) shapeCasts_S2x4x64x64_S512x64 := by
  funext i
  entry_read
  rfl

/-- The host's reshape of argument 9. -/
theorem host9 (c : Dev nD) : V m c main_v3 = shapeCast S512x64 (m ((c : Thread nD τ).loc main_arg9) : FVec Ideal S2x4x64x64 .f32) shapeCasts_S2x4x64x64_S512x64 := by
  funext i
  entry_read
  rfl

/-- The change of the weight for w_pool after the run, from the arrays the kernel reads. -/
theorem read12 (c : Dev nD) : (dats m 0 c).arrAt 12 cfg0.N =
    (fun i => delta (V m c main_v0 i) (V m c main_v1 i) (V m c main_v2 i) (V m c main_v3 i) : Buf (Elt Ideal) ((c : Thread nD τ).loc main_v4_0)) := by
  refine (dats m 0 c).arrAt_eq_of_covers 12 _ (by decide +kernel) fun t hf y => ?_
  blk_simp
  rw [after0_12]
  frame_out
  refine (pay12 _ _ _ _ _).trans ?_
  blk_ext! [iblk, idx t]

/-- The change of the weight for w_pool after the run. -/
theorem final12 (c : Dev nD) : (dats m 0 c).arrAt 12 cfg0.N =
    (fun i => delta (shapeCast S512x64 (m ((c : Thread nD τ).loc main_arg0) : FVec Ideal S2x4x64x64 .f32) shapeCasts_S2x4x64x64_S512x64 i) (shapeCast S512x64 (m ((c : Thread nD τ).loc main_arg3) : FVec Ideal S2x4x64x64 .f32) shapeCasts_S2x4x64x64_S512x64 i) (shapeCast S512x64 (m ((c : Thread nD τ).loc main_arg6) : FVec Ideal S2x4x64x64 .f32) shapeCasts_S2x4x64x64_S512x64 i) (shapeCast S512x64 (m ((c : Thread nD τ).loc main_arg9) : FVec Ideal S2x4x64x64 .f32) shapeCasts_S2x4x64x64_S512x64 i) : Buf (Elt Ideal) ((c : Thread nD τ).loc main_v4_0)) := by
  refine (read12 m c).trans ?_
  simp only [host0 m c, host3 m c, host6 m c, host9 m c]

/-- The change of the weight for pool_scale after the run, from the arrays the kernel reads. -/
theorem read13 (c : Dev nD) : (dats m 0 c).arrAt 13 cfg0.N =
    (fun i => delta (V m c main_arg1 i) (V m c main_arg4 i) (V m c main_arg7 i) (V m c main_arg10 i) : Buf (Elt Ideal) ((c : Thread nD τ).loc main_v4_1)) := by
  refine (dats m 0 c).arrAt_eq_of_covers 13 _ (by decide +kernel) fun t hf y => ?_
  blk_simp
  rw [after0_13]
  frame_out
  refine (pay13 _ _ _ _ _).trans ?_
  blk_ext! [iblk, idx t]

/-- The change of the weight for pool_scale after the run. -/
theorem final13 (c : Dev nD) : (dats m 0 c).arrAt 13 cfg0.N =
    (fun i => delta (m ((c : Thread nD τ).loc main_arg1) i) (m ((c : Thread nD τ).loc main_arg4) i) (m ((c : Thread nD τ).loc main_arg7) i) (m ((c : Thread nD τ).loc main_arg10) i) : Buf (Elt Ideal) ((c : Thread nD τ).loc main_v4_1)) := by
  refine (read13 m c).trans ?_
  simp only [V_main_arg1 m c, V_main_arg4 m c, V_main_arg7 m c, V_main_arg10 m c]

/-- The change of the weight for norm2_g after the run, from the arrays the kernel reads. -/
theorem read14 (c : Dev nD) : (dats m 0 c).arrAt 14 cfg0.N =
    (fun i => delta (V m c main_arg2 i) (V m c main_arg5 i) (V m c main_arg8 i) (V m c main_arg11 i) : Buf (Elt Ideal) ((c : Thread nD τ).loc main_v4_2)) := by
  refine (dats m 0 c).arrAt_eq_of_covers 14 _ (by decide +kernel) fun t hf y => ?_
  blk_simp
  rw [after0_14]
  frame_out
  refine (pay14 _ _ _ _ _).trans ?_
  blk_ext! [iblk, idx t]

/-- The change of the weight for norm2_g after the run. -/
theorem final14 (c : Dev nD) : (dats m 0 c).arrAt 14 cfg0.N =
    (fun i => delta (m ((c : Thread nD τ).loc main_arg2) i) (m ((c : Thread nD τ).loc main_arg5) i) (m ((c : Thread nD τ).loc main_arg8) i) (m ((c : Thread nD τ).loc main_arg11) i) : Buf (Elt Ideal) ((c : Thread nD τ).loc main_v4_2)) := by
  refine (read14 m c).trans ?_
  simp only [V_main_arg2 m c, V_main_arg5 m c, V_main_arg8 m c, V_main_arg11 m c]

/-- The new first moment for w_pool after the run, from the arrays the kernel reads. -/
theorem read15 (c : Dev nD) : (dats m 0 c).arrAt 15 cfg0.N =
    (fun i => mNew (V m c main_v1 i) (V m c main_v2 i) : Buf (Elt Ideal) ((c : Thread nD τ).loc main_v4_3)) := by
  refine (dats m 0 c).arrAt_eq_of_covers 15 _ (by decide +kernel) fun t hf y => ?_
  blk_simp
  rw [after0_15]
  frame_out
  refine (pay15 _ _ _).trans ?_
  blk_ext! [iblk, idx t]

/-- The new first moment for w_pool after the run. -/
theorem final15 (c : Dev nD) : (dats m 0 c).arrAt 15 cfg0.N =
    (fun i => mNew (shapeCast S512x64 (m ((c : Thread nD τ).loc main_arg3) : FVec Ideal S2x4x64x64 .f32) shapeCasts_S2x4x64x64_S512x64 i) (shapeCast S512x64 (m ((c : Thread nD τ).loc main_arg6) : FVec Ideal S2x4x64x64 .f32) shapeCasts_S2x4x64x64_S512x64 i) : Buf (Elt Ideal) ((c : Thread nD τ).loc main_v4_3)) := by
  refine (read15 m c).trans ?_
  simp only [host3 m c, host6 m c]

/-- The new first moment for pool_scale after the run, from the arrays the kernel reads. -/
theorem read16 (c : Dev nD) : (dats m 0 c).arrAt 16 cfg0.N =
    (fun i => mNew (V m c main_arg4 i) (V m c main_arg7 i) : Buf (Elt Ideal) ((c : Thread nD τ).loc main_v4_4)) := by
  refine (dats m 0 c).arrAt_eq_of_covers 16 _ (by decide +kernel) fun t hf y => ?_
  blk_simp
  rw [after0_16]
  frame_out
  refine (pay16 _ _ _).trans ?_
  blk_ext! [iblk, idx t]

/-- The new first moment for pool_scale after the run. -/
theorem final16 (c : Dev nD) : (dats m 0 c).arrAt 16 cfg0.N =
    (fun i => mNew (m ((c : Thread nD τ).loc main_arg4) i) (m ((c : Thread nD τ).loc main_arg7) i) : Buf (Elt Ideal) ((c : Thread nD τ).loc main_v4_4)) := by
  refine (read16 m c).trans ?_
  simp only [V_main_arg4 m c, V_main_arg7 m c]

/-- The new first moment for norm2_g after the run, from the arrays the kernel reads. -/
theorem read17 (c : Dev nD) : (dats m 0 c).arrAt 17 cfg0.N =
    (fun i => mNew (V m c main_arg5 i) (V m c main_arg8 i) : Buf (Elt Ideal) ((c : Thread nD τ).loc main_v4_5)) := by
  refine (dats m 0 c).arrAt_eq_of_covers 17 _ (by decide +kernel) fun t hf y => ?_
  blk_simp
  rw [after0_17]
  frame_out
  refine (pay17 _ _ _).trans ?_
  blk_ext! [iblk, idx t]

/-- The new first moment for norm2_g after the run. -/
theorem final17 (c : Dev nD) : (dats m 0 c).arrAt 17 cfg0.N =
    (fun i => mNew (m ((c : Thread nD τ).loc main_arg5) i) (m ((c : Thread nD τ).loc main_arg8) i) : Buf (Elt Ideal) ((c : Thread nD τ).loc main_v4_5)) := by
  refine (read17 m c).trans ?_
  simp only [V_main_arg5 m c, V_main_arg8 m c]

/-- The new second moment for w_pool after the run, from the arrays the kernel reads. -/
theorem read18 (c : Dev nD) : (dats m 0 c).arrAt 18 cfg0.N =
    (fun i => vNew (V m c main_v1 i) (V m c main_v3 i) : Buf (Elt Ideal) ((c : Thread nD τ).loc main_v4_6)) := by
  refine (dats m 0 c).arrAt_eq_of_covers 18 _ (by decide +kernel) fun t hf y => ?_
  blk_simp
  rw [after0_18]
  frame_out
  refine (pay18 _ _ _).trans ?_
  blk_ext! [iblk, idx t]

/-- The new second moment for w_pool after the run. -/
theorem final18 (c : Dev nD) : (dats m 0 c).arrAt 18 cfg0.N =
    (fun i => vNew (shapeCast S512x64 (m ((c : Thread nD τ).loc main_arg3) : FVec Ideal S2x4x64x64 .f32) shapeCasts_S2x4x64x64_S512x64 i) (shapeCast S512x64 (m ((c : Thread nD τ).loc main_arg9) : FVec Ideal S2x4x64x64 .f32) shapeCasts_S2x4x64x64_S512x64 i) : Buf (Elt Ideal) ((c : Thread nD τ).loc main_v4_6)) := by
  refine (read18 m c).trans ?_
  simp only [host3 m c, host9 m c]

/-- The new second moment for pool_scale after the run, from the arrays the kernel reads. -/
theorem read19 (c : Dev nD) : (dats m 0 c).arrAt 19 cfg0.N =
    (fun i => vNew (V m c main_arg4 i) (V m c main_arg10 i) : Buf (Elt Ideal) ((c : Thread nD τ).loc main_v4_7)) := by
  refine (dats m 0 c).arrAt_eq_of_covers 19 _ (by decide +kernel) fun t hf y => ?_
  blk_simp
  rw [after0_19]
  frame_out
  refine (pay19 _ _ _).trans ?_
  blk_ext! [iblk, idx t]

/-- The new second moment for pool_scale after the run. -/
theorem final19 (c : Dev nD) : (dats m 0 c).arrAt 19 cfg0.N =
    (fun i => vNew (m ((c : Thread nD τ).loc main_arg4) i) (m ((c : Thread nD τ).loc main_arg10) i) : Buf (Elt Ideal) ((c : Thread nD τ).loc main_v4_7)) := by
  refine (read19 m c).trans ?_
  simp only [V_main_arg4 m c, V_main_arg10 m c]

/-- The new second moment for norm2_g after the run, from the arrays the kernel reads. -/
theorem read20 (c : Dev nD) : (dats m 0 c).arrAt 20 cfg0.N =
    (fun i => vNew (V m c main_arg5 i) (V m c main_arg11 i) : Buf (Elt Ideal) ((c : Thread nD τ).loc main_v4_8)) := by
  refine (dats m 0 c).arrAt_eq_of_covers 20 _ (by decide +kernel) fun t hf y => ?_
  blk_simp
  rw [after0_20]
  frame_out
  refine (pay20 _ _ _).trans ?_
  blk_ext! [iblk, idx t]

/-- The new second moment for norm2_g after the run. -/
theorem final20 (c : Dev nD) : (dats m 0 c).arrAt 20 cfg0.N =
    (fun i => vNew (m ((c : Thread nD τ).loc main_arg5) i) (m ((c : Thread nD τ).loc main_arg11) i) : Buf (Elt Ideal) ((c : Thread nD τ).loc main_v4_8)) := by
  refine (read20 m c).trans ?_
  simp only [V_main_arg5 m c, V_main_arg11 m c]

end Cert.AdamSmallDIdeal.Block
end
-- ==== Proof.AdamSmallDClaim.lean ====
module

public import proofs.«01_k».proof.Defs
public import proofs.«01_k».proof.Proof.AdamSmallDBlock
public import proofs.«01_k».proof.Proof.Gen.AdamSmallDRefIdeal.Read
public import proofs.«01_k».proof.Proof.Gen.AdamSmallDRefIdeal.Run
public import Idealize.ShloMosaic.Lib.Claim

/-! The optimiser's kernel for w_pool, pool_scale and norm2_g and the reference agree. -/

@[expose] public section

noncomputable section

namespace Cert.Proof.AdamSmallD

open Idealize.ShloMosaic Idealize.ShloMosaic.TcCoe Idealize.SL.Sem

/-- The moments and the changes of the weights that the kernel leaves are those that the reference leaves. -/
theorem algebraic : Cert.algebraic_AdamSmallDIdeal_AdamSmallDRefIdeal := by
  pair_intro
  · run_from Cert.AdamSmallDIdeal.Value.run_blocks m g
  · run_from Cert.AdamSmallDRefIdeal.Value.run m' g'
    · rw [Cert.AdamSmallDIdeal.Block.final12 m c]
      rfl
    · rw [Cert.AdamSmallDIdeal.Block.final13 m c]
      rfl
    · rw [Cert.AdamSmallDIdeal.Block.final14 m c]
      rfl
    · rw [Cert.AdamSmallDIdeal.Block.final15 m c]
      rfl
    · rw [Cert.AdamSmallDIdeal.Block.final16 m c]
      rfl
    · rw [Cert.AdamSmallDIdeal.Block.final17 m c]
      rfl
    · rw [Cert.AdamSmallDIdeal.Block.final18 m c]
      rfl
    · rw [Cert.AdamSmallDIdeal.Block.final19 m c]
      rfl
    · rw [Cert.AdamSmallDIdeal.Block.final20 m c]
      rfl

/-- The reference runs and leaves its arguments unchanged. -/
theorem frame_ref : Cert.quiescent_AdamSmallDRefIdeal := fun m ρ _ =>
  (θ_run Cert.AdamSmallDRefIdeal.defs _ _).mono (fun r h => ⟨fun c => (h c).2.2.2.2.2.2.2.2.2, sem_eq_zero_of_no_sems (by decide) r.2⟩)
    (Cert.AdamSmallDRefIdeal.Value.run (F := Ideal) m ρ)

end Cert.Proof.AdamSmallD
end
-- ==== Proof.AdamSmallEBlock.lean ====
module

public import proofs.«01_k».proof.Proof.Gen.AdamSmallEIdeal.Value
public import proofs.«01_k».proof.Proof.Adam
public import Idealize.ShloMosaic.Lib.Pointwise
public import Idealize.ShloMosaic.Lib.Pipeline.ValueKit
public import Idealize.ShloMosaic.Lib.Pipeline.ReadBack

/-! What the optimiser's kernel for final_g computes, and what its result arrays hold. -/

@[expose] public section

noncomputable section

namespace Cert.AdamSmallEIdeal.Block

open Idealize.ShloMosaic Idealize.ShloMosaic.TcCoe Cert.AdamSmallEIdeal Cert.AdamSmallEIdeal.Gen Cert.AdamSmallEIdeal.Value Cert.Adam

/-- The change of the weight for final_g. -/
theorem pay4 (x0 x1 x2 x3 : Vec Ideal S1x1024 .f32) (j : S1x1024.Idx) :
    k0_pay4 (F := Ideal) x0 x1 x2 x3 j = delta (x0 j) (x1 j) (x2 j) (x3 j) := by
  rw [eq_ix2 j]
  pointwise [k0_pay1, k0_pay2, k0_pay3, k0_pay4]
  rfl

/-- The new first moment for final_g. -/
theorem pay5 (x1 x2 : Vec Ideal S1x1024 .f32) (j : S1x1024.Idx) :
    k0_pay2 (F := Ideal) x1 x2 j = mNew (x1 j) (x2 j) := by
  rw [eq_ix2 j]
  pointwise [k0_pay1, k0_pay2, k0_pay3, k0_pay4]
  rfl

/-- The new second moment for final_g. -/
theorem pay6 (x1 x3 : Vec Ideal S1x1024 .f32) (j : S1x1024.Idx) :
    k0_pay3 (F := Ideal) x1 x3 j = vNew (x1 j) (x3 j) := by
  rw [eq_ix2 j]
  pointwise [k0_pay1, k0_pay2, k0_pay3, k0_pay4]
  rfl

variable (m : (ℓ : Loc nD τ sig) → Buf (Elt Ideal) ℓ)

/-- Every window is the whole of its array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The host's reshape of argument 0. -/
theorem host0 (c : Dev nD) : V m c main_v0 = shapeCast S1x1024 (m ((c : Thread nD τ).loc main_arg0) : FVec Ideal S1024 .f32) shapeCasts_S1024_S1x1024 := by
  funext i
  entry_read
  rfl

/-- The host's reshape of argument 1. -/
theorem host1 (c : Dev nD) : V m c main_v1 = shapeCast S1x1024 (m ((c : Thread nD τ).loc main_arg1) : FVec Ideal S1024 .f32) shapeCasts_S1024_S1x1024 := by
  funext i
  entry_read
  rfl

/-- The host's reshape of argument 2. -/
theorem host2 (c : Dev nD) : V m c main_v2 = shapeCast S1x1024 (m ((c : Thread nD τ).loc main_arg2) : FVec Ideal S1024 .f32) shapeCasts_S1024_S1x1024 := by
  funext i
  entry_read
  rfl

/-- The host's reshape of argument 3. -/
theorem host3 (c : Dev nD) : V m c main_v3 = shapeCast S1x1024 (m ((c : Thread nD τ).loc main_arg3) : FVec Ideal S1024 .f32) shapeCasts_S1024_S1x1024 := by
  funext i
  entry_read
  rfl

/-- The change of the weight for final_g after the run, from the arrays the kernel reads. -/
theorem read4 (c : Dev nD) : (dats m 0 c).arrAt 4 cfg0.N =
    (fun i => delta (V m c main_v0 i) (V m c main_v1 i) (V m c main_v2 i) (V m c main_v3 i) : Buf (Elt Ideal) ((c : Thread nD τ).loc main_v4_0)) := by
  refine (dats m 0 c).arrAt_eq_of_covers 4 _ (by decide +kernel) fun t hf y => ?_
  blk_simp
  rw [after0_4]
  frame_out
  refine (pay4 _ _ _ _ _).trans ?_
  blk_ext! [iblk, idx t]

/-- The change of the weight for final_g after the run. -/
theorem final4 (c : Dev nD) : (dats m 0 c).arrAt 4 cfg0.N =
    (fun i => delta (shapeCast S1x1024 (m ((c : Thread nD τ).loc main_arg0) : FVec Ideal S1024 .f32) shapeCasts_S1024_S1x1024 i) (shapeCast S1x1024 (m ((c : Thread nD τ).loc main_arg1) : FVec Ideal S1024 .f32) shapeCasts_S1024_S1x1024 i) (shapeCast S1x1024 (m ((c : Thread nD τ).loc main_arg2) : FVec Ideal S1024 .f32) shapeCasts_S1024_S1x1024 i) (shapeCast S1x1024 (m ((c : Thread nD τ).loc main_arg3) : FVec Ideal S1024 .f32) shapeCasts_S1024_S1x1024 i) : Buf (Elt Ideal) ((c : Thread nD τ).loc main_v4_0)) := by
  refine (read4 m c).trans ?_
  simp only [host0 m c, host1 m c, host2 m c, host3 m c]

/-- The new first moment for final_g after the run, from the arrays the kernel reads. -/
theorem read5 (c : Dev nD) : (dats m 0 c).arrAt 5 cfg0.N =
    (fun i => mNew (V m c main_v1 i) (V m c main_v2 i) : Buf (Elt Ideal) ((c : Thread nD τ).loc main_v4_1)) := by
  refine (dats m 0 c).arrAt_eq_of_covers 5 _ (by decide +kernel) fun t hf y => ?_
  blk_simp
  rw [after0_5]
  frame_out
  refine (pay5 _ _ _).trans ?_
  blk_ext! [iblk, idx t]

/-- The new first moment for final_g after the run. -/
theorem final5 (c : Dev nD) : (dats m 0 c).arrAt 5 cfg0.N =
    (fun i => mNew (shapeCast S1x1024 (m ((c : Thread nD τ).loc main_arg1) : FVec Ideal S1024 .f32) shapeCasts_S1024_S1x1024 i) (shapeCast S1x1024 (m ((c : Thread nD τ).loc main_arg2) : FVec Ideal S1024 .f32) shapeCasts_S1024_S1x1024 i) : Buf (Elt Ideal) ((c : Thread nD τ).loc main_v4_1)) := by
  refine (read5 m c).trans ?_
  simp only [host1 m c, host2 m c]

/-- The new second moment for final_g after the run, from the arrays the kernel reads. -/
theorem read6 (c : Dev nD) : (dats m 0 c).arrAt 6 cfg0.N =
    (fun i => vNew (V m c main_v1 i) (V m c main_v3 i) : Buf (Elt Ideal) ((c : Thread nD τ).loc main_v4_2)) := by
  refine (dats m 0 c).arrAt_eq_of_covers 6 _ (by decide +kernel) fun t hf y => ?_
  blk_simp
  rw [after0_6]
  frame_out
  refine (pay6 _ _ _).trans ?_
  blk_ext! [iblk, idx t]

/-- The new second moment for final_g after the run. -/
theorem final6 (c : Dev nD) : (dats m 0 c).arrAt 6 cfg0.N =
    (fun i => vNew (shapeCast S1x1024 (m ((c : Thread nD τ).loc main_arg1) : FVec Ideal S1024 .f32) shapeCasts_S1024_S1x1024 i) (shapeCast S1x1024 (m ((c : Thread nD τ).loc main_arg3) : FVec Ideal S1024 .f32) shapeCasts_S1024_S1x1024 i) : Buf (Elt Ideal) ((c : Thread nD τ).loc main_v4_2)) := by
  refine (read6 m c).trans ?_
  simp only [host1 m c, host3 m c]

end Cert.AdamSmallEIdeal.Block
end
-- ==== Proof.AdamSmallEClaim.lean ====
module

public import proofs.«01_k».proof.Defs
public import proofs.«01_k».proof.Proof.AdamSmallEBlock
public import proofs.«01_k».proof.Proof.Gen.AdamSmallERefIdeal.Read
public import proofs.«01_k».proof.Proof.Gen.AdamSmallERefIdeal.Run
public import Idealize.ShloMosaic.Lib.Claim

/-! The optimiser's kernel for final_g and the reference agree. -/

@[expose] public section

noncomputable section

namespace Cert.Proof.AdamSmallE

open Idealize.ShloMosaic Idealize.ShloMosaic.TcCoe Idealize.SL.Sem

/-- The moments and the changes of the weights that the kernel leaves are those that the reference leaves. -/
theorem algebraic : Cert.algebraic_AdamSmallEIdeal_AdamSmallERefIdeal := by
  pair_intro
  · run_from Cert.AdamSmallEIdeal.Value.run_blocks m g
  · run_from Cert.AdamSmallERefIdeal.Value.run m' g'
    · rw [Cert.AdamSmallEIdeal.Block.final4 m c]
      rfl
    · rw [Cert.AdamSmallEIdeal.Block.final5 m c]
      rfl
    · rw [Cert.AdamSmallEIdeal.Block.final6 m c]
      rfl

/-- The reference runs and leaves its arguments unchanged. -/
theorem frame_ref : Cert.quiescent_AdamSmallERefIdeal := fun m ρ _ =>
  (θ_run Cert.AdamSmallERefIdeal.defs _ _).mono (fun r h => ⟨fun c => (h c).2.2.2, sem_eq_zero_of_no_sems (by decide) r.2⟩)
    (Cert.AdamSmallERefIdeal.Value.run (F := Ideal) m ρ)

end Cert.Proof.AdamSmallE
end
-- ==== Proof.MixerFwdBlock.lean ====
module

public import proofs.«01_k».proof.Proof.Gen.MixerFwdIdeal.Value
public import Idealize.ShloMosaic.Lib.Pointwise
public import Idealize.ShloMosaic.Lib.Pipeline.ValueKit
public import Idealize.ShloMosaic.Lib.Pipeline.ReadBack
public import proofs.«01_k».proof.Proof.Scalar

/-! What one block of the kernel for the mixer's forward pass writes as the convolution's result, and what that
    result array holds. -/

@[expose] public section

set_option maxRecDepth 16384

noncomputable section

namespace Cert.MixerFwdIdeal.Block

open Idealize.ShloMosaic Idealize.ShloMosaic.TcCoe Cert.MixerFwdIdeal Cert.MixerFwdIdeal.Gen Cert.MixerFwdIdeal.Value

/-- The gated unit: one factor times the logistic function of the other, as the kernel writes it. -/
def glu (a g : EReal) : EReal := a * Cert.Scalar.sigm g

/-- The kernel's logistic function is the host's, at every extended real. -/
theorem sigm_host (x : EReal) : Cert.Scalar.sigm x = Ideal.div 1 (1 + Ideal.exp (-x)) := by
  induction x with
  | coe r => rw [Cert.Scalar.sigm_coe, Cert.Scalar.sigmoid_host]
  | top =>
    have h : (0 : EReal) < ((1 / 2 : ℝ) : EReal) := by exact_mod_cast (by norm_num : (0 : ℝ) < 1 / 2)
    unfold Cert.Scalar.sigm Cert.Scalar.half
    rw [Cert.Scalar.half_f32, EReal.mul_top_of_pos h]
    show ((1 / 2 : ℝ) : EReal) * 1 + ((1 / 2 : ℝ) : EReal) = Ideal.div 1 (1 + Ideal.exp (-⊤))
    rw [EReal.neg_top]
    show ((1 / 2 : ℝ) : EReal) * 1 + ((1 / 2 : ℝ) : EReal) = Ideal.div 1 (1 + 0)
    rw [mul_one, add_zero, ← EReal.coe_add]
    unfold Ideal.div
    norm_num
  | bot =>
    have h : (0 : EReal) < ((1 / 2 : ℝ) : EReal) := by exact_mod_cast (by norm_num : (0 : ℝ) < 1 / 2)
    unfold Cert.Scalar.sigm Cert.Scalar.half
    rw [Cert.Scalar.half_f32, EReal.mul_bot_of_pos h]
    show ((1 / 2 : ℝ) : EReal) * (-1) + ((1 / 2 : ℝ) : EReal) = Ideal.div 1 (1 + Ideal.exp (-⊥))
    rw [EReal.neg_bot]
    show ((1 / 2 : ℝ) : EReal) * (-1) + ((1 / 2 : ℝ) : EReal) = Ideal.div 1 (1 + ⊤)
    rw [show (-1 : EReal) = ((-1 : ℝ) : EReal) from rfl, ← EReal.coe_mul, ← EReal.coe_add,
      show (1 : EReal) + ⊤ = ⊤ from EReal.coe_add_top 1]
    unfold Ideal.div
    norm_num

/-- Whether a block is a sequence's first, as the kernel asks. -/
theorem first : ∀ k : Fin 4, Scalar.cmpi .sgt (BitVec.ofNat 32 k.val) 0#32 = if 0 < k.val then 1#1 else 0#1 := by decide

/-- The rows the convolution reads, 32 rows of the block before and the block's own 512: the gated units, the rows
    before a sequence's first being zero. -/
def row (i : grid0.Coords) (A B : Vec Ideal S512x384 .bf16) (C D : Vec Ideal S32x384 .bf16) (n : ℕ) (c : Fin 384) : EReal :=
  if h : n < 32 then (if 0 < (i 1).val then glu (C (ix2 ⟨n, h⟩ c)) (D (ix2 ⟨n, h⟩ c)) else 0)
  else if h : n - 32 < 512 then glu (A (ix2 ⟨n - 32, h⟩ c)) (B (ix2 ⟨n - 32, h⟩ c)) else 0

/-- The 32 rows before the block, as stored. -/
theorem pay1_apply (i : grid0.Coords) (C D : Vec Ideal S32x384 .bf16) (r : Fin 32) (c : Fin 384) :
    k0_pay1 (F := Ideal) i C D (ix3 0 r c) = if 0 < (i 1).val then glu (C (ix2 r c)) (D (ix2 r c)) else 0 := by
  have h := first (i 1)
  unfold k0_pay1
  rw [h]
  by_cases p : 0 < (i 1).val
  · rw [if_pos p, if_pos p]
    pointwise []
    rfl
  · rw [if_neg p, if_neg p]
    pointwise []

/-- The block's own rows, as stored. -/
theorem pay2_apply (A B : Vec Ideal S512x384 .bf16) (r : Fin 512) (c : Fin 384) :
    k0_pay2 (F := Ideal) A B (ix3 0 r c) = glu (A (ix2 r c)) (B (ix2 r c)) := by
  pointwise [k0_pay2]
  rfl

/-- The two stores of rows, read at an index. -/
theorem canon_base (i : grid0.Coords) (A B : Vec Ideal S512x384 .bf16) (C D : Vec Ideal S32x384 .bf16) (y : S8x544x384.Idx) (h0 : (y 0).val = 0)
    (inb1 : ∀ a, (![0, 32, 0] : Fin 3 → ℕ) a + (![1, 512, 384] : Fin 3 → ℕ) a ≤ S8x544x384.size a)
    (inb0 : ∀ a, (![0, 0, 0] : Fin 3 → ℕ) a + (![1, 32, 384] : Fin 3 → ℕ) a ≤ S8x544x384.size a) :
    View.canon (Val := Elt Ideal) (s := S8x544x384) (e := .f32)
      [⟨Rect.unit ![0, 32, 0] ![1, 512, 384] inb1, k0_pay2 (F := Ideal) A B⟩,
        ⟨Rect.unit ![0, 0, 0] ![1, 32, 384] inb0, k0_pay1 (F := Ideal) i C D⟩] y = row i A B C D (y 1).val (y 2) := by
  have h1 : (y 1).val < 544 := (y 1).isLt
  unfold row
  by_cases p : (y 1).val < 32
  · rw [dif_pos p, View.canon_cons_of_not_mem]
    · have e : y = (Rect.unit (s := S8x544x384) ![0, 0, 0] ![1, 32, 384] inb0).emb (ix3 (0 : Fin 1) ⟨(y 1).val, p⟩ (y 2)) :=
        funext fun a => Fin.ext (match a with
          | ⟨0, _⟩ => by show (y 0).val = 0 + 1 * 0; omega
          | ⟨1, _⟩ => by show (y 1).val = 0 + 1 * (y 1).val; omega
          | ⟨2, _⟩ => by show (y 2).val = 0 + 1 * (y 2).val; omega)
      refine (congrArg _ e).trans ?_
      refine (View.canon_cons_emb _ _ _ _).trans ?_
      exact pay1_apply i C D ⟨(y 1).val, p⟩ (y 2)
    · intro hm
      obtain ⟨x, hx⟩ := (Rect.unit (s := S8x544x384) ![0, 32, 0] ![1, 512, 384] inb1).exists_idx_of_mem hm
      have e : 32 + 1 * (x 1).val = (y 1).val := congrArg (fun z : S8x544x384.Idx => (z 1).val) hx
      omega
  · have q : (y 1).val - 32 < 512 := by omega
    rw [dif_neg p, dif_pos q]
    have e : y = (Rect.unit (s := S8x544x384) ![0, 32, 0] ![1, 512, 384] inb1).emb (ix3 (0 : Fin 1) ⟨(y 1).val - 32, q⟩ (y 2)) :=
      funext fun a => Fin.ext (match a with
        | ⟨0, _⟩ => by show (y 0).val = 0 + 1 * 0; omega
        | ⟨1, _⟩ => by show (y 1).val = 32 + 1 * ((y 1).val - 32); omega
        | ⟨2, _⟩ => by show (y 2).val = 0 + 1 * (y 2).val; omega)
    refine (congrArg _ e).trans ?_
    refine (View.canon_cons_emb _ _ _ _).trans ?_
    exact pay2_apply A B ⟨(y 1).val - 32, q⟩ (y 2)

/-- Rows read back from the two stores. -/
theorem base (v : View sig .tc .vmem S8x544x384 .f32) (i : grid0.Coords) (A B : Vec Ideal S512x384 .bf16) (C D : Vec Ideal S32x384 .bf16) (p n : ℕ)
    (inb1 : ∀ a, (![0, 32, 0] : Fin 3 → ℕ) a + (![1, 512, 384] : Fin 3 → ℕ) a ≤ S8x544x384.size a)
    (inb0 : ∀ a, (![0, 0, 0] : Fin 3 → ℕ) a + (![1, 32, 384] : Fin 3 → ℕ) a ≤ S8x544x384.size a)
    (inb : ∀ a, (![0, p, 0] : Fin 3 → ℕ) a + (![1, n, 384] : Fin 3 → ℕ) a ≤ S8x544x384.size a) :
    v.readCov (Val := Elt Ideal) [⟨Rect.unit ![0, 32, 0] ![1, 512, 384] inb1, k0_pay2 (F := Ideal) A B⟩,
        ⟨Rect.unit ![0, 0, 0] ![1, 32, 384] inb0, k0_pay1 (F := Ideal) i C D⟩] (Rect.unit (s := S8x544x384) ![0, p, 0] ![1, n, 384] inb).toLoadRect
      = fun j => row i A B C D (p + (j 1).val) (j 2) := by
  rw [View.readCov_eq_canon']
  funext j
  have h0 : (j 0).val < 1 := (j 0).isLt
  rw [canon_base i A B C D _ (by show 0 + 1 * (j 0).val = 0; omega)]
  have e1 : p + 1 * (j 1).val = p + (j 1).val := by omega
  exact congrArg₂ (row i A B C D) e1 (Fin.ext (by show 0 + 1 * (j 2).val = (j 2).val; omega))

/-- Rows read back from a shifted copy just stored. -/
theorem shifted (v : View sig .tc .vmem S8x544x384 .f32) (q o : ℕ) (f : S1x536x384.Idx → EReal) (L : List (View.Piece (Elt Ideal) S8x544x384 .f32))
    (inb1 : ∀ a, (![q, 0, 0] : Fin 3 → ℕ) a + (![1, 536, 384] : Fin 3 → ℕ) a ≤ S8x544x384.size a)
    (inb : ∀ a, (![q, o, 0] : Fin 3 → ℕ) a + (![1, 512, 384] : Fin 3 → ℕ) a ≤ S8x544x384.size a) (h : o ≤ 24) :
    v.readCov (Val := Elt Ideal) (⟨Rect.unit ![q, 0, 0] ![1, 536, 384] inb1, f⟩ :: L) (Rect.unit (s := S8x544x384) ![q, o, 0] ![1, 512, 384] inb).toLoadRect
      = fun j => f (ix3 (0 : Fin 1) ⟨o + (j 1).val, by have : (j 1).val < 512 := (j 1).isLt; omega⟩ (j 2)) := by
  rw [View.readCov_eq_canon']
  funext j
  have h0 : (j 0).val < 1 := (j 0).isLt
  have h1 : (j 1).val < 512 := (j 1).isLt
  have e : (Rect.unit (s := S8x544x384) ![q, o, 0] ![1, 512, 384] inb).toLoadRect.idx j
      = (Rect.unit (s := S8x544x384) ![q, 0, 0] ![1, 536, 384] inb1).emb (ix3 (0 : Fin 1) ⟨o + (j 1).val, by omega⟩ (j 2)) :=
    funext fun a => Fin.ext (match a with
      | ⟨0, _⟩ => by show q + 1 * (j 0).val = q + 1 * 0; omega
      | ⟨1, _⟩ => by show o + 1 * (j 1).val = 0 + 1 * (o + (j 1).val); omega
      | ⟨2, _⟩ => by show 0 + 1 * (j 2).val = 0 + 1 * (j 2).val; rfl)
  refine (congrArg _ e).trans ?_
  exact View.canon_cons_emb _ _ _ _

/-- A shifted copy is stored as it was read. -/
theorem pay3_id (f : Vec Ideal S1x536x384 .f32) : k0_pay3 (F := Ideal) f = f := by
  funext j
  rw [eq_ix3 j]
  pointwise [k0_pay3]

/-- A shifted copy is stored as it was read. -/
theorem pay4_id (f : Vec Ideal S1x536x384 .f32) : k0_pay4 (F := Ideal) f = f := by
  funext j
  rw [eq_ix3 j]
  pointwise [k0_pay4]

/-- A shifted copy is stored as it was read. -/
theorem pay5_id (f : Vec Ideal S1x536x384 .f32) : k0_pay5 (F := Ideal) f = f := by
  funext j
  rw [eq_ix3 j]
  pointwise [k0_pay5]

/-- A shifted copy is stored as it was read. -/
theorem pay6_id (f : Vec Ideal S1x536x384 .f32) : k0_pay6 (F := Ideal) f = f := by
  funext j
  rw [eq_ix3 j]
  pointwise [k0_pay6]

/-- A shifted copy is stored as it was read. -/
theorem pay7_id (f : Vec Ideal S1x536x384 .f32) : k0_pay7 (F := Ideal) f = f := by
  funext j
  rw [eq_ix3 j]
  pointwise [k0_pay7]

/-- A shifted copy is stored as it was read. -/
theorem pay8_id (f : Vec Ideal S1x536x384 .f32) : k0_pay8 (F := Ideal) f = f := by
  funext j
  rw [eq_ix3 j]
  pointwise [k0_pay8]

/-- A shifted copy is stored as it was read. -/
theorem pay9_id (f : Vec Ideal S1x536x384 .f32) : k0_pay9 (F := Ideal) f = f := by
  funext j
  rw [eq_ix3 j]
  pointwise [k0_pay9]

/-- The taps' weights, by number. -/
def tap (w : (⟨3, ![1, 32, 384]⟩ : Shape).Idx → EReal) (k : ℕ) (c : Fin 384) : EReal := if h : k < 32 then w (ix3 0 ⟨k, h⟩ c) else 0

/-- One tap's weights, as loaded. -/
theorem ld_w (x2 : Vec Ideal S1x32x384 .f32) (k : ℕ) (hk : k < 32)
    (inb : ∀ a, (![0, k, 0] : Fin 3 → ℕ) a + (![1, 1, 384] : Fin 3 → ℕ) a ≤ S1x32x384.size a) :
    View.ld x2 (Rect.unit ![0, k, 0] ![1, 1, 384] inb) = fun j => tap x2 k (j 2) := by
  funext j
  show _ = tap x2 k (j 2)
  unfold tap
  rw [dif_pos hk]
  exact congrArg x2 (funext fun a => Fin.ext (match a with
    | ⟨0, _⟩ => by have h0 : (j 0).val < 1 := (j 0).isLt; show 0 + 1 * (j 0).val = 0; omega
    | ⟨1, _⟩ => by have h0 : (j 1).val < 1 := (j 1).isLt; show k + 1 * (j 1).val = k; omega
    | ⟨2, _⟩ => by show 0 + 1 * (j 2).val = (j 2).val; omega))

/-- One element of one block of the convolution's result. -/
def blockConv (i : grid0.Coords) (x0 : Vec Ideal S512x1792 .bf16) (x1 : Vec Ideal S32x1792 .bf16) (x2 : Vec Ideal S1x32x384 .f32) (x3 : Vec Ideal S1x1x384 .f32)
    (r : ℕ) (l : Fin 384) : EReal :=
  x3 (ix3 0 0 l) + ∑ k ∈ Finset.range 31, tap x2 k l
      * row i (View.ld x0 (Rect.unit ![0, 0] ![512, 384] inb_S512x1792_S512x384_0_0)) (View.ld x0 (Rect.unit ![0, 384] ![512, 384] inb_S512x1792_S512x384_0_384))
        (View.ld x1 (Rect.unit ![0, 0] ![32, 384] inb_S32x1792_S32x384_0_0)) (View.ld x1 (Rect.unit ![0, 384] ![32, 384] inb_S32x1792_S32x384_0_384)) (2 + k + r) l

/-- One block of the convolution's result from the blocks of the operands. -/
theorem out_apply  (c : Dev nD) (i : grid0.Coords) (arg2 : Memref sig .tc .vmem S512x1792 .bf16) (harg2 : arg2.IsWhole) (arg3 : Memref sig .tc .vmem S32x1792 .bf16) (harg3 : arg3.IsWhole) (arg4 : Memref sig .tc .vmem S1x32x384 .f32) (harg4 : arg4.IsWhole) (arg5 : Memref sig .tc .vmem S1x1x384 .f32) (harg5 : arg5.IsWhole) (arg6 : Memref sig .tc .vmem S1x1x384 .f32) (harg6 : arg6.IsWhole) (arg7 : Memref sig .tc .vmem S1x1x384 .f32) (harg7 : arg7.IsWhole) (arg8 : Memref sig .tc .vmem S1x384x384 .bf16) (harg8 : arg8.IsWhole) (arg9 : Memref sig .tc .vmem S1x1x384 .f32) (harg9 : arg9.IsWhole) (arg10 : Memref sig .tc .vmem S1x1x384 .f32) (harg10 : arg10.IsWhole) (arg11 : Memref sig .tc .vmem S1x512x128 .bf16) (harg11 : arg11.IsWhole) (arg12 : Memref sig .tc .vmem S1x128x384 .f32) (harg12 : arg12.IsWhole) (arg13 : Memref sig .tc .vmem S1x256x256 .bf16) (harg13 : arg13.IsWhole) (arg14 : Memref sig .tc .vmem S1x1x256 .f32) (harg14 : arg14.IsWhole) (arg15 : Memref sig .tc .vmem S512x1024 .bf16) (harg15 : arg15.IsWhole) (arg16 : Memref sig .tc .vmem S512x384 .f32) (harg16 : arg16.IsWhole) (arg17 : Memref sig .tc .vmem S8x544x384 .f32) (harg17 : arg17.IsWhole) (arg18 : Memref sig .tc .vmem S544x256 .f32) (harg18 : arg18.IsWhole) (arg19 : Memref sig .tc .vmem S544x256 .f32) (harg19 : arg19.IsWhole) (arg20 : Memref sig .tc .vmem S544x256 .f32) (harg20 : arg20.IsWhole) (arg21 : Memref sig .tc .vmem S544x256 .f32) (harg21 : arg21.IsWhole)
    (x0 : Vec Ideal S512x1792 .bf16) (x1 : Vec Ideal S32x1792 .bf16) (x2 : Vec Ideal S1x32x384 .f32) (x3 : Vec Ideal S1x1x384 .f32) (x4 : Vec Ideal S1x1x384 .f32) (x5 : Vec Ideal S1x1x384 .f32) (x6 : Vec Ideal S1x384x384 .bf16) (x7 : Vec Ideal S1x1x384 .f32) (x8 : Vec Ideal S1x1x384 .f32) (x9 : Vec Ideal S1x512x128 .bf16) (x10 : Vec Ideal S1x128x384 .f32) (x11 : Vec Ideal S1x256x256 .bf16) (x12 : Vec Ideal S1x1x256 .f32)  (r : Fin 512) (l : Fin 384) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix2 r l) = blockConv i x0 x1 x2 x3 r.val l := by
  unfold blockConv
  frame_open
  simp (disch := decide) only [↓ View.readCov_skip, base, pay3_id, pay4_id, pay5_id, pay6_id, pay7_id, pay8_id, pay9_id, shifted]
  frame_out
  generalize row i (View.ld x0 (Rect.unit ![0, 0] ![512, 384] inb_S512x1792_S512x384_0_0)) (View.ld x0 (Rect.unit ![0, 384] ![512, 384] inb_S512x1792_S512x384_0_384))
        (View.ld x1 (Rect.unit ![0, 0] ![32, 384] inb_S32x1792_S32x384_0_0)) (View.ld x1 (Rect.unit ![0, 384] ![32, 384] inb_S32x1792_S32x384_0_384)) = T
  simp (disch := decide) only [ld_w]
  generalize tap x2 = W
  pointwise [k0_pay23, k0_pay22, k0_pay21, k0_pay20, k0_pay19, k0_pay18, k0_pay17, k0_pay16, k0_pay15, k0_pay14, k0_pay13, k0_pay12, k0_pay11, k0_pay10]
  simp only [Finset.sum_range_succ, Finset.sum_range_zero, ← Nat.add_assoc, Nat.reduceAdd]
  simp only [zero_add, add_assoc]
variable (m : (ℓ : Loc nD τ sig) → Buf (Elt Ideal) ℓ)

/-- The gated unit one tap reads: `k` rows on from the thirtieth row before, zero before the sequence's first row. -/
def H (z : (⟨2, ![4096, 1792]⟩ : Shape).Idx → EReal) (n k : ℕ) (c : Fin 384) : EReal :=
  if n % 2048 + k < 30 then 0
  else if h : n + k - 30 < 4096 then glu (z (ix2 ⟨n + k - 30, h⟩ ⟨c.val, by omega⟩)) (z (ix2 ⟨n + k - 30, h⟩ ⟨384 + c.val, by omega⟩)) else 0

/-- The first layer's weights of the taps, by number. -/
def tap2 (w : (⟨3, ![2, 32, 384]⟩ : Shape).Idx → EReal) (k : ℕ) (c : Fin 384) : EReal := if h : k < 32 then w (ix3 0 ⟨k, h⟩ c) else 0

/-- One element of the convolution of the gated units along each sequence. -/
def conv (z : (⟨2, ![4096, 1792]⟩ : Shape).Idx → EReal) (w : (⟨3, ![2, 32, 384]⟩ : Shape).Idx → EReal) (b : (⟨3, ![2, 1, 384]⟩ : Shape).Idx → EReal)
    (n : ℕ) (c : Fin 384) : EReal := b (ix3 0 0 c) + ∑ k ∈ Finset.range 31, tap2 w k c * H z n k c

/-- What the result array is shown to hold. -/
def G (c : Dev nD) : Buf (Elt Ideal) ((c : Thread nD τ).loc main_v0_1) := fun i =>
  conv (m ((c : Thread nD τ).loc main_arg0)) (m ((c : Thread nD τ).loc main_arg1)) (m ((c : Thread nD τ).loc main_arg2)) (i 0).val (i 1)

/-- Each window's block index at each grid point. -/
theorem idx : ∀ t : Fin cfg0.N, win0_0.index t = ![t.val, 0] ∧ win0_1.index t = ![16 * t.val - 1, 0] ∧ win0_2.index t = ![0, 0, 0]
    ∧ win0_3.index t = ![0, 0, 0] ∧ win0_14.index t = ![t.val, 0] ∧ (grid0.coords t 1).val = t.val % 4 :=
  (by decide +kernel : ∀ t : Fin grid0.N, _)

/-- The block's own rows at a point, read off the array. -/
theorem blkCur (c : Dev nD) (t : Fin cfg0.N) (r : Fin 512) (k : Fin 1792) (h : 512 * t.val + r.val < 4096) :
    iblk m c 0 t (ix2 r k) = m ((c : Thread nD τ).loc main_arg0) (ix2 ⟨512 * t.val + r.val, h⟩ k) := by
  have i0 := idx t
  rw [← V_main_arg0 m c]
  blk_ext! [iblk, i0]

/-- The rows before the block at a point, read off the array. -/
theorem blkPrev (c : Dev nD) (t : Fin cfg0.N) (r : Fin 32) (k : Fin 1792) (h0 : 0 < t.val) (h : 512 * t.val - 32 + r.val < 4096) :
    iblk m c 1 t (ix2 r k) = m ((c : Thread nD τ).loc main_arg0) (ix2 ⟨512 * t.val - 32 + r.val, h⟩ k) := by
  have i0 := idx t
  rw [← V_main_arg0 m c]
  blk_ext! [iblk, i0]

/-- The taps' weights at a point. -/
theorem blkW (c : Dev nD) (t : Fin cfg0.N) (r : Fin 32) (k : Fin 384) :
    iblk m c 2 t (ix3 0 r k) = m ((c : Thread nD τ).loc main_arg1) (ix3 0 r k) := by
  have i0 := idx t
  rw [← V_main_arg1 m c]
  blk_ext! [iblk, i0]

/-- One tap's weights at a point. -/
theorem tap_eq (c : Dev nD) (t : Fin cfg0.N) (k : ℕ) (hk : k < 32) (l : Fin 384) :
    tap (iblk m c 2 t) k l = tap2 (m ((c : Thread nD τ).loc main_arg1)) k l := by
  unfold tap tap2
  rw [dif_pos hk, dif_pos hk]
  exact blkW m c t ⟨k, hk⟩ l

/-- The bias at a point. -/
theorem blkB (c : Dev nD) (t : Fin cfg0.N) (k : Fin 384) :
    iblk m c 3 t (ix3 0 0 k) = m ((c : Thread nD τ).loc main_arg2) (ix3 0 0 k) := by
  have i0 := idx t
  rw [← V_main_arg2 m c]
  blk_ext! [iblk, i0]

/-- The first factor's columns of the block's rows, as loaded. -/
theorem ld_a (x : Vec Ideal S512x1792 .bf16) (r : Fin 512) (k : Fin 384) :
    View.ld x (Rect.unit ![0, 0] ![512, 384] inb_S512x1792_S512x384_0_0) (ix2 r k) = x (ix2 r ⟨k.val, by omega⟩) :=
  congrArg x (funext fun a => Fin.ext (match a with
    | ⟨0, _⟩ => by show 0 + 1 * r.val = r.val; omega
    | ⟨1, _⟩ => by show 0 + 1 * k.val = k.val; omega))

/-- The gate's columns of the block's rows, as loaded. -/
theorem ld_g (x : Vec Ideal S512x1792 .bf16) (r : Fin 512) (k : Fin 384) :
    View.ld x (Rect.unit ![0, 384] ![512, 384] inb_S512x1792_S512x384_0_384) (ix2 r k) = x (ix2 r ⟨384 + k.val, by omega⟩) :=
  congrArg x (funext fun a => Fin.ext (match a with
    | ⟨0, _⟩ => by show 0 + 1 * r.val = r.val; omega
    | ⟨1, _⟩ => by show 384 + 1 * k.val = 384 + k.val; omega))

/-- The first factor's columns of the rows before, as loaded. -/
theorem ld_pa (x : Vec Ideal S32x1792 .bf16) (r : Fin 32) (k : Fin 384) :
    View.ld x (Rect.unit ![0, 0] ![32, 384] inb_S32x1792_S32x384_0_0) (ix2 r k) = x (ix2 r ⟨k.val, by omega⟩) :=
  congrArg x (funext fun a => Fin.ext (match a with
    | ⟨0, _⟩ => by show 0 + 1 * r.val = r.val; omega
    | ⟨1, _⟩ => by show 0 + 1 * k.val = k.val; omega))

/-- The gate's columns of the rows before, as loaded. -/
theorem ld_pg (x : Vec Ideal S32x1792 .bf16) (r : Fin 32) (k : Fin 384) :
    View.ld x (Rect.unit ![0, 384] ![32, 384] inb_S32x1792_S32x384_0_384) (ix2 r k) = x (ix2 r ⟨384 + k.val, by omega⟩) :=
  congrArg x (funext fun a => Fin.ext (match a with
    | ⟨0, _⟩ => by show 0 + 1 * r.val = r.val; omega
    | ⟨1, _⟩ => by show 384 + 1 * k.val = 384 + k.val; omega))

/-- The row a tap reads at a point, read off the array. -/
theorem row_eq (c : Dev nD) (t : Fin cfg0.N) (r : Fin 512) (k : ℕ) (hk : k < 31) (l : Fin 384) :
    row (grid0.coords t) (View.ld (iblk m c 0 t) (Rect.unit ![0, 0] ![512, 384] inb_S512x1792_S512x384_0_0)) (View.ld (iblk m c 0 t) (Rect.unit ![0, 384] ![512, 384] inb_S512x1792_S512x384_0_384))
        (View.ld (iblk m c 1 t) (Rect.unit ![0, 0] ![32, 384] inb_S32x1792_S32x384_0_0)) (View.ld (iblk m c 1 t) (Rect.unit ![0, 384] ![32, 384] inb_S32x1792_S32x384_0_384)) (2 + k + r.val) l
      = H (m ((c : Thread nD τ).loc main_arg0)) (512 * t.val + r.val) k l := by
  have ht : t.val < 8 := t.isLt
  have hi : (grid0.coords t 1).val = t.val % 4 := (idx t).2.2.2.2.2
  unfold row H
  by_cases p : 2 + k + r.val < 32
  · rw [dif_pos p]
    by_cases q : 0 < (grid0.coords t 1).val
    · have e : 512 * t.val - 32 + (2 + k + r.val) = 512 * t.val + r.val + k - 30 := by omega
      have b : 512 * t.val + r.val + k - 30 < 4096 := by omega
      rw [if_pos q, if_neg (by omega), dif_pos b, ld_pa, ld_pg, blkPrev m c t _ _ (by omega) (by show 512 * t.val - 32 + (2 + k + r.val) < 4096; omega),
        blkPrev m c t _ _ (by omega) (by show 512 * t.val - 32 + (2 + k + r.val) < 4096; omega)]
      simp only [e]
    · rw [if_neg q, if_pos (by omega)]
  · have p' : 2 + k + r.val - 32 < 512 := by omega
    have e : 512 * t.val + (2 + k + r.val - 32) = 512 * t.val + r.val + k - 30 := by omega
    have b : 512 * t.val + r.val + k - 30 < 4096 := by omega
    rw [dif_neg p, dif_pos p', if_neg (by omega), dif_pos b, ld_a, ld_g, blkCur m c t _ _ (by show 512 * t.val + (2 + k + r.val - 32) < 4096; omega),
      blkCur m c t _ _ (by show 512 * t.val + (2 + k + r.val - 32) < 4096; omega)]
    simp only [e]

/-- One block of the result at a point, from the blocks there. -/
theorem out_at (c : Dev nD) (t : Fin cfg0.N) (j : S512x384.Idx) :
    (outsAt0 m c t).2 j = blockConv (grid0.coords t) (iblk m c 0 t) (iblk m c 1 t) (iblk m c 2 t) (iblk m c 3 t) (j 0).val (j 1) := by
  obtain ⟨r, l, rfl⟩ : ∃ (r : Fin 512) (l : Fin 384), j = ix2 r l := ⟨_, _, eq_ix2 j⟩
  unfold outsAt0
  dsimp only
  exact out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l

/-- The result array after the run. -/
theorem final (c : Dev nD) : (dats m 0 c).arrAt 14 cfg0.N = G m c := by
  refine (dats m 0 c).arrAt_eq_of_covers 14 _ (by decide +kernel) fun t hf y => ?_
  blk_simp
  rw [after0_14]
  have e0 : ((win0_14.blk t).view.emb y 0).val = 512 * t.val + (y 0).val := by
    blk_simp [idx t]
    omega
  have e1 : ((win0_14.blk t).view.emb y 1 : Fin 384) = y 1 := Fin.ext (by blk_simp [idx t])
  refine (out_at m c t y).trans ?_
  unfold G conv blockConv
  rw [e0, e1]
  refine congrArg₂ (· + ·) (blkB m c t (y 1)) (Finset.sum_congr rfl fun k hk => ?_)
  have hk' : k < 31 := Finset.mem_range.mp hk
  exact congrArg₂ (· * ·) (tap_eq m c t k (by omega) (y 1)) (row_eq m c t (y 0) k hk' (y 1))

end Cert.MixerFwdIdeal.Block
end
-- ==== Proof.MixerFwdEq.lean ====
module

public import proofs.«01_k».proof.Proof.MixerFwdBlock
public import proofs.«01_k».proof.Proof.Gen.MixerFwdRefIdeal.Read
public import proofs.«01_k».proof.Proof.Gen.MixerFwdRefIdeal.Run
public import Idealize.ShloMosaic.Lib.KernelVsHost

/-! The reference's convolution, element by element. -/

@[expose] public section

set_option maxRecDepth 16384

noncomputable section

namespace Cert.MixerFwdRefIdeal.Value

open Idealize.ShloMosaic Idealize.ShloMosaic.TcCoe Idealize.SL.Sem Cert.MixerFwdRefIdeal Cert.MixerFwdRefIdeal.Gen Cert.MixerFwdRefIdeal.Read
open Cert.MixerFwdIdeal.Block (glu sigm_host H tap2 conv)

/-- The reference's gated units. -/
theorem glu_apply (x0 : Vec Ideal S4096x1792 .bf16) (s : Fin 2) (p : Fin 2048) (c : Fin 384) :
    val_main_v15 (F := Ideal) x0 (ix3 s p c)
      = glu (x0 (ix2 ⟨2048 * s.val + p.val, by omega⟩ ⟨c.val, by omega⟩)) (x0 (ix2 ⟨2048 * s.val + p.val, by omega⟩ ⟨384 + c.val, by omega⟩)) := by
  unfold glu
  rw [sigm_host]
  have hr : ∀ q : Fin 768, val_main_v2 (F := Ideal) x0 (ix3 s p q) = x0 (ix2 ⟨2048 * s.val + p.val, by omega⟩ ⟨q.val, by omega⟩) := fun q => by
    pointwise [val_main_v2, val_main_v1, val_main_v0]
    exact congrArg x0 (congrArg (fun t => ix2 t _) (Fin.ext (by show s.val * 2048 + p.val = 2048 * s.val + p.val; omega)))
  rw [← hr ⟨c.val, by omega⟩, ← hr ⟨384 + c.val, by omega⟩]
  clear hr
  unfold val_main_v15 val_main_v14 val_main_v12 val_main_v10 val_main_v9 val_main_v8 val_main_v7
  generalize val_main_v2 (F := Ideal) x0 = v
  pointwise [val_main_v13, val_main_v11, val_main_cst, val_main_cst_0]

/-- The gated units with thirty rows of zeros before each sequence, as the convolution reads them. -/
theorem pad_apply' (x0 : Vec Ideal S4096x1792 .bf16) (s : Fin 2) (p : Fin 2048) (c : Fin 384) (k : ℕ) (hk : k < 31) :
    val_main_v16 (F := Ideal) x0 (ix3 s ⟨p.val + k, by omega⟩ c) = H x0 (2048 * s.val + p.val) k c := by
  have hm : (2048 * s.val + p.val) % 2048 = p.val := by omega
  unfold H
  rw [hm]
  by_cases h : p.val + k < 30
  · rw [if_pos h]
    refine (pad_apply_of_not_inside _ _ _ (val_main_v15 (F := Ideal) x0) _ _ _ _ (1 : Fin 3) fun hn => ?_).trans ?_
    · exact absurd (show 30 ≤ p.val + k from hn.1) (by omega)
    · unfold val_main_call0_v0
      pointwise [val_main_c]
      show (((0#32 : BitVec 32).toInt : ℝ) : EReal) = 0
      simp
  · rw [if_neg h, dif_pos (show 2048 * s.val + p.val + k - 30 < 4096 by omega)]
    refine (pad_apply_of_inside _ _ _ (val_main_v15 (F := Ideal) x0) _ _ _ _ (ix3 s ⟨p.val + k - 30, by omega⟩ c) fun a => ?_).trans ?_
    · fin_cases a
      · show s.val = 0 + s.val * 1
        omega
      · show p.val + k = 30 + (p.val + k - 30) * 1
        omega
      · show c.val = 0 + c.val * 1
        omega
    · rw [glu_apply]
      have e : 2048 * s.val + (p.val + k - 30) = 2048 * s.val + p.val + k - 30 := by omega
      simp only [e]

/-- Tap 0 of the convolution. -/
theorem prod_0 (x0 : Vec Ideal S4096x1792 .bf16) (x1 : Vec Ideal S2x32x384 .f32) (s : Fin 2) (p : Fin 2048) (c : Fin 384) :
    val_main_v22 (F := Ideal) x0 x1 (ix3 s p c) = tap2 x1 0 c * H x0 (2048 * s.val + p.val) 0 c := by
  rw [← pad_apply' x0 s p c 0 (by norm_num)]
  generalize hv : val_main_v16 (F := Ideal) x0 = v
  unfold val_main_v22 val_main_v19
  rw [hv]
  pointwise [val_main_v21, val_main_v20, val_main_v18, val_main_v17, val_main_v4, val_main_v3]
  exact congrArg₂ (· * ·) rfl (congrArg v (congrArg (fun q => ix3 s q c) (Fin.ext rfl)))

/-- The first 1 taps of the convolution. -/
theorem sum_0 (x0 : Vec Ideal S4096x1792 .bf16) (x1 : Vec Ideal S2x32x384 .f32) (s : Fin 2) (p : Fin 2048) (c : Fin 384) :
    val_main_v24 (F := Ideal) x0 x1 (ix3 s p c) = ∑ k ∈ Finset.range 1, tap2 x1 k c * H x0 (2048 * s.val + p.val) k c := by
  have h0 : val_main_v23 (F := Ideal) (ix3 s p c) = 0 := by
    pointwise [val_main_v23, val_main_cst_1]
  have h1 : val_main_v24 (F := Ideal) x0 x1 (ix3 s p c) = val_main_v23 (F := Ideal) (ix3 s p c) + val_main_v22 (F := Ideal) x0 x1 (ix3 s p c) := rfl
  rw [h1, h0, prod_0, Finset.sum_range_one, zero_add]

/-- Tap 1 of the convolution. -/
theorem prod_1 (x0 : Vec Ideal S4096x1792 .bf16) (x1 : Vec Ideal S2x32x384 .f32) (s : Fin 2) (p : Fin 2048) (c : Fin 384) :
    val_main_v30 (F := Ideal) x0 x1 (ix3 s p c) = tap2 x1 1 c * H x0 (2048 * s.val + p.val) 1 c := by
  rw [← pad_apply' x0 s p c 1 (by norm_num)]
  generalize hv : val_main_v16 (F := Ideal) x0 = v
  unfold val_main_v30 val_main_v27
  rw [hv]
  pointwise [val_main_v29, val_main_v28, val_main_v26, val_main_v25, val_main_v4, val_main_v3]
  exact congrArg₂ (· * ·) rfl (congrArg v (congrArg (fun q => ix3 s q c) (Fin.ext (Nat.add_comm _ _))))

/-- The first 2 taps of the convolution. -/
theorem sum_1 (x0 : Vec Ideal S4096x1792 .bf16) (x1 : Vec Ideal S2x32x384 .f32) (s : Fin 2) (p : Fin 2048) (c : Fin 384) :
    val_main_v31 (F := Ideal) x0 x1 (ix3 s p c) = ∑ k ∈ Finset.range 2, tap2 x1 k c * H x0 (2048 * s.val + p.val) k c :=
  (congrArg₂ (· + ·) (sum_0 x0 x1 s p c) (prod_1 x0 x1 s p c)).trans (Finset.sum_range_succ _ 1).symm

/-- Tap 2 of the convolution. -/
theorem prod_2 (x0 : Vec Ideal S4096x1792 .bf16) (x1 : Vec Ideal S2x32x384 .f32) (s : Fin 2) (p : Fin 2048) (c : Fin 384) :
    val_main_v37 (F := Ideal) x0 x1 (ix3 s p c) = tap2 x1 2 c * H x0 (2048 * s.val + p.val) 2 c := by
  rw [← pad_apply' x0 s p c 2 (by norm_num)]
  generalize hv : val_main_v16 (F := Ideal) x0 = v
  unfold val_main_v37 val_main_v34
  rw [hv]
  pointwise [val_main_v36, val_main_v35, val_main_v33, val_main_v32, val_main_v4, val_main_v3]
  exact congrArg₂ (· * ·) rfl (congrArg v (congrArg (fun q => ix3 s q c) (Fin.ext (Nat.add_comm _ _))))

/-- The first 3 taps of the convolution. -/
theorem sum_2 (x0 : Vec Ideal S4096x1792 .bf16) (x1 : Vec Ideal S2x32x384 .f32) (s : Fin 2) (p : Fin 2048) (c : Fin 384) :
    val_main_v38 (F := Ideal) x0 x1 (ix3 s p c) = ∑ k ∈ Finset.range 3, tap2 x1 k c * H x0 (2048 * s.val + p.val) k c :=
  (congrArg₂ (· + ·) (sum_1 x0 x1 s p c) (prod_2 x0 x1 s p c)).trans (Finset.sum_range_succ _ 2).symm

/-- Tap 3 of the convolution. -/
theorem prod_3 (x0 : Vec Ideal S4096x1792 .bf16) (x1 : Vec Ideal S2x32x384 .f32) (s : Fin 2) (p : Fin 2048) (c : Fin 384) :
    val_main_v44 (F := Ideal) x0 x1 (ix3 s p c) = tap2 x1 3 c * H x0 (2048 * s.val + p.val) 3 c := by
  rw [← pad_apply' x0 s p c 3 (by norm_num)]
  generalize hv : val_main_v16 (F := Ideal) x0 = v
  unfold val_main_v44 val_main_v41
  rw [hv]
  pointwise [val_main_v43, val_main_v42, val_main_v40, val_main_v39, val_main_v4, val_main_v3]
  exact congrArg₂ (· * ·) rfl (congrArg v (congrArg (fun q => ix3 s q c) (Fin.ext (Nat.add_comm _ _))))

/-- The first 4 taps of the convolution. -/
theorem sum_3 (x0 : Vec Ideal S4096x1792 .bf16) (x1 : Vec Ideal S2x32x384 .f32) (s : Fin 2) (p : Fin 2048) (c : Fin 384) :
    val_main_v45 (F := Ideal) x0 x1 (ix3 s p c) = ∑ k ∈ Finset.range 4, tap2 x1 k c * H x0 (2048 * s.val + p.val) k c :=
  (congrArg₂ (· + ·) (sum_2 x0 x1 s p c) (prod_3 x0 x1 s p c)).trans (Finset.sum_range_succ _ 3).symm

/-- Tap 4 of the convolution. -/
theorem prod_4 (x0 : Vec Ideal S4096x1792 .bf16) (x1 : Vec Ideal S2x32x384 .f32) (s : Fin 2) (p : Fin 2048) (c : Fin 384) :
    val_main_v51 (F := Ideal) x0 x1 (ix3 s p c) = tap2 x1 4 c * H x0 (2048 * s.val + p.val) 4 c := by
  rw [← pad_apply' x0 s p c 4 (by norm_num)]
  generalize hv : val_main_v16 (F := Ideal) x0 = v
  unfold val_main_v51 val_main_v48
  rw [hv]
  pointwise [val_main_v50, val_main_v49, val_main_v47, val_main_v46, val_main_v4, val_main_v3]
  exact congrArg₂ (· * ·) rfl (congrArg v (congrArg (fun q => ix3 s q c) (Fin.ext (Nat.add_comm _ _))))

/-- The first 5 taps of the convolution. -/
theorem sum_4 (x0 : Vec Ideal S4096x1792 .bf16) (x1 : Vec Ideal S2x32x384 .f32) (s : Fin 2) (p : Fin 2048) (c : Fin 384) :
    val_main_v52 (F := Ideal) x0 x1 (ix3 s p c) = ∑ k ∈ Finset.range 5, tap2 x1 k c * H x0 (2048 * s.val + p.val) k c :=
  (congrArg₂ (· + ·) (sum_3 x0 x1 s p c) (prod_4 x0 x1 s p c)).trans (Finset.sum_range_succ _ 4).symm

/-- Tap 5 of the convolution. -/
theorem prod_5 (x0 : Vec Ideal S4096x1792 .bf16) (x1 : Vec Ideal S2x32x384 .f32) (s : Fin 2) (p : Fin 2048) (c : Fin 384) :
    val_main_v58 (F := Ideal) x0 x1 (ix3 s p c) = tap2 x1 5 c * H x0 (2048 * s.val + p.val) 5 c := by
  rw [← pad_apply' x0 s p c 5 (by norm_num)]
  generalize hv : val_main_v16 (F := Ideal) x0 = v
  unfold val_main_v58 val_main_v55
  rw [hv]
  pointwise [val_main_v57, val_main_v56, val_main_v54, val_main_v53, val_main_v4, val_main_v3]
  exact congrArg₂ (· * ·) rfl (congrArg v (congrArg (fun q => ix3 s q c) (Fin.ext (Nat.add_comm _ _))))

/-- The first 6 taps of the convolution. -/
theorem sum_5 (x0 : Vec Ideal S4096x1792 .bf16) (x1 : Vec Ideal S2x32x384 .f32) (s : Fin 2) (p : Fin 2048) (c : Fin 384) :
    val_main_v59 (F := Ideal) x0 x1 (ix3 s p c) = ∑ k ∈ Finset.range 6, tap2 x1 k c * H x0 (2048 * s.val + p.val) k c :=
  (congrArg₂ (· + ·) (sum_4 x0 x1 s p c) (prod_5 x0 x1 s p c)).trans (Finset.sum_range_succ _ 5).symm

/-- Tap 6 of the convolution. -/
theorem prod_6 (x0 : Vec Ideal S4096x1792 .bf16) (x1 : Vec Ideal S2x32x384 .f32) (s : Fin 2) (p : Fin 2048) (c : Fin 384) :
    val_main_v65 (F := Ideal) x0 x1 (ix3 s p c) = tap2 x1 6 c * H x0 (2048 * s.val + p.val) 6 c := by
  rw [← pad_apply' x0 s p c 6 (by norm_num)]
  generalize hv : val_main_v16 (F := Ideal) x0 = v
  unfold val_main_v65 val_main_v62
  rw [hv]
  pointwise [val_main_v64, val_main_v63, val_main_v61, val_main_v60, val_main_v4, val_main_v3]
  exact congrArg₂ (· * ·) rfl (congrArg v (congrArg (fun q => ix3 s q c) (Fin.ext (Nat.add_comm _ _))))

/-- The first 7 taps of the convolution. -/
theorem sum_6 (x0 : Vec Ideal S4096x1792 .bf16) (x1 : Vec Ideal S2x32x384 .f32) (s : Fin 2) (p : Fin 2048) (c : Fin 384) :
    val_main_v66 (F := Ideal) x0 x1 (ix3 s p c) = ∑ k ∈ Finset.range 7, tap2 x1 k c * H x0 (2048 * s.val + p.val) k c :=
  (congrArg₂ (· + ·) (sum_5 x0 x1 s p c) (prod_6 x0 x1 s p c)).trans (Finset.sum_range_succ _ 6).symm

/-- Tap 7 of the convolution. -/
theorem prod_7 (x0 : Vec Ideal S4096x1792 .bf16) (x1 : Vec Ideal S2x32x384 .f32) (s : Fin 2) (p : Fin 2048) (c : Fin 384) :
    val_main_v72 (F := Ideal) x0 x1 (ix3 s p c) = tap2 x1 7 c * H x0 (2048 * s.val + p.val) 7 c := by
  rw [← pad_apply' x0 s p c 7 (by norm_num)]
  generalize hv : val_main_v16 (F := Ideal) x0 = v
  unfold val_main_v72 val_main_v69
  rw [hv]
  pointwise [val_main_v71, val_main_v70, val_main_v68, val_main_v67, val_main_v4, val_main_v3]
  exact congrArg₂ (· * ·) rfl (congrArg v (congrArg (fun q => ix3 s q c) (Fin.ext (Nat.add_comm _ _))))

/-- The first 8 taps of the convolution. -/
theorem sum_7 (x0 : Vec Ideal S4096x1792 .bf16) (x1 : Vec Ideal S2x32x384 .f32) (s : Fin 2) (p : Fin 2048) (c : Fin 384) :
    val_main_v73 (F := Ideal) x0 x1 (ix3 s p c) = ∑ k ∈ Finset.range 8, tap2 x1 k c * H x0 (2048 * s.val + p.val) k c :=
  (congrArg₂ (· + ·) (sum_6 x0 x1 s p c) (prod_7 x0 x1 s p c)).trans (Finset.sum_range_succ _ 7).symm

/-- Tap 8 of the convolution. -/
theorem prod_8 (x0 : Vec Ideal S4096x1792 .bf16) (x1 : Vec Ideal S2x32x384 .f32) (s : Fin 2) (p : Fin 2048) (c : Fin 384) :
    val_main_v79 (F := Ideal) x0 x1 (ix3 s p c) = tap2 x1 8 c * H x0 (2048 * s.val + p.val) 8 c := by
  rw [← pad_apply' x0 s p c 8 (by norm_num)]
  generalize hv : val_main_v16 (F := Ideal) x0 = v
  unfold val_main_v79 val_main_v76
  rw [hv]
  pointwise [val_main_v78, val_main_v77, val_main_v75, val_main_v74, val_main_v4, val_main_v3]
  exact congrArg₂ (· * ·) rfl (congrArg v (congrArg (fun q => ix3 s q c) (Fin.ext (Nat.add_comm _ _))))

/-- The first 9 taps of the convolution. -/
theorem sum_8 (x0 : Vec Ideal S4096x1792 .bf16) (x1 : Vec Ideal S2x32x384 .f32) (s : Fin 2) (p : Fin 2048) (c : Fin 384) :
    val_main_v80 (F := Ideal) x0 x1 (ix3 s p c) = ∑ k ∈ Finset.range 9, tap2 x1 k c * H x0 (2048 * s.val + p.val) k c :=
  (congrArg₂ (· + ·) (sum_7 x0 x1 s p c) (prod_8 x0 x1 s p c)).trans (Finset.sum_range_succ _ 8).symm

/-- Tap 9 of the convolution. -/
theorem prod_9 (x0 : Vec Ideal S4096x1792 .bf16) (x1 : Vec Ideal S2x32x384 .f32) (s : Fin 2) (p : Fin 2048) (c : Fin 384) :
    val_main_v86 (F := Ideal) x0 x1 (ix3 s p c) = tap2 x1 9 c * H x0 (2048 * s.val + p.val) 9 c := by
  rw [← pad_apply' x0 s p c 9 (by norm_num)]
  generalize hv : val_main_v16 (F := Ideal) x0 = v
  unfold val_main_v86 val_main_v83
  rw [hv]
  pointwise [val_main_v85, val_main_v84, val_main_v82, val_main_v81, val_main_v4, val_main_v3]
  exact congrArg₂ (· * ·) rfl (congrArg v (congrArg (fun q => ix3 s q c) (Fin.ext (Nat.add_comm _ _))))

/-- The first 10 taps of the convolution. -/
theorem sum_9 (x0 : Vec Ideal S4096x1792 .bf16) (x1 : Vec Ideal S2x32x384 .f32) (s : Fin 2) (p : Fin 2048) (c : Fin 384) :
    val_main_v87 (F := Ideal) x0 x1 (ix3 s p c) = ∑ k ∈ Finset.range 10, tap2 x1 k c * H x0 (2048 * s.val + p.val) k c :=
  (congrArg₂ (· + ·) (sum_8 x0 x1 s p c) (prod_9 x0 x1 s p c)).trans (Finset.sum_range_succ _ 9).symm

/-- Tap 10 of the convolution. -/
theorem prod_10 (x0 : Vec Ideal S4096x1792 .bf16) (x1 : Vec Ideal S2x32x384 .f32) (s : Fin 2) (p : Fin 2048) (c : Fin 384) :
    val_main_v93 (F := Ideal) x0 x1 (ix3 s p c) = tap2 x1 10 c * H x0 (2048 * s.val + p.val) 10 c := by
  rw [← pad_apply' x0 s p c 10 (by norm_num)]
  generalize hv : val_main_v16 (F := Ideal) x0 = v
  unfold val_main_v93 val_main_v90
  rw [hv]
  pointwise [val_main_v92, val_main_v91, val_main_v89, val_main_v88, val_main_v4, val_main_v3]
  exact congrArg₂ (· * ·) rfl (congrArg v (congrArg (fun q => ix3 s q c) (Fin.ext (Nat.add_comm _ _))))

/-- The first 11 taps of the convolution. -/
theorem sum_10 (x0 : Vec Ideal S4096x1792 .bf16) (x1 : Vec Ideal S2x32x384 .f32) (s : Fin 2) (p : Fin 2048) (c : Fin 384) :
    val_main_v94 (F := Ideal) x0 x1 (ix3 s p c) = ∑ k ∈ Finset.range 11, tap2 x1 k c * H x0 (2048 * s.val + p.val) k c :=
  (congrArg₂ (· + ·) (sum_9 x0 x1 s p c) (prod_10 x0 x1 s p c)).trans (Finset.sum_range_succ _ 10).symm

/-- Tap 11 of the convolution. -/
theorem prod_11 (x0 : Vec Ideal S4096x1792 .bf16) (x1 : Vec Ideal S2x32x384 .f32) (s : Fin 2) (p : Fin 2048) (c : Fin 384) :
    val_main_v100 (F := Ideal) x0 x1 (ix3 s p c) = tap2 x1 11 c * H x0 (2048 * s.val + p.val) 11 c := by
  rw [← pad_apply' x0 s p c 11 (by norm_num)]
  generalize hv : val_main_v16 (F := Ideal) x0 = v
  unfold val_main_v100 val_main_v97
  rw [hv]
  pointwise [val_main_v99, val_main_v98, val_main_v96, val_main_v95, val_main_v4, val_main_v3]
  exact congrArg₂ (· * ·) rfl (congrArg v (congrArg (fun q => ix3 s q c) (Fin.ext (Nat.add_comm _ _))))

/-- The first 12 taps of the convolution. -/
theorem sum_11 (x0 : Vec Ideal S4096x1792 .bf16) (x1 : Vec Ideal S2x32x384 .f32) (s : Fin 2) (p : Fin 2048) (c : Fin 384) :
    val_main_v101 (F := Ideal) x0 x1 (ix3 s p c) = ∑ k ∈ Finset.range 12, tap2 x1 k c * H x0 (2048 * s.val + p.val) k c :=
  (congrArg₂ (· + ·) (sum_10 x0 x1 s p c) (prod_11 x0 x1 s p c)).trans (Finset.sum_range_succ _ 11).symm

/-- Tap 12 of the convolution. -/
theorem prod_12 (x0 : Vec Ideal S4096x1792 .bf16) (x1 : Vec Ideal S2x32x384 .f32) (s : Fin 2) (p : Fin 2048) (c : Fin 384) :
    val_main_v107 (F := Ideal) x0 x1 (ix3 s p c) = tap2 x1 12 c * H x0 (2048 * s.val + p.val) 12 c := by
  rw [← pad_apply' x0 s p c 12 (by norm_num)]
  generalize hv : val_main_v16 (F := Ideal) x0 = v
  unfold val_main_v107 val_main_v104
  rw [hv]
  pointwise [val_main_v106, val_main_v105, val_main_v103, val_main_v102, val_main_v4, val_main_v3]
  exact congrArg₂ (· * ·) rfl (congrArg v (congrArg (fun q => ix3 s q c) (Fin.ext (Nat.add_comm _ _))))

/-- The first 13 taps of the convolution. -/
theorem sum_12 (x0 : Vec Ideal S4096x1792 .bf16) (x1 : Vec Ideal S2x32x384 .f32) (s : Fin 2) (p : Fin 2048) (c : Fin 384) :
    val_main_v108 (F := Ideal) x0 x1 (ix3 s p c) = ∑ k ∈ Finset.range 13, tap2 x1 k c * H x0 (2048 * s.val + p.val) k c :=
  (congrArg₂ (· + ·) (sum_11 x0 x1 s p c) (prod_12 x0 x1 s p c)).trans (Finset.sum_range_succ _ 12).symm

/-- Tap 13 of the convolution. -/
theorem prod_13 (x0 : Vec Ideal S4096x1792 .bf16) (x1 : Vec Ideal S2x32x384 .f32) (s : Fin 2) (p : Fin 2048) (c : Fin 384) :
    val_main_v114 (F := Ideal) x0 x1 (ix3 s p c) = tap2 x1 13 c * H x0 (2048 * s.val + p.val) 13 c := by
  rw [← pad_apply' x0 s p c 13 (by norm_num)]
  generalize hv : val_main_v16 (F := Ideal) x0 = v
  unfold val_main_v114 val_main_v111
  rw [hv]
  pointwise [val_main_v113, val_main_v112, val_main_v110, val_main_v109, val_main_v4, val_main_v3]
  exact congrArg₂ (· * ·) rfl (congrArg v (congrArg (fun q => ix3 s q c) (Fin.ext (Nat.add_comm _ _))))

/-- The first 14 taps of the convolution. -/
theorem sum_13 (x0 : Vec Ideal S4096x1792 .bf16) (x1 : Vec Ideal S2x32x384 .f32) (s : Fin 2) (p : Fin 2048) (c : Fin 384) :
    val_main_v115 (F := Ideal) x0 x1 (ix3 s p c) = ∑ k ∈ Finset.range 14, tap2 x1 k c * H x0 (2048 * s.val + p.val) k c :=
  (congrArg₂ (· + ·) (sum_12 x0 x1 s p c) (prod_13 x0 x1 s p c)).trans (Finset.sum_range_succ _ 13).symm

/-- Tap 14 of the convolution. -/
theorem prod_14 (x0 : Vec Ideal S4096x1792 .bf16) (x1 : Vec Ideal S2x32x384 .f32) (s : Fin 2) (p : Fin 2048) (c : Fin 384) :
    val_main_v121 (F := Ideal) x0 x1 (ix3 s p c) = tap2 x1 14 c * H x0 (2048 * s.val + p.val) 14 c := by
  rw [← pad_apply' x0 s p c 14 (by norm_num)]
  generalize hv : val_main_v16 (F := Ideal) x0 = v
  unfold val_main_v121 val_main_v118
  rw [hv]
  pointwise [val_main_v120, val_main_v119, val_main_v117, val_main_v116, val_main_v4, val_main_v3]
  exact congrArg₂ (· * ·) rfl (congrArg v (congrArg (fun q => ix3 s q c) (Fin.ext (Nat.add_comm _ _))))

/-- The first 15 taps of the convolution. -/
theorem sum_14 (x0 : Vec Ideal S4096x1792 .bf16) (x1 : Vec Ideal S2x32x384 .f32) (s : Fin 2) (p : Fin 2048) (c : Fin 384) :
    val_main_v122 (F := Ideal) x0 x1 (ix3 s p c) = ∑ k ∈ Finset.range 15, tap2 x1 k c * H x0 (2048 * s.val + p.val) k c :=
  (congrArg₂ (· + ·) (sum_13 x0 x1 s p c) (prod_14 x0 x1 s p c)).trans (Finset.sum_range_succ _ 14).symm

/-- Tap 15 of the convolution. -/
theorem prod_15 (x0 : Vec Ideal S4096x1792 .bf16) (x1 : Vec Ideal S2x32x384 .f32) (s : Fin 2) (p : Fin 2048) (c : Fin 384) :
    val_main_v128 (F := Ideal) x0 x1 (ix3 s p c) = tap2 x1 15 c * H x0 (2048 * s.val + p.val) 15 c := by
  rw [← pad_apply' x0 s p c 15 (by norm_num)]
  generalize hv : val_main_v16 (F := Ideal) x0 = v
  unfold val_main_v128 val_main_v125
  rw [hv]
  pointwise [val_main_v127, val_main_v126, val_main_v124, val_main_v123, val_main_v4, val_main_v3]
  exact congrArg₂ (· * ·) rfl (congrArg v (congrArg (fun q => ix3 s q c) (Fin.ext (Nat.add_comm _ _))))

/-- The first 16 taps of the convolution. -/
theorem sum_15 (x0 : Vec Ideal S4096x1792 .bf16) (x1 : Vec Ideal S2x32x384 .f32) (s : Fin 2) (p : Fin 2048) (c : Fin 384) :
    val_main_v129 (F := Ideal) x0 x1 (ix3 s p c) = ∑ k ∈ Finset.range 16, tap2 x1 k c * H x0 (2048 * s.val + p.val) k c :=
  (congrArg₂ (· + ·) (sum_14 x0 x1 s p c) (prod_15 x0 x1 s p c)).trans (Finset.sum_range_succ _ 15).symm

/-- Tap 16 of the convolution. -/
theorem prod_16 (x0 : Vec Ideal S4096x1792 .bf16) (x1 : Vec Ideal S2x32x384 .f32) (s : Fin 2) (p : Fin 2048) (c : Fin 384) :
    val_main_v135 (F := Ideal) x0 x1 (ix3 s p c) = tap2 x1 16 c * H x0 (2048 * s.val + p.val) 16 c := by
  rw [← pad_apply' x0 s p c 16 (by norm_num)]
  generalize hv : val_main_v16 (F := Ideal) x0 = v
  unfold val_main_v135 val_main_v132
  rw [hv]
  pointwise [val_main_v134, val_main_v133, val_main_v131, val_main_v130, val_main_v4, val_main_v3]
  exact congrArg₂ (· * ·) rfl (congrArg v (congrArg (fun q => ix3 s q c) (Fin.ext (Nat.add_comm _ _))))

/-- The first 17 taps of the convolution. -/
theorem sum_16 (x0 : Vec Ideal S4096x1792 .bf16) (x1 : Vec Ideal S2x32x384 .f32) (s : Fin 2) (p : Fin 2048) (c : Fin 384) :
    val_main_v136 (F := Ideal) x0 x1 (ix3 s p c) = ∑ k ∈ Finset.range 17, tap2 x1 k c * H x0 (2048 * s.val + p.val) k c :=
  (congrArg₂ (· + ·) (sum_15 x0 x1 s p c) (prod_16 x0 x1 s p c)).trans (Finset.sum_range_succ _ 16).symm

/-- Tap 17 of the convolution. -/
theorem prod_17 (x0 : Vec Ideal S4096x1792 .bf16) (x1 : Vec Ideal S2x32x384 .f32) (s : Fin 2) (p : Fin 2048) (c : Fin 384) :
    val_main_v142 (F := Ideal) x0 x1 (ix3 s p c) = tap2 x1 17 c * H x0 (2048 * s.val + p.val) 17 c := by
  rw [← pad_apply' x0 s p c 17 (by norm_num)]
  generalize hv : val_main_v16 (F := Ideal) x0 = v
  unfold val_main_v142 val_main_v139
  rw [hv]
  pointwise [val_main_v141, val_main_v140, val_main_v138, val_main_v137, val_main_v4, val_main_v3]
  exact congrArg₂ (· * ·) rfl (congrArg v (congrArg (fun q => ix3 s q c) (Fin.ext (Nat.add_comm _ _))))

/-- The first 18 taps of the convolution. -/
theorem sum_17 (x0 : Vec Ideal S4096x1792 .bf16) (x1 : Vec Ideal S2x32x384 .f32) (s : Fin 2) (p : Fin 2048) (c : Fin 384) :
    val_main_v143 (F := Ideal) x0 x1 (ix3 s p c) = ∑ k ∈ Finset.range 18, tap2 x1 k c * H x0 (2048 * s.val + p.val) k c :=
  (congrArg₂ (· + ·) (sum_16 x0 x1 s p c) (prod_17 x0 x1 s p c)).trans (Finset.sum_range_succ _ 17).symm

/-- Tap 18 of the convolution. -/
theorem prod_18 (x0 : Vec Ideal S4096x1792 .bf16) (x1 : Vec Ideal S2x32x384 .f32) (s : Fin 2) (p : Fin 2048) (c : Fin 384) :
    val_main_v149 (F := Ideal) x0 x1 (ix3 s p c) = tap2 x1 18 c * H x0 (2048 * s.val + p.val) 18 c := by
  rw [← pad_apply' x0 s p c 18 (by norm_num)]
  generalize hv : val_main_v16 (F := Ideal) x0 = v
  unfold val_main_v149 val_main_v146
  rw [hv]
  pointwise [val_main_v148, val_main_v147, val_main_v145, val_main_v144, val_main_v4, val_main_v3]
  exact congrArg₂ (· * ·) rfl (congrArg v (congrArg (fun q => ix3 s q c) (Fin.ext (Nat.add_comm _ _))))

/-- The first 19 taps of the convolution. -/
theorem sum_18 (x0 : Vec Ideal S4096x1792 .bf16) (x1 : Vec Ideal S2x32x384 .f32) (s : Fin 2) (p : Fin 2048) (c : Fin 384) :
    val_main_v150 (F := Ideal) x0 x1 (ix3 s p c) = ∑ k ∈ Finset.range 19, tap2 x1 k c * H x0 (2048 * s.val + p.val) k c :=
  (congrArg₂ (· + ·) (sum_17 x0 x1 s p c) (prod_18 x0 x1 s p c)).trans (Finset.sum_range_succ _ 18).symm

/-- Tap 19 of the convolution. -/
theorem prod_19 (x0 : Vec Ideal S4096x1792 .bf16) (x1 : Vec Ideal S2x32x384 .f32) (s : Fin 2) (p : Fin 2048) (c : Fin 384) :
    val_main_v156 (F := Ideal) x0 x1 (ix3 s p c) = tap2 x1 19 c * H x0 (2048 * s.val + p.val) 19 c := by
  rw [← pad_apply' x0 s p c 19 (by norm_num)]
  generalize hv : val_main_v16 (F := Ideal) x0 = v
  unfold val_main_v156 val_main_v153
  rw [hv]
  pointwise [val_main_v155, val_main_v154, val_main_v152, val_main_v151, val_main_v4, val_main_v3]
  exact congrArg₂ (· * ·) rfl (congrArg v (congrArg (fun q => ix3 s q c) (Fin.ext (Nat.add_comm _ _))))

/-- The first 20 taps of the convolution. -/
theorem sum_19 (x0 : Vec Ideal S4096x1792 .bf16) (x1 : Vec Ideal S2x32x384 .f32) (s : Fin 2) (p : Fin 2048) (c : Fin 384) :
    val_main_v157 (F := Ideal) x0 x1 (ix3 s p c) = ∑ k ∈ Finset.range 20, tap2 x1 k c * H x0 (2048 * s.val + p.val) k c :=
  (congrArg₂ (· + ·) (sum_18 x0 x1 s p c) (prod_19 x0 x1 s p c)).trans (Finset.sum_range_succ _ 19).symm

/-- Tap 20 of the convolution. -/
theorem prod_20 (x0 : Vec Ideal S4096x1792 .bf16) (x1 : Vec Ideal S2x32x384 .f32) (s : Fin 2) (p : Fin 2048) (c : Fin 384) :
    val_main_v163 (F := Ideal) x0 x1 (ix3 s p c) = tap2 x1 20 c * H x0 (2048 * s.val + p.val) 20 c := by
  rw [← pad_apply' x0 s p c 20 (by norm_num)]
  generalize hv : val_main_v16 (F := Ideal) x0 = v
  unfold val_main_v163 val_main_v160
  rw [hv]
  pointwise [val_main_v162, val_main_v161, val_main_v159, val_main_v158, val_main_v4, val_main_v3]
  exact congrArg₂ (· * ·) rfl (congrArg v (congrArg (fun q => ix3 s q c) (Fin.ext (Nat.add_comm _ _))))

/-- The first 21 taps of the convolution. -/
theorem sum_20 (x0 : Vec Ideal S4096x1792 .bf16) (x1 : Vec Ideal S2x32x384 .f32) (s : Fin 2) (p : Fin 2048) (c : Fin 384) :
    val_main_v164 (F := Ideal) x0 x1 (ix3 s p c) = ∑ k ∈ Finset.range 21, tap2 x1 k c * H x0 (2048 * s.val + p.val) k c :=
  (congrArg₂ (· + ·) (sum_19 x0 x1 s p c) (prod_20 x0 x1 s p c)).trans (Finset.sum_range_succ _ 20).symm

/-- Tap 21 of the convolution. -/
theorem prod_21 (x0 : Vec Ideal S4096x1792 .bf16) (x1 : Vec Ideal S2x32x384 .f32) (s : Fin 2) (p : Fin 2048) (c : Fin 384) :
    val_main_v170 (F := Ideal) x0 x1 (ix3 s p c) = tap2 x1 21 c * H x0 (2048 * s.val + p.val) 21 c := by
  rw [← pad_apply' x0 s p c 21 (by norm_num)]
  generalize hv : val_main_v16 (F := Ideal) x0 = v
  unfold val_main_v170 val_main_v167
  rw [hv]
  pointwise [val_main_v169, val_main_v168, val_main_v166, val_main_v165, val_main_v4, val_main_v3]
  exact congrArg₂ (· * ·) rfl (congrArg v (congrArg (fun q => ix3 s q c) (Fin.ext (Nat.add_comm _ _))))

/-- The first 22 taps of the convolution. -/
theorem sum_21 (x0 : Vec Ideal S4096x1792 .bf16) (x1 : Vec Ideal S2x32x384 .f32) (s : Fin 2) (p : Fin 2048) (c : Fin 384) :
    val_main_v171 (F := Ideal) x0 x1 (ix3 s p c) = ∑ k ∈ Finset.range 22, tap2 x1 k c * H x0 (2048 * s.val + p.val) k c :=
  (congrArg₂ (· + ·) (sum_20 x0 x1 s p c) (prod_21 x0 x1 s p c)).trans (Finset.sum_range_succ _ 21).symm

/-- Tap 22 of the convolution. -/
theorem prod_22 (x0 : Vec Ideal S4096x1792 .bf16) (x1 : Vec Ideal S2x32x384 .f32) (s : Fin 2) (p : Fin 2048) (c : Fin 384) :
    val_main_v177 (F := Ideal) x0 x1 (ix3 s p c) = tap2 x1 22 c * H x0 (2048 * s.val + p.val) 22 c := by
  rw [← pad_apply' x0 s p c 22 (by norm_num)]
  generalize hv : val_main_v16 (F := Ideal) x0 = v
  unfold val_main_v177 val_main_v174
  rw [hv]
  pointwise [val_main_v176, val_main_v175, val_main_v173, val_main_v172, val_main_v4, val_main_v3]
  exact congrArg₂ (· * ·) rfl (congrArg v (congrArg (fun q => ix3 s q c) (Fin.ext (Nat.add_comm _ _))))

/-- The first 23 taps of the convolution. -/
theorem sum_22 (x0 : Vec Ideal S4096x1792 .bf16) (x1 : Vec Ideal S2x32x384 .f32) (s : Fin 2) (p : Fin 2048) (c : Fin 384) :
    val_main_v178 (F := Ideal) x0 x1 (ix3 s p c) = ∑ k ∈ Finset.range 23, tap2 x1 k c * H x0 (2048 * s.val + p.val) k c :=
  (congrArg₂ (· + ·) (sum_21 x0 x1 s p c) (prod_22 x0 x1 s p c)).trans (Finset.sum_range_succ _ 22).symm

/-- Tap 23 of the convolution. -/
theorem prod_23 (x0 : Vec Ideal S4096x1792 .bf16) (x1 : Vec Ideal S2x32x384 .f32) (s : Fin 2) (p : Fin 2048) (c : Fin 384) :
    val_main_v184 (F := Ideal) x0 x1 (ix3 s p c) = tap2 x1 23 c * H x0 (2048 * s.val + p.val) 23 c := by
  rw [← pad_apply' x0 s p c 23 (by norm_num)]
  generalize hv : val_main_v16 (F := Ideal) x0 = v
  unfold val_main_v184 val_main_v181
  rw [hv]
  pointwise [val_main_v183, val_main_v182, val_main_v180, val_main_v179, val_main_v4, val_main_v3]
  exact congrArg₂ (· * ·) rfl (congrArg v (congrArg (fun q => ix3 s q c) (Fin.ext (Nat.add_comm _ _))))

/-- The first 24 taps of the convolution. -/
theorem sum_23 (x0 : Vec Ideal S4096x1792 .bf16) (x1 : Vec Ideal S2x32x384 .f32) (s : Fin 2) (p : Fin 2048) (c : Fin 384) :
    val_main_v185 (F := Ideal) x0 x1 (ix3 s p c) = ∑ k ∈ Finset.range 24, tap2 x1 k c * H x0 (2048 * s.val + p.val) k c :=
  (congrArg₂ (· + ·) (sum_22 x0 x1 s p c) (prod_23 x0 x1 s p c)).trans (Finset.sum_range_succ _ 23).symm

/-- Tap 24 of the convolution. -/
theorem prod_24 (x0 : Vec Ideal S4096x1792 .bf16) (x1 : Vec Ideal S2x32x384 .f32) (s : Fin 2) (p : Fin 2048) (c : Fin 384) :
    val_main_v191 (F := Ideal) x0 x1 (ix3 s p c) = tap2 x1 24 c * H x0 (2048 * s.val + p.val) 24 c := by
  rw [← pad_apply' x0 s p c 24 (by norm_num)]
  generalize hv : val_main_v16 (F := Ideal) x0 = v
  unfold val_main_v191 val_main_v188
  rw [hv]
  pointwise [val_main_v190, val_main_v189, val_main_v187, val_main_v186, val_main_v4, val_main_v3]
  exact congrArg₂ (· * ·) rfl (congrArg v (congrArg (fun q => ix3 s q c) (Fin.ext (Nat.add_comm _ _))))

/-- The first 25 taps of the convolution. -/
theorem sum_24 (x0 : Vec Ideal S4096x1792 .bf16) (x1 : Vec Ideal S2x32x384 .f32) (s : Fin 2) (p : Fin 2048) (c : Fin 384) :
    val_main_v192 (F := Ideal) x0 x1 (ix3 s p c) = ∑ k ∈ Finset.range 25, tap2 x1 k c * H x0 (2048 * s.val + p.val) k c :=
  (congrArg₂ (· + ·) (sum_23 x0 x1 s p c) (prod_24 x0 x1 s p c)).trans (Finset.sum_range_succ _ 24).symm

/-- Tap 25 of the convolution. -/
theorem prod_25 (x0 : Vec Ideal S4096x1792 .bf16) (x1 : Vec Ideal S2x32x384 .f32) (s : Fin 2) (p : Fin 2048) (c : Fin 384) :
    val_main_v198 (F := Ideal) x0 x1 (ix3 s p c) = tap2 x1 25 c * H x0 (2048 * s.val + p.val) 25 c := by
  rw [← pad_apply' x0 s p c 25 (by norm_num)]
  generalize hv : val_main_v16 (F := Ideal) x0 = v
  unfold val_main_v198 val_main_v195
  rw [hv]
  pointwise [val_main_v197, val_main_v196, val_main_v194, val_main_v193, val_main_v4, val_main_v3]
  exact congrArg₂ (· * ·) rfl (congrArg v (congrArg (fun q => ix3 s q c) (Fin.ext (Nat.add_comm _ _))))

/-- The first 26 taps of the convolution. -/
theorem sum_25 (x0 : Vec Ideal S4096x1792 .bf16) (x1 : Vec Ideal S2x32x384 .f32) (s : Fin 2) (p : Fin 2048) (c : Fin 384) :
    val_main_v199 (F := Ideal) x0 x1 (ix3 s p c) = ∑ k ∈ Finset.range 26, tap2 x1 k c * H x0 (2048 * s.val + p.val) k c :=
  (congrArg₂ (· + ·) (sum_24 x0 x1 s p c) (prod_25 x0 x1 s p c)).trans (Finset.sum_range_succ _ 25).symm

/-- Tap 26 of the convolution. -/
theorem prod_26 (x0 : Vec Ideal S4096x1792 .bf16) (x1 : Vec Ideal S2x32x384 .f32) (s : Fin 2) (p : Fin 2048) (c : Fin 384) :
    val_main_v205 (F := Ideal) x0 x1 (ix3 s p c) = tap2 x1 26 c * H x0 (2048 * s.val + p.val) 26 c := by
  rw [← pad_apply' x0 s p c 26 (by norm_num)]
  generalize hv : val_main_v16 (F := Ideal) x0 = v
  unfold val_main_v205 val_main_v202
  rw [hv]
  pointwise [val_main_v204, val_main_v203, val_main_v201, val_main_v200, val_main_v4, val_main_v3]
  exact congrArg₂ (· * ·) rfl (congrArg v (congrArg (fun q => ix3 s q c) (Fin.ext (Nat.add_comm _ _))))

/-- The first 27 taps of the convolution. -/
theorem sum_26 (x0 : Vec Ideal S4096x1792 .bf16) (x1 : Vec Ideal S2x32x384 .f32) (s : Fin 2) (p : Fin 2048) (c : Fin 384) :
    val_main_v206 (F := Ideal) x0 x1 (ix3 s p c) = ∑ k ∈ Finset.range 27, tap2 x1 k c * H x0 (2048 * s.val + p.val) k c :=
  (congrArg₂ (· + ·) (sum_25 x0 x1 s p c) (prod_26 x0 x1 s p c)).trans (Finset.sum_range_succ _ 26).symm

/-- Tap 27 of the convolution. -/
theorem prod_27 (x0 : Vec Ideal S4096x1792 .bf16) (x1 : Vec Ideal S2x32x384 .f32) (s : Fin 2) (p : Fin 2048) (c : Fin 384) :
    val_main_v212 (F := Ideal) x0 x1 (ix3 s p c) = tap2 x1 27 c * H x0 (2048 * s.val + p.val) 27 c := by
  rw [← pad_apply' x0 s p c 27 (by norm_num)]
  generalize hv : val_main_v16 (F := Ideal) x0 = v
  unfold val_main_v212 val_main_v209
  rw [hv]
  pointwise [val_main_v211, val_main_v210, val_main_v208, val_main_v207, val_main_v4, val_main_v3]
  exact congrArg₂ (· * ·) rfl (congrArg v (congrArg (fun q => ix3 s q c) (Fin.ext (Nat.add_comm _ _))))

/-- The first 28 taps of the convolution. -/
theorem sum_27 (x0 : Vec Ideal S4096x1792 .bf16) (x1 : Vec Ideal S2x32x384 .f32) (s : Fin 2) (p : Fin 2048) (c : Fin 384) :
    val_main_v213 (F := Ideal) x0 x1 (ix3 s p c) = ∑ k ∈ Finset.range 28, tap2 x1 k c * H x0 (2048 * s.val + p.val) k c :=
  (congrArg₂ (· + ·) (sum_26 x0 x1 s p c) (prod_27 x0 x1 s p c)).trans (Finset.sum_range_succ _ 27).symm

/-- Tap 28 of the convolution. -/
theorem prod_28 (x0 : Vec Ideal S4096x1792 .bf16) (x1 : Vec Ideal S2x32x384 .f32) (s : Fin 2) (p : Fin 2048) (c : Fin 384) :
    val_main_v219 (F := Ideal) x0 x1 (ix3 s p c) = tap2 x1 28 c * H x0 (2048 * s.val + p.val) 28 c := by
  rw [← pad_apply' x0 s p c 28 (by norm_num)]
  generalize hv : val_main_v16 (F := Ideal) x0 = v
  unfold val_main_v219 val_main_v216
  rw [hv]
  pointwise [val_main_v218, val_main_v217, val_main_v215, val_main_v214, val_main_v4, val_main_v3]
  exact congrArg₂ (· * ·) rfl (congrArg v (congrArg (fun q => ix3 s q c) (Fin.ext (Nat.add_comm _ _))))

/-- The first 29 taps of the convolution. -/
theorem sum_28 (x0 : Vec Ideal S4096x1792 .bf16) (x1 : Vec Ideal S2x32x384 .f32) (s : Fin 2) (p : Fin 2048) (c : Fin 384) :
    val_main_v220 (F := Ideal) x0 x1 (ix3 s p c) = ∑ k ∈ Finset.range 29, tap2 x1 k c * H x0 (2048 * s.val + p.val) k c :=
  (congrArg₂ (· + ·) (sum_27 x0 x1 s p c) (prod_28 x0 x1 s p c)).trans (Finset.sum_range_succ _ 28).symm

/-- Tap 29 of the convolution. -/
theorem prod_29 (x0 : Vec Ideal S4096x1792 .bf16) (x1 : Vec Ideal S2x32x384 .f32) (s : Fin 2) (p : Fin 2048) (c : Fin 384) :
    val_main_v226 (F := Ideal) x0 x1 (ix3 s p c) = tap2 x1 29 c * H x0 (2048 * s.val + p.val) 29 c := by
  rw [← pad_apply' x0 s p c 29 (by norm_num)]
  generalize hv : val_main_v16 (F := Ideal) x0 = v
  unfold val_main_v226 val_main_v223
  rw [hv]
  pointwise [val_main_v225, val_main_v224, val_main_v222, val_main_v221, val_main_v4, val_main_v3]
  exact congrArg₂ (· * ·) rfl (congrArg v (congrArg (fun q => ix3 s q c) (Fin.ext (Nat.add_comm _ _))))

/-- The first 30 taps of the convolution. -/
theorem sum_29 (x0 : Vec Ideal S4096x1792 .bf16) (x1 : Vec Ideal S2x32x384 .f32) (s : Fin 2) (p : Fin 2048) (c : Fin 384) :
    val_main_v227 (F := Ideal) x0 x1 (ix3 s p c) = ∑ k ∈ Finset.range 30, tap2 x1 k c * H x0 (2048 * s.val + p.val) k c :=
  (congrArg₂ (· + ·) (sum_28 x0 x1 s p c) (prod_29 x0 x1 s p c)).trans (Finset.sum_range_succ _ 29).symm

/-- Tap 30 of the convolution. -/
theorem prod_30 (x0 : Vec Ideal S4096x1792 .bf16) (x1 : Vec Ideal S2x32x384 .f32) (s : Fin 2) (p : Fin 2048) (c : Fin 384) :
    val_main_v233 (F := Ideal) x0 x1 (ix3 s p c) = tap2 x1 30 c * H x0 (2048 * s.val + p.val) 30 c := by
  rw [← pad_apply' x0 s p c 30 (by norm_num)]
  generalize hv : val_main_v16 (F := Ideal) x0 = v
  unfold val_main_v233 val_main_v230
  rw [hv]
  pointwise [val_main_v232, val_main_v231, val_main_v229, val_main_v228, val_main_v4, val_main_v3]
  exact congrArg₂ (· * ·) rfl (congrArg v (congrArg (fun q => ix3 s q c) (Fin.ext (Nat.add_comm _ _))))

/-- The first 31 taps of the convolution. -/
theorem sum_30 (x0 : Vec Ideal S4096x1792 .bf16) (x1 : Vec Ideal S2x32x384 .f32) (s : Fin 2) (p : Fin 2048) (c : Fin 384) :
    val_main_v234 (F := Ideal) x0 x1 (ix3 s p c) = ∑ k ∈ Finset.range 31, tap2 x1 k c * H x0 (2048 * s.val + p.val) k c :=
  (congrArg₂ (· + ·) (sum_29 x0 x1 s p c) (prod_30 x0 x1 s p c)).trans (Finset.sum_range_succ _ 30).symm

/-- The reference's result at one index. -/
theorem ref_conv (x0 : Vec Ideal S4096x1792 .bf16) (x1 : Vec Ideal S2x32x384 .f32) (x2 : Vec Ideal S2x1x384 .f32) (n : Fin 4096) (c : Fin 384) :
    val_main_v238 (F := Ideal) x0 x1 x2 (ix2 n c) = conv x0 x1 x2 n.val c := by
  have hb : val_main_v236 (F := Ideal) x2 (ix3 ⟨n.val / 2048, by omega⟩ ⟨n.val % 2048, by omega⟩ c) = x2 (ix3 0 0 c) := by
    pointwise [val_main_v236, val_main_v235, val_main_v6, val_main_v5]
  have h1 : val_main_v238 (F := Ideal) x0 x1 x2 (ix2 n c) = val_main_v237 (F := Ideal) x0 x1 x2 (ix3 ⟨n.val / 2048, by omega⟩ ⟨n.val % 2048, by omega⟩ c) := by
    unfold val_main_v238
    generalize val_main_v237 (F := Ideal) x0 x1 x2 = v
    pointwise []
  have h2 := congrArg₂ (· + ·) (sum_30 x0 x1 ⟨n.val / 2048, by omega⟩ ⟨n.val % 2048, by omega⟩ c) hb
  have hn : 2048 * (n.val / 2048) + n.val % 2048 = n.val := Nat.div_add_mod _ _
  refine (h1.trans h2).trans ?_
  show (∑ k ∈ Finset.range 31, tap2 x1 k c * H x0 (2048 * (n.val / 2048) + n.val % 2048) k c) + x2 (ix3 0 0 c) = conv x0 x1 x2 n.val c
  rw [hn, add_comm]
  rfl

/-- The reference's run, its result named. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v238)
          = val_main_v238 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run m ρ

end Cert.MixerFwdRefIdeal.Value
end
-- ==== Proof.MixerFwdClaim.lean ====
module

public import proofs.«01_k».proof.Defs
public import proofs.«01_k».proof.Proof.MixerFwdEq
public import Idealize.ShloMosaic.Lib.Claim

/-! The kernel for the mixer's forward pass and the reference agree on the convolution. -/

@[expose] public section

noncomputable section

namespace Cert.Proof.MixerFwd

open Idealize.ShloMosaic Idealize.ShloMosaic.TcCoe Idealize.SL.Sem

/-- What the kernel leaves in its result is what the reference leaves in its own. -/
theorem algebraic : Cert.algebraic_MixerFwdIdeal_MixerFwdRefIdeal := by
  pair_intro
  · run_from Cert.MixerFwdIdeal.Value.run_blocks m g
  · run_from Cert.MixerFwdRefIdeal.Value.run_val m' g'
    rw [Cert.MixerFwdIdeal.Block.final m c]
    funext i
    rw [eq_ix2 i]
    exact Cert.MixerFwdRefIdeal.Value.ref_conv _ _ _ _ _

/-- The reference runs and leaves its arguments unchanged. -/
theorem frame_ref : Cert.quiescent_MixerFwdRefIdeal := fun m ρ _ =>
  (θ_run Cert.MixerFwdRefIdeal.defs _ _).mono (fun r h => ⟨fun c => (h c).2, sem_eq_zero_of_no_sems (by decide) r.2⟩)
    (Cert.MixerFwdRefIdeal.Value.run (F := Ideal) m ρ)

end Cert.Proof.MixerFwd
end
-- ==== Proof.lean ====
module

public import proofs.«01_k».proof.Defs
public import proofs.«01_k».proof.Proof.Gen.SwigluBwd.Frame
public import proofs.«01_k».proof.Proof.SwigluBwdClaim
public import proofs.«01_k».proof.Proof.Gen.GateUpDx.Frame
public import proofs.«01_k».proof.Proof.GateUpDxClaim
public import proofs.«01_k».proof.Proof.Gen.InDx.Frame
public import proofs.«01_k».proof.Proof.InDxClaim
public import proofs.«01_k».proof.Proof.Gen.InDxFirst.Frame
public import proofs.«01_k».proof.Proof.InDxFirstClaim
public import proofs.«01_k».proof.Proof.Gen.InDxRest.Frame
public import proofs.«01_k».proof.Proof.InDxRestClaim
public import proofs.«01_k».proof.Proof.Gen.GateUpDw.Frame
public import proofs.«01_k».proof.Proof.GateUpDwClaim
public import proofs.«01_k».proof.Proof.Gen.DownDw.Frame
public import proofs.«01_k».proof.Proof.DownDwClaim
public import proofs.«01_k».proof.Proof.Gen.InDw.Frame
public import proofs.«01_k».proof.Proof.InDwClaim
public import proofs.«01_k».proof.Proof.Gen.OutDw.Frame
public import proofs.«01_k».proof.Proof.OutDwClaim
public import proofs.«01_k».proof.Proof.Gen.OutDx.Frame
public import proofs.«01_k».proof.Proof.OutDxClaim
public import proofs.«01_k».proof.Proof.Gen.DownFwd.Frame
public import proofs.«01_k».proof.Proof.DownFwdClaim
public import proofs.«01_k».proof.Proof.Gen.OutFwd.Frame
public import proofs.«01_k».proof.Proof.OutFwdClaim
public import proofs.«01_k».proof.Proof.Gen.InFwd.Frame
public import proofs.«01_k».proof.Proof.InFwdClaim
public import proofs.«01_k».proof.Proof.Gen.NormFwd.Frame
public import proofs.«01_k».proof.Proof.NormFwdClaim
public import proofs.«01_k».proof.Proof.Gen.InFwdFirst.Frame
public import proofs.«01_k».proof.Proof.InFwdFirstClaim
public import proofs.«01_k».proof.Proof.Gen.LossHead.Frame
public import proofs.«01_k».proof.Proof.LossHeadClaim
public import proofs.«01_k».proof.Proof.Gen.AdamIn.Frame
public import proofs.«01_k».proof.Proof.AdamInClaim
public import proofs.«01_k».proof.Proof.Gen.AdamPw.Frame
public import proofs.«01_k».proof.Proof.AdamPwClaim
public import proofs.«01_k».proof.Proof.Gen.AdamOut.Frame
public import proofs.«01_k».proof.Proof.AdamOutClaim
public import proofs.«01_k».proof.Proof.Gen.AdamGateUp.Frame
public import proofs.«01_k».proof.Proof.AdamGateUpClaim
public import proofs.«01_k».proof.Proof.Gen.AdamDown.Frame
public import proofs.«01_k».proof.Proof.AdamDownClaim
public import proofs.«01_k».proof.Proof.Gen.AdamSmallA.Frame
public import proofs.«01_k».proof.Proof.AdamSmallAClaim
public import proofs.«01_k».proof.Proof.Gen.AdamSmallB.Frame
public import proofs.«01_k».proof.Proof.AdamSmallBClaim
public import proofs.«01_k».proof.Proof.Gen.AdamSmallC.Frame
public import proofs.«01_k».proof.Proof.AdamSmallCClaim
public import proofs.«01_k».proof.Proof.Gen.AdamSmallD.Frame
public import proofs.«01_k».proof.Proof.AdamSmallDClaim
public import proofs.«01_k».proof.Proof.Gen.AdamSmallE.Frame
public import proofs.«01_k».proof.Proof.AdamSmallEClaim
public import proofs.«01_k».proof.Proof.Gen.MixerFwd.Frame
public import proofs.«01_k».proof.Proof.MixerFwdClaim

/-! The certificate: for every call that is taken, the runs of the kernel, of its idealised form and of the
    reference, and the equality of their results. -/

@[expose] public section

noncomputable section

namespace Cert.Proof

open Idealize.ShloMosaic Idealize.SL.Sem

/-- The kernel of the call, as printed, runs and leaves its arguments unchanged. -/
theorem frame_SwigluBwd : Cert.quiescent_SwigluBwd := fun m ρ _ => Cert.SwigluBwd.Gen.frame m ρ

/-- So does its idealised form. -/
theorem frame_SwigluBwdIdeal : Cert.quiescent_SwigluBwdIdeal := fun m ρ _ => Cert.SwigluBwdIdeal.Gen.frame m ρ

/-- The kernel of the call, as printed, runs and leaves its arguments unchanged. -/
theorem frame_GateUpDx : Cert.quiescent_GateUpDx := fun m ρ _ => Cert.GateUpDx.Gen.frame m ρ

/-- So does its idealised form. -/
theorem frame_GateUpDxIdeal : Cert.quiescent_GateUpDxIdeal := fun m ρ _ => Cert.GateUpDxIdeal.Gen.frame m ρ

/-- The kernel of the call, as printed, runs and leaves its arguments unchanged. -/
theorem frame_InDx : Cert.quiescent_InDx := fun m ρ _ => Cert.InDx.Gen.frame m ρ

/-- So does its idealised form. -/
theorem frame_InDxIdeal : Cert.quiescent_InDxIdeal := fun m ρ _ => Cert.InDxIdeal.Gen.frame m ρ

/-- The kernel of the call, as printed, runs and leaves its arguments unchanged. -/
theorem frame_InDxFirst : Cert.quiescent_InDxFirst := fun m ρ _ => Cert.InDxFirst.Gen.frame m ρ

/-- So does its idealised form. -/
theorem frame_InDxFirstIdeal : Cert.quiescent_InDxFirstIdeal := fun m ρ _ => Cert.InDxFirstIdeal.Gen.frame m ρ

/-- The kernel of the call, as printed, runs and leaves its arguments unchanged. -/
theorem frame_InDxRest : Cert.quiescent_InDxRest := fun m ρ _ => Cert.InDxRest.Gen.frame m ρ

/-- So does its idealised form. -/
theorem frame_InDxRestIdeal : Cert.quiescent_InDxRestIdeal := fun m ρ _ => Cert.InDxRestIdeal.Gen.frame m ρ

/-- The kernel of the call, as printed, runs and leaves its arguments unchanged. -/
theorem frame_GateUpDw : Cert.quiescent_GateUpDw := fun m ρ _ => Cert.GateUpDw.Gen.frame m ρ

/-- So does its idealised form. -/
theorem frame_GateUpDwIdeal : Cert.quiescent_GateUpDwIdeal := fun m ρ _ => Cert.GateUpDwIdeal.Gen.frame m ρ

/-- The kernel of the call, as printed, runs and leaves its arguments unchanged. -/
theorem frame_DownDw : Cert.quiescent_DownDw := fun m ρ _ => Cert.DownDw.Gen.frame m ρ

/-- So does its idealised form. -/
theorem frame_DownDwIdeal : Cert.quiescent_DownDwIdeal := fun m ρ _ => Cert.DownDwIdeal.Gen.frame m ρ

/-- The kernel of the call, as printed, runs and leaves its arguments unchanged. -/
theorem frame_InDw : Cert.quiescent_InDw := fun m ρ _ => Cert.InDw.Gen.frame m ρ

/-- So does its idealised form. -/
theorem frame_InDwIdeal : Cert.quiescent_InDwIdeal := fun m ρ _ => Cert.InDwIdeal.Gen.frame m ρ

/-- The kernel of the call, as printed, runs and leaves its arguments unchanged. -/
theorem frame_OutDw : Cert.quiescent_OutDw := fun m ρ _ => Cert.OutDw.Gen.frame m ρ

/-- So does its idealised form. -/
theorem frame_OutDwIdeal : Cert.quiescent_OutDwIdeal := fun m ρ _ => Cert.OutDwIdeal.Gen.frame m ρ

/-- The kernel of the call, as printed, runs and leaves its arguments unchanged. -/
theorem frame_OutDx : Cert.quiescent_OutDx := fun m ρ _ => Cert.OutDx.Gen.frame m ρ

/-- So does its idealised form. -/
theorem frame_OutDxIdeal : Cert.quiescent_OutDxIdeal := fun m ρ _ => Cert.OutDxIdeal.Gen.frame m ρ

/-- The kernel of the call, as printed, runs and leaves its arguments unchanged. -/
theorem frame_DownFwd : Cert.quiescent_DownFwd := fun m ρ _ => Cert.DownFwd.Gen.frame m ρ

/-- So does its idealised form. -/
theorem frame_DownFwdIdeal : Cert.quiescent_DownFwdIdeal := fun m ρ _ => Cert.DownFwdIdeal.Gen.frame m ρ

/-- The kernel of the call, as printed, runs and leaves its arguments unchanged. -/
theorem frame_OutFwd : Cert.quiescent_OutFwd := fun m ρ _ => Cert.OutFwd.Gen.frame m ρ

/-- So does its idealised form. -/
theorem frame_OutFwdIdeal : Cert.quiescent_OutFwdIdeal := fun m ρ _ => Cert.OutFwdIdeal.Gen.frame m ρ

/-- The kernel of the call, as printed, runs and leaves its arguments unchanged. -/
theorem frame_InFwd : Cert.quiescent_InFwd := fun m ρ _ => Cert.InFwd.Gen.frame m ρ

/-- So does its idealised form. -/
theorem frame_InFwdIdeal : Cert.quiescent_InFwdIdeal := fun m ρ _ => Cert.InFwdIdeal.Gen.frame m ρ

/-- The kernel of the call, as printed, runs and leaves its arguments unchanged. -/
theorem frame_NormFwd : Cert.quiescent_NormFwd := fun m ρ _ => Cert.NormFwd.Gen.frame m ρ

/-- So does its idealised form. -/
theorem frame_NormFwdIdeal : Cert.quiescent_NormFwdIdeal := fun m ρ _ => Cert.NormFwdIdeal.Gen.frame m ρ

/-- The kernel of the call, as printed, runs and leaves its arguments unchanged. -/
theorem frame_InFwdFirst : Cert.quiescent_InFwdFirst := fun m ρ _ => Cert.InFwdFirst.Gen.frame m ρ

/-- So does its idealised form. -/
theorem frame_InFwdFirstIdeal : Cert.quiescent_InFwdFirstIdeal := fun m ρ _ => Cert.InFwdFirstIdeal.Gen.frame m ρ

/-- The kernel of the call, as printed, runs and leaves its arguments unchanged. -/
theorem frame_LossHead : Cert.quiescent_LossHead := fun m ρ _ => Cert.LossHead.Gen.frame m ρ

/-- So does its idealised form. -/
theorem frame_LossHeadIdeal : Cert.quiescent_LossHeadIdeal := fun m ρ _ => Cert.LossHeadIdeal.Gen.frame m ρ

/-- The kernel of the call, as printed, runs and leaves its arguments unchanged. -/
theorem frame_AdamIn : Cert.quiescent_AdamIn := fun m ρ _ => Cert.AdamIn.Gen.frame m ρ

/-- So does its idealised form. -/
theorem frame_AdamInIdeal : Cert.quiescent_AdamInIdeal := fun m ρ _ => Cert.AdamInIdeal.Gen.frame m ρ

/-- The kernel of the call, as printed, runs and leaves its arguments unchanged. -/
theorem frame_AdamPw : Cert.quiescent_AdamPw := fun m ρ _ => Cert.AdamPw.Gen.frame m ρ

/-- So does its idealised form. -/
theorem frame_AdamPwIdeal : Cert.quiescent_AdamPwIdeal := fun m ρ _ => Cert.AdamPwIdeal.Gen.frame m ρ

/-- The kernel of the call, as printed, runs and leaves its arguments unchanged. -/
theorem frame_AdamOut : Cert.quiescent_AdamOut := fun m ρ _ => Cert.AdamOut.Gen.frame m ρ

/-- So does its idealised form. -/
theorem frame_AdamOutIdeal : Cert.quiescent_AdamOutIdeal := fun m ρ _ => Cert.AdamOutIdeal.Gen.frame m ρ

/-- The kernel of the call, as printed, runs and leaves its arguments unchanged. -/
theorem frame_AdamGateUp : Cert.quiescent_AdamGateUp := fun m ρ _ => Cert.AdamGateUp.Gen.frame m ρ

/-- So does its idealised form. -/
theorem frame_AdamGateUpIdeal : Cert.quiescent_AdamGateUpIdeal := fun m ρ _ => Cert.AdamGateUpIdeal.Gen.frame m ρ

/-- The kernel of the call, as printed, runs and leaves its arguments unchanged. -/
theorem frame_AdamDown : Cert.quiescent_AdamDown := fun m ρ _ => Cert.AdamDown.Gen.frame m ρ

/-- So does its idealised form. -/
theorem frame_AdamDownIdeal : Cert.quiescent_AdamDownIdeal := fun m ρ _ => Cert.AdamDownIdeal.Gen.frame m ρ

/-- The kernel of the call, as printed, runs and leaves its arguments unchanged. -/
theorem frame_AdamSmallA : Cert.quiescent_AdamSmallA := fun m ρ _ => Cert.AdamSmallA.Gen.frame m ρ

/-- So does its idealised form. -/
theorem frame_AdamSmallAIdeal : Cert.quiescent_AdamSmallAIdeal := fun m ρ _ => Cert.AdamSmallAIdeal.Gen.frame m ρ

/-- The kernel of the call, as printed, runs and leaves its arguments unchanged. -/
theorem frame_AdamSmallB : Cert.quiescent_AdamSmallB := fun m ρ _ => Cert.AdamSmallB.Gen.frame m ρ

/-- So does its idealised form. -/
theorem frame_AdamSmallBIdeal : Cert.quiescent_AdamSmallBIdeal := fun m ρ _ => Cert.AdamSmallBIdeal.Gen.frame m ρ

/-- The kernel of the call, as printed, runs and leaves its arguments unchanged. -/
theorem frame_AdamSmallC : Cert.quiescent_AdamSmallC := fun m ρ _ => Cert.AdamSmallC.Gen.frame m ρ

/-- So does its idealised form. -/
theorem frame_AdamSmallCIdeal : Cert.quiescent_AdamSmallCIdeal := fun m ρ _ => Cert.AdamSmallCIdeal.Gen.frame m ρ

/-- The kernel of the call, as printed, runs and leaves its arguments unchanged. -/
theorem frame_AdamSmallD : Cert.quiescent_AdamSmallD := fun m ρ _ => Cert.AdamSmallD.Gen.frame m ρ

/-- So does its idealised form. -/
theorem frame_AdamSmallDIdeal : Cert.quiescent_AdamSmallDIdeal := fun m ρ _ => Cert.AdamSmallDIdeal.Gen.frame m ρ

/-- The kernel of the call, as printed, runs and leaves its arguments unchanged. -/
theorem frame_AdamSmallE : Cert.quiescent_AdamSmallE := fun m ρ _ => Cert.AdamSmallE.Gen.frame m ρ

/-- So does its idealised form. -/
theorem frame_AdamSmallEIdeal : Cert.quiescent_AdamSmallEIdeal := fun m ρ _ => Cert.AdamSmallEIdeal.Gen.frame m ρ

/-- The kernel of the call, as printed, runs and leaves its arguments unchanged. -/
theorem frame_MixerFwd : Cert.quiescent_MixerFwd := fun m ρ _ => Cert.MixerFwd.Gen.frame m ρ

/-- So does its idealised form. -/
theorem frame_MixerFwdIdeal : Cert.quiescent_MixerFwdIdeal := fun m ρ _ => Cert.MixerFwdIdeal.Gen.frame m ρ

/-- Everything the certificate claims. -/
theorem claim : Cert.Claim := ⟨Cert.SwigluBwd.Gen.facts,
  Cert.SwigluBwdIdeal.Gen.facts,
  Cert.SwigluBwdRefIdeal.Gen.facts,
  Cert.GateUpDx.Gen.facts,
  Cert.GateUpDxIdeal.Gen.facts,
  Cert.GateUpDxRefIdeal.Gen.facts,
  Cert.InDx.Gen.facts,
  Cert.InDxIdeal.Gen.facts,
  Cert.InDxRefIdeal.Gen.facts,
  Cert.InDxFirst.Gen.facts,
  Cert.InDxFirstIdeal.Gen.facts,
  Cert.InDxFirstRefIdeal.Gen.facts,
  Cert.InDxRest.Gen.facts,
  Cert.InDxRestIdeal.Gen.facts,
  Cert.InDxRestRefIdeal.Gen.facts,
  Cert.GateUpDw.Gen.facts,
  Cert.GateUpDwIdeal.Gen.facts,
  Cert.GateUpDwRefIdeal.Gen.facts,
  Cert.DownDw.Gen.facts,
  Cert.DownDwIdeal.Gen.facts,
  Cert.DownDwRefIdeal.Gen.facts,
  Cert.InDw.Gen.facts,
  Cert.InDwIdeal.Gen.facts,
  Cert.InDwRefIdeal.Gen.facts,
  Cert.OutDw.Gen.facts,
  Cert.OutDwIdeal.Gen.facts,
  Cert.OutDwRefIdeal.Gen.facts,
  Cert.OutDx.Gen.facts,
  Cert.OutDxIdeal.Gen.facts,
  Cert.OutDxRefIdeal.Gen.facts,
  Cert.DownFwd.Gen.facts,
  Cert.DownFwdIdeal.Gen.facts,
  Cert.DownFwdRefIdeal.Gen.facts,
  Cert.OutFwd.Gen.facts,
  Cert.OutFwdIdeal.Gen.facts,
  Cert.OutFwdRefIdeal.Gen.facts,
  Cert.InFwd.Gen.facts,
  Cert.InFwdIdeal.Gen.facts,
  Cert.InFwdRefIdeal.Gen.facts,
  Cert.NormFwd.Gen.facts,
  Cert.NormFwdIdeal.Gen.facts,
  Cert.NormFwdRefIdeal.Gen.facts,
  Cert.InFwdFirst.Gen.facts,
  Cert.InFwdFirstIdeal.Gen.facts,
  Cert.InFwdFirstRefIdeal.Gen.facts,
  Cert.LossHead.Gen.facts,
  Cert.LossHeadIdeal.Gen.facts,
  Cert.LossHeadRefIdeal.Gen.facts,
  Cert.AdamIn.Gen.facts,
  Cert.AdamInIdeal.Gen.facts,
  Cert.AdamInRefIdeal.Gen.facts,
  Cert.AdamPw.Gen.facts,
  Cert.AdamPwIdeal.Gen.facts,
  Cert.AdamPwRefIdeal.Gen.facts,
  Cert.AdamOut.Gen.facts,
  Cert.AdamOutIdeal.Gen.facts,
  Cert.AdamOutRefIdeal.Gen.facts,
  Cert.AdamGateUp.Gen.facts,
  Cert.AdamGateUpIdeal.Gen.facts,
  Cert.AdamGateUpRefIdeal.Gen.facts,
  Cert.AdamDown.Gen.facts,
  Cert.AdamDownIdeal.Gen.facts,
  Cert.AdamDownRefIdeal.Gen.facts,
  Cert.AdamSmallA.Gen.facts,
  Cert.AdamSmallAIdeal.Gen.facts,
  Cert.AdamSmallARefIdeal.Gen.facts,
  Cert.AdamSmallB.Gen.facts,
  Cert.AdamSmallBIdeal.Gen.facts,
  Cert.AdamSmallBRefIdeal.Gen.facts,
  Cert.AdamSmallC.Gen.facts,
  Cert.AdamSmallCIdeal.Gen.facts,
  Cert.AdamSmallCRefIdeal.Gen.facts,
  Cert.AdamSmallD.Gen.facts,
  Cert.AdamSmallDIdeal.Gen.facts,
  Cert.AdamSmallDRefIdeal.Gen.facts,
  Cert.AdamSmallE.Gen.facts,
  Cert.AdamSmallEIdeal.Gen.facts,
  Cert.AdamSmallERefIdeal.Gen.facts,
  Cert.MixerFwd.Gen.facts,
  Cert.MixerFwdIdeal.Gen.facts,
  Cert.MixerFwdRefIdeal.Gen.facts,
  Cert.Pre_finite_swiglu.Gen.facts,
  Cert.Pre_finite_gate_up_dx.Gen.facts,
  Cert.Pre_finite_in_proj_dx.Gen.facts,
  Cert.Pre_finite_in_proj_dx_first.Gen.facts,
  Cert.Pre_finite_in_proj_dx_rest.Gen.facts,
  Cert.Pre_finite_loss.Gen.facts,
  frame_SwigluBwd,
  frame_SwigluBwdIdeal,
  (fun m ρ _ => frame_SwigluBwdIdeal m ρ trivial),
  SwigluBwd.frame_ref,
  (fun m ρ _ => SwigluBwd.frame_ref m ρ trivial),
  frame_GateUpDx,
  frame_GateUpDxIdeal,
  (fun m ρ _ => frame_GateUpDxIdeal m ρ trivial),
  GateUpDx.frame_ref,
  (fun m ρ _ => GateUpDx.frame_ref m ρ trivial),
  frame_InDx,
  frame_InDxIdeal,
  (fun m ρ _ => frame_InDxIdeal m ρ trivial),
  InDx.frame_ref,
  (fun m ρ _ => InDx.frame_ref m ρ trivial),
  frame_InDxFirst,
  frame_InDxFirstIdeal,
  (fun m ρ _ => frame_InDxFirstIdeal m ρ trivial),
  InDxFirst.frame_ref,
  (fun m ρ _ => InDxFirst.frame_ref m ρ trivial),
  frame_InDxRest,
  frame_InDxRestIdeal,
  (fun m ρ _ => frame_InDxRestIdeal m ρ trivial),
  InDxRest.frame_ref,
  (fun m ρ _ => InDxRest.frame_ref m ρ trivial),
  frame_GateUpDw,
  frame_GateUpDwIdeal,
  GateUpDw.frame_ref,
  frame_DownDw,
  frame_DownDwIdeal,
  DownDw.frame_ref,
  frame_InDw,
  frame_InDwIdeal,
  InDw.frame_ref,
  frame_OutDw,
  frame_OutDwIdeal,
  OutDw.frame_ref,
  frame_OutDx,
  frame_OutDxIdeal,
  OutDx.frame_ref,
  frame_DownFwd,
  frame_DownFwdIdeal,
  DownFwd.frame_ref,
  frame_OutFwd,
  frame_OutFwdIdeal,
  OutFwd.frame_ref,
  frame_InFwd,
  frame_InFwdIdeal,
  InFwd.frame_ref,
  frame_NormFwd,
  frame_NormFwdIdeal,
  NormFwd.frame_ref,
  frame_InFwdFirst,
  frame_InFwdFirstIdeal,
  InFwdFirst.frame_ref,
  frame_LossHead,
  frame_LossHeadIdeal,
  (fun m ρ _ => frame_LossHeadIdeal m ρ trivial),
  LossHead.frame_ref,
  (fun m ρ _ => LossHead.frame_ref m ρ trivial),
  frame_AdamIn,
  frame_AdamInIdeal,
  AdamIn.frame_ref,
  frame_AdamPw,
  frame_AdamPwIdeal,
  AdamPw.frame_ref,
  frame_AdamOut,
  frame_AdamOutIdeal,
  AdamOut.frame_ref,
  frame_AdamGateUp,
  frame_AdamGateUpIdeal,
  AdamGateUp.frame_ref,
  frame_AdamDown,
  frame_AdamDownIdeal,
  AdamDown.frame_ref,
  frame_AdamSmallA,
  frame_AdamSmallAIdeal,
  AdamSmallA.frame_ref,
  frame_AdamSmallB,
  frame_AdamSmallBIdeal,
  AdamSmallB.frame_ref,
  frame_AdamSmallC,
  frame_AdamSmallCIdeal,
  AdamSmallC.frame_ref,
  frame_AdamSmallD,
  frame_AdamSmallDIdeal,
  AdamSmallD.frame_ref,
  frame_AdamSmallE,
  frame_AdamSmallEIdeal,
  AdamSmallE.frame_ref,
  frame_MixerFwd,
  frame_MixerFwdIdeal,
  MixerFwd.frame_ref,
  trivial,
  SwigluBwd.algebraic,
  trivial,
  GateUpDx.algebraic,
  trivial,
  InDx.algebraic,
  trivial,
  InDxFirst.algebraic,
  trivial,
  InDxRest.algebraic,
  trivial,
  GateUpDw.algebraic,
  trivial,
  DownDw.algebraic,
  trivial,
  InDw.algebraic,
  trivial,
  OutDw.algebraic,
  trivial,
  OutDx.algebraic,
  trivial,
  DownFwd.algebraic,
  trivial,
  OutFwd.algebraic,
  trivial,
  InFwd.algebraic,
  trivial,
  NormFwd.algebraic,
  trivial,
  InFwdFirst.algebraic,
  trivial,
  LossHead.algebraic,
  trivial,
  AdamIn.algebraic,
  trivial,
  AdamPw.algebraic,
  trivial,
  AdamOut.algebraic,
  trivial,
  AdamGateUp.algebraic,
  trivial,
  AdamDown.algebraic,
  trivial,
  AdamSmallA.algebraic,
  trivial,
  AdamSmallB.algebraic,
  trivial,
  AdamSmallC.algebraic,
  trivial,
  AdamSmallD.algebraic,
  trivial,
  AdamSmallE.algebraic,
  trivial,
  MixerFwd.algebraic⟩

end Cert.Proof

end
